-- ==== Defs.lean ====
def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_sgu_finite [hPre_sgu_finite : Cert.Pre_sgu_finite.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).2.2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).2.2.2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).2.2.2.2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).2.2.2.2.2 = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_finite [hPre_sgu_finite : Cert.Pre_sgu_finite.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.2.2.2.1 = (fun _ => 1#1)
    ∧ (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))).2.2.2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_finite [hPre_down_finite : Cert.Pre_down_finite.Facts] (m : (ℓ : Loc Cert.DownIdeal.nD Cert.DownIdeal.τ Cert.DownIdeal.sig) → Buf (Elt Ideal) ℓ) : Prop :=
  ∀ c : Dev Cert.DownIdeal.nD,
    (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_finite [hPre_down_finite : Cert.Pre_down_finite.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.2.2 = (fun _ => 1#1)

def Pre_Dhh (m : (ℓ : Loc Cert.Dhh.nD Cert.Dhh.τ Cert.Dhh.sig) → Buf (Elt Bits) ℓ) : Prop :=
  True

def Pre_DhhIdeal (m : (ℓ : Loc Cert.DhhIdeal.nD Cert.DhhIdeal.τ Cert.DhhIdeal.sig) → Buf (Elt Ideal) ℓ) : Prop :=
  True

def Pre_DhhRefIdeal (m : (ℓ : Loc Cert.DhhRefIdeal.nD Cert.DhhRefIdeal.τ Cert.DhhRefIdeal.sig) → Buf (Elt Ideal) ℓ) : Prop :=
  True

def Pre_DwFfn (m : (ℓ : Loc Cert.DwFfn.nD Cert.DwFfn.τ Cert.DwFfn.sig) → Buf (Elt Bits) ℓ) : Prop :=
  True

def Pre_DwFfnIdeal (m : (ℓ : Loc Cert.DwFfnIdeal.nD Cert.DwFfnIdeal.τ Cert.DwFfnIdeal.sig) → Buf (Elt Ideal) ℓ) : Prop :=
  True

def Pre_DwFfnRefIdeal (m : (ℓ : Loc Cert.DwFfnRefIdeal.nD Cert.DwFfnRefIdeal.τ Cert.DwFfnRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchRefIdeal (m : (ℓ : Loc Cert.DwBranchRefIdeal.nD Cert.DwBranchRefIdeal.τ Cert.DwBranchRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_rms_finite [hPre_rms_finite : Cert.Pre_rms_finite.Facts] (m : (ℓ : Loc Cert.RmsIdeal.nD Cert.RmsIdeal.τ Cert.RmsIdeal.sig) → Buf (Elt Ideal) ℓ) : Prop :=
  ∀ c : Dev Cert.RmsIdeal.nD,
    (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3)) (m ((c.tc : Thread Cert.RmsIdeal.nD Cert.RmsIdeal.τ).loc Cert.RmsIdeal.main_arg4))).1 = (fun _ => 1#1)
    ∧ (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3)) (m ((c.tc : Thread Cert.RmsIdeal.nD Cert.RmsIdeal.τ).loc Cert.RmsIdeal.main_arg4))).2.1 = (fun _ => 1#1)
    ∧ (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3)) (m ((c.tc : Thread Cert.RmsIdeal.nD Cert.RmsIdeal.τ).loc Cert.RmsIdeal.main_arg4))).2.2.1 = (fun _ => 1#1)
    ∧ (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3)) (m ((c.tc : Thread Cert.RmsIdeal.nD Cert.RmsIdeal.τ).loc Cert.RmsIdeal.main_arg4))).2.2.2 = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_rms_finite [hPre_rms_finite : Cert.Pre_rms_finite.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3)) (m ((c.tc : Thread Cert.RmsRefIdeal.nD Cert.RmsRefIdeal.τ).loc Cert.RmsRefIdeal.main_arg4))).1 = (fun _ => 1#1)
    ∧ (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3)) (m ((c.tc : Thread Cert.RmsRefIdeal.nD Cert.RmsRefIdeal.τ).loc Cert.RmsRefIdeal.main_arg4))).2.1 = (fun _ => 1#1)
    ∧ (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3)) (m ((c.tc : Thread Cert.RmsRefIdeal.nD Cert.RmsRefIdeal.τ).loc Cert.RmsRefIdeal.main_arg4))).2.2.1 = (fun _ => 1#1)
    ∧ (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3)) (m ((c.tc : Thread Cert.RmsRefIdeal.nD Cert.RmsRefIdeal.τ).loc Cert.RmsRefIdeal.main_arg4))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkIdeal_qk_finite [hPre_qk_finite : Cert.Pre_qk_finite.Facts] (m : (ℓ : Loc Cert.QkIdeal.nD Cert.QkIdeal.τ Cert.QkIdeal.sig) → Buf (Elt Ideal) ℓ) : Prop :=
  ∀ c : Dev Cert.QkIdeal.nD,
    (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6)) (m ((c.tc : Thread Cert.QkIdeal.nD Cert.QkIdeal.τ).loc Cert.QkIdeal.main_arg7)) (m ((c.tc : Thread Cert.QkIdeal.nD Cert.QkIdeal.τ).loc Cert.QkIdeal.main_arg8)) (m ((c.tc : Thread Cert.QkIdeal.nD Cert.QkIdeal.τ).loc Cert.QkIdeal.main_arg9))).1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6)) (m ((c.tc : Thread Cert.QkIdeal.nD Cert.QkIdeal.τ).loc Cert.QkIdeal.main_arg7)) (m ((c.tc : Thread Cert.QkIdeal.nD Cert.QkIdeal.τ).loc Cert.QkIdeal.main_arg8)) (m ((c.tc : Thread Cert.QkIdeal.nD Cert.QkIdeal.τ).loc Cert.QkIdeal.main_arg9))).2.1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6)) (m ((c.tc : Thread Cert.QkIdeal.nD Cert.QkIdeal.τ).loc Cert.QkIdeal.main_arg7)) (m ((c.tc : Thread Cert.QkIdeal.nD Cert.QkIdeal.τ).loc Cert.QkIdeal.main_arg8)) (m ((c.tc : Thread Cert.QkIdeal.nD Cert.QkIdeal.τ).loc Cert.QkIdeal.main_arg9))).2.2.1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6)) (m ((c.tc : Thread Cert.QkIdeal.nD Cert.QkIdeal.τ).loc Cert.QkIdeal.main_arg7)) (m ((c.tc : Thread Cert.QkIdeal.nD Cert.QkIdeal.τ).loc Cert.QkIdeal.main_arg8)) (m ((c.tc : Thread Cert.QkIdeal.nD Cert.QkIdeal.τ).loc Cert.QkIdeal.main_arg9))).2.2.2.1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6)) (m ((c.tc : Thread Cert.QkIdeal.nD Cert.QkIdeal.τ).loc Cert.QkIdeal.main_arg7)) (m ((c.tc : Thread Cert.QkIdeal.nD Cert.QkIdeal.τ).loc Cert.QkIdeal.main_arg8)) (m ((c.tc : Thread Cert.QkIdeal.nD Cert.QkIdeal.τ).loc Cert.QkIdeal.main_arg9))).2.2.2.2.1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6)) (m ((c.tc : Thread Cert.QkIdeal.nD Cert.QkIdeal.τ).loc Cert.QkIdeal.main_arg7)) (m ((c.tc : Thread Cert.QkIdeal.nD Cert.QkIdeal.τ).loc Cert.QkIdeal.main_arg8)) (m ((c.tc : Thread Cert.QkIdeal.nD Cert.QkIdeal.τ).loc Cert.QkIdeal.main_arg9))).2.2.2.2.2.1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6)) (m ((c.tc : Thread Cert.QkIdeal.nD Cert.QkIdeal.τ).loc Cert.QkIdeal.main_arg7)) (m ((c.tc : Thread Cert.QkIdeal.nD Cert.QkIdeal.τ).loc Cert.QkIdeal.main_arg8)) (m ((c.tc : Thread Cert.QkIdeal.nD Cert.QkIdeal.τ).loc Cert.QkIdeal.main_arg9))).2.2.2.2.2.2.1 = (fun _ => 1#1)
    ∧ (Cert.Pre_qk_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6)) (m ((c.tc : Thread Cert.QkIdeal.nD Cert.QkIdeal.τ).loc Cert.QkIdeal.main_arg7)) (m ((c.tc : Thread Cert.QkIdeal.nD Cert.QkIdeal.τ).loc Cert.QkIdeal.main_arg8)) (m ((c.tc : Thread Cert.QkIdeal.nD Cert.QkIdeal.τ).loc Cert.QkIdeal.main_arg9))).2.2.2.2.2.2.2 = (fun _ => 1#1)

def Pre_QkRefIdeal (m : (ℓ : Loc Cert.QkRefIdeal.nD Cert.QkRefIdeal.τ Cert.QkRefIdeal.sig) → Buf (Elt Ideal) ℓ) : Prop :=
  True

def Pre_QkRefIdeal_qk_finite [hPre_qk_finite : Cert.Pre_qk_finite.Facts] (m : (ℓ : Loc Cert.QkRefIdeal.nD Cert.QkRefIdeal.τ Cert.QkRefIdeal.sig) → Buf (Elt Ideal) ℓ) : Prop :=
  ∀ c : Dev Cert.QkRefIdeal.nD,
    (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6)) (m ((c.tc : Thread Cert.QkRefIdeal.nD Cert.QkRefIdeal.τ).loc Cert.QkRefIdeal.main_arg7)) (m ((c.tc : Thread Cert.QkRefIdeal.nD Cert.QkRefIdeal.τ).loc Cert.QkRefIdeal.main_arg8)) (m ((c.tc : Thread Cert.QkRefIdeal.nD Cert.QkRefIdeal.τ).loc Cert.QkRefIdeal.main_arg9))).1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6)) (m ((c.tc : Thread Cert.QkRefIdeal.nD Cert.QkRefIdeal.τ).loc Cert.QkRefIdeal.main_arg7)) (m ((c.tc : Thread Cert.QkRefIdeal.nD Cert.QkRefIdeal.τ).loc Cert.QkRefIdeal.main_arg8)) (m ((c.tc : Thread Cert.QkRefIdeal.nD Cert.QkRefIdeal.τ).loc Cert.QkRefIdeal.main_arg9))).2.1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6)) (m ((c.tc : Thread Cert.QkRefIdeal.nD Cert.QkRefIdeal.τ).loc Cert.QkRefIdeal.main_arg7)) (m ((c.tc : Thread Cert.QkRefIdeal.nD Cert.QkRefIdeal.τ).loc Cert.QkRefIdeal.main_arg8)) (m ((c.tc : Thread Cert.QkRefIdeal.nD Cert.QkRefIdeal.τ).loc Cert.QkRefIdeal.main_arg9))).2.2.1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6)) (m ((c.tc : Thread Cert.QkRefIdeal.nD Cert.QkRefIdeal.τ).loc Cert.QkRefIdeal.main_arg7)) (m ((c.tc : Thread Cert.QkRefIdeal.nD Cert.QkRefIdeal.τ).loc Cert.QkRefIdeal.main_arg8)) (m ((c.tc : Thread Cert.QkRefIdeal.nD Cert.QkRefIdeal.τ).loc Cert.QkRefIdeal.main_arg9))).2.2.2.1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6)) (m ((c.tc : Thread Cert.QkRefIdeal.nD Cert.QkRefIdeal.τ).loc Cert.QkRefIdeal.main_arg7)) (m ((c.tc : Thread Cert.QkRefIdeal.nD Cert.QkRefIdeal.τ).loc Cert.QkRefIdeal.main_arg8)) (m ((c.tc : Thread Cert.QkRefIdeal.nD Cert.QkRefIdeal.τ).loc Cert.QkRefIdeal.main_arg9))).2.2.2.2.1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6)) (m ((c.tc : Thread Cert.QkRefIdeal.nD Cert.QkRefIdeal.τ).loc Cert.QkRefIdeal.main_arg7)) (m ((c.tc : Thread Cert.QkRefIdeal.nD Cert.QkRefIdeal.τ).loc Cert.QkRefIdeal.main_arg8)) (m ((c.tc : Thread Cert.QkRefIdeal.nD Cert.QkRefIdeal.τ).loc Cert.QkRefIdeal.main_arg9))).2.2.2.2.2.1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6)) (m ((c.tc : Thread Cert.QkRefIdeal.nD Cert.QkRefIdeal.τ).loc Cert.QkRefIdeal.main_arg7)) (m ((c.tc : Thread Cert.QkRefIdeal.nD Cert.QkRefIdeal.τ).loc Cert.QkRefIdeal.main_arg8)) (m ((c.tc : Thread Cert.QkRefIdeal.nD Cert.QkRefIdeal.τ).loc Cert.QkRefIdeal.main_arg9))).2.2.2.2.2.2.1 = (fun _ => 1#1)
    ∧ (Cert.Pre_qk_finite.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4)) (m ((c.tc : Thread Cert.QkRefIdeal.nD Cert.QkRefIdeal.τ).loc Cert.QkRefIdeal.main_arg5)) (m ((c.tc : Thread Cert.QkRefIdeal.nD Cert.QkRefIdeal.τ).loc Cert.QkRefIdeal.main_arg6)) (m ((c.tc : Thread Cert.QkRefIdeal.nD Cert.QkRefIdeal.τ).loc Cert.QkRefIdeal.main_arg7)) (m ((c.tc : Thread Cert.QkRefIdeal.nD Cert.QkRefIdeal.τ).loc Cert.QkRefIdeal.main_arg8)) (m ((c.tc : Thread Cert.QkRefIdeal.nD Cert.QkRefIdeal.τ).loc Cert.QkRefIdeal.main_arg9))).2.2.2.2.2.2.2 = (fun _ => 1#1)

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_UpAct (m : (ℓ : Loc Cert.UpAct.nD Cert.UpAct.τ Cert.UpAct.sig) → Buf (Elt Bits) ℓ) : Prop :=
  True

def Pre_UpActIdeal (m : (ℓ : Loc Cert.UpActIdeal.nD Cert.UpActIdeal.τ Cert.UpActIdeal.sig) → Buf (Elt Ideal) ℓ) : Prop :=
  True

def Pre_UpActRefIdeal (m : (ℓ : Loc Cert.UpActRefIdeal.nD Cert.UpActRefIdeal.τ Cert.UpActRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2 = (fun _ => 1#1)

def Pre_QkPrep (m : (ℓ : Loc Cert.QkPrep.nD Cert.QkPrep.τ Cert.QkPrep.sig) → Buf (Elt Bits) ℓ) : Prop :=
  True

def Pre_QkPrepIdeal (m : (ℓ : Loc Cert.QkPrepIdeal.nD Cert.QkPrepIdeal.τ Cert.QkPrepIdeal.sig) → Buf (Elt Ideal) ℓ) : Prop :=
  True

def Pre_QkPrepIdeal_qk_prep_finite [hPre_qk_prep_finite : Cert.Pre_qk_prep_finite.Facts] (m : (ℓ : Loc Cert.QkPrepIdeal.nD Cert.QkPrepIdeal.τ Cert.QkPrepIdeal.sig) → Buf (Elt Ideal) ℓ) : Prop :=
  ∀ c : Dev Cert.QkPrepIdeal.nD,
    (Cert.Pre_qk_prep_finite.fn (F := Ideal) (m ((c.tc : Thread Cert.QkPrepIdeal.nD Cert.QkPrepIdeal.τ).loc Cert.QkPrepIdeal.main_arg0)) (m ((c.tc : Thread Cert.QkPrepIdeal.nD Cert.QkPrepIdeal.τ).loc Cert.QkPrepIdeal.main_arg1)) (m ((c.tc : Thread Cert.QkPrepIdeal.nD Cert.QkPrepIdeal.τ).loc Cert.QkPrepIdeal.main_arg2)) (m ((c.tc : Thread Cert.QkPrepIdeal.nD Cert.QkPrepIdeal.τ).loc Cert.QkPrepIdeal.main_arg3)) (m ((c.tc : Thread Cert.QkPrepIdeal.nD Cert.QkPrepIdeal.τ).loc Cert.QkPrepIdeal.main_arg4))) = (fun _ => 1#1)

def Pre_QkPrepRefIdeal (m : (ℓ : Loc Cert.QkPrepRefIdeal.nD Cert.QkPrepRefIdeal.τ Cert.QkPrepRefIdeal.sig) → Buf (Elt Ideal) ℓ) : Prop :=
  True

def Pre_QkPrepRefIdeal_qk_prep_finite [hPre_qk_prep_finite : Cert.Pre_qk_prep_finite.Facts] (m : (ℓ : Loc Cert.QkPrepRefIdeal.nD Cert.QkPrepRefIdeal.τ Cert.QkPrepRefIdeal.sig) → Buf (Elt Ideal) ℓ) : Prop :=
  ∀ c : Dev Cert.QkPrepRefIdeal.nD,
    (Cert.Pre_qk_prep_finite.fn (F := Ideal) (m ((c.tc : Thread Cert.QkPrepRefIdeal.nD Cert.QkPrepRefIdeal.τ).loc Cert.QkPrepRefIdeal.main_arg0)) (m ((c.tc : Thread Cert.QkPrepRefIdeal.nD Cert.QkPrepRefIdeal.τ).loc Cert.QkPrepRefIdeal.main_arg1)) (m ((c.tc : Thread Cert.QkPrepRefIdeal.nD Cert.QkPrepRefIdeal.τ).loc Cert.QkPrepRefIdeal.main_arg2)) (m ((c.tc : Thread Cert.QkPrepRefIdeal.nD Cert.QkPrepRefIdeal.τ).loc Cert.QkPrepRefIdeal.main_arg3)) (m ((c.tc : Thread Cert.QkPrepRefIdeal.nD Cert.QkPrepRefIdeal.τ).loc Cert.QkPrepRefIdeal.main_arg4))) = (fun _ => 1#1)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5)
      ∧ r.2.mem ((c.tc : Thread Cert.SguBwd.nD Cert.SguBwd.τ).loc Cert.SguBwd.main_arg6) = m ((c.tc : Thread Cert.SguBwd.nD Cert.SguBwd.τ).loc Cert.SguBwd.main_arg6))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ r.2.sem = fun _ => 0)

def quiescent_SguBwdIdeal_pre_sgu_finite [hSguBwdIdeal : Cert.SguBwdIdeal.Facts] [hPre_sgu_finite : Cert.Pre_sgu_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_sgu_finite m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_SguRefIdeal_pre_sgu_finite [hSguRefIdeal : Cert.SguRefIdeal.Facts] [hPre_sgu_finite : Cert.Pre_sgu_finite.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_finite m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_down_finite [hDownIdeal : Cert.DownIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_down_finite [hDownRefIdeal : Cert.DownRefIdeal.Facts] [hPre_down_finite : Cert.Pre_down_finite.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_finite m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Dhh [hDhh : Cert.Dhh.Facts] : Prop :=
  ∀ (m : (ℓ : Loc Cert.Dhh.nD Cert.Dhh.τ Cert.Dhh.sig) → Buf (Elt Bits) ℓ) (g : Dev Cert.Dhh.nD → PrngReg), Pre_Dhh m →
    θ_run (Cert.Dhh.defs (F := Bits)) (onTc (τ := Cert.Dhh.τ) (Cert.Dhh.main (F := Bits))) ⟨m, fun _ => 0, g⟩ (fun r => (∀ c : Dev Cert.Dhh.nD,
      r.2.mem ((c.tc : Thread Cert.Dhh.nD Cert.Dhh.τ).loc Cert.Dhh.main_arg0) = m ((c.tc : Thread Cert.Dhh.nD Cert.Dhh.τ).loc Cert.Dhh.main_arg0)
      ∧ r.2.mem ((c.tc : Thread Cert.Dhh.nD Cert.Dhh.τ).loc Cert.Dhh.main_arg1) = m ((c.tc : Thread Cert.Dhh.nD Cert.Dhh.τ).loc Cert.Dhh.main_arg1)
      ∧ r.2.mem ((c.tc : Thread Cert.Dhh.nD Cert.Dhh.τ).loc Cert.Dhh.main_arg2) = m ((c.tc : Thread Cert.Dhh.nD Cert.Dhh.τ).loc Cert.Dhh.main_arg2)
      ∧ r.2.mem ((c.tc : Thread Cert.Dhh.nD Cert.Dhh.τ).loc Cert.Dhh.main_arg3) = m ((c.tc : Thread Cert.Dhh.nD Cert.Dhh.τ).loc Cert.Dhh.main_arg3)
      ∧ r.2.mem ((c.tc : Thread Cert.Dhh.nD Cert.Dhh.τ).loc Cert.Dhh.main_arg4) = m ((c.tc : Thread Cert.Dhh.nD Cert.Dhh.τ).loc Cert.Dhh.main_arg4)
      ∧ r.2.mem ((c.tc : Thread Cert.Dhh.nD Cert.Dhh.τ).loc Cert.Dhh.main_arg5) = m ((c.tc : Thread Cert.Dhh.nD Cert.Dhh.τ).loc Cert.Dhh.main_arg5))
      ∧ r.2.sem = fun _ => 0)

def quiescent_DhhIdeal [hDhhIdeal : Cert.DhhIdeal.Facts] : Prop :=
  ∀ (m : (ℓ : Loc Cert.DhhIdeal.nD Cert.DhhIdeal.τ Cert.DhhIdeal.sig) → Buf (Elt Ideal) ℓ) (g : Dev Cert.DhhIdeal.nD → PrngReg), Pre_DhhIdeal m →
    θ_run (Cert.DhhIdeal.defs (F := Ideal)) (onTc (τ := Cert.DhhIdeal.τ) (Cert.DhhIdeal.main (F := Ideal))) ⟨m, fun _ => 0, g⟩ (fun r => (∀ c : Dev Cert.DhhIdeal.nD,
      r.2.mem ((c.tc : Thread Cert.DhhIdeal.nD Cert.DhhIdeal.τ).loc Cert.DhhIdeal.main_arg0) = m ((c.tc : Thread Cert.DhhIdeal.nD Cert.DhhIdeal.τ).loc Cert.DhhIdeal.main_arg0)
      ∧ r.2.mem ((c.tc : Thread Cert.DhhIdeal.nD Cert.DhhIdeal.τ).loc Cert.DhhIdeal.main_arg1) = m ((c.tc : Thread Cert.DhhIdeal.nD Cert.DhhIdeal.τ).loc Cert.DhhIdeal.main_arg1)
      ∧ r.2.mem ((c.tc : Thread Cert.DhhIdeal.nD Cert.DhhIdeal.τ).loc Cert.DhhIdeal.main_arg2) = m ((c.tc : Thread Cert.DhhIdeal.nD Cert.DhhIdeal.τ).loc Cert.DhhIdeal.main_arg2)
      ∧ r.2.mem ((c.tc : Thread Cert.DhhIdeal.nD Cert.DhhIdeal.τ).loc Cert.DhhIdeal.main_arg3) = m ((c.tc : Thread Cert.DhhIdeal.nD Cert.DhhIdeal.τ).loc Cert.DhhIdeal.main_arg3)
      ∧ r.2.mem ((c.tc : Thread Cert.DhhIdeal.nD Cert.DhhIdeal.τ).loc Cert.DhhIdeal.main_arg4) = m ((c.tc : Thread Cert.DhhIdeal.nD Cert.DhhIdeal.τ).loc Cert.DhhIdeal.main_arg4)
      ∧ r.2.mem ((c.tc : Thread Cert.DhhIdeal.nD Cert.DhhIdeal.τ).loc Cert.DhhIdeal.main_arg5) = m ((c.tc : Thread Cert.DhhIdeal.nD Cert.DhhIdeal.τ).loc Cert.DhhIdeal.main_arg5))
      ∧ r.2.sem = fun _ => 0)

def quiescent_DhhRefIdeal [hDhhRefIdeal : Cert.DhhRefIdeal.Facts] : Prop :=
  ∀ (m : (ℓ : Loc Cert.DhhRefIdeal.nD Cert.DhhRefIdeal.τ Cert.DhhRefIdeal.sig) → Buf (Elt Ideal) ℓ) (g : Dev Cert.DhhRefIdeal.nD → PrngReg), Pre_DhhRefIdeal m →
    θ_run (Cert.DhhRefIdeal.defs (F := Ideal)) (onTc (τ := Cert.DhhRefIdeal.τ) (Cert.DhhRefIdeal.main (F := Ideal))) ⟨m, fun _ => 0, g⟩ (fun r => (∀ c : Dev Cert.DhhRefIdeal.nD,
      r.2.mem ((c.tc : Thread Cert.DhhRefIdeal.nD Cert.DhhRefIdeal.τ).loc Cert.DhhRefIdeal.main_arg0) = m ((c.tc : Thread Cert.DhhRefIdeal.nD Cert.DhhRefIdeal.τ).loc Cert.DhhRefIdeal.main_arg0)
      ∧ r.2.mem ((c.tc : Thread Cert.DhhRefIdeal.nD Cert.DhhRefIdeal.τ).loc Cert.DhhRefIdeal.main_arg1) = m ((c.tc : Thread Cert.DhhRefIdeal.nD Cert.DhhRefIdeal.τ).loc Cert.DhhRefIdeal.main_arg1)
      ∧ r.2.mem ((c.tc : Thread Cert.DhhRefIdeal.nD Cert.DhhRefIdeal.τ).loc Cert.DhhRefIdeal.main_arg2) = m ((c.tc : Thread Cert.DhhRefIdeal.nD Cert.DhhRefIdeal.τ).loc Cert.DhhRefIdeal.main_arg2)
      ∧ r.2.mem ((c.tc : Thread Cert.DhhRefIdeal.nD Cert.DhhRefIdeal.τ).loc Cert.DhhRefIdeal.main_arg3) = m ((c.tc : Thread Cert.DhhRefIdeal.nD Cert.DhhRefIdeal.τ).loc Cert.DhhRefIdeal.main_arg3)
      ∧ r.2.mem ((c.tc : Thread Cert.DhhRefIdeal.nD Cert.DhhRefIdeal.τ).loc Cert.DhhRefIdeal.main_arg4) = m ((c.tc : Thread Cert.DhhRefIdeal.nD Cert.DhhRefIdeal.τ).loc Cert.DhhRefIdeal.main_arg4)
      ∧ r.2.mem ((c.tc : Thread Cert.DhhRefIdeal.nD Cert.DhhRefIdeal.τ).loc Cert.DhhRefIdeal.main_arg5) = m ((c.tc : Thread Cert.DhhRefIdeal.nD Cert.DhhRefIdeal.τ).loc Cert.DhhRefIdeal.main_arg5))
      ∧ r.2.sem = fun _ => 0)

def quiescent_DwFfn [hDwFfn : Cert.DwFfn.Facts] : Prop :=
  ∀ (m : (ℓ : Loc Cert.DwFfn.nD Cert.DwFfn.τ Cert.DwFfn.sig) → Buf (Elt Bits) ℓ) (g : Dev Cert.DwFfn.nD → PrngReg), Pre_DwFfn m →
    θ_run (Cert.DwFfn.defs (F := Bits)) (onTc (τ := Cert.DwFfn.τ) (Cert.DwFfn.main (F := Bits))) ⟨m, fun _ => 0, g⟩ (fun r => (∀ c : Dev Cert.DwFfn.nD,
      r.2.mem ((c.tc : Thread Cert.DwFfn.nD Cert.DwFfn.τ).loc Cert.DwFfn.main_arg0) = m ((c.tc : Thread Cert.DwFfn.nD Cert.DwFfn.τ).loc Cert.DwFfn.main_arg0)
      ∧ r.2.mem ((c.tc : Thread Cert.DwFfn.nD Cert.DwFfn.τ).loc Cert.DwFfn.main_arg1) = m ((c.tc : Thread Cert.DwFfn.nD Cert.DwFfn.τ).loc Cert.DwFfn.main_arg1)
      ∧ r.2.mem ((c.tc : Thread Cert.DwFfn.nD Cert.DwFfn.τ).loc Cert.DwFfn.main_arg2) = m ((c.tc : Thread Cert.DwFfn.nD Cert.DwFfn.τ).loc Cert.DwFfn.main_arg2))
      ∧ r.2.sem = fun _ => 0)

def quiescent_DwFfnIdeal [hDwFfnIdeal : Cert.DwFfnIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg), Pre_DwFfnIdeal m →
    θ_run (Cert.DwFfnIdeal.defs (F := Ideal)) (onTc (τ := Cert.DwFfnIdeal.τ) (Cert.DwFfnIdeal.main (F := Ideal))) ⟨m, fun _ => 0, g⟩ (fun r => (∀ c : Dev Cert.DwFfnIdeal.nD,
      r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
      ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1)
      ∧ r.2.mem ((c.tc : Thread Cert.DwFfnIdeal.nD Cert.DwFfnIdeal.τ).loc Cert.DwFfnIdeal.main_arg2) = m ((c.tc : Thread Cert.DwFfnIdeal.nD Cert.DwFfnIdeal.τ).loc Cert.DwFfnIdeal.main_arg2))
      ∧ r.2.sem = fun _ => 0)

def quiescent_DwFfnRefIdeal [hDwFfnRefIdeal : Cert.DwFfnRefIdeal.Facts] : Prop :=
  ∀ (m : (ℓ : Loc Cert.DwFfnRefIdeal.nD Cert.DwFfnRefIdeal.τ Cert.DwFfnRefIdeal.sig) → Buf (Elt Ideal) ℓ) (g : Dev Cert.DwFfnRefIdeal.nD → PrngReg), Pre_DwFfnRefIdeal m →
    θ_run (Cert.DwFfnRefIdeal.defs (F := Ideal)) (onTc (τ := Cert.DwFfnRefIdeal.τ) (Cert.DwFfnRefIdeal.main (F := Ideal))) ⟨m, fun _ => 0, g⟩ (fun r => (∀ c : Dev Cert.DwFfnRefIdeal.nD,
      r.2.mem ((c.tc : Thread Cert.DwFfnRefIdeal.nD Cert.DwFfnRefIdeal.τ).loc Cert.DwFfnRefIdeal.main_arg0) = m ((c.tc : Thread Cert.DwFfnRefIdeal.nD Cert.DwFfnRefIdeal.τ).loc Cert.DwFfnRefIdeal.main_arg0)
      ∧ r.2.mem ((c.tc : Thread Cert.DwFfnRefIdeal.nD Cert.DwFfnRefIdeal.τ).loc Cert.DwFfnRefIdeal.main_arg1) = m ((c.tc : Thread Cert.DwFfnRefIdeal.nD Cert.DwFfnRefIdeal.τ).loc Cert.DwFfnRefIdeal.main_arg1)
      ∧ r.2.mem ((c.tc : Thread Cert.DwFfnRefIdeal.nD Cert.DwFfnRefIdeal.τ).loc Cert.DwFfnRefIdeal.main_arg2) = m ((c.tc : Thread Cert.DwFfnRefIdeal.nD Cert.DwFfnRefIdeal.τ).loc Cert.DwFfnRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1)
      ∧ r.2.mem ((c.tc : Thread Cert.DwBranch.nD Cert.DwBranch.τ).loc Cert.DwBranch.main_arg2) = m ((c.tc : Thread Cert.DwBranch.nD Cert.DwBranch.τ).loc Cert.DwBranch.main_arg2))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1)
      ∧ r.2.mem ((c.tc : Thread Cert.DwBranchIdeal.nD Cert.DwBranchIdeal.τ).loc Cert.DwBranchIdeal.main_arg2) = m ((c.tc : Thread Cert.DwBranchIdeal.nD Cert.DwBranchIdeal.τ).loc Cert.DwBranchIdeal.main_arg2))
      ∧ r.2.sem = fun _ => 0)

def quiescent_DwBranchRefIdeal [hDwBranchRefIdeal : Cert.DwBranchRefIdeal.Facts] : Prop :=
  ∀ (m : (ℓ : Loc Cert.DwBranchRefIdeal.nD Cert.DwBranchRefIdeal.τ Cert.DwBranchRefIdeal.sig) → Buf (Elt Ideal) ℓ) (g : Dev Cert.DwBranchRefIdeal.nD → PrngReg), Pre_DwBranchRefIdeal m →
    θ_run (Cert.DwBranchRefIdeal.defs (F := Ideal)) (onTc (τ := Cert.DwBranchRefIdeal.τ) (Cert.DwBranchRefIdeal.main (F := Ideal))) ⟨m, fun _ => 0, g⟩ (fun r => (∀ c : Dev Cert.DwBranchRefIdeal.nD,
      r.2.mem ((c.tc : Thread Cert.DwBranchRefIdeal.nD Cert.DwBranchRefIdeal.τ).loc Cert.DwBranchRefIdeal.main_arg0) = m ((c.tc : Thread Cert.DwBranchRefIdeal.nD Cert.DwBranchRefIdeal.τ).loc Cert.DwBranchRefIdeal.main_arg0)
      ∧ r.2.mem ((c.tc : Thread Cert.DwBranchRefIdeal.nD Cert.DwBranchRefIdeal.τ).loc Cert.DwBranchRefIdeal.main_arg1) = m ((c.tc : Thread Cert.DwBranchRefIdeal.nD Cert.DwBranchRefIdeal.τ).loc Cert.DwBranchRefIdeal.main_arg1)
      ∧ r.2.mem ((c.tc : Thread Cert.DwBranchRefIdeal.nD Cert.DwBranchRefIdeal.τ).loc Cert.DwBranchRefIdeal.main_arg2) = m ((c.tc : Thread Cert.DwBranchRefIdeal.nD Cert.DwBranchRefIdeal.τ).loc Cert.DwBranchRefIdeal.main_arg2))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3)
      ∧ r.2.mem ((c.tc : Thread Cert.Rms.nD Cert.Rms.τ).loc Cert.Rms.main_arg4) = m ((c.tc : Thread Cert.Rms.nD Cert.Rms.τ).loc Cert.Rms.main_arg4))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3)
      ∧ r.2.mem ((c.tc : Thread Cert.RmsIdeal.nD Cert.RmsIdeal.τ).loc Cert.RmsIdeal.main_arg4) = m ((c.tc : Thread Cert.RmsIdeal.nD Cert.RmsIdeal.τ).loc Cert.RmsIdeal.main_arg4))
      ∧ r.2.sem = fun _ => 0)

def quiescent_RmsIdeal_pre_rms_finite [hRmsIdeal : Cert.RmsIdeal.Facts] [hPre_rms_finite : Cert.Pre_rms_finite.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_rms_finite m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3)
      ∧ r.2.mem ((c.tc : Thread Cert.RmsIdeal.nD Cert.RmsIdeal.τ).loc Cert.RmsIdeal.main_arg4) = m ((c.tc : Thread Cert.RmsIdeal.nD Cert.RmsIdeal.τ).loc Cert.RmsIdeal.main_arg4))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3)
      ∧ r.2.mem ((c.tc : Thread Cert.RmsRefIdeal.nD Cert.RmsRefIdeal.τ).loc Cert.RmsRefIdeal.main_arg4) = m ((c.tc : Thread Cert.RmsRefIdeal.nD Cert.RmsRefIdeal.τ).loc Cert.RmsRefIdeal.main_arg4))
      ∧ r.2.sem = fun _ => 0)

def quiescent_RmsRefIdeal_pre_rms_finite [hRmsRefIdeal : Cert.RmsRefIdeal.Facts] [hPre_rms_finite : Cert.Pre_rms_finite.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_rms_finite m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3)
      ∧ r.2.mem ((c.tc : Thread Cert.RmsRefIdeal.nD Cert.RmsRefIdeal.τ).loc Cert.RmsRefIdeal.main_arg4) = m ((c.tc : Thread Cert.RmsRefIdeal.nD Cert.RmsRefIdeal.τ).loc Cert.RmsRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4)
      ∧ r.2.mem ((c.tc : Thread Cert.Qk.nD Cert.Qk.τ).loc Cert.Qk.main_arg5) = m ((c.tc : Thread Cert.Qk.nD Cert.Qk.τ).loc Cert.Qk.main_arg5)
      ∧ r.2.mem ((c.tc : Thread Cert.Qk.nD Cert.Qk.τ).loc Cert.Qk.main_arg6) = m ((c.tc : Thread Cert.Qk.nD Cert.Qk.τ).loc Cert.Qk.main_arg6)
      ∧ r.2.mem ((c.tc : Thread Cert.Qk.nD Cert.Qk.τ).loc Cert.Qk.main_arg7) = m ((c.tc : Thread Cert.Qk.nD Cert.Qk.τ).loc Cert.Qk.main_arg7)
      ∧ r.2.mem ((c.tc : Thread Cert.Qk.nD Cert.Qk.τ).loc Cert.Qk.main_arg8) = m ((c.tc : Thread Cert.Qk.nD Cert.Qk.τ).loc Cert.Qk.main_arg8)
      ∧ r.2.mem ((c.tc : Thread Cert.Qk.nD Cert.Qk.τ).loc Cert.Qk.main_arg9) = m ((c.tc : Thread Cert.Qk.nD Cert.Qk.τ).loc Cert.Qk.main_arg9))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
      ∧ r.2.mem ((c.tc : Thread Cert.QkIdeal.nD Cert.QkIdeal.τ).loc Cert.QkIdeal.main_arg6) = m ((c.tc : Thread Cert.QkIdeal.nD Cert.QkIdeal.τ).loc Cert.QkIdeal.main_arg6)
      ∧ r.2.mem ((c.tc : Thread Cert.QkIdeal.nD Cert.QkIdeal.τ).loc Cert.QkIdeal.main_arg7) = m ((c.tc : Thread Cert.QkIdeal.nD Cert.QkIdeal.τ).loc Cert.QkIdeal.main_arg7)
      ∧ r.2.mem ((c.tc : Thread Cert.QkIdeal.nD Cert.QkIdeal.τ).loc Cert.QkIdeal.main_arg8) = m ((c.tc : Thread Cert.QkIdeal.nD Cert.QkIdeal.τ).loc Cert.QkIdeal.main_arg8)
      ∧ r.2.mem ((c.tc : Thread Cert.QkIdeal.nD Cert.QkIdeal.τ).loc Cert.QkIdeal.main_arg9) = m ((c.tc : Thread Cert.QkIdeal.nD Cert.QkIdeal.τ).loc Cert.QkIdeal.main_arg9))
      ∧ r.2.sem = fun _ => 0)

def quiescent_QkIdeal_pre_qk_finite [hQkIdeal : Cert.QkIdeal.Facts] [hPre_qk_finite : Cert.Pre_qk_finite.Facts] : Prop :=
  ∀ (m : (ℓ : Loc Cert.QkIdeal.nD Cert.QkIdeal.τ Cert.QkIdeal.sig) → Buf (Elt Ideal) ℓ) (g : Dev Cert.QkIdeal.nD → PrngReg), Pre_QkIdeal_qk_finite m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
      ∧ r.2.mem ((c.tc : Thread Cert.QkIdeal.nD Cert.QkIdeal.τ).loc Cert.QkIdeal.main_arg6) = m ((c.tc : Thread Cert.QkIdeal.nD Cert.QkIdeal.τ).loc Cert.QkIdeal.main_arg6)
      ∧ r.2.mem ((c.tc : Thread Cert.QkIdeal.nD Cert.QkIdeal.τ).loc Cert.QkIdeal.main_arg7) = m ((c.tc : Thread Cert.QkIdeal.nD Cert.QkIdeal.τ).loc Cert.QkIdeal.main_arg7)
      ∧ r.2.mem ((c.tc : Thread Cert.QkIdeal.nD Cert.QkIdeal.τ).loc Cert.QkIdeal.main_arg8) = m ((c.tc : Thread Cert.QkIdeal.nD Cert.QkIdeal.τ).loc Cert.QkIdeal.main_arg8)
      ∧ r.2.mem ((c.tc : Thread Cert.QkIdeal.nD Cert.QkIdeal.τ).loc Cert.QkIdeal.main_arg9) = m ((c.tc : Thread Cert.QkIdeal.nD Cert.QkIdeal.τ).loc Cert.QkIdeal.main_arg9))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4)
      ∧ r.2.mem ((c.tc : Thread Cert.QkRefIdeal.nD Cert.QkRefIdeal.τ).loc Cert.QkRefIdeal.main_arg5) = m ((c.tc : Thread Cert.QkRefIdeal.nD Cert.QkRefIdeal.τ).loc Cert.QkRefIdeal.main_arg5)
      ∧ r.2.mem ((c.tc : Thread Cert.QkRefIdeal.nD Cert.QkRefIdeal.τ).loc Cert.QkRefIdeal.main_arg6) = m ((c.tc : Thread Cert.QkRefIdeal.nD Cert.QkRefIdeal.τ).loc Cert.QkRefIdeal.main_arg6)
      ∧ r.2.mem ((c.tc : Thread Cert.QkRefIdeal.nD Cert.QkRefIdeal.τ).loc Cert.QkRefIdeal.main_arg7) = m ((c.tc : Thread Cert.QkRefIdeal.nD Cert.QkRefIdeal.τ).loc Cert.QkRefIdeal.main_arg7)
      ∧ r.2.mem ((c.tc : Thread Cert.QkRefIdeal.nD Cert.QkRefIdeal.τ).loc Cert.QkRefIdeal.main_arg8) = m ((c.tc : Thread Cert.QkRefIdeal.nD Cert.QkRefIdeal.τ).loc Cert.QkRefIdeal.main_arg8)
      ∧ r.2.mem ((c.tc : Thread Cert.QkRefIdeal.nD Cert.QkRefIdeal.τ).loc Cert.QkRefIdeal.main_arg9) = m ((c.tc : Thread Cert.QkRefIdeal.nD Cert.QkRefIdeal.τ).loc Cert.QkRefIdeal.main_arg9))
      ∧ r.2.sem = fun _ => 0)

def quiescent_QkRefIdeal_pre_qk_finite [hQkRefIdeal : Cert.QkRefIdeal.Facts] [hPre_qk_finite : Cert.Pre_qk_finite.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal_qk_finite m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4)
      ∧ r.2.mem ((c.tc : Thread Cert.QkRefIdeal.nD Cert.QkRefIdeal.τ).loc Cert.QkRefIdeal.main_arg5) = m ((c.tc : Thread Cert.QkRefIdeal.nD Cert.QkRefIdeal.τ).loc Cert.QkRefIdeal.main_arg5)
      ∧ r.2.mem ((c.tc : Thread Cert.QkRefIdeal.nD Cert.QkRefIdeal.τ).loc Cert.QkRefIdeal.main_arg6) = m ((c.tc : Thread Cert.QkRefIdeal.nD Cert.QkRefIdeal.τ).loc Cert.QkRefIdeal.main_arg6)
      ∧ r.2.mem ((c.tc : Thread Cert.QkRefIdeal.nD Cert.QkRefIdeal.τ).loc Cert.QkRefIdeal.main_arg7) = m ((c.tc : Thread Cert.QkRefIdeal.nD Cert.QkRefIdeal.τ).loc Cert.QkRefIdeal.main_arg7)
      ∧ r.2.mem ((c.tc : Thread Cert.QkRefIdeal.nD Cert.QkRefIdeal.τ).loc Cert.QkRefIdeal.main_arg8) = m ((c.tc : Thread Cert.QkRefIdeal.nD Cert.QkRefIdeal.τ).loc Cert.QkRefIdeal.main_arg8)
      ∧ r.2.mem ((c.tc : Thread Cert.QkRefIdeal.nD Cert.QkRefIdeal.τ).loc Cert.QkRefIdeal.main_arg9) = m ((c.tc : Thread Cert.QkRefIdeal.nD Cert.QkRefIdeal.τ).loc Cert.QkRefIdeal.main_arg9))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_UpAct [hUpAct : Cert.UpAct.Facts] : Prop :=
  ∀ (m : (ℓ : Loc Cert.UpAct.nD Cert.UpAct.τ Cert.UpAct.sig) → Buf (Elt Bits) ℓ) (g : Dev Cert.UpAct.nD → PrngReg), Pre_UpAct m →
    θ_run (Cert.UpAct.defs (F := Bits)) (onTc (τ := Cert.UpAct.τ) (Cert.UpAct.main (F := Bits))) ⟨m, fun _ => 0, g⟩ (fun r => (∀ c : Dev Cert.UpAct.nD,
      r.2.mem ((c.tc : Thread Cert.UpAct.nD Cert.UpAct.τ).loc Cert.UpAct.main_arg0) = m ((c.tc : Thread Cert.UpAct.nD Cert.UpAct.τ).loc Cert.UpAct.main_arg0)
      ∧ r.2.mem ((c.tc : Thread Cert.UpAct.nD Cert.UpAct.τ).loc Cert.UpAct.main_arg1) = m ((c.tc : Thread Cert.UpAct.nD Cert.UpAct.τ).loc Cert.UpAct.main_arg1)
      ∧ r.2.mem ((c.tc : Thread Cert.UpAct.nD Cert.UpAct.τ).loc Cert.UpAct.main_arg2) = m ((c.tc : Thread Cert.UpAct.nD Cert.UpAct.τ).loc Cert.UpAct.main_arg2))
      ∧ r.2.sem = fun _ => 0)

def quiescent_UpActIdeal [hUpActIdeal : Cert.UpActIdeal.Facts] : Prop :=
  ∀ (m : (ℓ : Loc Cert.UpActIdeal.nD Cert.UpActIdeal.τ Cert.UpActIdeal.sig) → Buf (Elt Ideal) ℓ) (g : Dev Cert.UpActIdeal.nD → PrngReg), Pre_UpActIdeal m →
    θ_run (Cert.UpActIdeal.defs (F := Ideal)) (onTc (τ := Cert.UpActIdeal.τ) (Cert.UpActIdeal.main (F := Ideal))) ⟨m, fun _ => 0, g⟩ (fun r => (∀ c : Dev Cert.UpActIdeal.nD,
      r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
      ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
      ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ r.2.sem = fun _ => 0)

def quiescent_UpActRefIdeal [hUpActRefIdeal : Cert.UpActRefIdeal.Facts] : Prop :=
  ∀ (m : (ℓ : Loc Cert.UpActRefIdeal.nD Cert.UpActRefIdeal.τ Cert.UpActRefIdeal.sig) → Buf (Elt Ideal) ℓ) (g : Dev Cert.UpActRefIdeal.nD → PrngReg), Pre_UpActRefIdeal m →
    θ_run (Cert.UpActRefIdeal.defs (F := Ideal)) (onTc (τ := Cert.UpActRefIdeal.τ) (Cert.UpActRefIdeal.main (F := Ideal))) ⟨m, fun _ => 0, g⟩ (fun r => (∀ c : Dev Cert.UpActRefIdeal.nD,
      r.2.mem ((c.tc : Thread Cert.UpActRefIdeal.nD Cert.UpActRefIdeal.τ).loc Cert.UpActRefIdeal.main_arg0) = m ((c.tc : Thread Cert.UpActRefIdeal.nD Cert.UpActRefIdeal.τ).loc Cert.UpActRefIdeal.main_arg0)
      ∧ r.2.mem ((c.tc : Thread Cert.UpActRefIdeal.nD Cert.UpActRefIdeal.τ).loc Cert.UpActRefIdeal.main_arg1) = m ((c.tc : Thread Cert.UpActRefIdeal.nD Cert.UpActRefIdeal.τ).loc Cert.UpActRefIdeal.main_arg1)
      ∧ r.2.mem ((c.tc : Thread Cert.UpActRefIdeal.nD Cert.UpActRefIdeal.τ).loc Cert.UpActRefIdeal.main_arg2) = m ((c.tc : Thread Cert.UpActRefIdeal.nD Cert.UpActRefIdeal.τ).loc Cert.UpActRefIdeal.main_arg2))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_QkPrep [hQkPrep : Cert.QkPrep.Facts] : Prop :=
  ∀ (m : (ℓ : Loc Cert.QkPrep.nD Cert.QkPrep.τ Cert.QkPrep.sig) → Buf (Elt Bits) ℓ) (g : Dev Cert.QkPrep.nD → PrngReg), Pre_QkPrep m →
    θ_run (Cert.QkPrep.defs (F := Bits)) (onTc (τ := Cert.QkPrep.τ) (Cert.QkPrep.main (F := Bits))) ⟨m, fun _ => 0, g⟩ (fun r => (∀ c : Dev Cert.QkPrep.nD,
      r.2.mem ((c.tc : Thread Cert.QkPrep.nD Cert.QkPrep.τ).loc Cert.QkPrep.main_arg0) = m ((c.tc : Thread Cert.QkPrep.nD Cert.QkPrep.τ).loc Cert.QkPrep.main_arg0)
      ∧ r.2.mem ((c.tc : Thread Cert.QkPrep.nD Cert.QkPrep.τ).loc Cert.QkPrep.main_arg1) = m ((c.tc : Thread Cert.QkPrep.nD Cert.QkPrep.τ).loc Cert.QkPrep.main_arg1)
      ∧ r.2.mem ((c.tc : Thread Cert.QkPrep.nD Cert.QkPrep.τ).loc Cert.QkPrep.main_arg2) = m ((c.tc : Thread Cert.QkPrep.nD Cert.QkPrep.τ).loc Cert.QkPrep.main_arg2)
      ∧ r.2.mem ((c.tc : Thread Cert.QkPrep.nD Cert.QkPrep.τ).loc Cert.QkPrep.main_arg3) = m ((c.tc : Thread Cert.QkPrep.nD Cert.QkPrep.τ).loc Cert.QkPrep.main_arg3)
      ∧ r.2.mem ((c.tc : Thread Cert.QkPrep.nD Cert.QkPrep.τ).loc Cert.QkPrep.main_arg4) = m ((c.tc : Thread Cert.QkPrep.nD Cert.QkPrep.τ).loc Cert.QkPrep.main_arg4))
      ∧ r.2.sem = fun _ => 0)

def quiescent_QkPrepIdeal [hQkPrepIdeal : Cert.QkPrepIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
      ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
      ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4))
      ∧ r.2.sem = fun _ => 0)

def quiescent_QkPrepIdeal_pre_qk_prep_finite [hQkPrepIdeal : Cert.QkPrepIdeal.Facts] [hPre_qk_prep_finite : Cert.Pre_qk_prep_finite.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal_qk_prep_finite m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
      ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
      ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4))
      ∧ r.2.sem = fun _ => 0)

def quiescent_QkPrepRefIdeal [hQkPrepRefIdeal : Cert.QkPrepRefIdeal.Facts] : Prop :=
  ∀ (m : (ℓ : Loc Cert.QkPrepRefIdeal.nD Cert.QkPrepRefIdeal.τ Cert.QkPrepRefIdeal.sig) → Buf (Elt Ideal) ℓ) (g : Dev Cert.QkPrepRefIdeal.nD → PrngReg), Pre_QkPrepRefIdeal m →
    θ_run (Cert.QkPrepRefIdeal.defs (F := Ideal)) (onTc (τ := Cert.QkPrepRefIdeal.τ) (Cert.QkPrepRefIdeal.main (F := Ideal))) ⟨m, fun _ => 0, g⟩ (fun r => (∀ c : Dev Cert.QkPrepRefIdeal.nD,
      r.2.mem ((c.tc : Thread Cert.QkPrepRefIdeal.nD Cert.QkPrepRefIdeal.τ).loc Cert.QkPrepRefIdeal.main_arg0) = m ((c.tc : Thread Cert.QkPrepRefIdeal.nD Cert.QkPrepRefIdeal.τ).loc Cert.QkPrepRefIdeal.main_arg0)
      ∧ r.2.mem ((c.tc : Thread Cert.QkPrepRefIdeal.nD Cert.QkPrepRefIdeal.τ).loc Cert.QkPrepRefIdeal.main_arg1) = m ((c.tc : Thread Cert.QkPrepRefIdeal.nD Cert.QkPrepRefIdeal.τ).loc Cert.QkPrepRefIdeal.main_arg1)
      ∧ r.2.mem ((c.tc : Thread Cert.QkPrepRefIdeal.nD Cert.QkPrepRefIdeal.τ).loc Cert.QkPrepRefIdeal.main_arg2) = m ((c.tc : Thread Cert.QkPrepRefIdeal.nD Cert.QkPrepRefIdeal.τ).loc Cert.QkPrepRefIdeal.main_arg2)
      ∧ r.2.mem ((c.tc : Thread Cert.QkPrepRefIdeal.nD Cert.QkPrepRefIdeal.τ).loc Cert.QkPrepRefIdeal.main_arg3) = m ((c.tc : Thread Cert.QkPrepRefIdeal.nD Cert.QkPrepRefIdeal.τ).loc Cert.QkPrepRefIdeal.main_arg3)
      ∧ r.2.mem ((c.tc : Thread Cert.QkPrepRefIdeal.nD Cert.QkPrepRefIdeal.τ).loc Cert.QkPrepRefIdeal.main_arg4) = m ((c.tc : Thread Cert.QkPrepRefIdeal.nD Cert.QkPrepRefIdeal.τ).loc Cert.QkPrepRefIdeal.main_arg4))
      ∧ r.2.sem = fun _ => 0)

def quiescent_QkPrepRefIdeal_pre_qk_prep_finite [hQkPrepRefIdeal : Cert.QkPrepRefIdeal.Facts] [hPre_qk_prep_finite : Cert.Pre_qk_prep_finite.Facts] : Prop :=
  ∀ (m : (ℓ : Loc Cert.QkPrepRefIdeal.nD Cert.QkPrepRefIdeal.τ Cert.QkPrepRefIdeal.sig) → Buf (Elt Ideal) ℓ) (g : Dev Cert.QkPrepRefIdeal.nD → PrngReg), Pre_QkPrepRefIdeal_qk_prep_finite m →
    θ_run (Cert.QkPrepRefIdeal.defs (F := Ideal)) (onTc (τ := Cert.QkPrepRefIdeal.τ) (Cert.QkPrepRefIdeal.main (F := Ideal))) ⟨m, fun _ => 0, g⟩ (fun r => (∀ c : Dev Cert.QkPrepRefIdeal.nD,
      r.2.mem ((c.tc : Thread Cert.QkPrepRefIdeal.nD Cert.QkPrepRefIdeal.τ).loc Cert.QkPrepRefIdeal.main_arg0) = m ((c.tc : Thread Cert.QkPrepRefIdeal.nD Cert.QkPrepRefIdeal.τ).loc Cert.QkPrepRefIdeal.main_arg0)
      ∧ r.2.mem ((c.tc : Thread Cert.QkPrepRefIdeal.nD Cert.QkPrepRefIdeal.τ).loc Cert.QkPrepRefIdeal.main_arg1) = m ((c.tc : Thread Cert.QkPrepRefIdeal.nD Cert.QkPrepRefIdeal.τ).loc Cert.QkPrepRefIdeal.main_arg1)
      ∧ r.2.mem ((c.tc : Thread Cert.QkPrepRefIdeal.nD Cert.QkPrepRefIdeal.τ).loc Cert.QkPrepRefIdeal.main_arg2) = m ((c.tc : Thread Cert.QkPrepRefIdeal.nD Cert.QkPrepRefIdeal.τ).loc Cert.QkPrepRefIdeal.main_arg2)
      ∧ r.2.mem ((c.tc : Thread Cert.QkPrepRefIdeal.nD Cert.QkPrepRefIdeal.τ).loc Cert.QkPrepRefIdeal.main_arg3) = m ((c.tc : Thread Cert.QkPrepRefIdeal.nD Cert.QkPrepRefIdeal.τ).loc Cert.QkPrepRefIdeal.main_arg3)
      ∧ r.2.mem ((c.tc : Thread Cert.QkPrepRefIdeal.nD Cert.QkPrepRefIdeal.τ).loc Cert.QkPrepRefIdeal.main_arg4) = m ((c.tc : Thread Cert.QkPrepRefIdeal.nD Cert.QkPrepRefIdeal.τ).loc Cert.QkPrepRefIdeal.main_arg4))
      ∧ r.2.sem = fun _ => 0)

def preserves_SguBwd_SguBwdIdeal : Prop :=
  IdealRules.named_const.Statement Cert.SguBwdIdeal.κ "gelu_a" .f32 0x3D372713#32 ((8943 / 200000 : ℝ) : EReal)
  ∧ IdealRules.named_const.Statement Cert.SguBwdIdeal.κ "gelu_3a" .f32 0x3E095D4F#32 ((26829 / 200000 : ℝ) : EReal)

def algebraic_SguBwdIdeal_SguRefIdeal_pre_sgu_finite [hSguBwdIdeal : Cert.SguBwdIdeal.Facts] [hSguRefIdeal : Cert.SguRefIdeal.Facts] [hPre_sgu_finite : Cert.Pre_sgu_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguBwdIdeal_sgu_finite m →
    (∀ c : Dev Cert.SguBwdIdeal.nD,
      m' ((c.tc : Thread Cert.SguRefIdeal.nD Cert.SguRefIdeal.τ).loc Cert.SguRefIdeal.main_arg0) = m ((c.tc : Thread Cert.SguBwdIdeal.nD Cert.SguBwdIdeal.τ).loc Cert.SguBwdIdeal.main_arg0)
      ∧ m' ((c.tc : Thread Cert.SguRefIdeal.nD Cert.SguRefIdeal.τ).loc Cert.SguRefIdeal.main_arg1) = m ((c.tc : Thread Cert.SguBwdIdeal.nD Cert.SguBwdIdeal.τ).loc Cert.SguBwdIdeal.main_arg1)
      ∧ m' ((c.tc : Thread Cert.SguRefIdeal.nD Cert.SguRefIdeal.τ).loc Cert.SguRefIdeal.main_arg2) = m ((c.tc : Thread Cert.SguBwdIdeal.nD Cert.SguBwdIdeal.τ).loc Cert.SguBwdIdeal.main_arg2)
      ∧ m' ((c.tc : Thread Cert.SguRefIdeal.nD Cert.SguRefIdeal.τ).loc Cert.SguRefIdeal.main_arg3) = m ((c.tc : Thread Cert.SguBwdIdeal.nD Cert.SguBwdIdeal.τ).loc Cert.SguBwdIdeal.main_arg3)
      ∧ m' ((c.tc : Thread Cert.SguRefIdeal.nD Cert.SguRefIdeal.τ).loc Cert.SguRefIdeal.main_arg4) = m ((c.tc : Thread Cert.SguBwdIdeal.nD Cert.SguBwdIdeal.τ).loc Cert.SguBwdIdeal.main_arg4)
      ∧ m' ((c.tc : Thread Cert.SguRefIdeal.nD Cert.SguRefIdeal.τ).loc Cert.SguRefIdeal.main_arg5) = m ((c.tc : Thread Cert.SguBwdIdeal.nD Cert.SguBwdIdeal.τ).loc Cert.SguBwdIdeal.main_arg5)
      ∧ m' ((c.tc : Thread Cert.SguRefIdeal.nD Cert.SguRefIdeal.τ).loc Cert.SguRefIdeal.main_arg6) = m ((c.tc : Thread Cert.SguBwdIdeal.nD Cert.SguBwdIdeal.τ).loc Cert.SguBwdIdeal.main_arg6)) →
    ∃ (v0 : (c : Dev Cert.SguBwdIdeal.nD) → Buf (Elt Ideal) ((c.tc : Thread Cert.SguBwdIdeal.nD Cert.SguBwdIdeal.τ).loc Cert.SguBwdIdeal.main_v3_0)) (v1 : (c : Dev Cert.SguBwdIdeal.nD) → Buf (Elt Ideal) ((c.tc : Thread Cert.SguBwdIdeal.nD Cert.SguBwdIdeal.τ).loc Cert.SguBwdIdeal.main_v3_1)) (v2 : (c : Dev Cert.SguBwdIdeal.nD) → Buf (Elt Ideal) ((c.tc : Thread Cert.SguBwdIdeal.nD Cert.SguBwdIdeal.τ).loc Cert.SguBwdIdeal.main_v3_2)) (v3 : (c : Dev Cert.SguBwdIdeal.nD) → Buf (Elt Ideal) ((c.tc : Thread Cert.SguBwdIdeal.nD Cert.SguBwdIdeal.τ).loc Cert.SguBwdIdeal.main_v3_3)) (v4 : (c : Dev Cert.SguBwdIdeal.nD) → Buf (Elt Ideal) ((c.tc : Thread Cert.SguBwdIdeal.nD Cert.SguBwdIdeal.τ).loc Cert.SguBwdIdeal.main_v3_4)) (v5 : (c : Dev Cert.SguBwdIdeal.nD) → Buf (Elt Ideal) ((c.tc : Thread Cert.SguBwdIdeal.nD Cert.SguBwdIdeal.τ).loc Cert.SguBwdIdeal.main_v3_5)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v3_0) = v0 c
          ∧ r.2.mem ((c.tc : Thread Cert.SguBwdIdeal.nD Cert.SguBwdIdeal.τ).loc Cert.SguBwdIdeal.main_v3_1) = v1 c
          ∧ r.2.mem ((c.tc : Thread Cert.SguBwdIdeal.nD Cert.SguBwdIdeal.τ).loc Cert.SguBwdIdeal.main_v3_2) = v2 c
          ∧ r.2.mem ((c.tc : Thread Cert.SguBwdIdeal.nD Cert.SguBwdIdeal.τ).loc Cert.SguBwdIdeal.main_v3_3) = v3 c
          ∧ r.2.mem ((c.tc : Thread Cert.SguBwdIdeal.nD Cert.SguBwdIdeal.τ).loc Cert.SguBwdIdeal.main_v3_4) = v4 c
          ∧ r.2.mem ((c.tc : Thread Cert.SguBwdIdeal.nD Cert.SguBwdIdeal.τ).loc Cert.SguBwdIdeal.main_v3_5) = v5 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
          ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v144) = v0 c
          ∧ r.2.mem ((c.tc : Thread Cert.SguRefIdeal.nD Cert.SguRefIdeal.τ).loc Cert.SguRefIdeal.main_v147) = v1 c
          ∧ r.2.mem ((c.tc : Thread Cert.SguRefIdeal.nD Cert.SguRefIdeal.τ).loc Cert.SguRefIdeal.main_v85) = v2 c
          ∧ r.2.mem ((c.tc : Thread Cert.SguRefIdeal.nD Cert.SguRefIdeal.τ).loc Cert.SguRefIdeal.main_v148) = v3 c
          ∧ r.2.mem ((c.tc : Thread Cert.SguRefIdeal.nD Cert.SguRefIdeal.τ).loc Cert.SguRefIdeal.main_v149) = v4 c
          ∧ r.2.mem ((c.tc : Thread Cert.SguRefIdeal.nD Cert.SguRefIdeal.τ).loc Cert.SguRefIdeal.main_v150) = v5 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_Down_DownIdeal : Prop :=
  True

def algebraic_DownIdeal_DownRefIdeal_pre_down_finite [hDownIdeal : Cert.DownIdeal.Facts] [hDownRefIdeal : Cert.DownRefIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_down_finite m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_v8) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Dhh_DhhIdeal : Prop :=
  True

def algebraic_DhhIdeal_DhhRefIdeal [hDhhIdeal : Cert.DhhIdeal.Facts] [hDhhRefIdeal : Cert.DhhRefIdeal.Facts] : Prop :=
  ∀ (m : (ℓ : Loc Cert.DhhIdeal.nD Cert.DhhIdeal.τ Cert.DhhIdeal.sig) → Buf (Elt Ideal) ℓ) (g : Dev Cert.DhhIdeal.nD → PrngReg)
    (m' : (ℓ : Loc Cert.DhhRefIdeal.nD Cert.DhhRefIdeal.τ Cert.DhhRefIdeal.sig) → Buf (Elt Ideal) ℓ) (g' : Dev Cert.DhhRefIdeal.nD → PrngReg), Pre_DhhIdeal m →
    (∀ c : Dev Cert.DhhIdeal.nD,
      m' ((c.tc : Thread Cert.DhhRefIdeal.nD Cert.DhhRefIdeal.τ).loc Cert.DhhRefIdeal.main_arg0) = m ((c.tc : Thread Cert.DhhIdeal.nD Cert.DhhIdeal.τ).loc Cert.DhhIdeal.main_arg0)
      ∧ m' ((c.tc : Thread Cert.DhhRefIdeal.nD Cert.DhhRefIdeal.τ).loc Cert.DhhRefIdeal.main_arg1) = m ((c.tc : Thread Cert.DhhIdeal.nD Cert.DhhIdeal.τ).loc Cert.DhhIdeal.main_arg1)
      ∧ m' ((c.tc : Thread Cert.DhhRefIdeal.nD Cert.DhhRefIdeal.τ).loc Cert.DhhRefIdeal.main_arg2) = m ((c.tc : Thread Cert.DhhIdeal.nD Cert.DhhIdeal.τ).loc Cert.DhhIdeal.main_arg2)
      ∧ m' ((c.tc : Thread Cert.DhhRefIdeal.nD Cert.DhhRefIdeal.τ).loc Cert.DhhRefIdeal.main_arg3) = m ((c.tc : Thread Cert.DhhIdeal.nD Cert.DhhIdeal.τ).loc Cert.DhhIdeal.main_arg3)
      ∧ m' ((c.tc : Thread Cert.DhhRefIdeal.nD Cert.DhhRefIdeal.τ).loc Cert.DhhRefIdeal.main_arg4) = m ((c.tc : Thread Cert.DhhIdeal.nD Cert.DhhIdeal.τ).loc Cert.DhhIdeal.main_arg4)
      ∧ m' ((c.tc : Thread Cert.DhhRefIdeal.nD Cert.DhhRefIdeal.τ).loc Cert.DhhRefIdeal.main_arg5) = m ((c.tc : Thread Cert.DhhIdeal.nD Cert.DhhIdeal.τ).loc Cert.DhhIdeal.main_arg5)) →
    ∃ (v0 : (c : Dev Cert.DhhIdeal.nD) → Buf (Elt Ideal) ((c.tc : Thread Cert.DhhIdeal.nD Cert.DhhIdeal.τ).loc Cert.DhhIdeal.main_v8)),
      θ_run (Cert.DhhIdeal.defs (F := Ideal)) (onTc (τ := Cert.DhhIdeal.τ) (Cert.DhhIdeal.main (F := Ideal))) ⟨m, fun _ => 0, g⟩ (fun r => ∀ c : Dev Cert.DhhIdeal.nD,
          r.2.mem ((c.tc : Thread Cert.DhhIdeal.nD Cert.DhhIdeal.τ).loc Cert.DhhIdeal.main_v8) = v0 c
          ∧ r.2.mem ((c.tc : Thread Cert.DhhIdeal.nD Cert.DhhIdeal.τ).loc Cert.DhhIdeal.main_arg0) = m ((c.tc : Thread Cert.DhhIdeal.nD Cert.DhhIdeal.τ).loc Cert.DhhIdeal.main_arg0)
          ∧ r.2.mem ((c.tc : Thread Cert.DhhIdeal.nD Cert.DhhIdeal.τ).loc Cert.DhhIdeal.main_arg1) = m ((c.tc : Thread Cert.DhhIdeal.nD Cert.DhhIdeal.τ).loc Cert.DhhIdeal.main_arg1)
          ∧ r.2.mem ((c.tc : Thread Cert.DhhIdeal.nD Cert.DhhIdeal.τ).loc Cert.DhhIdeal.main_arg2) = m ((c.tc : Thread Cert.DhhIdeal.nD Cert.DhhIdeal.τ).loc Cert.DhhIdeal.main_arg2)
          ∧ r.2.mem ((c.tc : Thread Cert.DhhIdeal.nD Cert.DhhIdeal.τ).loc Cert.DhhIdeal.main_arg3) = m ((c.tc : Thread Cert.DhhIdeal.nD Cert.DhhIdeal.τ).loc Cert.DhhIdeal.main_arg3)
          ∧ r.2.mem ((c.tc : Thread Cert.DhhIdeal.nD Cert.DhhIdeal.τ).loc Cert.DhhIdeal.main_arg4) = m ((c.tc : Thread Cert.DhhIdeal.nD Cert.DhhIdeal.τ).loc Cert.DhhIdeal.main_arg4)
          ∧ r.2.mem ((c.tc : Thread Cert.DhhIdeal.nD Cert.DhhIdeal.τ).loc Cert.DhhIdeal.main_arg5) = m ((c.tc : Thread Cert.DhhIdeal.nD Cert.DhhIdeal.τ).loc Cert.DhhIdeal.main_arg5))
      ∧ θ_run (Cert.DhhRefIdeal.defs (F := Ideal)) (onTc (τ := Cert.DhhRefIdeal.τ) (Cert.DhhRefIdeal.main (F := Ideal))) ⟨m', fun _ => 0, g'⟩ (fun r => ∀ c : Dev Cert.DhhRefIdeal.nD,
          r.2.mem ((c.tc : Thread Cert.DhhRefIdeal.nD Cert.DhhRefIdeal.τ).loc Cert.DhhRefIdeal.main_v4) = v0 c
          ∧ r.2.mem ((c.tc : Thread Cert.DhhRefIdeal.nD Cert.DhhRefIdeal.τ).loc Cert.DhhRefIdeal.main_arg0) = m' ((c.tc : Thread Cert.DhhRefIdeal.nD Cert.DhhRefIdeal.τ).loc Cert.DhhRefIdeal.main_arg0)
          ∧ r.2.mem ((c.tc : Thread Cert.DhhRefIdeal.nD Cert.DhhRefIdeal.τ).loc Cert.DhhRefIdeal.main_arg1) = m' ((c.tc : Thread Cert.DhhRefIdeal.nD Cert.DhhRefIdeal.τ).loc Cert.DhhRefIdeal.main_arg1)
          ∧ r.2.mem ((c.tc : Thread Cert.DhhRefIdeal.nD Cert.DhhRefIdeal.τ).loc Cert.DhhRefIdeal.main_arg2) = m' ((c.tc : Thread Cert.DhhRefIdeal.nD Cert.DhhRefIdeal.τ).loc Cert.DhhRefIdeal.main_arg2)
          ∧ r.2.mem ((c.tc : Thread Cert.DhhRefIdeal.nD Cert.DhhRefIdeal.τ).loc Cert.DhhRefIdeal.main_arg3) = m' ((c.tc : Thread Cert.DhhRefIdeal.nD Cert.DhhRefIdeal.τ).loc Cert.DhhRefIdeal.main_arg3)
          ∧ r.2.mem ((c.tc : Thread Cert.DhhRefIdeal.nD Cert.DhhRefIdeal.τ).loc Cert.DhhRefIdeal.main_arg4) = m' ((c.tc : Thread Cert.DhhRefIdeal.nD Cert.DhhRefIdeal.τ).loc Cert.DhhRefIdeal.main_arg4)
          ∧ r.2.mem ((c.tc : Thread Cert.DhhRefIdeal.nD Cert.DhhRefIdeal.τ).loc Cert.DhhRefIdeal.main_arg5) = m' ((c.tc : Thread Cert.DhhRefIdeal.nD Cert.DhhRefIdeal.τ).loc Cert.DhhRefIdeal.main_arg5))

def preserves_DwFfn_DwFfnIdeal : Prop :=
  True

def algebraic_DwFfnIdeal_DwFfnRefIdeal [hDwFfnIdeal : Cert.DwFfnIdeal.Facts] [hDwFfnRefIdeal : Cert.DwFfnRefIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg)
    (m' : (ℓ : Loc Cert.DwFfnRefIdeal.nD Cert.DwFfnRefIdeal.τ Cert.DwFfnRefIdeal.sig) → Buf (Elt Ideal) ℓ) (g' : Dev Cert.DwFfnRefIdeal.nD → PrngReg), Pre_DwFfnIdeal m →
    (∀ c : Dev Cert.DwFfnIdeal.nD,
      m' ((c.tc : Thread Cert.DwFfnRefIdeal.nD Cert.DwFfnRefIdeal.τ).loc Cert.DwFfnRefIdeal.main_arg0) = m ((c.tc : Thread Cert.DwFfnIdeal.nD Cert.DwFfnIdeal.τ).loc Cert.DwFfnIdeal.main_arg0)
      ∧ m' ((c.tc : Thread Cert.DwFfnRefIdeal.nD Cert.DwFfnRefIdeal.τ).loc Cert.DwFfnRefIdeal.main_arg1) = m ((c.tc : Thread Cert.DwFfnIdeal.nD Cert.DwFfnIdeal.τ).loc Cert.DwFfnIdeal.main_arg1)
      ∧ m' ((c.tc : Thread Cert.DwFfnRefIdeal.nD Cert.DwFfnRefIdeal.τ).loc Cert.DwFfnRefIdeal.main_arg2) = m ((c.tc : Thread Cert.DwFfnIdeal.nD Cert.DwFfnIdeal.τ).loc Cert.DwFfnIdeal.main_arg2)) →
    ∃ (v0 : (c : Dev Cert.DwFfnIdeal.nD) → Buf (Elt Ideal) ((c.tc : Thread Cert.DwFfnIdeal.nD Cert.DwFfnIdeal.τ).loc Cert.DwFfnIdeal.main_v2)),
      θ_run (Cert.DwFfnIdeal.defs (F := Ideal)) (onTc (τ := Cert.DwFfnIdeal.τ) (Cert.DwFfnIdeal.main (F := Ideal))) ⟨m, fun _ => 0, g⟩ (fun r => ∀ c : Dev Cert.DwFfnIdeal.nD,
          r.2.mem ((c.tc : Thread Cert.DwFfnIdeal.nD Cert.DwFfnIdeal.τ).loc Cert.DwFfnIdeal.main_v2) = v0 c
          ∧ r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
          ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1)
          ∧ r.2.mem ((c.tc : Thread Cert.DwFfnIdeal.nD Cert.DwFfnIdeal.τ).loc Cert.DwFfnIdeal.main_arg2) = m ((c.tc : Thread Cert.DwFfnIdeal.nD Cert.DwFfnIdeal.τ).loc Cert.DwFfnIdeal.main_arg2))
      ∧ θ_run (Cert.DwFfnRefIdeal.defs (F := Ideal)) (onTc (τ := Cert.DwFfnRefIdeal.τ) (Cert.DwFfnRefIdeal.main (F := Ideal))) ⟨m', fun _ => 0, g'⟩ (fun r => ∀ c : Dev Cert.DwFfnRefIdeal.nD,
          r.2.mem ((c.tc : Thread Cert.DwFfnRefIdeal.nD Cert.DwFfnRefIdeal.τ).loc Cert.DwFfnRefIdeal.main_v5) = v0 c
          ∧ r.2.mem ((c.tc : Thread Cert.DwFfnRefIdeal.nD Cert.DwFfnRefIdeal.τ).loc Cert.DwFfnRefIdeal.main_arg0) = m' ((c.tc : Thread Cert.DwFfnRefIdeal.nD Cert.DwFfnRefIdeal.τ).loc Cert.DwFfnRefIdeal.main_arg0)
          ∧ r.2.mem ((c.tc : Thread Cert.DwFfnRefIdeal.nD Cert.DwFfnRefIdeal.τ).loc Cert.DwFfnRefIdeal.main_arg1) = m' ((c.tc : Thread Cert.DwFfnRefIdeal.nD Cert.DwFfnRefIdeal.τ).loc Cert.DwFfnRefIdeal.main_arg1)
          ∧ r.2.mem ((c.tc : Thread Cert.DwFfnRefIdeal.nD Cert.DwFfnRefIdeal.τ).loc Cert.DwFfnRefIdeal.main_arg2) = m' ((c.tc : Thread Cert.DwFfnRefIdeal.nD Cert.DwFfnRefIdeal.τ).loc Cert.DwFfnRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v5) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v4)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v4) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v1) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v4) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_DwBranch_DwBranchIdeal : Prop :=
  True

def algebraic_DwBranchIdeal_DwBranchRefIdeal [hDwBranchIdeal : Cert.DwBranchIdeal.Facts] [hDwBranchRefIdeal : Cert.DwBranchRefIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchRefIdeal.nD Cert.DwBranchRefIdeal.τ Cert.DwBranchRefIdeal.sig) → Buf (Elt Ideal) ℓ) (g' : Dev Cert.DwBranchRefIdeal.nD → PrngReg), Pre_DwBranchIdeal m →
    (∀ c : Dev Cert.DwBranchIdeal.nD,
      m' ((c.tc : Thread Cert.DwBranchRefIdeal.nD Cert.DwBranchRefIdeal.τ).loc Cert.DwBranchRefIdeal.main_arg0) = m ((c.tc : Thread Cert.DwBranchIdeal.nD Cert.DwBranchIdeal.τ).loc Cert.DwBranchIdeal.main_arg0)
      ∧ m' ((c.tc : Thread Cert.DwBranchRefIdeal.nD Cert.DwBranchRefIdeal.τ).loc Cert.DwBranchRefIdeal.main_arg1) = m ((c.tc : Thread Cert.DwBranchIdeal.nD Cert.DwBranchIdeal.τ).loc Cert.DwBranchIdeal.main_arg1)
      ∧ m' ((c.tc : Thread Cert.DwBranchRefIdeal.nD Cert.DwBranchRefIdeal.τ).loc Cert.DwBranchRefIdeal.main_arg2) = m ((c.tc : Thread Cert.DwBranchIdeal.nD Cert.DwBranchIdeal.τ).loc Cert.DwBranchIdeal.main_arg2)) →
    ∃ (v0 : (c : Dev Cert.DwBranchIdeal.nD) → Buf (Elt Ideal) ((c.tc : Thread Cert.DwBranchIdeal.nD Cert.DwBranchIdeal.τ).loc Cert.DwBranchIdeal.main_v2)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v2) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1)
          ∧ r.2.mem ((c.tc : Thread Cert.DwBranchIdeal.nD Cert.DwBranchIdeal.τ).loc Cert.DwBranchIdeal.main_arg2) = m ((c.tc : Thread Cert.DwBranchIdeal.nD Cert.DwBranchIdeal.τ).loc Cert.DwBranchIdeal.main_arg2))
      ∧ θ_run (Cert.DwBranchRefIdeal.defs (F := Ideal)) (onTc (τ := Cert.DwBranchRefIdeal.τ) (Cert.DwBranchRefIdeal.main (F := Ideal))) ⟨m', fun _ => 0, g'⟩ (fun r => ∀ c : Dev Cert.DwBranchRefIdeal.nD,
          r.2.mem ((c.tc : Thread Cert.DwBranchRefIdeal.nD Cert.DwBranchRefIdeal.τ).loc Cert.DwBranchRefIdeal.main_v5) = v0 c
          ∧ r.2.mem ((c.tc : Thread Cert.DwBranchRefIdeal.nD Cert.DwBranchRefIdeal.τ).loc Cert.DwBranchRefIdeal.main_arg0) = m' ((c.tc : Thread Cert.DwBranchRefIdeal.nD Cert.DwBranchRefIdeal.τ).loc Cert.DwBranchRefIdeal.main_arg0)
          ∧ r.2.mem ((c.tc : Thread Cert.DwBranchRefIdeal.nD Cert.DwBranchRefIdeal.τ).loc Cert.DwBranchRefIdeal.main_arg1) = m' ((c.tc : Thread Cert.DwBranchRefIdeal.nD Cert.DwBranchRefIdeal.τ).loc Cert.DwBranchRefIdeal.main_arg1)
          ∧ r.2.mem ((c.tc : Thread Cert.DwBranchRefIdeal.nD Cert.DwBranchRefIdeal.τ).loc Cert.DwBranchRefIdeal.main_arg2) = m' ((c.tc : Thread Cert.DwBranchRefIdeal.nD Cert.DwBranchRefIdeal.τ).loc Cert.DwBranchRefIdeal.main_arg2))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)) →
    ∃ (v0 : (c : Dev Cert.BranchIdeal.nD) → Buf (Elt Ideal) ((c.tc : Thread Cert.BranchIdeal.nD Cert.BranchIdeal.τ).loc Cert.BranchIdeal.main_v8_0)) (v1 : (c : Dev Cert.BranchIdeal.nD) → Buf (Elt Ideal) ((c.tc : Thread Cert.BranchIdeal.nD Cert.BranchIdeal.τ).loc Cert.BranchIdeal.main_v8_1)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v8_0) = v0 c
          ∧ r.2.mem ((c.tc : Thread Cert.BranchIdeal.nD Cert.BranchIdeal.τ).loc Cert.BranchIdeal.main_v8_1) = v1 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v3) = v0 c
          ∧ r.2.mem ((c.tc : Thread Cert.BranchRefIdeal.nD Cert.BranchRefIdeal.τ).loc Cert.BranchRefIdeal.main_v2) = v1 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)) (v2 : (c : Dev Cert.OutIdeal.nD) → Buf (Elt Ideal) ((c.tc : Thread Cert.OutIdeal.nD Cert.OutIdeal.τ).loc Cert.OutIdeal.main_v3_2)) (v3 : (c : Dev Cert.OutIdeal.nD) → Buf (Elt Ideal) ((c.tc : Thread Cert.OutIdeal.nD Cert.OutIdeal.τ).loc Cert.OutIdeal.main_v3_3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_v3_2) = v2 c
          ∧ r.2.mem ((c.tc : Thread Cert.OutIdeal.nD Cert.OutIdeal.τ).loc Cert.OutIdeal.main_v3_3) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v27) = v0 c
          ∧ r.2.mem ((c.tc : Thread Cert.OutRefIdeal.nD Cert.OutRefIdeal.τ).loc Cert.OutRefIdeal.main_v28) = v1 c
          ∧ r.2.mem ((c.tc : Thread Cert.OutRefIdeal.nD Cert.OutRefIdeal.τ).loc Cert.OutRefIdeal.main_v29) = v2 c
          ∧ r.2.mem ((c.tc : Thread Cert.OutRefIdeal.nD Cert.OutRefIdeal.τ).loc Cert.OutRefIdeal.main_v30) = v3 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Rms_RmsIdeal : Prop :=
  True

def algebraic_RmsIdeal_RmsRefIdeal_pre_rms_finite [hRmsIdeal : Cert.RmsIdeal.Facts] [hRmsRefIdeal : Cert.RmsRefIdeal.Facts] [hPre_rms_finite : Cert.Pre_rms_finite.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_rms_finite m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)
      ∧ m' ((c.tc : Thread Cert.RmsRefIdeal.nD Cert.RmsRefIdeal.τ).loc Cert.RmsRefIdeal.main_arg4) = m ((c.tc : Thread Cert.RmsIdeal.nD Cert.RmsIdeal.τ).loc Cert.RmsIdeal.main_arg4)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)) (v2 : (c : Dev Cert.RmsIdeal.nD) → Buf (Elt Ideal) ((c.tc : Thread Cert.RmsIdeal.nD Cert.RmsIdeal.τ).loc Cert.RmsIdeal.main_v1_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_v1_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3)
          ∧ r.2.mem ((c.tc : Thread Cert.RmsIdeal.nD Cert.RmsIdeal.τ).loc Cert.RmsIdeal.main_arg4) = m ((c.tc : Thread Cert.RmsIdeal.nD Cert.RmsIdeal.τ).loc Cert.RmsIdeal.main_arg4))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v38) = v1 c
          ∧ r.2.mem ((c.tc : Thread Cert.RmsRefIdeal.nD Cert.RmsRefIdeal.τ).loc Cert.RmsRefIdeal.main_v39) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3)
          ∧ r.2.mem ((c.tc : Thread Cert.RmsRefIdeal.nD Cert.RmsRefIdeal.τ).loc Cert.RmsRefIdeal.main_arg4) = m' ((c.tc : Thread Cert.RmsRefIdeal.nD Cert.RmsRefIdeal.τ).loc Cert.RmsRefIdeal.main_arg4))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v12_0)) (v1 : (c : Dev Cert.AttnIdeal.nD) → Buf (Elt Ideal) ((c.tc : Thread Cert.AttnIdeal.nD Cert.AttnIdeal.τ).loc Cert.AttnIdeal.main_v22)) (v2 : (c : Dev Cert.AttnIdeal.nD) → Buf (Elt Ideal) ((c.tc : Thread Cert.AttnIdeal.nD Cert.AttnIdeal.τ).loc Cert.AttnIdeal.main_v32)) (v3 : (c : Dev Cert.AttnIdeal.nD) → Buf (Elt Ideal) ((c.tc : Thread Cert.AttnIdeal.nD Cert.AttnIdeal.τ).loc Cert.AttnIdeal.main_v34)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v12_0) = v0 c
          ∧ r.2.mem ((c.tc : Thread Cert.AttnIdeal.nD Cert.AttnIdeal.τ).loc Cert.AttnIdeal.main_v22) = v1 c
          ∧ r.2.mem ((c.tc : Thread Cert.AttnIdeal.nD Cert.AttnIdeal.τ).loc Cert.AttnIdeal.main_v32) = v2 c
          ∧ r.2.mem ((c.tc : Thread Cert.AttnIdeal.nD Cert.AttnIdeal.τ).loc Cert.AttnIdeal.main_v34) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v137) = v0 c
          ∧ r.2.mem ((c.tc : Thread Cert.AttnRefIdeal.nD Cert.AttnRefIdeal.τ).loc Cert.AttnRefIdeal.main_v138) = v1 c
          ∧ r.2.mem ((c.tc : Thread Cert.AttnRefIdeal.nD Cert.AttnRefIdeal.τ).loc Cert.AttnRefIdeal.main_v139) = v2 c
          ∧ r.2.mem ((c.tc : Thread Cert.AttnRefIdeal.nD Cert.AttnRefIdeal.τ).loc Cert.AttnRefIdeal.main_v113) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Qk_QkIdeal : Prop :=
  True

def algebraic_QkIdeal_QkRefIdeal_pre_qk_finite [hQkIdeal : Cert.QkIdeal.Facts] [hQkRefIdeal : Cert.QkRefIdeal.Facts] [hPre_qk_finite : Cert.Pre_qk_finite.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal_qk_finite m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)
      ∧ m' ((c.tc : Thread Cert.QkRefIdeal.nD Cert.QkRefIdeal.τ).loc Cert.QkRefIdeal.main_arg3) = m ((c.tc : Thread Cert.QkIdeal.nD Cert.QkIdeal.τ).loc Cert.QkIdeal.main_arg3)
      ∧ m' ((c.tc : Thread Cert.QkRefIdeal.nD Cert.QkRefIdeal.τ).loc Cert.QkRefIdeal.main_arg4) = m ((c.tc : Thread Cert.QkIdeal.nD Cert.QkIdeal.τ).loc Cert.QkIdeal.main_arg4)
      ∧ m' ((c.tc : Thread Cert.QkRefIdeal.nD Cert.QkRefIdeal.τ).loc Cert.QkRefIdeal.main_arg5) = m ((c.tc : Thread Cert.QkIdeal.nD Cert.QkIdeal.τ).loc Cert.QkIdeal.main_arg5)
      ∧ m' ((c.tc : Thread Cert.QkRefIdeal.nD Cert.QkRefIdeal.τ).loc Cert.QkRefIdeal.main_arg6) = m ((c.tc : Thread Cert.QkIdeal.nD Cert.QkIdeal.τ).loc Cert.QkIdeal.main_arg6)
      ∧ m' ((c.tc : Thread Cert.QkRefIdeal.nD Cert.QkRefIdeal.τ).loc Cert.QkRefIdeal.main_arg7) = m ((c.tc : Thread Cert.QkIdeal.nD Cert.QkIdeal.τ).loc Cert.QkIdeal.main_arg7)
      ∧ m' ((c.tc : Thread Cert.QkRefIdeal.nD Cert.QkRefIdeal.τ).loc Cert.QkRefIdeal.main_arg8) = m ((c.tc : Thread Cert.QkIdeal.nD Cert.QkIdeal.τ).loc Cert.QkIdeal.main_arg8)
      ∧ m' ((c.tc : Thread Cert.QkRefIdeal.nD Cert.QkRefIdeal.τ).loc Cert.QkRefIdeal.main_arg9) = m ((c.tc : Thread Cert.QkIdeal.nD Cert.QkIdeal.τ).loc Cert.QkIdeal.main_arg9)) →
    ∃ (v0 : (c : Dev Cert.QkIdeal.nD) → Buf (Elt Ideal) ((c.tc : Thread Cert.QkIdeal.nD Cert.QkIdeal.τ).loc Cert.QkIdeal.main_v17_0)) (v1 : (c : Dev Cert.QkIdeal.nD) → Buf (Elt Ideal) ((c.tc : Thread Cert.QkIdeal.nD Cert.QkIdeal.τ).loc Cert.QkIdeal.main_v17_1)) (v2 : (c : Dev Cert.QkIdeal.nD) → Buf (Elt Ideal) ((c.tc : Thread Cert.QkIdeal.nD Cert.QkIdeal.τ).loc Cert.QkIdeal.main_v17_2)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v17_0) = v0 c
          ∧ r.2.mem ((c.tc : Thread Cert.QkIdeal.nD Cert.QkIdeal.τ).loc Cert.QkIdeal.main_v17_1) = v1 c
          ∧ r.2.mem ((c.tc : Thread Cert.QkIdeal.nD Cert.QkIdeal.τ).loc Cert.QkIdeal.main_v17_2) = v2 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
          ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
          ∧ r.2.mem ((c.tc : Thread Cert.QkIdeal.nD Cert.QkIdeal.τ).loc Cert.QkIdeal.main_arg6) = m ((c.tc : Thread Cert.QkIdeal.nD Cert.QkIdeal.τ).loc Cert.QkIdeal.main_arg6)
          ∧ r.2.mem ((c.tc : Thread Cert.QkIdeal.nD Cert.QkIdeal.τ).loc Cert.QkIdeal.main_arg7) = m ((c.tc : Thread Cert.QkIdeal.nD Cert.QkIdeal.τ).loc Cert.QkIdeal.main_arg7)
          ∧ r.2.mem ((c.tc : Thread Cert.QkIdeal.nD Cert.QkIdeal.τ).loc Cert.QkIdeal.main_arg8) = m ((c.tc : Thread Cert.QkIdeal.nD Cert.QkIdeal.τ).loc Cert.QkIdeal.main_arg8)
          ∧ r.2.mem ((c.tc : Thread Cert.QkIdeal.nD Cert.QkIdeal.τ).loc Cert.QkIdeal.main_arg9) = m ((c.tc : Thread Cert.QkIdeal.nD Cert.QkIdeal.τ).loc Cert.QkIdeal.main_arg9))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v158) = v0 c
          ∧ r.2.mem ((c.tc : Thread Cert.QkRefIdeal.nD Cert.QkRefIdeal.τ).loc Cert.QkRefIdeal.main_v160) = v1 c
          ∧ r.2.mem ((c.tc : Thread Cert.QkRefIdeal.nD Cert.QkRefIdeal.τ).loc Cert.QkRefIdeal.main_v162) = v2 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3)
          ∧ r.2.mem ((c.tc : Thread Cert.QkRefIdeal.nD Cert.QkRefIdeal.τ).loc Cert.QkRefIdeal.main_arg4) = m' ((c.tc : Thread Cert.QkRefIdeal.nD Cert.QkRefIdeal.τ).loc Cert.QkRefIdeal.main_arg4)
          ∧ r.2.mem ((c.tc : Thread Cert.QkRefIdeal.nD Cert.QkRefIdeal.τ).loc Cert.QkRefIdeal.main_arg5) = m' ((c.tc : Thread Cert.QkRefIdeal.nD Cert.QkRefIdeal.τ).loc Cert.QkRefIdeal.main_arg5)
          ∧ r.2.mem ((c.tc : Thread Cert.QkRefIdeal.nD Cert.QkRefIdeal.τ).loc Cert.QkRefIdeal.main_arg6) = m' ((c.tc : Thread Cert.QkRefIdeal.nD Cert.QkRefIdeal.τ).loc Cert.QkRefIdeal.main_arg6)
          ∧ r.2.mem ((c.tc : Thread Cert.QkRefIdeal.nD Cert.QkRefIdeal.τ).loc Cert.QkRefIdeal.main_arg7) = m' ((c.tc : Thread Cert.QkRefIdeal.nD Cert.QkRefIdeal.τ).loc Cert.QkRefIdeal.main_arg7)
          ∧ r.2.mem ((c.tc : Thread Cert.QkRefIdeal.nD Cert.QkRefIdeal.τ).loc Cert.QkRefIdeal.main_arg8) = m' ((c.tc : Thread Cert.QkRefIdeal.nD Cert.QkRefIdeal.τ).loc Cert.QkRefIdeal.main_arg8)
          ∧ r.2.mem ((c.tc : Thread Cert.QkRefIdeal.nD Cert.QkRefIdeal.τ).loc Cert.QkRefIdeal.main_arg9) = m' ((c.tc : Thread Cert.QkRefIdeal.nD Cert.QkRefIdeal.τ).loc Cert.QkRefIdeal.main_arg9))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v4)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v4) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v0) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v0) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_UpAct_UpActIdeal : Prop :=
  True

def algebraic_UpActIdeal_UpActRefIdeal [hUpActIdeal : Cert.UpActIdeal.Facts] [hUpActRefIdeal : Cert.UpActRefIdeal.Facts] : Prop :=
  ∀ (m : (ℓ : Loc Cert.UpActIdeal.nD Cert.UpActIdeal.τ Cert.UpActIdeal.sig) → Buf (Elt Ideal) ℓ) (g : Dev Cert.UpActIdeal.nD → PrngReg)
    (m' : (ℓ : Loc Cert.UpActRefIdeal.nD Cert.UpActRefIdeal.τ Cert.UpActRefIdeal.sig) → Buf (Elt Ideal) ℓ) (g' : Dev Cert.UpActRefIdeal.nD → PrngReg), Pre_UpActIdeal m →
    (∀ c : Dev Cert.UpActIdeal.nD,
      m' ((c.tc : Thread Cert.UpActRefIdeal.nD Cert.UpActRefIdeal.τ).loc Cert.UpActRefIdeal.main_arg0) = m ((c.tc : Thread Cert.UpActIdeal.nD Cert.UpActIdeal.τ).loc Cert.UpActIdeal.main_arg0)
      ∧ m' ((c.tc : Thread Cert.UpActRefIdeal.nD Cert.UpActRefIdeal.τ).loc Cert.UpActRefIdeal.main_arg1) = m ((c.tc : Thread Cert.UpActIdeal.nD Cert.UpActIdeal.τ).loc Cert.UpActIdeal.main_arg1)
      ∧ m' ((c.tc : Thread Cert.UpActRefIdeal.nD Cert.UpActRefIdeal.τ).loc Cert.UpActRefIdeal.main_arg2) = m ((c.tc : Thread Cert.UpActIdeal.nD Cert.UpActIdeal.τ).loc Cert.UpActIdeal.main_arg2)) →
    ∃ (v0 : (c : Dev Cert.UpActIdeal.nD) → Buf (Elt Ideal) ((c.tc : Thread Cert.UpActIdeal.nD Cert.UpActIdeal.τ).loc Cert.UpActIdeal.main_v4_0)) (v1 : (c : Dev Cert.UpActIdeal.nD) → Buf (Elt Ideal) ((c.tc : Thread Cert.UpActIdeal.nD Cert.UpActIdeal.τ).loc Cert.UpActIdeal.main_v4_1)),
      θ_run (Cert.UpActIdeal.defs (F := Ideal)) (onTc (τ := Cert.UpActIdeal.τ) (Cert.UpActIdeal.main (F := Ideal))) ⟨m, fun _ => 0, g⟩ (fun r => ∀ c : Dev Cert.UpActIdeal.nD,
          r.2.mem ((c.tc : Thread Cert.UpActIdeal.nD Cert.UpActIdeal.τ).loc Cert.UpActIdeal.main_v4_0) = v0 c
          ∧ r.2.mem ((c.tc : Thread Cert.UpActIdeal.nD Cert.UpActIdeal.τ).loc Cert.UpActIdeal.main_v4_1) = v1 c
          ∧ r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
          ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
          ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ θ_run (Cert.UpActRefIdeal.defs (F := Ideal)) (onTc (τ := Cert.UpActRefIdeal.τ) (Cert.UpActRefIdeal.main (F := Ideal))) ⟨m', fun _ => 0, g'⟩ (fun r => ∀ c : Dev Cert.UpActRefIdeal.nD,
          r.2.mem ((c.tc : Thread Cert.UpActRefIdeal.nD Cert.UpActRefIdeal.τ).loc Cert.UpActRefIdeal.main_v0) = v0 c
          ∧ r.2.mem ((c.tc : Thread Cert.UpActRefIdeal.nD Cert.UpActRefIdeal.τ).loc Cert.UpActRefIdeal.main_v3) = v1 c
          ∧ r.2.mem ((c.tc : Thread Cert.UpActRefIdeal.nD Cert.UpActRefIdeal.τ).loc Cert.UpActRefIdeal.main_arg0) = m' ((c.tc : Thread Cert.UpActRefIdeal.nD Cert.UpActRefIdeal.τ).loc Cert.UpActRefIdeal.main_arg0)
          ∧ r.2.mem ((c.tc : Thread Cert.UpActRefIdeal.nD Cert.UpActRefIdeal.τ).loc Cert.UpActRefIdeal.main_arg1) = m' ((c.tc : Thread Cert.UpActRefIdeal.nD Cert.UpActRefIdeal.τ).loc Cert.UpActRefIdeal.main_arg1)
          ∧ r.2.mem ((c.tc : Thread Cert.UpActRefIdeal.nD Cert.UpActRefIdeal.τ).loc Cert.UpActRefIdeal.main_arg2) = m' ((c.tc : Thread Cert.UpActRefIdeal.nD Cert.UpActRefIdeal.τ).loc Cert.UpActRefIdeal.main_arg2))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v3)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v3) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v1) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)) (v2 : (c : Dev Cert.MergeIdeal.nD) → Buf (Elt Ideal) ((c.tc : Thread Cert.MergeIdeal.nD Cert.MergeIdeal.τ).loc Cert.MergeIdeal.main_v8_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_v8_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v14) = v0 c
          ∧ r.2.mem ((c.tc : Thread Cert.MergeRefIdeal.nD Cert.MergeRefIdeal.τ).loc Cert.MergeRefIdeal.main_v0) = v1 c
          ∧ r.2.mem ((c.tc : Thread Cert.MergeRefIdeal.nD Cert.MergeRefIdeal.τ).loc Cert.MergeRefIdeal.main_v1) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_SguFwd_SguFwdIdeal : Prop :=
  IdealRules.named_const.Statement Cert.SguFwdIdeal.κ "gelu_a" .f32 0x3D372713#32 ((8943 / 200000 : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v3)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v3) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v61) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v12)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v12) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v70) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_QkPrep_QkPrepIdeal : Prop :=
  True

def algebraic_QkPrepIdeal_QkPrepRefIdeal_pre_qk_prep_finite [hQkPrepIdeal : Cert.QkPrepIdeal.Facts] [hQkPrepRefIdeal : Cert.QkPrepRefIdeal.Facts] [hPre_qk_prep_finite : Cert.Pre_qk_prep_finite.Facts] : Prop :=
  ∀ (m : (ℓ : Loc Cert.QkPrepIdeal.nD Cert.QkPrepIdeal.τ Cert.QkPrepIdeal.sig) → Buf (Elt Ideal) ℓ) (g : Dev Cert.QkPrepIdeal.nD → PrngReg)
    (m' : (ℓ : Loc Cert.QkPrepRefIdeal.nD Cert.QkPrepRefIdeal.τ Cert.QkPrepRefIdeal.sig) → Buf (Elt Ideal) ℓ) (g' : Dev Cert.QkPrepRefIdeal.nD → PrngReg), Pre_QkPrepIdeal_qk_prep_finite m →
    (∀ c : Dev Cert.QkPrepIdeal.nD,
      m' ((c.tc : Thread Cert.QkPrepRefIdeal.nD Cert.QkPrepRefIdeal.τ).loc Cert.QkPrepRefIdeal.main_arg0) = m ((c.tc : Thread Cert.QkPrepIdeal.nD Cert.QkPrepIdeal.τ).loc Cert.QkPrepIdeal.main_arg0)
      ∧ m' ((c.tc : Thread Cert.QkPrepRefIdeal.nD Cert.QkPrepRefIdeal.τ).loc Cert.QkPrepRefIdeal.main_arg1) = m ((c.tc : Thread Cert.QkPrepIdeal.nD Cert.QkPrepIdeal.τ).loc Cert.QkPrepIdeal.main_arg1)
      ∧ m' ((c.tc : Thread Cert.QkPrepRefIdeal.nD Cert.QkPrepRefIdeal.τ).loc Cert.QkPrepRefIdeal.main_arg2) = m ((c.tc : Thread Cert.QkPrepIdeal.nD Cert.QkPrepIdeal.τ).loc Cert.QkPrepIdeal.main_arg2)
      ∧ m' ((c.tc : Thread Cert.QkPrepRefIdeal.nD Cert.QkPrepRefIdeal.τ).loc Cert.QkPrepRefIdeal.main_arg3) = m ((c.tc : Thread Cert.QkPrepIdeal.nD Cert.QkPrepIdeal.τ).loc Cert.QkPrepIdeal.main_arg3)
      ∧ m' ((c.tc : Thread Cert.QkPrepRefIdeal.nD Cert.QkPrepRefIdeal.τ).loc Cert.QkPrepRefIdeal.main_arg4) = m ((c.tc : Thread Cert.QkPrepIdeal.nD Cert.QkPrepIdeal.τ).loc Cert.QkPrepIdeal.main_arg4)) →
    ∃ (v0 : (c : Dev Cert.QkPrepIdeal.nD) → Buf (Elt Ideal) ((c.tc : Thread Cert.QkPrepIdeal.nD Cert.QkPrepIdeal.τ).loc Cert.QkPrepIdeal.main_v17_0)) (v1 : (c : Dev Cert.QkPrepIdeal.nD) → Buf (Elt Ideal) ((c.tc : Thread Cert.QkPrepIdeal.nD Cert.QkPrepIdeal.τ).loc Cert.QkPrepIdeal.main_v17_1)) (v2 : (c : Dev Cert.QkPrepIdeal.nD) → Buf (Elt Ideal) ((c.tc : Thread Cert.QkPrepIdeal.nD Cert.QkPrepIdeal.τ).loc Cert.QkPrepIdeal.main_v17_2)),
      θ_run (Cert.QkPrepIdeal.defs (F := Ideal)) (onTc (τ := Cert.QkPrepIdeal.τ) (Cert.QkPrepIdeal.main (F := Ideal))) ⟨m, fun _ => 0, g⟩ (fun r => ∀ c : Dev Cert.QkPrepIdeal.nD,
          r.2.mem ((c.tc : Thread Cert.QkPrepIdeal.nD Cert.QkPrepIdeal.τ).loc Cert.QkPrepIdeal.main_v17_0) = v0 c
          ∧ r.2.mem ((c.tc : Thread Cert.QkPrepIdeal.nD Cert.QkPrepIdeal.τ).loc Cert.QkPrepIdeal.main_v17_1) = v1 c
          ∧ r.2.mem ((c.tc : Thread Cert.QkPrepIdeal.nD Cert.QkPrepIdeal.τ).loc Cert.QkPrepIdeal.main_v17_2) = v2 c
          ∧ r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
          ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
          ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
          ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
          ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4))
      ∧ θ_run (Cert.QkPrepRefIdeal.defs (F := Ideal)) (onTc (τ := Cert.QkPrepRefIdeal.τ) (Cert.QkPrepRefIdeal.main (F := Ideal))) ⟨m', fun _ => 0, g'⟩ (fun r => ∀ c : Dev Cert.QkPrepRefIdeal.nD,
          r.2.mem ((c.tc : Thread Cert.QkPrepRefIdeal.nD Cert.QkPrepRefIdeal.τ).loc Cert.QkPrepRefIdeal.main_v34) = v0 c
          ∧ r.2.mem ((c.tc : Thread Cert.QkPrepRefIdeal.nD Cert.QkPrepRefIdeal.τ).loc Cert.QkPrepRefIdeal.main_v68) = v1 c
          ∧ r.2.mem ((c.tc : Thread Cert.QkPrepRefIdeal.nD Cert.QkPrepRefIdeal.τ).loc Cert.QkPrepRefIdeal.main_v73) = v2 c
          ∧ r.2.mem ((c.tc : Thread Cert.QkPrepRefIdeal.nD Cert.QkPrepRefIdeal.τ).loc Cert.QkPrepRefIdeal.main_arg0) = m' ((c.tc : Thread Cert.QkPrepRefIdeal.nD Cert.QkPrepRefIdeal.τ).loc Cert.QkPrepRefIdeal.main_arg0)
          ∧ r.2.mem ((c.tc : Thread Cert.QkPrepRefIdeal.nD Cert.QkPrepRefIdeal.τ).loc Cert.QkPrepRefIdeal.main_arg1) = m' ((c.tc : Thread Cert.QkPrepRefIdeal.nD Cert.QkPrepRefIdeal.τ).loc Cert.QkPrepRefIdeal.main_arg1)
          ∧ r.2.mem ((c.tc : Thread Cert.QkPrepRefIdeal.nD Cert.QkPrepRefIdeal.τ).loc Cert.QkPrepRefIdeal.main_arg2) = m' ((c.tc : Thread Cert.QkPrepRefIdeal.nD Cert.QkPrepRefIdeal.τ).loc Cert.QkPrepRefIdeal.main_arg2)
          ∧ r.2.mem ((c.tc : Thread Cert.QkPrepRefIdeal.nD Cert.QkPrepRefIdeal.τ).loc Cert.QkPrepRefIdeal.main_arg3) = m' ((c.tc : Thread Cert.QkPrepRefIdeal.nD Cert.QkPrepRefIdeal.τ).loc Cert.QkPrepRefIdeal.main_arg3)
          ∧ r.2.mem ((c.tc : Thread Cert.QkPrepRefIdeal.nD Cert.QkPrepRefIdeal.τ).loc Cert.QkPrepRefIdeal.main_arg4) = m' ((c.tc : Thread Cert.QkPrepRefIdeal.nD Cert.QkPrepRefIdeal.τ).loc Cert.QkPrepRefIdeal.main_arg4))

def Claim : Prop :=
  ∃ (hSguBwd : Cert.SguBwd.Facts) (hSguBwdIdeal : Cert.SguBwdIdeal.Facts) (hSguRefIdeal : Cert.SguRefIdeal.Facts) (hDown : Cert.Down.Facts) (hDownIdeal : Cert.DownIdeal.Facts) (hDownRefIdeal : Cert.DownRefIdeal.Facts) (hDhh : Cert.Dhh.Facts) (hDhhIdeal : Cert.DhhIdeal.Facts) (hDhhRefIdeal : Cert.DhhRefIdeal.Facts) (hDwFfn : Cert.DwFfn.Facts) (hDwFfnIdeal : Cert.DwFfnIdeal.Facts) (hDwFfnRefIdeal : Cert.DwFfnRefIdeal.Facts) (hDwDown : Cert.DwDown.Facts) (hDwDownIdeal : Cert.DwDownIdeal.Facts) (hDwDownRefIdeal : Cert.DwDownRefIdeal.Facts) (hDwIn : Cert.DwIn.Facts) (hDwInIdeal : Cert.DwInIdeal.Facts) (hDwInRefIdeal : Cert.DwInRefIdeal.Facts) (hDh : Cert.Dh.Facts) (hDhIdeal : Cert.DhIdeal.Facts) (hDhRefIdeal : Cert.DhRefIdeal.Facts) (hDwOut : Cert.DwOut.Facts) (hDwOutIdeal : Cert.DwOutIdeal.Facts) (hDwOutRefIdeal : Cert.DwOutRefIdeal.Facts) (hDwBranch : Cert.DwBranch.Facts) (hDwBranchIdeal : Cert.DwBranchIdeal.Facts) (hDwBranchRefIdeal : Cert.DwBranchRefIdeal.Facts) (hBranch : Cert.Branch.Facts) (hBranchIdeal : Cert.BranchIdeal.Facts) (hBranchRefIdeal : Cert.BranchRefIdeal.Facts) (hOut : Cert.Out.Facts) (hOutIdeal : Cert.OutIdeal.Facts) (hOutRefIdeal : Cert.OutRefIdeal.Facts) (hRms : Cert.Rms.Facts) (hRmsIdeal : Cert.RmsIdeal.Facts) (hRmsRefIdeal : Cert.RmsRefIdeal.Facts) (hAttn : Cert.Attn.Facts) (hAttnIdeal : Cert.AttnIdeal.Facts) (hAttnRefIdeal : Cert.AttnRefIdeal.Facts) (hQk : Cert.Qk.Facts) (hQkIdeal : Cert.QkIdeal.Facts) (hQkRefIdeal : Cert.QkRefIdeal.Facts) (hProjIn : Cert.ProjIn.Facts) (hProjInIdeal : Cert.ProjInIdeal.Facts) (hProjInRefIdeal : Cert.ProjInRefIdeal.Facts) (hGate : Cert.Gate.Facts) (hGateIdeal : Cert.GateIdeal.Facts) (hGateRefIdeal : Cert.GateRefIdeal.Facts) (hUpAct : Cert.UpAct.Facts) (hUpActIdeal : Cert.UpActIdeal.Facts) (hUpActRefIdeal : Cert.UpActRefIdeal.Facts) (hDownProj : Cert.DownProj.Facts) (hDownProjIdeal : Cert.DownProjIdeal.Facts) (hDownProjRefIdeal : Cert.DownProjRefIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hSguFwd : Cert.SguFwd.Facts) (hSguFwdIdeal : Cert.SguFwdIdeal.Facts) (hSguFwdRefIdeal : Cert.SguFwdRefIdeal.Facts) (hAttnFwd : Cert.AttnFwd.Facts) (hAttnFwdIdeal : Cert.AttnFwdIdeal.Facts) (hAttnFwdRefIdeal : Cert.AttnFwdRefIdeal.Facts) (hQkPrep : Cert.QkPrep.Facts) (hQkPrepIdeal : Cert.QkPrepIdeal.Facts) (hQkPrepRefIdeal : Cert.QkPrepRefIdeal.Facts) (hPre_sgu_finite : Cert.Pre_sgu_finite.Facts) (hPre_down_finite : Cert.Pre_down_finite.Facts) (hPre_rms_finite : Cert.Pre_rms_finite.Facts) (hPre_attn_finite : Cert.Pre_attn_finite.Facts) (hPre_qk_finite : Cert.Pre_qk_finite.Facts) (hPre_attn_fwd_finite : Cert.Pre_attn_fwd_finite.Facts) (hPre_qk_prep_finite : Cert.Pre_qk_prep_finite.Facts),
    quiescent_SguBwd (hSguBwd := hSguBwd)
    ∧ quiescent_SguBwdIdeal (hSguBwdIdeal := hSguBwdIdeal)
    ∧ quiescent_SguBwdIdeal_pre_sgu_finite (hSguBwdIdeal := hSguBwdIdeal) (hPre_sgu_finite := hPre_sgu_finite)
    ∧ quiescent_SguRefIdeal (hSguRefIdeal := hSguRefIdeal)
    ∧ quiescent_SguRefIdeal_pre_sgu_finite (hSguRefIdeal := hSguRefIdeal) (hPre_sgu_finite := hPre_sgu_finite)
    ∧ quiescent_Down (hDown := hDown)
    ∧ quiescent_DownIdeal (hDownIdeal := hDownIdeal)
    ∧ quiescent_DownIdeal_pre_down_finite (hDownIdeal := hDownIdeal) (hPre_down_finite := hPre_down_finite)
    ∧ quiescent_DownRefIdeal (hDownRefIdeal := hDownRefIdeal)
    ∧ quiescent_DownRefIdeal_pre_down_finite (hDownRefIdeal := hDownRefIdeal) (hPre_down_finite := hPre_down_finite)
    ∧ quiescent_Dhh (hDhh := hDhh)
    ∧ quiescent_DhhIdeal (hDhhIdeal := hDhhIdeal)
    ∧ quiescent_DhhRefIdeal (hDhhRefIdeal := hDhhRefIdeal)
    ∧ quiescent_DwFfn (hDwFfn := hDwFfn)
    ∧ quiescent_DwFfnIdeal (hDwFfnIdeal := hDwFfnIdeal)
    ∧ quiescent_DwFfnRefIdeal (hDwFfnRefIdeal := hDwFfnRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dh (hDh := hDh)
    ∧ quiescent_DhIdeal (hDhIdeal := hDhIdeal)
    ∧ quiescent_DhRefIdeal (hDhRefIdeal := hDhRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwBranch (hDwBranch := hDwBranch)
    ∧ quiescent_DwBranchIdeal (hDwBranchIdeal := hDwBranchIdeal)
    ∧ quiescent_DwBranchRefIdeal (hDwBranchRefIdeal := hDwBranchRefIdeal)
    ∧ quiescent_Branch (hBranch := hBranch)
    ∧ quiescent_BranchIdeal (hBranchIdeal := hBranchIdeal)
    ∧ quiescent_BranchRefIdeal (hBranchRefIdeal := hBranchRefIdeal)
    ∧ quiescent_Out (hOut := hOut)
    ∧ quiescent_OutIdeal (hOutIdeal := hOutIdeal)
    ∧ quiescent_OutRefIdeal (hOutRefIdeal := hOutRefIdeal)
    ∧ quiescent_Rms (hRms := hRms)
    ∧ quiescent_RmsIdeal (hRmsIdeal := hRmsIdeal)
    ∧ quiescent_RmsIdeal_pre_rms_finite (hRmsIdeal := hRmsIdeal) (hPre_rms_finite := hPre_rms_finite)
    ∧ quiescent_RmsRefIdeal (hRmsRefIdeal := hRmsRefIdeal)
    ∧ quiescent_RmsRefIdeal_pre_rms_finite (hRmsRefIdeal := hRmsRefIdeal) (hPre_rms_finite := hPre_rms_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Qk (hQk := hQk)
    ∧ quiescent_QkIdeal (hQkIdeal := hQkIdeal)
    ∧ quiescent_QkIdeal_pre_qk_finite (hQkIdeal := hQkIdeal) (hPre_qk_finite := hPre_qk_finite)
    ∧ quiescent_QkRefIdeal (hQkRefIdeal := hQkRefIdeal)
    ∧ quiescent_QkRefIdeal_pre_qk_finite (hQkRefIdeal := hQkRefIdeal) (hPre_qk_finite := hPre_qk_finite)
    ∧ quiescent_ProjIn (hProjIn := hProjIn)
    ∧ quiescent_ProjInIdeal (hProjInIdeal := hProjInIdeal)
    ∧ quiescent_ProjInRefIdeal (hProjInRefIdeal := hProjInRefIdeal)
    ∧ quiescent_Gate (hGate := hGate)
    ∧ quiescent_GateIdeal (hGateIdeal := hGateIdeal)
    ∧ quiescent_GateRefIdeal (hGateRefIdeal := hGateRefIdeal)
    ∧ quiescent_UpAct (hUpAct := hUpAct)
    ∧ quiescent_UpActIdeal (hUpActIdeal := hUpActIdeal)
    ∧ quiescent_UpActRefIdeal (hUpActRefIdeal := hUpActRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_QkPrep (hQkPrep := hQkPrep)
    ∧ quiescent_QkPrepIdeal (hQkPrepIdeal := hQkPrepIdeal)
    ∧ quiescent_QkPrepIdeal_pre_qk_prep_finite (hQkPrepIdeal := hQkPrepIdeal) (hPre_qk_prep_finite := hPre_qk_prep_finite)
    ∧ quiescent_QkPrepRefIdeal (hQkPrepRefIdeal := hQkPrepRefIdeal)
    ∧ quiescent_QkPrepRefIdeal_pre_qk_prep_finite (hQkPrepRefIdeal := hQkPrepRefIdeal) (hPre_qk_prep_finite := hPre_qk_prep_finite)
    ∧ preserves_SguBwd_SguBwdIdeal
    ∧ algebraic_SguBwdIdeal_SguRefIdeal_pre_sgu_finite (hSguBwdIdeal := hSguBwdIdeal) (hSguRefIdeal := hSguRefIdeal) (hPre_sgu_finite := hPre_sgu_finite)
    ∧ preserves_Down_DownIdeal
    ∧ algebraic_DownIdeal_DownRefIdeal_pre_down_finite (hDownIdeal := hDownIdeal) (hDownRefIdeal := hDownRefIdeal) (hPre_down_finite := hPre_down_finite)
    ∧ preserves_Dhh_DhhIdeal
    ∧ algebraic_DhhIdeal_DhhRefIdeal (hDhhIdeal := hDhhIdeal) (hDhhRefIdeal := hDhhRefIdeal)
    ∧ preserves_DwFfn_DwFfnIdeal
    ∧ algebraic_DwFfnIdeal_DwFfnRefIdeal (hDwFfnIdeal := hDwFfnIdeal) (hDwFfnRefIdeal := hDwFfnRefIdeal)
    ∧ preserves_DwDown_DwDownIdeal
    ∧ algebraic_DwDownIdeal_DwDownRefIdeal (hDwDownIdeal := hDwDownIdeal) (hDwDownRefIdeal := hDwDownRefIdeal)
    ∧ preserves_DwIn_DwInIdeal
    ∧ algebraic_DwInIdeal_DwInRefIdeal (hDwInIdeal := hDwInIdeal) (hDwInRefIdeal := hDwInRefIdeal)
    ∧ preserves_Dh_DhIdeal
    ∧ algebraic_DhIdeal_DhRefIdeal (hDhIdeal := hDhIdeal) (hDhRefIdeal := hDhRefIdeal)
    ∧ preserves_DwOut_DwOutIdeal
    ∧ algebraic_DwOutIdeal_DwOutRefIdeal (hDwOutIdeal := hDwOutIdeal) (hDwOutRefIdeal := hDwOutRefIdeal)
    ∧ preserves_DwBranch_DwBranchIdeal
    ∧ algebraic_DwBranchIdeal_DwBranchRefIdeal (hDwBranchIdeal := hDwBranchIdeal) (hDwBranchRefIdeal := hDwBranchRefIdeal)
    ∧ preserves_Branch_BranchIdeal
    ∧ algebraic_BranchIdeal_BranchRefIdeal (hBranchIdeal := hBranchIdeal) (hBranchRefIdeal := hBranchRefIdeal)
    ∧ preserves_Out_OutIdeal
    ∧ algebraic_OutIdeal_OutRefIdeal (hOutIdeal := hOutIdeal) (hOutRefIdeal := hOutRefIdeal)
    ∧ preserves_Rms_RmsIdeal
    ∧ algebraic_RmsIdeal_RmsRefIdeal_pre_rms_finite (hRmsIdeal := hRmsIdeal) (hRmsRefIdeal := hRmsRefIdeal) (hPre_rms_finite := hPre_rms_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Qk_QkIdeal
    ∧ algebraic_QkIdeal_QkRefIdeal_pre_qk_finite (hQkIdeal := hQkIdeal) (hQkRefIdeal := hQkRefIdeal) (hPre_qk_finite := hPre_qk_finite)
    ∧ preserves_ProjIn_ProjInIdeal
    ∧ algebraic_ProjInIdeal_ProjInRefIdeal (hProjInIdeal := hProjInIdeal) (hProjInRefIdeal := hProjInRefIdeal)
    ∧ preserves_Gate_GateIdeal
    ∧ algebraic_GateIdeal_GateRefIdeal (hGateIdeal := hGateIdeal) (hGateRefIdeal := hGateRefIdeal)
    ∧ preserves_UpAct_UpActIdeal
    ∧ algebraic_UpActIdeal_UpActRefIdeal (hUpActIdeal := hUpActIdeal) (hUpActRefIdeal := hUpActRefIdeal)
    ∧ preserves_DownProj_DownProjIdeal
    ∧ algebraic_DownProjIdeal_DownProjRefIdeal (hDownProjIdeal := hDownProjIdeal) (hDownProjRefIdeal := hDownProjRefIdeal)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_SguFwd_SguFwdIdeal
    ∧ algebraic_SguFwdIdeal_SguFwdRefIdeal (hSguFwdIdeal := hSguFwdIdeal) (hSguFwdRefIdeal := hSguFwdRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_QkPrep_QkPrepIdeal
    ∧ algebraic_QkPrepIdeal_QkPrepRefIdeal_pre_qk_prep_finite (hQkPrepIdeal := hQkPrepIdeal) (hQkPrepRefIdeal := hQkPrepRefIdeal) (hPre_qk_prep_finite := hPre_qk_prep_finite)
-- ==== Pre_attn_finite.lean ====
abbrev S2048x1024 : Shape := ⟨2, ![2048, 1024]⟩
abbrev S2048x256 : Shape := ⟨2, ![2048, 256]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S16 : S_.BroadcastsInDim S16 (![] : Fin 0 → Fin S16.rank)

variable [Facts]

def fn {F : FTy → Type} [FloatOps F] (main_arg0 : FVec F S2048x1024 .f32) (main_arg1 : FVec F S2048x256 .f32) (main_arg2 : FVec F S2048x256 .f32) (main_arg3 : FVec F S16 .f32) (main_arg4 : FVec F S2048x1024 .f32) : IVec S2048x1024 1 × IVec S2048x256 1 × IVec S2048x256 1 × IVec S16 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S2048x256 .f32 := Host.absf main_arg2
  let main_cst_1 : FVec F S_ .f32 := constant S_ .f32 0x7F800000#32
  let main_v7 : FVec F S2048x256 .f32 := broadcastInDim S2048x256 ![] bcast_S_S2048x256 main_cst_1
  let main_v8 : IVec S2048x256 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_attn_fwd_finite.lean ====
abbrev S2048x1024 : Shape := ⟨2, ![2048, 1024]⟩
abbrev S2048x256 : Shape := ⟨2, ![2048, 256]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S16 : S_.BroadcastsInDim S16 (![] : Fin 0 → Fin S16.rank)

variable [Facts]

def fn {F : FTy → Type} [FloatOps F] (main_arg0 : FVec F S2048x1024 .f32) (main_arg1 : FVec F S2048x256 .f32) (main_arg2 : FVec F S2048x256 .f32) (main_arg3 : FVec F S16 .f32) : IVec S2048x1024 1 × IVec S2048x256 1 × IVec S16 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Pre_down_finite.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

class Facts : Prop where
  bcast_S_S2048x5632 : S_.BroadcastsInDim S2048x5632 (![] : Fin 0 → Fin S2048x5632.rank)
  bcast_S_S5632x2048 : S_.BroadcastsInDim S5632x2048 (![] : Fin 0 → Fin S5632x2048.rank)
  bcast_S_S2048x2048 : S_.BroadcastsInDim S2048x2048 (![] : Fin 0 → Fin S2048x2048.rank)

variable [Facts]

def fn {F : FTy → Type} [FloatOps F] (main_arg0 : FVec F S2048x5632 .f32) (main_arg1 : FVec F S2048x5632 .f32) (main_arg2 : FVec F S5632x2048 .f32) (main_arg3 : FVec F S2048x2048 .f32) : IVec S2048x5632 1 × IVec S2048x5632 1 × IVec S5632x2048 1 × IVec S2048x2048 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S2048x5632 .f32 := Host.absf main_arg1
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S5632x2048 .f32 := Host.absf main_arg2
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Pre_qk_finite.lean ====
abbrev S2048x7680 : Shape := ⟨2, ![2048, 7680]⟩
abbrev S64 : Shape := ⟨1, ![64]⟩
abbrev S2048x32 : Shape := ⟨2, ![2048, 32]⟩
abbrev S2048x1024 : Shape := ⟨2, ![2048, 1024]⟩
abbrev S2048x512 : Shape := ⟨2, ![2048, 512]⟩
abbrev S_ : Shape := ⟨0, ![]⟩

class Facts : Prop where
  bcast_S_S2048x7680 : S_.BroadcastsInDim S2048x7680 (![] : Fin 0 → Fin S2048x7680.rank)
  bcast_S_S64 : S_.BroadcastsInDim S64 (![] : Fin 0 → Fin S64.rank)
  bcast_S_S2048x32 : S_.BroadcastsInDim S2048x32 (![] : Fin 0 → Fin S2048x32.rank)
  bcast_S_S2048x1024 : S_.BroadcastsInDim S2048x1024 (![] : Fin 0 → Fin S2048x1024.rank)
  bcast_S_S2048x512 : S_.BroadcastsInDim S2048x512 (![] : Fin 0 → Fin S2048x512.rank)

variable [Facts]

def fn_part1 {F : FTy → Type} [FloatOps F] (main_arg6 : FVec F S2048x512 .f32) (main_arg7 : FVec F S2048x512 .f32) (main_v2 : IVec S2048x7680 1) (main_v5 : IVec S64 1) (main_v8 : IVec S64 1) (main_v11 : IVec S2048x32 1) (main_v14 : IVec S2048x32 1) (main_v17 : IVec S2048x1024 1) : IVec S2048x7680 1 × IVec S64 1 × IVec S64 1 × IVec S2048x32 1 × IVec S2048x32 1 × IVec S2048x1024 1 × IVec S2048x512 1 × IVec S2048x512 1 :=
  let main_v18 : FVec F S2048x512 .f32 := Host.absf main_arg6
  let main_cst_5 : FVec F S_ .f32 := constant S_ .f32 0x7F800000#32
  let main_v19 : FVec F S2048x512 .f32 := broadcastInDim S2048x512 ![] bcast_S_S2048x512 main_cst_5
  let main_v20 : IVec S2048x512 1 := cmpf .olt main_v18 main_v19
  let main_v21 : FVec F S2048x512 .f32 := Host.absf main_arg7
  let main_cst_6 : FVec F S_ .f32 := constant S_ .f32 0x7F800000#32
  let main_v22 : FVec F S2048x512 .f32 := broadcastInDim S2048x512 ![] bcast_S_S2048x512 main_cst_6
  let main_v23 : IVec S2048x512 1 := cmpf .olt main_v21 main_v22
  (main_v2, main_v5, main_v8, main_v11, main_v14, main_v17, main_v20, main_v23)

def fn {F : FTy → Type} [FloatOps F] (main_arg0 : FVec F S2048x7680 .f32) (main_arg1 : FVec F S64 .f32) (main_arg2 : FVec F S64 .f32) (main_arg3 : FVec F S2048x32 .f32) (main_arg4 : FVec F S2048x32 .f32) (main_arg5 : FVec F S2048x1024 .f32) (main_arg6 : FVec F S2048x512 .f32) (main_arg7 : FVec F S2048x512 .f32) (main_arg8 : FVec F S2048x512 .f32) (main_arg9 : FVec F S2048x512 .f32) : IVec S2048x7680 1 × IVec S64 1 × IVec S64 1 × IVec S2048x32 1 × IVec S2048x32 1 × IVec S2048x1024 1 × IVec S2048x512 1 × IVec S2048x512 1 :=
  let main_v0 : FVec F S2048x7680 .f32 := Host.absf main_arg0
  let main_cst : FVec F S_ .f32 := constant S_ .f32 0x7F800000#32
  let main_v1 : FVec F S2048x7680 .f32 := broadcastInDim S2048x7680 ![] bcast_S_S2048x7680 main_cst
  let main_v2 : IVec S2048x7680 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S2048x32 .f32 := Host.absf main_arg3
  let main_cst_2 : FVec F S_ .f32 := constant S_ .f32 0x7F800000#32
  let main_v10 : FVec F S2048x32 .f32 := broadcastInDim S2048x32 ![] bcast_S_S2048x32 main_cst_2
  let main_v11 : IVec S2048x32 1 := cmpf .olt main_v9 main_v10
  let main_v12 : FVec F S2048x32 .f32 := Host.absf main_arg4
  let main_cst_3 : FVec F S_ .f32 := constant S_ .f32 0x7F800000#32
  let main_v13 : FVec F S2048x32 .f32 := broadcastInDim S2048x32 ![] bcast_S_S2048x32 main_cst_3
  let main_v14 : IVec S2048x32 1 := cmpf .olt main_v12 main_v13
  let main_v15 : FVec F S2048x1024 .f32 := Host.absf main_arg5
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  fn_part1 (F := F) main_arg6 main_arg7 main_v2 main_v5 main_v8 main_v11 main_v14 main_v17
-- ==== Pre_qk_prep_finite.lean ====
abbrev S2048x7680 : Shape := ⟨2, ![2048, 7680]⟩
abbrev S64 : Shape := ⟨1, ![64]⟩
abbrev S2048x32 : Shape := ⟨2, ![2048, 32]⟩
abbrev S2048x1280 : Shape := ⟨2, ![2048, 1280]⟩
abbrev S_ : Shape := ⟨0, ![]⟩

class Facts : Prop where
  slices_S2048x7680_S2048x1280_0_0 : S2048x7680.Slices ![0, 0] S2048x1280
  bcast_S_S2048x1280 : S_.BroadcastsInDim S2048x1280 (![] : Fin 0 → Fin S2048x1280.rank)

variable [Facts]

def fn {F : FTy → Type} [FloatOps F] (main_arg0 : FVec F S2048x7680 .f32) (main_arg1 : FVec F S64 .f32) (main_arg2 : FVec F S64 .f32) (main_arg3 : FVec F S2048x32 .f32) (main_arg4 : FVec F S2048x32 .f32) : IVec S2048x1280 1 :=
  let main_v0 : FVec F S2048x1280 .f32 := (extractStridedSlice S2048x1280 ![0, 0] · slices_S2048x7680_S2048x1280_0_0) main_arg0
  let main_v1 : FVec F S2048x1280 .f32 := Host.absf main_v0
  let main_cst : FVec F S_ .f32 := constant S_ .f32 0x7F800000#32
  let main_v2 : FVec F S2048x1280 .f32 := broadcastInDim S2048x1280 ![] bcast_S_S2048x1280 main_cst
  let main_v3 : IVec S2048x1280 1 := cmpf .olt main_v1 main_v2
  main_v3
-- ==== Pre_rms_finite.lean ====
abbrev S2048x2048 : Shape := ⟨2, ![2048, 2048]⟩
abbrev S2048 : Shape := ⟨1, ![2048]⟩
abbrev S8x128 : Shape := ⟨2, ![8, 128]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048 .f32) (main_arg2 : FVec F S2048x2048 .f32) (main_arg3 : FVec F S2048x2048 .f32) (main_arg4 : FVec F S8x128 .f32) : IVec S2048x2048 1 × IVec S2048 1 × IVec S2048x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Pre_sgu_finite.lean ====
abbrev S2048x7680 : Shape := ⟨2, ![2048, 7680]⟩
abbrev S1024 : Shape := ⟨1, ![1024]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩

class Facts : Prop where
  bcast_S_S2048x7680 : S_.BroadcastsInDim S2048x7680 (![] : Fin 0 → Fin S2048x7680.rank)
  bcast_S_S1024 : S_.BroadcastsInDim S1024 (![] : Fin 0 → Fin S1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S2048x1024 : S_.BroadcastsInDim S2048x1024 (![] : Fin 0 → Fin S2048x1024.rank)

variable [Facts]

def fn {F : FTy → Type} [FloatOps F] (main_arg0 : FVec F S2048x7680 .f32) (main_arg1 : FVec F S1024 .f32) (main_arg2 : FVec F S1024 .f32) (main_arg3 : FVec F S8x128x128 .f32) (main_arg4 : FVec F S8x128 .f32) (main_arg5 : FVec F S2048x1024 .f32) (main_arg6 : FVec F S8x128 .f32) : IVec S2048x7680 1 × IVec S1024 1 × IVec S1024 1 × IVec S8x128x128 1 × IVec S8x128 1 × IVec S2048x1024 1 :=
  let main_v0 : FVec F S2048x7680 .f32 := Host.absf main_arg0
  let main_cst : FVec F S_ .f32 := constant S_ .f32 0x7F800000#32
  let main_v1 : FVec F S2048x7680 .f32 := broadcastInDim S2048x7680 ![] bcast_S_S2048x7680 main_cst
  let main_v2 : IVec S2048x7680 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_v12 : FVec F S8x128 .f32 := Host.absf main_arg4
  let main_cst_3 : FVec F S_ .f32 := constant S_ .f32 0x7F800000#32
  let main_v13 : FVec F S8x128 .f32 := broadcastInDim S8x128 ![] bcast_S_S8x128 main_cst_3
  let main_v14 : IVec S8x128 1 := cmpf .olt main_v12 main_v13
  let main_v15 : FVec F S2048x1024 .f32 := Host.absf main_arg5
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== SguBwd.lean ====
abbrev S2048x7680 : Shape := ⟨2, ![2048, 7680]⟩
abbrev S1024 : Shape := ⟨1, ![1024]⟩
abbrev S8x128x128 : Shape := ⟨3, ![8, 128, 128]⟩
abbrev S8x128 : Shape := ⟨2, ![8, 128]⟩
abbrev S2048x1024 : Shape := ⟨2, ![2048, 1024]⟩
abbrev S1x1024 : Shape := ⟨2, ![1, 1024]⟩
abbrev S8x128x1 : Shape := ⟨3, ![8, 128, 1]⟩
abbrev S256x512 : Shape := ⟨2, ![256, 512]⟩
abbrev S1x512 : Shape := ⟨2, ![1, 512]⟩
abbrev S4x128x128 : Shape := ⟨3, ![4, 128, 128]⟩
abbrev S4x128x1 : Shape := ⟨3, ![4, 128, 1]⟩
abbrev S256x128 : Shape := ⟨2, ![256, 128]⟩
abbrev S1x128 : Shape := ⟨2, ![1, 128]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S256 : Shape := ⟨1, ![256]⟩
abbrev S256x1 : Shape := ⟨2, ![256, 1]⟩
abbrev S128 : Shape := ⟨1, ![128]⟩

abbrev nBuf : Space → Nat
  | .hbm => 16
  | .vmem => 26
  | .smem => 0
  | _ => 0

abbrev bufTy : (tb : Table) → Fin (tcTables nBuf tb) → BufTy
  | .hbm, ⟨0, _⟩ => ⟨S2048x7680, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S2048x1024, .f32⟩
  | .hbm, ⟨6, _⟩ => ⟨S8x128, .f32⟩
  | .hbm, ⟨7, _⟩ => ⟨S1x1024, .f32⟩
  | .hbm, ⟨8, _⟩ => ⟨S1x1024, .f32⟩
  | .hbm, ⟨9, _⟩ => ⟨S8x128x1, .f32⟩
  | .hbm, ⟨10, _⟩ => ⟨S2048x1024, .bf16⟩
  | .hbm, ⟨11, _⟩ => ⟨S2048x1024, .bf16⟩
  | .hbm, ⟨12, _⟩ => ⟨S8x128x128, .f32⟩
  | .hbm, ⟨13, _⟩ => ⟨S8x128x1, .f32⟩
  | .hbm, ⟨14, _⟩ => ⟨S1x1024, .f32⟩
  | .hbm, ⟨15, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S4x128x128, .f32⟩
  | .local _ .vmem, ⟨10, _⟩ => ⟨S4x128x1, .f32⟩
  | .local _ .vmem, ⟨11, _⟩ => ⟨S4x128x1, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S4x128x128, .f32⟩
  | .local _ .vmem, ⟨19, _⟩ => ⟨S4x128x128, .f32⟩
  | .local _ .vmem, ⟨20, _⟩ => ⟨S4x128x1, .f32⟩
  | .local _ .vmem, ⟨21, _⟩ => ⟨S4x128x1, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SguBwdIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== SguRefIdeal.lean ====
abbrev S2048x7680 : Shape := ⟨2, ![2048, 7680]⟩
abbrev S1024 : Shape := ⟨1, ![1024]⟩
abbrev S8x128x128 : Shape := ⟨3, ![8, 128, 128]⟩
abbrev S8x128 : Shape := ⟨2, ![8, 128]⟩
abbrev S2048x1024 : Shape := ⟨2, ![2048, 1024]⟩
abbrev S2048x2048 : Shape := ⟨2, ![2048, 2048]⟩
abbrev S1x2048x2048 : Shape := ⟨3, ![1, 2048, 2048]⟩
abbrev S_ : Shape := ⟨0, ![]⟩
abbrev S1x2048x1024 : Shape := ⟨3, ![1, 2048, 1024]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S1x1x8x128 : Shape := ⟨4, ![1, 1, 8, 128]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x8x128 : Shape := ⟨3, ![1, 8, 128]⟩
abbrev S2048x8 : Shape := ⟨2, ![2048, 8]⟩
abbrev S8x128x1 : Shape := ⟨3, ![8, 128, 1]⟩
abbrev S1x1024 : Shape := ⟨2, ![1, 1024]⟩

abbrev nBuf : Space → Nat
  | .hbm => 207
  | .vmem => 0
  | .smem => 0
  | _ => 0

abbrev hbmTy0_0 (i : Nat) : BufTy := match i % 128 with
  | 0 => ⟨S2048x7680, .f32⟩
  | 1 => ⟨S1024, .f32⟩
  | 2 => ⟨S1024, .f32⟩
  | 3 => ⟨S8x128x128, .f32⟩
  | 4 => ⟨S8x128, .f32⟩
  | 5 => ⟨S2048x1024, .f32⟩
  | 6 => ⟨S8x128, .f32⟩
  | 7 => ⟨S2048x2048, .f32⟩
  | 8 => ⟨S1x2048x2048, .f32⟩
  | 9 => ⟨S1x2048x2048, .f32⟩
  | 10 => ⟨S1x2048x2048, .f32⟩
  | 11 => ⟨S1x2048x2048, .f32⟩
  | 12 => ⟨S_, .f32⟩
  | 13 => ⟨S1x2048x2048, .f32⟩
  | 14 => ⟨S1x2048x2048, .f32⟩
  | 15 => ⟨S_, .f32⟩
  | 16 => ⟨S1x2048x2048, .f32⟩
  | 17 => ⟨S1x2048x2048, .f32⟩
  | 18 => ⟨S_, .f32⟩
  | 19 => ⟨S1x2048x2048, .f32⟩
  | 20 => ⟨S1x2048x2048, .f32⟩
  | 21 => ⟨S1x2048x2048, .f32⟩
  | 22 => ⟨S_, .f32⟩
  | 23 => ⟨S1x2048x2048, .f32⟩
  | 24 => ⟨S1x2048x2048, .f32⟩
  | 25 => ⟨S1x2048x2048, .f32⟩
  | 26 => ⟨S_, .f32⟩
  | 27 => ⟨S1x2048x2048, .f32⟩
  | 28 => ⟨S1x2048x2048, .f32⟩
  | 29 => ⟨S_, .f32⟩
  | 30 => ⟨S1x2048x2048, .f32⟩
  | 31 => ⟨S1x2048x2048, .f32⟩
  | 32 => ⟨S1x2048x2048, .f32⟩
  | 33 => ⟨S_, .f32⟩
  | 34 => ⟨S1x2048x2048, .f32⟩
  | 35 => ⟨S1x2048x2048, .f32⟩
  | 36 => ⟨S_, .f32⟩
  | 37 => ⟨S1x2048x2048, .f32⟩
  | 38 => ⟨S1x2048x2048, .f32⟩
  | 39 => ⟨S1x2048x2048, .f32⟩
  | 40 => ⟨S1x2048x1024, .f32⟩
  | 41 => ⟨S1x2048x1024, .f32⟩
  | 42 => ⟨S1x2048x8x128, .f32⟩
  | 43 => ⟨S_, .f32⟩
  | 44 => ⟨S1x2048x8, .f32⟩
  | 45 => ⟨S1x2048x8x1, .f32⟩
  | 46 => ⟨S_, .f32⟩
  | 47 => ⟨S1x2048x8x1, .f32⟩
  | 48 => ⟨S1x2048x8x1, .f32⟩
  | 49 => ⟨S1x2048x8x128, .f32⟩
  | 50 => ⟨S1x2048x8x128, .f32⟩
  | 51 => ⟨S1x2048x8x128, .f32⟩
  | 52 => ⟨S_, .f32⟩
  | 53 => ⟨S1x2048x8x128, .f32⟩
  | 54 => ⟨S1x2048x8x128, .f32⟩
  | 55 => ⟨S_, .f32⟩
  | 56 => ⟨S1x2048x8, .f32⟩
  | 57 => ⟨S1x2048x8x1, .f32⟩
  | 58 => ⟨S_, .f32⟩
  | 59 => ⟨S1x2048x8x1, .f32⟩
  | 60 => ⟨S1x2048x8x1, .f32⟩
  | 61 => ⟨S1x2048x8x128, .f32⟩
  | 62 => ⟨S1x2048x8x128, .f32⟩
  | 63 => ⟨S_, .f32⟩
  | 64 => ⟨S1x2048x8x1, .f32⟩
  | 65 => ⟨S1x2048x8x1, .f32⟩
  | 66 => ⟨S1x2048x8x1, .f32⟩
  | 67 => ⟨S1x2048x8x1, .f32⟩
  | 68 => ⟨S_, .f32⟩
  | 69 => ⟨S1x2048x8x1, .f32⟩
  | 70 => ⟨S1x2048x8x1, .f32⟩
  | 71 => ⟨S1x2048x8x128, .f32⟩
  | 72 => ⟨S1x2048x8x128, .f32⟩
  | 73 => ⟨S8x128, .f32⟩
  | 74 => ⟨S1x1x8x128, .f32⟩
  | 75 => ⟨S1x2048x8x128, .f32⟩
  | 76 => ⟨S1x2048x8x128, .f32⟩
  | 77 => ⟨S8x128, .f32⟩
  | 78 => ⟨S1x1x8x128, .f32⟩
  | 79 => ⟨S1x2048x8x128, .f32⟩
  | 80 => ⟨S1x2048x8x128, .f32⟩
  | 81 => ⟨S1x16x128x8x128, .f32⟩
  | 82 => ⟨S_, .i1⟩
  | 83 => ⟨S128x128, .i1⟩
  | 84 => ⟨S128x128, .i32⟩
  | 85 => ⟨S_, .i32⟩
  | 86 => ⟨S128x128, .i32⟩
  | 87 => ⟨S128x128, .i32⟩
  | 88 => ⟨S128x128, .i32⟩
  | 89 => ⟨S128x128, .i1⟩
  | 90 => ⟨S_, .i1⟩
  | 91 => ⟨S128x128, .i1⟩
  | 92 => ⟨S128x128, .i1⟩
  | 93 => ⟨S1x128x128, .i1⟩
  | 94 => ⟨S_, .f32⟩
  | 95 => ⟨S8x128x128, .f32⟩
  | 96 => ⟨S8x128x128, .i1⟩
  | 97 => ⟨S8x128x128, .f32⟩
  | 98 => ⟨S_, .f32⟩
  | 99 => ⟨S8x128x128, .f32⟩
  | 100 => ⟨S8x1x16x128x128, .f32⟩
  | 101 => ⟨S1x16x128x8x128, .f32⟩
  | 102 => ⟨S128x8, .f32⟩
  | 103 => ⟨S1x1x128x8x1, .f32⟩
  | 104 => ⟨S1x16x128x8x128, .f32⟩
  | 105 => ⟨S1x16x128x8x128, .f32⟩
  | 106 => ⟨S1x2048x1024, .f32⟩
  | 107 => ⟨S1x2048x1024, .f32⟩
  | 108 => ⟨S1x2048x1024, .f32⟩
  | 109 => ⟨S1x2048x1024, .f32⟩
  | 110 => ⟨S1x2048x1024, .f32⟩
  | 111 => ⟨S1x16x128x8x128, .f32⟩
  | 112 => ⟨S_, .f32⟩
  | 113 => ⟨S1x128x8, .f32⟩
  | 114 => ⟨S1x1x128x8x1, .f32⟩
  | 115 => ⟨S_, .f32⟩
  | 116 => ⟨S128x8, .f32⟩
  | 117 => ⟨S8x128, .f32⟩
  | 118 => ⟨S8x1x16x128x128, .f32⟩
  | 119 => ⟨S8x128x128, .f32⟩
  | 120 => ⟨S8x1x16x128x128, .f32⟩
  | 121 => ⟨S1x16x128x8x128, .f32⟩
  | 122 => ⟨S_, .f32⟩
  | 123 => ⟨S8x128x128, .f32⟩
  | 124 => ⟨S8x128x128, .f32⟩
  | 125 => ⟨S1x2048x8x128, .f32⟩
  | 126 => ⟨S_, .f32⟩
  | 127 => ⟨S1x8x128, .f32⟩
  | _ => ⟨S2048x7680, .f32⟩

abbrev hbmTy0_1 (i : Nat) : BufTy := match i % 128 with
  | 0 => ⟨S1x1x8x128, .f32⟩
  | 1 => ⟨S_, .f32⟩
  | 2 => ⟨S8x128, .f32⟩
  | 3 => ⟨S1024, .f32⟩
  | 4 => ⟨S1x2048x8x128, .f32⟩
  | 5 => ⟨S_, .f32⟩
  | 6 => ⟨S1x8x128, .f32⟩
  | 7 => ⟨S1x1x8x128, .f32⟩
  | 8 => ⟨S1x2048x8x128, .f32⟩
  | 9 => ⟨S1x2048x8x128, .f32⟩
  | 10 => ⟨S_, .f32⟩
  | 11 => ⟨S8x128, .f32⟩
  | 12 => ⟨S1024, .f32⟩
  | 13 => ⟨S1x2048x8x128, .f32⟩
  | 14 => ⟨S_, .f32⟩
  | 15 => ⟨S1x2048x8, .f32⟩
  | 16 => ⟨S1x2048x8x1, .f32⟩
  | 17 => ⟨S1x2048x8x128, .f32⟩
  | 18 => ⟨S1x2048x8x128, .f32⟩
  | 19 => ⟨S1x2048x8x1, .f32⟩
  | 20 => ⟨S1x2048x8x128, .f32⟩
  | 21 => ⟨S_, .f32⟩
  | 22 => ⟨S1x2048x8, .f32⟩
  | 23 => ⟨S1x2048x8x1, .f32⟩
  | 24 => ⟨S_, .f32⟩
  | 25 => ⟨S1x2048x8x1, .f32⟩
  | 26 => ⟨S1x2048x8x1, .f32⟩
  | 27 => ⟨S_, .f32⟩
  | 28 => ⟨S2048x8, .f32⟩
  | 29 => ⟨S1x2048x8, .f32⟩
  | 30 => ⟨S1x2048x8x128, .f32⟩
  | 31 => ⟨S1x2048x8x128, .f32⟩
  | 32 => ⟨S1x2048x8x128, .f32⟩
  | 33 => ⟨S_, .f32⟩
  | 34 => ⟨S1x2048x8, .f32⟩
  | 35 => ⟨S1x2048x8x1, .f32⟩
  | 36 => ⟨S1x2048x8x128, .f32⟩
  | 37 => ⟨S1x2048x8x1, .f32⟩
  | 38 => ⟨S_, .f32⟩
  | 39 => ⟨S1x2048x8x1, .f32⟩
  | 40 => ⟨S1x2048x8x1, .f32⟩
  | 41 => ⟨S_, .f32⟩
  | 42 => ⟨S2048x8, .f32⟩
  | 43 => ⟨S1x2048x8, .f32⟩
  | 44 => ⟨S1x2048x8x128, .f32⟩
  | 45 => ⟨S1x2048x8x128, .f32⟩
  | 46 => ⟨S1x2048x1024, .f32⟩
  | 47 => ⟨S_, .f32⟩
  | 48 => ⟨S1x2048x2048, .f32⟩
  | 49 => ⟨S_, .f32⟩
  | 50 => ⟨S1x2048x2048, .f32⟩
  | 51 => ⟨S1x2048x2048, .f32⟩
  | 52 => ⟨S1x2048x2048, .f32⟩
  | 53 => ⟨S1x2048x2048, .f32⟩
  | 54 => ⟨S_, .f32⟩
  | 55 => ⟨S1x2048x2048, .f32⟩
  | 56 => ⟨S1x2048x2048, .f32⟩
  | 57 => ⟨S1x2048x2048, .f32⟩
  | 58 => ⟨S_, .f32⟩
  | 59 => ⟨S1x2048x2048, .f32⟩
  | 60 => ⟨S1x2048x2048, .f32⟩
  | 61 => ⟨S1x2048x2048, .f32⟩
  | 62 => ⟨S_, .f32⟩
  | 63 => ⟨S1x2048x2048, .f32⟩
  | 64 => ⟨S1x2048x2048, .f32⟩
  | 65 => ⟨S_, .f32⟩
  | 66 => ⟨S1x2048x2048, .f32⟩
  | 67 => ⟨S1x2048x2048, .f32⟩
  | 68 => ⟨S1x2048x2048, .f32⟩
  | 69 => ⟨S1x2048x2048, .f32⟩
  | 70 => ⟨S1x2048x1024, .f32⟩
  | 71 => ⟨S2048x1024, .f32⟩
  | 72 => ⟨S2048x1024, .bf16⟩
  | 73 => ⟨S1x2048x1024, .f32⟩
  | 74 => ⟨S2048x1024, .f32⟩
  | 75 => ⟨S2048x1024, .bf16⟩
  | 76 => ⟨S8x128x1, .f32⟩
  | 77 => ⟨S1x1024, .f32⟩
  | 78 => ⟨S1x1024, .f32⟩
  | _ => ⟨S2048x7680, .f32⟩

abbrev hbmTy (i : Nat) : BufTy := match i / 128 with
  | 0 => hbmTy0_0 i
  | 1 => hbmTy0_1 i
  | _ => ⟨S2048x7680, .f32⟩

abbrev bufTy : (tb : Table) → Fin (tcTables nBuf tb) → BufTy
  | .hbm, ⟨i, _⟩ => hbmTy i
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c : Ref sig .tc := ⟨.hbm, 82, rfl⟩
abbrev main_v60 : Ref sig .tc := ⟨.hbm, 83, rfl⟩
abbrev main_call0_v0 : Ref sig .tc := ⟨.hbm, 84, rfl⟩
abbrev main_call0_c : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_c_0 : Ref sig .tc := ⟨.hbm, 90, rfl⟩
abbrev main_call0_v5 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64_1 : Ref sig .tc := ⟨.hbm, 96, rfl⟩
abbrev main_v64_0 : Ref sig .tc := ⟨.hbm, 97, rfl⟩
abbrev main_call1_cst : Ref sig .tc := ⟨.hbm, 98, rfl⟩
abbrev main_v64_2 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call2_cst : Ref sig .tc := ⟨.hbm, 122, rfl⟩
abbrev main_call2_v0 : Ref sig .tc := ⟨.hbm, 123, rfl⟩
abbrev main_v85 : Ref sig .tc := ⟨.hbm, 124, rfl⟩
abbrev main_v86 : Ref sig .tc := ⟨.hbm, 125, rfl⟩
abbrev main_cst_17 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_19 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_21 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_22 : Ref sig .tc := ⟨.hbm, 149, rfl⟩
abbrev main_v105 : Ref sig .tc := ⟨.hbm, 150, rfl⟩
abbrev main_v106 : Ref sig .tc := ⟨.hbm, 151, rfl⟩
abbrev main_cst_23 : Ref sig .tc := ⟨.hbm, 152, rfl⟩
abbrev main_v107 : Ref sig .tc := ⟨.hbm, 153, rfl⟩
abbrev main_v108 : Ref sig .tc := ⟨.hbm, 154, rfl⟩
abbrev main_cst_24 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_25 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_26 : Ref sig .tc := ⟨.hbm, 166, rfl⟩
abbrev main_v118 : Ref sig .tc := ⟨.hbm, 167, rfl⟩
abbrev main_v119 : Ref sig .tc := ⟨.hbm, 168, rfl⟩
abbrev main_cst_27 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_28 : Ref sig .tc := ⟨.hbm, 175, rfl⟩
abbrev main_v125 : Ref sig .tc := ⟨.hbm, 176, rfl⟩
abbrev main_cst_29 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_30 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_31 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_32 : Ref sig .tc := ⟨.hbm, 190, rfl⟩
abbrev main_v136 : Ref sig .tc := ⟨.hbm, 191, rfl⟩
abbrev main_v137 : Ref sig .tc := ⟨.hbm, 192, rfl⟩
abbrev main_cst_33 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S4x1408x2048 : Shape := ⟨3, ![4, 1408, 2048]⟩
abbrev S512x2048 : Shape := ⟨2, ![512, 2048]⟩
abbrev S1x1408x2048 : Shape := ⟨3, ![1, 1408, 2048]⟩
abbrev S512x1408 : Shape := ⟨2, ![512, 1408]⟩
abbrev S1x256x2048 : Shape := ⟨3, ![1, 256, 2048]⟩
abbrev S256x2048 : Shape := ⟨2, ![256, 2048]⟩
abbrev S512x256 : Shape := ⟨2, ![512, 256]⟩
abbrev S1x128x2048 : Shape := ⟨3, ![1, 128, 2048]⟩
abbrev S128x2048 : Shape := ⟨2, ![128, 2048]⟩
abbrev S512x128 : Shape := ⟨2, ![512, 128]⟩

abbrev nBuf : Space → Nat
  | .hbm => 9
  | .vmem => 12
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x2048, .bf16⟩
  | .hbm, ⟨5, _⟩ => ⟨S4x1408x2048, .f32⟩
  | .hbm, ⟨6, _⟩ => ⟨S4x1408x2048, .bf16⟩
  | .hbm, ⟨7, _⟩ => ⟨S2048x5632, .bf16⟩
  | .hbm, ⟨8, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x2048, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .bf16⟩
  | .hbm, ⟨27, _⟩ => ⟨S2048x5632, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Dhh.lean ====
abbrev S2048x2048 : Shape := ⟨2, ![2048, 2048]⟩
abbrev S2048x5632 : Shape := ⟨2, ![2048, 5632]⟩
abbrev S8x128 : Shape := ⟨2, ![8, 128]⟩
abbrev S2048x4x1408 : Shape := ⟨3, ![2048, 4, 1408]⟩
abbrev S4x2048x1408 : Shape := ⟨3, ![4, 2048, 1408]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 15
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S8x128, .f32⟩
  | .hbm, ⟨6, _⟩ => ⟨S2048x5632, .bf16⟩
  | .hbm, ⟨7, _⟩ => ⟨S2048x4x1408, .f32⟩
  | .hbm, ⟨8, _⟩ => ⟨S4x2048x1408, .f32⟩
  | .hbm, ⟨9, _⟩ => ⟨S4x2048x1408, .bf16⟩
  | .hbm, ⟨10, _⟩ => ⟨S2048x5632, .bf16⟩
  | .hbm, ⟨11, _⟩ => ⟨S2048x4x1408, .f32⟩
  | .hbm, ⟨12, _⟩ => ⟨S4x2048x1408, .f32⟩
  | .hbm, ⟨13, _⟩ => ⟨S4x2048x1408, .bf16⟩
  | .hbm, ⟨14, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![2, 2, 4, 1], ![false, false, false, false]⟩

def k0_cond2 (i : grid0.Coords) : BitVec 1 :=
  let arg2 : BitVec 32 := BitVec.ofNat 32 (i 2).val
  let c3_i32 : BitVec 32 := 3#32
  let v1 : BitVec 1 := Scalar.cmpi .eq arg2 c3_i32
  let v24 : BitVec 32 := Scalar.extui v1
  let c0_i32_19 : BitVec 32 := 0#32
  let v25 : BitVec 1 := Scalar.cmpi .ne v24 c0_i32_19
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]
-- ==== DhhRefIdeal.lean ====
abbrev S2048x2048 : Shape := ⟨2, ![2048, 2048]⟩
abbrev S2048x5632 : Shape := ⟨2, ![2048, 5632]⟩
abbrev S8x128 : Shape := ⟨2, ![8, 128]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S8x128, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== DwFfn.lean ====
abbrev S2048x2048 : Shape := ⟨2, ![2048, 2048]⟩
abbrev S2048x5632 : Shape := ⟨2, ![2048, 5632]⟩
abbrev S4x2048x1408 : Shape := ⟨3, ![4, 2048, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2048x5632, .bf16⟩
  | .hbm, ⟨5, _⟩ => ⟨S4x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwFfnIdeal.lean ====
abbrev S2048x2048 : Shape := ⟨2, ![2048, 2048]⟩
abbrev S2048x5632 : Shape := ⟨2, ![2048, 5632]⟩
abbrev S4x2048x1408 : Shape := ⟨3, ![4, 2048, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2048x5632, .bf16⟩
  | .hbm, ⟨5, _⟩ => ⟨S4x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwFfnRefIdeal.lean ====
abbrev S2048x2048 : Shape := ⟨2, ![2048, 2048]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .f32⟩
  | .hbm, ⟨6, _⟩ => ⟨S2048x4x1408, .f32⟩
  | .hbm, ⟨7, _⟩ => ⟨S4x2048x1408, .f32⟩
  | .hbm, ⟨8, _⟩ => ⟨S4x2048x1408, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwDown.lean ====
abbrev S2048x5632 : Shape := ⟨2, ![2048, 5632]⟩
abbrev S5632x2048 : Shape := ⟨2, ![5632, 2048]⟩
abbrev S2048x2048 : Shape := ⟨2, ![2048, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S2048x2048, .bf16⟩
  | .hbm, ⟨5, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwDownIdeal.lean ====
abbrev S2048x5632 : Shape := ⟨2, ![2048, 5632]⟩
abbrev S5632x2048 : Shape := ⟨2, ![5632, 2048]⟩
abbrev S2048x2048 : Shape := ⟨2, ![2048, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S2048x2048, .bf16⟩
  | .hbm, ⟨5, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwDownRefIdeal.lean ====
abbrev S2048x5632 : Shape := ⟨2, ![2048, 5632]⟩
abbrev S5632x2048 : Shape := ⟨2, ![5632, 2048]⟩
abbrev S2048x2048 : Shape := ⟨2, ![2048, 2048]⟩
abbrev S4x1408x2048 : Shape := ⟨3, ![4, 1408, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x5632, .f32⟩
  | .hbm, ⟨5, _⟩ => ⟨S5632x2048, .f32⟩
  | .hbm, ⟨6, _⟩ => ⟨S4x1408x2048, .f32⟩
  | .hbm, ⟨7, _⟩ => ⟨S4x1408x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwIn.lean ====
abbrev S2048x2048 : Shape := ⟨2, ![2048, 2048]⟩
abbrev S2048x7680 : Shape := ⟨2, ![2048, 7680]⟩
abbrev S4x2048x1920 : Shape := ⟨3, ![4, 2048, 1920]⟩
abbrev S2048x512 : Shape := ⟨2, ![2048, 512]⟩
abbrev S2048x640 : Shape := ⟨2, ![2048, 640]⟩
abbrev S1x512x640 : Shape := ⟨3, ![1, 512, 640]⟩
abbrev S512x640 : Shape := ⟨2, ![512, 640]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x7680, .f32⟩
  | .hbm, ⟨2, _⟩ => ⟨S2048x7680, .f32⟩
  | .hbm, ⟨3, _⟩ => ⟨S2048x2048, .bf16⟩
  | .hbm, ⟨4, _⟩ => ⟨S2048x7680, .bf16⟩
  | .hbm, ⟨5, _⟩ => ⟨S4x2048x1920, .bf16⟩
  | .local _ .vmem, ⟨0, _⟩ => ⟨S2048x512, .bf16⟩
  | .local _ .vmem, ⟨1, _⟩ => ⟨S2048x512, .bf16⟩
  | .local _ .vmem, ⟨2, _⟩ => ⟨S2048x640, .bf16⟩
  | .local _ .vmem, ⟨3, _⟩ => ⟨S2048x640, .bf16⟩
  | .local _ .vmem, ⟨4, _⟩ => ⟨S1x512x640, .bf16⟩
  | .local _ .vmem, ⟨5, _⟩ => ⟨S1x512x640, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwInIdeal.lean ====
abbrev S2048x2048 : Shape := ⟨2, ![2048, 2048]⟩
abbrev S2048x7680 : Shape := ⟨2, ![2048, 7680]⟩
abbrev S4x2048x1920 : Shape := ⟨3, ![4, 2048, 1920]⟩
abbrev S2048x512 : Shape := ⟨2, ![2048, 512]⟩
abbrev S2048x640 : Shape := ⟨2, ![2048, 640]⟩
abbrev S1x512x640 : Shape := ⟨3, ![1, 512, 640]⟩
abbrev S512x640 : Shape := ⟨2, ![512, 640]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x7680, .f32⟩
  | .hbm, ⟨2, _⟩ => ⟨S2048x7680, .f32⟩
  | .hbm, ⟨3, _⟩ => ⟨S2048x2048, .bf16⟩
  | .hbm, ⟨4, _⟩ => ⟨S2048x7680, .bf16⟩
  | .hbm, ⟨5, _⟩ => ⟨S4x2048x1920, .bf16⟩
  | .local _ .vmem, ⟨0, _⟩ => ⟨S2048x512, .bf16⟩
  | .local _ .vmem, ⟨1, _⟩ => ⟨S2048x512, .bf16⟩
  | .local _ .vmem, ⟨2, _⟩ => ⟨S2048x640, .bf16⟩
  | .local _ .vmem, ⟨3, _⟩ => ⟨S2048x640, .bf16⟩
  | .local _ .vmem, ⟨4, _⟩ => ⟨S1x512x640, .bf16⟩
  | .local _ .vmem, ⟨5, _⟩ => ⟨S1x512x640, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwInRefIdeal.lean ====
abbrev S2048x2048 : Shape := ⟨2, ![2048, 2048]⟩
abbrev S2048x7680 : Shape := ⟨2, ![2048, 7680]⟩
abbrev S7680x2048 : Shape := ⟨2, ![7680, 2048]⟩
abbrev S2048x4x1920 : Shape := ⟨3, ![2048, 4, 1920]⟩
abbrev S4x2048x1920 : Shape := ⟨3, ![4, 2048, 1920]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7680, .f32⟩
  | .hbm, ⟨2, _⟩ => ⟨S2048x7680, .f32⟩
  | .hbm, ⟨3, _⟩ => ⟨S2048x7680, .f32⟩
  | .hbm, ⟨4, _⟩ => ⟨S7680x2048, .f32⟩
  | .hbm, ⟨5, _⟩ => ⟨S2048x7680, .f32⟩
  | .hbm, ⟨6, _⟩ => ⟨S2048x4x1920, .f32⟩
  | .hbm, ⟨7, _⟩ => ⟨S4x2048x1920, .f32⟩
  | .hbm, ⟨8, _⟩ => ⟨S4x2048x1920, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dh.lean ====
abbrev S2048x2048 : Shape := ⟨2, ![2048, 2048]⟩
abbrev S2048x7680 : Shape := ⟨2, ![2048, 7680]⟩
abbrev S8x128 : Shape := ⟨2, ![8, 128]⟩
abbrev S2048x4x1920 : Shape := ⟨3, ![2048, 4, 1920]⟩
abbrev S4x2048x1920 : Shape := ⟨3, ![4, 2048, 1920]⟩
abbrev S1024x1920 : Shape := ⟨2, ![1024, 1920]⟩
abbrev S1x1024x1920 : Shape := ⟨3, ![1, 1024, 1920]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x7680, .f32⟩
  | .hbm, ⟨2, _⟩ => ⟨S2048x7680, .f32⟩
  | .hbm, ⟨3, _⟩ => ⟨S8x128, .f32⟩
  | .hbm, ⟨4, _⟩ => ⟨S2048x7680, .bf16⟩
  | .hbm, ⟨5, _⟩ => ⟨S2048x4x1920, .f32⟩
  | .hbm, ⟨6, _⟩ => ⟨S4x2048x1920, .f32⟩
  | .hbm, ⟨7, _⟩ => ⟨S4x2048x1920, .bf16⟩
  | .hbm, ⟨8, _⟩ => ⟨S2048x2048, .f32⟩
  | .local _ .vmem, ⟨0, _⟩ => ⟨S1024x1920, .bf16⟩
  | .local _ .vmem, ⟨1, _⟩ => ⟨S1024x1920, .bf16⟩
  | .local _ .vmem, ⟨2, _⟩ => ⟨S1x1024x1920, .bf16⟩
  | .local _ .vmem, ⟨3, _⟩ => ⟨S1x1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 4, 1], ![false, false, false, false]⟩

def k0_cond2 (i : grid0.Coords) : BitVec 1 :=
  let arg2 : BitVec 32 := BitVec.ofNat 32 (i 2).val
  let c3_i32 : BitVec 32 := 3#32
  let v1 : BitVec 1 := Scalar.cmpi .eq arg2 c3_i32
  let v14 : BitVec 32 := Scalar.extui v1
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== DhRefIdeal.lean ====
abbrev S2048x2048 : Shape := ⟨2, ![2048, 2048]⟩
abbrev S2048x7680 : Shape := ⟨2, ![2048, 7680]⟩
abbrev S8x128 : Shape := ⟨2, ![8, 128]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7680, .f32⟩
  | .hbm, ⟨2, _⟩ => ⟨S2048x7680, .f32⟩
  | .hbm, ⟨3, _⟩ => ⟨S8x128, .f32⟩
  | .hbm, ⟨4, _⟩ => ⟨S2048x7680, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== DwOut.lean ====
abbrev S2048x2048 : Shape := ⟨2, ![2048, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwOutRefIdeal.lean ====
abbrev S2048x2048 : Shape := ⟨2, ![2048, 2048]⟩
abbrev S4x512x2048 : Shape := ⟨3, ![4, 512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S4x512x2048, .f32⟩
  | .hbm, ⟨7, _⟩ => ⟨S4x512x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwBranch.lean ====
abbrev S2048x1024 : Shape := ⟨2, ![2048, 1024]⟩
abbrev S1024x2048 : Shape := ⟨2, ![1024, 2048]⟩
abbrev S2048x2048 : Shape := ⟨2, ![2048, 2048]⟩
abbrev S4x1024x512 : Shape := ⟨3, ![4, 1024, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x1024, .bf16⟩
  | .hbm, ⟨4, _⟩ => ⟨S2048x2048, .bf16⟩
  | .hbm, ⟨5, _⟩ => ⟨S4x1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwBranchRefIdeal.lean ====
abbrev S2048x1024 : Shape := ⟨2, ![2048, 1024]⟩
abbrev S1024x2048 : Shape := ⟨2, ![1024, 2048]⟩
abbrev S2048x2048 : Shape := ⟨2, ![2048, 2048]⟩
abbrev S1024x4x512 : Shape := ⟨3, ![1024, 4, 512]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .f32⟩
  | .hbm, ⟨4, _⟩ => ⟨S2048x1024, .f32⟩
  | .hbm, ⟨5, _⟩ => ⟨S1024x2048, .f32⟩
  | .hbm, ⟨6, _⟩ => ⟨S1024x4x512, .f32⟩
  | .hbm, ⟨7, _⟩ => ⟨S4x1024x512, .f32⟩
  | .hbm, ⟨8, _⟩ => ⟨S4x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Branch.lean ====
abbrev S2048x1024 : Shape := ⟨2, ![2048, 1024]⟩
abbrev S1024x2048 : Shape := ⟨2, ![1024, 2048]⟩
abbrev S2048x2048 : Shape := ⟨2, ![2048, 2048]⟩
abbrev S8x128 : Shape := ⟨2, ![8, 128]⟩
abbrev S1024x4x512 : Shape := ⟨3, ![1024, 4, 512]⟩
abbrev S4x1024x512 : Shape := ⟨3, ![4, 1024, 512]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 17
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2048x2048, .f32⟩
  | .hbm, ⟨6, _⟩ => ⟨S8x128, .f32⟩
  | .hbm, ⟨7, _⟩ => ⟨S2048x2048, .bf16⟩
  | .hbm, ⟨8, _⟩ => ⟨S1024x4x512, .f32⟩
  | .hbm, ⟨9, _⟩ => ⟨S4x1024x512, .f32⟩
  | .hbm, ⟨10, _⟩ => ⟨S4x1024x512, .bf16⟩
  | .hbm, ⟨11, _⟩ => ⟨S2048x2048, .bf16⟩
  | .hbm, ⟨12, _⟩ => ⟨S1024x4x512, .f32⟩
  | .hbm, ⟨13, _⟩ => ⟨S4x1024x512, .f32⟩
  | .hbm, ⟨14, _⟩ => ⟨S4x1024x512, .bf16⟩
  | .hbm, ⟨15, _⟩ => ⟨S2048x1024, .f32⟩
  | .hbm, ⟨16, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![2, 1, 4, 1], ![false, false, false, false]⟩

def k0_cond2 (i : grid0.Coords) : BitVec 1 :=
  let arg2 : BitVec 32 := BitVec.ofNat 32 (i 2).val
  let c3_i32 : BitVec 32 := 3#32
  let v1 : BitVec 1 := Scalar.cmpi .eq arg2 c3_i32
  let v24 : BitVec 32 := Scalar.extui v1
  let c0_i32_19 : BitVec 32 := 0#32
  let v25 : BitVec 1 := Scalar.cmpi .ne v24 c0_i32_19
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]
-- ==== BranchRefIdeal.lean ====
abbrev S2048x1024 : Shape := ⟨2, ![2048, 1024]⟩
abbrev S1024x2048 : Shape := ⟨2, ![1024, 2048]⟩
abbrev S2048x2048 : Shape := ⟨2, ![2048, 2048]⟩
abbrev S8x128 : Shape := ⟨2, ![8, 128]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2048x2048, .f32⟩
  | .hbm, ⟨6, _⟩ => ⟨S8x128, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩

abbrev nD : Nat := 1
abbrev τ : Topo := Topo.v7x

variable {F : FTy → Type} [FloatOps F]
-- ==== Out.lean ====
abbrev S2048x7680 : Shape := ⟨2, ![2048, 7680]⟩
abbrev S2048x2048 : Shape := ⟨2, ![2048, 2048]⟩
abbrev S4x512x2048 : Shape := ⟨3, ![4, 512, 2048]⟩
abbrev S512x2048 : Shape := ⟨2, ![512, 2048]⟩
abbrev S1x512x2048 : Shape := ⟨3, ![1, 512, 2048]⟩
abbrev S512x512 : Shape := ⟨2, ![512, 512]⟩
abbrev S1x256x2048 : Shape := ⟨3, ![1, 256, 2048]⟩
abbrev S256x2048 : Shape := ⟨2, ![256, 2048]⟩
abbrev S512x256 : Shape := ⟨2, ![512, 256]⟩

abbrev nBuf : Space → Nat
  | .hbm => 12
  | .vmem => 20
  | .smem => 0
  | _ => 0

abbrev bufTy : (tb : Table) → Fin (tcTables nBuf tb) → BufTy
  | .hbm, ⟨0, _⟩ => ⟨S2048x7680, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S4x512x2048, .f32⟩
  | .hbm, ⟨7, _⟩ => ⟨S4x512x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutRefIdeal.lean ====
abbrev S2048x7680 : Shape := ⟨2, ![2048, 7680]⟩
abbrev S2048x2048 : Shape := ⟨2, ![2048, 2048]⟩
abbrev S2048x4096 : Shape := ⟨2, ![2048, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x7680, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x4096, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x4096, .f32⟩
  | .hbm, ⟨33, _⟩ => ⟨S2048x4096, .f32⟩
  | .hbm, ⟨34, _⟩ => ⟨S2048x4096, .f32⟩
  | .hbm, ⟨35, _⟩ => ⟨S2048x2048, .f32⟩
  | .hbm, ⟨36, _⟩ => ⟨S2048x2048, .f32⟩
  | .hbm, ⟨37, _⟩ => ⟨S2048x2048, .bf16⟩
  | .hbm, ⟨38, _⟩ => ⟨S2048x2048, .bf16⟩
  | .hbm, ⟨39, _⟩ => ⟨S2048x2048, .bf16⟩
  | .hbm, ⟨40, _⟩ => ⟨S2048x2048, .bf16⟩
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Rms.lean ====
abbrev S2048x2048 : Shape := ⟨2, ![2048, 2048]⟩
abbrev S2048 : Shape := ⟨1, ![2048]⟩
abbrev S8x128 : Shape := ⟨2, ![8, 128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S2048x2048 : Shape := ⟨2, ![2048, 2048]⟩
abbrev S2048 : Shape := ⟨1, ![2048]⟩
abbrev S8x128 : Shape := ⟨2, ![8, 128]⟩
abbrev S_ : Shape := ⟨0, ![]⟩
abbrev S2048x1 : Shape := ⟨2, ![2048, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .bf16⟩
  | .hbm, ⟨53, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Attn.lean ====
abbrev S2048x1024 : Shape := ⟨2, ![2048, 1024]⟩
abbrev S2048x256 : Shape := ⟨2, ![2048, 256]⟩
abbrev S16 : Shape := ⟨1, ![16]⟩
abbrev S_ : Shape := ⟨0, ![]⟩
abbrev S2048x4x1x64 : Shape := ⟨4, ![2048, 4, 1, 64]⟩
abbrev S2048x4x2x64 : Shape := ⟨4, ![2048, 4, 2, 64]⟩
abbrev S2048x512 : Shape := ⟨2, ![2048, 512]⟩
abbrev S1x16 : Shape := ⟨2, ![1, 16]⟩
abbrev S1x128 : Shape := ⟨2, ![1, 128]⟩
abbrev S128x1024 : Shape := ⟨2, ![128, 1024]⟩
abbrev S128x512 : Shape := ⟨2, ![128, 512]⟩
abbrev S256x128 : Shape := ⟨2, ![256, 128]⟩
abbrev S256x512 : Shape := ⟨2, ![256, 512]⟩
abbrev S128x128 : Shape := ⟨2, ![128, 128]⟩
abbrev S512x128 : Shape := ⟨2, ![512, 128]⟩
abbrev S1x1 : Shape := ⟨2, ![1, 1]⟩
abbrev S1x512 : Shape := ⟨2, ![1, 512]⟩
abbrev S512 : Shape := ⟨1, ![512]⟩
abbrev S128x256 : Shape := ⟨2, ![128, 256]⟩
abbrev S1 : Shape := ⟨1, ![1]⟩
abbrev S1920x512 : Shape := ⟨2, ![1920, 512]⟩
abbrev S2048x4x64 : Shape := ⟨3, ![2048, 4, 64]⟩

abbrev nBuf : Space → Nat
  | .hbm => 50
  | .vmem => 23
  | .smem => 1
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .bf16⟩
  | .hbm, ⟨9, _⟩ => ⟨S2048x4x1x64, .f32⟩
  | .hbm, ⟨10, _⟩ => ⟨S2048x4x2x64, .f32⟩
  | .hbm, ⟨11, _⟩ => ⟨S2048x512, .f32⟩
  | .hbm, ⟨12, _⟩ => ⟨S2048x512, .bf16⟩
  | .hbm, ⟨13, _⟩ => ⟨S2048x4x1x64, .f32⟩
  | .hbm, ⟨14, _⟩ => ⟨S2048x4x2x64, .f32⟩
  | .hbm, ⟨15, _⟩ => ⟨S2048x512, .f32⟩
  | .hbm, ⟨16, _⟩ => ⟨S2048x512, .bf16⟩
  | .hbm, ⟨17, _⟩ => ⟨S1x16, .f32⟩
  | .hbm, ⟨18, _⟩ => ⟨S2048x1024, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S1x128, .f32⟩
  | .hbm, ⟨24, _⟩ => ⟨S1920x512, .f32⟩
  | .hbm, ⟨25, _⟩ => ⟨S_, .i32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x4x2x64, .f32⟩
  | .hbm, ⟨30, _⟩ => ⟨S2048x4x1x64, .f32⟩
  | .hbm, ⟨31, _⟩ => ⟨S2048x4x64, .f32⟩
  | .hbm, ⟨32, _⟩ => ⟨S2048x4x1x64, .f32⟩
  | .hbm, ⟨33, _⟩ => ⟨S2048x4x64, .f32⟩
  | .hbm, ⟨34, _⟩ => ⟨S2048x4x64, .f32⟩
  | .hbm, ⟨35, _⟩ => ⟨S2048x256, .f32⟩
  | .hbm, ⟨36, _⟩ => ⟨S1920x512, .f32⟩
  | .hbm, ⟨37, _⟩ => ⟨S_, .i32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S2048x4x2x64, .f32⟩
  | .hbm, ⟨42, _⟩ => ⟨S2048x4x1x64, .f32⟩
  | .hbm, ⟨43, _⟩ => ⟨S2048x4x64, .f32⟩
  | .hbm, ⟨44, _⟩ => ⟨S2048x4x1x64, .f32⟩
  | .hbm, ⟨45, _⟩ => ⟨S2048x4x64, .f32⟩
  | .hbm, ⟨46, _⟩ => ⟨S2048x4x64, .f32⟩
  | .hbm, ⟨47, _⟩ => ⟨S2048x256, .f32⟩
  | .hbm, ⟨48, _⟩ => ⟨S1x16, .f32⟩
  | .hbm, ⟨49, _⟩ => ⟨S16, .f32⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S1x128, .f32⟩
  | .local _ .smem, ⟨0, _⟩ => ⟨S1x16, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_0 : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S2048x1024 : Shape := ⟨2, ![2048, 1024]⟩
abbrev S2048x256 : Shape := ⟨2, ![2048, 256]⟩
abbrev S16 : Shape := ⟨1, ![16]⟩
abbrev S1x2048x16x64 : Shape := ⟨4, ![1, 2048, 16, 64]⟩
abbrev S1x2048x4x64 : Shape := ⟨4, ![1, 2048, 4, 64]⟩
abbrev S1x16x128x4x4x64 : Shape := ⟨6, ![1, 16, 128, 4, 4, 64]⟩
abbrev S1x16x128x4x64 : Shape := ⟨5, ![1, 16, 128, 4, 64]⟩
abbrev S1x1x128x4x64 : Shape := ⟨5, ![1, 1, 128, 4, 64]⟩
abbrev S_ : Shape := ⟨0, ![]⟩
abbrev S1x15x128x4x64 : Shape := ⟨5, ![1, 15, 128, 4, 64]⟩
abbrev S1x16x256x4x64 : Shape := ⟨5, ![1, 16, 256, 4, 64]⟩
abbrev S1x16x4x256x128x4 : Shape := ⟨6, ![1, 16, 4, 256, 128, 4]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S4x4 : Shape := ⟨2, ![4, 4]⟩
abbrev S1x1x4x4x1x1 : Shape := ⟨6, ![1, 1, 4, 4, 1, 1]⟩
abbrev S1x16x4x4x128x1 : Shape := ⟨6, ![1, 16, 4, 4, 128, 1]⟩
abbrev S1x16x4x4x128x257 : Shape := ⟨6, ![1, 16, 4, 4, 128, 257]⟩
abbrev S1x16x4x4x128 : Shape := ⟨5, ![1, 16, 4, 4, 128]⟩
abbrev S1x16x4x64x4x128 : Shape := ⟨6, ![1, 16, 4, 64, 4, 128]⟩
abbrev S1x2048x1024 : Shape := ⟨3, ![1, 2048, 1024]⟩
abbrev S1x16x4x64x256 : Shape := ⟨5, ![1, 16, 4, 64, 256]⟩
abbrev S16x4x4x128 : Shape := ⟨4, ![16, 4, 4, 128]⟩
abbrev S1x16x4x128x4x64 : Shape := ⟨6, ![1, 16, 4, 128, 4, 64]⟩
abbrev S1x16x4x256x64 : Shape := ⟨5, ![1, 16, 4, 256, 64]⟩

abbrev nBuf : Space → Nat
  | .hbm => 181
  | .vmem => 0
  | .smem => 0
  | _ => 0

abbrev hbmTy0_0 (i : Nat) : BufTy := match i % 128 with
  | 0 => ⟨S2048x1024, .f32⟩
  | 1 => ⟨S2048x256, .f32⟩
  | 2 => ⟨S2048x256, .f32⟩
  | 3 => ⟨S16, .f32⟩
  | 4 => ⟨S2048x1024, .f32⟩
  | 5 => ⟨S1x2048x16x64, .f32⟩
  | 6 => ⟨S1x2048x4x64, .f32⟩
  | 7 => ⟨S1x2048x4x64, .f32⟩
  | 8 => ⟨S1x16x128x4x4x64, .f32⟩
  | 9 => ⟨S1x16x128x4x64, .f32⟩
  | 10 => ⟨S1x16x128x4x64, .f32⟩
  | 11 => ⟨S1x1x128x4x64, .f32⟩
  | 12 => ⟨S_, .f32⟩
  | 13 => ⟨S1x1x128x4x64, .f32⟩
  | 14 => ⟨S1x15x128x4x64, .f32⟩
  | 15 => ⟨S1x16x128x4x64, .f32⟩
  | 16 => ⟨S_, .f32⟩
  | 17 => ⟨S1x1x128x4x64, .f32⟩
  | 18 => ⟨S1x16x256x4x64, .f32⟩
  | 19 => ⟨S1x1x128x4x64, .f32⟩
  | 20 => ⟨S_, .f32⟩
  | 21 => ⟨S1x1x128x4x64, .f32⟩
  | 22 => ⟨S1x15x128x4x64, .f32⟩
  | 23 => ⟨S1x16x128x4x64, .f32⟩
  | 24 => ⟨S_, .f32⟩
  | 25 => ⟨S1x1x128x4x64, .f32⟩
  | 26 => ⟨S1x16x256x4x64, .f32⟩
  | 27 => ⟨S1x16x4x256x128x4, .f32⟩
  | 28 => ⟨S1x16x4x4x128x256, .f32⟩
  | 29 => ⟨S_, .f32⟩
  | 30 => ⟨S1x16x4x4x128x256, .f32⟩
  | 31 => ⟨S1x16x4x4x128x256, .f32⟩
  | 32 => ⟨S128, .i32⟩
  | 33 => ⟨S128x1, .i32⟩
  | 34 => ⟨S_, .i32⟩
  | 35 => ⟨S128x1, .i32⟩
  | 36 => ⟨S128x1, .i32⟩
  | 37 => ⟨S256, .i32⟩
  | 38 => ⟨S1x256, .i32⟩
  | 39 => ⟨S128x256, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S_, .i32⟩
  | 46 => ⟨S128x256, .i32⟩
  | 47 => ⟨S128x256, .i1⟩
  | 48 => ⟨S128x256, .i1⟩
  | 49 => ⟨S16, .i32⟩
  | 50 => ⟨S16x1x1, .i32⟩
  | 51 => ⟨S_, .i32⟩
  | 52 => ⟨S16x1x1, .i32⟩
  | 53 => ⟨S16x1x1, .i1⟩
  | 54 => ⟨S_, .i32⟩
  | 55 => ⟨S1x256, .i32⟩
  | 56 => ⟨S1x256, .i1⟩
  | 57 => ⟨S1x1x256, .i1⟩
  | 58 => ⟨S16x1x256, .i1⟩
  | 59 => ⟨S16x1x256, .i1⟩
  | 60 => ⟨S16x1x256, .i1⟩
  | 61 => ⟨S1x128x256, .i1⟩
  | 62 => ⟨S16x128x256, .i1⟩
  | 63 => ⟨S16x128x256, .i1⟩
  | 64 => ⟨S16x128x256, .i1⟩
  | 65 => ⟨S1x16x1x1x128x256, .i1⟩
  | 66 => ⟨S_, .f32⟩
  | 67 => ⟨S_, .f32⟩
  | 68 => ⟨S1x16x4x4x128x256, .i1⟩
  | 69 => ⟨S1x16x4x4x128x256, .f32⟩
  | 70 => ⟨S1x16x4x4x128x256, .f32⟩
  | 71 => ⟨S_, .f32⟩
  | 72 => ⟨S1x16x4x4x128x256, .f32⟩
  | 73 => ⟨S4x4, .f32⟩
  | 74 => ⟨S1x1x4x4x1x1, .f32⟩
  | 75 => ⟨S1x16x4x4x128x1, .f32⟩
  | 76 => ⟨S1x16x4x4x128x257, .f32⟩
  | 77 => ⟨S_, .f32⟩
  | 78 => ⟨S1x16x4x4x128, .f32⟩
  | 79 => ⟨S1x16x4x4x128x1, .f32⟩
  | 80 => ⟨S1x16x4x4x128x257, .f32⟩
  | 81 => ⟨S1x16x4x4x128x257, .i1⟩
  | 82 => ⟨S1x16x4x4x128x257, .f32⟩
  | 83 => ⟨S_, .f32⟩
  | 84 => ⟨S1x16x4x4x128, .f32⟩
  | 85 => ⟨S_, .f32⟩
  | 86 => ⟨S1x16x4x4x128, .f32⟩
  | 87 => ⟨S1x16x4x4x128, .f32⟩
  | 88 => ⟨S_, .f32⟩
  | 89 => ⟨S1x16x4x4x128, .f32⟩
  | 90 => ⟨S1x16x4x4x128, .i1⟩
  | 91 => ⟨S_, .f32⟩
  | 92 => ⟨S1x16x4x4x128, .f32⟩
  | 93 => ⟨S1x16x4x4x128, .i1⟩
  | 94 => ⟨S_, .f32⟩
  | 95 => ⟨S1x16x4x4x128, .f32⟩
  | 96 => ⟨S_, .f32⟩
  | 97 => ⟨S1x16x4x4x128, .f32⟩
  | 98 => ⟨S_, .f32⟩
  | 99 => ⟨S1x16x4x4x128, .f32⟩
  | 100 => ⟨S1x16x4x4x128, .f32⟩
  | 101 => ⟨S1x16x4x4x128, .f32⟩
  | 102 => ⟨S1x16x4x4x128x1, .f32⟩
  | 103 => ⟨S1x16x4x4x128x257, .f32⟩
  | 104 => ⟨S1x16x4x4x128x257, .f32⟩
  | 105 => ⟨S1x16x4x4x128x257, .f32⟩
  | 106 => ⟨S_, .f32⟩
  | 107 => ⟨S1x16x4x4x128, .f32⟩
  | 108 => ⟨S1x16x4x4x128x1, .f32⟩
  | 109 => ⟨S1x16x4x4x128x257, .f32⟩
  | 110 => ⟨S1x16x4x4x128x257, .f32⟩
  | 111 => ⟨S1x16x4x4x128x1, .f32⟩
  | 112 => ⟨S_, .f32⟩
  | 113 => ⟨S1x16x4x4x128x1, .f32⟩
  | 114 => ⟨S1x16x4x4x128x1, .f32⟩
  | 115 => ⟨S1x16x4x4x128x256, .f32⟩
  | 116 => ⟨S1x16x4x64x4x128, .f32⟩
  | 117 => ⟨S1x16x128x4x4x64, .f32⟩
  | 118 => ⟨S1x2048x1024, .f32⟩
  | 119 => ⟨S1x2048x1024, .f32⟩
  | 120 => ⟨S1x16x128x4x4x64, .f32⟩
  | 121 => ⟨S1x16x4x64x4x128, .f32⟩
  | 122 => ⟨S1x16x4x4x128x256, .f32⟩
  | 123 => ⟨S1x16x4x64x256, .f32⟩
  | 124 => ⟨S1x16x256x4x64, .f32⟩
  | 125 => ⟨S_, .f32⟩
  | 126 => ⟨S1x16x4x4x128x257, .f32⟩
  | 127 => ⟨S1x16x4x4x128x257, .f32⟩
  | _ => ⟨S2048x1024, .f32⟩

abbrev hbmTy0_1 (i : Nat) : BufTy := match i % 128 with
  | 0 => ⟨S1x16x4x4x128x257, .f32⟩
  | 1 => ⟨S1x16x4x4x128x257, .f32⟩
  | 2 => ⟨S_, .f32⟩
  | 3 => ⟨S1x16x4x4x128, .f32⟩
  | 4 => ⟨S1x16x4x4x128x1, .f32⟩
  | 5 => ⟨S1x16x4x4x128x1, .f32⟩
  | 6 => ⟨S1x16x4x4x128x257, .f32⟩
  | 7 => ⟨S1x16x4x4x128x257, .f32⟩
  | 8 => ⟨S_, .f32⟩
  | 9 => ⟨S16x4x4x128, .f32⟩
  | 10 => ⟨S1x16x4x4x128, .f32⟩
  | 11 => ⟨S1x16x4x4x128x257, .f32⟩
  | 12 => ⟨S1x16x4x4x128x257, .f32⟩
  | 13 => ⟨S1x16x4x4x128x257, .f32⟩
  | 14 => ⟨S1x16x4x4x128x256, .f32⟩
  | 15 => ⟨S1x16x4x4x128x1, .f32⟩
  | 16 => ⟨S_, .f32⟩
  | 17 => ⟨S4x4, .f32⟩
  | 18 => ⟨S1x1x4x4x1x1, .f32⟩
  | 19 => ⟨S_, .f32⟩
  | 20 => ⟨S4x4, .f32⟩
  | 21 => ⟨S16, .f32⟩
  | 22 => ⟨S_, .f32⟩
  | 23 => ⟨S1x16x4x4x128x256, .f32⟩
  | 24 => ⟨S1x16x4x4x128x256, .f32⟩
  | 25 => ⟨S_, .f32⟩
  | 26 => ⟨S1x16x4x4x128x256, .f32⟩
  | 27 => ⟨S1x16x4x4x128x256, .f32⟩
  | 28 => ⟨S1x16x4x256x128x4, .f32⟩
  | 29 => ⟨S1x16x4x128x4x64, .f32⟩
  | 30 => ⟨S1x16x128x4x4x64, .f32⟩
  | 31 => ⟨S1x16x4x256x64, .f32⟩
  | 32 => ⟨S1x16x256x4x64, .f32⟩
  | 33 => ⟨S1x16x128x4x64, .f32⟩
  | 34 => ⟨S1x16x128x4x64, .f32⟩
  | 35 => ⟨S1x1x128x4x64, .f32⟩
  | 36 => ⟨S1x15x128x4x64, .f32⟩
  | 37 => ⟨S_, .f32⟩
  | 38 => ⟨S1x16x128x4x64, .f32⟩
  | 39 => ⟨S1x16x128x4x64, .f32⟩
  | 40 => ⟨S1x16x128x4x64, .f32⟩
  | 41 => ⟨S1x16x128x4x64, .f32⟩
  | 42 => ⟨S1x1x128x4x64, .f32⟩
  | 43 => ⟨S1x15x128x4x64, .f32⟩
  | 44 => ⟨S_, .f32⟩
  | 45 => ⟨S1x16x128x4x64, .f32⟩
  | 46 => ⟨S1x16x128x4x64, .f32⟩
  | 47 => ⟨S1x2048x4x64, .f32⟩
  | 48 => ⟨S1x2048x4x64, .f32⟩
  | 49 => ⟨S1x2048x16x64, .f32⟩
  | 50 => ⟨S2048x1024, .f32⟩
  | 51 => ⟨S2048x256, .f32⟩
  | 52 => ⟨S2048x256, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_call0_v0 : Ref sig .tc := ⟨.hbm, 67, rfl⟩
abbrev main_v51_1 : Ref sig .tc := ⟨.hbm, 68, rfl⟩
abbrev main_call0_v2 : Ref sig .tc := ⟨.hbm, 69, rfl⟩
abbrev main_v51_0 : Ref sig .tc := ⟨.hbm, 70, rfl⟩
abbrev main_call0_cst : Ref sig .tc := ⟨.hbm, 71, rfl⟩
abbrev main_v51_2 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_21 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_22 : Ref sig .tc := ⟨.hbm, 144, rfl⟩
abbrev main_v110 : Ref sig .tc := ⟨.hbm, 145, rfl⟩
abbrev main_v111 : Ref sig .tc := ⟨.hbm, 146, rfl⟩
abbrev main_cst_23 : Ref sig .tc := ⟨.hbm, 147, rfl⟩
abbrev main_v112 : Ref sig .tc := ⟨.hbm, 148, rfl⟩
abbrev main_v113 : Ref sig .tc := ⟨.hbm, 149, rfl⟩
abbrev main_call1_cst : Ref sig .tc := ⟨.hbm, 150, rfl⟩
abbrev main_call1_v0 : Ref sig .tc := ⟨.hbm, 151, rfl⟩
abbrev main_v114 : Ref sig .tc := ⟨.hbm, 152, rfl⟩
abbrev main_cst_24 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_25 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_26 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩

abbrev nD : Nat := 1
abbrev τ : Topo := Topo.v7x

variable {F : FTy → Type} [FloatOps F]
-- ==== Qk.lean ====
abbrev S2048x7680 : Shape := ⟨2, ![2048, 7680]⟩
abbrev S64 : Shape := ⟨1, ![64]⟩
abbrev S2048x32 : Shape := ⟨2, ![2048, 32]⟩
abbrev S2048x1024 : Shape := ⟨2, ![2048, 1024]⟩
abbrev S2048x512 : Shape := ⟨2, ![2048, 512]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S2048x1536 : Shape := ⟨2, ![2048, 1536]⟩
abbrev S128x1024 : Shape := ⟨2, ![128, 1024]⟩
abbrev S128x256 : Shape := ⟨2, ![128, 256]⟩
abbrev S128x128 : Shape := ⟨2, ![128, 128]⟩
abbrev S128x512 : Shape := ⟨2, ![128, 512]⟩
abbrev S128x1536 : Shape := ⟨2, ![128, 1536]⟩
abbrev S1x1024 : Shape := ⟨2, ![1, 1024]⟩
abbrev S1024 : Shape := ⟨1, ![1024]⟩
abbrev S1x256 : Shape := ⟨2, ![1, 256]⟩
abbrev S256 : Shape := ⟨1, ![256]⟩

abbrev nBuf : Space → Nat
  | .hbm => 30
  | .vmem => 24
  | .smem => 0
  | _ => 0

abbrev bufTy : (tb : Table) → Fin (tcTables nBuf tb) → BufTy
  | .hbm, ⟨0, _⟩ => ⟨S2048x7680, .f32⟩
  | .hbm, ⟨1, _⟩ => ⟨S64, .f32⟩
  | .hbm, ⟨2, _⟩ => ⟨S64, .f32⟩
  | .hbm, ⟨3, _⟩ => ⟨S2048x32, .f32⟩
  | .hbm, ⟨4, _⟩ => ⟨S2048x32, .f32⟩
  | .hbm, ⟨5, _⟩ => ⟨S2048x1024, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x64, .f32⟩
  | .hbm, ⟨11, _⟩ => ⟨S1x2048x1x64, .f32⟩
  | .hbm, ⟨12, _⟩ => ⟨S1x2048x2x64, .f32⟩
  | .hbm, ⟨13, _⟩ => ⟨S2048x128, .f32⟩
  | .hbm, ⟨14, _⟩ => ⟨S2048x32, .f32⟩
  | .hbm, ⟨15, _⟩ => ⟨S2048x64, .f32⟩
  | .hbm, ⟨16, _⟩ => ⟨S1x2048x1x64, .f32⟩
  | .hbm, ⟨17, _⟩ => ⟨S1x2048x2x64, .f32⟩
  | .hbm, ⟨18, _⟩ => ⟨S2048x128, .f32⟩
  | .hbm, ⟨19, _⟩ => ⟨S1x64, .f32⟩
  | .hbm, ⟨20, _⟩ => ⟨S1x1x1x64, .f32⟩
  | .hbm, ⟨21, _⟩ => ⟨S1x1x2x64, .f32⟩
  | .hbm, ⟨22, _⟩ => ⟨S1x128, .f32⟩
  | .hbm, ⟨23, _⟩ => ⟨S1x64, .f32⟩
  | .hbm, ⟨24, _⟩ => ⟨S1x1x1x64, .f32⟩
  | .hbm, ⟨25, _⟩ => ⟨S1x1x2x64, .f32⟩
  | .hbm, ⟨26, _⟩ => ⟨S1x128, .f32⟩
  | .hbm, ⟨27, _⟩ => ⟨S2048x1536, .bf16⟩
  | .hbm, ⟨28, _⟩ => ⟨S1x128, .f32⟩
  | .hbm, ⟨29, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1024, .f32⟩
  | .local _ .vmem, ⟨11, _⟩ => ⟨S128x1024, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x1536, .bf16⟩
  | .local _ .vmem, ⟨21, _⟩ => ⟨S128x1536, .bf16⟩
  | .local _ .vmem, ⟨22, _⟩ => ⟨S1x128, .f32⟩
  | .local _ .vmem, ⟨23, _⟩ => ⟨S1x128, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== QkRefIdeal.lean ====
abbrev S2048x7680 : Shape := ⟨2, ![2048, 7680]⟩
abbrev S64 : Shape := ⟨1, ![64]⟩
abbrev S2048x32 : Shape := ⟨2, ![2048, 32]⟩
abbrev S2048x1024 : Shape := ⟨2, ![2048, 1024]⟩
abbrev S2048x512 : Shape := ⟨2, ![2048, 512]⟩
abbrev S1x2048x16x64 : Shape := ⟨4, ![1, 2048, 16, 64]⟩
abbrev S_ : Shape := ⟨0, ![]⟩
abbrev S1x2048x16 : Shape := ⟨3, ![1, 2048, 16]⟩
abbrev S1x2048x16x1 : Shape := ⟨4, ![1, 2048, 16, 1]⟩
abbrev S1x1x1x64 : Shape := ⟨4, ![1, 1, 1, 64]⟩
abbrev S1x2048x16x32 : Shape := ⟨4, ![1, 2048, 16, 32]⟩
abbrev S1x2048x1x32 : Shape := ⟨4, ![1, 2048, 1, 32]⟩
abbrev S1x64 : Shape := ⟨2, ![1, 64]⟩
abbrev S2048x16 : Shape := ⟨2, ![2048, 16]⟩
abbrev S2048x256 : Shape := ⟨2, ![2048, 256]⟩
abbrev S1x2048x4x64 : Shape := ⟨4, ![1, 2048, 4, 64]⟩
abbrev S1x2048x4 : Shape := ⟨3, ![1, 2048, 4]⟩
abbrev S1x2048x4x1 : Shape := ⟨4, ![1, 2048, 4, 1]⟩
abbrev S1x2048x4x32 : Shape := ⟨4, ![1, 2048, 4, 32]⟩
abbrev S1920x512 : Shape := ⟨2, ![1920, 512]⟩
abbrev S128x512 : Shape := ⟨2, ![128, 512]⟩
abbrev S2048x4x2x64 : Shape := ⟨4, ![2048, 4, 2, 64]⟩
abbrev S2048x4x64 : Shape := ⟨3, ![2048, 4, 64]⟩
abbrev S2048x4 : Shape := ⟨2, ![2048, 4]⟩
abbrev S2048x1536 : Shape := ⟨2, ![2048, 1536]⟩
abbrev S128 : Shape := ⟨1, ![128]⟩
abbrev S1x128 : Shape := ⟨2, ![1, 128]⟩

abbrev nBuf : Space → Nat
  | .hbm => 199
  | .vmem => 0
  | .smem => 0
  | _ => 0

abbrev hbmTy0_0 (i : Nat) : BufTy := match i % 128 with
  | 0 => ⟨S2048x7680, .f32⟩
  | 1 => ⟨S64, .f32⟩
  | 2 => ⟨S64, .f32⟩
  | 3 => ⟨S2048x32, .f32⟩
  | 4 => ⟨S2048x32, .f32⟩
  | 5 => ⟨S2048x1024, .f32⟩
  | 6 => ⟨S2048x512, .f32⟩
  | 7 => ⟨S2048x512, .f32⟩
  | 8 => ⟨S2048x512, .f32⟩
  | 9 => ⟨S2048x512, .f32⟩
  | 10 => ⟨S2048x1024, .f32⟩
  | 11 => ⟨S1x2048x16x64, .f32⟩
  | 12 => ⟨S1x2048x16x64, .f32⟩
  | 13 => ⟨S_, .f32⟩
  | 14 => ⟨S1x2048x16, .f32⟩
  | 15 => ⟨S1x2048x16x1, .f32⟩
  | 16 => ⟨S_, .f32⟩
  | 17 => ⟨S1x2048x16x1, .f32⟩
  | 18 => ⟨S1x2048x16x1, .f32⟩
  | 19 => ⟨S_, .f32⟩
  | 20 => ⟨S1x2048x16x1, .f32⟩
  | 21 => ⟨S1x2048x16x1, .f32⟩
  | 22 => ⟨S1x2048x16x1, .f32⟩
  | 23 => ⟨S1x2048x16x1, .f32⟩
  | 24 => ⟨S_, .f32⟩
  | 25 => ⟨S1x2048x16x1, .f32⟩
  | 26 => ⟨S1x2048x16x1, .f32⟩
  | 27 => ⟨S1x2048x16x64, .f32⟩
  | 28 => ⟨S1x2048x16x64, .f32⟩
  | 29 => ⟨S1x1x1x64, .f32⟩
  | 30 => ⟨S1x2048x16x64, .f32⟩
  | 31 => ⟨S1x2048x16x64, .f32⟩
  | 32 => ⟨S1x2048x16x32, .f32⟩
  | 33 => ⟨S1x2048x16x32, .f32⟩
  | 34 => ⟨S1x2048x1x32, .f32⟩
  | 35 => ⟨S1x2048x1x32, .f32⟩
  | 36 => ⟨S1x2048x16x32, .f32⟩
  | 37 => ⟨S1x2048x16x32, .f32⟩
  | 38 => ⟨S1x2048x16x32, .f32⟩
  | 39 => ⟨S1x2048x16x32, .f32⟩
  | 40 => ⟨S1x2048x16x32, .f32⟩
  | 41 => ⟨S1x2048x16x32, .f32⟩
  | 42 => ⟨S1x2048x16x32, .f32⟩
  | 43 => ⟨S1x2048x16x32, .f32⟩
  | 44 => ⟨S1x2048x16x32, .f32⟩
  | 45 => ⟨S1x2048x16x32, .f32⟩
  | 46 => ⟨S1x2048x16x64, .f32⟩
  | 47 => ⟨S1x2048x16x64, .f32⟩
  | 48 => ⟨S1x2048x16x32, .f32⟩
  | 49 => ⟨S1x2048x16x32, .f32⟩
  | 50 => ⟨S1x2048x16x32, .f32⟩
  | 51 => ⟨S1x2048x16x32, .f32⟩
  | 52 => ⟨S1x2048x16x32, .f32⟩
  | 53 => ⟨S1x2048x16x32, .f32⟩
  | 54 => ⟨S1x2048x16x32, .f32⟩
  | 55 => ⟨S1x2048x16x32, .f32⟩
  | 56 => ⟨S1x2048x16x32, .f32⟩
  | 57 => ⟨S1x2048x16x32, .f32⟩
  | 58 => ⟨S1x2048x16x32, .f32⟩
  | 59 => ⟨S1x2048x16x32, .f32⟩
  | 60 => ⟨S1x2048x16x32, .f32⟩
  | 61 => ⟨S_, .f32⟩
  | 62 => ⟨S1x2048x16x64, .f32⟩
  | 63 => ⟨S_, .f32⟩
  | 64 => ⟨S1x2048x16x64, .f32⟩
  | 65 => ⟨S1x2048x16x64, .f32⟩
  | 66 => ⟨S1x2048x16x64, .f32⟩
  | 67 => ⟨S_, .f32⟩
  | 68 => ⟨S1x64, .f32⟩
  | 69 => ⟨S1x1x1x64, .f32⟩
  | 70 => ⟨S1x2048x16x64, .f32⟩
  | 71 => ⟨S1x2048x16x64, .f32⟩
  | 72 => ⟨S_, .f32⟩
  | 73 => ⟨S64, .f32⟩
  | 74 => ⟨S1x2048x16x64, .f32⟩
  | 75 => ⟨S_, .f32⟩
  | 76 => ⟨S1x2048x16, .f32⟩
  | 77 => ⟨S1x2048x16x1, .f32⟩
  | 78 => ⟨S1x2048x16x64, .f32⟩
  | 79 => ⟨S1x2048x16x64, .f32⟩
  | 80 => ⟨S1x2048x16x1, .f32⟩
  | 81 => ⟨S_, .f32⟩
  | 82 => ⟨S1x2048x16x1, .f32⟩
  | 83 => ⟨S1x2048x16x1, .f32⟩
  | 84 => ⟨S_, .f32⟩
  | 85 => ⟨S2048x16, .f32⟩
  | 86 => ⟨S1x2048x16, .f32⟩
  | 87 => ⟨S1x2048x16x64, .f32⟩
  | 88 => ⟨S1x2048x16x64, .f32⟩
  | 89 => ⟨S1x2048x16x64, .f32⟩
  | 90 => ⟨S1x2048x16x64, .f32⟩
  | 91 => ⟨S1x2048x16x64, .f32⟩
  | 92 => ⟨S2048x1024, .f32⟩
  | 93 => ⟨S2048x256, .f32⟩
  | 94 => ⟨S1x2048x4x64, .f32⟩
  | 95 => ⟨S1x2048x4x64, .f32⟩
  | 96 => ⟨S_, .f32⟩
  | 97 => ⟨S1x2048x4, .f32⟩
  | 98 => ⟨S1x2048x4x1, .f32⟩
  | 99 => ⟨S_, .f32⟩
  | 100 => ⟨S1x2048x4x1, .f32⟩
  | 101 => ⟨S1x2048x4x1, .f32⟩
  | 102 => ⟨S_, .f32⟩
  | 103 => ⟨S1x2048x4x1, .f32⟩
  | 104 => ⟨S1x2048x4x1, .f32⟩
  | 105 => ⟨S1x2048x4x1, .f32⟩
  | 106 => ⟨S1x2048x4x1, .f32⟩
  | 107 => ⟨S_, .f32⟩
  | 108 => ⟨S1x2048x4x1, .f32⟩
  | 109 => ⟨S1x2048x4x1, .f32⟩
  | 110 => ⟨S1x2048x4x64, .f32⟩
  | 111 => ⟨S1x2048x4x64, .f32⟩
  | 112 => ⟨S1x1x1x64, .f32⟩
  | 113 => ⟨S1x2048x4x64, .f32⟩
  | 114 => ⟨S1x2048x4x64, .f32⟩
  | 115 => ⟨S1x2048x4x32, .f32⟩
  | 116 => ⟨S1x2048x4x32, .f32⟩
  | 117 => ⟨S1x2048x1x32, .f32⟩
  | 118 => ⟨S1x2048x1x32, .f32⟩
  | 119 => ⟨S1x2048x4x32, .f32⟩
  | 120 => ⟨S1x2048x4x32, .f32⟩
  | 121 => ⟨S1x2048x4x32, .f32⟩
  | 122 => ⟨S1x2048x4x32, .f32⟩
  | 123 => ⟨S1x2048x4x32, .f32⟩
  | 124 => ⟨S1x2048x4x32, .f32⟩
  | 125 => ⟨S1x2048x4x32, .f32⟩
  | 126 => ⟨S1x2048x4x32, .f32⟩
  | 127 => ⟨S1x2048x4x32, .f32⟩
  | _ => ⟨S2048x7680, .f32⟩

abbrev hbmTy0_1 (i : Nat) : BufTy := match i % 128 with
  | 0 => ⟨S1x2048x4x32, .f32⟩
  | 1 => ⟨S1x2048x4x64, .f32⟩
  | 2 => ⟨S1920x512, .f32⟩
  | 3 => ⟨S_, .f32⟩
  | 4 => ⟨S128x512, .f32⟩
  | 5 => ⟨S2048x512, .f32⟩
  | 6 => ⟨S2048x512, .f32⟩
  | 7 => ⟨S2048x4x2x64, .f32⟩
  | 8 => ⟨S_, .f32⟩
  | 9 => ⟨S2048x4x64, .f32⟩
  | 10 => ⟨S1x2048x4x64, .f32⟩
  | 11 => ⟨S1x2048x4x32, .f32⟩
  | 12 => ⟨S1x2048x4x32, .f32⟩
  | 13 => ⟨S1x2048x4x32, .f32⟩
  | 14 => ⟨S1x2048x4x32, .f32⟩
  | 15 => ⟨S1x2048x4x32, .f32⟩
  | 16 => ⟨S1x2048x4x32, .f32⟩
  | 17 => ⟨S1x2048x4x32, .f32⟩
  | 18 => ⟨S1x2048x4x32, .f32⟩
  | 19 => ⟨S1x2048x4x32, .f32⟩
  | 20 => ⟨S1x2048x4x32, .f32⟩
  | 21 => ⟨S1x2048x4x32, .f32⟩
  | 22 => ⟨S1x2048x4x32, .f32⟩
  | 23 => ⟨S1x2048x4x32, .f32⟩
  | 24 => ⟨S_, .f32⟩
  | 25 => ⟨S1x2048x4x64, .f32⟩
  | 26 => ⟨S_, .f32⟩
  | 27 => ⟨S1x2048x4x64, .f32⟩
  | 28 => ⟨S1x2048x4x64, .f32⟩
  | 29 => ⟨S1x2048x4x64, .f32⟩
  | 30 => ⟨S_, .f32⟩
  | 31 => ⟨S1x64, .f32⟩
  | 32 => ⟨S1x1x1x64, .f32⟩
  | 33 => ⟨S1x2048x4x64, .f32⟩
  | 34 => ⟨S1x2048x4x64, .f32⟩
  | 35 => ⟨S_, .f32⟩
  | 36 => ⟨S64, .f32⟩
  | 37 => ⟨S1x2048x4x64, .f32⟩
  | 38 => ⟨S_, .f32⟩
  | 39 => ⟨S1x2048x4, .f32⟩
  | 40 => ⟨S1x2048x4x1, .f32⟩
  | 41 => ⟨S1x2048x4x64, .f32⟩
  | 42 => ⟨S1x2048x4x64, .f32⟩
  | 43 => ⟨S1x2048x4x1, .f32⟩
  | 44 => ⟨S_, .f32⟩
  | 45 => ⟨S1x2048x4x1, .f32⟩
  | 46 => ⟨S1x2048x4x1, .f32⟩
  | 47 => ⟨S_, .f32⟩
  | 48 => ⟨S2048x4, .f32⟩
  | 49 => ⟨S1x2048x4, .f32⟩
  | 50 => ⟨S1x2048x4x64, .f32⟩
  | 51 => ⟨S1x2048x4x64, .f32⟩
  | 52 => ⟨S1x2048x4x64, .f32⟩
  | 53 => ⟨S1x2048x4x64, .f32⟩
  | 54 => ⟨S1x2048x4x64, .f32⟩
  | 55 => ⟨S2048x256, .f32⟩
  | 56 => ⟨S1920x512, .f32⟩
  | 57 => ⟨S_, .f32⟩
  | 58 => ⟨S128x512, .f32⟩
  | 59 => ⟨S2048x512, .f32⟩
  | 60 => ⟨S2048x512, .f32⟩
  | 61 => ⟨S2048x4x2x64, .f32⟩
  | 62 => ⟨S_, .f32⟩
  | 63 => ⟨S2048x4x64, .f32⟩
  | 64 => ⟨S2048x256, .f32⟩
  | 65 => ⟨S2048x1536, .f32⟩
  | 66 => ⟨S2048x1536, .bf16⟩
  | 67 => ⟨S128, .f32⟩
  | 68 => ⟨S1x128, .f32⟩
  | 69 => ⟨S128, .f32⟩
  | 70 => ⟨S1x128, .f32⟩
  | _ => ⟨S2048x7680, .f32⟩

abbrev hbmTy (i : Nat) : BufTy := match i / 128 with
  | 0 => hbmTy0_0 i
  | 1 => hbmTy0_1 i
  | _ => ⟨S2048x7680, .f32⟩

abbrev bufTy : (tb : Table) → Fin (tcTables nBuf tb) → BufTy
  | .hbm, ⟨i, _⟩ => hbmTy i
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_v76 : Ref sig .tc := ⟨.hbm, 98, rfl⟩
abbrev main_cst_11 : Ref sig .tc := ⟨.hbm, 99, rfl⟩
abbrev main_v77 : Ref sig .tc := ⟨.hbm, 100, rfl⟩
abbrev main_v78 : Ref sig .tc := ⟨.hbm, 101, rfl⟩
abbrev main_cst_12 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_14 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_15 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_16 : Ref sig .tc := ⟨.hbm, 152, rfl⟩
abbrev main_v125 : Ref sig .tc := ⟨.hbm, 153, rfl⟩
abbrev main_cst_17 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_18 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_19 : Ref sig .tc := ⟨.hbm, 163, rfl⟩
abbrev main_v133 : Ref sig .tc := ⟨.hbm, 164, rfl⟩
abbrev main_v134 : Ref sig .tc := ⟨.hbm, 165, rfl⟩
abbrev main_cst_20 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_21 : Ref sig .tc := ⟨.hbm, 172, rfl⟩
abbrev main_v140 : Ref sig .tc := ⟨.hbm, 173, rfl⟩
abbrev main_v141 : Ref sig .tc := ⟨.hbm, 174, rfl⟩
abbrev main_cst_22 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_cst_23 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_cst_24 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩

abbrev nD : Nat := 1
abbrev τ : Topo := Topo.v7x

variable {F : FTy → Type} [FloatOps F]
-- ==== ProjIn.lean ====
abbrev S2048x2048 : Shape := ⟨2, ![2048, 2048]⟩
abbrev S2048x7680 : Shape := ⟨2, ![2048, 7680]⟩
abbrev S2048x4x1920 : Shape := ⟨3, ![2048, 4, 1920]⟩
abbrev S4x2048x1920 : Shape := ⟨3, ![4, 2048, 1920]⟩
abbrev S1024x2048 : Shape := ⟨2, ![1024, 2048]⟩
abbrev S1x2048x640 : Shape := ⟨3, ![1, 2048, 640]⟩
abbrev S1024x640 : Shape := ⟨2, ![1024, 640]⟩
abbrev S2048x640 : Shape := ⟨2, ![2048, 640]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x7680, .f32⟩
  | .hbm, ⟨2, _⟩ => ⟨S2048x2048, .bf16⟩
  | .hbm, ⟨3, _⟩ => ⟨S2048x4x1920, .f32⟩
  | .hbm, ⟨4, _⟩ => ⟨S4x2048x1920, .f32⟩
  | .hbm, ⟨5, _⟩ => ⟨S4x2048x1920, .bf16⟩
  | .hbm, ⟨6, _⟩ => ⟨S2048x7680, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S1024x640, .f32⟩
  | .local _ .vmem, ⟨5, _⟩ => ⟨S1024x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ProjInRefIdeal.lean ====
abbrev S2048x2048 : Shape := ⟨2, ![2048, 2048]⟩
abbrev S2048x7680 : Shape := ⟨2, ![2048, 7680]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7680, .f32⟩
  | .hbm, ⟨2, _⟩ => ⟨S2048x7680, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Gate.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S256x2048 : Shape := ⟨2, ![256, 2048]⟩
abbrev S1x2048x1408 : Shape := ⟨3, ![1, 2048, 1408]⟩
abbrev S256x1408 : Shape := ⟨2, ![256, 1408]⟩
abbrev S1x2048x256 : Shape := ⟨3, ![1, 2048, 256]⟩
abbrev S2048x256 : Shape := ⟨2, ![2048, 256]⟩
abbrev S256x256 : Shape := ⟨2, ![256, 256]⟩
abbrev S1x2048x128 : Shape := ⟨3, ![1, 2048, 128]⟩
abbrev S2048x128 : Shape := ⟨2, ![2048, 128]⟩
abbrev S256x128 : Shape := ⟨2, ![256, 128]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .bf16⟩
  | .hbm, ⟨3, _⟩ => ⟨S2048x4x1408, .f32⟩
  | .hbm, ⟨4, _⟩ => ⟨S4x2048x1408, .f32⟩
  | .hbm, ⟨5, _⟩ => ⟨S4x2048x1408, .bf16⟩
  | .hbm, ⟨6, _⟩ => ⟨S2048x5632, .f32⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S256x1408, .f32⟩
  | .local _ .vmem, ⟨5, _⟩ => ⟨S256x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S2048x2048 : Shape := ⟨2, ![2048, 2048]⟩
abbrev S2048x5632 : Shape := ⟨2, ![2048, 5632]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpAct.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S256x2048 : Shape := ⟨2, ![256, 2048]⟩
abbrev S1x2048x1408 : Shape := ⟨3, ![1, 2048, 1408]⟩
abbrev S256x1408 : Shape := ⟨2, ![256, 1408]⟩
abbrev S1x2048x256 : Shape := ⟨3, ![1, 2048, 256]⟩
abbrev S2048x256 : Shape := ⟨2, ![2048, 256]⟩
abbrev S256x256 : Shape := ⟨2, ![256, 256]⟩
abbrev S1x2048x128 : Shape := ⟨3, ![1, 2048, 128]⟩
abbrev S2048x128 : Shape := ⟨2, ![2048, 128]⟩
abbrev S256x128 : Shape := ⟨2, ![256, 128]⟩

abbrev nBuf : Space → Nat
  | .hbm => 9
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2048x4x1408, .f32⟩
  | .hbm, ⟨5, _⟩ => ⟨S4x2048x1408, .f32⟩
  | .hbm, ⟨6, _⟩ => ⟨S4x2048x1408, .bf16⟩
  | .hbm, ⟨7, _⟩ => ⟨S2048x5632, .f32⟩
  | .hbm, ⟨8, _⟩ => ⟨S2048x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .bf16⟩
  | .local _ .vmem, ⟨9, _⟩ => ⟨S256x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpActRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== DownProj.lean ====
abbrev S2048x5632 : Shape := ⟨2, ![2048, 5632]⟩
abbrev S5632x2048 : Shape := ⟨2, ![5632, 2048]⟩
abbrev S2048x2048 : Shape := ⟨2, ![2048, 2048]⟩
abbrev S4x1408x2048 : Shape := ⟨3, ![4, 1408, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S4x1408x2048, .f32⟩
  | .hbm, ⟨5, _⟩ => ⟨S4x1408x2048, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v1 : BitVec 1 := Scalar.cmpi .eq arg2 c3_i32
  let v14 : BitVec 32 := Scalar.extui v1
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownProjIdeal.lean ====
abbrev S2048x5632 : Shape := ⟨2, ![2048, 5632]⟩
abbrev S5632x2048 : Shape := ⟨2, ![5632, 2048]⟩
abbrev S2048x2048 : Shape := ⟨2, ![2048, 2048]⟩
abbrev S4x1408x2048 : Shape := ⟨3, ![4, 1408, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S4x1408x2048, .f32⟩
  | .hbm, ⟨5, _⟩ => ⟨S4x1408x2048, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v1 : BitVec 1 := Scalar.cmpi .eq arg2 c3_i32
  let v14 : BitVec 32 := Scalar.extui v1
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownProjRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutProj.lean ====
abbrev S2048x2048 : Shape := ⟨2, ![2048, 2048]⟩
abbrev S4x512x2048 : Shape := ⟨3, ![4, 512, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S4x512x2048, .f32⟩
  | .hbm, ⟨5, _⟩ => ⟨S4x512x2048, .bf16⟩
  | .hbm, ⟨6, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v1 : BitVec 1 := Scalar.cmpi .eq arg2 c3_i32
  let v14 : BitVec 32 := Scalar.extui v1
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Merge.lean ====
abbrev S2048x1024 : Shape := ⟨2, ![2048, 1024]⟩
abbrev S1024x2048 : Shape := ⟨2, ![1024, 2048]⟩
abbrev S2048x7680 : Shape := ⟨2, ![2048, 7680]⟩
abbrev S1024x4x512 : Shape := ⟨3, ![1024, 4, 512]⟩
abbrev S4x1024x512 : Shape := ⟨3, ![4, 1024, 512]⟩
abbrev S2048x2048 : Shape := ⟨2, ![2048, 2048]⟩
abbrev S512x1024 : Shape := ⟨2, ![512, 1024]⟩
abbrev S1x1024x512 : Shape := ⟨3, ![1, 1024, 512]⟩
abbrev S512x512 : Shape := ⟨2, ![512, 512]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 16
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x7680, .f32⟩
  | .hbm, ⟨5, _⟩ => ⟨S2048x1024, .bf16⟩
  | .hbm, ⟨6, _⟩ => ⟨S2048x1024, .bf16⟩
  | .hbm, ⟨7, _⟩ => ⟨S1024x4x512, .f32⟩
  | .hbm, ⟨8, _⟩ => ⟨S4x1024x512, .f32⟩
  | .hbm, ⟨9, _⟩ => ⟨S4x1024x512, .bf16⟩
  | .hbm, ⟨10, _⟩ => ⟨S1024x4x512, .f32⟩
  | .hbm, ⟨11, _⟩ => ⟨S4x1024x512, .f32⟩
  | .hbm, ⟨12, _⟩ => ⟨S4x1024x512, .bf16⟩
  | .hbm, ⟨13, _⟩ => ⟨S2048x2048, .bf16⟩
  | .hbm, ⟨14, _⟩ => ⟨S2048x2048, .f32⟩
  | .hbm, ⟨15, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S2048x1024 : Shape := ⟨2, ![2048, 1024]⟩
abbrev S1024x2048 : Shape := ⟨2, ![1024, 2048]⟩
abbrev S2048x7680 : Shape := ⟨2, ![2048, 7680]⟩
abbrev S2048x2048 : Shape := ⟨2, ![2048, 2048]⟩
abbrev S2048x4096 : Shape := ⟨2, ![2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x7680, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S8x128 : Shape := ⟨2, ![8, 128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S8x128, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x2048 : Shape := ⟨2, ![2048, 2048]⟩
abbrev S2048 : Shape := ⟨1, ![2048]⟩
abbrev S8x128 : Shape := ⟨2, ![8, 128]⟩
abbrev S_ : Shape := ⟨0, ![]⟩
abbrev S2048x1 : Shape := ⟨2, ![2048, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S8x128, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== SguFwd.lean ====
abbrev S2048x7680 : Shape := ⟨2, ![2048, 7680]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S8x128x1 : Shape := ⟨3, ![8, 128, 1]⟩
abbrev S2048x1024 : Shape := ⟨2, ![2048, 1024]⟩
abbrev S256x512 : Shape := ⟨2, ![256, 512]⟩
abbrev S1x512 : Shape := ⟨2, ![1, 512]⟩
abbrev S4x128x128 : Shape := ⟨3, ![4, 128, 128]⟩
abbrev S4x128x1 : Shape := ⟨3, ![4, 128, 1]⟩
abbrev S256x128 : Shape := ⟨2, ![256, 128]⟩
abbrev S1x128 : Shape := ⟨2, ![1, 128]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S2048x7680, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S8x128x1, .f32⟩
  | .hbm, ⟨8, _⟩ => ⟨S2048x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S4x128x128, .f32⟩
  | .local _ .vmem, ⟨10, _⟩ => ⟨S4x128x1, .f32⟩
  | .local _ .vmem, ⟨11, _⟩ => ⟨S4x128x1, .f32⟩
  | .local _ .vmem, ⟨12, _⟩ => ⟨S256x512, .bf16⟩
  | .local _ .vmem, ⟨13, _⟩ => ⟨S256x512, .bf16⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SguFwdIdeal.lean ====
variable {F : FTy → Type} [FloatOps F] [Named F]
def κ : String → Option EReal := fun
  | "gelu_a" => some ((8943 / 200000 : ℝ) : EReal)
  | _ => none
-- ==== SguFwdRefIdeal.lean ====
abbrev S2048x7680 : Shape := ⟨2, ![2048, 7680]⟩
abbrev S1024 : Shape := ⟨1, ![1024]⟩
abbrev S8x128x128 : Shape := ⟨3, ![8, 128, 128]⟩
abbrev S8x128 : Shape := ⟨2, ![8, 128]⟩
abbrev S2048x2048 : Shape := ⟨2, ![2048, 2048]⟩
abbrev S1x2048x2048 : Shape := ⟨3, ![1, 2048, 2048]⟩
abbrev S_ : Shape := ⟨0, ![]⟩
abbrev S1x2048x1024 : Shape := ⟨3, ![1, 2048, 1024]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S1x1x8x128 : Shape := ⟨4, ![1, 1, 8, 128]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S2048x1024 : Shape := ⟨2, ![2048, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2048x7680, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S2048x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S_, .f32⟩
  | .hbm, ⟨10, _⟩ => ⟨S1x2048x2048, .f32⟩
  | .hbm, ⟨11, _⟩ => ⟨S1x2048x2048, .f32⟩
  | .hbm, ⟨12, _⟩ => ⟨S_, .f32⟩
  | .hbm, ⟨13, _⟩ => ⟨S1x2048x2048, .f32⟩
  | .hbm, ⟨14, _⟩ => ⟨S1x2048x2048, .f32⟩
  | .hbm, ⟨15, _⟩ => ⟨S1x2048x2048, .f32⟩
  | .hbm, ⟨16, _⟩ => ⟨S_, .f32⟩
  | .hbm, ⟨17, _⟩ => ⟨S1x2048x2048, .f32⟩
  | .hbm, ⟨18, _⟩ => ⟨S1x2048x2048, .f32⟩
  | .hbm, ⟨19, _⟩ => ⟨S1x2048x2048, .f32⟩
  | .hbm, ⟨20, _⟩ => ⟨S_, .f32⟩
  | .hbm, ⟨21, _⟩ => ⟨S1x2048x2048, .f32⟩
  | .hbm, ⟨22, _⟩ => ⟨S1x2048x2048, .f32⟩
  | .hbm, ⟨23, _⟩ => ⟨S_, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S1x2048x1024, .f32⟩
  | .hbm, ⟨28, _⟩ => ⟨S1x2048x1024, .f32⟩
  | .hbm, ⟨29, _⟩ => ⟨S1x2048x8x128, .f32⟩
  | .hbm, ⟨30, _⟩ => ⟨S_, .f32⟩
  | .hbm, ⟨31, _⟩ => ⟨S1x2048x8, .f32⟩
  | .hbm, ⟨32, _⟩ => ⟨S1x2048x8x1, .f32⟩
  | .hbm, ⟨33, _⟩ => ⟨S_, .f32⟩
  | .hbm, ⟨34, _⟩ => ⟨S1x2048x8x1, .f32⟩
  | .hbm, ⟨35, _⟩ => ⟨S1x2048x8x1, .f32⟩
  | .hbm, ⟨36, _⟩ => ⟨S1x2048x8x128, .f32⟩
  | .hbm, ⟨37, _⟩ => ⟨S1x2048x8x128, .f32⟩
  | .hbm, ⟨38, _⟩ => ⟨S1x2048x8x128, .f32⟩
  | .hbm, ⟨39, _⟩ => ⟨S_, .f32⟩
  | .hbm, ⟨40, _⟩ => ⟨S1x2048x8, .f32⟩
  | .hbm, ⟨41, _⟩ => ⟨S1x2048x8x1, .f32⟩
  | .hbm, ⟨42, _⟩ => ⟨S_, .f32⟩
  | .hbm, ⟨43, _⟩ => ⟨S1x2048x8x1, .f32⟩
  | .hbm, ⟨44, _⟩ => ⟨S1x2048x8x1, .f32⟩
  | .hbm, ⟨45, _⟩ => ⟨S1x2048x8x128, .f32⟩
  | .hbm, ⟨46, _⟩ => ⟨S1x2048x8x128, .f32⟩
  | .hbm, ⟨47, _⟩ => ⟨S_, .f32⟩
  | .hbm, ⟨48, _⟩ => ⟨S1x2048x8x1, .f32⟩
  | .hbm, ⟨49, _⟩ => ⟨S1x2048x8x1, .f32⟩
  | .hbm, ⟨50, _⟩ => ⟨S1x2048x8x1, .f32⟩
  | .hbm, ⟨51, _⟩ => ⟨S1x2048x8x128, .f32⟩
  | .hbm, ⟨52, _⟩ => ⟨S1x2048x8x128, .f32⟩
  | .hbm, ⟨53, _⟩ => ⟨S8x128, .f32⟩
  | .hbm, ⟨54, _⟩ => ⟨S1x1x8x128, .f32⟩
  | .hbm, ⟨55, _⟩ => ⟨S1x2048x8x128, .f32⟩
  | .hbm, ⟨56, _⟩ => ⟨S1x2048x8x128, .f32⟩
  | .hbm, ⟨57, _⟩ => ⟨S8x128, .f32⟩
  | .hbm, ⟨58, _⟩ => ⟨S1x1x8x128, .f32⟩
  | .hbm, ⟨59, _⟩ => ⟨S1x2048x8x128, .f32⟩
  | .hbm, ⟨60, _⟩ => ⟨S1x2048x8x128, .f32⟩
  | .hbm, ⟨61, _⟩ => ⟨S1x16x128x8x128, .f32⟩
  | .hbm, ⟨62, _⟩ => ⟨S_, .i1⟩
  | .hbm, ⟨63, _⟩ => ⟨S128x128, .i1⟩
  | .hbm, ⟨64, _⟩ => ⟨S128x128, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S_, .i1⟩
  | .hbm, ⟨71, _⟩ => ⟨S128x128, .i1⟩
  | .hbm, ⟨72, _⟩ => ⟨S128x128, .i1⟩
  | .hbm, ⟨73, _⟩ => ⟨S1x128x128, .i1⟩
  | .hbm, ⟨74, _⟩ => ⟨S_, .f32⟩
  | .hbm, ⟨75, _⟩ => ⟨S8x128x128, .f32⟩
  | .hbm, ⟨76, _⟩ => ⟨S8x128x128, .i1⟩
  | .hbm, ⟨77, _⟩ => ⟨S8x128x128, .f32⟩
  | .hbm, ⟨78, _⟩ => ⟨S8x1x16x128x128, .f32⟩
  | .hbm, ⟨79, _⟩ => ⟨S1x16x128x8x128, .f32⟩
  | .hbm, ⟨80, _⟩ => ⟨S128x8, .f32⟩
  | .hbm, ⟨81, _⟩ => ⟨S1x1x128x8x1, .f32⟩
  | .hbm, ⟨82, _⟩ => ⟨S1x16x128x8x128, .f32⟩
  | .hbm, ⟨83, _⟩ => ⟨S1x16x128x8x128, .f32⟩
  | .hbm, ⟨84, _⟩ => ⟨S1x2048x1024, .f32⟩
  | .hbm, ⟨85, _⟩ => ⟨S1x2048x1024, .f32⟩
  | .hbm, ⟨86, _⟩ => ⟨S2048x1024, .f32⟩
  | .hbm, ⟨87, _⟩ => ⟨S2048x1024, .bf16⟩
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_v47 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_0 : Ref sig .tc := ⟨.hbm, 70, rfl⟩
abbrev main_call0_v5 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]
-- ==== AttnFwd.lean ====
abbrev S2048x1024 : Shape := ⟨2, ![2048, 1024]⟩
abbrev S2048x256 : Shape := ⟨2, ![2048, 256]⟩
abbrev S16 : Shape := ⟨1, ![16]⟩
abbrev S_ : Shape := ⟨0, ![]⟩
abbrev S2048x4x1x64 : Shape := ⟨4, ![2048, 4, 1, 64]⟩
abbrev S2048x4x2x64 : Shape := ⟨4, ![2048, 4, 2, 64]⟩
abbrev S2048x512 : Shape := ⟨2, ![2048, 512]⟩
abbrev S1x16 : Shape := ⟨2, ![1, 16]⟩
abbrev S128x1024 : Shape := ⟨2, ![128, 1024]⟩
abbrev S128x512 : Shape := ⟨2, ![128, 512]⟩
abbrev S256x128 : Shape := ⟨2, ![256, 128]⟩
abbrev S256x512 : Shape := ⟨2, ![256, 512]⟩
abbrev S128x128 : Shape := ⟨2, ![128, 128]⟩
abbrev S512x128 : Shape := ⟨2, ![512, 128]⟩
abbrev S1x1 : Shape := ⟨2, ![1, 1]⟩
abbrev S1x128 : Shape := ⟨2, ![1, 128]⟩
abbrev S1x512 : Shape := ⟨2, ![1, 512]⟩
abbrev S512 : Shape := ⟨1, ![512]⟩
abbrev S128x256 : Shape := ⟨2, ![128, 256]⟩

abbrev nBuf : Space → Nat
  | .hbm => 18
  | .vmem => 12
  | .smem => 1
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x4x1x64, .f32⟩
  | .hbm, ⟨9, _⟩ => ⟨S2048x4x2x64, .f32⟩
  | .hbm, ⟨10, _⟩ => ⟨S2048x512, .f32⟩
  | .hbm, ⟨11, _⟩ => ⟨S2048x512, .bf16⟩
  | .hbm, ⟨12, _⟩ => ⟨S2048x4x1x64, .f32⟩
  | .hbm, ⟨13, _⟩ => ⟨S2048x4x2x64, .f32⟩
  | .hbm, ⟨14, _⟩ => ⟨S2048x512, .f32⟩
  | .hbm, ⟨15, _⟩ => ⟨S2048x512, .bf16⟩
  | .hbm, ⟨16, _⟩ => ⟨S1x16, .f32⟩
  | .hbm, ⟨17, _⟩ => ⟨S2048x1024, .bf16⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x1024, .bf16⟩
  | .local _ .vmem, ⟨11, _⟩ => ⟨S128x1024, .bf16⟩
  | .local _ .smem, ⟨0, _⟩ => ⟨S1x16, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S2048x1024 : Shape := ⟨2, ![2048, 1024]⟩
abbrev S2048x256 : Shape := ⟨2, ![2048, 256]⟩
abbrev S16 : Shape := ⟨1, ![16]⟩
abbrev S1x2048x16x64 : Shape := ⟨4, ![1, 2048, 16, 64]⟩
abbrev S1x2048x4x64 : Shape := ⟨4, ![1, 2048, 4, 64]⟩
abbrev S1x16x128x4x4x64 : Shape := ⟨6, ![1, 16, 128, 4, 4, 64]⟩
abbrev S1x16x128x4x64 : Shape := ⟨5, ![1, 16, 128, 4, 64]⟩
abbrev S1x1x128x4x64 : Shape := ⟨5, ![1, 1, 128, 4, 64]⟩
abbrev S_ : Shape := ⟨0, ![]⟩
abbrev S1x15x128x4x64 : Shape := ⟨5, ![1, 15, 128, 4, 64]⟩
abbrev S1x16x256x4x64 : Shape := ⟨5, ![1, 16, 256, 4, 64]⟩
abbrev S1x16x4x256x128x4 : Shape := ⟨6, ![1, 16, 4, 256, 128, 4]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S4x4 : Shape := ⟨2, ![4, 4]⟩
abbrev S1x1x4x4x1x1 : Shape := ⟨6, ![1, 1, 4, 4, 1, 1]⟩
abbrev S1x16x4x4x128x1 : Shape := ⟨6, ![1, 16, 4, 4, 128, 1]⟩
abbrev S1x16x4x4x128x257 : Shape := ⟨6, ![1, 16, 4, 4, 128, 257]⟩
abbrev S1x16x4x4x128 : Shape := ⟨5, ![1, 16, 4, 4, 128]⟩
abbrev S1x16x4x64x4x128 : Shape := ⟨6, ![1, 16, 4, 64, 4, 128]⟩
abbrev S1x2048x1024 : Shape := ⟨3, ![1, 2048, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S1x2048x16x64, .f32⟩
  | .hbm, ⟨5, _⟩ => ⟨S1x2048x4x64, .f32⟩
  | .hbm, ⟨6, _⟩ => ⟨S1x2048x4x64, .f32⟩
  | .hbm, ⟨7, _⟩ => ⟨S1x16x128x4x4x64, .f32⟩
  | .hbm, ⟨8, _⟩ => ⟨S1x16x128x4x64, .f32⟩
  | .hbm, ⟨9, _⟩ => ⟨S1x16x128x4x64, .f32⟩
  | .hbm, ⟨10, _⟩ => ⟨S1x1x128x4x64, .f32⟩
  | .hbm, ⟨11, _⟩ => ⟨S_, .f32⟩
  | .hbm, ⟨12, _⟩ => ⟨S1x1x128x4x64, .f32⟩
  | .hbm, ⟨13, _⟩ => ⟨S1x15x128x4x64, .f32⟩
  | .hbm, ⟨14, _⟩ => ⟨S1x16x128x4x64, .f32⟩
  | .hbm, ⟨15, _⟩ => ⟨S1x16x256x4x64, .f32⟩
  | .hbm, ⟨16, _⟩ => ⟨S1x1x128x4x64, .f32⟩
  | .hbm, ⟨17, _⟩ => ⟨S_, .f32⟩
  | .hbm, ⟨18, _⟩ => ⟨S1x1x128x4x64, .f32⟩
  | .hbm, ⟨19, _⟩ => ⟨S1x15x128x4x64, .f32⟩
  | .hbm, ⟨20, _⟩ => ⟨S1x16x128x4x64, .f32⟩
  | .hbm, ⟨21, _⟩ => ⟨S1x16x256x4x64, .f32⟩
  | .hbm, ⟨22, _⟩ => ⟨S1x16x4x256x128x4, .f32⟩
  | .hbm, ⟨23, _⟩ => ⟨S1x16x4x4x128x256, .f32⟩
  | .hbm, ⟨24, _⟩ => ⟨S_, .f32⟩
  | .hbm, ⟨25, _⟩ => ⟨S1x16x4x4x128x256, .f32⟩
  | .hbm, ⟨26, _⟩ => ⟨S1x16x4x4x128x256, .f32⟩
  | .hbm, ⟨27, _⟩ => ⟨S128, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S16, .i32⟩
  | .hbm, ⟨45, _⟩ => ⟨S16x1x1, .i32⟩
  | .hbm, ⟨46, _⟩ => ⟨S_, .i32⟩
  | .hbm, ⟨47, _⟩ => ⟨S16x1x1, .i32⟩
  | .hbm, ⟨48, _⟩ => ⟨S16x1x1, .i1⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x1x256, .i1⟩
  | .hbm, ⟨53, _⟩ => ⟨S16x1x256, .i1⟩
  | .hbm, ⟨54, _⟩ => ⟨S16x1x256, .i1⟩
  | .hbm, ⟨55, _⟩ => ⟨S16x1x256, .i1⟩
  | .hbm, ⟨56, _⟩ => ⟨S1x128x256, .i1⟩
  | .hbm, ⟨57, _⟩ => ⟨S16x128x256, .i1⟩
  | .hbm, ⟨58, _⟩ => ⟨S16x128x256, .i1⟩
  | .hbm, ⟨59, _⟩ => ⟨S16x128x256, .i1⟩
  | .hbm, ⟨60, _⟩ => ⟨S1x16x1x1x128x256, .i1⟩
  | .hbm, ⟨61, _⟩ => ⟨S_, .f32⟩
  | .hbm, ⟨62, _⟩ => ⟨S_, .f32⟩
  | .hbm, ⟨63, _⟩ => ⟨S1x16x4x4x128x256, .i1⟩
  | .hbm, ⟨64, _⟩ => ⟨S1x16x4x4x128x256, .f32⟩
  | .hbm, ⟨65, _⟩ => ⟨S1x16x4x4x128x256, .f32⟩
  | .hbm, ⟨66, _⟩ => ⟨S4x4, .f32⟩
  | .hbm, ⟨67, _⟩ => ⟨S1x1x4x4x1x1, .f32⟩
  | .hbm, ⟨68, _⟩ => ⟨S1x16x4x4x128x1, .f32⟩
  | .hbm, ⟨69, _⟩ => ⟨S1x16x4x4x128x257, .f32⟩
  | .hbm, ⟨70, _⟩ => ⟨S_, .f32⟩
  | .hbm, ⟨71, _⟩ => ⟨S1x16x4x4x128, .f32⟩
  | .hbm, ⟨72, _⟩ => ⟨S_, .f32⟩
  | .hbm, ⟨73, _⟩ => ⟨S1x16x4x4x128, .f32⟩
  | .hbm, ⟨74, _⟩ => ⟨S1x16x4x4x128, .f32⟩
  | .hbm, ⟨75, _⟩ => ⟨S1x16x4x4x128x1, .f32⟩
  | .hbm, ⟨76, _⟩ => ⟨S1x16x4x4x128x257, .f32⟩
  | .hbm, ⟨77, _⟩ => ⟨S1x16x4x4x128x257, .f32⟩
  | .hbm, ⟨78, _⟩ => ⟨S1x16x4x4x128x257, .f32⟩
  | .hbm, ⟨79, _⟩ => ⟨S_, .f32⟩
  | .hbm, ⟨80, _⟩ => ⟨S1x16x4x4x128, .f32⟩
  | .hbm, ⟨81, _⟩ => ⟨S1x16x4x4x128x1, .f32⟩
  | .hbm, ⟨82, _⟩ => ⟨S1x16x4x4x128x257, .f32⟩
  | .hbm, ⟨83, _⟩ => ⟨S1x16x4x4x128x257, .f32⟩
  | .hbm, ⟨84, _⟩ => ⟨S1x16x4x4x128x256, .f32⟩
  | .hbm, ⟨85, _⟩ => ⟨S1x16x4x64x4x128, .f32⟩
  | .hbm, ⟨86, _⟩ => ⟨S1x16x128x4x4x64, .f32⟩
  | .hbm, ⟨87, _⟩ => ⟨S1x2048x1024, .f32⟩
  | .hbm, ⟨88, _⟩ => ⟨S2048x1024, .f32⟩
  | .hbm, ⟨89, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== QkPrep.lean ====
abbrev S2048x7680 : Shape := ⟨2, ![2048, 7680]⟩
abbrev S64 : Shape := ⟨1, ![64]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S2048x1024 : Shape := ⟨2, ![2048, 1024]⟩
abbrev S2048x512 : Shape := ⟨2, ![2048, 512]⟩
abbrev S256x1024 : Shape := ⟨2, ![256, 1024]⟩
abbrev S256x256 : Shape := ⟨2, ![256, 256]⟩
abbrev S256x128 : Shape := ⟨2, ![256, 128]⟩
abbrev S256x512 : Shape := ⟨2, ![256, 512]⟩
abbrev S1x1024 : Shape := ⟨2, ![1, 1024]⟩
abbrev S128x128 : Shape := ⟨2, ![128, 128]⟩
abbrev S1x256 : Shape := ⟨2, ![1, 256]⟩

abbrev nBuf : Space → Nat
  | .hbm => 25
  | .vmem => 18
  | .smem => 0
  | _ => 0

abbrev bufTy : (tb : Table) → Fin (tcTables nBuf tb) → BufTy
  | .hbm, ⟨0, _⟩ => ⟨S2048x7680, .f32⟩
  | .hbm, ⟨1, _⟩ => ⟨S64, .f32⟩
  | .hbm, ⟨2, _⟩ => ⟨S64, .f32⟩
  | .hbm, ⟨3, _⟩ => ⟨S2048x32, .f32⟩
  | .hbm, ⟨4, _⟩ => ⟨S2048x32, .f32⟩
  | .hbm, ⟨5, _⟩ => ⟨S2048x64, .f32⟩
  | .hbm, ⟨6, _⟩ => ⟨S1x2048x1x64, .f32⟩
  | .hbm, ⟨7, _⟩ => ⟨S1x2048x2x64, .f32⟩
  | .hbm, ⟨8, _⟩ => ⟨S2048x128, .f32⟩
  | .hbm, ⟨9, _⟩ => ⟨S2048x32, .f32⟩
  | .hbm, ⟨10, _⟩ => ⟨S2048x64, .f32⟩
  | .hbm, ⟨11, _⟩ => ⟨S1x2048x1x64, .f32⟩
  | .hbm, ⟨12, _⟩ => ⟨S1x2048x2x64, .f32⟩
  | .hbm, ⟨13, _⟩ => ⟨S2048x128, .f32⟩
  | .hbm, ⟨14, _⟩ => ⟨S1x64, .f32⟩
  | .hbm, ⟨15, _⟩ => ⟨S1x1x1x64, .f32⟩
  | .hbm, ⟨16, _⟩ => ⟨S1x1x2x64, .f32⟩
  | .hbm, ⟨17, _⟩ => ⟨S1x128, .f32⟩
  | .hbm, ⟨18, _⟩ => ⟨S1x64, .f32⟩
  | .hbm, ⟨19, _⟩ => ⟨S1x1x1x64, .f32⟩
  | .hbm, ⟨20, _⟩ => ⟨S1x1x2x64, .f32⟩
  | .hbm, ⟨21, _⟩ => ⟨S1x128, .f32⟩
  | .hbm, ⟨22, _⟩ => ⟨S2048x1024, .bf16⟩
  | .hbm, ⟨23, _⟩ => ⟨S2048x512, .bf16⟩
  | .hbm, ⟨24, _⟩ => ⟨S2048x512, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkPrepRefIdeal.lean ====
abbrev S2048x7680 : Shape := ⟨2, ![2048, 7680]⟩
abbrev S64 : Shape := ⟨1, ![64]⟩
abbrev S2048x32 : Shape := ⟨2, ![2048, 32]⟩
abbrev S2048x1024 : Shape := ⟨2, ![2048, 1024]⟩
abbrev S1x2048x16x64 : Shape := ⟨4, ![1, 2048, 16, 64]⟩
abbrev S_ : Shape := ⟨0, ![]⟩
abbrev S1x2048x16 : Shape := ⟨3, ![1, 2048, 16]⟩
abbrev S1x2048x16x1 : Shape := ⟨4, ![1, 2048, 16, 1]⟩
abbrev S1x1x1x64 : Shape := ⟨4, ![1, 1, 1, 64]⟩
abbrev S1x2048x16x32 : Shape := ⟨4, ![1, 2048, 16, 32]⟩
abbrev S1x2048x1x32 : Shape := ⟨4, ![1, 2048, 1, 32]⟩
abbrev S2048x16x64 : Shape := ⟨3, ![2048, 16, 64]⟩
abbrev S2048x256 : Shape := ⟨2, ![2048, 256]⟩
abbrev S1x2048x4x64 : Shape := ⟨4, ![1, 2048, 4, 64]⟩
abbrev S1x2048x4 : Shape := ⟨3, ![1, 2048, 4]⟩
abbrev S1x2048x4x1 : Shape := ⟨4, ![1, 2048, 4, 1]⟩
abbrev S1x2048x4x32 : Shape := ⟨4, ![1, 2048, 4, 32]⟩
abbrev S2048x4x64 : Shape := ⟨3, ![2048, 4, 64]⟩
abbrev S2048x4x128 : Shape := ⟨3, ![2048, 4, 128]⟩
abbrev S2048x512 : Shape := ⟨2, ![2048, 512]⟩

abbrev nBuf : Space → Nat
  | .hbm => 86
  | .vmem => 0
  | .smem => 0
  | _ => 0

abbrev bufTy : (tb : Table) → Fin (tcTables nBuf tb) → BufTy
  | .hbm, ⟨0, _⟩ => ⟨S2048x7680, .f32⟩
  | .hbm, ⟨1, _⟩ => ⟨S64, .f32⟩
  | .hbm, ⟨2, _⟩ => ⟨S64, .f32⟩
  | .hbm, ⟨3, _⟩ => ⟨S2048x32, .f32⟩
  | .hbm, ⟨4, _⟩ => ⟨S2048x32, .f32⟩
  | .hbm, ⟨5, _⟩ => ⟨S2048x1024, .f32⟩
  | .hbm, ⟨6, _⟩ => ⟨S1x2048x16x64, .f32⟩
  | .hbm, ⟨7, _⟩ => ⟨S1x2048x16x64, .f32⟩
  | .hbm, ⟨8, _⟩ => ⟨S_, .f32⟩
  | .hbm, ⟨9, _⟩ => ⟨S1x2048x16, .f32⟩
  | .hbm, ⟨10, _⟩ => ⟨S1x2048x16x1, .f32⟩
  | .hbm, ⟨11, _⟩ => ⟨S_, .f32⟩
  | .hbm, ⟨12, _⟩ => ⟨S1x2048x16x1, .f32⟩
  | .hbm, ⟨13, _⟩ => ⟨S1x2048x16x1, .f32⟩
  | .hbm, ⟨14, _⟩ => ⟨S_, .f32⟩
  | .hbm, ⟨15, _⟩ => ⟨S1x2048x16x1, .f32⟩
  | .hbm, ⟨16, _⟩ => ⟨S1x2048x16x1, .f32⟩
  | .hbm, ⟨17, _⟩ => ⟨S1x2048x16x1, .f32⟩
  | .hbm, ⟨18, _⟩ => ⟨S1x2048x16x64, .f32⟩
  | .hbm, ⟨19, _⟩ => ⟨S1x2048x16x64, .f32⟩
  | .hbm, ⟨20, _⟩ => ⟨S1x1x1x64, .f32⟩
  | .hbm, ⟨21, _⟩ => ⟨S1x2048x16x64, .f32⟩
  | .hbm, ⟨22, _⟩ => ⟨S1x2048x16x64, .f32⟩
  | .hbm, ⟨23, _⟩ => ⟨S1x2048x16x32, .f32⟩
  | .hbm, ⟨24, _⟩ => ⟨S1x2048x16x32, .f32⟩
  | .hbm, ⟨25, _⟩ => ⟨S1x2048x1x32, .f32⟩
  | .hbm, ⟨26, _⟩ => ⟨S1x2048x1x32, .f32⟩
  | .hbm, ⟨27, _⟩ => ⟨S1x2048x16x32, .f32⟩
  | .hbm, ⟨28, _⟩ => ⟨S1x2048x16x32, .f32⟩
  | .hbm, ⟨29, _⟩ => ⟨S1x2048x16x32, .f32⟩
  | .hbm, ⟨30, _⟩ => ⟨S1x2048x16x32, .f32⟩
  | .hbm, ⟨31, _⟩ => ⟨S1x2048x16x32, .f32⟩
  | .hbm, ⟨32, _⟩ => ⟨S1x2048x16x32, .f32⟩
  | .hbm, ⟨33, _⟩ => ⟨S1x2048x16x32, .f32⟩
  | .hbm, ⟨34, _⟩ => ⟨S1x2048x16x32, .f32⟩
  | .hbm, ⟨35, _⟩ => ⟨S1x2048x16x32, .f32⟩
  | .hbm, ⟨36, _⟩ => ⟨S1x2048x16x32, .f32⟩
  | .hbm, ⟨37, _⟩ => ⟨S1x2048x16x64, .f32⟩
  | .hbm, ⟨38, _⟩ => ⟨S2048x16x64, .f32⟩
  | .hbm, ⟨39, _⟩ => ⟨S_, .f32⟩
  | .hbm, ⟨40, _⟩ => ⟨S2048x16x64, .f32⟩
  | .hbm, ⟨41, _⟩ => ⟨S2048x16x64, .f32⟩
  | .hbm, ⟨42, _⟩ => ⟨S2048x1024, .f32⟩
  | .hbm, ⟨43, _⟩ => ⟨S2048x1024, .bf16⟩
  | .hbm, ⟨44, _⟩ => ⟨S2048x256, .f32⟩
  | .hbm, ⟨45, _⟩ => ⟨S1x2048x4x64, .f32⟩
  | .hbm, ⟨46, _⟩ => ⟨S1x2048x4x64, .f32⟩
  | .hbm, ⟨47, _⟩ => ⟨S_, .f32⟩
  | .hbm, ⟨48, _⟩ => ⟨S1x2048x4, .f32⟩
  | .hbm, ⟨49, _⟩ => ⟨S1x2048x4x1, .f32⟩
  | .hbm, ⟨50, _⟩ => ⟨S_, .f32⟩
  | .hbm, ⟨51, _⟩ => ⟨S1x2048x4x1, .f32⟩
  | .hbm, ⟨52, _⟩ => ⟨S1x2048x4x1, .f32⟩
  | .hbm, ⟨53, _⟩ => ⟨S_, .f32⟩
  | .hbm, ⟨54, _⟩ => ⟨S1x2048x4x1, .f32⟩
  | .hbm, ⟨55, _⟩ => ⟨S1x2048x4x1, .f32⟩
  | .hbm, ⟨56, _⟩ => ⟨S1x2048x4x1, .f32⟩
  | .hbm, ⟨57, _⟩ => ⟨S1x2048x4x64, .f32⟩
  | .hbm, ⟨58, _⟩ => ⟨S1x2048x4x64, .f32⟩
  | .hbm, ⟨59, _⟩ => ⟨S1x1x1x64, .f32⟩
  | .hbm, ⟨60, _⟩ => ⟨S1x2048x4x64, .f32⟩
  | .hbm, ⟨61, _⟩ => ⟨S1x2048x4x64, .f32⟩
  | .hbm, ⟨62, _⟩ => ⟨S1x2048x4x32, .f32⟩
  | .hbm, ⟨63, _⟩ => ⟨S1x2048x4x32, .f32⟩
  | .hbm, ⟨64, _⟩ => ⟨S1x2048x1x32, .f32⟩
  | .hbm, ⟨65, _⟩ => ⟨S1x2048x1x32, .f32⟩
  | .hbm, ⟨66, _⟩ => ⟨S1x2048x4x32, .f32⟩
  | .hbm, ⟨67, _⟩ => ⟨S1x2048x4x32, .f32⟩
  | .hbm, ⟨68, _⟩ => ⟨S1x2048x4x32, .f32⟩
  | .hbm, ⟨69, _⟩ => ⟨S1x2048x4x32, .f32⟩
  | .hbm, ⟨70, _⟩ => ⟨S1x2048x4x32, .f32⟩
  | .hbm, ⟨71, _⟩ => ⟨S1x2048x4x32, .f32⟩
  | .hbm, ⟨72, _⟩ => ⟨S1x2048x4x32, .f32⟩
  | .hbm, ⟨73, _⟩ => ⟨S1x2048x4x32, .f32⟩
  | .hbm, ⟨74, _⟩ => ⟨S1x2048x4x32, .f32⟩
  | .hbm, ⟨75, _⟩ => ⟨S1x2048x4x32, .f32⟩
  | .hbm, ⟨76, _⟩ => ⟨S1x2048x4x64, .f32⟩
  | .hbm, ⟨77, _⟩ => ⟨S2048x4x64, .f32⟩
  | .hbm, ⟨78, _⟩ => ⟨S2048x4x128, .f32⟩
  | .hbm, ⟨79, _⟩ => ⟨S2048x512, .f32⟩
  | .hbm, ⟨80, _⟩ => ⟨S2048x512, .bf16⟩
  | .hbm, ⟨81, _⟩ => ⟨S2048x256, .f32⟩
  | .hbm, ⟨82, _⟩ => ⟨S2048x4x64, .f32⟩
  | .hbm, ⟨83, _⟩ => ⟨S2048x4x128, .f32⟩
  | .hbm, ⟨84, _⟩ => ⟨S2048x512, .f32⟩
  | .hbm, ⟨85, _⟩ => ⟨S2048x512, .bf16⟩
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== Proof.Lift.lean ====
/- Scalars of the ideal instance that are real numbers: every operation the programs apply to reals gives the real
   that analysis names, so a term over finite arguments is the coercion of a real term. -/
module

public import Idealize.ShloMosaic.Lib.Pointwise
public import Idealize.ShloMosaic.Lib.IdealHost

@[expose] public section

noncomputable section

namespace Cert.Lift

open Idealize.ShloMosaic

/-- A finite sum of reals, summed in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of reals over `Fin n` whose terms only read the number, as the sum over the numbers below `n`. -/
theorem coe_sum_fin {n : ℕ} (f : ℕ → ℝ) : ∑ i : Fin n, ((f i.val : ℝ) : EReal) = ((∑ i ∈ Finset.range n, f i : ℝ) : EReal) := by
  rw [coe_sum, Finset.sum_range]

/-- A quotient of reals with a nonzero divisor. -/
theorem div_coe (x y : ℝ) (h : y ≠ 0) : Ideal.div (x : EReal) (y : EReal) = ((x / y : ℝ) : EReal) := by
  rw [Ideal.div_coe h, ← EReal.coe_mul, mul_one_div]

/-- The reciprocal root of a positive real. -/
theorem rsqrt_coe (x : ℝ) (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr h.le), if_neg h.ne']

/-- The hyperbolic tangent of a real. -/
theorem tanh_coe (x : ℝ) : Ideal.tanh (x : EReal) = ((Real.tanh x : ℝ) : EReal) := rfl

/-- The exponential of a real. -/
theorem exp_coe (x : ℝ) : Ideal.exp (x : EReal) = ((Real.exp x : ℝ) : EReal) := rfl

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

theorem bits_one : Ideal.ofBits .f32 0x3F800000#32 = ((1 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_three : Ideal.ofBits .f32 0x40400000#32 = ((3 : ℝ) : EReal) := by
  simp [Ideal.ofBits, Ideal.ieee, -EReal.coe_mul]; norm_num

theorem bits_128 : Ideal.ofBits .f32 0x43000000#32 = ((128 : ℝ) : EReal) := by
  simp [Ideal.ofBits, Ideal.ieee, -EReal.coe_mul]; norm_num

theorem bits_8943 : Ideal.ofBits .f32 0x460BBC00#32 = ((8943 : ℝ) : EReal) := by
  simp [Ideal.ofBits, Ideal.ieee, -EReal.coe_mul]; norm_num

theorem bits_200000 : Ideal.ofBits .f32 0x48435000#32 = ((200000 : ℝ) : EReal) := by
  simp [Ideal.ofBits, Ideal.ieee, -EReal.coe_mul]; norm_num

theorem bits_zero : Ideal.ofBits .f32 0x00000000#32 = ((0 : ℝ) : EReal) := by
  simp [Ideal.ofBits, Ideal.ieee, -EReal.coe_mul]

/-- The small constant added to a variance (the program's rounding of a millionth). -/
def eps : ℝ := 8796093 * (2 : ℝ) ^ (-43 : ℤ)

theorem eps_pos : 0 < eps := by unfold eps; positivity

theorem bits_eps : Ideal.ofBits .f32 0x358637BD#32 = ((eps : ℝ) : EReal) := by
  simp [Ideal.ofBits, Ideal.ieee, -EReal.coe_mul, eps]

/-- The factor inside the tanh form of GELU (the program's rounding of `√(2/π)`). -/
def geluC : ℝ := 13386282 * (2 : ℝ) ^ (-24 : ℤ)

theorem bits_geluC : Ideal.ofBits .f32 0x3F4C422A#32 = ((geluC : ℝ) : EReal) := by
  simp [Ideal.ofBits, Ideal.ieee, -EReal.coe_mul, geluC]

/-- A choice between reals is the real choice. -/
theorem ite_coe (p : Prop) [Decidable p] (x y : ℝ) : (if p then (x : EReal) else (y : EReal)) = ((if p then x else y : ℝ) : EReal) := by
  split <;> rfl

end Cert.Lift

end
-- ==== Proof.SguMath.lean ====
/- The gradient of one group of the spatial gating unit over the reals: what each array is, and the two identities
   between the closed forms that a kernel computes and what the chain rule writes. A group has 128 lanes; its rows come
   in chunks of 128, and the mixing matrix acts inside a chunk. Rows and lanes are numbers. -/
module

public import proofs.«01_k».proof.Proof.Lift

@[expose] public section

noncomputable section

namespace Cert.Sgu

open Cert.Lift

/-- The argument of the tanh in GELU. -/
def geluArg (x : ℝ) : ℝ := geluC * (x + 8943 / 200000 * x * x * x)

/-- GELU in its tanh form. -/
def gelu (x : ℝ) : ℝ := 1 / 2 * x * (1 + Real.tanh (geluArg x))

/-- The derivative of GELU, in closed form. -/
def geluGrad (x : ℝ) : ℝ :=
  1 / 2 * (1 + Real.tanh (geluArg x)) +
    1 / 2 * x * (1 - Real.tanh (geluArg x) * Real.tanh (geluArg x)) * geluC * (1 + 26829 / 200000 * x * x)

/-- The real data of one group: the pre-activations of its two halves and the incoming gradient by row and lane, the
    norm's gain and bias by lane, the mixing matrix and its bias. -/
structure Grp where
  pu : ℕ → ℕ → ℝ
  pv : ℕ → ℕ → ℝ
  dO : ℕ → ℕ → ℝ
  lg : ℕ → ℝ
  lb : ℕ → ℝ
  w : ℕ → ℕ → ℝ
  b : ℕ → ℝ

namespace Grp

variable (G : Grp)

/-- The gate half after GELU. -/
def u (r l : ℕ) : ℝ := gelu (G.pu r l)
/-- The value half after GELU. -/
def v (r l : ℕ) : ℝ := gelu (G.pv r l)
/-- A row's mean over the group. -/
def mu (r : ℕ) : ℝ := (∑ l ∈ Finset.range 128, G.v r l) / 128
/-- The centred value. -/
def vc (r l : ℕ) : ℝ := G.v r l - G.mu r
/-- A row's variance plus the small constant. -/
def var (r : ℕ) : ℝ := (∑ l ∈ Finset.range 128, G.vc r l * G.vc r l) / 128 + eps
/-- The reciprocal standard deviation. -/
def rho (r : ℕ) : ℝ := (Real.sqrt (G.var r))⁻¹
/-- The normalized value. -/
def xh (r l : ℕ) : ℝ := G.vc r l * G.rho r
/-- The normalized value with gain and bias. -/
def vn (r l : ℕ) : ℝ := G.xh r l * G.lg l + G.lb l
/-- The causal mixing matrix. -/
def W (i j : ℕ) : ℝ := if j ≤ i then G.w i j else 0
/-- The gate: the mixing of the row's chunk. -/
def s (r l : ℕ) : ℝ := (∑ j ∈ Finset.range 128, G.W (r % 128) j * G.vn (128 * (r / 128) + j) l) + G.b (r % 128)
/-- The gradient at the gate. -/
def ds (r l : ℕ) : ℝ := G.dO r l * G.u r l
/-- The gradient at the first half's pre-activation. -/
def dpu (r l : ℕ) : ℝ := G.dO r l * G.s r l * geluGrad (G.pu r l)
/-- The gradient at the normalized value after gain and bias. -/
def dvn (r l : ℕ) : ℝ := ∑ i ∈ Finset.range 128, G.W i (r % 128) * G.ds (128 * (r / 128) + i) l
/-- The gradient at the normalized value. -/
def dxh (r l : ℕ) : ℝ := G.dvn r l * G.lg l
/-- The gradient through the norm, in closed form. -/
def dv (r l : ℕ) : ℝ :=
  G.rho r * (G.dxh r l - (∑ k ∈ Finset.range 128, G.dxh r k) / 128 -
    G.xh r l * ((∑ k ∈ Finset.range 128, G.dxh r k * G.xh r k) / 128))
/-- The gradient at the second half's pre-activation. -/
def dpv (r l : ℕ) : ℝ := G.dv r l * geluGrad (G.pv r l)
/-- Chunk `n`'s part of the mixing matrix's gradient, before the mask. -/
def dwPart (n i j : ℕ) : ℝ := ∑ l ∈ Finset.range 128, G.ds (128 * n + i) l * G.vn (128 * n + j) l
/-- The mixing matrix's gradient over the first `N` chunks. -/
def dW (N i j : ℕ) : ℝ := if j ≤ i then ∑ n ∈ Finset.range N, G.dwPart n i j else 0
/-- The mixing bias's gradient over the first `N` chunks. -/
def db (N i : ℕ) : ℝ := ∑ n ∈ Finset.range N, ∑ l ∈ Finset.range 128, G.ds (128 * n + i) l
/-- The gain's gradient over the first `N` rows. -/
def dlg (N l : ℕ) : ℝ := ∑ r ∈ Finset.range N, G.dvn r l * G.xh r l
/-- The norm bias's gradient over the first `N` rows. -/
def dlb (N l : ℕ) : ℝ := ∑ r ∈ Finset.range N, G.dvn r l

theorem var_pos (r : ℕ) : 0 < G.var r :=
  add_pos_of_nonneg_of_pos (div_nonneg (Finset.sum_nonneg fun _ _ => mul_self_nonneg _) (by norm_num)) eps_pos

/-- The centred row sums to zero. -/
theorem sum_vc (r : ℕ) : ∑ l ∈ Finset.range 128, G.vc r l = 0 := by
  simp only [vc, mu, Finset.sum_sub_distrib, Finset.sum_const, Finset.card_range, nsmul_eq_mul]
  push_cast; ring

/-- The reciprocal deviation's cube is what the chain rule divides by. -/
theorem rho_div_var (r : ℕ) : G.rho r / G.var r = G.rho r * (G.rho r * G.rho r) := by
  have h := Real.mul_self_sqrt (G.var_pos r).le
  have : G.rho r * G.rho r = (G.var r)⁻¹ := by rw [rho, ← mul_inv, h]
  rw [this]; rfl

/-- The norm's gradient as the chain rule writes it — through the scaling, the variance and the mean — is the closed
    form. -/
theorem dv_chain (r l : ℕ) :
    (G.dxh r l * G.rho r
        + (∑ k ∈ Finset.range 128, G.vc r k * G.dxh r k) * (-(1 / 2) * (G.rho r / G.var r)) / 128 * (2 * G.vc r l))
      + ((∑ k ∈ Finset.range 128, -(G.dxh r k * G.rho r))
          + ∑ k ∈ Finset.range 128,
              -((∑ k ∈ Finset.range 128, G.vc r k * G.dxh r k) * (-(1 / 2) * (G.rho r / G.var r)) / 128 * (2 * G.vc r k))) / 128
      = G.dv r l := by
  rw [rho_div_var]
  have e1 : ∑ k ∈ Finset.range 128, -(G.dxh r k * G.rho r) = -((∑ k ∈ Finset.range 128, G.dxh r k) * G.rho r) := by
    rw [Finset.sum_neg_distrib, Finset.sum_mul]
  have e2 (c : ℝ) : ∑ k ∈ Finset.range 128, -(c * (2 * G.vc r k)) = 0 := by
    rw [Finset.sum_neg_distrib, ← Finset.mul_sum, ← Finset.mul_sum, sum_vc]; ring
  have e3 : ∑ k ∈ Finset.range 128, G.dxh r k * G.xh r k = (∑ k ∈ Finset.range 128, G.vc r k * G.dxh r k) * G.rho r := by
    rw [Finset.sum_mul]; exact Finset.sum_congr rfl fun k _ => by rw [xh]; ring
  rw [e1, e2, dv, e3, xh]; ring

end Grp

/-- GELU's gradient as the chain rule writes it, through the tanh and the cube, is the closed form. -/
theorem geluGrad_chain (x g : ℝ) :
    (g * (1 / 2 * (1 + Real.tanh (geluArg x)))
      + geluC * (1 / 2 * (x * g) * ((1 + Real.tanh (geluArg x)) * (1 - Real.tanh (geluArg x)))))
      + 8943 * (geluC * (1 / 2 * (x * g) * ((1 + Real.tanh (geluArg x)) * (1 - Real.tanh (geluArg x)))) / 200000) * (3 * (x * x))
      = g * geluGrad x := by
  unfold geluGrad; ring

/-- The tanh's argument with the cube written out and its factor as a quotient. -/
theorem geluArg_chain (x : ℝ) : geluC * (x + 8943 * (x * x * x) / 200000) = geluArg x := by
  unfold geluArg; ring

end Cert.Sgu

end
-- ==== Proof.SguGroup.lean ====
/- One group of one block of the spatial gating unit's backward kernel, over the ideal instance: each vector that the
   body forms for a group, read at an index, is the real quantity of `Sgu.Grp`. -/
module

public import proofs.«01_k».proof.Proof.SguMath
public import proofs.«01_k».proof.Proof.Gen.SguBwdIdeal.Value

@[expose] public section

set_option maxRecDepth 16384

noncomputable section

namespace Cert.Sgu

open Cert.SguBwdIdeal Cert.SguBwdIdeal.Gen Cert.Lift Idealize.ShloMosaic Idealize.ShloMosaic.TcCoe Idealize.SL.Sem

/-! The vectors of one group, named by the group's slices of what the block holds. -/
section Terms

variable {F : FTy → Type} [FloatOps F] [Named F]

/-- The normalized values with gain and bias. -/
abbrev tVn (v : FVec F S256x128 .f32) (lg lb : Vec F S1x128 .f32) : FVec F S256x128 .bf16 := k0_pay14 v (k0_pay9 lg) (k0_pay10 lb)
/-- The gate. -/
abbrev tS (v : FVec F S256x128 .f32) (lg lb : Vec F S1x128 .f32) (w : Vec F S1x128x128 .f32) (b : Vec F S1x128x1 .f32) : FVec F S256x128 .f32 :=
  k0_pay17 v (k0_pay9 lg) (k0_pay10 lb) w b
/-- The gradient at the gate. -/
abbrev tDs (d u : FVec F S256x128 .f32) : FVec F S256x128 .f32 := mulf d u
/-- The same in the products' narrower format. -/
abbrev tDsb (d u : FVec F S256x128 .f32) : FVec F S256x128 .bf16 := truncf .bf16 (tDs d u) bitsLt_bf16_f32
/-- The gradient at the normalized values with gain and bias. -/
abbrev tDvn (d u : FVec F S256x128 .f32) (w : Vec F S1x128x128 .f32) : FVec F S256x128 .f32 := k0_pay22 (k0_pay16 w) (tDsb d u)
/-- The gradient at the normalized values. -/
abbrev tDxh (d u : FVec F S256x128 .f32) (w : Vec F S1x128x128 .f32) (lg : Vec F S1x128 .f32) : FVec F S256x128 .f32 :=
  k0_pay25 (k0_pay16 w) (tDsb d u) lg
/-- The gradient through the norm. -/
abbrev tDv (v d u : FVec F S256x128 .f32) (w : Vec F S1x128x128 .f32) (lg : Vec F S1x128 .f32) : FVec F S256x128 .f32 :=
  k0_pay27 (k0_pay12 v) (k0_pay13 v) (tDxh d u w lg) (k0_pay26 (k0_pay16 w) (tDsb d u) lg)
/-- The block's part of the gain's gradient. -/
abbrev tDlg (v d u : FVec F S256x128 .f32) (w : Vec F S1x128x128 .f32) : FVec F S1x128 .f32 := k0_pay28 (k0_pay13 v) (tDvn d u w)
/-- The block's part of the norm bias's gradient. -/
abbrev tDlb (d u : FVec F S256x128 .f32) (w : Vec F S1x128x128 .f32) : FVec F S1x128 .f32 := k0_pay29 (tDvn d u w)
/-- The first chunk's rows. -/
abbrev top (x : FVec F S256x128 .bf16) : FVec F S128x128 .bf16 := extractStridedSlice S128x128 ![0, 0] x slices_S256x128_o0_0_S128x128
/-- The mixing matrix's gradient, added to what was there. -/
abbrev tDw (v d u : FVec F S256x128 .f32) (lg lb : Vec F S1x128 .f32) (acc : Vec F S1x128x128 .f32) : FVec F S1x128x128 .f32 :=
  k0_pay23 (tVn v lg lb) k0_pay15 (tDsb d u) (top (tDsb d u)) (top (tVn v lg lb)) acc
/-- The mixing bias's gradient, added to what was there. -/
abbrev tDb (d u : FVec F S256x128 .f32) (acc : Vec F S1x128x1 .f32) : FVec F S1x128x1 .f32 := k0_pay24 (tDs d u) acc

end Terms

variable (G : Grp) (r0 : ℕ)

/-- A block's group slice `X` holds the real array `f` from row `r0` on. -/
def Rows {ft : FTy} (r0 : ℕ) (X : FVec Ideal S256x128 ft) (f : ℕ → ℕ → ℝ) : Prop :=
  ∀ (a : Fin 256) (l : Fin 128), X (ix2 a l) = ((f (r0 + a.val) l.val : ℝ) : EReal)

/-- A lane vector holds the real function `f`. -/
def Lanes (x : FVec Ideal S1x128 .f32) (f : ℕ → ℝ) : Prop := ∀ (l : Fin 128), x (ix2 0 l) = ((f l.val : ℝ) : EReal)

/-- A square block holds the real matrix `f`. -/
def Square (x : FVec Ideal S1x128x128 .f32) (f : ℕ → ℕ → ℝ) : Prop :=
  ∀ (i j : Fin 128), x (ix3 0 i j) = ((f i.val j.val : ℝ) : EReal)

/-- A column block holds the real function `f`. -/
def Col (x : FVec Ideal S1x128x1 .f32) (f : ℕ → ℝ) : Prop := ∀ (i : Fin 128), x (ix3 0 i 0) = ((f i.val : ℝ) : EReal)

variable {G r0} {v d u : FVec Ideal S256x128 .f32} {lg lb : Vec Ideal S1x128 .f32} {w : Vec Ideal S1x128x128 .f32}
  {b : Vec Ideal S1x128x1 .f32}

theorem vc_val (hv : Rows r0 v G.v) : Rows r0 (k0_pay11 (F := Ideal) v) G.vc := by
  intro a l
  pointwise [k0_pay11]
  simp only [hv _ _, coe_sum, bits_128, div_coe _ _ (show (128 : ℝ) ≠ 0 by norm_num), ← EReal.coe_sub]
  rw [Grp.vc, Grp.mu, Finset.sum_range]

theorem rho_val (hv : Rows r0 v G.v) (a : Fin 256) : k0_pay12 (F := Ideal) v (ix2 a 0) = ((G.rho (r0 + a.val) : ℝ) : EReal) := by
  have hc := vc_val hv
  have hp := G.var_pos (r0 + a.val)
  rw [Grp.var, Finset.sum_range] at hp
  pointwise [k0_pay12]
  simp only [hc _ _, ← EReal.coe_mul, coe_sum, bits_128, bits_eps, div_coe _ _ (show (128 : ℝ) ≠ 0 by norm_num), ← EReal.coe_add,
    rsqrt_coe _ hp]
  rw [Grp.rho, Grp.var, Finset.sum_range]

theorem xh_val (hv : Rows r0 v G.v) : Rows r0 (k0_pay13 (F := Ideal) v) G.xh := by
  intro a l
  pointwise [k0_pay13]
  simp only [vc_val hv _ _, rho_val hv _, ← EReal.coe_mul]
  rfl

theorem vn_val (hv : Rows r0 v G.v) (hlg : Lanes lg G.lg) (hlb : Lanes lb G.lb) : Rows r0 (tVn v lg lb) G.vn := by
  intro a l
  pointwise [tVn, k0_pay14, k0_pay9, k0_pay10]
  simp only [xh_val hv _ _, hlg _, hlb _, ← EReal.coe_mul, ← EReal.coe_add]
  rfl

theorem mask_val {α : Type} (i j : Fin 128) (x y : α) :
    Scalar.select (IntOp.cmpi CmpIPredicate.sge (BitVec.ofNat 32 i.val) (BitVec.ofNat 32 j.val)) x y = if j.val ≤ i.val then x else y := by
  have hi : (BitVec.ofNat 32 i.val).toInt = i.val := by rw [BitVec.toInt_eq_toNat_of_lt] <;> simp <;> omega
  have hj : (BitVec.ofNat 32 j.val).toInt = j.val := by rw [BitVec.toInt_eq_toNat_of_lt] <;> simp <;> omega
  by_cases h : j.val ≤ i.val <;> simp [Scalar.select, IntOp.cmpi, BitVec.slt, BitVec.sle, hi, hj, h]

theorem w_val (hw : Square w G.w) (i j : Fin 128) : k0_pay16 (F := Ideal) w (ix2 i j) = ((G.W i.val j.val : ℝ) : EReal) := by
  pointwise [k0_pay16, k0_pay15]
  rw [mask_val, hw, ← EReal.coe_zero, ite_coe]
  rfl

theorem s_val (hr : r0 % 128 = 0) (hv : Rows r0 v G.v) (hlg : Lanes lg G.lg) (hlb : Lanes lb G.lb)
    (hw : Square w G.w) (hb : Col b G.b) : Rows r0 (tS v lg lb w b) G.s := by
  intro a l
  have hn := vn_val hv hlg hlb
  pointwise [tS, k0_pay17]
  split
  · have e : (r0 + a.val) % 128 = a.val := by omega
    have e' : 128 * ((r0 + a.val) / 128) = r0 := by omega
    simp only [w_val hw _ _, hb _, hn _ _, ← EReal.coe_mul, ← EReal.coe_add, coe_sum]
    rw [Grp.s, Finset.sum_range, e, e']
  · have e : (r0 + a.val) % 128 = a.val - 128 := by omega
    have e' : 128 * ((r0 + a.val) / 128) = r0 + 128 := by omega
    simp only [w_val hw _ _, hb _, hn _ _, ← EReal.coe_mul, ← EReal.coe_add, coe_sum]
    rw [Grp.s, Finset.sum_range, e, e']
    simp only [add_assoc]

theorem ds_val (hd : Rows r0 d G.dO) (hu : Rows r0 u G.u) : Rows r0 (tDs d u) G.ds := by
  intro a l
  pointwise [tDs]
  simp only [hd _ _, hu _ _, ← EReal.coe_mul]
  rfl

theorem dsb_val (hd : Rows r0 d G.dO) (hu : Rows r0 u G.u) : Rows r0 (tDsb d u) G.ds := by
  intro a l
  pointwise [tDsb]
  simp only [hd _ _, hu _ _, ← EReal.coe_mul]
  rfl

theorem dvn_val (hr : r0 % 128 = 0) (hd : Rows r0 d G.dO) (hu : Rows r0 u G.u) (hw : Square w G.w) : Rows r0 (tDvn d u w) G.dvn := by
  intro a l
  pointwise [tDvn, k0_pay22]
  split
  · have e : (r0 + a.val) % 128 = a.val := by omega
    have e' : 128 * ((r0 + a.val) / 128) = r0 := by omega
    simp only [w_val hw _ _, hd _ _, hu _ _, ← EReal.coe_mul, ← EReal.coe_add, coe_sum]
    rw [Grp.dvn, Finset.sum_range, e, e']
    rfl
  · have e : (r0 + a.val) % 128 = a.val - 128 := by omega
    have e' : 128 * ((r0 + a.val) / 128) = r0 + 128 := by omega
    simp only [w_val hw _ _, hd _ _, hu _ _, ← EReal.coe_mul, ← EReal.coe_add, coe_sum]
    rw [Grp.dvn, Finset.sum_range, e, e']
    simp only [add_assoc]
    rfl

theorem dxh_val (hr : r0 % 128 = 0) (hd : Rows r0 d G.dO) (hu : Rows r0 u G.u) (hw : Square w G.w) (hlg : Lanes lg G.lg) :
    Rows r0 (tDxh d u w lg) G.dxh := by
  intro a l
  have hn := dvn_val hr hd hu hw
  unfold tDvn at hn
  pointwise [tDxh, k0_pay25]
  rw [hn, hlg, ← EReal.coe_mul]
  rfl

theorem dv_val (hr : r0 % 128 = 0) (hv : Rows r0 v G.v) (hd : Rows r0 d G.dO) (hu : Rows r0 u G.u) (hw : Square w G.w)
    (hlg : Lanes lg G.lg) : Rows r0 (tDv v d u w lg) G.dv := by
  intro a l
  have hx := dxh_val hr hd hu hw hlg
  unfold tDxh at hx
  pointwise [tDv, tDxh, k0_pay27, k0_pay26]
  simp only [hx _ _, xh_val hv _ _, rho_val hv _, ← EReal.coe_mul, coe_sum, bits_128, div_coe _ _ (show (128 : ℝ) ≠ 0 by norm_num),
    ← EReal.coe_sub]
  rw [Grp.dv, Finset.sum_range, Finset.sum_range]

theorem dlg_val (hr : r0 % 128 = 0) (hv : Rows r0 v G.v) (hd : Rows r0 d G.dO) (hu : Rows r0 u G.u) (hw : Square w G.w) :
    Lanes (tDlg v d u w) fun l => ∑ a ∈ Finset.range 256, G.dvn (r0 + a) l * G.xh (r0 + a) l := by
  intro l
  have hn := dvn_val hr hd hu hw
  unfold tDvn at hn
  pointwise [tDlg, tDvn, k0_pay28]
  simp only [hn _ _, xh_val hv _ _, ← EReal.coe_mul, coe_sum]
  rw [Finset.sum_range]

theorem dlb_val (hr : r0 % 128 = 0) (hd : Rows r0 d G.dO) (hu : Rows r0 u G.u) (hw : Square w G.w) :
    Lanes (tDlb d u w) fun l => ∑ a ∈ Finset.range 256, G.dvn (r0 + a) l := by
  intro l
  have hn := dvn_val hr hd hu hw
  unfold tDvn at hn
  pointwise [tDlb, tDvn, k0_pay29]
  simp only [hn _ _, coe_sum]
  rw [Finset.sum_range]

/-- The mixing matrix's accumulator after a block's two chunks. -/
theorem dw_val (n : ℕ) (hr : r0 = 128 * n) (hv : Rows r0 v G.v) (hd : Rows r0 d G.dO) (hu : Rows r0 u G.u)
    (hlg : Lanes lg G.lg) (hlb : Lanes lb G.lb) {acc : Vec Ideal S1x128x128 .f32} (ha : Square acc (G.dW n)) :
    Square (tDw v d u lg lb acc) (G.dW (n + 2)) := by
  intro i j
  have hn := vn_val hv hlg hlb
  have hs := dsb_val hd hu
  unfold tVn at hn
  unfold tDsb at hs
  pointwise [tDw, tVn, k0_pay23, k0_pay15, top]
  rw [mask_val, ha, ← EReal.coe_zero]
  simp only [hd _ _, hu _ _, hn _ _, ← EReal.coe_mul, ← EReal.coe_add, coe_sum, ite_coe]
  congr 1
  have e : r0 + 128 = 128 * (n + 1) := by omega
  simp only [Grp.dW]
  split
  · rw [Finset.sum_range_succ, Finset.sum_range_succ, Grp.dwPart, Grp.dwPart, Finset.sum_range, Finset.sum_range, ← e, ← hr, add_assoc]
    simp only [Grp.ds, add_assoc, Finset.sum_range]
  · ring

/-- The mixing bias's accumulator after a block's two chunks. -/
theorem db_val (n : ℕ) (hr : r0 = 128 * n) (hd : Rows r0 d G.dO) (hu : Rows r0 u G.u)
    {acc : Vec Ideal S1x128x1 .f32} (ha : Col acc (G.db n)) : Col (tDb d u acc) (G.db (n + 2)) := by
  intro i
  pointwise [tDb, k0_pay24]
  rw [ha]
  simp only [hd _ _, hu _ _, ← EReal.coe_mul, ← EReal.coe_add, coe_sum]
  congr 1
  have e : r0 + 128 = 128 * (n + 1) := by omega
  simp only [Grp.db]
  rw [Finset.sum_range_succ, Finset.sum_range_succ, Finset.sum_range, Finset.sum_range, ← e, ← hr, add_assoc]
  simp only [Grp.ds, add_assoc, Finset.sum_range]

end Cert.Sgu

end
-- ==== Proof.SguBlock.lean ====
/- One block of the spatial gating unit's backward kernel: what each of its six outputs is, in the vocabulary of one
   group, for the first block of a lane tile (which clears the accumulators) and for the later ones (which add). -/
module

public import proofs.«01_k».proof.Proof.SguGroup

@[expose] public section

set_option maxRecDepth 16384

noncomputable section

namespace Cert.Sgu

open Cert.SguBwdIdeal Cert.SguBwdIdeal.Gen Idealize.ShloMosaic Idealize.ShloMosaic.TcCoe Idealize.SL.Sem

section Terms

variable {F : FTy → Type} [FloatOps F] [Named F]

/-- The block read whole. -/
def wh (x : Vec F S256x512 .f32) : Vec F S256x512 .f32 := View.ld x (Rect.unit ![0, 0] ![256, 512] inb_S256x512_S256x512_0_0)
/-- Group `g`'s lanes of a block. -/
def sl (g : Fin 4) (x : FVec F S256x512 .f32) : FVec F S256x128 .f32 :=
  extractStridedSlice S256x128 ![0, 128 * g.val] x (by fin_cases g <;> decide)
/-- Group `g`'s lanes of a lane vector. -/
def lane (g : Fin 4) (x : Vec F S1x512 .f32) : Vec F S1x128 .f32 :=
  View.ld x (Rect.unit (s := S1x512) ![0, 128 * g.val] ![1, 128] (by fin_cases g <;> decide))
/-- Where group `g`'s square block lies. -/
abbrev sqR (g : Fin 4) : Rect S4x128x128 := Rect.unit (s := S4x128x128) ![g.val, 0, 0] ![1, 128, 128] (by fin_cases g <;> decide)
/-- Group `g`'s square block. -/
def sq (g : Fin 4) (x : Vec F S4x128x128 .f32) : Vec F S1x128x128 .f32 := View.ld x (sqR g)
/-- Where group `g`'s column lies. -/
abbrev clR (g : Fin 4) : Rect S4x128x1 := Rect.unit (s := S4x128x1) ![g.val, 0, 0] ![1, 128, 1] (by fin_cases g <;> decide)
/-- Group `g`'s column. -/
def cl (g : Fin 4) (x : Vec F S4x128x1 .f32) : Vec F S1x128x1 .f32 := View.ld x (clR g)

variable (x0 x1 : Vec F S256x512 .f32) (x2 x3 : Vec F S1x512 .f32) (x4 : Vec F S4x128x128 .f32) (x5 : Vec F S4x128x1 .f32)
  (x6 : Vec F S256x512 .f32)

/-- Group `g`'s gate half after GELU, -/
def uG (g : Fin 4) : FVec F S256x128 .f32 := sl g (k0_pay2 (wh x0))
/-- its value half after GELU, -/
def vG (g : Fin 4) : FVec F S256x128 .f32 := sl g (k0_pay3 (wh x1))
/-- its incoming gradient, -/
def dG (g : Fin 4) : FVec F S256x128 .f32 := sl g (wh x6)
/-- its gate, -/
def sG (g : Fin 4) : FVec F S256x128 .f32 := tS (vG x1 g) (lane g x2) (lane g x3) (sq g x4) (cl g x5)
/-- its gradient through the norm, -/
def dvG (g : Fin 4) : FVec F S256x128 .f32 := tDv (vG x1 g) (dG x6 g) (uG x0 g) (sq g x4) (lane g x2)
/-- the mixing matrix's gradient added to `acc`, -/
def dwG (g : Fin 4) (acc : Vec F S1x128x128 .f32) : Vec F S1x128x128 .f32 := tDw (vG x1 g) (dG x6 g) (uG x0 g) (lane g x2) (lane g x3) acc
/-- the mixing bias's gradient added to `acc`, -/
def dbG (g : Fin 4) (acc : Vec F S1x128x1 .f32) : Vec F S1x128x1 .f32 := tDb (dG x6 g) (uG x0 g) acc
/-- the block's part of the gain's gradient, -/
def dlgG (g : Fin 4) : FVec F S1x128 .f32 := tDlg (vG x1 g) (dG x6 g) (uG x0 g) (sq g x4)
/-- and the block's part of the norm bias's gradient. -/
def dlbG (g : Fin 4) : FVec F S1x128 .f32 := tDlb (dG x6 g) (uG x0 g) (sq g x4)

/-- A block of the gradient at the first half's pre-activations. -/
def blk7 : FVec F S256x512 .bf16 := k0_pay95 (wh x0) (wh x6) (sG x1 x2 x3 x4 x5 0) (sG x1 x2 x3 x4 x5 1) (sG x1 x2 x3 x4 x5 2) (sG x1 x2 x3 x4 x5 3)
/-- A block of the gradient at the second half's pre-activations. -/
def blk8 : FVec F S256x512 .bf16 :=
  k0_pay99 (wh x1) (k0_pay96 (dvG x0 x1 x2 x4 x6 0) (dvG x0 x1 x2 x4 x6 1) (dvG x0 x1 x2 x4 x6 2) (dvG x0 x1 x2 x4 x6 3)) (k0_pay97 (wh x1)) k0_pay98

/-- The mixing matrix's accumulator, group `g` added to what the stores `L` left (`read`). -/
abbrev dwP (g : Fin 4) (acc : Vec F S1x128x128 .f32) : View.Piece (Elt F) S4x128x128 .f32 := ⟨sqR g, dwG x0 x1 x2 x3 x6 g acc⟩
/-- The mixing bias's accumulator likewise. -/
abbrev dbP (g : Fin 4) (acc : Vec F S1x128x1 .f32) : View.Piece (Elt F) S4x128x1 .f32 := ⟨clR g, dbG x0 x6 g acc⟩

/-- What a lane accumulator reads after one store of all of it. -/
def zr (V : View sig .tc .vmem S1x512 .f32) (x : Vec F S1x512 .f32) : Vec F S1x512 .f32 :=
  View.readCov (Val := Elt F) V [⟨Rect.unit (s := S1x512) ![0, 0] ![1, 512] inb_S1x512_S1x512_0_0, x⟩]
    (Rect.unit (s := S1x512) ![0, 0] ![1, 512] inb_S1x512_S1x512_0_0).toLoadRect

/-- The stores of the first block into the mixing matrix's accumulator: the clearing one, then one for each group, the
    latest first. -/
def dwL (V : View sig .tc .vmem S4x128x128 .f32) : ℕ → List (View.Piece (Elt F) S4x128x128 .f32)
  | 0 => [⟨Rect.unit ![0, 0, 0] ![4, 128, 128] inb_S4x128x128_S4x128x128_0_0_0, k0_pay4⟩]
  | n + 1 => dwP x0 x1 x2 x3 x6 (Fin.ofNat 4 n) (V.readCov (dwL V n) (sqR (Fin.ofNat 4 n)).toLoadRect) :: dwL V n

/-- The same for the mixing bias's accumulator. -/
def dbL (V : View sig .tc .vmem S4x128x1 .f32) : ℕ → List (View.Piece (Elt F) S4x128x1 .f32)
  | 0 => [⟨Rect.unit ![0, 0, 0] ![4, 128, 1] inb_S4x128x1_S4x128x1_0_0_0, k0_pay5⟩]
  | n + 1 => dbP x0 x6 (Fin.ofNat 4 n) (V.readCov (dbL V n) (clR (Fin.ofNat 4 n)).toLoadRect) :: dbL V n

variable (c : Dev nD) (i : grid0.Coords)
  (a2 : Memref sig .tc .vmem S256x512 .f32) (h2 : a2.IsWhole)
  (a3 : Memref sig .tc .vmem S256x512 .f32) (h3 : a3.IsWhole)
  (a4 : Memref sig .tc .vmem S1x512 .f32) (h4 : a4.IsWhole)
  (a5 : Memref sig .tc .vmem S1x512 .f32) (h5 : a5.IsWhole)
  (a6 : Memref sig .tc .vmem S4x128x128 .f32) (h6 : a6.IsWhole)
  (a7 : Memref sig .tc .vmem S4x128x1 .f32) (h7 : a7.IsWhole)
  (a8 : Memref sig .tc .vmem S256x512 .f32) (h8 : a8.IsWhole)
  (a10 : Memref sig .tc .vmem S256x512 .bf16) (h10 : a10.IsWhole)
  (a11 : Memref sig .tc .vmem S256x512 .bf16) (h11 : a11.IsWhole)
  (a12 : Memref sig .tc .vmem S4x128x128 .f32) (h12 : a12.IsWhole)
  (a13 : Memref sig .tc .vmem S4x128x1 .f32) (h13 : a13.IsWhole)
  (a14 : Memref sig .tc .vmem S1x512 .f32) (h14 : a14.IsWhole)
  (a15 : Memref sig .tc .vmem S1x512 .f32) (h15 : a15.IsWhole)

theorem outA7 (hc0 : cond0_0 i) :
    out0_A_7 c i a2 h2 a3 h3 a4 h4 a5 h5 a6 h6 a7 h7 a8 h8 a10 h10 a11 h11 a12 h12 a13 h13 a14 h14 a15 h15 hc0 x0 x1 x2 x3 x4 x5 x6 =
      blk7 x0 x1 x2 x3 x4 x5 x6 := by
  unfold out0_A_7
  rw [View.read_writes_eq_canon _ _ _ (cover0_A_7 c i a2 h2 a3 h3 a4 h4 a5 h5 a6 h6 a7 h7 a8 h8 a10 h10 a11 h11 a12 h12 a13 h13 a14 h14 a15 h15 hc0 x0 x1 x2 x3 x4 x5 x6)]
  unfold kernelRun0_A
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  refine (View.canon_unit_zero (S := S256x512) (off := ![0, 0]) (show (![0, 0] : Fin 2 → ℕ) = fun _ => 0 by decide) _ _).trans ?_
  rfl

theorem outA8 (hc0 : cond0_0 i) :
    out0_A_8 c i a2 h2 a3 h3 a4 h4 a5 h5 a6 h6 a7 h7 a8 h8 a10 h10 a11 h11 a12 h12 a13 h13 a14 h14 a15 h15 hc0 x0 x1 x2 x3 x4 x5 x6 =
      blk8 x0 x1 x2 x4 x6 := by
  unfold out0_A_8
  rw [View.read_writes_eq_canon _ _ _ (cover0_A_8 c i a2 h2 a3 h3 a4 h4 a5 h5 a6 h6 a7 h7 a8 h8 a10 h10 a11 h11 a12 h12 a13 h13 a14 h14 a15 h15 hc0 x0 x1 x2 x3 x4 x5 x6)]
  unfold kernelRun0_A
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  refine (View.canon_unit_zero (S := S256x512) (off := ![0, 0]) (show (![0, 0] : Fin 2 → ℕ) = fun _ => 0 by decide) _ _).trans ?_
  rfl

theorem outB7 (hc0 : ¬ cond0_0 i) (y9 : Vec F S4x128x128 .f32) (y10 : Vec F S4x128x1 .f32) (y11 y12 : Vec F S1x512 .f32) :
    out0_B_7 c i a2 h2 a3 h3 a4 h4 a5 h5 a6 h6 a7 h7 a8 h8 a10 h10 a11 h11 a12 h12 a13 h13 a14 h14 a15 h15 hc0 x0 x1 x2 x3 x4 x5 x6 y9 y10 y11 y12 =
      blk7 x0 x1 x2 x3 x4 x5 x6 := by
  unfold out0_B_7
  rw [View.read_writes_eq_canon _ _ _ (cover0_B_7 c i a2 h2 a3 h3 a4 h4 a5 h5 a6 h6 a7 h7 a8 h8 a10 h10 a11 h11 a12 h12 a13 h13 a14 h14 a15 h15 hc0 x0 x1 x2 x3 x4 x5 x6 y9 y10 y11 y12)]
  unfold kernelRun0_B
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  try rw [h12.read_unread y9]
  try rw [h13.read_unread y10]
  try rw [h14.read_unread y11]
  try rw [h15.read_unread y12]
  refine (View.canon_unit_zero (S := S256x512) (off := ![0, 0]) (show (![0, 0] : Fin 2 → ℕ) = fun _ => 0 by decide) _ _).trans ?_
  rfl

theorem outB8 (hc0 : ¬ cond0_0 i) (y9 : Vec F S4x128x128 .f32) (y10 : Vec F S4x128x1 .f32) (y11 y12 : Vec F S1x512 .f32) :
    out0_B_8 c i a2 h2 a3 h3 a4 h4 a5 h5 a6 h6 a7 h7 a8 h8 a10 h10 a11 h11 a12 h12 a13 h13 a14 h14 a15 h15 hc0 x0 x1 x2 x3 x4 x5 x6 y9 y10 y11 y12 =
      blk8 x0 x1 x2 x4 x6 := by
  unfold out0_B_8
  rw [View.read_writes_eq_canon _ _ _ (cover0_B_8 c i a2 h2 a3 h3 a4 h4 a5 h5 a6 h6 a7 h7 a8 h8 a10 h10 a11 h11 a12 h12 a13 h13 a14 h14 a15 h15 hc0 x0 x1 x2 x3 x4 x5 x6 y9 y10 y11 y12)]
  unfold kernelRun0_B
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  try rw [h12.read_unread y9]
  try rw [h13.read_unread y10]
  try rw [h14.read_unread y11]
  try rw [h15.read_unread y12]
  refine (View.canon_unit_zero (S := S256x512) (off := ![0, 0]) (show (![0, 0] : Fin 2 → ℕ) = fun _ => 0 by decide) _ _).trans ?_
  rfl

theorem outA9 (hc0 : cond0_0 i) :
    out0_A_9 c i a2 h2 a3 h3 a4 h4 a5 h5 a6 h6 a7 h7 a8 h8 a10 h10 a11 h11 a12 h12 a13 h13 a14 h14 a15 h15 hc0 x0 x1 x2 x3 x4 x5 x6 =
      View.canon (dwL x0 x1 x2 x3 x6 a12.view 4) := by
  unfold out0_A_9
  rw [View.read_writes_eq_canon _ _ _ (cover0_A_9 c i a2 h2 a3 h3 a4 h4 a5 h5 a6 h6 a7 h7 a8 h8 a10 h10 a11 h11 a12 h12 a13 h13 a14 h14 a15 h15 hc0 x0 x1 x2 x3 x4 x5 x6)]
  unfold kernelRun0_A
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  rfl

theorem outA10 (hc0 : cond0_0 i) :
    out0_A_10 c i a2 h2 a3 h3 a4 h4 a5 h5 a6 h6 a7 h7 a8 h8 a10 h10 a11 h11 a12 h12 a13 h13 a14 h14 a15 h15 hc0 x0 x1 x2 x3 x4 x5 x6 =
      View.canon (dbL x0 x6 a13.view 4) := by
  unfold out0_A_10
  rw [View.read_writes_eq_canon _ _ _ (cover0_A_10 c i a2 h2 a3 h3 a4 h4 a5 h5 a6 h6 a7 h7 a8 h8 a10 h10 a11 h11 a12 h12 a13 h13 a14 h14 a15 h15 hc0 x0 x1 x2 x3 x4 x5 x6)]
  unfold kernelRun0_A
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  rfl

theorem outB9 (hc0 : ¬ cond0_0 i) (y9 : Vec F S4x128x128 .f32) (y10 : Vec F S4x128x1 .f32) (y11 y12 : Vec F S1x512 .f32) :
    out0_B_9 c i a2 h2 a3 h3 a4 h4 a5 h5 a6 h6 a7 h7 a8 h8 a10 h10 a11 h11 a12 h12 a13 h13 a14 h14 a15 h15 hc0 x0 x1 x2 x3 x4 x5 x6 y9 y10 y11 y12 =
      View.canon [dwP x0 x1 x2 x3 x6 3 (sq 3 y9), dwP x0 x1 x2 x3 x6 2 (sq 2 y9), dwP x0 x1 x2 x3 x6 1 (sq 1 y9), dwP x0 x1 x2 x3 x6 0 (sq 0 y9)] := by
  unfold out0_B_9
  rw [View.read_writes_eq_canon _ _ _ (cover0_B_9 c i a2 h2 a3 h3 a4 h4 a5 h5 a6 h6 a7 h7 a8 h8 a10 h10 a11 h11 a12 h12 a13 h13 a14 h14 a15 h15 hc0 x0 x1 x2 x3 x4 x5 x6 y9 y10 y11 y12)]
  unfold kernelRun0_B
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  try rw [h12.read_unread y9]
  try rw [h13.read_unread y10]
  try rw [h14.read_unread y11]
  try rw [h15.read_unread y12]
  rfl

theorem outB10 (hc0 : ¬ cond0_0 i) (y9 : Vec F S4x128x128 .f32) (y10 : Vec F S4x128x1 .f32) (y11 y12 : Vec F S1x512 .f32) :
    out0_B_10 c i a2 h2 a3 h3 a4 h4 a5 h5 a6 h6 a7 h7 a8 h8 a10 h10 a11 h11 a12 h12 a13 h13 a14 h14 a15 h15 hc0 x0 x1 x2 x3 x4 x5 x6 y9 y10 y11 y12 =
      View.canon [dbP x0 x6 3 (cl 3 y10), dbP x0 x6 2 (cl 2 y10), dbP x0 x6 1 (cl 1 y10), dbP x0 x6 0 (cl 0 y10)] := by
  unfold out0_B_10
  rw [View.read_writes_eq_canon _ _ _ (cover0_B_10 c i a2 h2 a3 h3 a4 h4 a5 h5 a6 h6 a7 h7 a8 h8 a10 h10 a11 h11 a12 h12 a13 h13 a14 h14 a15 h15 hc0 x0 x1 x2 x3 x4 x5 x6 y9 y10 y11 y12)]
  unfold kernelRun0_B
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  try rw [h12.read_unread y9]
  try rw [h13.read_unread y10]
  try rw [h14.read_unread y11]
  try rw [h15.read_unread y12]
  rfl

theorem outB11 (hc0 : ¬ cond0_0 i) (y9 : Vec F S4x128x128 .f32) (y10 : Vec F S4x128x1 .f32) (y11 y12 : Vec F S1x512 .f32) :
    out0_B_11 c i a2 h2 a3 h3 a4 h4 a5 h5 a6 h6 a7 h7 a8 h8 a10 h10 a11 h11 a12 h12 a13 h13 a14 h14 a15 h15 hc0 x0 x1 x2 x3 x4 x5 x6 y9 y10 y11 y12 =
      k0_pay100 (dlgG x0 x1 x4 x6 0) (dlgG x0 x1 x4 x6 1) (dlgG x0 x1 x4 x6 2) (dlgG x0 x1 x4 x6 3) (View.ld y11 (Rect.unit ![0, 0] ![1, 512] inb_S1x512_S1x512_0_0)) := by
  unfold out0_B_11
  rw [View.read_writes_eq_canon _ _ _ (cover0_B_11 c i a2 h2 a3 h3 a4 h4 a5 h5 a6 h6 a7 h7 a8 h8 a10 h10 a11 h11 a12 h12 a13 h13 a14 h14 a15 h15 hc0 x0 x1 x2 x3 x4 x5 x6 y9 y10 y11 y12)]
  unfold kernelRun0_B
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  try rw [h12.read_unread y9]
  try rw [h13.read_unread y10]
  try rw [h14.read_unread y11]
  try rw [h15.read_unread y12]
  refine (View.canon_unit_zero (S := S1x512) (off := ![0, 0]) (show (![0, 0] : Fin 2 → ℕ) = fun _ => 0 by decide) _ _).trans ?_
  rfl

theorem outB12 (hc0 : ¬ cond0_0 i) (y9 : Vec F S4x128x128 .f32) (y10 : Vec F S4x128x1 .f32) (y11 y12 : Vec F S1x512 .f32) :
    out0_B_12 c i a2 h2 a3 h3 a4 h4 a5 h5 a6 h6 a7 h7 a8 h8 a10 h10 a11 h11 a12 h12 a13 h13 a14 h14 a15 h15 hc0 x0 x1 x2 x3 x4 x5 x6 y9 y10 y11 y12 =
      k0_pay1 (dlbG x0 x4 x6 0) (dlbG x0 x4 x6 1) (dlbG x0 x4 x6 2) (dlbG x0 x4 x6 3) (k0_pay101 (View.ld y12 (Rect.unit ![0, 0] ![1, 512] inb_S1x512_S1x512_0_0))) := by
  unfold out0_B_12
  rw [View.read_writes_eq_canon _ _ _ (cover0_B_12 c i a2 h2 a3 h3 a4 h4 a5 h5 a6 h6 a7 h7 a8 h8 a10 h10 a11 h11 a12 h12 a13 h13 a14 h14 a15 h15 hc0 x0 x1 x2 x3 x4 x5 x6 y9 y10 y11 y12)]
  unfold kernelRun0_B
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  try rw [h12.read_unread y9]
  try rw [h13.read_unread y10]
  try rw [h14.read_unread y11]
  try rw [h15.read_unread y12]
  refine (View.canon_unit_zero (S := S1x512) (off := ![0, 0]) (show (![0, 0] : Fin 2 → ℕ) = fun _ => 0 by decide) _ _).trans ?_
  rfl

theorem outA11 (hc0 : cond0_0 i) :
    out0_A_11 c i a2 h2 a3 h3 a4 h4 a5 h5 a6 h6 a7 h7 a8 h8 a10 h10 a11 h11 a12 h12 a13 h13 a14 h14 a15 h15 hc0 x0 x1 x2 x3 x4 x5 x6 =
      k0_pay100 (dlgG x0 x1 x4 x6 0) (dlgG x0 x1 x4 x6 1) (dlgG x0 x1 x4 x6 2) (dlgG x0 x1 x4 x6 3) (zr a14.view k0_pay6) := by
  unfold out0_A_11
  rw [View.read_writes_eq_canon _ _ _ (cover0_A_11 c i a2 h2 a3 h3 a4 h4 a5 h5 a6 h6 a7 h7 a8 h8 a10 h10 a11 h11 a12 h12 a13 h13 a14 h14 a15 h15 hc0 x0 x1 x2 x3 x4 x5 x6)]
  unfold kernelRun0_A
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  refine (View.canon_cons_unit_zero (S := S1x512) (off := ![0, 0]) (show (![0, 0] : Fin 2 → ℕ) = fun _ => 0 by decide) _ _ _).trans ?_
  rfl

theorem outA12 (hc0 : cond0_0 i) :
    out0_A_12 c i a2 h2 a3 h3 a4 h4 a5 h5 a6 h6 a7 h7 a8 h8 a10 h10 a11 h11 a12 h12 a13 h13 a14 h14 a15 h15 hc0 x0 x1 x2 x3 x4 x5 x6 =
      k0_pay1 (dlbG x0 x4 x6 0) (dlbG x0 x4 x6 1) (dlbG x0 x4 x6 2) (dlbG x0 x4 x6 3) (k0_pay101 (zr a15.view k0_pay7)) := by
  unfold out0_A_12
  rw [View.read_writes_eq_canon _ _ _ (cover0_A_12 c i a2 h2 a3 h3 a4 h4 a5 h5 a6 h6 a7 h7 a8 h8 a10 h10 a11 h11 a12 h12 a13 h13 a14 h14 a15 h15 hc0 x0 x1 x2 x3 x4 x5 x6)]
  unfold kernelRun0_A
  dsimp only
  sl_unfold_words
  simp only [View.readAt_eq_ld]
  try rw [h2.read_unread x0]
  try rw [h3.read_unread x1]
  try rw [h4.read_unread x2]
  try rw [h5.read_unread x3]
  try rw [h6.read_unread x4]
  try rw [h7.read_unread x5]
  try rw [h8.read_unread x6]
  refine (View.canon_cons_unit_zero (S := S1x512) (off := ![0, 0]) (show (![0, 0] : Fin 2 → ℕ) = fun _ => 0 by decide) _ _ _).trans ?_
  rfl

end Terms

end Cert.Sgu

end
-- ==== Proof.SguBlockVal.lean ====
/- One block of the spatial gating unit's backward kernel over the ideal instance: its outputs are the real gradients of
   the block's four groups. -/
module

public import proofs.«01_k».proof.Proof.SguBlock
public import Idealize.ShloMosaic.Lib.Pipeline.ValueKit.Tiles

@[expose] public section

set_option maxRecDepth 16384

noncomputable section

namespace Cert.Sgu

open Cert.SguBwdIdeal Cert.SguBwdIdeal.Gen Cert.Lift Idealize.ShloMosaic Idealize.ShloMosaic.TcCoe Idealize.SL.Sem

/-- The block's windows hold the real data of the groups `G 0 … G 3`, from row `r0` on. -/
structure Holds (G : ℕ → Grp) (r0 : ℕ) (x0 x1 : Vec Ideal S256x512 .f32) (x2 x3 : Vec Ideal S1x512 .f32)
    (x4 : Vec Ideal S4x128x128 .f32) (x5 : Vec Ideal S4x128x1 .f32) (x6 : Vec Ideal S256x512 .f32) : Prop where
  row : r0 % 128 = 0
  pu : ∀ (a : Fin 256) (l : Fin 512), x0 (ix2 a l) = (((G (l.val / 128)).pu (r0 + a.val) (l.val % 128) : ℝ) : EReal)
  pv : ∀ (a : Fin 256) (l : Fin 512), x1 (ix2 a l) = (((G (l.val / 128)).pv (r0 + a.val) (l.val % 128) : ℝ) : EReal)
  lg : ∀ (l : Fin 512), x2 (ix2 0 l) = (((G (l.val / 128)).lg (l.val % 128) : ℝ) : EReal)
  lb : ∀ (l : Fin 512), x3 (ix2 0 l) = (((G (l.val / 128)).lb (l.val % 128) : ℝ) : EReal)
  w : ∀ (g : Fin 4) (i j : Fin 128), x4 (ix3 g i j) = (((G g.val).w i.val j.val : ℝ) : EReal)
  b : ∀ (g : Fin 4) (i : Fin 128), x5 (ix3 g i 0) = (((G g.val).b i.val : ℝ) : EReal)
  dO : ∀ (a : Fin 256) (l : Fin 512), x6 (ix2 a l) = (((G (l.val / 128)).dO (r0 + a.val) (l.val % 128) : ℝ) : EReal)

theorem wh_eq (x : Vec Ideal S256x512 .f32) : wh x = x :=
  View.ld_unit_zero (S := S256x512) (off := ![0, 0]) (show (![0, 0] : Fin 2 → ℕ) = fun _ => 0 by decide) _ _

theorem sl_apply (g : Fin 4) (x : FVec Ideal S256x512 .f32) (a : Fin 256) (l : Fin 128) :
    sl g x (ix2 a l) = x (ix2 a ⟨128 * g.val + l.val, by omega⟩) := by
  unfold sl
  refine extractStridedSlice_apply _ _ _ _ _ fun k => ?_
  fin_cases k
  · show a.val = 0 + a.val; omega
  · rfl

theorem lane_apply (g : Fin 4) (x : Vec Ideal S1x512 .f32) (l : Fin 128) :
    lane g x (ix2 0 l) = x (ix2 0 ⟨128 * g.val + l.val, by omega⟩) := by
  unfold lane
  refine View.ld_unit_apply_of _ _ _ _ _ _ fun k => ?_
  fin_cases k
  · rfl
  · rfl

theorem sq_apply (g : Fin 4) (x : Vec Ideal S4x128x128 .f32) (i j : Fin 128) : sq g x (ix3 0 i j) = x (ix3 g i j) := by
  unfold sq
  refine View.ld_unit_apply_of _ _ _ _ _ _ fun k => ?_
  fin_cases k
  · rfl
  · show i.val = 0 + i.val; omega
  · show j.val = 0 + j.val; omega

theorem cl_apply (g : Fin 4) (x : Vec Ideal S4x128x1 .f32) (i : Fin 128) : cl g x (ix3 0 i 0) = x (ix3 g i 0) := by
  unfold cl
  refine View.ld_unit_apply_of _ _ _ _ _ _ fun k => ?_
  fin_cases k
  · rfl
  · show i.val = 0 + i.val; omega
  · rfl

/-- Four groups side by side hold, lane by lane, what each group holds. -/
theorem pick {α : Type} (P : Fin 4 → Fin 128 → α) (Q : ℕ → ℕ → α) (h : ∀ g l, P g l = Q g.val l.val) (l : Fin 512) :
    (if h : l.val < 128 then P 0 ⟨l.val, by omega⟩
      else if h : l.val - 128 < 128 then P 1 ⟨l.val - 128, by omega⟩
      else if h : l.val - 128 - 128 < 128 then P 2 ⟨l.val - 128 - 128, by omega⟩
      else P 3 ⟨l.val - 128 - 128 - 128, by omega⟩) = Q (l.val / 128) (l.val % 128) := by
  have := l.isLt
  split_ifs
  · rw [h, show l.val / 128 = 0 by omega, show l.val % 128 = l.val by omega]; rfl
  · rw [h, show l.val / 128 = 1 by omega, show l.val % 128 = l.val - 128 by omega]; rfl
  · rw [h, show l.val / 128 = 2 by omega, show l.val % 128 = l.val - 128 - 128 by omega]; rfl
  · rw [h, show l.val / 128 = 3 by omega, show l.val % 128 = l.val - 128 - 128 - 128 by omega]; rfl

variable {G : ℕ → Grp} {r0 : ℕ} {x0 x1 : Vec Ideal S256x512 .f32} {x2 x3 : Vec Ideal S1x512 .f32}
  {x4 : Vec Ideal S4x128x128 .f32} {x5 : Vec Ideal S4x128x1 .f32} {x6 : Vec Ideal S256x512 .f32}

theorem named_a : Named.named (F := Ideal) (φ := .f32) κ "gelu_a" 0x3D372713#32 = ((8943 / 200000 : ℝ) : EReal) := rfl

theorem named_3a : Named.named (F := Ideal) (φ := .f32) κ "gelu_3a" 0x3E095D4F#32 = ((26829 / 200000 : ℝ) : EReal) := rfl

theorem gelu_pay2 (x : ℝ) (v : Vec Ideal S256x512 .f32) (a : Fin 256) (l : Fin 512) (h : v (ix2 a l) = (x : EReal)) :
    k0_pay2 (F := Ideal) v (ix2 a l) = ((gelu x : ℝ) : EReal) := by
  pointwise [k0_pay2]
  simp only [h, named_a, bits_half, bits_geluC, ← EReal.coe_one, ← EReal.coe_mul, ← EReal.coe_add, tanh_coe]
  rfl

theorem gelu_pay3 (x : ℝ) (v : Vec Ideal S256x512 .f32) (a : Fin 256) (l : Fin 512) (h : v (ix2 a l) = (x : EReal)) :
    k0_pay3 (F := Ideal) v (ix2 a l) = ((gelu x : ℝ) : EReal) := gelu_pay2 x v a l h

variable (H : Holds G r0 x0 x1 x2 x3 x4 x5 x6) (g : Fin 4)
include H

theorem Holds.u : Rows r0 (uG x0 g) (G g.val).u := by
  intro a l
  rw [uG, sl_apply, wh_eq, gelu_pay2 _ _ _ _ (H.pu _ _)]
  simp only [show (128 * g.val + l.val) / 128 = g.val by omega, show (128 * g.val + l.val) % 128 = l.val by omega]
  rfl

theorem Holds.v : Rows r0 (vG x1 g) (G g.val).v := by
  intro a l
  rw [vG, sl_apply, wh_eq, gelu_pay3 _ _ _ _ (H.pv _ _)]
  simp only [show (128 * g.val + l.val) / 128 = g.val by omega, show (128 * g.val + l.val) % 128 = l.val by omega]
  rfl

theorem Holds.d : Rows r0 (dG x6 g) (G g.val).dO := by
  intro a l
  rw [dG, sl_apply, wh_eq, H.dO]
  simp only [show (128 * g.val + l.val) / 128 = g.val by omega, show (128 * g.val + l.val) % 128 = l.val by omega]

theorem Holds.lgG : Lanes (lane g x2) (G g.val).lg := by
  intro l
  rw [lane_apply, H.lg]
  simp only [show (128 * g.val + l.val) / 128 = g.val by omega, show (128 * g.val + l.val) % 128 = l.val by omega]

theorem Holds.lbG : Lanes (lane g x3) (G g.val).lb := by
  intro l
  rw [lane_apply, H.lb]
  simp only [show (128 * g.val + l.val) / 128 = g.val by omega, show (128 * g.val + l.val) % 128 = l.val by omega]

theorem Holds.wG : Square (sq g x4) (G g.val).w := fun i j => by rw [sq_apply, H.w]

theorem Holds.bG : Col (cl g x5) (G g.val).b := fun i => by rw [cl_apply, H.b]

theorem Holds.s : Rows r0 (sG x1 x2 x3 x4 x5 g) (G g.val).s := s_val H.row (H.v g) (H.lgG g) (H.lbG g) (H.wG g) (H.bG g)

theorem Holds.dv : Rows r0 (dvG x0 x1 x2 x4 x6 g) (G g.val).dv := dv_val H.row (H.v g) (H.d g) (H.u g) (H.wG g) (H.lgG g)

/-- A block of the gradient at the first half's pre-activations. -/
theorem Holds.blk7 (a : Fin 256) (l : Fin 512) :
    blk7 x0 x1 x2 x3 x4 x5 x6 (ix2 a l) = (((G (l.val / 128)).dpu (r0 + a.val) (l.val % 128) : ℝ) : EReal) := by
  have e := pick (fun g l => sG x1 x2 x3 x4 x5 g (ix2 a l)) (fun g l => (((G g).s (r0 + a.val) l : ℝ) : EReal)) (fun g l => H.s g a l) l
  pointwise [Sgu.blk7, k0_pay95]
  erw [e]
  simp only [wh_eq, H.pu _ _, H.dO _ _, named_a, named_3a, bits_half, bits_geluC, ← EReal.coe_one, ← EReal.coe_mul, ← EReal.coe_add,
    ← EReal.coe_sub, tanh_coe]
  rfl

/-- A block of the gradient at the second half's pre-activations. -/
theorem Holds.blk8 (a : Fin 256) (l : Fin 512) :
    blk8 x0 x1 x2 x4 x6 (ix2 a l) = (((G (l.val / 128)).dpv (r0 + a.val) (l.val % 128) : ℝ) : EReal) := by
  have e := pick (fun g l => dvG x0 x1 x2 x4 x6 g (ix2 a l)) (fun g l => (((G g).dv (r0 + a.val) l : ℝ) : EReal)) (fun g l => H.dv g a l) l
  pointwise [Sgu.blk8, k0_pay96, k0_pay97, k0_pay98, k0_pay99]
  erw [e]
  simp only [wh_eq, H.pv _ _, named_a, named_3a, bits_half, bits_geluC, ← EReal.coe_one, ← EReal.coe_mul, ← EReal.coe_add,
    ← EReal.coe_sub, tanh_coe]
  rfl

/-- The gain's accumulator after a block. -/
theorem Holds.blk11 {y : Vec Ideal S1x512 .f32} (hy : ∀ l : Fin 512, y (ix2 0 l) = (((G (l.val / 128)).dlg r0 (l.val % 128) : ℝ) : EReal))
    (l : Fin 512) : k0_pay100 (dlgG x0 x1 x4 x6 0) (dlgG x0 x1 x4 x6 1) (dlgG x0 x1 x4 x6 2) (dlgG x0 x1 x4 x6 3) y (ix2 0 l) =
      (((G (l.val / 128)).dlg (r0 + 256) (l.val % 128) : ℝ) : EReal) := by
  have e := pick (fun g l => dlgG x0 x1 x4 x6 g (ix2 0 l))
    (fun g l => ((∑ a ∈ Finset.range 256, (G g).dvn (r0 + a) l * (G g).xh (r0 + a) l : ℝ) : EReal)) (fun g l => dlg_val H.row (H.v g) (H.d g) (H.u g) (H.wG g) l) l
  pointwise [k0_pay100]
  erw [e]
  rw [hy, ← EReal.coe_add, Grp.dlg, Grp.dlg, Finset.sum_range_add]

/-- The norm bias's accumulator after a block. -/
theorem Holds.blk12 {y : Vec Ideal S1x512 .f32} (hy : ∀ l : Fin 512, y (ix2 0 l) = (((G (l.val / 128)).dlb r0 (l.val % 128) : ℝ) : EReal))
    (l : Fin 512) : k0_pay1 (dlbG x0 x4 x6 0) (dlbG x0 x4 x6 1) (dlbG x0 x4 x6 2) (dlbG x0 x4 x6 3) (k0_pay101 y) (ix2 0 l) =
      (((G (l.val / 128)).dlb (r0 + 256) (l.val % 128) : ℝ) : EReal) := by
  have e := pick (fun g l => dlbG x0 x4 x6 g (ix2 0 l))
    (fun g l => ((∑ a ∈ Finset.range 256, (G g).dvn (r0 + a) l : ℝ) : EReal)) (fun g l => dlb_val H.row (H.d g) (H.u g) (H.wG g) l) l
  pointwise [k0_pay1, k0_pay101]
  erw [e]
  rw [hy, ← EReal.coe_add, Grp.dlb, Grp.dlb, Finset.sum_range_add]

omit H

/-- A store into one group's square block changes that block alone. -/
theorem canon_sq (k g : Fin 4) (P : Vec Ideal S1x128x128 .f32) (L : List (View.Piece (Elt Ideal) S4x128x128 .f32)) (i j : Fin 128) :
    View.canon ((⟨sqR k, P⟩ : View.Piece (Elt Ideal) S4x128x128 .f32) :: L) (ix3 g i j) =
      if g = k then P (ix3 0 i j) else View.canon L (ix3 g i j) := by
  split
  · subst g
    have e : (ix3 k i j : S4x128x128.Idx) = (sqR k).emb (ix3 0 i j) := by
      refine Eq.symm (funext fun a => Fin.ext ((Rect.idx_unit_val _ _ _ _ _).trans ?_))
      fin_cases a
      · rfl
      · show 0 + i.val = i.val; omega
      · show 0 + j.val = j.val; omega
    rw [e, View.canon_cons_emb]
  · rw [View.canon_cons_of_not_mem]
    intro hm
    have h1 : ix3 g i j ∈ (sqR k).set := hm
    rw [Rect.mem_set_unit] at h1
    have h0 : k.val ≤ g.val ∧ g.val < k.val + 1 := h1 0
    omega

/-- A store into one group's column changes that column alone. -/
theorem canon_cl (k g : Fin 4) (P : Vec Ideal S1x128x1 .f32) (L : List (View.Piece (Elt Ideal) S4x128x1 .f32)) (i : Fin 128) :
    View.canon ((⟨clR k, P⟩ : View.Piece (Elt Ideal) S4x128x1 .f32) :: L) (ix3 g i 0) =
      if g = k then P (ix3 0 i 0) else View.canon L (ix3 g i 0) := by
  split
  · subst g
    have e : (ix3 k i 0 : S4x128x1.Idx) = (clR k).emb (ix3 0 i 0) := by
      refine Eq.symm (funext fun a => Fin.ext ((Rect.idx_unit_val _ _ _ _ _).trans ?_))
      fin_cases a
      · rfl
      · show 0 + i.val = i.val; omega
      · rfl
    rw [e, View.canon_cons_emb]
  · rw [View.canon_cons_of_not_mem]
    intro hm
    have h1 : ix3 g i 0 ∈ (clR k).set := hm
    rw [Rect.mem_set_unit] at h1
    have h0 : k.val ≤ g.val ∧ g.val < k.val + 1 := h1 0
    omega

include H

/-- The mixing matrix's accumulator after the first block: what each group's store left. -/
theorem Holds.first9 (h0 : r0 = 0) (V : View sig .tc .vmem S4x128x128 .f32) (n : ℕ) (hn : n ≤ 4) (g : Fin 4) (i j : Fin 128) :
    View.canon (dwL x0 x1 x2 x3 x6 V n) (ix3 g i j) = (((G g.val).dW (if g.val < n then 2 else 0) i.val j.val : ℝ) : EReal) := by
  induction n generalizing g i j with
  | zero =>
    rw [dwL, View.canon_unit_zero (S := S4x128x128) (off := ![0, 0, 0]) (by decide)]
    pointwise [k0_pay4]
    simp [Grp.dW]
  | succ n ih =>
    have ih := ih (by omega)
    rw [dwL, canon_sq]
    split
    · subst g
      refine dw_val 0 h0 (H.v _) (H.d _) (H.u _) (H.lgG _) (H.lbG _) (fun a b => ?_) i j |>.trans ?_
      · rw [View.readCov_eq_canon']
        refine (congrArg _ (?_ : _ = ix3 (Fin.ofNat 4 n) a b)).trans ((ih _ a b).trans ?_)
        · refine funext fun k => Fin.ext ((Rect.idx_unit_val _ _ _ _ _).trans ?_)
          fin_cases k
          · rfl
          · show 0 + a.val = a.val; omega
          · show 0 + b.val = b.val; omega
        · rw [if_neg]; simp [Fin.ofNat]; omega
      · rw [if_pos]; simp [Fin.ofNat]; omega
    · rename_i hg
      have : g.val ≠ n := fun h => hg (Fin.ext (by simp [Fin.ofNat]; omega))
      rw [ih]
      rw [show (if g.val < n + 1 then 2 else 0) = if g.val < n then 2 else 0 from if_congr (by omega) rfl rfl]

/-- The mixing bias's accumulator after the first block. -/
theorem Holds.first10 (h0 : r0 = 0) (V : View sig .tc .vmem S4x128x1 .f32) (n : ℕ) (hn : n ≤ 4) (g : Fin 4) (i : Fin 128) :
    View.canon (dbL x0 x6 V n) (ix3 g i 0) = (((G g.val).db (if g.val < n then 2 else 0) i.val : ℝ) : EReal) := by
  induction n generalizing g i with
  | zero =>
    rw [dbL, View.canon_unit_zero (S := S4x128x1) (off := ![0, 0, 0]) (by decide)]
    pointwise [k0_pay5]
    simp [Grp.db]
  | succ n ih =>
    have ih := ih (by omega)
    rw [dbL, canon_cl]
    split
    · subst g
      refine db_val 0 h0 (H.d _) (H.u _) (fun a => ?_) i |>.trans ?_
      · rw [View.readCov_eq_canon']
        refine (congrArg _ (?_ : _ = ix3 (Fin.ofNat 4 n) a 0)).trans ((ih _ a).trans ?_)
        · refine funext fun k => Fin.ext ((Rect.idx_unit_val _ _ _ _ _).trans ?_)
          fin_cases k
          · rfl
          · show 0 + a.val = a.val; omega
          · rfl
        · rw [if_neg]; simp [Fin.ofNat]; omega
      · rw [if_pos]; simp [Fin.ofNat]; omega
    · rename_i hg
      have : g.val ≠ n := fun h => hg (Fin.ext (by simp [Fin.ofNat]; omega))
      rw [ih]
      rw [show (if g.val < n + 1 then 2 else 0) = if g.val < n then 2 else 0 from if_congr (by omega) rfl rfl]

/-- The mixing matrix's accumulator after a later block. -/
theorem Holds.later9 (n : ℕ) (h0 : r0 = 128 * n) {y : Vec Ideal S4x128x128 .f32}
    (hy : ∀ (g : Fin 4) (i j : Fin 128), y (ix3 g i j) = (((G g.val).dW n i.val j.val : ℝ) : EReal)) (g : Fin 4) (i j : Fin 128) :
    View.canon [dwP x0 x1 x2 x3 x6 3 (sq 3 y), dwP x0 x1 x2 x3 x6 2 (sq 2 y), dwP x0 x1 x2 x3 x6 1 (sq 1 y), dwP x0 x1 x2 x3 x6 0 (sq 0 y)]
      (ix3 g i j) = (((G g.val).dW (n + 2) i.val j.val : ℝ) : EReal) := by
  have e (k : Fin 4) : dwG x0 x1 x2 x3 x6 k (sq k y) (ix3 0 i j) = (((G k.val).dW (n + 2) i.val j.val : ℝ) : EReal) :=
    dw_val n h0 (H.v _) (H.d _) (H.u _) (H.lgG _) (H.lbG _) (fun a b => by rw [sq_apply, hy]) i j
  rw [canon_sq, canon_sq, canon_sq, canon_sq, e, e, e, e]
  fin_cases g <;> rfl

/-- The mixing bias's accumulator after a later block. -/
theorem Holds.later10 (n : ℕ) (h0 : r0 = 128 * n) {y : Vec Ideal S4x128x1 .f32}
    (hy : ∀ (g : Fin 4) (i : Fin 128), y (ix3 g i 0) = (((G g.val).db n i.val : ℝ) : EReal)) (g : Fin 4) (i : Fin 128) :
    View.canon [dbP x0 x6 3 (cl 3 y), dbP x0 x6 2 (cl 2 y), dbP x0 x6 1 (cl 1 y), dbP x0 x6 0 (cl 0 y)] (ix3 g i 0) =
      (((G g.val).db (n + 2) i.val : ℝ) : EReal) := by
  have e (k : Fin 4) : dbG x0 x6 k (cl k y) (ix3 0 i 0) = (((G k.val).db (n + 2) i.val : ℝ) : EReal) :=
    db_val n h0 (H.d _) (H.u _) (fun a => by rw [cl_apply, hy]) i
  rw [canon_cl, canon_cl, canon_cl, canon_cl, e, e, e, e]
  fin_cases g <;> rfl

end Cert.Sgu

end
-- ==== Proof.SguArrays.lean ====
/- What the spatial gating unit's backward kernel leaves in its six result arrays, over the ideal instance: the real
   gradients of the eight groups. -/
module

public import proofs.«01_k».proof.Proof.SguBlockVal
public import proofs.«01_k».proof.Proof.Gen.SguBwdIdeal.Value
public import Idealize.ShloMosaic.Lib.Pipeline.ValueKit
public import Idealize.ShloMosaic.Lib.Claim

@[expose] public section

set_option maxRecDepth 16384

noncomputable section

namespace Cert.Sgu

open Cert.SguBwdIdeal Cert.SguBwdIdeal.Gen Cert.Lift Idealize.ShloMosaic Idealize.ShloMosaic.TcCoe Idealize.SL.Sem
open Idealize.ShloMosaic.Pipeline (Dat)

/-- Real arguments of the step: the projections, the norm's gain and bias, the mixing matrices and biases, the cotangent. -/
structure Args where
  p : ℕ → ℕ → ℝ
  lg : ℕ → ℝ
  lb : ℕ → ℝ
  w : ℕ → ℕ → ℕ → ℝ
  b : ℕ → ℕ → ℝ
  d : ℕ → ℕ → ℝ

/-- The data of one group: its 128 columns of either half of the projections, and its own parameters. -/
def Args.grp (A : Args) (q : ℕ) : Grp where
  pu r l := A.p r (1536 + (128 * q + l))
  pv r l := A.p r (2560 + (128 * q + l))
  dO r l := A.d r (128 * q + l)
  lg l := A.lg (128 * q + l)
  lb l := A.lb (128 * q + l)
  w := A.w q
  b := A.b q

/-- The argument arrays hold the real arguments. -/
structure Args.Of (A : Args) (X0 : FVec Ideal S2048x7680 .f32) (X1 X2 : FVec Ideal S1024 .f32) (X3 : FVec Ideal S8x128x128 .f32)
    (X4 : FVec Ideal S8x128 .f32) (X5 : FVec Ideal S2048x1024 .f32) : Prop where
  p : ∀ (r : Fin 2048) (k : Fin 7680), X0 (ix2 r k) = ((A.p r.val k.val : ℝ) : EReal)
  lg : ∀ k : Fin 1024, X1 (ix1 k) = ((A.lg k.val : ℝ) : EReal)
  lb : ∀ k : Fin 1024, X2 (ix1 k) = ((A.lb k.val : ℝ) : EReal)
  w : ∀ (q : Fin 8) (i j : Fin 128), X3 (ix3 q i j) = ((A.w q.val i.val j.val : ℝ) : EReal)
  b : ∀ (q : Fin 8) (i : Fin 128), X4 (ix2 q i) = ((A.b q.val i.val : ℝ) : EReal)
  d : ∀ (r : Fin 2048) (k : Fin 1024), X5 (ix2 r k) = ((A.d r.val k.val : ℝ) : EReal)

theorem idx : ∀ t : Fin cfg0.N, win0_0.index t = ![t.val % 8, 3 + t.val / 8] ∧ win0_1.index t = ![t.val % 8, 5 + t.val / 8] ∧
    win0_2.index t = ![0, t.val / 8] ∧ win0_3.index t = ![0, t.val / 8] ∧ win0_4.index t = ![t.val / 8, 0, 0] ∧
    win0_5.index t = ![t.val / 8, 0, 0] ∧ win0_6.index t = ![t.val % 8, t.val / 8] ∧ win0_7.index t = ![t.val % 8, t.val / 8] ∧
    win0_8.index t = ![t.val % 8, t.val / 8] ∧ win0_9.index t = ![t.val / 8, 0, 0] ∧ win0_10.index t = ![t.val / 8, 0, 0] ∧
    win0_11.index t = ![0, t.val / 8] ∧ win0_12.index t = ![0, t.val / 8] :=
  (by decide +kernel : ∀ t : Fin grid0.N, _)

variable (m : (ℓ : Loc nD τ sig) → Buf (Elt Ideal) ℓ) (c : Dev nD) (A : Args)

/-- The argument arrays of device `c` hold the real arguments. -/
abbrev At : Prop := A.Of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

variable {m c A} (H : At m c A)
include H

theorem holds_iblk (t : Fin cfg0.N) : Holds (fun g => A.grp (4 * (t.val / 8) + g)) (256 * (t.val % 8)) (iblk m c 0 t) (iblk m c 1 t)
    (iblk m c 2 t) (iblk m c 3 t) (iblk m c 4 t) (iblk m c 5 t) (iblk m c 6 t) := by
  have ht : t.val < 16 := t.isLt
  obtain ⟨e0, e1, e2, e3, e4, e5, e6, -⟩ := idx t
  constructor
  · omega
  · intro a l
    have e : iblk m c 0 t (ix2 a l) = m ((c : Thread nD τ).loc main_arg0)
        (ix2 ⟨256 * (t.val % 8) + a.val, by omega⟩ ⟨1536 + (128 * (4 * (t.val / 8) + l.val / 128) + l.val % 128), by omega⟩) := by
      blk_ext [iblk, V, e0]
    exact e.trans (H.p _ _)
  · intro a l
    have e : iblk m c 1 t (ix2 a l) = m ((c : Thread nD τ).loc main_arg0)
        (ix2 ⟨256 * (t.val % 8) + a.val, by omega⟩ ⟨2560 + (128 * (4 * (t.val / 8) + l.val / 128) + l.val % 128), by omega⟩) := by
      blk_ext [iblk, V, e1]
    exact e.trans (H.p _ _)
  · intro l
    have e : iblk m c 2 t (ix2 0 l) = m ((c : Thread nD τ).loc main_arg1)
        (ix1 ⟨128 * (4 * (t.val / 8) + l.val / 128) + l.val % 128, by omega⟩) := by
      blk_simp [iblk, V, e2]
      entry_read
      pointwise
      blk_ext [iblk, V, e2]
    exact e.trans (H.lg _)
  · intro l
    have e : iblk m c 3 t (ix2 0 l) = m ((c : Thread nD τ).loc main_arg2)
        (ix1 ⟨128 * (4 * (t.val / 8) + l.val / 128) + l.val % 128, by omega⟩) := by
      blk_simp [iblk, V, e3]
      entry_read
      pointwise
      blk_ext [iblk, V, e3]
    exact e.trans (H.lb _)
  · intro g i j
    have e : iblk m c 4 t (ix3 g i j) = m ((c : Thread nD τ).loc main_arg3) (ix3 ⟨4 * (t.val / 8) + g.val, by omega⟩ i j) := by
      blk_ext [iblk, V, e4]
    exact e.trans (H.w _ _ _)
  · intro g i
    have e : iblk m c 5 t (ix3 g i 0) = m ((c : Thread nD τ).loc main_arg4) (ix2 ⟨4 * (t.val / 8) + g.val, by omega⟩ i) := by
      blk_simp [iblk, V, e5]
      entry_read
      pointwise
      blk_ext [iblk, V, e5]
    exact e.trans (H.b _ _)
  · intro a l
    have e : iblk m c 6 t (ix2 a l) = m ((c : Thread nD τ).loc main_arg5)
        (ix2 ⟨256 * (t.val % 8) + a.val, by omega⟩ ⟨128 * (4 * (t.val / 8) + l.val / 128) + l.val % 128, by omega⟩) := by
      blk_ext [iblk, V, e6]
    exact e.trans (H.d _ _)

/-- After every point: the two gradient blocks, and the four accumulators over the row tiles so far. -/
structure After (A : Args) (t : ℕ) (o : Vec Ideal S256x512 .bf16 × Vec Ideal S256x512 .bf16 × Vec Ideal S4x128x128 .f32 ×
    Vec Ideal S4x128x1 .f32 × Vec Ideal S1x512 .f32 × Vec Ideal S1x512 .f32) : Prop where
  o7 : ∀ (a : Fin 256) (l : Fin 512), o.1 (ix2 a l) =
    (((A.grp (4 * (t / 8) + l.val / 128)).dpu (256 * (t % 8) + a.val) (l.val % 128) : ℝ) : EReal)
  o8 : ∀ (a : Fin 256) (l : Fin 512), o.2.1 (ix2 a l) =
    (((A.grp (4 * (t / 8) + l.val / 128)).dpv (256 * (t % 8) + a.val) (l.val % 128) : ℝ) : EReal)
  o9 : ∀ (g : Fin 4) (i j : Fin 128), o.2.2.1 (ix3 g i j) =
    (((A.grp (4 * (t / 8) + g.val)).dW (2 * (t % 8) + 2) i.val j.val : ℝ) : EReal)
  o10 : ∀ (g : Fin 4) (i : Fin 128), o.2.2.2.1 (ix3 g i 0) =
    (((A.grp (4 * (t / 8) + g.val)).db (2 * (t % 8) + 2) i.val : ℝ) : EReal)
  o11 : ∀ l : Fin 512, o.2.2.2.2.1 (ix2 0 l) =
    (((A.grp (4 * (t / 8) + l.val / 128)).dlg (256 * (t % 8) + 256) (l.val % 128) : ℝ) : EReal)
  o12 : ∀ l : Fin 512, o.2.2.2.2.2 (ix2 0 l) =
    (((A.grp (4 * (t / 8) + l.val / 128)).dlb (256 * (t % 8) + 256) (l.val % 128) : ℝ) : EReal)

omit H in
theorem ld_row (y : Vec Ideal S1x512 .f32) : View.ld y (Rect.unit ![0, 0] ![1, 512] inb_S1x512_S1x512_0_0) = y :=
  View.ld_unit_zero (S := S1x512) (off := ![0, 0]) (show (![0, 0] : Fin 2 → ℕ) = fun _ => 0 by decide) _ _

omit H in
theorem zr_apply (V : View sig .tc .vmem S1x512 .f32) (x : Vec Ideal S1x512 .f32) : zr V x = x :=
  View.readCov_unit_zero (S := S1x512) V (off := ![0, 0]) (show (![0, 0] : Fin 2 → ℕ) = fun _ => 0 by decide) _ _

theorem after_A (t : Fin cfg0.N) (h0 : t.val % 8 = 0) : After A t.val (outsAt0 m c t.val t.isLt) := by
  have K := holds_iblk H t
  have z : 256 * (t.val % 8) = 0 := by omega
  rw [outsAt0_A m c t h0, outA7, outA8, outA9, outA10, outA11, outA12]
  constructor
  · exact K.blk7
  · exact K.blk8
  · intro g i j
    refine (K.first9 z _ 4 le_rfl g i j).trans ?_
    rw [if_pos g.isLt, h0]
  · intro g i
    refine (K.first10 z _ 4 le_rfl g i).trans ?_
    rw [if_pos g.isLt, h0]
  · intro l
    refine K.blk11 (fun l => ?_) l
    rw [zr_apply, z]
    pointwise [k0_pay6]
    simp [Grp.dlg]
  · intro l
    refine K.blk12 (fun l => ?_) l
    rw [zr_apply, z]
    pointwise [k0_pay7]
    simp [Grp.dlb]

theorem after_B (t : Fin cfg0.N) (h0 : ¬ t.val % 8 = 0)
    (P : After A (t.val - 1) (outsAt0 m c (t.val - 1) (Nat.lt_of_le_of_lt (Nat.sub_le _ _) t.isLt))) :
    After A t.val (outsAt0 m c t.val t.isLt) := by
  have K := holds_iblk H t
  have e1 : (t.val - 1) / 8 = t.val / 8 := by omega
  have e2 : 2 * ((t.val - 1) % 8) + 2 = 2 * (t.val % 8) := by omega
  have e3 : 256 * ((t.val - 1) % 8) + 256 = 256 * (t.val % 8) := by omega
  have z : 256 * (t.val % 8) = 128 * (2 * (t.val % 8)) := by omega
  obtain ⟨-, -, p9, p10, p11, p12⟩ := P
  simp only [e1, e2] at p9 p10
  simp only [e1, e3] at p11 p12
  rw [outsAt0_B m c t h0, outB7, outB8, outB9, outB10, outB11, outB12, ld_row, ld_row]
  constructor
  · exact K.blk7
  · exact K.blk8
  · exact K.later9 (2 * (t.val % 8)) z p9
  · exact K.later10 (2 * (t.val % 8)) z p10
  · exact K.blk11 p11
  · exact K.blk12 p12

theorem after_outs (n : ℕ) (hn : n < cfg0.N) : After A n (outsAt0 m c n hn) := by
  induction n with
  | zero => exact after_A H ⟨0, hn⟩ rfl
  | succ n ih =>
    by_cases h0 : (n + 1) % 8 = 0
    · exact after_A H ⟨n + 1, hn⟩ h0
    · exact after_B H ⟨n + 1, hn⟩ h0 (ih _)

/-- The six result arrays. -/
def arr7 (A : Args) : FVec Ideal S2048x1024 .bf16 := fun i => (((A.grp ((i 1).val / 128)).dpu (i 0).val ((i 1).val % 128) : ℝ) : EReal)
def arr8 (A : Args) : FVec Ideal S2048x1024 .bf16 := fun i => (((A.grp ((i 1).val / 128)).dpv (i 0).val ((i 1).val % 128) : ℝ) : EReal)
def arr9 (A : Args) : FVec Ideal S8x128x128 .f32 := fun i => (((A.grp (i 0).val).dW 16 (i 1).val (i 2).val : ℝ) : EReal)
def arr10 (A : Args) : FVec Ideal S8x128x1 .f32 := fun i => (((A.grp (i 0).val).db 16 (i 1).val : ℝ) : EReal)
def arr11 (A : Args) : FVec Ideal S1x1024 .f32 := fun i => (((A.grp ((i 1).val / 128)).dlg 2048 ((i 1).val % 128) : ℝ) : EReal)
def arr12 (A : Args) : FVec Ideal S1x1024 .f32 := fun i => (((A.grp ((i 1).val / 128)).dlb 2048 ((i 1).val % 128) : ℝ) : EReal)

omit H in
theorem flush_last : ∀ t : Fin cfg0.N, (win0_9.flush t = true → t.val % 8 = 7) ∧ (win0_10.flush t = true → t.val % 8 = 7) ∧
    (win0_11.flush t = true → t.val % 8 = 7) ∧ (win0_12.flush t = true → t.val % 8 = 7) :=
  (by decide +kernel : ∀ t : Fin grid0.N, _)

/-- The gradient at the first half's pre-activations. -/
theorem arrAt7 : (dats m 0 c).arrAt 7 cfg0.N = arr7 A := by
  refine (dats m 0 c).arrAt_eq_of_covers 7 _ (by decide +kernel) fun t hf y => ?_
  obtain ⟨-, -, -, -, -, -, -, e, -⟩ := idx t
  obtain ⟨a, l, rfl⟩ : ∃ (a : Fin 256) (l : Fin 512), y = ix2 a l := ⟨y 0, y 1, eq_ix2 y⟩
  blk_simp [e]
  rw [after0_7]
  refine ((after_outs H t.val t.isLt).o7 a l).trans ?_
  unfold arr7
  blk_simp [e]
  rw [show (t.val / 8 * 512 + l.val) / 128 = 4 * (t.val / 8) + l.val / 128 by omega, show (t.val / 8 * 512 + l.val) % 128 = l.val % 128 by omega, show t.val % 8 * 256 + a.val = 256 * (t.val % 8) + a.val by omega]

/-- The gradient at the second half's pre-activations. -/
theorem arrAt8 : (dats m 0 c).arrAt 8 cfg0.N = arr8 A := by
  refine (dats m 0 c).arrAt_eq_of_covers 8 _ (by decide +kernel) fun t hf y => ?_
  obtain ⟨-, -, -, -, -, -, -, -, e, -⟩ := idx t
  obtain ⟨a, l, rfl⟩ : ∃ (a : Fin 256) (l : Fin 512), y = ix2 a l := ⟨y 0, y 1, eq_ix2 y⟩
  blk_simp [e]
  rw [after0_8]
  refine ((after_outs H t.val t.isLt).o8 a l).trans ?_
  unfold arr8
  blk_simp [e]
  rw [show (t.val / 8 * 512 + l.val) / 128 = 4 * (t.val / 8) + l.val / 128 by omega, show (t.val / 8 * 512 + l.val) % 128 = l.val % 128 by omega, show t.val % 8 * 256 + a.val = 256 * (t.val % 8) + a.val by omega]

/-- The gradient at the mixing matrices. -/
theorem arrAt9 : (dats m 0 c).arrAt 9 cfg0.N = arr9 A := by
  refine (dats m 0 c).arrAt_eq_of_covers 9 _ (by decide +kernel) fun t hf y => ?_
  obtain ⟨-, -, -, -, -, -, -, -, -, e, -⟩ := idx t
  obtain ⟨g, i, j, rfl⟩ : ∃ (g : Fin 4) (i : Fin 128) (j : Fin 128), y = ix3 g i j := ⟨y 0, y 1, y 2, eq_ix3 y⟩
  have h7 := (flush_last t).1 hf
  blk_simp [e]
  rw [after0_9]
  refine ((after_outs H t.val t.isLt).o9 g i j).trans ?_
  unfold arr9
  blk_simp [e]
  rw [show t.val / 8 * 4 + g.val = 4 * (t.val / 8) + g.val by omega, h7]

/-- The gradient at the mixing biases. -/
theorem arrAt10 : (dats m 0 c).arrAt 10 cfg0.N = arr10 A := by
  refine (dats m 0 c).arrAt_eq_of_covers 10 _ (by decide +kernel) fun t hf y => ?_
  obtain ⟨-, -, -, -, -, -, -, -, -, -, e, -⟩ := idx t
  obtain ⟨g, i, j, rfl⟩ : ∃ (g : Fin 4) (i : Fin 128) (j : Fin 1), y = ix3 g i j := ⟨y 0, y 1, y 2, eq_ix3 y⟩
  obtain rfl : j = 0 := Subsingleton.elim _ _
  have h7 := (flush_last t).2.1 hf
  blk_simp [e]
  rw [after0_10]
  refine ((after_outs H t.val t.isLt).o10 g i).trans ?_
  unfold arr10
  blk_simp [e]
  rw [show t.val / 8 * 4 + g.val = 4 * (t.val / 8) + g.val by omega, h7]

/-- The gradient at the norm's gain. -/
theorem arrAt11 : (dats m 0 c).arrAt 11 cfg0.N = arr11 A := by
  refine (dats m 0 c).arrAt_eq_of_covers 11 _ (by decide +kernel) fun t hf y => ?_
  obtain ⟨-, -, -, -, -, -, -, -, -, -, -, e, -⟩ := idx t
  obtain ⟨a, l, rfl⟩ : ∃ (a : Fin 1) (l : Fin 512), y = ix2 a l := ⟨y 0, y 1, eq_ix2 y⟩
  obtain rfl : a = 0 := Subsingleton.elim _ _
  have h7 := (flush_last t).2.2.1 hf
  blk_simp [e]
  rw [after0_11]
  refine ((after_outs H t.val t.isLt).o11 l).trans ?_
  unfold arr11
  blk_simp [e]
  rw [show (t.val / 8 * 512 + l.val) / 128 = 4 * (t.val / 8) + l.val / 128 by omega, show (t.val / 8 * 512 + l.val) % 128 = l.val % 128 by omega, h7]

/-- The gradient at the norm's bias. -/
theorem arrAt12 : (dats m 0 c).arrAt 12 cfg0.N = arr12 A := by
  refine (dats m 0 c).arrAt_eq_of_covers 12 _ (by decide +kernel) fun t hf y => ?_
  obtain ⟨-, -, -, -, -, -, -, -, -, -, -, -, e⟩ := idx t
  obtain ⟨a, l, rfl⟩ : ∃ (a : Fin 1) (l : Fin 512), y = ix2 a l := ⟨y 0, y 1, eq_ix2 y⟩
  obtain rfl : a = 0 := Subsingleton.elim _ _
  have h7 := (flush_last t).2.2.2 hf
  blk_simp [e]
  rw [after0_12]
  refine ((after_outs H t.val t.isLt).o12 l).trans ?_
  unfold arr12
  blk_simp [e]
  rw [show (t.val / 8 * 512 + l.val) / 128 = 4 * (t.val / 8) + l.val / 128 by omega, show (t.val / 8 * 512 + l.val) % 128 = l.val % 128 by omega, h7]

end Cert.Sgu

end
-- ==== Proof.Finite.lean ====
/- The test of a precondition on one array, read: an array that passes it is an array of real numbers. -/
module

public import Idealize.ShloMosaic.Lib.Pointwise
public import Idealize.ShloMosaic.Lib.IdealHost

@[expose] public section

noncomputable section

namespace Cert.Lift

open Idealize.ShloMosaic

/-- What the precondition's test says of one element: it is a real number. -/
theorem real_of_test {s : Shape} (X : FVec Ideal s .f32)
    (Y : FVec Ideal s .f32) (hY : ∀ i, Y i = (⊤ : EReal)) (e : cmpf .olt (Host.absf X) Y = fun _ => 1#1) (i : s.Idx) :
    X i = ((EReal.toReal (X i) : ℝ) : EReal) := by
  have e' : Ideal.cmp .olt (max (X i) (-(X i : EReal))) (Y i) = 1#1 := congrFun e i
  rw [hY] at e'
  refine (EReal.coe_toReal (fun h => ?_) (fun h => ?_)).symm
  · rw [show (X i : EReal) = ⊤ from h] at e'; simp [Ideal.cmp] at e'
  · rw [show (X i : EReal) = ⊥ from h] at e'; simp [Ideal.cmp] at e'

/-- Infinity's word. -/
theorem bits_inf : Ideal.ofBits .f32 0x7F800000#32 = (⊤ : EReal) := by
  simp [Ideal.ofBits, Ideal.ieee]

/-- An array whose entries are all real numbers. -/
def Reals {s : Shape} (X : s.Idx → EReal) : Prop := ∀ i, X i = ((EReal.toReal (X i) : ℝ) : EReal)

end Cert.Lift

end
-- ==== Proof.SguFinite.lean ====
/- The precondition of the spatial gating unit's claim, read: finite arguments are the coercions of real arguments. -/
module

public import proofs.«01_k».proof.Proof.SguArrays
public import proofs.«01_k».proof.Proof.Finite
public import proofs.«01_k».proof.Defs
public import proofs.«01_k».proof.Proof.Gen.Pre_sgu_finite

@[expose] public section

set_option maxRecDepth 16384

noncomputable section

namespace Cert.Sgu

open Cert.SguBwdIdeal Cert.Lift Idealize.ShloMosaic Idealize.ShloMosaic.TcCoe Idealize.SL.Sem

/-- The real arguments of six arrays: their elements, taken as reals, and zero outside. -/
def realArgs (X0 : FVec Ideal S2048x7680 .f32) (X1 X2 : FVec Ideal S1024 .f32) (X3 : FVec Ideal S8x128x128 .f32)
    (X4 : FVec Ideal S8x128 .f32) (X5 : FVec Ideal S2048x1024 .f32) : Args where
  p r k := if h : r < 2048 ∧ k < 7680 then EReal.toReal (X0 (ix2 ⟨r, h.1⟩ ⟨k, h.2⟩)) else 0
  lg k := if h : k < 1024 then EReal.toReal (X1 (ix1 ⟨k, h⟩)) else 0
  lb k := if h : k < 1024 then EReal.toReal (X2 (ix1 ⟨k, h⟩)) else 0
  w q i j := if h : q < 8 ∧ i < 128 ∧ j < 128 then EReal.toReal (X3 (ix3 ⟨q, h.1⟩ ⟨i, h.2.1⟩ ⟨j, h.2.2⟩)) else 0
  b q i := if h : q < 8 ∧ i < 128 then EReal.toReal (X4 (ix2 ⟨q, h.1⟩ ⟨i, h.2⟩)) else 0
  d r k := if h : r < 2048 ∧ k < 1024 then EReal.toReal (X5 (ix2 ⟨r, h.1⟩ ⟨k, h.2⟩)) else 0

/-- Under the precondition the argument arrays are arrays of reals, on every device. -/
theorem at_of_pre (m : (ℓ : Loc nD τ sig) → Buf (Elt Ideal) ℓ) (h : Cert.Pre_SguBwdIdeal_sgu_finite m) (c : Dev nD) :
    ∃ A : Args, At m c A := by
  obtain ⟨h0, h1, h2, h3, h4, h5⟩ := h c
  refine ⟨realArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)), ?_⟩
  constructor
  · intro r k
    simp only [realArgs, r.isLt, k.isLt, and_self, dite_true]
    exact real_of_test _ _ (fun _ => bits_inf) h0 _
  · intro k
    simp only [realArgs, k.isLt, dite_true]
    exact real_of_test _ _ (fun _ => bits_inf) h1 _
  · intro k
    simp only [realArgs, k.isLt, dite_true]
    exact real_of_test _ _ (fun _ => bits_inf) h2 _
  · intro q i j
    simp only [realArgs, q.isLt, i.isLt, j.isLt, and_self, dite_true]
    exact real_of_test _ _ (fun _ => bits_inf) h3 _
  · intro q i
    simp only [realArgs, q.isLt, i.isLt, and_self, dite_true]
    exact real_of_test _ _ (fun _ => bits_inf) h4 _
  · intro r k
    simp only [realArgs, r.isLt, k.isLt, and_self, dite_true]
    exact real_of_test _ _ (fun _ => bits_inf) h5 _

end Cert.Sgu

end
-- ==== Proof.SguRef.lean ====
/- What the reference computes for the spatial gating unit's gradient, over the ideal instance and finite arguments: each
   of its named intermediate arrays is an array of reals. -/
module

public import proofs.«01_k».proof.Proof.SguArrays
public import proofs.«01_k».proof.Proof.Gen.SguRefIdeal.Run

@[expose] public section

set_option maxRecDepth 16384

noncomputable section

namespace Cert.Sgu.Ref

open Cert.Sgu Cert.SguRefIdeal Cert.SguRefIdeal.Value Cert.Lift Idealize.ShloMosaic Idealize.ShloMosaic.TcCoe Idealize.SL.Sem

/-- The reference's argument buffers hold the real arguments. -/
abbrev Has (A : Args) (V : Valuation τ sig (Elt Ideal)) : Prop :=
  A.Of (V (Proc.devRef .tc main_arg0)) (V (Proc.devRef .tc main_arg1)) (V (Proc.devRef .tc main_arg2))
    (V (Proc.devRef .tc main_arg3)) (V (Proc.devRef .tc main_arg4)) (V (Proc.devRef .tc main_arg5))

/-- A reduction over the axes 0 and 3, both of one element. -/
theorem reduce_r4_03 (h : S1x2048x8x1.ReducesTo [0, 3] S2048x8) (x : S1x2048x8x1.Idx → EReal) (b : EReal) (r : Fin 2048) (q : Fin 8) :
    Ideal.hostReduceAdd h x b (ix2 r q) = b + x (ix4 0 r q 0) := by
  refine congrArg (b + ·) ((Finset.sum_filter_eq_sum_of_fiber _ (fun _ : Unit => (ix4 0 r q 0 : S1x2048x8x1.Idx)) (fun _ _ _ => rfl) ?_ x).trans (by simp))
  intro i
  have e0 := h.drop_apply_val_of_eq i 0 1 (by decide)
  have e1 := h.drop_apply_val_of_eq i 1 2 (by decide)
  constructor
  · intro hi
    rw [hi] at e0 e1
    refine ⟨(), funext fun a => Fin.ext ?_⟩
    fin_cases a
    · exact (Nat.lt_one_iff.mp (i 0).isLt).symm
    · exact e0
    · exact e1
    · exact (Nat.lt_one_iff.mp (i 3).isLt).symm
  · rintro ⟨-, rfl⟩
    refine funext fun a => Fin.ext ?_
    fin_cases a
    · exact e0
    · exact e1

/-- A reduction over the axes 0, 1 and 4, each of one element. -/
theorem reduce_r5_014 (h : S1x1x128x8x1.ReducesTo [0, 1, 4] S128x8) (x : S1x1x128x8x1.Idx → EReal) (b : EReal) (i : Fin 128) (q : Fin 8) :
    Ideal.hostReduceAdd h x b (ix2 i q) = b + x (ix5 0 0 i q 0) := by
  refine congrArg (b + ·) ((Finset.sum_filter_eq_sum_of_fiber _ (fun _ : Unit => (ix5 0 0 i q 0 : S1x1x128x8x1.Idx)) (fun _ _ _ => rfl) ?_ x).trans (by simp))
  intro y
  have e0 := h.drop_apply_val_of_eq y 0 2 (by decide)
  have e1 := h.drop_apply_val_of_eq y 1 3 (by decide)
  constructor
  · intro hi
    rw [hi] at e0 e1
    refine ⟨(), funext fun a => Fin.ext ?_⟩
    fin_cases a
    · exact (Nat.lt_one_iff.mp (y 0).isLt).symm
    · exact (Nat.lt_one_iff.mp (y 1).isLt).symm
    · exact e0
    · exact e1
    · exact (Nat.lt_one_iff.mp (y 4).isLt).symm
  · rintro ⟨-, rfl⟩
    refine funext fun a => Fin.ext ?_
    fin_cases a
    · exact e0
    · exact e1

/-- A reduction over the axes 0 and 1, both of one element. -/
theorem reduce_r4_01 (h : S1x1x8x128.ReducesTo [0, 1] S8x128) (x : S1x1x8x128.Idx → EReal) (b : EReal) (q : Fin 8) (l : Fin 128) :
    Ideal.hostReduceAdd h x b (ix2 q l) = b + x (ix4 0 0 q l) := by
  refine congrArg (b + ·) ((Finset.sum_filter_eq_sum_of_fiber _ (fun _ : Unit => (ix4 0 0 q l : S1x1x8x128.Idx)) (fun _ _ _ => rfl) ?_ x).trans (by simp))
  intro y
  have e0 := h.drop_apply_val_of_eq y 0 2 (by decide)
  have e1 := h.drop_apply_val_of_eq y 1 3 (by decide)
  constructor
  · intro hi
    rw [hi] at e0 e1
    refine ⟨(), funext fun a => Fin.ext ?_⟩
    fin_cases a
    · exact (Nat.lt_one_iff.mp (y 0).isLt).symm
    · exact (Nat.lt_one_iff.mp (y 1).isLt).symm
    · exact e0
    · exact e1
  · rintro ⟨-, rfl⟩
    refine funext fun a => Fin.ext ?_
    fin_cases a
    · exact e0
    · exact e1

/-- A reduction over the chunks and the lanes. -/
theorem reduce_r5_14 (h : S1x16x128x8x128.ReducesTo [1, 4] S1x128x8) (x : S1x16x128x8x128.Idx → EReal) (b : EReal) (i : Fin 128) (q : Fin 8) :
    Ideal.hostReduceAdd h x b (ix3 0 i q) = b + ∑ n : Fin 16, ∑ l : Fin 128, x (ix5 0 n i q l) := by
  refine congrArg (b + ·) ((Finset.sum_filter_eq_sum_of_fiber _ (fun k : Fin 16 × Fin 128 => (ix5 0 k.1 i q k.2 : S1x16x128x8x128.Idx))
    (fun _ _ e => Prod.ext (congrFun e 1) (congrFun e 4)) ?_ x).trans (Fintype.sum_prod_type _))
  intro y
  have e1 := h.drop_apply_val_of_eq y 1 2 (by decide)
  have e2 := h.drop_apply_val_of_eq y 2 3 (by decide)
  constructor
  · intro hi
    rw [hi] at e1 e2
    refine ⟨(y 1, y 4), funext fun a => Fin.ext ?_⟩
    fin_cases a
    · exact (Nat.lt_one_iff.mp (y 0).isLt).symm
    · rfl
    · exact e1
    · exact e2
    · rfl
  · rintro ⟨k, rfl⟩
    refine funext fun a => Fin.ext ?_
    fin_cases a
    · exact Nat.lt_one_iff.mp (h.drop _ 0).isLt
    · exact e1
    · exact e2

variable {A : Args} {V : Valuation τ sig (Elt Ideal)} (H : Has A V)
include H

theorem v1 (r k : Fin 2048) : res_main_v1 V (ix3 0 r k) = ((A.p r.val (1536 + k.val) : ℝ) : EReal) := by
  pointwise [res_main_v1]
  exact H.p _ _

theorem v14 (r k : Fin 2048) : res_main_v14 V (ix3 0 r k) = ((Real.tanh (geluArg (A.p r.val (1536 + k.val))) : ℝ) : EReal) := by
  pointwise [res_main_v14]
  simp only [v1 H, bits_geluC, bits_8943, bits_200000, div_coe _ _ (show (200000 : ℝ) ≠ 0 by norm_num), ← EReal.coe_mul, ← EReal.coe_add, tanh_coe,
    geluArg_chain]

theorem v23 (r k : Fin 2048) : res_main_v23 V (ix3 0 r k) = ((1 / 2 * (1 + Real.tanh (geluArg (A.p r.val (1536 + k.val)))) : ℝ) : EReal) := by
  pointwise [res_main_v23]
  simp only [v14 H, bits_half, bits_one, ← EReal.coe_one, ← EReal.coe_mul, ← EReal.coe_add]

theorem v24 (r k : Fin 2048) : res_main_v24 V (ix3 0 r k) = ((gelu (A.p r.val (1536 + k.val)) : ℝ) : EReal) := by
  pointwise [res_main_v24]
  simp only [v1 H, v23 H, ← EReal.coe_mul]
  congr 1
  unfold gelu; ring

theorem v25 (r : Fin 2048) (k : Fin 1024) : res_main_v25 V (ix3 0 r k) = (((A.grp (k.val / 128)).u r.val (k.val % 128) : ℝ) : EReal) := by
  pointwise [res_main_v25]
  rw [v24 H]
  simp only [Grp.u, Args.grp, show 1536 + (128 * (k.val / 128) + k.val % 128) = 1536 + k.val by omega]

theorem v27 (r : Fin 2048) (q : Fin 8) (l : Fin 128) : res_main_v27 V (ix4 0 r q l) = (((A.grp q.val).v r.val l.val : ℝ) : EReal) := by
  pointwise [res_main_v27]
  rw [v24 H]
  simp only [Grp.v, Args.grp, show 1536 + (1024 + (q.val * 128 + l.val)) = 2560 + (128 * q.val + l.val) by omega]

theorem v31 (r : Fin 2048) (q : Fin 8) : res_main_v31 V (ix4 0 r q 0) = (((A.grp q.val).mu r.val : ℝ) : EReal) := by
  pointwise [res_main_v31]
  simp only [v27 H, bits_128, coe_sum, div_coe _ _ (show (128 : ℝ) ≠ 0 by norm_num)]
  rw [Grp.mu, Finset.sum_range]

theorem v33 (r : Fin 2048) (q : Fin 8) (l : Fin 128) : res_main_v33 V (ix4 0 r q l) = (((A.grp q.val).vc r.val l.val : ℝ) : EReal) := by
  pointwise [res_main_v33]
  simp only [v27 H, v31 H, ← EReal.coe_sub]
  rfl

theorem v42 (r : Fin 2048) (q : Fin 8) (l : Fin 128) : res_main_v42 V (ix4 0 r q l) = (((A.grp q.val).vc r.val l.val : ℝ) : EReal) := v33 H r q l

theorem v44 (r : Fin 2048) (q : Fin 8) : res_main_v44 V (ix4 0 r q 0) = (((A.grp q.val).var r.val : ℝ) : EReal) := by
  pointwise [res_main_v44]
  simp only [v33 H, bits_128, bits_eps, ← EReal.coe_mul, coe_sum, div_coe _ _ (show (128 : ℝ) ≠ 0 by norm_num), ← EReal.coe_add]
  rw [Grp.var, Finset.sum_range]

theorem v45 (r : Fin 2048) (q : Fin 8) : res_main_v45 V (ix4 0 r q 0) = (((A.grp q.val).rho r.val : ℝ) : EReal) := by
  pointwise [res_main_v45]
  rw [v44 H, rsqrt_coe _ (Grp.var_pos _ _)]
  rfl

theorem v50 (r : Fin 2048) (q : Fin 8) (l : Fin 128) : res_main_v50 V (ix4 0 r q l) = (((A.grp q.val).xh r.val l.val : ℝ) : EReal) := by
  pointwise [res_main_v50]
  simp only [v42 H, v45 H, ← EReal.coe_mul]
  rfl

theorem v52 (q : Fin 8) (l : Fin 128) : res_main_v52 V (ix4 0 0 q l) = (((A.grp q.val).lg l.val : ℝ) : EReal) := by
  pointwise [res_main_v52]
  rw [H.lg]
  simp only [Args.grp, show q.val * 128 + l.val = 128 * q.val + l.val by omega]

theorem v59 (n : Fin 16) (a : Fin 128) (q : Fin 8) (l : Fin 128) :
    res_main_v59 V (ix5 0 n a q l) = (((A.grp q.val).vn (128 * n.val + a.val) l.val : ℝ) : EReal) := by
  pointwise [res_main_v59]
  simp only [v50 H, v52 H, H.lb _, ← EReal.coe_mul, ← EReal.coe_add]
  simp only [Grp.vn, Args.grp, show q.val * 128 + l.val = 128 * q.val + l.val by omega, show n.val * 128 + a.val = 128 * n.val + a.val by omega]

omit H in
theorem v64_1 (q : Fin 8) (i j : Fin 128) : res_main_v64_1 V (ix3 q i j) = if j.val ≤ i.val then 1#1 else 0#1 := by
  pointwise [res_main_v64_1]
  rw [show IntOp.addi (BitVec.ofNat 32 i.val) 0#32 = BitVec.ofNat 32 i.val from BitVec.add_zero _, mask_val]

theorem v64_0 (q : Fin 8) (i j : Fin 128) : res_main_v64_0 V (ix3 q i j) = (((A.grp q.val).W i.val j.val : ℝ) : EReal) := by
  pointwise [res_main_v64_0]
  rw [v64_1, H.w]
  by_cases h : j.val ≤ i.val <;> simp [Scalar.select, Grp.W, Args.grp, h]

theorem v71 (r : Fin 2048) (k : Fin 1024) : res_main_v71 V (ix3 0 r k) = (((A.grp (k.val / 128)).s r.val (k.val % 128) : ℝ) : EReal) := by
  pointwise [res_main_v71]
  simp only [v59 H, v64_0 H, H.b _ _, ← EReal.coe_mul, coe_sum, ← EReal.coe_add]
  rw [Grp.s, Finset.sum_range]
  simp only [mul_comm]
  rfl

theorem v73 (r : Fin 2048) (k : Fin 1024) : res_main_v73 V (ix3 0 r k) = (((A.grp (k.val / 128)).dO r.val (k.val % 128) : ℝ) : EReal) := by
  pointwise [res_main_v73]
  rw [H.d]
  simp only [Args.grp, show 128 * (k.val / 128) + k.val % 128 = k.val by omega]

theorem v76 (n : Fin 16) (a : Fin 128) (q : Fin 8) (l : Fin 128) :
    res_main_v76 V (ix5 0 n a q l) = (((A.grp q.val).ds (128 * n.val + a.val) l.val : ℝ) : EReal) := by
  pointwise [res_main_v76]
  simp only [v25 H, v73 H, ← EReal.coe_mul]
  rw [show (q.val * 128 + l.val) / 128 = q.val by omega, show (q.val * 128 + l.val) % 128 = l.val by omega, Grp.ds, mul_comm,
    show n.val * 128 + a.val = 128 * n.val + a.val by omega]

theorem v81 (n : Fin 16) (a : Fin 128) (q : Fin 8) (l : Fin 128) :
    res_main_v81 V (ix5 q 0 n l a) = (((A.grp q.val).ds (128 * n.val + a.val) l.val : ℝ) : EReal) := by
  pointwise [res_main_v81]
  exact v76 H n a q l

theorem v86 (r : Fin 2048) (q : Fin 8) (l : Fin 128) : res_main_v86 V (ix4 0 r q l) = (((A.grp q.val).dvn r.val l.val : ℝ) : EReal) := by
  pointwise [res_main_v86]
  simp only [v81 H, v64_0 H, ← EReal.coe_mul, coe_sum]
  rw [Grp.dvn, Finset.sum_range]
  simp only [mul_comm]

theorem v95 (r : Fin 2048) (q : Fin 8) (l : Fin 128) : res_main_v95 V (ix4 0 r q l) = (((A.grp q.val).dxh r.val l.val : ℝ) : EReal) := by
  pointwise [res_main_v95]
  simp only [v86 H, v52 H, ← EReal.coe_mul]
  rfl

theorem v102 (r : Fin 2048) (q : Fin 8) (l : Fin 128) :
    res_main_v102 V (ix4 0 r q l) = (((A.grp q.val).dxh r.val l.val * (A.grp q.val).rho r.val : ℝ) : EReal) := by
  pointwise [res_main_v102]
  simp only [v95 H, v45 H, ← EReal.coe_mul]

/-- The variance path of the norm's gradient. -/
def viaVar (G : Grp) (r l : ℕ) : ℝ :=
  (∑ k ∈ Finset.range 128, G.vc r k * G.dxh r k) * (-(1 / 2) * (G.rho r / G.var r)) / 128 * (2 * G.vc r l)

theorem v112 (r : Fin 2048) (q : Fin 8) (l : Fin 128) : res_main_v112 V (ix4 0 r q l) = ((viaVar (A.grp q.val) r.val l.val : ℝ) : EReal) := by
  pointwise [res_main_v112]
  rw [reduce_r4_03]
  pointwise
  simp only [v42 H, v95 H, v45 H, v44 H, v33 H, bits_neg_half, bits_128, bits_two, div_coe _ _ (Grp.var_pos _ _).ne', ← EReal.coe_mul, coe_sum,
    div_coe _ _ (show (128 : ℝ) ≠ 0 by norm_num)]
  rw [viaVar, Finset.sum_range]

/-- The cotangent of the pre-activations' GELU: the gate's half, then the value's. -/
def cot (A : Args) (r k : ℕ) : ℝ :=
  if k < 1024 then (A.grp (k / 128)).dO r (k % 128) * (A.grp (k / 128)).s r (k % 128)
  else (A.grp ((k - 1024) / 128)).dv r ((k - 1024) % 128)

theorem v127 (r k : Fin 2048) : res_main_v127 V (ix3 0 r k) = ((cot A r.val k.val : ℝ) : EReal) := by
  pointwise [res_main_v127]
  simp only [reduce_r4_03]
  pointwise
  simp only [v102 H, v112 H, v71 H, v73 H, bits_128, ← EReal.coe_neg, coe_sum, ← EReal.coe_add, ← EReal.coe_mul,
    div_coe _ _ (show (128 : ℝ) ≠ 0 by norm_num)]
  by_cases hk : k.val < 1024
  · rw [dif_neg (by omega), dif_pos, zero_add, cot, if_pos hk]
    intro a
    match a with
    | ⟨0, _⟩ => exact ⟨Nat.zero_le _, Nat.mod_one _, (Nat.div_one _).trans_lt Nat.one_pos⟩
    | ⟨1, _⟩ => exact ⟨Nat.zero_le _, Nat.mod_one _, (Nat.div_one _).trans_lt r.isLt⟩
    | ⟨2, _⟩ => exact ⟨Nat.zero_le _, Nat.mod_one _, (Nat.div_one _).trans_lt hk⟩
  · rw [dif_pos (by omega), dif_neg, add_zero, cot, if_neg hk, ← Grp.dv_chain, ← Finset.sum_range (fun x => -((A.grp _).dxh _ x * _)),
      ← Finset.sum_range (fun x => -(viaVar _ _ x))]
    · rfl
    · intro h
      have h2 : (k.val - 0) / (0 + 1) < 1024 := (h (2 : Fin 3)).2.2
      omega

theorem v134 (r k : Fin 2048) : res_main_v134 V (ix3 0 r k) =
    ((geluC * (1 / 2 * (A.p r.val (1536 + k.val) * cot A r.val k.val) * ((1 + Real.tanh (geluArg (A.p r.val (1536 + k.val)))) *
      (1 - Real.tanh (geluArg (A.p r.val (1536 + k.val)))))) : ℝ) : EReal) := by
  pointwise [res_main_v134]
  simp only [v1 H, v127 H, v14 H, bits_geluC, bits_half, bits_one, ← EReal.coe_one, ← EReal.coe_mul, ← EReal.coe_add, ← EReal.coe_sub]

theorem v141 (r k : Fin 2048) : res_main_v141 V (ix3 0 r k) = ((cot A r.val k.val * geluGrad (A.p r.val (1536 + k.val)) : ℝ) : EReal) := by
  pointwise [res_main_v141]
  simp only [v127 H, v23 H, v134 H, v1 H, bits_8943, bits_200000, bits_three, ← EReal.coe_one, div_coe _ _ (show (200000 : ℝ) ≠ 0 by norm_num),
    ← EReal.coe_mul, ← EReal.coe_add]
  rw [geluGrad_chain]

/-- The gradient at the first half's pre-activations. -/
theorem out7 : (truncf .bf16 (shapeCast _ (extractStridedSlice S1x2048x1024 ![0, 0, 0] (res_main_v141 V) Gen.slices_S1x2048x2048_S1x2048x1024_0_0_0)
    Gen.shapeCasts_S1x2048x1024_S2048x1024) Gen.bitsLt_bf16_f32 : FVec Ideal S2048x1024 .bf16) = arr7 A := by
  funext i
  obtain ⟨r, k, rfl⟩ : ∃ (r : Fin 2048) (k : Fin 1024), i = ix2 r k := ⟨i 0, i 1, eq_ix2 i⟩
  pointwise [arr7]
  rw [v141 H, cot, if_pos k.isLt]
  simp only [Grp.dpu, Args.grp, show 1536 + (128 * (k.val / 128) + k.val % 128) = 1536 + k.val by omega]

/-- The gradient at the second half's pre-activations. -/
theorem out8 : (truncf .bf16 (shapeCast _ (extractStridedSlice S1x2048x1024 ![0, 0, 1024] (res_main_v141 V) Gen.slices_S1x2048x2048_S1x2048x1024_0_0_1024)
    Gen.shapeCasts_S1x2048x1024_S2048x1024) Gen.bitsLt_bf16_f32 : FVec Ideal S2048x1024 .bf16) = arr8 A := by
  funext i
  obtain ⟨r, k, rfl⟩ : ∃ (r : Fin 2048) (k : Fin 1024), i = ix2 r k := ⟨i 0, i 1, eq_ix2 i⟩
  pointwise [arr8]
  rw [v141 H, cot, if_neg (show ¬ 1024 + k.val < 1024 by omega)]
  simp only [Grp.dpv, Args.grp, show 1536 + (1024 + k.val) = 2560 + (128 * (k.val / 128) + k.val % 128) by omega,
    show 1024 + k.val - 1024 = k.val by omega]

omit H in
/-- The mixing matrices' gradient contracts over one batch, the chunks and the lanes: its contraction index from chunk and
    lane. -/
def dwIdx (k : Fin 16 × Fin 128) : dot_S8x1x16x128x128_S1x16x128x8x128_S8x128x128_123_014_4_2_0_3.contr.Idx
  | ⟨0, _⟩ => (0 : Fin 1)
  | ⟨1, _⟩ => k.1
  | ⟨2, _⟩ => k.2

omit H in
theorem dwIdx_bijective : Function.Bijective dwIdx := by
  refine ⟨fun k k' e => Prod.ext (congrFun e (1 : Fin 3)) (congrFun e (2 : Fin 3)), fun i => ⟨(i (1 : Fin 3), i (2 : Fin 3)), funext fun p => ?_⟩⟩
  match p with
  | ⟨0, _⟩ => exact Subsingleton.elim (α := Fin 1) _ _
  | ⟨1, _⟩ => rfl
  | ⟨2, _⟩ => rfl

/-- The gradient at the mixing matrices. -/
theorem out9 : (select (res_main_v64_1 V) (Host.dotGeneral (F := Ideal) (φ₁ := .f32) (φ₂ := .f32) dot_S8x1x16x128x128_S1x16x128x8x128_S8x128x128_123_014_4_2_0_3 none (res_main_v81 V)
    (res_main_v59 V)) (broadcastInDim S8x128x128 ![] Gen.bcast_S_S8x128x128 (constant S_ .f32 0x00000000#32)) : FVec Ideal S8x128x128 .f32) = arr9 A := by
  funext i
  obtain ⟨q, a, b, rfl⟩ : ∃ (q : Fin 8) (a b : Fin 128), i = ix3 q a b := ⟨i 0, i 1, i 2, eq_ix3 i⟩
  pointwise [arr9]
  have e : Ideal.matmul dot_S8x1x16x128x128_S1x16x128x8x128_S8x128x128_123_014_4_2_0_3 (res_main_v81 V) (res_main_v59 V) (fun _ => 0) (ix3 q a b) =
      ((∑ n ∈ Finset.range 16, (A.grp q.val).dwPart n a.val b.val : ℝ) : EReal) := by
    refine (zero_add _).trans ((dwIdx_bijective.sum_comp _).symm.trans ((Fintype.sum_prod_type _).trans ?_))
    have eL (n : Fin 16) (l : Fin 128) :
        dot_S8x1x16x128x128_S1x16x128x8x128_S8x128x128_123_014_4_2_0_3.lhsIdx (ix3 q a b) (dwIdx (n, l)) = ix5 q 0 n l a := by
      funext k; fin_cases k <;> rfl
    have eR (n : Fin 16) (l : Fin 128) :
        dot_S8x1x16x128x128_S1x16x128x8x128_S8x128x128_123_014_4_2_0_3.rhsIdx (ix3 q a b) (dwIdx (n, l)) = ix5 0 n b q l := by
      funext k; fin_cases k <;> rfl
    simp only [eL, eR, v81 H, v59 H, ← EReal.coe_mul, coe_sum]
    rw [Finset.sum_range]
    simp only [Grp.dwPart, Finset.sum_range]
  rw [v64_1, e]
  by_cases h : b.val ≤ a.val <;> simp [Scalar.select, Grp.dW, h]

/-- The gradient at the mixing biases. -/
theorem out10 : (broadcastInDim S8x128x1 ![0, 1] Gen.bcast_S8x128_S8x128x1_0_1 (transpose S8x128 [1, 0] (Host.reduceAdd (shapeCast _
    (Host.reduceAdd (F := Ideal) (res_main_v76 V) (constant S_ .f32 0x00000000#32) Gen.reducesTo_S1x16x128x8x128_S1x128x8_d1_4 Gen.h_S_) Gen.shapeCasts_S1x128x8_S1x1x128x8x1)
    (constant S_ .f32 0x00000000#32) Gen.reducesTo_S1x1x128x8x1_S128x8_d0_1_4 Gen.h_S_) Gen.transposes_S128x8_S8x128_1_0) : FVec Ideal S8x128x1 .f32) = arr10 A := by
  funext i
  obtain ⟨q, a, b, rfl⟩ : ∃ (q : Fin 8) (a : Fin 128) (b : Fin 1), i = ix3 q a b := ⟨i 0, i 1, i 2, eq_ix3 i⟩
  pointwise [arr10]
  rw [reduce_r5_014]
  pointwise
  rw [reduce_r5_14]
  simp only [v76 H, coe_sum, zero_add]
  rw [Grp.db, Finset.sum_range]
  simp only [Finset.sum_range]

/-- The gradient at the norm's gain. -/
theorem out11 : (broadcastInDim S1x1024 ![1] Gen.bcast_S1024_S1x1024_1 (shapeCast _ (Host.reduceAdd (shapeCast _ (Host.reduceAdd (F := Ideal)
    (mulf (res_main_v50 V) (res_main_v86 V)) (constant S_ .f32 0x00000000#32) Gen.reducesTo_S1x2048x8x128_S1x8x128_d1 Gen.h_S_) Gen.shapeCasts_S1x8x128_S1x1x8x128)
    (constant S_ .f32 0x00000000#32) Gen.reducesTo_S1x1x8x128_S8x128_d0_1 Gen.h_S_) Gen.shapeCasts_S8x128_S1024) : FVec Ideal S1x1024 .f32) = arr11 A := by
  funext i
  obtain ⟨b, k, rfl⟩ : ∃ (b : Fin 1) (k : Fin 1024), i = ix2 b k := ⟨i 0, i 1, eq_ix2 i⟩
  pointwise [arr11]
  rw [reduce_r4_01]
  pointwise
  simp only [v50 H, v86 H, ← EReal.coe_mul, coe_sum]
  rw [Grp.dlg, Finset.sum_range]
  simp only [mul_comm]

/-- The gradient at the norm's bias. -/
theorem out12 : (broadcastInDim S1x1024 ![1] Gen.bcast_S1024_S1x1024_1 (shapeCast _ (Host.reduceAdd (shapeCast _ (Host.reduceAdd (F := Ideal)
    (res_main_v86 V) (constant S_ .f32 0x00000000#32) Gen.reducesTo_S1x2048x8x128_S1x8x128_d1 Gen.h_S_) Gen.shapeCasts_S1x8x128_S1x1x8x128)
    (constant S_ .f32 0x00000000#32) Gen.reducesTo_S1x1x8x128_S8x128_d0_1 Gen.h_S_) Gen.shapeCasts_S8x128_S1024) : FVec Ideal S1x1024 .f32) = arr12 A := by
  funext i
  obtain ⟨b, k, rfl⟩ : ∃ (b : Fin 1) (k : Fin 1024), i = ix2 b k := ⟨i 0, i 1, eq_ix2 i⟩
  pointwise [arr12]
  rw [reduce_r4_01]
  pointwise
  simp only [v86 H, coe_sum]
  rw [Grp.dlb, Finset.sum_range]

end Cert.Sgu.Ref

end
-- ==== Proof.SguClaim.lean ====
/- The claims about the spatial gating unit's gradient, assembled: the kernel's arrays and the reference's are the same
   arrays of reals. -/
module

public import proofs.«01_k».proof.Proof.SguFinite
public import proofs.«01_k».proof.Proof.SguRef
public import Idealize.ShloMosaic.Lib.Quiescent

@[expose] public section

set_option maxRecDepth 16384

noncomputable section

namespace Cert.Sgu

open Cert.Lift Idealize.ShloMosaic Idealize.ShloMosaic.TcCoe Idealize.SL.Sem

/-- The reference's frame: it has no semaphores, and its run keeps its arguments. -/
theorem ref_frame : Cert.quiescent_SguRefIdeal (hSguRefIdeal := Cert.SguRefIdeal.Gen.facts) := fun m ρ _ =>
  (θ_run _ _ _).mono (fun r h => ⟨fun c => (h c).2.2.2.2.2.2, sem_eq_zero_of_no_sems (by decide) _⟩) (Cert.SguRefIdeal.Value.run m ρ)

/-- The six gradients of the kernel are the six gradients of the reference. -/
theorem algebraic : Cert.algebraic_SguBwdIdeal_SguRefIdeal_pre_sgu_finite (hSguBwdIdeal := Cert.SguBwdIdeal.Gen.facts)
    (hSguRefIdeal := Cert.SguRefIdeal.Gen.facts) (hPre_sgu_finite := Cert.Pre_sgu_finite.Gen.facts) := by
  intro m ρ m' ρ' hpre hm
  choose A hA using fun c => at_of_pre m hpre c
  have hB (c) : Ref.Has (A c) (StableHlo.launchContents m' c) := by
    obtain ⟨e0, e1, e2, e3, e4, e5, -⟩ := hm c
    have H := hA c
    unfold At at H
    rw [← e0, ← e1, ← e2, ← e3, ← e4, ← e5] at H
    exact H
  refine ⟨fun c => arr7 (A c), fun c => arr8 (A c), fun c => arr9 (A c), fun c => arr10 (A c), fun c => arr11 (A c), fun c => arr12 (A c), ?_, ?_⟩
  · refine (θ_run _ _ _).mono (fun r h c => ?_) (Cert.SguBwdIdeal.Value.run_blocks m ρ)
    obtain ⟨h0, h1, h2, h3, h4, h5, h6⟩ := h c
    exact ⟨h0.trans (arrAt7 (hA c)), h1.trans (arrAt8 (hA c)), h2.trans (arrAt9 (hA c)), h3.trans (arrAt10 (hA c)),
      h4.trans (arrAt11 (hA c)), h5.trans (arrAt12 (hA c)), h6⟩
  · refine (θ_run _ _ _).mono (fun r h c => ?_) (Cert.SguRefIdeal.Value.run m' ρ')
    obtain ⟨h0, h1, h2, h3, h4, h5, h6⟩ := h c
    exact ⟨h0.trans (Ref.out7 (hB c)), h1.trans (Ref.out8 (hB c)), h2.trans (Ref.out9 (hB c)), h3.trans (Ref.out10 (hB c)),
      h4.trans (Ref.out11 (hB c)), h5.trans (Ref.out12 (hB c)), h6⟩

end Cert.Sgu

end
-- ==== Proof.Products.lean ====
/- The gradients of a product `x w`, as sums: at the weights cut into four blocks of columns or of rows, one for each
   chip, and at the input. -/
module

public import Idealize.ShloMosaic.Lib.ValueIdx
public import Idealize.ShloMosaic.Lib.Pointwise

@[expose] public section

set_option maxRecDepth 16384

noncomputable section

namespace Cert.Products

open Idealize.ShloMosaic Idealize.ShloMosaic.TcCoe

/-- A matrix over the extended reals. -/
abbrev Mat (a b : ℕ) : Type := (⟨2, ![a, b]⟩ : Shape).Idx → EReal

/-- An array of four matrices, one for each chip. -/
abbrev Shards (a b : ℕ) : Type := (⟨3, ![4, a, b]⟩ : Shape).Idx → EReal

/-- The gradient at the weights, chip `s` holding the columns from `N s`: the sum over the tokens. -/
def columns {T K M : ℕ} (N : ℕ) (hN : 4 * N = M) (x : Mat T K) (dy : Mat T M) : Shards K N := fun i =>
  ∑ r : Fin T, x (ix2 r ⟨(i 1).val, (i 1).isLt⟩) * dy (ix2 r ⟨(i 0).val * N + (i 2).val, by
    have h0 : (i 0).val < 4 := (i 0).isLt
    have h2 : (i 2).val < N := (i 2).isLt
    nlinarith⟩)

/-- The gradient at the weights, chip `s` holding the rows from `K s`. -/
def rows {T N M : ℕ} (K : ℕ) (hK : 4 * K = M) (x : Mat T M) (dy : Mat T N) : Shards K N := fun i =>
  ∑ r : Fin T, x (ix2 r ⟨(i 0).val * K + (i 1).val, by
    have h0 : (i 0).val < 4 := (i 0).isLt
    have h1 : (i 1).val < K := (i 1).isLt
    nlinarith⟩) * dy (ix2 r ⟨(i 2).val, (i 2).isLt⟩)

/-- The gradient at the input: the sum over the columns of the weights. -/
def input {T K M : ℕ} (dy : Mat T M) (w : Mat K M) : Mat T K := fun i =>
  ∑ n : Fin M, dy (ix2 ⟨(i 0).val, (i 0).isLt⟩ n) * w (ix2 ⟨(i 1).val, (i 1).isLt⟩ n)

/-- An entry is given by the numbers of its row and its column. -/
theorem entry {a b : ℕ} (X : Mat a b) {i i' : Fin a} {j j' : Fin b} (hi : i.val = i'.val) (hj : j.val = j'.val) : X (ix2 i j) = X (ix2 i' j') := by
  rw [Fin.ext hi, Fin.ext hj]

/-- A sum over `4 * n` indices is the sum over the four runs of `n` indices. -/
theorem sum_four {n M : ℕ} (h : 4 * n = M) (f : Fin M → EReal) :
    ∑ i : Fin M, f i = ∑ s : Fin 4, ∑ k : Fin n, f ⟨s.val * n + k.val, by have := s.isLt; have := k.isLt; nlinarith⟩ := by
  subst h
  rw [← finProdFinEquiv.sum_comp, Fintype.sum_prod_type]
  refine Finset.sum_congr rfl fun s _ => Finset.sum_congr rfl fun k _ => congrArg f (Fin.ext ?_)
  show k.val + n * s.val = _
  ring

/-- Four additions, one after the other, from zero. -/
theorem four_steps (f : ℕ → EReal) (g : ℕ → EReal) (h0 : g 0 = 0 + f 0) (h : ∀ k < 3, g (k + 1) = g k + f (k + 1)) :
    g 3 = ∑ s : Fin 4, f s.val := by
  rw [Fin.sum_univ_four, h 2 (by omega), h 1 (by omega), h 0 (by omega), h0, zero_add]
  rfl

/-- A scratch `s` that every fourth point starts afresh and the others add to, written out as `o` by the last of the four:
    what is written is the sum of the four points' additions `g`. -/
theorem carried (N : ℕ) (o s g : (n : ℕ) → n < N → EReal) (hA : ∀ n h, n % 4 = 0 → s n h = 0 + g n h)
    (hB : ∀ n h, ¬(n + 1) % 4 = 0 → ¬(n + 1) % 4 = 3 → s (n + 1) h = s n (Nat.lt_of_succ_lt h) + g (n + 1) h)
    (hC : ∀ n h, ¬(n + 1) % 4 = 0 → (n + 1) % 4 = 3 → o (n + 1) h = s n (Nat.lt_of_succ_lt h) + g (n + 1) h) (n : ℕ) (h : 4 * n + 3 < N) :
    o (4 * n + 3) h = ∑ k : Fin 4, g (4 * n + k.val) (by have := k.isLt; omega) := by
  rw [Fin.sum_univ_four]
  refine (hC (4 * n + 2) h (by omega) (by omega)).trans ?_
  refine congrArg₂ (· + ·) ?_ rfl
  refine (hB (4 * n + 1) _ (by omega) (by omega)).trans (congrArg₂ (· + ·) ?_ rfl)
  refine (hB (4 * n) _ (by omega) (by omega)).trans (congrArg₂ (· + ·) ?_ rfl)
  exact (hA (4 * n) _ (by omega)).trans (zero_add _)

end Cert.Products

end
-- ==== Proof.Gates.lean ====
/- The logistic function as the programs spell it, and the reals that it and the products give. -/
module

public import proofs.«01_k».proof.Proof.Products
public import proofs.«01_k».proof.Proof.Lift
public import proofs.«01_k».proof.Proof.Finite
public import Idealize.ShloMosaic.Lib.Pointwise

@[expose] public section

noncomputable section

namespace Cert.Gates

open Cert.Lift Cert.Products Idealize.ShloMosaic Idealize.ShloMosaic.TcCoe

/-- The logistic function, as the kernel spells it. -/
def sg (x : EReal) : EReal := Ideal.div 1 (1 + Ideal.exp (0 - x))

/-- The logistic function of a real is real. -/
theorem sg_coe (x : ℝ) : sg x = ((1 / (1 + Real.exp (-x)) : ℝ) : EReal) := by
  have h : (1 + Real.exp (-x)) ≠ 0 := by positivity
  unfold sg
  rw [show (0 : EReal) - (x : EReal) = ((-x : ℝ) : EReal) by rw [zero_sub, EReal.coe_neg], exp_coe, ← EReal.coe_one, ← EReal.coe_add, div_coe _ _ h]

/-- A product of real matrices is real. -/
theorem input_real {T K M : ℕ} {dy : Mat T M} {w : Mat K M} (hy : Reals dy) (hw : Reals w) : Reals (Products.input dy w) := fun i => by
  unfold Products.input
  have (n : Fin M) : dy (ix2 ⟨(i 0).val, (i 0).isLt⟩ n) * w (ix2 ⟨(i 1).val, (i 1).isLt⟩ n) =
      ((EReal.toReal (dy (ix2 ⟨(i 0).val, (i 0).isLt⟩ n)) * EReal.toReal (w (ix2 ⟨(i 1).val, (i 1).isLt⟩ n)) : ℝ) : EReal) := by
    rw [EReal.coe_mul, ← hy, ← hw]
  simp only [this, coe_sum, EReal.toReal_coe]

end Cert.Gates

end
-- ==== Proof.DownVal.lean ====
/- The gradient of the SwiGLU gate: a block of the product by the transposed down weights, stored in six chunks of columns,
   each with its own gate's derivative. -/
module

public import proofs.«01_k».proof.Defs
public import proofs.«01_k».proof.Proof.Gen.DownIdeal.Value
public import proofs.«01_k».proof.Proof.Gen.DownRefIdeal.Run
public import proofs.«01_k».proof.Proof.Products
public import proofs.«01_k».proof.Proof.Gates
public import proofs.«01_k».proof.Proof.Gen.Pre_down_finite
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.DownVal

section Kernel

open Cert.DownIdeal Cert.DownIdeal.Gen Cert.Products Cert.Gates Idealize.ShloMosaic Idealize.ShloMosaic.TcCoe Idealize.SL.Sem

theorem hz : (![0, 0] : Fin 2 → ℕ) = fun _ => 0 := by decide
theorem hz3 : (![0, 0, 0] : Fin 3 → ℕ) = fun _ => 0 := by decide

/-- The gradient at the gate's pre-activation `g`, from the gradient `d` at the product and the other factor `u`. -/
def dGate (d g u : EReal) : EReal := d * u * sg g * (1 + g * (1 - sg g))
/-- The gradient at the other factor. -/
def dUp (d g : EReal) : EReal := d * g * sg g

/-- One chunk of the gate's gradient. -/
theorem gate_chunk (v0 : Vec Ideal S512x2048 .bf16) (v2 : Vec Ideal S1x256x2048 .bf16) (v5 v6 : Vec Ideal S512x256 .f32) (a : Fin 512) (l : Fin 256) :
    k0_pay3 v0 v2 v5 v6 (ix2 a l) = dGate (∑ k : Fin 2048, ((v0 (ix2 a k) : EReal) * v2 (ix3 0 l k) : EReal)) (v5 (ix2 a l)) (v6 (ix2 a l)) := by
  pointwise [k0_pay3, k0_pay2, k0_pay1]
  rfl

theorem up_chunk (v0 : Vec Ideal S512x2048 .bf16) (v2 : Vec Ideal S1x256x2048 .bf16) (v5 : Vec Ideal S512x256 .f32) (a : Fin 512) (l : Fin 256) :
    k0_pay4 v0 v2 v5 (ix2 a l) = dUp (∑ k : Fin 2048, ((v0 (ix2 a k) : EReal) * v2 (ix3 0 l k) : EReal)) (v5 (ix2 a l)) := by
  pointwise [k0_pay4, k0_pay2, k0_pay1]
  rfl

/-- The last chunk is half as wide. -/
theorem gate_half (v0 : Vec Ideal S512x2048 .bf16) (v2 : Vec Ideal S1x128x2048 .bf16) (v5 v6 : Vec Ideal S512x128 .f32) (a : Fin 512) (l : Fin 128) :
    k0_pay28 v0 v2 v5 v6 (ix2 a l) = dGate (∑ k : Fin 2048, ((v0 (ix2 a k) : EReal) * v2 (ix3 0 l k) : EReal)) (v5 (ix2 a l)) (v6 (ix2 a l)) := by
  pointwise [k0_pay28, k0_pay27, k0_pay26]
  rfl

theorem up_half (v0 : Vec Ideal S512x2048 .bf16) (v2 : Vec Ideal S1x128x2048 .bf16) (v5 : Vec Ideal S512x128 .f32) (a : Fin 512) (l : Fin 128) :
    k0_pay29 v0 v2 v5 (ix2 a l) = dUp (∑ k : Fin 2048, ((v0 (ix2 a k) : EReal) * v2 (ix3 0 l k) : EReal)) (v5 (ix2 a l)) := by
  pointwise [k0_pay29, k0_pay27, k0_pay26]
  rfl

section Chunks

variable (x0 : Vec Ideal S512x2048 .bf16) (x1 : Vec Ideal S1x1408x2048 .bf16) (x2 x3 : Vec Ideal S512x1408 .f32) (a : Fin 512) (l : Fin 1408)

/-- The product's entry in a block. -/
def dotB : EReal := ∑ k : Fin 2048, ((x0 (ix2 a k) : EReal) * x1 (ix3 0 l k) : EReal)

theorem ld_cols {W off : ℕ} (inb) (x : Vec Ideal S512x1408 .f32) (b : Fin 512) (j : Fin W) (h : l.val = off + j.val) (ha : a.val = b.val) :
    View.ld x (Rect.unit (s := S512x1408) ![0, off] ![512, W] inb) (ix2 b j) = x (ix2 a l) :=
  View.ld_unit_apply_of _ _ _ _ _ _ fun k => by
    fin_cases k
    · show a.val = 0 + b.val; omega
    · exact h

theorem ld_rows {W off : ℕ} (inb) (x : Vec Ideal S1x1408x2048 .bf16) (j : Fin W) (n : Fin 2048) (h : l.val = off + j.val) :
    View.ld x (Rect.unit (s := S1x1408x2048) ![0, off, 0] ![1, W, 2048] inb) (ix3 0 j n) = x (ix3 0 l n) :=
  View.ld_unit_apply_of _ _ _ _ _ _ fun k => by
    fin_cases k
    · rfl
    · exact h
    · show n.val = 0 + n.val; omega

/-- A payload whose entries in row `a` are known wherever the chunk meets column `l`. -/
theorem tile (W off : ℕ) (w : Vec Ideal ⟨2, ![512, W]⟩ .bf16) (v : EReal) (h : ∀ j : Fin W, l.val = off + j.val → w (ix2 a j) = v) :
    View.TileAt (Val := Elt Ideal) (S := S512x1408) (e := .bf16) (ix2 a l) ![0, off] ![512, W] w v := by
  intro x hx
  obtain ⟨b, j, rfl⟩ : ∃ (b : Fin 512) (j : Fin W), x = ix2 b j := ⟨x 0, x 1, eq_ix2 x⟩
  obtain rfl : a = b := Fin.ext ((hx 0).trans (Nat.zero_add _))
  exact h j (hx 1)

/-- A chunk of the gate's gradient, wherever it lies. -/
theorem gate_tile (off : ℕ) (i1) (i2) :
    View.TileAt (Val := Elt Ideal) (S := S512x1408) (e := .bf16) (ix2 a l) ![0, off] ![512, 256] (k0_pay3 x0 (View.ld x1 (Rect.unit (s := S1x1408x2048) ![0, off, 0] ![1, 256, 2048] i1))
      (View.ld x2 (Rect.unit (s := S512x1408) ![0, off] ![512, 256] i2)) (View.ld x3 (Rect.unit (s := S512x1408) ![0, off] ![512, 256] i2)))
      (dGate (dotB x0 x1 a l) (x2 (ix2 a l)) (x3 (ix2 a l))) :=
  tile a l 256 off _ _ fun j hl => by
    refine (gate_chunk _ _ _ _ a j).trans ?_
    rw [ld_cols a l _ x2 a j hl rfl, ld_cols a l _ x3 a j hl rfl]
    exact congrArg (dGate · _ _) (Finset.sum_congr rfl fun n _ => congrArg (_ * ·) (ld_rows l _ x1 j n hl))

/-- The last chunk of the gate's gradient. -/
theorem gate_last (i1) (i2) :
    View.TileAt (Val := Elt Ideal) (S := S512x1408) (e := .bf16) (ix2 a l) ![0, 1280] ![512, 128] (k0_pay28 x0 (View.ld x1 (Rect.unit (s := S1x1408x2048) ![0, 1280, 0] ![1, 128, 2048] i1))
      (View.ld x2 (Rect.unit (s := S512x1408) ![0, 1280] ![512, 128] i2)) (View.ld x3 (Rect.unit (s := S512x1408) ![0, 1280] ![512, 128] i2)))
      (dGate (dotB x0 x1 a l) (x2 (ix2 a l)) (x3 (ix2 a l))) :=
  tile a l 128 1280 _ _ fun j hl => by
    refine (gate_half _ _ _ _ a j).trans ?_
    rw [ld_cols a l _ x2 a j hl rfl, ld_cols a l _ x3 a j hl rfl]
    exact congrArg (dGate · _ _) (Finset.sum_congr rfl fun n _ => congrArg (_ * ·) (ld_rows l _ x1 j n hl))

/-- A chunk of the other factor's gradient, wherever it lies. -/
theorem up_tile (off : ℕ) (i1) (i2) :
    View.TileAt (Val := Elt Ideal) (S := S512x1408) (e := .bf16) (ix2 a l) ![0, off] ![512, 256] (k0_pay4 x0 (View.ld x1 (Rect.unit (s := S1x1408x2048) ![0, off, 0] ![1, 256, 2048] i1))
      (View.ld x2 (Rect.unit (s := S512x1408) ![0, off] ![512, 256] i2)))
      (dUp (dotB x0 x1 a l) (x2 (ix2 a l))) :=
  tile a l 256 off _ _ fun j hl => by
    refine (up_chunk _ _ _ a j).trans ?_
    rw [ld_cols a l _ x2 a j hl rfl]
    exact congrArg (dUp · _) (Finset.sum_congr rfl fun n _ => congrArg (_ * ·) (ld_rows l _ x1 j n hl))

/-- The last chunk of the other factor's gradient. -/
theorem up_last (i1) (i2) :
    View.TileAt (Val := Elt Ideal) (S := S512x1408) (e := .bf16) (ix2 a l) ![0, 1280] ![512, 128] (k0_pay29 x0 (View.ld x1 (Rect.unit (s := S1x1408x2048) ![0, 1280, 0] ![1, 128, 2048] i1))
      (View.ld x2 (Rect.unit (s := S512x1408) ![0, 1280] ![512, 128] i2)))
      (dUp (dotB x0 x1 a l) (x2 (ix2 a l))) :=
  tile a l 128 1280 _ _ fun j hl => by
    refine (up_half _ _ _ a j).trans ?_
    rw [ld_cols a l _ x2 a j hl rfl]
    exact congrArg (dUp · _) (Finset.sum_congr rfl fun n _ => congrArg (_ * ·) (ld_rows l _ x1 j n hl))

end Chunks

/-- The first output's block. -/
theorem o4 (c : Dev nD) (i : grid0.Coords) (a2 : Memref sig .tc .vmem S512x2048 .bf16) (h2 : a2.IsWhole) (a3 : Memref sig .tc .vmem S1x1408x2048 .bf16) (h3 : a3.IsWhole)
    (a4 : Memref sig .tc .vmem S512x1408 .f32) (h4 : a4.IsWhole) (a5 : Memref sig .tc .vmem S512x1408 .f32) (h5 : a5.IsWhole)
    (a6 : Memref sig .tc .vmem S512x1408 .bf16) (h6 : a6.IsWhole) (a7 : Memref sig .tc .vmem S512x1408 .bf16) (h7 : a7.IsWhole)
    (x0 : Vec Ideal S512x2048 .bf16) (x1 : Vec Ideal S1x1408x2048 .bf16) (x2 x3 : Vec Ideal S512x1408 .f32) (a : Fin 512) (l : Fin 1408) :
    out0_A_4 c i a2 h2 a3 h3 a4 h4 a5 h5 a6 h6 a7 h7 x0 x1 x2 x3 (ix2 a l) = dGate (dotB x0 x1 a l) (x2 (ix2 a l)) (x3 (ix2 a l)) := by
  unfold out0_A_4
  rw [View.read_writes_eq_canon _ _ _ (cover0_A_4 c i a2 h2 a3 h3 a4 h4 a5 h5 a6 h6 a7 h7 x0 x1 x2 x3)]
  refine View.canon_eq_of_allAt _ _ _ (cover0_A_4 c i a2 h2 a3 h3 a4 h4 a5 h5 a6 h6 a7 h7 x0 x1 x2 x3 _) ?_
  unfold kernelRun0_A
  dsimp only
  sl_unfold_words
  simp only [View.readAt_eq_ld, h2.read_unread, h3.read_unread, h4.read_unread, h5.read_unread, View.ld_unit_zero (S := S512x2048) hz]
  have g := gate_tile x0 x1 x2 x3 a l
  exact View.allAt_cons_unit _ _ _ _ _ (gate_last x0 x1 x2 x3 a l _ _) (View.allAt_cons_unit _ _ _ _ _ (g 1024 _ _) (View.allAt_cons_unit _ _ _ _ _ (g 768 _ _)
    (View.allAt_cons_unit _ _ _ _ _ (g 512 _ _) (View.allAt_cons_unit _ _ _ _ _ (g 256 _ _) (View.allAt_cons_unit _ _ _ _ _ (g 0 _ _) (View.allAt_nil _ _))))))

/-- The second output's block. -/
theorem o5 (c : Dev nD) (i : grid0.Coords) (a2 : Memref sig .tc .vmem S512x2048 .bf16) (h2 : a2.IsWhole) (a3 : Memref sig .tc .vmem S1x1408x2048 .bf16) (h3 : a3.IsWhole)
    (a4 : Memref sig .tc .vmem S512x1408 .f32) (h4 : a4.IsWhole) (a5 : Memref sig .tc .vmem S512x1408 .f32) (h5 : a5.IsWhole)
    (a6 : Memref sig .tc .vmem S512x1408 .bf16) (h6 : a6.IsWhole) (a7 : Memref sig .tc .vmem S512x1408 .bf16) (h7 : a7.IsWhole)
    (x0 : Vec Ideal S512x2048 .bf16) (x1 : Vec Ideal S1x1408x2048 .bf16) (x2 x3 : Vec Ideal S512x1408 .f32) (a : Fin 512) (l : Fin 1408) :
    out0_A_5 c i a2 h2 a3 h3 a4 h4 a5 h5 a6 h6 a7 h7 x0 x1 x2 x3 (ix2 a l) = dUp (dotB x0 x1 a l) (x2 (ix2 a l)) := by
  unfold out0_A_5
  rw [View.read_writes_eq_canon _ _ _ (cover0_A_5 c i a2 h2 a3 h3 a4 h4 a5 h5 a6 h6 a7 h7 x0 x1 x2 x3)]
  refine View.canon_eq_of_allAt _ _ _ (cover0_A_5 c i a2 h2 a3 h3 a4 h4 a5 h5 a6 h6 a7 h7 x0 x1 x2 x3 _) ?_
  unfold kernelRun0_A
  dsimp only
  sl_unfold_words
  simp only [View.readAt_eq_ld, h2.read_unread, h3.read_unread, h4.read_unread, h5.read_unread, View.ld_unit_zero (S := S512x2048) hz]
  have g := up_tile x0 x1 x2 a l
  exact View.allAt_cons_unit _ _ _ _ _ (up_last x0 x1 x2 a l _ _) (View.allAt_cons_unit _ _ _ _ _ (g 1024 _ _) (View.allAt_cons_unit _ _ _ _ _ (g 768 _ _)
    (View.allAt_cons_unit _ _ _ _ _ (g 512 _ _) (View.allAt_cons_unit _ _ _ _ _ (g 256 _ _) (View.allAt_cons_unit _ _ _ _ _ (g 0 _ _) (View.allAt_nil _ _))))))

theorem idx : ∀ t : Fin cfg0.N, win0_0.index t = ![t.val / 4, 0] ∧ win0_1.index t = ![t.val % 4, 0, 0] ∧
    win0_2.index t = ![t.val / 4, t.val % 4] ∧ win0_3.index t = ![t.val / 4, t.val % 4] ∧
    win0_4.index t = ![t.val / 4, t.val % 4] ∧ win0_5.index t = ![t.val / 4, t.val % 4] :=
  (by decide +kernel : ∀ t : Fin grid0.N, _)

variable (m : (ℓ : Loc nD τ sig) → Buf (Elt Ideal) ℓ) (c : Dev nD)

/-- The gate's pre-activation. -/
def G : Mat 2048 5632 := m ((c : Thread nD τ).loc main_arg0)
/-- The other factor. -/
def U : Mat 2048 5632 := m ((c : Thread nD τ).loc main_arg1)
/-- The down weights. -/
def W : Mat 5632 2048 := m ((c : Thread nD τ).loc main_arg2)
/-- The gradient at the layer's output. -/
def DY : Mat 2048 2048 := m ((c : Thread nD τ).loc main_arg3)

/-- The output gradient's block at point `t`. -/
def X0 (t : Fin cfg0.N) : Vec Ideal S512x2048 .bf16 := iblk m c 0 t
/-- The weights' block. -/
def X1 (t : Fin cfg0.N) : Vec Ideal S1x1408x2048 .bf16 := iblk m c 1 t
/-- The gate's block. -/
def X2 (t : Fin cfg0.N) : Vec Ideal S512x1408 .f32 := iblk m c 2 t
/-- The other factor's block. -/
def X3 (t : Fin cfg0.N) : Vec Ideal S512x1408 .f32 := iblk m c 3 t

theorem X0_apply (t : Fin cfg0.N) (a : Fin 512) (k : Fin 2048) :
    (X0 m c t (ix2 a k) : EReal) = DY m c (ix2 ⟨512 * (t.val / 4) + a.val, by have := t.isLt; have : cfg0.N = 16 := N_0; omega⟩ k) := by
  obtain ⟨e0, -, -, -, -, -⟩ := idx t
  unfold X0 DY
  blk_simp [iblk, V, e0]
  entry_read
  pointwise
  blk_ext [iblk, V, e0]

theorem X1_apply (t : Fin cfg0.N) (l : Fin 1408) (k : Fin 2048) :
    (X1 m c t (ix3 0 l k) : EReal) = W m c (ix2 ⟨t.val % 4 * 1408 + l.val, by omega⟩ k) := by
  obtain ⟨-, e1, -, -, -, -⟩ := idx t
  unfold X1 W
  blk_simp [iblk, V, e1]
  entry_read
  pointwise
  blk_ext [iblk, V, e1]

theorem X2_apply (t : Fin cfg0.N) (a : Fin 512) (l : Fin 1408) :
    (X2 m c t (ix2 a l) : EReal) = G m c (ix2 ⟨512 * (t.val / 4) + a.val, by have := t.isLt; have : cfg0.N = 16 := N_0; omega⟩ ⟨t.val % 4 * 1408 + l.val, by omega⟩) := by
  obtain ⟨-, -, e2, -, -, -⟩ := idx t
  unfold X2 G
  blk_simp [iblk, V, e2]
  entry_read
  pointwise
  blk_ext [iblk, V, e2]

theorem X3_apply (t : Fin cfg0.N) (a : Fin 512) (l : Fin 1408) :
    (X3 m c t (ix2 a l) : EReal) = U m c (ix2 ⟨512 * (t.val / 4) + a.val, by have := t.isLt; have : cfg0.N = 16 := N_0; omega⟩ ⟨t.val % 4 * 1408 + l.val, by omega⟩) := by
  obtain ⟨-, -, -, e3, -, -⟩ := idx t
  unfold X3 U
  blk_simp [iblk, V, e3]
  entry_read
  pointwise
  blk_ext [iblk, V, e3]

theorem dot_apply (t : Fin cfg0.N) (a : Fin 512) (l : Fin 1408) :
    dotB (X0 m c t) (X1 m c t) a l = Products.input (T := 2048) (K := 5632) (M := 2048) (DY m c) (W m c)
      (ix2 ⟨512 * (t.val / 4) + a.val, by have := t.isLt; have : cfg0.N = 16 := N_0; omega⟩ ⟨t.val % 4 * 1408 + l.val, by omega⟩) :=
  Finset.sum_congr rfl fun k _ => congrArg₂ (· * ·) (X0_apply m c t a k) (X1_apply m c t l k)

/-- The gate's gradient, entry by entry. -/
def gateArr (g u : Mat 2048 5632) (w : Mat 5632 2048) (dy : Mat 2048 2048) : Mat 2048 5632 := fun i =>
  dGate (Products.input (T := 2048) (K := 5632) (M := 2048) dy w i) (g i) (u i)

/-- The other factor's gradient, entry by entry. -/
def upArr (g : Mat 2048 5632) (w : Mat 5632 2048) (dy : Mat 2048 2048) : Mat 2048 5632 := fun i =>
  dUp (Products.input (T := 2048) (K := 5632) (M := 2048) dy w i) (g i)

theorem block4 (t : Fin cfg0.N) (a : Fin 512) (l : Fin 1408) : ((outsAt0 m c t).1 (ix2 a l) : EReal) = gateArr (G m c) (U m c) (W m c) (DY m c)
    (ix2 ⟨512 * (t.val / 4) + a.val, by have := t.isLt; have : cfg0.N = 16 := N_0; omega⟩ ⟨t.val % 4 * 1408 + l.val, by omega⟩) := by
  unfold outsAt0
  dsimp only
  rw [o4]
  refine (show dGate (dotB (X0 m c t) (X1 m c t) a l) (X2 m c t (ix2 a l)) (X3 m c t (ix2 a l)) = _ from ?_)
  rw [dot_apply, X2_apply, X3_apply]
  rfl

theorem block5 (t : Fin cfg0.N) (a : Fin 512) (l : Fin 1408) : ((outsAt0 m c t).2 (ix2 a l) : EReal) = upArr (G m c) (W m c) (DY m c)
    (ix2 ⟨512 * (t.val / 4) + a.val, by have := t.isLt; have : cfg0.N = 16 := N_0; omega⟩ ⟨t.val % 4 * 1408 + l.val, by omega⟩) := by
  unfold outsAt0
  dsimp only
  rw [o5]
  refine (show dUp (dotB (X0 m c t) (X1 m c t) a l) (X2 m c t (ix2 a l)) = _ from ?_)
  rw [dot_apply, X2_apply]
  rfl

theorem arrAt4 : (dats m 0 c).arrAt 4 cfg0.N = gateArr (G m c) (U m c) (W m c) (DY m c) := by
  refine (dats m 0 c).arrAt_eq_of_covers 4 _ (by decide +kernel) fun t hf y => ?_
  obtain ⟨-, -, -, -, e2, -⟩ := idx t
  obtain ⟨a, b, rfl⟩ : ∃ (a : Fin 512) (b : Fin 1408), y = ix2 a b := ⟨y 0, y 1, eq_ix2 y⟩
  blk_simp [e2]
  rw [after0_4]
  refine (block4 m c t a b).trans ?_
  blk_ext [e2]

theorem arrAt5 : (dats m 0 c).arrAt 5 cfg0.N = upArr (G m c) (W m c) (DY m c) := by
  refine (dats m 0 c).arrAt_eq_of_covers 5 _ (by decide +kernel) fun t hf y => ?_
  obtain ⟨-, -, -, -, -, e2⟩ := idx t
  obtain ⟨a, b, rfl⟩ : ∃ (a : Fin 512) (b : Fin 1408), y = ix2 a b := ⟨y 0, y 1, eq_ix2 y⟩
  blk_simp [e2]
  rw [after0_5]
  refine (block5 m c t a b).trans ?_
  blk_ext [e2]

/-- Under the precondition the four arguments are arrays of real numbers. -/
theorem reals (h : Cert.Pre_DownIdeal_down_finite (hPre_down_finite := Cert.Pre_down_finite.Gen.facts) m) :
    Lift.Reals (G m c) ∧ Lift.Reals (U m c) ∧ Lift.Reals (W m c) ∧ Lift.Reals (DY m c) := by
  obtain ⟨h0, h1, h2, h3⟩ := h c
  exact ⟨fun i => Lift.real_of_test _ _ (fun _ => Lift.bits_inf) h0 i, fun i => Lift.real_of_test _ _ (fun _ => Lift.bits_inf) h1 i,
    fun i => Lift.real_of_test _ _ (fun _ => Lift.bits_inf) h2 i, fun i => Lift.real_of_test _ _ (fun _ => Lift.bits_inf) h3 i⟩

end Kernel

section Scalars

open Cert.Lift Cert.Products Cert.Gates Idealize.ShloMosaic

/-- The gate's gradient as the derivative of `x σ(x)` is written by differentiating the product. -/
theorem dGate_coe (d g u : ℝ) : dGate d g u = (d : EReal) * u * sg g + g * (d * u) * (sg g * (1 - sg g)) := by
  unfold dGate
  rw [sg_coe, ← EReal.coe_one]
  simp only [← EReal.coe_mul, ← EReal.coe_add, ← EReal.coe_sub]
  exact congrArg _ (by ring)

/-- The other factor's gradient. -/
theorem dUp_eq (d g : EReal) : dUp d g = g * sg g * d := by unfold dUp; rw [mul_comm d g, mul_right_comm]

end Scalars

section Reference

open Cert.DownRefIdeal Cert.DownRefIdeal.Gen Cert.Products Cert.Gates Cert.Lift Idealize.ShloMosaic Idealize.ShloMosaic.TcCoe Idealize.SL.Sem

/-- The reference's product is the same sum. -/
theorem ref (w : FVec Ideal S5632x2048 .f32) (dy : FVec Ideal S2048x2048 .f32) :
    (Host.dotGeneral dot_S2048x2048_S5632x2048_S2048x5632_1_1_0_0_n_n none dy w : FVec Ideal S2048x5632 .f32) =
      Products.input (T := 2048) (K := 5632) (M := 2048) dy w := by
  funext y
  obtain ⟨a, b, rfl⟩ : ∃ (a : Fin 2048) (b : Fin 5632), y = ix2 a b := ⟨y 0, y 1, eq_ix2 y⟩
  unfold Products.input
  pointwise

variable {g u : FVec Ideal S2048x5632 .f32} {w : FVec Ideal S5632x2048 .f32} {dy : FVec Ideal S2048x2048 .f32}

theorem ref_gate (hg : Reals g) (hu : Reals u) (hw : Reals w) (hy : Reals dy) :
    (truncf .bf16 (addf (mulf (mulf (Host.dotGeneral dot_S2048x2048_S5632x2048_S2048x5632_1_1_0_0_n_n none dy w) u) (Host.divf (broadcastInDim S2048x5632 ![] bcast_S_S2048x5632 (constant S_ .f32 0x3F800000#32)) (addf (broadcastInDim S2048x5632 ![] bcast_S_S2048x5632 (constant S_ .f32 0x3F800000#32)) (Host.exp (Host.negf g))))) (mulf (mulf g (mulf (Host.dotGeneral dot_S2048x2048_S5632x2048_S2048x5632_1_1_0_0_n_n none dy w) u)) (mulf (Host.divf (broadcastInDim S2048x5632 ![] bcast_S_S2048x5632 (constant S_ .f32 0x3F800000#32)) (addf (broadcastInDim S2048x5632 ![] bcast_S_S2048x5632 (constant S_ .f32 0x3F800000#32)) (Host.exp (Host.negf g)))) (subf (broadcastInDim S2048x5632 ![] bcast_S_S2048x5632 (constant S_ .f32 0x3F800000#32)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf g)))))))) bitsLt_bf16_f32 : FVec Ideal S2048x5632 .bf16)
      = gateArr g u w dy := by
  rw [ref]
  funext y
  obtain ⟨a, b, rfl⟩ : ∃ (a : Fin 2048) (b : Fin 5632), y = ix2 a b := ⟨y 0, y 1, eq_ix2 y⟩
  have hd := input_real hy hw (ix2 a b)
  unfold gateArr
  rw [hd, hg (ix2 a b), hu (ix2 a b), dGate_coe, ← hd, ← hg, ← hu]
  pointwise
  simp only [sg, zero_sub]

theorem ref_up :
    (truncf .bf16 (mulf (mulf g (Host.divf (broadcastInDim S2048x5632 ![] bcast_S_S2048x5632 (constant S_ .f32 0x3F800000#32)) (addf (broadcastInDim S2048x5632 ![] bcast_S_S2048x5632 (constant S_ .f32 0x3F800000#32)) (Host.exp (Host.negf g))))) (Host.dotGeneral dot_S2048x2048_S5632x2048_S2048x5632_1_1_0_0_n_n none dy w)) bitsLt_bf16_f32 : FVec Ideal S2048x5632 .bf16)
      = upArr g w dy := by
  rw [ref]
  funext y
  obtain ⟨a, b, rfl⟩ : ∃ (a : Fin 2048) (b : Fin 5632), y = ix2 a b := ⟨y 0, y 1, eq_ix2 y⟩
  unfold upArr
  rw [dUp_eq]
  pointwise
  simp only [sg, zero_sub]

end Reference

open Idealize.ShloMosaic Idealize.ShloMosaic.TcCoe Idealize.SL.Sem

/-- The reference's frame: it has no semaphores, and its run keeps its arguments. -/
theorem ref_frame : Cert.quiescent_DownRefIdeal (hDownRefIdeal := Cert.DownRefIdeal.Gen.facts) := fun m ρ _ =>
  (θ_run _ _ _).mono (fun r h => ⟨fun c => (h c).2.2, sem_eq_zero_of_no_sems (by decide) _⟩) (Cert.DownRefIdeal.Value.run m ρ)

/-- The kernel's two gradients are the reference's. -/
theorem algebraic : Cert.algebraic_DownIdeal_DownRefIdeal_pre_down_finite (hDownIdeal := Cert.DownIdeal.Gen.facts)
    (hDownRefIdeal := Cert.DownRefIdeal.Gen.facts) (hPre_down_finite := Cert.Pre_down_finite.Gen.facts) := by
  intro m ρ m' ρ' hpre hm
  refine ⟨fun c => gateArr (G m c) (U m c) (W m c) (DY m c), fun c => upArr (G m c) (W m c) (DY m c), ?_, ?_⟩
  · exact (θ_run _ _ _).mono (fun r h c => ⟨(h c).1.trans (arrAt4 m c), (h c).2.1.trans (arrAt5 m c), (h c).2.2⟩) (Cert.DownIdeal.Value.run_blocks m ρ)
  · refine (θ_run _ _ _).mono (fun r h c => ?_) (Cert.DownRefIdeal.Value.run m' ρ')
    obtain ⟨e0, e1, e2, e3⟩ := hm c
    obtain ⟨r0, r1, r2, r3⟩ := reals m c hpre
    have h := h c
    rw [e0, e1, e2, e3] at h
    exact ⟨h.1.trans (ref_gate r0 r1 r2 r3), h.2.1.trans ref_up, by rw [e0, e1, e2, e3]; exact h.2.2⟩

end Cert.DownVal

end
-- ==== Proof.DhhVal.lean ====
/- The gradient at the feed-forward half's input: the kernel adds the four chips' products of the gate and of the up part,
   in turn, into one scratch; the reference multiplies by each transposed weight at once and adds the two. -/
module

public import proofs.«01_k».proof.Defs
public import proofs.«01_k».proof.Proof.Gen.DhhIdeal.Value
public import proofs.«01_k».proof.Proof.Gen.DhhRefIdeal.Run
public import proofs.«01_k».proof.Proof.Products
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.DhhVal

section Kernel

open Cert.DhhIdeal Cert.DhhIdeal.Gen Cert.Products Idealize.ShloMosaic Idealize.ShloMosaic.TcCoe Idealize.SL.Sem

theorem hz : (![0, 0] : Fin 2 → ℕ) = fun _ => 0 := by decide
theorem hz3 : (![0, 0, 0] : Fin 3 → ℕ) = fun _ => 0 := by decide

/-- One point's work: the gate's product added, then the up part's. -/
def both (xs : Vec Ideal S1024x1024 .f32) (x0 : Vec Ideal S1024x1408 .bf16) (x1 : Vec Ideal S1x1024x1408 .bf16)
    (x2 : Vec Ideal S1024x1408 .bf16) (x3 : Vec Ideal S1x1024x1408 .bf16) : Vec Ideal S1024x1024 .f32 :=
  k0_pay3 (k0_pay2 xs x0 x1) x2 x3

/-! What each case of the body leaves: the two products of its blocks, added to the scratch. -/

theorem sA (c : Dev nD) (i : grid0.Coords) (a4 : Memref sig .tc .vmem S1024x1408 .bf16) (h4 : a4.IsWhole)
    (a5 : Memref sig .tc .vmem S1x1024x1408 .bf16) (h5 : a5.IsWhole) (a6 : Memref sig .tc .vmem S1024x1408 .bf16) (h6 : a6.IsWhole)
    (a7 : Memref sig .tc .vmem S1x1024x1408 .bf16) (h7 : a7.IsWhole) (a9 : Memref sig .tc .vmem S1024x1024 .f32) (h9 : a9.IsWhole)
    (a10 : Memref sig .tc .vmem S1024x1024 .f32) (h10 : a10.IsWhole) (hc0 : cond0_0 i) (hc1 : ¬cond0_1 i)
    (x0 : Vec Ideal S1024x1408 .bf16) (x1 : Vec Ideal S1x1024x1408 .bf16)
    (x2 : Vec Ideal S1024x1408 .bf16) (x3 : Vec Ideal S1x1024x1408 .bf16) :
    sout0_A_0 c i a4 h4 a5 h5 a6 h6 a7 h7 a9 h9 a10 h10 hc0 hc1 x0 x1 x2 x3 = both (k0_pay1 (F := Ideal)) x0 x1 x2 x3 := by
  unfold sout0_A_0
  rw [View.read_writes_eq_canon _ _ _ (scover0_A_0 c i a4 h4 a5 h5 a6 h6 a7 h7 a9 h9 a10 h10 hc0 hc1 x0 x1 x2 x3)]
  unfold kernelRun0_A
  dsimp only
  sl_unfold_words
  rw [View.canon_cons_unit_zero (S := S1024x1024) hz]
  simp only [View.readCov_cons_unit_lit' (S := S1024x1024) _ _ _ _ _ (congrFun hz) (congrFun hz), View.readAt_eq_ld, h4.read_unread, h5.read_unread, h6.read_unread, h7.read_unread, View.ld_unit_zero (S := S1024x1408) hz, View.ld_unit_zero (S := S1x1024x1408) hz3]
  rfl

theorem sB (c : Dev nD) (i : grid0.Coords) (a4 : Memref sig .tc .vmem S1024x1408 .bf16) (h4 : a4.IsWhole)
    (a5 : Memref sig .tc .vmem S1x1024x1408 .bf16) (h5 : a5.IsWhole) (a6 : Memref sig .tc .vmem S1024x1408 .bf16) (h6 : a6.IsWhole)
    (a7 : Memref sig .tc .vmem S1x1024x1408 .bf16) (h7 : a7.IsWhole) (a9 : Memref sig .tc .vmem S1024x1024 .f32) (h9 : a9.IsWhole)
    (a10 : Memref sig .tc .vmem S1024x1024 .f32) (h10 : a10.IsWhole) (hc0 : ¬cond0_0 i) (hc1 : ¬cond0_1 i)
    (x0 : Vec Ideal S1024x1408 .bf16) (x1 : Vec Ideal S1x1024x1408 .bf16)
    (x2 : Vec Ideal S1024x1408 .bf16) (x3 : Vec Ideal S1x1024x1408 .bf16) (xs : Vec Ideal S1024x1024 .f32) :
    sout0_B_0 c i a4 h4 a5 h5 a6 h6 a7 h7 a9 h9 a10 h10 hc0 hc1 x0 x1 x2 x3 xs = both xs x0 x1 x2 x3 := by
  unfold sout0_B_0
  rw [View.read_writes_eq_canon _ _ _ (scover0_B_0 c i a4 h4 a5 h5 a6 h6 a7 h7 a9 h9 a10 h10 hc0 hc1 x0 x1 x2 x3 xs)]
  unfold kernelRun0_B
  dsimp only
  sl_unfold_words
  rw [View.canon_cons_unit_zero (S := S1024x1024) hz]
  simp only [View.readCov_cons_unit_lit' (S := S1024x1024) _ _ _ _ _ (congrFun hz) (congrFun hz), View.readAt_eq_ld, h4.read_unread, h5.read_unread, h6.read_unread, h7.read_unread, h10.read_unread, View.ld_unit_zero (S := S1024x1408) hz, View.ld_unit_zero (S := S1x1024x1408) hz3,
    View.ld_unit_zero (S := S1024x1024) hz]
  rfl

theorem oC (c : Dev nD) (i : grid0.Coords) (a4 : Memref sig .tc .vmem S1024x1408 .bf16) (h4 : a4.IsWhole)
    (a5 : Memref sig .tc .vmem S1x1024x1408 .bf16) (h5 : a5.IsWhole) (a6 : Memref sig .tc .vmem S1024x1408 .bf16) (h6 : a6.IsWhole)
    (a7 : Memref sig .tc .vmem S1x1024x1408 .bf16) (h7 : a7.IsWhole) (a9 : Memref sig .tc .vmem S1024x1024 .f32) (h9 : a9.IsWhole)
    (a10 : Memref sig .tc .vmem S1024x1024 .f32) (h10 : a10.IsWhole) (hc0 : ¬cond0_0 i) (hc1 : cond0_1 i)
    (x0 : Vec Ideal S1024x1408 .bf16) (x1 : Vec Ideal S1x1024x1408 .bf16)
    (x2 : Vec Ideal S1024x1408 .bf16) (x3 : Vec Ideal S1x1024x1408 .bf16) (xs : Vec Ideal S1024x1024 .f32) :
    out0_C_4 c i a4 h4 a5 h5 a6 h6 a7 h7 a9 h9 a10 h10 hc0 hc1 x0 x1 x2 x3 xs = both xs x0 x1 x2 x3 := by
  unfold out0_C_4
  rw [View.read_writes_eq_canon _ _ _ (cover0_C_4 c i a4 h4 a5 h5 a6 h6 a7 h7 a9 h9 a10 h10 hc0 hc1 x0 x1 x2 x3 xs)]
  unfold kernelRun0_C
  dsimp only
  sl_unfold_words
  rw [View.canon_cons_unit_zero (S := S1024x1024) hz]
  simp only [View.readCov_cons_unit_lit' (S := S1024x1024) _ _ _ _ _ (congrFun hz) (congrFun hz), View.readAt_eq_ld, h4.read_unread, h5.read_unread, h6.read_unread, h7.read_unread, h10.read_unread, View.ld_unit_zero (S := S1024x1408) hz, View.ld_unit_zero (S := S1x1024x1408) hz3,
    View.ld_unit_zero (S := S1024x1024) hz]
  rfl

/-- One step: the two blocks' products, added. -/
theorem step (x0 : Vec Ideal S1024x1408 .bf16) (x1 : Vec Ideal S1x1024x1408 .bf16) (x2 : Vec Ideal S1024x1408 .bf16)
    (x3 : Vec Ideal S1x1024x1408 .bf16) (xs : Vec Ideal S1024x1024 .f32) (a b : Fin 1024) :
    both xs x0 x1 x2 x3 (ix2 a b) = (xs (ix2 a b) : EReal) + ((∑ n : Fin 1408, ((x0 (ix2 a n) : EReal) * x1 (ix3 0 b n) : EReal)) +
      ∑ n : Fin 1408, ((x2 (ix2 a n) : EReal) * x3 (ix3 0 b n) : EReal)) := by
  rw [← add_assoc]
  unfold both k0_pay3 k0_pay2
  pointwise

theorem start (a b : Fin 1024) : (k0_pay1 (F := Ideal) (ix2 a b) : EReal) = 0 := by
  unfold k0_pay1
  pointwise

theorem idx : ∀ t : Fin cfg0.N, win0_0.index t = ![t.val / 8, t.val % 4] ∧ win0_1.index t = ![t.val % 4, t.val % 8 / 4, 0] ∧
    win0_2.index t = ![t.val / 8, t.val % 4] ∧ win0_3.index t = ![t.val % 4, t.val % 8 / 4, 0] ∧
    win0_4.index t = ![t.val / 8, t.val % 8 / 4] :=
  (by decide +kernel : ∀ t : Fin grid0.N, _)

variable (m : (ℓ : Loc nD τ sig) → Buf (Elt Ideal) ℓ) (c : Dev nD)

/-- The gate's gradient's block at point `t`. -/
def X0 (t : Fin cfg0.N) : Vec Ideal S1024x1408 .bf16 := iblk m c 0 t
/-- The gate's weights' block at point `t`. -/
def X1 (t : Fin cfg0.N) : Vec Ideal S1x1024x1408 .bf16 := iblk m c 1 t
/-- The up part's gradient's block at point `t`. -/
def X2 (t : Fin cfg0.N) : Vec Ideal S1024x1408 .bf16 := iblk m c 2 t
/-- The up part's weights' block at point `t`. -/
def X3 (t : Fin cfg0.N) : Vec Ideal S1x1024x1408 .bf16 := iblk m c 3 t
/-- The scratch after point `n`. -/
def scr (n : ℕ) (h : n < cfg0.N) : Vec Ideal S1024x1024 .f32 := (outsAt0 m c n h).2

theorem scrA (t : Fin cfg0.N) (h0 : t.val % 4 = 0) (h1 : ¬t.val % 4 = 3) : scr m c t.val t.isLt = both (k0_pay1 (F := Ideal)) (X0 m c t) (X1 m c t) (X2 m c t) (X3 m c t) :=
  by unfold scr X0 X1 X2 X3; rw [outsAt0_A m c t h0 h1, sA]

theorem scrB (t : Fin cfg0.N) (h0 : ¬t.val % 4 = 0) (h1 : ¬t.val % 4 = 3) :
    scr m c t.val t.isLt = both (scr m c (t.val - 1) (Nat.lt_of_le_of_lt (Nat.sub_le _ _) t.isLt)) (X0 m c t) (X1 m c t) (X2 m c t) (X3 m c t) :=
  by unfold scr X0 X1 X2 X3; rw [outsAt0_B m c t h0 h1, sB]

theorem outC (t : Fin cfg0.N) (h0 : ¬t.val % 4 = 0) (h1 : t.val % 4 = 3) :
    (outsAt0 m c t.val t.isLt).1 = both (scr m c (t.val - 1) (Nat.lt_of_le_of_lt (Nat.sub_le _ _) t.isLt)) (X0 m c t) (X1 m c t) (X2 m c t) (X3 m c t) :=
  by unfold scr X0 X1 X2 X3; rw [outsAt0_C m c t h0 h1, oC]

/-- The two products that point `n` adds. -/
def add (n : ℕ) (a b : Fin 1024) : EReal :=
  if h : n < cfg0.N then (∑ k : Fin 1408, ((X0 m c ⟨n, h⟩ (ix2 a k) : EReal) * X1 m c ⟨n, h⟩ (ix3 0 b k) : EReal)) +
    ∑ k : Fin 1408, ((X2 m c ⟨n, h⟩ (ix2 a k) : EReal) * X3 m c ⟨n, h⟩ (ix3 0 b k) : EReal) else 0

/-- What point `n` leaves: the output's block where it writes one back, else the scratch. -/
def left (n : ℕ) (a b : Fin 1024) : EReal :=
  if h : n < cfg0.N then (if n % 4 = 3 then (outsAt0 m c n h).1 (ix2 a b) else scr m c n h (ix2 a b)) else 0

theorem left_zero (n : ℕ) (h : n < cfg0.N) (h0 : n % 4 = 0) (a b : Fin 1024) : left m c n a b = 0 + add m c n a b := by
  have e := congrFun (scrA m c ⟨n, h⟩ h0 (by dsimp only; omega)) (ix2 a b)
  unfold left add
  rw [dif_pos h, dif_pos h, if_neg (by omega)]
  refine (e.trans (step _ _ _ _ _ a b)).trans ?_
  rw [start]

theorem left_succ (n : ℕ) (h : n + 1 < cfg0.N) (h0 : ¬(n + 1) % 4 = 0) (a b : Fin 1024) :
    left m c (n + 1) a b = left m c n a b + add m c (n + 1) a b := by
  unfold left add
  rw [dif_pos h, dif_pos h, dif_pos (Nat.lt_of_succ_lt h), if_neg (show ¬n % 4 = 3 by omega)]
  by_cases h3 : (n + 1) % 4 = 3
  · rw [if_pos h3]
    exact (congrFun (outC m c ⟨n + 1, h⟩ h0 h3) (ix2 a b)).trans (step _ _ _ _ _ a b)
  · rw [if_neg h3]
    exact (congrFun (scrB m c ⟨n + 1, h⟩ h0 h3) (ix2 a b)).trans (step _ _ _ _ _ a b)

/-- At a point that writes back, the output block is the sum of the four points' products. -/
theorem last (n : ℕ) (hn : 4 * n + 3 < cfg0.N) (a b : Fin 1024) :
    ((outsAt0 m c (4 * n + 3) hn).1 (ix2 a b) : EReal) = ∑ s : Fin 4, add m c (4 * n + s.val) a b := by
  have e := Products.four_steps (fun k => add m c (4 * n + k) a b) (fun k => left m c (4 * n + k) a b)
    (left_zero m c (4 * n) (lt_of_le_of_lt (by omega) hn) (by omega) a b)
    (fun k hk => left_succ m c (4 * n + k) (lt_of_le_of_lt (by omega) hn) (by omega) a b)
  refine Eq.trans ?_ e
  unfold left
  rw [dif_pos hn, if_pos (by omega)]

theorem X0_apply (t : Fin cfg0.N) (a : Fin 1024) (k : Fin 1408) :
    (X0 m c t (ix2 a k) : EReal) = (m ((c : Thread nD τ).loc main_arg3) : Mat 2048 5632) (ix2 ⟨1024 * (t.val / 8) + a.val, by
      have := t.isLt; have : cfg0.N = 16 := N_0; omega⟩ ⟨t.val % 4 * 1408 + k.val, by omega⟩) := by
  obtain ⟨e0, -, -, -, -⟩ := idx t
  unfold X0
  blk_simp [iblk, V, e0]
  entry_read
  pointwise
  blk_ext [iblk, V, e0]

theorem X1_apply (t : Fin cfg0.N) (b : Fin 1024) (k : Fin 1408) :
    (X1 m c t (ix3 0 b k) : EReal) = (m ((c : Thread nD τ).loc main_arg1) : Mat 2048 5632) (ix2 ⟨1024 * (t.val % 8 / 4) + b.val, by omega⟩
      ⟨t.val % 4 * 1408 + k.val, by omega⟩) := by
  obtain ⟨-, e1, -, -, -⟩ := idx t
  unfold X1
  blk_simp [iblk, V, e1]
  entry_read
  pointwise
  blk_ext [iblk, V, e1]

theorem X2_apply (t : Fin cfg0.N) (a : Fin 1024) (k : Fin 1408) :
    (X2 m c t (ix2 a k) : EReal) = (m ((c : Thread nD τ).loc main_arg4) : Mat 2048 5632) (ix2 ⟨1024 * (t.val / 8) + a.val, by
      have := t.isLt; have : cfg0.N = 16 := N_0; omega⟩ ⟨t.val % 4 * 1408 + k.val, by omega⟩) := by
  obtain ⟨-, -, e2, -, -⟩ := idx t
  unfold X2
  blk_simp [iblk, V, e2]
  entry_read
  pointwise
  blk_ext [iblk, V, e2]

theorem X3_apply (t : Fin cfg0.N) (b : Fin 1024) (k : Fin 1408) :
    (X3 m c t (ix3 0 b k) : EReal) = (m ((c : Thread nD τ).loc main_arg2) : Mat 2048 5632) (ix2 ⟨1024 * (t.val % 8 / 4) + b.val, by omega⟩
      ⟨t.val % 4 * 1408 + k.val, by omega⟩) := by
  obtain ⟨-, -, -, e3, -⟩ := idx t
  unfold X3
  blk_simp [iblk, V, e3]
  entry_read
  pointwise
  blk_ext [iblk, V, e3]

/-- The gradient of the two products' sum: the gate's by its transposed weights plus the up part's by its own. -/
def grad (wg wu dg du : Mat 2048 5632) : Mat 2048 2048 := fun y =>
  Products.input (T := 2048) (K := 2048) (M := 5632) dg wg y + Products.input (T := 2048) (K := 2048) (M := 5632) du wu y

/-- The kernel's array, block by block, is that gradient. -/
theorem arrAt4 : (dats m 0 c).arrAt 4 cfg0.N = grad (m ((c : Thread nD τ).loc main_arg1)) (m ((c : Thread nD τ).loc main_arg2))
    (m ((c : Thread nD τ).loc main_arg3)) (m ((c : Thread nD τ).loc main_arg4)) := by
  refine (dats m 0 c).arrAt_eq_of_covers 4 _ (by decide +kernel) fun t hf y => ?_
  obtain ⟨-, -, -, -, e2⟩ := idx t
  obtain ⟨a, b, rfl⟩ : ∃ (a : Fin 1024) (b : Fin 1024), y = ix2 a b := ⟨y 0, y 1, eq_ix2 y⟩
  have h3 : t.val % 4 = 3 := (flush0_4 t).mp hf
  obtain ⟨n, hn⟩ : ∃ n, t.val = 4 * n + 3 := ⟨t.val / 4, by omega⟩
  obtain ⟨t, ht⟩ := t
  obtain rfl : t = 4 * n + 3 := hn
  blk_simp [e2]
  rw [after0_4]
  refine (last m c n ht a b).trans ?_
  unfold grad Products.input
  rw [Products.sum_four (n := 1408) rfl, Products.sum_four (n := 1408) rfl, ← Finset.sum_add_distrib]
  refine Finset.sum_congr rfl fun s _ => ?_
  have hs := s.isLt
  unfold add
  rw [dif_pos (lt_of_le_of_lt (by omega) ht)]
  refine congrArg₂ (· + ·) (Finset.sum_congr rfl fun k _ => ?_) (Finset.sum_congr rfl fun k _ => ?_)
  · rw [X0_apply, X1_apply]
    blk_simp [e2]
    exact congrArg₂ (· * ·) (Products.entry _ (by dsimp only; omega) (by dsimp only; omega)) (Products.entry _ (by dsimp only; omega) (by dsimp only; omega))
  · rw [X2_apply, X3_apply]
    blk_simp [e2]
    exact congrArg₂ (· * ·) (Products.entry _ (by dsimp only; omega) (by dsimp only; omega)) (Products.entry _ (by dsimp only; omega) (by dsimp only; omega))

end Kernel

section Reference

open Cert.DhhRefIdeal Cert.DhhRefIdeal.Gen Cert.Products Idealize.ShloMosaic Idealize.ShloMosaic.TcCoe Idealize.SL.Sem

/-- The reference's two products, added, are the same sums. -/
theorem ref (X1 X2 X3 X4 : FVec Ideal S2048x5632 .f32) :
    (addf (Host.dotGeneral dot_S2048x5632_S2048x5632_S2048x2048_1_1_0_0_n_n none X4 X2)
      (Host.dotGeneral dot_S2048x5632_S2048x5632_S2048x2048_1_1_0_0_n_n none X3 X1) : FVec Ideal S2048x2048 .f32) = grad X1 X2 X3 X4 := by
  funext y
  obtain ⟨a, b, rfl⟩ : ∃ (a : Fin 2048) (b : Fin 2048), y = ix2 a b := ⟨y 0, y 1, eq_ix2 y⟩
  unfold grad Products.input
  rw [add_comm]
  pointwise

end Reference

open Idealize.ShloMosaic Idealize.ShloMosaic.TcCoe Idealize.SL.Sem

/-- The reference's frame: it has no semaphores, and its run keeps its arguments. -/
theorem ref_frame : Cert.quiescent_DhhRefIdeal (hDhhRefIdeal := Cert.DhhRefIdeal.Gen.facts) := fun m ρ _ =>
  (θ_run _ _ _).mono (fun r h => ⟨fun c => (h c).2, sem_eq_zero_of_no_sems (by decide) _⟩) (Cert.DhhRefIdeal.Value.run m ρ)

/-- The kernel's array is the reference's. -/
theorem algebraic : Cert.algebraic_DhhIdeal_DhhRefIdeal (hDhhIdeal := Cert.DhhIdeal.Gen.facts) (hDhhRefIdeal := Cert.DhhRefIdeal.Gen.facts) := by
  intro m ρ m' ρ' _ hm
  refine ⟨fun c => grad (m ((c.tc : Thread Cert.DhhIdeal.nD Cert.DhhIdeal.τ).loc Cert.DhhIdeal.main_arg1))
    (m ((c.tc : Thread Cert.DhhIdeal.nD Cert.DhhIdeal.τ).loc Cert.DhhIdeal.main_arg2)) (m ((c.tc : Thread Cert.DhhIdeal.nD Cert.DhhIdeal.τ).loc Cert.DhhIdeal.main_arg3))
    (m ((c.tc : Thread Cert.DhhIdeal.nD Cert.DhhIdeal.τ).loc Cert.DhhIdeal.main_arg4)), ?_, ?_⟩
  · exact (θ_run _ _ _).mono (fun r h c => ⟨(h c).1.trans (arrAt4 m c), (h c).2⟩) (Cert.DhhIdeal.Value.run_blocks m ρ)
  · refine (θ_run _ _ _).mono (fun r h c => ⟨?_, (h c).2⟩) (Cert.DhhRefIdeal.Value.run m' ρ')
    obtain ⟨e0, e1, e2, e3, e4, e5⟩ := hm c
    refine (h c).1.trans ((ref _ _ _ _).trans ?_)
    rw [e1, e2, e3, e4]

end Cert.DhhVal

end
-- ==== Proof.DwFfn.lean ====
/- The gradient of a product at its second factor, for the two weights from the model's width to the feed-forward's:
   the kernel's blocks against the reference's transposed product, both the sums of `Products.columns`. -/
module

public import proofs.«01_k».proof.Defs
public import proofs.«01_k».proof.Proof.Gen.DwFfnIdeal.Value
public import proofs.«01_k».proof.Proof.Gen.DwFfnRefIdeal.Run
public import proofs.«01_k».proof.Proof.Products
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

namespace Cert.DwFfnVal

section Kernel

open Cert.DwFfnIdeal Cert.DwFfnIdeal.Gen Cert.Products Idealize.ShloMosaic Idealize.ShloMosaic.TcCoe Idealize.SL.Sem

theorem idx : ∀ t : Fin cfg0.N, win0_0.index t = ![0, t.val / 4] ∧ win0_1.index t = ![0, t.val % 4] ∧ win0_2.index t = ![t.val % 4, t.val / 4, 0] :=
  (by decide +kernel : ∀ t : Fin grid0.N, _)

/-- One block: the product of the loaded columns over the tokens. -/
theorem block (x0 : Vec Ideal S2048x512 .bf16) (x1 : Vec Ideal S2048x1408 .bf16) (a : Fin 512) (b : Fin 1408) :
    out0_2 x0 x1 (ix3 0 a b) = ∑ r : Fin 2048, ((x0 (ix2 r a) : EReal) * x1 (ix2 r b) : EReal) := by
  unfold out0_2
  refine (congrFun (View.canon_unit_zero (S := S1x512x1408) (off := ![0, 0, 0]) (show (![0, 0, 0] : Fin 3 → ℕ) = fun _ => 0 by decide) _ _) _).trans ?_
  unfold k0_pay1
  pointwise

variable (m : (ℓ : Loc nD τ sig) → Buf (Elt Ideal) ℓ) (c : Dev nD)

/-- The kernel's array, block by block, is the array of sums. -/
theorem arrAt2 : (dats m 0 c).arrAt 2 cfg0.N = (Products.columns 1408 (T := 2048) (K := 2048) (M := 5632) rfl (m ((c : Thread nD τ).loc main_arg0)) (m ((c : Thread nD τ).loc main_arg2)) : Shards 2048 1408) := by
  refine (dats m 0 c).arrAt_eq_of_covers 2 _ (by decide +kernel) fun t hf y => ?_
  obtain ⟨e0, e1, e2⟩ := idx t
  obtain ⟨s, a, b, rfl⟩ : ∃ (s : Fin 1) (a : Fin 512) (b : Fin 1408), y = ix3 s a b := ⟨y 0, y 1, y 2, eq_ix3 y⟩
  obtain rfl : s = 0 := Subsingleton.elim _ _
  blk_simp [e2]
  rw [after0_2]
  refine (block _ _ a b).trans ?_
  unfold Products.columns
  blk_simp [e2]
  refine Finset.sum_congr rfl fun r _ => congrArg₂ (· * ·) ?_ ?_
  · blk_simp [iblk, V, e0]
    entry_read
    pointwise
    blk_ext [iblk, V, e0]
  · blk_simp [iblk, V, e1]
    entry_read
    pointwise
    blk_ext [iblk, V, e1]

end Kernel

section Reference

open Cert.DwFfnRefIdeal Cert.DwFfnRefIdeal.Gen Cert.Products Idealize.ShloMosaic Idealize.ShloMosaic.TcCoe Idealize.SL.Sem

/-- The reference's transposed product, cut into the chips' blocks, is the same array of sums. -/
theorem ref (X0 : FVec Ideal S2048x2048 .f32) (X2 : FVec Ideal S2048x5632 .f32) :
    (truncf .bf16 (transpose S4x2048x1408 [1, 0, 2] (shapeCast _ (transpose S2048x5632 [1, 0]
      (Host.dotGeneral dot_S2048x5632_S2048x2048_S5632x2048_0_0_1_1_n_n none X2 X0)
      transposes_S5632x2048_S2048x5632_1_0) shapeCasts_S2048x5632_S2048x4x1408) transposes_S2048x4x1408_S4x2048x1408_1_0_2) bitsLt_bf16_f32
      : FVec Ideal S4x2048x1408 .bf16) = Products.columns 1408 (T := 2048) (K := 2048) (M := 5632) rfl X0 X2 := by
  funext y
  obtain ⟨s, a, b, rfl⟩ : ∃ (s : Fin 4) (a : Fin 2048) (b : Fin 1408), y = ix3 s a b := ⟨y 0, y 1, y 2, eq_ix3 y⟩
  unfold Products.columns
  pointwise
  exact Finset.sum_congr rfl fun r _ => mul_comm _ _

end Reference

open Idealize.ShloMosaic Idealize.ShloMosaic.TcCoe Idealize.SL.Sem

/-- The reference's frame: it has no semaphores, and its run keeps its arguments. -/
theorem ref_frame : Cert.quiescent_DwFfnRefIdeal (hDwFfnRefIdeal := Cert.DwFfnRefIdeal.Gen.facts) := fun m ρ _ =>
  (θ_run _ _ _).mono (fun r h => ⟨fun c => (h c).2, sem_eq_zero_of_no_sems (by decide) _⟩) (Cert.DwFfnRefIdeal.Value.run m ρ)

/-- The kernel's array is the reference's. -/
theorem algebraic : Cert.algebraic_DwFfnIdeal_DwFfnRefIdeal (hDwFfnIdeal := Cert.DwFfnIdeal.Gen.facts) (hDwFfnRefIdeal := Cert.DwFfnRefIdeal.Gen.facts) := by
  intro m ρ m' ρ' _ hm
  refine ⟨fun c => (Products.columns 1408 (T := 2048) (K := 2048) (M := 5632) rfl (m ((c.tc : Thread Cert.DwFfnIdeal.nD Cert.DwFfnIdeal.τ).loc Cert.DwFfnIdeal.main_arg0))
    (m ((c.tc : Thread Cert.DwFfnIdeal.nD Cert.DwFfnIdeal.τ).loc Cert.DwFfnIdeal.main_arg2)) : Products.Shards 2048 1408), ?_, ?_⟩
  · exact (θ_run _ _ _).mono (fun r h c => ⟨(h c).1.trans (arrAt2 m c), (h c).2⟩) (Cert.DwFfnIdeal.Value.run_blocks m ρ)
  · refine (θ_run _ _ _).mono (fun r h c => ⟨?_, (h c).2⟩) (Cert.DwFfnRefIdeal.Value.run m' ρ')
    obtain ⟨e0, e1, e2⟩ := hm c
    exact (h c).1.trans ((ref _ _).trans (congrArg₂ (Products.columns 1408 (T := 2048) (K := 2048) (M := 5632) rfl) e0 e2))

end Cert.DwFfnVal

end
-- ==== Proof.DwDown.lean ====
/- The gradient of a product at its second factor, for the feed-forward's last weights:
   the kernel's blocks against the reference's transposed product, both the sums of `Products.rows`. -/
module

public import proofs.«01_k».proof.Defs
public import proofs.«01_k».proof.Proof.Gen.DwDownIdeal.Value
public import proofs.«01_k».proof.Proof.Gen.DwDownRefIdeal.Run
public import proofs.«01_k».proof.Proof.Products
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

namespace Cert.DwDownVal

section Kernel

open Cert.DwDownIdeal Cert.DwDownIdeal.Gen Cert.Products Idealize.ShloMosaic Idealize.ShloMosaic.TcCoe Idealize.SL.Sem

theorem idx : ∀ t : Fin cfg0.N, win0_0.index t = ![0, t.val / 2] ∧ win0_1.index t = ![0, t.val % 2] ∧ win0_2.index t = ![t.val / 2, 0, t.val % 2] :=
  (by decide +kernel : ∀ t : Fin grid0.N, _)

/-- One block: the product of the loaded columns over the tokens. -/
theorem block (x0 : Vec Ideal S2048x1408 .bf16) (x1 : Vec Ideal S2048x1024 .bf16) (a : Fin 1408) (b : Fin 1024) :
    out0_2 x0 x1 (ix3 0 a b) = ∑ r : Fin 2048, ((x0 (ix2 r a) : EReal) * x1 (ix2 r b) : EReal) := by
  unfold out0_2
  refine (congrFun (View.canon_unit_zero (S := S1x1408x1024) (off := ![0, 0, 0]) (show (![0, 0, 0] : Fin 3 → ℕ) = fun _ => 0 by decide) _ _) _).trans ?_
  unfold k0_pay1
  pointwise

variable (m : (ℓ : Loc nD τ sig) → Buf (Elt Ideal) ℓ) (c : Dev nD)

/-- The kernel's array, block by block, is the array of sums. -/
theorem arrAt2 : (dats m 0 c).arrAt 2 cfg0.N = (Products.rows 1408 (T := 2048) (N := 2048) (M := 5632) rfl (m ((c : Thread nD τ).loc main_arg0)) (m ((c : Thread nD τ).loc main_arg2)) : Shards 1408 2048) := by
  refine (dats m 0 c).arrAt_eq_of_covers 2 _ (by decide +kernel) fun t hf y => ?_
  obtain ⟨e0, e1, e2⟩ := idx t
  obtain ⟨s, a, b, rfl⟩ : ∃ (s : Fin 1) (a : Fin 1408) (b : Fin 1024), y = ix3 s a b := ⟨y 0, y 1, y 2, eq_ix3 y⟩
  obtain rfl : s = 0 := Subsingleton.elim _ _
  blk_simp [e2]
  rw [after0_2]
  refine (block _ _ a b).trans ?_
  unfold Products.rows
  blk_simp [e2]
  refine Finset.sum_congr rfl fun r _ => congrArg₂ (· * ·) ?_ ?_
  · blk_simp [iblk, V, e0]
    entry_read
    pointwise
    blk_ext [iblk, V, e0]
  · blk_simp [iblk, V, e1]
    entry_read
    pointwise
    blk_ext [iblk, V, e1]

end Kernel

section Reference

open Cert.DwDownRefIdeal Cert.DwDownRefIdeal.Gen Cert.Products Idealize.ShloMosaic Idealize.ShloMosaic.TcCoe Idealize.SL.Sem

/-- The reference's transposed product, cut into the chips' blocks, is the same array of sums. -/
theorem ref (X0 : FVec Ideal S2048x5632 .f32) (X2 : FVec Ideal S2048x2048 .f32) :
    (truncf .bf16 (shapeCast _ (transpose S5632x2048 [1, 0]
      (Host.dotGeneral dot_S2048x2048_S2048x5632_S2048x5632_0_0_1_1_n_n none X2 X0)
      transposes_S2048x5632_S5632x2048_1_0) shapeCasts_S5632x2048_S4x1408x2048) bitsLt_bf16_f32
      : FVec Ideal S4x1408x2048 .bf16) = Products.rows 1408 (T := 2048) (N := 2048) (M := 5632) rfl X0 X2 := by
  funext y
  obtain ⟨s, a, b, rfl⟩ : ∃ (s : Fin 4) (a : Fin 1408) (b : Fin 2048), y = ix3 s a b := ⟨y 0, y 1, y 2, eq_ix3 y⟩
  unfold Products.rows
  pointwise
  exact Finset.sum_congr rfl fun r _ => mul_comm _ _

end Reference

open Idealize.ShloMosaic Idealize.ShloMosaic.TcCoe Idealize.SL.Sem

/-- The reference's frame: it has no semaphores, and its run keeps its arguments. -/
theorem ref_frame : Cert.quiescent_DwDownRefIdeal (hDwDownRefIdeal := Cert.DwDownRefIdeal.Gen.facts) := fun m ρ _ =>
  (θ_run _ _ _).mono (fun r h => ⟨fun c => (h c).2, sem_eq_zero_of_no_sems (by decide) _⟩) (Cert.DwDownRefIdeal.Value.run m ρ)

/-- The kernel's array is the reference's. -/
theorem algebraic : Cert.algebraic_DwDownIdeal_DwDownRefIdeal (hDwDownIdeal := Cert.DwDownIdeal.Gen.facts) (hDwDownRefIdeal := Cert.DwDownRefIdeal.Gen.facts) := by
  intro m ρ m' ρ' _ hm
  refine ⟨fun c => (Products.rows 1408 (T := 2048) (N := 2048) (M := 5632) rfl (m ((c.tc : Thread Cert.DwDownIdeal.nD Cert.DwDownIdeal.τ).loc Cert.DwDownIdeal.main_arg0))
    (m ((c.tc : Thread Cert.DwDownIdeal.nD Cert.DwDownIdeal.τ).loc Cert.DwDownIdeal.main_arg2)) : Products.Shards 1408 2048), ?_, ?_⟩
  · exact (θ_run _ _ _).mono (fun r h c => ⟨(h c).1.trans (arrAt2 m c), (h c).2⟩) (Cert.DwDownIdeal.Value.run_blocks m ρ)
  · refine (θ_run _ _ _).mono (fun r h c => ⟨?_, (h c).2⟩) (Cert.DwDownRefIdeal.Value.run m' ρ')
    obtain ⟨e0, e1, e2⟩ := hm c
    exact (h c).1.trans ((ref _ _).trans (congrArg₂ (Products.rows 1408 (T := 2048) (N := 2048) (M := 5632) rfl) e0 e2))

end Cert.DwDownVal

end
-- ==== Proof.DwIn.lean ====
/- The gradient of a product at its second factor, for the input projection's weights:
   the kernel's blocks against the reference's transposed product, both the sums of `Products.columns`. -/
module

public import proofs.«01_k».proof.Defs
public import proofs.«01_k».proof.Proof.Gen.DwInIdeal.Value
public import proofs.«01_k».proof.Proof.Gen.DwInRefIdeal.Run
public import proofs.«01_k».proof.Proof.Products
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

namespace Cert.DwInVal

section Kernel

open Cert.DwInIdeal Cert.DwInIdeal.Gen Cert.Products Idealize.ShloMosaic Idealize.ShloMosaic.TcCoe Idealize.SL.Sem

theorem idx : ∀ t : Fin cfg0.N, win0_0.index t = ![0, t.val / 12] ∧ win0_1.index t = ![0, t.val % 12] ∧ win0_2.index t = ![t.val % 12 / 3, t.val / 12, t.val % 3] :=
  (by decide +kernel : ∀ t : Fin grid0.N, _)

/-- One block: the product of the loaded columns over the tokens. -/
theorem block (x0 : Vec Ideal S2048x512 .bf16) (x1 : Vec Ideal S2048x640 .bf16) (a : Fin 512) (b : Fin 640) :
    out0_2 x0 x1 (ix3 0 a b) = ∑ r : Fin 2048, ((x0 (ix2 r a) : EReal) * x1 (ix2 r b) : EReal) := by
  unfold out0_2
  refine (congrFun (View.canon_unit_zero (S := S1x512x640) (off := ![0, 0, 0]) (show (![0, 0, 0] : Fin 3 → ℕ) = fun _ => 0 by decide) _ _) _).trans ?_
  unfold k0_pay1
  pointwise

variable (m : (ℓ : Loc nD τ sig) → Buf (Elt Ideal) ℓ) (c : Dev nD)

/-- The kernel's array, block by block, is the array of sums. -/
theorem arrAt2 : (dats m 0 c).arrAt 2 cfg0.N = (Products.columns 1920 (T := 2048) (K := 2048) (M := 7680) rfl (m ((c : Thread nD τ).loc main_arg0)) (m ((c : Thread nD τ).loc main_arg2)) : Shards 2048 1920) := by
  refine (dats m 0 c).arrAt_eq_of_covers 2 _ (by decide +kernel) fun t hf y => ?_
  obtain ⟨e0, e1, e2⟩ := idx t
  obtain ⟨s, a, b, rfl⟩ : ∃ (s : Fin 1) (a : Fin 512) (b : Fin 640), y = ix3 s a b := ⟨y 0, y 1, y 2, eq_ix3 y⟩
  obtain rfl : s = 0 := Subsingleton.elim _ _
  blk_simp [e2]
  rw [after0_2]
  refine (block _ _ a b).trans ?_
  unfold Products.columns
  blk_simp [e2]
  refine Finset.sum_congr rfl fun r _ => congrArg₂ (· * ·) ?_ ?_
  · blk_simp [iblk, V, e0]
    entry_read
    pointwise
    blk_ext [iblk, V, e0]
  · blk_simp [iblk, V, e1]
    entry_read
    pointwise
    blk_ext [iblk, V, e1]

end Kernel

section Reference

open Cert.DwInRefIdeal Cert.DwInRefIdeal.Gen Cert.Products Idealize.ShloMosaic Idealize.ShloMosaic.TcCoe Idealize.SL.Sem

/-- The reference's transposed product, cut into the chips' blocks, is the same array of sums. -/
theorem ref (X0 : FVec Ideal S2048x2048 .f32) (X2 : FVec Ideal S2048x7680 .f32) :
    (truncf .bf16 (transpose S4x2048x1920 [1, 0, 2] (shapeCast _ (transpose S2048x7680 [1, 0]
      (Host.dotGeneral dot_S2048x7680_S2048x2048_S7680x2048_0_0_1_1_n_n none X2 X0)
      transposes_S7680x2048_S2048x7680_1_0) shapeCasts_S2048x7680_S2048x4x1920) transposes_S2048x4x1920_S4x2048x1920_1_0_2) bitsLt_bf16_f32
      : FVec Ideal S4x2048x1920 .bf16) = Products.columns 1920 (T := 2048) (K := 2048) (M := 7680) rfl X0 X2 := by
  funext y
  obtain ⟨s, a, b, rfl⟩ : ∃ (s : Fin 4) (a : Fin 2048) (b : Fin 1920), y = ix3 s a b := ⟨y 0, y 1, y 2, eq_ix3 y⟩
  unfold Products.columns
  pointwise
  exact Finset.sum_congr rfl fun r _ => mul_comm _ _

end Reference

open Idealize.ShloMosaic Idealize.ShloMosaic.TcCoe Idealize.SL.Sem

/-- The reference's frame: it has no semaphores, and its run keeps its arguments. -/
theorem ref_frame : Cert.quiescent_DwInRefIdeal (hDwInRefIdeal := Cert.DwInRefIdeal.Gen.facts) := fun m ρ _ =>
  (θ_run _ _ _).mono (fun r h => ⟨fun c => (h c).2, sem_eq_zero_of_no_sems (by decide) _⟩) (Cert.DwInRefIdeal.Value.run m ρ)

/-- The kernel's array is the reference's. -/
theorem algebraic : Cert.algebraic_DwInIdeal_DwInRefIdeal (hDwInIdeal := Cert.DwInIdeal.Gen.facts) (hDwInRefIdeal := Cert.DwInRefIdeal.Gen.facts) := by
  intro m ρ m' ρ' _ hm
  refine ⟨fun c => (Products.columns 1920 (T := 2048) (K := 2048) (M := 7680) rfl (m ((c.tc : Thread Cert.DwInIdeal.nD Cert.DwInIdeal.τ).loc Cert.DwInIdeal.main_arg0))
    (m ((c.tc : Thread Cert.DwInIdeal.nD Cert.DwInIdeal.τ).loc Cert.DwInIdeal.main_arg2)) : Products.Shards 2048 1920), ?_, ?_⟩
  · exact (θ_run _ _ _).mono (fun r h c => ⟨(h c).1.trans (arrAt2 m c), (h c).2⟩) (Cert.DwInIdeal.Value.run_blocks m ρ)
  · refine (θ_run _ _ _).mono (fun r h c => ⟨?_, (h c).2⟩) (Cert.DwInRefIdeal.Value.run m' ρ')
    obtain ⟨e0, e1, e2⟩ := hm c
    exact (h c).1.trans ((ref _ _).trans (congrArg₂ (Products.columns 1920 (T := 2048) (K := 2048) (M := 7680) rfl) e0 e2))

end Cert.DwInVal

end
-- ==== Proof.DhVal.lean ====
/- The gradient at the input projection's input: the kernel adds the four chips' products into a scratch of its own, the
   reference multiplies by the transposed weights at once. -/
module

public import proofs.«01_k».proof.Defs
public import proofs.«01_k».proof.Proof.Gen.DhIdeal.Value
public import proofs.«01_k».proof.Proof.Gen.DhRefIdeal.Run
public import proofs.«01_k».proof.Proof.Products
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.DhVal

section Kernel

open Cert.DhIdeal Cert.DhIdeal.Gen Cert.Products Idealize.ShloMosaic Idealize.ShloMosaic.TcCoe Idealize.SL.Sem

theorem hz : (![0, 0] : Fin 2 → ℕ) = fun _ => 0 := by decide
theorem hz3 : (![0, 0, 0] : Fin 3 → ℕ) = fun _ => 0 := by decide

/-! What each case of the body leaves: the product of its blocks, added to the scratch. -/

theorem sA (c : Dev nD) (i : grid0.Coords) (a4 : Memref sig .tc .vmem S1024x1920 .bf16) (h4 : a4.IsWhole)
    (a5 : Memref sig .tc .vmem S1x1024x1920 .bf16) (h5 : a5.IsWhole) (a7 : Memref sig .tc .vmem S1024x1024 .f32) (h7 : a7.IsWhole)
    (a8 : Memref sig .tc .vmem S1024x1024 .f32) (h8 : a8.IsWhole) (hc0 : cond0_0 i) (hc1 : ¬cond0_1 i)
    (x0 : Vec Ideal S1024x1920 .bf16) (x1 : Vec Ideal S1x1024x1920 .bf16) :
    sout0_A_0 c i a4 h4 a5 h5 a7 h7 a8 h8 hc0 hc1 x0 x1 = k0_pay2 k0_pay1 x0 x1 := by
  unfold sout0_A_0
  rw [View.read_writes_eq_canon _ _ _ (scover0_A_0 c i a4 h4 a5 h5 a7 h7 a8 h8 hc0 hc1 x0 x1)]
  unfold kernelRun0_A
  dsimp only
  sl_unfold_words
  rw [View.canon_cons_unit_zero (S := S1024x1024) hz, View.readCov_unit_zero (S := S1024x1024) _ hz]
  simp only [View.readAt_eq_ld, h4.read_unread, h5.read_unread, View.ld_unit_zero (S := S1024x1920) hz, View.ld_unit_zero (S := S1x1024x1920) hz3]

theorem sB (c : Dev nD) (i : grid0.Coords) (a4 : Memref sig .tc .vmem S1024x1920 .bf16) (h4 : a4.IsWhole)
    (a5 : Memref sig .tc .vmem S1x1024x1920 .bf16) (h5 : a5.IsWhole) (a7 : Memref sig .tc .vmem S1024x1024 .f32) (h7 : a7.IsWhole)
    (a8 : Memref sig .tc .vmem S1024x1024 .f32) (h8 : a8.IsWhole) (hc0 : ¬cond0_0 i) (hc1 : ¬cond0_1 i)
    (x0 : Vec Ideal S1024x1920 .bf16) (x1 : Vec Ideal S1x1024x1920 .bf16) (xs : Vec Ideal S1024x1024 .f32) :
    sout0_B_0 c i a4 h4 a5 h5 a7 h7 a8 h8 hc0 hc1 x0 x1 xs = k0_pay2 xs x0 x1 := by
  unfold sout0_B_0
  rw [View.read_writes_eq_canon _ _ _ (scover0_B_0 c i a4 h4 a5 h5 a7 h7 a8 h8 hc0 hc1 x0 x1 xs)]
  unfold kernelRun0_B
  dsimp only
  sl_unfold_words
  rw [View.canon_cons_unit_zero (S := S1024x1024) hz]
  simp only [View.readAt_eq_ld, h4.read_unread, h5.read_unread, h8.read_unread, View.ld_unit_zero (S := S1024x1920) hz, View.ld_unit_zero (S := S1x1024x1920) hz3,
    View.ld_unit_zero (S := S1024x1024) hz]

theorem oC (c : Dev nD) (i : grid0.Coords) (a4 : Memref sig .tc .vmem S1024x1920 .bf16) (h4 : a4.IsWhole)
    (a5 : Memref sig .tc .vmem S1x1024x1920 .bf16) (h5 : a5.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x0 : Vec Ideal S1024x1920 .bf16) (x1 : Vec Ideal S1x1024x1920 .bf16) (xs : Vec Ideal S1024x1024 .f32) :
    out0_C_2 c i a4 h4 a5 h5 a7 h7 a8 h8 hc0 hc1 x0 x1 xs = k0_pay2 xs x0 x1 := by
  unfold out0_C_2
  rw [View.read_writes_eq_canon _ _ _ (cover0_C_2 c i a4 h4 a5 h5 a7 h7 a8 h8 hc0 hc1 x0 x1 xs)]
  unfold kernelRun0_C
  dsimp only
  sl_unfold_words
  rw [View.canon_cons_unit_zero (S := S1024x1024) hz, View.readCov_unit_zero (S := S1024x1024) _ hz]
  simp only [View.readAt_eq_ld, h4.read_unread, h5.read_unread, h8.read_unread, View.ld_unit_zero (S := S1024x1920) hz, View.ld_unit_zero (S := S1x1024x1920) hz3,
    View.ld_unit_zero (S := S1024x1024) hz]

/-- One step: the block's product, added. -/
theorem step (x0 : Vec Ideal S1024x1920 .bf16) (x1 : Vec Ideal S1x1024x1920 .bf16) (xs : Vec Ideal S1024x1024 .f32) (a b : Fin 1024) :
    k0_pay2 xs x0 x1 (ix2 a b) = (xs (ix2 a b) : EReal) + ∑ n : Fin 1920, ((x0 (ix2 a n) : EReal) * x1 (ix3 0 b n) : EReal) := by
  unfold k0_pay2
  pointwise

theorem start (a b : Fin 1024) : (k0_pay1 (F := Ideal) (ix2 a b) : EReal) = 0 := by
  unfold k0_pay1
  pointwise

theorem idx : ∀ t : Fin cfg0.N, win0_0.index t = ![t.val / 8, t.val % 4] ∧ win0_1.index t = ![t.val % 4, t.val % 8 / 4, 0] ∧
    win0_2.index t = ![t.val / 8, t.val % 8 / 4] :=
  (by decide +kernel : ∀ t : Fin grid0.N, _)

variable (m : (ℓ : Loc nD τ sig) → Buf (Elt Ideal) ℓ) (c : Dev nD)

/-- The gradient's block at point `t`. -/
def X0 (t : Fin cfg0.N) : Vec Ideal S1024x1920 .bf16 := iblk m c 0 t
/-- The weights' block at point `t`. -/
def X1 (t : Fin cfg0.N) : Vec Ideal S1x1024x1920 .bf16 := iblk m c 1 t
/-- The scratch after point `n`. -/
def scr (n : ℕ) (h : n < cfg0.N) : Vec Ideal S1024x1024 .f32 := (outsAt0 m c n h).2

theorem scrA (t : Fin cfg0.N) (h0 : t.val % 4 = 0) (h1 : ¬t.val % 4 = 3) : scr m c t.val t.isLt = k0_pay2 k0_pay1 (X0 m c t) (X1 m c t) :=
  by unfold scr X0 X1; rw [outsAt0_A m c t h0 h1, sA]

theorem scrB (t : Fin cfg0.N) (h0 : ¬t.val % 4 = 0) (h1 : ¬t.val % 4 = 3) :
    scr m c t.val t.isLt = k0_pay2 (scr m c (t.val - 1) (Nat.lt_of_le_of_lt (Nat.sub_le _ _) t.isLt)) (X0 m c t) (X1 m c t) :=
  by unfold scr X0 X1; rw [outsAt0_B m c t h0 h1, sB]

theorem outC (t : Fin cfg0.N) (h0 : ¬t.val % 4 = 0) (h1 : t.val % 4 = 3) :
    (outsAt0 m c t.val t.isLt).1 = k0_pay2 (scr m c (t.val - 1) (Nat.lt_of_le_of_lt (Nat.sub_le _ _) t.isLt)) (X0 m c t) (X1 m c t) :=
  by unfold scr X0 X1; rw [outsAt0_C m c t h0 h1, oC]

/-- The product that point `n` adds. -/
def add (n : ℕ) (a b : Fin 1024) : EReal :=
  if h : n < cfg0.N then ∑ k : Fin 1920, ((X0 m c ⟨n, h⟩ (ix2 a k) : EReal) * X1 m c ⟨n, h⟩ (ix3 0 b k) : EReal) else 0

/-- What point `n` leaves: the output's block where it writes one back, else the scratch. -/
def left (n : ℕ) (a b : Fin 1024) : EReal :=
  if h : n < cfg0.N then (if n % 4 = 3 then (outsAt0 m c n h).1 (ix2 a b) else scr m c n h (ix2 a b)) else 0

theorem left_zero (n : ℕ) (h : n < cfg0.N) (h0 : n % 4 = 0) (a b : Fin 1024) : left m c n a b = 0 + add m c n a b := by
  have e := congrFun (scrA m c ⟨n, h⟩ h0 (by dsimp only; omega)) (ix2 a b)
  unfold left add
  rw [dif_pos h, dif_pos h, if_neg (by omega)]
  refine (e.trans (step _ _ _ a b)).trans ?_
  rw [start]

theorem left_succ (n : ℕ) (h : n + 1 < cfg0.N) (h0 : ¬(n + 1) % 4 = 0) (a b : Fin 1024) :
    left m c (n + 1) a b = left m c n a b + add m c (n + 1) a b := by
  unfold left add
  rw [dif_pos h, dif_pos h, dif_pos (Nat.lt_of_succ_lt h), if_neg (show ¬n % 4 = 3 by omega)]
  by_cases h3 : (n + 1) % 4 = 3
  · rw [if_pos h3]
    exact (congrFun (outC m c ⟨n + 1, h⟩ h0 h3) (ix2 a b)).trans (step _ _ _ a b)
  · rw [if_neg h3]
    exact (congrFun (scrB m c ⟨n + 1, h⟩ h0 h3) (ix2 a b)).trans (step _ _ _ a b)

/-- At a point that writes back, the output block is the sum of the four points' products. -/
theorem last (n : ℕ) (hn : 4 * n + 3 < cfg0.N) (a b : Fin 1024) :
    ((outsAt0 m c (4 * n + 3) hn).1 (ix2 a b) : EReal) = ∑ s : Fin 4, add m c (4 * n + s.val) a b := by
  have e := Products.four_steps (fun k => add m c (4 * n + k) a b) (fun k => left m c (4 * n + k) a b)
    (left_zero m c (4 * n) (lt_of_le_of_lt (by omega) hn) (by omega) a b)
    (fun k hk => left_succ m c (4 * n + k) (lt_of_le_of_lt (by omega) hn) (by omega) a b)
  refine Eq.trans ?_ e
  unfold left
  rw [dif_pos hn, if_pos (by omega)]

theorem X0_apply (t : Fin cfg0.N) (a : Fin 1024) (k : Fin 1920) :
    (X0 m c t (ix2 a k) : EReal) = (m ((c : Thread nD τ).loc main_arg2) : Mat 2048 7680) (ix2 ⟨1024 * (t.val / 8) + a.val, by
      have := t.isLt; have : cfg0.N = 16 := N_0; omega⟩ ⟨t.val % 4 * 1920 + k.val, by omega⟩) := by
  obtain ⟨e0, -, -⟩ := idx t
  unfold X0
  blk_simp [iblk, V, e0]
  entry_read
  pointwise
  blk_ext [iblk, V, e0]

theorem X1_apply (t : Fin cfg0.N) (b : Fin 1024) (k : Fin 1920) :
    (X1 m c t (ix3 0 b k) : EReal) = (m ((c : Thread nD τ).loc main_arg1) : Mat 2048 7680) (ix2 ⟨1024 * (t.val % 8 / 4) + b.val, by omega⟩
      ⟨t.val % 4 * 1920 + k.val, by omega⟩) := by
  obtain ⟨-, e1, -⟩ := idx t
  unfold X1
  blk_simp [iblk, V, e1]
  entry_read
  pointwise
  blk_ext [iblk, V, e1]

/-- The kernel's array, block by block, is the product by the transposed weights. -/
theorem arrAt2 : (dats m 0 c).arrAt 2 cfg0.N = (Products.input (T := 2048) (K := 2048) (M := 7680) (m ((c : Thread nD τ).loc main_arg2))
    (m ((c : Thread nD τ).loc main_arg1)) : Mat 2048 2048) := by
  refine (dats m 0 c).arrAt_eq_of_covers 2 _ (by decide +kernel) fun t hf y => ?_
  obtain ⟨-, -, e2⟩ := idx t
  obtain ⟨a, b, rfl⟩ : ∃ (a : Fin 1024) (b : Fin 1024), y = ix2 a b := ⟨y 0, y 1, eq_ix2 y⟩
  have h3 : t.val % 4 = 3 := (flush0_2 t).mp hf
  obtain ⟨n, hn⟩ : ∃ n, t.val = 4 * n + 3 := ⟨t.val / 4, by omega⟩
  obtain ⟨t, ht⟩ := t
  obtain rfl : t = 4 * n + 3 := hn
  blk_simp [e2]
  rw [after0_2]
  refine (last m c n ht a b).trans ?_
  unfold Products.input
  rw [Products.sum_four (n := 1920) rfl]
  refine Finset.sum_congr rfl fun s _ => ?_
  have hs := s.isLt
  unfold add
  rw [dif_pos (lt_of_le_of_lt (by omega) ht)]
  refine Finset.sum_congr rfl fun k _ => ?_
  rw [X0_apply, X1_apply]
  blk_simp [e2]
  exact congrArg₂ (· * ·) (Products.entry _ (by dsimp only; omega) (by dsimp only; omega)) (Products.entry _ (by dsimp only; omega) (by dsimp only; omega))

end Kernel

section Reference

open Cert.DhRefIdeal Cert.DhRefIdeal.Gen Cert.Products Idealize.ShloMosaic Idealize.ShloMosaic.TcCoe Idealize.SL.Sem

/-- The reference's product is the same sum. -/
theorem ref (X1 : FVec Ideal S2048x7680 .f32) (X2 : FVec Ideal S2048x7680 .f32) :
    (Host.dotGeneral dot_S2048x7680_S2048x7680_S2048x2048_1_1_0_0_n_n none X2 X1 : FVec Ideal S2048x2048 .f32) =
      Products.input (T := 2048) (K := 2048) (M := 7680) X2 X1 := by
  funext y
  obtain ⟨a, b, rfl⟩ : ∃ (a : Fin 2048) (b : Fin 2048), y = ix2 a b := ⟨y 0, y 1, eq_ix2 y⟩
  unfold Products.input
  pointwise

end Reference

open Idealize.ShloMosaic Idealize.ShloMosaic.TcCoe Idealize.SL.Sem

/-- The reference's frame: it has no semaphores, and its run keeps its arguments. -/
theorem ref_frame : Cert.quiescent_DhRefIdeal (hDhRefIdeal := Cert.DhRefIdeal.Gen.facts) := fun m ρ _ =>
  (θ_run _ _ _).mono (fun r h => ⟨fun c => (h c).2, sem_eq_zero_of_no_sems (by decide) _⟩) (Cert.DhRefIdeal.Value.run m ρ)

/-- The kernel's array is the reference's. -/
theorem algebraic : Cert.algebraic_DhIdeal_DhRefIdeal (hDhIdeal := Cert.DhIdeal.Gen.facts) (hDhRefIdeal := Cert.DhRefIdeal.Gen.facts) := by
  intro m ρ m' ρ' _ hm
  refine ⟨fun c => (Products.input (T := 2048) (K := 2048) (M := 7680) (m ((c.tc : Thread Cert.DhIdeal.nD Cert.DhIdeal.τ).loc Cert.DhIdeal.main_arg2))
    (m ((c.tc : Thread Cert.DhIdeal.nD Cert.DhIdeal.τ).loc Cert.DhIdeal.main_arg1)) : Products.Mat 2048 2048), ?_, ?_⟩
  · exact (θ_run _ _ _).mono (fun r h c => ⟨(h c).1.trans (arrAt2 m c), (h c).2⟩) (Cert.DhIdeal.Value.run_blocks m ρ)
  · refine (θ_run _ _ _).mono (fun r h c => ⟨?_, (h c).2⟩) (Cert.DhRefIdeal.Value.run m' ρ')
    obtain ⟨e0, e1, e2, e3⟩ := hm c
    exact (h c).1.trans ((ref _ _).trans (congrArg₂ (Products.input (T := 2048) (K := 2048) (M := 7680)) e2 e1))

end Cert.DhVal

end
-- ==== Proof.DwOut.lean ====
/- The gradient of a product at its second factor, for the output projection's weights:
   the kernel's blocks against the reference's transposed product, both the sums of `Products.rows`. -/
module

public import proofs.«01_k».proof.Defs
public import proofs.«01_k».proof.Proof.Gen.DwOutIdeal.Value
public import proofs.«01_k».proof.Proof.Gen.DwOutRefIdeal.Run
public import proofs.«01_k».proof.Proof.Products
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

namespace Cert.DwOutVal

section Kernel

open Cert.DwOutIdeal Cert.DwOutIdeal.Gen Cert.Products Idealize.ShloMosaic Idealize.ShloMosaic.TcCoe Idealize.SL.Sem

theorem idx : ∀ t : Fin cfg0.N, win0_0.index t = ![0, t.val / 2] ∧ win0_1.index t = ![0, t.val % 2] ∧ win0_2.index t = ![t.val / 2, 0, t.val % 2] :=
  (by decide +kernel : ∀ t : Fin grid0.N, _)

/-- One block: the product of the loaded columns over the tokens. -/
theorem block (x0 : Vec Ideal S2048x512 .bf16) (x1 : Vec Ideal S2048x1024 .bf16) (a : Fin 512) (b : Fin 1024) :
    out0_2 x0 x1 (ix3 0 a b) = ∑ r : Fin 2048, ((x0 (ix2 r a) : EReal) * x1 (ix2 r b) : EReal) := by
  unfold out0_2
  refine (congrFun (View.canon_unit_zero (S := S1x512x1024) (off := ![0, 0, 0]) (show (![0, 0, 0] : Fin 3 → ℕ) = fun _ => 0 by decide) _ _) _).trans ?_
  unfold k0_pay1
  pointwise

variable (m : (ℓ : Loc nD τ sig) → Buf (Elt Ideal) ℓ) (c : Dev nD)

/-- The kernel's array, block by block, is the array of sums. -/
theorem arrAt2 : (dats m 0 c).arrAt 2 cfg0.N = (Products.rows 512 (T := 2048) (N := 2048) (M := 2048) rfl (m ((c : Thread nD τ).loc main_arg0)) (m ((c : Thread nD τ).loc main_arg2)) : Shards 512 2048) := by
  refine (dats m 0 c).arrAt_eq_of_covers 2 _ (by decide +kernel) fun t hf y => ?_
  obtain ⟨e0, e1, e2⟩ := idx t
  obtain ⟨s, a, b, rfl⟩ : ∃ (s : Fin 1) (a : Fin 512) (b : Fin 1024), y = ix3 s a b := ⟨y 0, y 1, y 2, eq_ix3 y⟩
  obtain rfl : s = 0 := Subsingleton.elim _ _
  blk_simp [e2]
  rw [after0_2]
  refine (block _ _ a b).trans ?_
  unfold Products.rows
  blk_simp [e2]
  refine Finset.sum_congr rfl fun r _ => congrArg₂ (· * ·) ?_ ?_
  · blk_simp [iblk, V, e0]
    entry_read
    pointwise
    blk_ext [iblk, V, e0]
  · blk_simp [iblk, V, e1]
    entry_read
    pointwise
    blk_ext [iblk, V, e1]

end Kernel

section Reference

open Cert.DwOutRefIdeal Cert.DwOutRefIdeal.Gen Cert.Products Idealize.ShloMosaic Idealize.ShloMosaic.TcCoe Idealize.SL.Sem

/-- The reference's transposed product, cut into the chips' blocks, is the same array of sums. -/
theorem ref (X0 : FVec Ideal S2048x2048 .f32) (X2 : FVec Ideal S2048x2048 .f32) :
    (truncf .bf16 (shapeCast _ (transpose S2048x2048 [1, 0]
      (Host.dotGeneral dot_S2048x2048_S2048x2048_S2048x2048_0_0_1_1_n_n none X2 X0)
      transposes_S2048x2048_S2048x2048_1_0) shapeCasts_S2048x2048_S4x512x2048) bitsLt_bf16_f32
      : FVec Ideal S4x512x2048 .bf16) = Products.rows 512 (T := 2048) (N := 2048) (M := 2048) rfl X0 X2 := by
  funext y
  obtain ⟨s, a, b, rfl⟩ : ∃ (s : Fin 4) (a : Fin 512) (b : Fin 2048), y = ix3 s a b := ⟨y 0, y 1, y 2, eq_ix3 y⟩
  unfold Products.rows
  pointwise
  exact Finset.sum_congr rfl fun r _ => mul_comm _ _

end Reference

open Idealize.ShloMosaic Idealize.ShloMosaic.TcCoe Idealize.SL.Sem

/-- The reference's frame: it has no semaphores, and its run keeps its arguments. -/
theorem ref_frame : Cert.quiescent_DwOutRefIdeal (hDwOutRefIdeal := Cert.DwOutRefIdeal.Gen.facts) := fun m ρ _ =>
  (θ_run _ _ _).mono (fun r h => ⟨fun c => (h c).2, sem_eq_zero_of_no_sems (by decide) _⟩) (Cert.DwOutRefIdeal.Value.run m ρ)

/-- The kernel's array is the reference's. -/
theorem algebraic : Cert.algebraic_DwOutIdeal_DwOutRefIdeal (hDwOutIdeal := Cert.DwOutIdeal.Gen.facts) (hDwOutRefIdeal := Cert.DwOutRefIdeal.Gen.facts) := by
  intro m ρ m' ρ' _ hm
  refine ⟨fun c => (Products.rows 512 (T := 2048) (N := 2048) (M := 2048) rfl (m ((c.tc : Thread Cert.DwOutIdeal.nD Cert.DwOutIdeal.τ).loc Cert.DwOutIdeal.main_arg0))
    (m ((c.tc : Thread Cert.DwOutIdeal.nD Cert.DwOutIdeal.τ).loc Cert.DwOutIdeal.main_arg2)) : Products.Shards 512 2048), ?_, ?_⟩
  · exact (θ_run _ _ _).mono (fun r h c => ⟨(h c).1.trans (arrAt2 m c), (h c).2⟩) (Cert.DwOutIdeal.Value.run_blocks m ρ)
  · refine (θ_run _ _ _).mono (fun r h c => ⟨?_, (h c).2⟩) (Cert.DwOutRefIdeal.Value.run m' ρ')
    obtain ⟨e0, e1, e2⟩ := hm c
    exact (h c).1.trans ((ref _ _).trans (congrArg₂ (Products.rows 512 (T := 2048) (N := 2048) (M := 2048) rfl) e0 e2))

end Cert.DwOutVal

end
-- ==== Proof.DwBranch.lean ====
/- The gradient of a product at its second factor, for the weights behind the attention and behind the gating unit:
   the kernel's blocks against the reference's transposed product, both the sums of `Products.columns`. -/
module

public import proofs.«01_k».proof.Defs
public import proofs.«01_k».proof.Proof.Gen.DwBranchIdeal.Value
public import proofs.«01_k».proof.Proof.Gen.DwBranchRefIdeal.Run
public import proofs.«01_k».proof.Proof.Products
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

namespace Cert.DwBranchVal

section Kernel

open Cert.DwBranchIdeal Cert.DwBranchIdeal.Gen Cert.Products Idealize.ShloMosaic Idealize.ShloMosaic.TcCoe Idealize.SL.Sem

theorem idx : ∀ t : Fin cfg0.N, win0_0.index t = ![0, t.val / 4] ∧ win0_1.index t = ![0, t.val % 4] ∧ win0_2.index t = ![t.val % 4, t.val / 4, 0] :=
  (by decide +kernel : ∀ t : Fin grid0.N, _)

/-- One block: the product of the loaded columns over the tokens. -/
theorem block (x0 : Vec Ideal S2048x512 .bf16) (x1 : Vec Ideal S2048x512 .bf16) (a : Fin 512) (b : Fin 512) :
    out0_2 x0 x1 (ix3 0 a b) = ∑ r : Fin 2048, ((x0 (ix2 r a) : EReal) * x1 (ix2 r b) : EReal) := by
  unfold out0_2
  refine (congrFun (View.canon_unit_zero (S := S1x512x512) (off := ![0, 0, 0]) (show (![0, 0, 0] : Fin 3 → ℕ) = fun _ => 0 by decide) _ _) _).trans ?_
  unfold k0_pay1
  pointwise

variable (m : (ℓ : Loc nD τ sig) → Buf (Elt Ideal) ℓ) (c : Dev nD)

/-- The kernel's array, block by block, is the array of sums. -/
theorem arrAt2 : (dats m 0 c).arrAt 2 cfg0.N = (Products.columns 512 (T := 2048) (K := 1024) (M := 2048) rfl (m ((c : Thread nD τ).loc main_arg0)) (m ((c : Thread nD τ).loc main_arg2)) : Shards 1024 512) := by
  refine (dats m 0 c).arrAt_eq_of_covers 2 _ (by decide +kernel) fun t hf y => ?_
  obtain ⟨e0, e1, e2⟩ := idx t
  obtain ⟨s, a, b, rfl⟩ : ∃ (s : Fin 1) (a : Fin 512) (b : Fin 512), y = ix3 s a b := ⟨y 0, y 1, y 2, eq_ix3 y⟩
  obtain rfl : s = 0 := Subsingleton.elim _ _
  blk_simp [e2]
  rw [after0_2]
  refine (block _ _ a b).trans ?_
  unfold Products.columns
  blk_simp [e2]
  refine Finset.sum_congr rfl fun r _ => congrArg₂ (· * ·) ?_ ?_
  · blk_simp [iblk, V, e0]
    entry_read
    pointwise
    blk_ext [iblk, V, e0]
  · blk_simp [iblk, V, e1]
    entry_read
    pointwise
    blk_ext [iblk, V, e1]

end Kernel

section Reference

open Cert.DwBranchRefIdeal Cert.DwBranchRefIdeal.Gen Cert.Products Idealize.ShloMosaic Idealize.ShloMosaic.TcCoe Idealize.SL.Sem

/-- The reference's transposed product, cut into the chips' blocks, is the same array of sums. -/
theorem ref (X0 : FVec Ideal S2048x1024 .f32) (X2 : FVec Ideal S2048x2048 .f32) :
    (truncf .bf16 (transpose S4x1024x512 [1, 0, 2] (shapeCast _ (transpose S1024x2048 [1, 0]
      (Host.dotGeneral dot_S2048x2048_S2048x1024_S2048x1024_0_0_1_1_n_n none X2 X0)
      transposes_S2048x1024_S1024x2048_1_0) shapeCasts_S1024x2048_S1024x4x512) transposes_S1024x4x512_S4x1024x512_1_0_2) bitsLt_bf16_f32
      : FVec Ideal S4x1024x512 .bf16) = Products.columns 512 (T := 2048) (K := 1024) (M := 2048) rfl X0 X2 := by
  funext y
  obtain ⟨s, a, b, rfl⟩ : ∃ (s : Fin 4) (a : Fin 1024) (b : Fin 512), y = ix3 s a b := ⟨y 0, y 1, y 2, eq_ix3 y⟩
  unfold Products.columns
  pointwise
  exact Finset.sum_congr rfl fun r _ => mul_comm _ _

end Reference

open Idealize.ShloMosaic Idealize.ShloMosaic.TcCoe Idealize.SL.Sem

/-- The reference's frame: it has no semaphores, and its run keeps its arguments. -/
theorem ref_frame : Cert.quiescent_DwBranchRefIdeal (hDwBranchRefIdeal := Cert.DwBranchRefIdeal.Gen.facts) := fun m ρ _ =>
  (θ_run _ _ _).mono (fun r h => ⟨fun c => (h c).2, sem_eq_zero_of_no_sems (by decide) _⟩) (Cert.DwBranchRefIdeal.Value.run m ρ)

/-- The kernel's array is the reference's. -/
theorem algebraic : Cert.algebraic_DwBranchIdeal_DwBranchRefIdeal (hDwBranchIdeal := Cert.DwBranchIdeal.Gen.facts) (hDwBranchRefIdeal := Cert.DwBranchRefIdeal.Gen.facts) := by
  intro m ρ m' ρ' _ hm
  refine ⟨fun c => (Products.columns 512 (T := 2048) (K := 1024) (M := 2048) rfl (m ((c.tc : Thread Cert.DwBranchIdeal.nD Cert.DwBranchIdeal.τ).loc Cert.DwBranchIdeal.main_arg0))
    (m ((c.tc : Thread Cert.DwBranchIdeal.nD Cert.DwBranchIdeal.τ).loc Cert.DwBranchIdeal.main_arg2)) : Products.Shards 1024 512), ?_, ?_⟩
  · exact (θ_run _ _ _).mono (fun r h c => ⟨(h c).1.trans (arrAt2 m c), (h c).2⟩) (Cert.DwBranchIdeal.Value.run_blocks m ρ)
  · refine (θ_run _ _ _).mono (fun r h c => ⟨?_, (h c).2⟩) (Cert.DwBranchRefIdeal.Value.run m' ρ')
    obtain ⟨e0, e1, e2⟩ := hm c
    exact (h c).1.trans ((ref _ _).trans (congrArg₂ (Products.columns 512 (T := 2048) (K := 1024) (M := 2048) rfl) e0 e2))

end Cert.DwBranchVal

end
-- ==== Proof.BranchVal.lean ====
/- The gradients at the two branches' outputs: the kernel adds the four chips' products of the attention branch and of the
   gating branch into a scratch each; the reference multiplies each gradient by the transposed weights at once. -/
module

public import proofs.«01_k».proof.Defs
public import proofs.«01_k».proof.Proof.Gen.BranchIdeal.Value
public import proofs.«01_k».proof.Proof.Gen.BranchRefIdeal.Run
public import proofs.«01_k».proof.Proof.Products
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.BranchVal

section Kernel

open Cert.BranchIdeal Cert.BranchIdeal.Gen Cert.Products Idealize.ShloMosaic Idealize.ShloMosaic.TcCoe Idealize.SL.Sem

theorem hz : (![0, 0] : Fin 2 → ℕ) = fun _ => 0 := by decide
theorem hz3 : (![0, 0, 0] : Fin 3 → ℕ) = fun _ => 0 := by decide

/-! What each case of the body leaves: the product of a branch's blocks, added to the branch's scratch. -/

theorem sA0 (c : Dev nD) (i : grid0.Coords) (a4 : Memref sig .tc .vmem S1024x512 .bf16) (h4 : a4.IsWhole)
    (a5 : Memref sig .tc .vmem S1x1024x512 .bf16) (h5 : a5.IsWhole) (a6 : Memref sig .tc .vmem S1024x512 .bf16) (h6 : a6.IsWhole)
    (a7 : Memref sig .tc .vmem S1x1024x512 .bf16) (h7 : a7.IsWhole) (a9 : Memref sig .tc .vmem S1024x1024 .f32) (h9 : a9.IsWhole)
    (a10 : Memref sig .tc .vmem S1024x1024 .f32) (h10 : a10.IsWhole) (a11 : Memref sig .tc .vmem S1024x1024 .f32) (h11 : a11.IsWhole)
    (a12 : Memref sig .tc .vmem S1024x1024 .f32) (h12 : a12.IsWhole) (hc0 : cond0_0 i) (hc1 : ¬cond0_1 i)
    (x0 : Vec Ideal S1024x512 .bf16) (x1 : Vec Ideal S1x1024x512 .bf16)
    (x2 : Vec Ideal S1024x512 .bf16) (x3 : Vec Ideal S1x1024x512 .bf16) :
    sout0_A_0 c i a4 h4 a5 h5 a6 h6 a7 h7 a9 h9 a10 h10 a11 h11 a12 h12 hc0 hc1 x0 x1 x2 x3 = k0_pay3 k0_pay1 x0 x1 := by
  unfold sout0_A_0
  rw [View.read_writes_eq_canon _ _ _ (scover0_A_0 c i a4 h4 a5 h5 a6 h6 a7 h7 a9 h9 a10 h10 a11 h11 a12 h12 hc0 hc1 x0 x1 x2 x3)]
  unfold kernelRun0_A
  dsimp only
  sl_unfold_words
  rw [View.canon_cons_unit_zero (S := S1024x1024) hz]
  simp only [View.readCov_cons_unit_lit' (S := S1024x1024) _ _ _ _ _ (congrFun hz) (congrFun hz), View.readAt_eq_ld, h4.read_unread, h5.read_unread,
    h6.read_unread, h7.read_unread, h11.read_unread, h12.read_unread, View.ld_unit_zero (S := S1024x512) hz, View.ld_unit_zero (S := S1x1024x512) hz3,
    View.ld_unit_zero (S := S1024x1024) hz]

theorem sB0 (c : Dev nD) (i : grid0.Coords) (a4 : Memref sig .tc .vmem S1024x512 .bf16) (h4 : a4.IsWhole)
    (a5 : Memref sig .tc .vmem S1x1024x512 .bf16) (h5 : a5.IsWhole) (a6 : Memref sig .tc .vmem S1024x512 .bf16) (h6 : a6.IsWhole)
    (a7 : Memref sig .tc .vmem S1x1024x512 .bf16) (h7 : a7.IsWhole) (a9 : Memref sig .tc .vmem S1024x1024 .f32) (h9 : a9.IsWhole)
    (a10 : Memref sig .tc .vmem S1024x1024 .f32) (h10 : a10.IsWhole) (a11 : Memref sig .tc .vmem S1024x1024 .f32) (h11 : a11.IsWhole)
    (a12 : Memref sig .tc .vmem S1024x1024 .f32) (h12 : a12.IsWhole) (hc0 : ¬cond0_0 i) (hc1 : ¬cond0_1 i)
    (x0 : Vec Ideal S1024x512 .bf16) (x1 : Vec Ideal S1x1024x512 .bf16)
    (x2 : Vec Ideal S1024x512 .bf16) (x3 : Vec Ideal S1x1024x512 .bf16) (xs ys : Vec Ideal S1024x1024 .f32) :
    sout0_B_0 c i a4 h4 a5 h5 a6 h6 a7 h7 a9 h9 a10 h10 a11 h11 a12 h12 hc0 hc1 x0 x1 x2 x3 xs ys = k0_pay3 xs x0 x1 := by
  unfold sout0_B_0
  rw [View.read_writes_eq_canon _ _ _ (scover0_B_0 c i a4 h4 a5 h5 a6 h6 a7 h7 a9 h9 a10 h10 a11 h11 a12 h12 hc0 hc1 x0 x1 x2 x3 xs ys)]
  unfold kernelRun0_B
  dsimp only
  sl_unfold_words
  rw [View.canon_cons_unit_zero (S := S1024x1024) hz]
  simp only [View.readCov_cons_unit_lit' (S := S1024x1024) _ _ _ _ _ (congrFun hz) (congrFun hz), View.readAt_eq_ld, h4.read_unread, h5.read_unread,
    h6.read_unread, h7.read_unread, h11.read_unread, h12.read_unread, View.ld_unit_zero (S := S1024x512) hz, View.ld_unit_zero (S := S1x1024x512) hz3,
    View.ld_unit_zero (S := S1024x1024) hz]

theorem oC0 (c : Dev nD) (i : grid0.Coords) (a4 : Memref sig .tc .vmem S1024x512 .bf16) (h4 : a4.IsWhole)
    (a5 : Memref sig .tc .vmem S1x1024x512 .bf16) (h5 : a5.IsWhole) (a6 : Memref sig .tc .vmem S1024x512 .bf16) (h6 : a6.IsWhole)
    (a7 : Memref sig .tc .vmem S1x1024x512 .bf16) (h7 : a7.IsWhole) (a9 : Memref sig .tc .vmem S1024x1024 .f32) (h9 : a9.IsWhole)
    (a10 : Memref sig .tc .vmem S1024x1024 .f32) (h10 : a10.IsWhole) (a11 : Memref sig .tc .vmem S1024x1024 .f32) (h11 : a11.IsWhole)
    (a12 : Memref sig .tc .vmem S1024x1024 .f32) (h12 : a12.IsWhole) (hc0 : ¬cond0_0 i) (hc1 : cond0_1 i)
    (x0 : Vec Ideal S1024x512 .bf16) (x1 : Vec Ideal S1x1024x512 .bf16)
    (x2 : Vec Ideal S1024x512 .bf16) (x3 : Vec Ideal S1x1024x512 .bf16) (xs ys : Vec Ideal S1024x1024 .f32) :
    out0_C_4 c i a4 h4 a5 h5 a6 h6 a7 h7 a9 h9 a10 h10 a11 h11 a12 h12 hc0 hc1 x0 x1 x2 x3 xs ys = k0_pay3 xs x0 x1 := by
  unfold out0_C_4
  rw [View.read_writes_eq_canon _ _ _ (cover0_C_4 c i a4 h4 a5 h5 a6 h6 a7 h7 a9 h9 a10 h10 a11 h11 a12 h12 hc0 hc1 x0 x1 x2 x3 xs ys)]
  unfold kernelRun0_C
  dsimp only
  sl_unfold_words
  rw [View.canon_cons_unit_zero (S := S1024x1024) hz]
  simp only [View.readCov_cons_unit_lit' (S := S1024x1024) _ _ _ _ _ (congrFun hz) (congrFun hz), View.readAt_eq_ld, h4.read_unread, h5.read_unread,
    h6.read_unread, h7.read_unread, h11.read_unread, h12.read_unread, View.ld_unit_zero (S := S1024x512) hz, View.ld_unit_zero (S := S1x1024x512) hz3,
    View.ld_unit_zero (S := S1024x1024) hz]

theorem sA1 (c : Dev nD) (i : grid0.Coords) (a4 : Memref sig .tc .vmem S1024x512 .bf16) (h4 : a4.IsWhole)
    (a5 : Memref sig .tc .vmem S1x1024x512 .bf16) (h5 : a5.IsWhole) (a6 : Memref sig .tc .vmem S1024x512 .bf16) (h6 : a6.IsWhole)
    (a7 : Memref sig .tc .vmem S1x1024x512 .bf16) (h7 : a7.IsWhole) (a9 : Memref sig .tc .vmem S1024x1024 .f32) (h9 : a9.IsWhole)
    (a10 : Memref sig .tc .vmem S1024x1024 .f32) (h10 : a10.IsWhole) (a11 : Memref sig .tc .vmem S1024x1024 .f32) (h11 : a11.IsWhole)
    (a12 : Memref sig .tc .vmem S1024x1024 .f32) (h12 : a12.IsWhole) (hc0 : cond0_0 i) (hc1 : ¬cond0_1 i)
    (x0 : Vec Ideal S1024x512 .bf16) (x1 : Vec Ideal S1x1024x512 .bf16)
    (x2 : Vec Ideal S1024x512 .bf16) (x3 : Vec Ideal S1x1024x512 .bf16) :
    sout0_A_1 c i a4 h4 a5 h5 a6 h6 a7 h7 a9 h9 a10 h10 a11 h11 a12 h12 hc0 hc1 x0 x1 x2 x3 = k0_pay4 k0_pay2 x2 x3 := by
  unfold sout0_A_1
  rw [View.read_writes_eq_canon _ _ _ (scover0_A_1 c i a4 h4 a5 h5 a6 h6 a7 h7 a9 h9 a10 h10 a11 h11 a12 h12 hc0 hc1 x0 x1 x2 x3)]
  unfold kernelRun0_A
  dsimp only
  sl_unfold_words
  rw [View.canon_cons_unit_zero (S := S1024x1024) hz]
  simp only [View.readCov_cons_unit_lit' (S := S1024x1024) _ _ _ _ _ (congrFun hz) (congrFun hz), View.readAt_eq_ld, h4.read_unread, h5.read_unread,
    h6.read_unread, h7.read_unread, h11.read_unread, h12.read_unread, View.ld_unit_zero (S := S1024x512) hz, View.ld_unit_zero (S := S1x1024x512) hz3,
    View.ld_unit_zero (S := S1024x1024) hz]

theorem sB1 (c : Dev nD) (i : grid0.Coords) (a4 : Memref sig .tc .vmem S1024x512 .bf16) (h4 : a4.IsWhole)
    (a5 : Memref sig .tc .vmem S1x1024x512 .bf16) (h5 : a5.IsWhole) (a6 : Memref sig .tc .vmem S1024x512 .bf16) (h6 : a6.IsWhole)
    (a7 : Memref sig .tc .vmem S1x1024x512 .bf16) (h7 : a7.IsWhole) (a9 : Memref sig .tc .vmem S1024x1024 .f32) (h9 : a9.IsWhole)
    (a10 : Memref sig .tc .vmem S1024x1024 .f32) (h10 : a10.IsWhole) (a11 : Memref sig .tc .vmem S1024x1024 .f32) (h11 : a11.IsWhole)
    (a12 : Memref sig .tc .vmem S1024x1024 .f32) (h12 : a12.IsWhole) (hc0 : ¬cond0_0 i) (hc1 : ¬cond0_1 i)
    (x0 : Vec Ideal S1024x512 .bf16) (x1 : Vec Ideal S1x1024x512 .bf16)
    (x2 : Vec Ideal S1024x512 .bf16) (x3 : Vec Ideal S1x1024x512 .bf16) (xs ys : Vec Ideal S1024x1024 .f32) :
    sout0_B_1 c i a4 h4 a5 h5 a6 h6 a7 h7 a9 h9 a10 h10 a11 h11 a12 h12 hc0 hc1 x0 x1 x2 x3 xs ys = k0_pay4 ys x2 x3 := by
  unfold sout0_B_1
  rw [View.read_writes_eq_canon _ _ _ (scover0_B_1 c i a4 h4 a5 h5 a6 h6 a7 h7 a9 h9 a10 h10 a11 h11 a12 h12 hc0 hc1 x0 x1 x2 x3 xs ys)]
  unfold kernelRun0_B
  dsimp only
  sl_unfold_words
  rw [View.canon_cons_unit_zero (S := S1024x1024) hz]
  simp only [View.readCov_cons_unit_lit' (S := S1024x1024) _ _ _ _ _ (congrFun hz) (congrFun hz), View.readAt_eq_ld, h4.read_unread, h5.read_unread,
    h6.read_unread, h7.read_unread, h11.read_unread, h12.read_unread, View.ld_unit_zero (S := S1024x512) hz, View.ld_unit_zero (S := S1x1024x512) hz3,
    View.ld_unit_zero (S := S1024x1024) hz]

theorem oC1 (c : Dev nD) (i : grid0.Coords) (a4 : Memref sig .tc .vmem S1024x512 .bf16) (h4 : a4.IsWhole)
    (a5 : Memref sig .tc .vmem S1x1024x512 .bf16) (h5 : a5.IsWhole) (a6 : Memref sig .tc .vmem S1024x512 .bf16) (h6 : a6.IsWhole)
    (a7 : Memref sig .tc .vmem S1x1024x512 .bf16) (h7 : a7.IsWhole) (a9 : Memref sig .tc .vmem S1024x1024 .f32) (h9 : a9.IsWhole)
    (a10 : Memref sig .tc .vmem S1024x1024 .f32) (h10 : a10.IsWhole) (a11 : Memref sig .tc .vmem S1024x1024 .f32) (h11 : a11.IsWhole)
    (a12 : Memref sig .tc .vmem S1024x1024 .f32) (h12 : a12.IsWhole) (hc0 : ¬cond0_0 i) (hc1 : cond0_1 i)
    (x0 : Vec Ideal S1024x512 .bf16) (x1 : Vec Ideal S1x1024x512 .bf16)
    (x2 : Vec Ideal S1024x512 .bf16) (x3 : Vec Ideal S1x1024x512 .bf16) (xs ys : Vec Ideal S1024x1024 .f32) :
    out0_C_5 c i a4 h4 a5 h5 a6 h6 a7 h7 a9 h9 a10 h10 a11 h11 a12 h12 hc0 hc1 x0 x1 x2 x3 xs ys = k0_pay4 ys x2 x3 := by
  unfold out0_C_5
  rw [View.read_writes_eq_canon _ _ _ (cover0_C_5 c i a4 h4 a5 h5 a6 h6 a7 h7 a9 h9 a10 h10 a11 h11 a12 h12 hc0 hc1 x0 x1 x2 x3 xs ys)]
  unfold kernelRun0_C
  dsimp only
  sl_unfold_words
  rw [View.canon_cons_unit_zero (S := S1024x1024) hz]
  simp only [View.readCov_cons_unit_lit' (S := S1024x1024) _ _ _ _ _ (congrFun hz) (congrFun hz), View.readAt_eq_ld, h4.read_unread, h5.read_unread,
    h6.read_unread, h7.read_unread, h11.read_unread, h12.read_unread, View.ld_unit_zero (S := S1024x512) hz, View.ld_unit_zero (S := S1x1024x512) hz3,
    View.ld_unit_zero (S := S1024x1024) hz]

/-- Both scratches' steps are one: the block's product, added. -/
theorem same : k0_pay4 (F := Ideal) = k0_pay3 ∧ k0_pay2 (F := Ideal) = k0_pay1 := ⟨rfl, rfl⟩

/-- One step: the block's product, added. -/
theorem step (x : Vec Ideal S1024x512 .bf16) (w : Vec Ideal S1x1024x512 .bf16) (xs : Vec Ideal S1024x1024 .f32) (a b : Fin 1024) :
    k0_pay3 xs x w (ix2 a b) = (xs (ix2 a b) : EReal) + ∑ n : Fin 512, ((x (ix2 a n) : EReal) * w (ix3 0 b n) : EReal) := by
  unfold k0_pay3
  pointwise

theorem start (a b : Fin 1024) : (k0_pay1 (F := Ideal) (ix2 a b) : EReal) = 0 := by
  unfold k0_pay1
  pointwise

theorem idx : ∀ t : Fin cfg0.N, win0_0.index t = ![t.val / 4, t.val % 4] ∧ win0_1.index t = ![t.val % 4, 0, 0] ∧
    win0_2.index t = ![t.val / 4, t.val % 4] ∧ win0_3.index t = ![t.val % 4, 0, 0] ∧
    win0_4.index t = ![t.val / 4, 0] ∧ win0_5.index t = ![t.val / 4, 0] :=
  (by decide +kernel : ∀ t : Fin grid0.N, _)

variable (m : (ℓ : Loc nD τ sig) → Buf (Elt Ideal) ℓ) (c : Dev nD)

/-- The attention branch's gradient's block at point `t`. -/
def X0 (t : Fin cfg0.N) : Vec Ideal S1024x512 .bf16 := iblk m c 0 t
/-- The attention branch's weights' block at point `t`. -/
def X1 (t : Fin cfg0.N) : Vec Ideal S1x1024x512 .bf16 := iblk m c 1 t
/-- The gating branch's gradient's block at point `t`. -/
def X2 (t : Fin cfg0.N) : Vec Ideal S1024x512 .bf16 := iblk m c 2 t
/-- The gating branch's weights' block at point `t`. -/
def X3 (t : Fin cfg0.N) : Vec Ideal S1x1024x512 .bf16 := iblk m c 3 t

/-- The attention branch's scratch after point `n`. -/
def scr0 (n : ℕ) (h : n < cfg0.N) : Vec Ideal S1024x1024 .f32 := (outsAt0 m c n h).2.2.1

theorem scr0_A (t : Fin cfg0.N) (h0 : t.val % 4 = 0) (h1 : ¬t.val % 4 = 3) :
    scr0 m c t.val t.isLt = k0_pay3 (k0_pay1 (F := Ideal)) (X0 m c t) (X1 m c t) := by
  unfold scr0 X0 X1; rw [outsAt0_A m c t h0 h1, sA0]

theorem scr0_B (t : Fin cfg0.N) (h0 : ¬t.val % 4 = 0) (h1 : ¬t.val % 4 = 3) :
    scr0 m c t.val t.isLt = k0_pay3 (scr0 m c (t.val - 1) (Nat.lt_of_le_of_lt (Nat.sub_le _ _) t.isLt)) (X0 m c t) (X1 m c t) := by
  unfold scr0 X0 X1; rw [outsAt0_B m c t h0 h1, sB0]

theorem out0_C (t : Fin cfg0.N) (h0 : ¬t.val % 4 = 0) (h1 : t.val % 4 = 3) :
    (outsAt0 m c t.val t.isLt).1 = k0_pay3 (scr0 m c (t.val - 1) (Nat.lt_of_le_of_lt (Nat.sub_le _ _) t.isLt)) (X0 m c t) (X1 m c t) := by
  unfold scr0 X0 X1; rw [outsAt0_C m c t h0 h1, oC0]

/-- At a point that writes back, the attention branch's output block is the sum of the four points' products. -/
theorem last0 (n : ℕ) (hn : 4 * n + 3 < cfg0.N) (a b : Fin 1024) :
    ((outsAt0 m c (4 * n + 3) hn).1 (ix2 a b) : EReal) = ∑ s : Fin 4, ∑ k : Fin 512,
      ((X0 m c ⟨4 * n + s.val, lt_of_le_of_lt (by have := s.isLt; omega) hn⟩ (ix2 a k) : EReal) *
        X1 m c ⟨4 * n + s.val, lt_of_le_of_lt (by have := s.isLt; omega) hn⟩ (ix3 0 b k) : EReal) :=
  Products.carried cfg0.N (fun n h => ((outsAt0 m c n h).1 (ix2 a b) : EReal)) (fun n h => (scr0 m c n h (ix2 a b) : EReal))
    (fun n h => ∑ k : Fin 512, ((X0 m c ⟨n, h⟩ (ix2 a k) : EReal) * X1 m c ⟨n, h⟩ (ix3 0 b k) : EReal))
    (fun n h h0 => (congrFun (scr0_A m c ⟨n, h⟩ h0 (by dsimp only; omega)) (ix2 a b)).trans ((step _ _ _ a b).trans (congrArg (· + _) (start a b))))
    (fun n h h0 h1 => (congrFun (scr0_B m c ⟨n + 1, h⟩ h0 h1) (ix2 a b)).trans (step _ _ _ a b))
    (fun n h h0 h1 => (congrFun (out0_C m c ⟨n + 1, h⟩ h0 h1) (ix2 a b)).trans (step _ _ _ a b)) n hn

/-- The gating branch's scratch after point `n`. -/
def scr1 (n : ℕ) (h : n < cfg0.N) : Vec Ideal S1024x1024 .f32 := (outsAt0 m c n h).2.2.2

theorem scr1_A (t : Fin cfg0.N) (h0 : t.val % 4 = 0) (h1 : ¬t.val % 4 = 3) :
    scr1 m c t.val t.isLt = k0_pay3 (k0_pay1 (F := Ideal)) (X2 m c t) (X3 m c t) := by
  unfold scr1 X2 X3; rw [outsAt0_A m c t h0 h1, sA1, same.1, same.2]

theorem scr1_B (t : Fin cfg0.N) (h0 : ¬t.val % 4 = 0) (h1 : ¬t.val % 4 = 3) :
    scr1 m c t.val t.isLt = k0_pay3 (scr1 m c (t.val - 1) (Nat.lt_of_le_of_lt (Nat.sub_le _ _) t.isLt)) (X2 m c t) (X3 m c t) := by
  unfold scr1 X2 X3; rw [outsAt0_B m c t h0 h1, sB1, same.1]

theorem out1_C (t : Fin cfg0.N) (h0 : ¬t.val % 4 = 0) (h1 : t.val % 4 = 3) :
    (outsAt0 m c t.val t.isLt).2.1 = k0_pay3 (scr1 m c (t.val - 1) (Nat.lt_of_le_of_lt (Nat.sub_le _ _) t.isLt)) (X2 m c t) (X3 m c t) := by
  unfold scr1 X2 X3; rw [outsAt0_C m c t h0 h1, oC1, same.1]

/-- At a point that writes back, the gating branch's output block is the sum of the four points' products. -/
theorem last1 (n : ℕ) (hn : 4 * n + 3 < cfg0.N) (a b : Fin 1024) :
    ((outsAt0 m c (4 * n + 3) hn).2.1 (ix2 a b) : EReal) = ∑ s : Fin 4, ∑ k : Fin 512,
      ((X2 m c ⟨4 * n + s.val, lt_of_le_of_lt (by have := s.isLt; omega) hn⟩ (ix2 a k) : EReal) *
        X3 m c ⟨4 * n + s.val, lt_of_le_of_lt (by have := s.isLt; omega) hn⟩ (ix3 0 b k) : EReal) :=
  Products.carried cfg0.N (fun n h => ((outsAt0 m c n h).2.1 (ix2 a b) : EReal)) (fun n h => (scr1 m c n h (ix2 a b) : EReal))
    (fun n h => ∑ k : Fin 512, ((X2 m c ⟨n, h⟩ (ix2 a k) : EReal) * X3 m c ⟨n, h⟩ (ix3 0 b k) : EReal))
    (fun n h h0 => (congrFun (scr1_A m c ⟨n, h⟩ h0 (by dsimp only; omega)) (ix2 a b)).trans ((step _ _ _ a b).trans (congrArg (· + _) (start a b))))
    (fun n h h0 h1 => (congrFun (scr1_B m c ⟨n + 1, h⟩ h0 h1) (ix2 a b)).trans (step _ _ _ a b))
    (fun n h h0 h1 => (congrFun (out1_C m c ⟨n + 1, h⟩ h0 h1) (ix2 a b)).trans (step _ _ _ a b)) n hn

theorem X0_apply (t : Fin cfg0.N) (a : Fin 1024) (k : Fin 512) :
    (X0 m c t (ix2 a k) : EReal) = (m ((c : Thread nD τ).loc main_arg4) : Mat 2048 2048) (ix2 ⟨1024 * (t.val / 4) + a.val, by
      have := t.isLt; have : cfg0.N = 8 := N_0; omega⟩ ⟨t.val % 4 * 512 + k.val, by omega⟩) := by
  obtain ⟨e0, -, -, -, -, -⟩ := idx t
  unfold X0
  blk_simp [iblk, V, e0]
  entry_read
  pointwise
  blk_ext [iblk, V, e0]

theorem X1_apply (t : Fin cfg0.N) (b : Fin 1024) (k : Fin 512) :
    (X1 m c t (ix3 0 b k) : EReal) = (m ((c : Thread nD τ).loc main_arg2) : Mat 1024 2048) (ix2 b ⟨t.val % 4 * 512 + k.val, by omega⟩) := by
  obtain ⟨-, e1, -, -, -, -⟩ := idx t
  unfold X1
  blk_simp [iblk, V, e1]
  entry_read
  pointwise
  blk_ext [iblk, V, e1]

theorem X2_apply (t : Fin cfg0.N) (a : Fin 1024) (k : Fin 512) :
    (X2 m c t (ix2 a k) : EReal) = (m ((c : Thread nD τ).loc main_arg5) : Mat 2048 2048) (ix2 ⟨1024 * (t.val / 4) + a.val, by
      have := t.isLt; have : cfg0.N = 8 := N_0; omega⟩ ⟨t.val % 4 * 512 + k.val, by omega⟩) := by
  obtain ⟨-, -, e2, -, -, -⟩ := idx t
  unfold X2
  blk_simp [iblk, V, e2]
  entry_read
  pointwise
  blk_ext [iblk, V, e2]

theorem X3_apply (t : Fin cfg0.N) (b : Fin 1024) (k : Fin 512) :
    (X3 m c t (ix3 0 b k) : EReal) = (m ((c : Thread nD τ).loc main_arg3) : Mat 1024 2048) (ix2 b ⟨t.val % 4 * 512 + k.val, by omega⟩) := by
  obtain ⟨-, -, -, e3, -, -⟩ := idx t
  unfold X3
  blk_simp [iblk, V, e3]
  entry_read
  pointwise
  blk_ext [iblk, V, e3]

/-- The attention branch's array, block by block, is its gradient by the transposed weights. -/
theorem arrAt4 : (dats m 0 c).arrAt 4 cfg0.N = (Products.input (T := 2048) (K := 1024) (M := 2048) (m ((c : Thread nD τ).loc main_arg4))
    (m ((c : Thread nD τ).loc main_arg2)) : Mat 2048 1024) := by
  refine (dats m 0 c).arrAt_eq_of_covers 4 _ (by decide +kernel) fun t hf y => ?_
  obtain ⟨-, -, -, -, e2, -⟩ := idx t
  obtain ⟨a, b, rfl⟩ : ∃ (a : Fin 1024) (b : Fin 1024), y = ix2 a b := ⟨y 0, y 1, eq_ix2 y⟩
  have h3 : t.val % 4 = 3 := (flush0_4 t).mp hf
  obtain ⟨n, hn⟩ : ∃ n, t.val = 4 * n + 3 := ⟨t.val / 4, by omega⟩
  obtain ⟨t, ht⟩ := t
  obtain rfl : t = 4 * n + 3 := hn
  blk_simp [e2]
  rw [after0_4]
  refine (last0 m c n ht a b).trans ?_
  unfold Products.input
  rw [Products.sum_four (n := 512) rfl]
  refine Finset.sum_congr rfl fun s _ => Finset.sum_congr rfl fun k _ => ?_
  have hs := s.isLt
  rw [X0_apply, X1_apply]
  blk_simp [e2]
  exact congrArg₂ (· * ·) (Products.entry _ (by dsimp only; omega) (by dsimp only; omega)) (Products.entry _ (by dsimp only <;> omega) (by dsimp only <;> omega))

/-- The gating branch's array, block by block, is its gradient by the transposed weights. -/
theorem arrAt5 : (dats m 0 c).arrAt 5 cfg0.N = (Products.input (T := 2048) (K := 1024) (M := 2048) (m ((c : Thread nD τ).loc main_arg5))
    (m ((c : Thread nD τ).loc main_arg3)) : Mat 2048 1024) := by
  refine (dats m 0 c).arrAt_eq_of_covers 5 _ (by decide +kernel) fun t hf y => ?_
  obtain ⟨-, -, -, -, -, e2⟩ := idx t
  obtain ⟨a, b, rfl⟩ : ∃ (a : Fin 1024) (b : Fin 1024), y = ix2 a b := ⟨y 0, y 1, eq_ix2 y⟩
  have h3 : t.val % 4 = 3 := (flush0_5 t).mp hf
  obtain ⟨n, hn⟩ : ∃ n, t.val = 4 * n + 3 := ⟨t.val / 4, by omega⟩
  obtain ⟨t, ht⟩ := t
  obtain rfl : t = 4 * n + 3 := hn
  blk_simp [e2]
  rw [after0_5]
  refine (last1 m c n ht a b).trans ?_
  unfold Products.input
  rw [Products.sum_four (n := 512) rfl]
  refine Finset.sum_congr rfl fun s _ => Finset.sum_congr rfl fun k _ => ?_
  have hs := s.isLt
  rw [X2_apply, X3_apply]
  blk_simp [e2]
  exact congrArg₂ (· * ·) (Products.entry _ (by dsimp only; omega) (by dsimp only; omega)) (Products.entry _ (by dsimp only <;> omega) (by dsimp only <;> omega))

end Kernel

section Reference

open Cert.BranchRefIdeal Cert.BranchRefIdeal.Gen Cert.Products Idealize.ShloMosaic Idealize.ShloMosaic.TcCoe Idealize.SL.Sem

/-- The reference's product is the same sum. -/
theorem ref (w : FVec Ideal S1024x2048 .f32) (dy : FVec Ideal S2048x2048 .f32) :
    (Host.dotGeneral dot_S2048x2048_S1024x2048_S2048x1024_1_1_0_0_n_n none dy w : FVec Ideal S2048x1024 .f32) =
      Products.input (T := 2048) (K := 1024) (M := 2048) dy w := by
  funext y
  obtain ⟨a, b, rfl⟩ : ∃ (a : Fin 2048) (b : Fin 1024), y = ix2 a b := ⟨y 0, y 1, eq_ix2 y⟩
  unfold Products.input
  pointwise

end Reference

open Idealize.ShloMosaic Idealize.ShloMosaic.TcCoe Idealize.SL.Sem

/-- The reference's frame: it has no semaphores, and its run keeps its arguments. -/
theorem ref_frame : Cert.quiescent_BranchRefIdeal (hBranchRefIdeal := Cert.BranchRefIdeal.Gen.facts) := fun m ρ _ =>
  (θ_run _ _ _).mono (fun r h => ⟨fun c => (h c).2.2, sem_eq_zero_of_no_sems (by decide) _⟩) (Cert.BranchRefIdeal.Value.run m ρ)

/-- The kernel's two arrays are the reference's. -/
theorem algebraic : Cert.algebraic_BranchIdeal_BranchRefIdeal (hBranchIdeal := Cert.BranchIdeal.Gen.facts) (hBranchRefIdeal := Cert.BranchRefIdeal.Gen.facts) := by
  intro m ρ m' ρ' _ hm
  refine ⟨fun c => (Products.input (T := 2048) (K := 1024) (M := 2048) (m ((c.tc : Thread Cert.BranchIdeal.nD Cert.BranchIdeal.τ).loc Cert.BranchIdeal.main_arg4))
    (m ((c.tc : Thread Cert.BranchIdeal.nD Cert.BranchIdeal.τ).loc Cert.BranchIdeal.main_arg2)) : Products.Mat 2048 1024),
    fun c => (Products.input (T := 2048) (K := 1024) (M := 2048) (m ((c.tc : Thread Cert.BranchIdeal.nD Cert.BranchIdeal.τ).loc Cert.BranchIdeal.main_arg5))
    (m ((c.tc : Thread Cert.BranchIdeal.nD Cert.BranchIdeal.τ).loc Cert.BranchIdeal.main_arg3)) : Products.Mat 2048 1024), ?_, ?_⟩
  · exact (θ_run _ _ _).mono (fun r h c => ⟨(h c).1.trans (arrAt4 m c), (h c).2.1.trans (arrAt5 m c), (h c).2.2⟩) (Cert.BranchIdeal.Value.run_blocks m ρ)
  · refine (θ_run _ _ _).mono (fun r h c => ⟨?_, ?_, (h c).2.2⟩) (Cert.BranchRefIdeal.Value.run m' ρ')
    · obtain ⟨e0, e1, e2, e3, e4, e5, e6⟩ := hm c
      exact (h c).1.trans ((ref _ _).trans (congrArg₂ (Products.input (T := 2048) (K := 1024) (M := 2048)) e4 e2))
    · obtain ⟨e0, e1, e2, e3, e4, e5, e6⟩ := hm c
      exact (h c).2.1.trans ((ref _ _).trans (congrArg₂ (Products.input (T := 2048) (K := 1024) (M := 2048)) e5 e3))

end Cert.BranchVal

end
-- ==== Proof.OutVal.lean ====
/- The gradient of the gated merge of the two branches: a block of the product by the transposed output weights, stored in
   two chunks of columns, each gating both branches and each with both gates' derivatives. -/
module

public import proofs.«01_k».proof.Defs
public import proofs.«01_k».proof.Proof.Gen.OutIdeal.Value
public import proofs.«01_k».proof.Proof.Gen.OutRefIdeal.Run
public import proofs.«01_k».proof.Proof.Products
public import proofs.«01_k».proof.Proof.Gates
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.OutVal

section Kernel

open Cert.OutIdeal Cert.OutIdeal.Gen Cert.Products Cert.Gates Idealize.ShloMosaic Idealize.ShloMosaic.TcCoe Idealize.SL.Sem

theorem hz : (![0, 0] : Fin 2 → ℕ) = fun _ => 0 := by decide

/-- The gradient at a gated branch, from the gradient `d` at the merge and the gate's logit `g`. -/
def dBranch (d g : EReal) : EReal := d * sg g
/-- The gradient at a gate's logit `g`, from the gradient `d` at the merge and the branch's value `b`. -/
def dLogit (d b g : EReal) : EReal := d * b * sg g * (1 - sg g)

/-- One chunk of a branch's gradient. -/
theorem br_chunk (v0 : Vec Ideal S512x2048 .bf16) (v2 : Vec Ideal S1x256x2048 .bf16) (v5 : Vec Ideal S512x256 .f32) (a : Fin 512) (l : Fin 256) :
    k0_pay7 v0 v2 v5 (ix2 a l) = dBranch (∑ k : Fin 2048, ((v0 (ix2 a k) : EReal) * v2 (ix3 0 l k) : EReal)) (v5 (ix2 a l)) := by
  pointwise [k0_pay7, k0_pay5, k0_pay4]
  rfl

/-- One chunk of a logit's gradient. -/
theorem gt_chunk (v0 : Vec Ideal S512x2048 .bf16) (v2 : Vec Ideal S1x256x2048 .bf16) (v5 v6 : Vec Ideal S512x256 .f32) (a : Fin 512) (l : Fin 256) :
    k0_pay10 (k0_pay9 v0 v2 v5 v6) (ix2 a l) = dLogit (∑ k : Fin 2048, ((v0 (ix2 a k) : EReal) * v2 (ix3 0 l k) : EReal)) (v6 (ix2 a l)) (v5 (ix2 a l)) := by
  pointwise [k0_pay10, k0_pay9, k0_pay5, k0_pay4]
  rfl

section Chunks

variable (x0 : Vec Ideal S512x2048 .bf16) (x1 : Vec Ideal S1x512x2048 .bf16) (x2 x4 : Vec Ideal S512x512 .f32) (a : Fin 512) (l : Fin 512)

/-- The product's entry in a block. -/
def dotB : EReal := ∑ k : Fin 2048, ((x0 (ix2 a k) : EReal) * x1 (ix3 0 l k) : EReal)

theorem ld_cols {off : ℕ} (inb) (x : Vec Ideal S512x512 .f32) (j : Fin 256) (h : l.val = off + j.val) :
    View.ld x (Rect.unit (s := S512x512) ![0, off] ![512, 256] inb) (ix2 a j) = x (ix2 a l) :=
  View.ld_unit_apply_of _ _ _ _ _ _ fun k => by
    fin_cases k
    · show a.val = 0 + a.val; omega
    · exact h

theorem ld_rows {off : ℕ} (inb) (x : Vec Ideal S1x512x2048 .bf16) (j : Fin 256) (n : Fin 2048) (h : l.val = off + j.val) :
    View.ld x (Rect.unit (s := S1x512x2048) ![0, off, 0] ![1, 256, 2048] inb) (ix3 0 j n) = x (ix3 0 l n) :=
  View.ld_unit_apply_of _ _ _ _ _ _ fun k => by
    fin_cases k
    · rfl
    · exact h
    · show n.val = 0 + n.val; omega

/-- A payload whose entries in row `a` are known wherever the chunk meets column `l`. -/
theorem tile (off : ℕ) (w : Vec Ideal S512x256 .bf16) (v : EReal) (h : ∀ j : Fin 256, l.val = off + j.val → w (ix2 a j) = v) :
    View.TileAt (Val := Elt Ideal) (S := S512x512) (e := .bf16) (ix2 a l) ![0, off] ![512, 256] w v := by
  intro x hx
  obtain ⟨b, j, rfl⟩ : ∃ (b : Fin 512) (j : Fin 256), x = ix2 b j := ⟨x 0, x 1, eq_ix2 x⟩
  obtain rfl : a = b := Fin.ext ((hx 0).trans (Nat.zero_add _))
  exact h j (hx 1)

/-- A chunk of a branch's gradient, wherever it lies. -/
theorem br_tile (off : ℕ) (i1) (i2) :
    View.TileAt (Val := Elt Ideal) (S := S512x512) (e := .bf16) (ix2 a l) ![0, off] ![512, 256] (k0_pay7 x0 (View.ld x1 (Rect.unit (s := S1x512x2048) ![0, off, 0] ![1, 256, 2048] i1))
      (View.ld x2 (Rect.unit (s := S512x512) ![0, off] ![512, 256] i2)))
      (dBranch (dotB x0 x1 a l) (x2 (ix2 a l))) :=
  tile a l off _ _ fun j hl => by
    refine (br_chunk _ _ _ a j).trans ?_
    rw [ld_cols a l _ x2 j hl]
    exact congrArg (dBranch · _) (Finset.sum_congr rfl fun n _ => congrArg (_ * ·) (ld_rows l _ x1 j n hl))

/-- A chunk of a logit's gradient, wherever it lies. -/
theorem gt_tile (off : ℕ) (i1) (i2) :
    View.TileAt (Val := Elt Ideal) (S := S512x512) (e := .bf16) (ix2 a l) ![0, off] ![512, 256] (k0_pay10 (k0_pay9 x0 (View.ld x1 (Rect.unit (s := S1x512x2048) ![0, off, 0] ![1, 256, 2048] i1))
      (View.ld x2 (Rect.unit (s := S512x512) ![0, off] ![512, 256] i2)) (View.ld x4 (Rect.unit (s := S512x512) ![0, off] ![512, 256] i2))))
      (dLogit (dotB x0 x1 a l) (x4 (ix2 a l)) (x2 (ix2 a l))) :=
  tile a l off _ _ fun j hl => by
    refine (gt_chunk _ _ _ _ a j).trans ?_
    rw [ld_cols a l _ x2 j hl, ld_cols a l _ x4 j hl]
    exact congrArg (dLogit · _ _) (Finset.sum_congr rfl fun n _ => congrArg (_ * ·) (ld_rows l _ x1 j n hl))

end Chunks

section Blocks

variable (x0 : Vec Ideal S512x2048 .bf16) (x1 : Vec Ideal S1x512x2048 .bf16) (x2 x3 x4 x5 : Vec Ideal S512x512 .f32) (a : Fin 512) (l : Fin 512)

theorem o6 : out0_6 x0 x1 x2 x3 x4 x5 (ix2 a l) = dBranch (dotB x0 x1 a l) (x2 (ix2 a l)) := by
  have g := br_tile x0 x1 x2 a l
  unfold_out out0_6
  unfold r0_0 r0_1 r0_2 r0_3 r0_4
  simp only [View.ld_unit_zero (S := S512x2048) hz]
  exact View.canon_eq_of_allAt _ _ _ (cover0_6 _ _ _) (View.allAt_cons_unit _ _ _ _ _ (g 256 _ _) (View.allAt_cons_unit _ _ _ _ _ (g 0 _ _) (View.allAt_nil _ _)))

theorem o7 : out0_7 x0 x1 x2 x3 x4 x5 (ix2 a l) = dBranch (dotB x0 x1 a l) (x3 (ix2 a l)) := by
  have g := br_tile x0 x1 x3 a l
  unfold_out out0_7
  unfold r0_0 r0_1 r0_2 r0_3 r0_4
  simp only [View.ld_unit_zero (S := S512x2048) hz]
  exact View.canon_eq_of_allAt _ _ _ (cover0_7 _ _ _) (View.allAt_cons_unit _ _ _ _ _ (g 256 _ _) (View.allAt_cons_unit _ _ _ _ _ (g 0 _ _) (View.allAt_nil _ _)))

theorem o8 : out0_8 x0 x1 x2 x3 x4 x5 (ix2 a l) = dLogit (dotB x0 x1 a l) (x4 (ix2 a l)) (x2 (ix2 a l)) := by
  have g := gt_tile x0 x1 x2 x4 a l
  unfold_out out0_8
  unfold r0_0 r0_1 r0_2 r0_3 r0_4
  simp only [View.ld_unit_zero (S := S512x2048) hz]
  exact View.canon_eq_of_allAt _ _ _ (cover0_8 _ _ _) (View.allAt_cons_unit _ _ _ _ _ (g 256 _ _) (View.allAt_cons_unit _ _ _ _ _ (g 0 _ _) (View.allAt_nil _ _)))

theorem o9 : out0_9 x0 x1 x2 x3 x4 x5 (ix2 a l) = dLogit (dotB x0 x1 a l) (x5 (ix2 a l)) (x3 (ix2 a l)) := by
  have g := gt_tile x0 x1 x3 x5 a l
  unfold_out out0_9
  unfold r0_0 r0_1 r0_2 r0_3 r0_4
  simp only [View.ld_unit_zero (S := S512x2048) hz]
  exact View.canon_eq_of_allAt _ _ _ (cover0_9 _ _ _) (View.allAt_cons_unit _ _ _ _ _ (g 256 _ _) (View.allAt_cons_unit _ _ _ _ _ (g 0 _ _) (View.allAt_nil _ _)))

end Blocks

theorem idx : ∀ t : Fin cfg0.N, win0_0.index t = ![t.val / 4, 0] ∧ win0_1.index t = ![t.val % 4, 0, 0] ∧
    win0_2.index t = ![t.val / 4, 7 + t.val % 4] ∧ win0_3.index t = ![t.val / 4, 11 + t.val % 4] ∧
    win0_4.index t = ![t.val / 4, t.val % 4] ∧ win0_5.index t = ![t.val / 4, t.val % 4] :=
  (by decide +kernel : ∀ t : Fin grid0.N, _)

theorem oidx : ∀ t : Fin cfg0.N, win0_6.index t = ![t.val / 4, t.val % 4] ∧ win0_7.index t = ![t.val / 4, t.val % 4] ∧
    win0_8.index t = ![t.val / 4, t.val % 4] ∧ win0_9.index t = ![t.val / 4, t.val % 4] :=
  (by decide +kernel : ∀ t : Fin grid0.N, _)

variable (m : (ℓ : Loc nD τ sig) → Buf (Elt Ideal) ℓ) (c : Dev nD)

/-- The projection, whose columns from 3584 hold the gates' logits. -/
def P : Mat 2048 7680 := m ((c : Thread nD τ).loc main_arg0)
/-- The first branch. -/
def A : Mat 2048 2048 := m ((c : Thread nD τ).loc main_arg1)
/-- The second branch. -/
def B : Mat 2048 2048 := m ((c : Thread nD τ).loc main_arg2)
/-- The output weights. -/
def W : Mat 2048 2048 := m ((c : Thread nD τ).loc main_arg3)
/-- The gradient at the output. -/
def DX : Mat 2048 2048 := m ((c : Thread nD τ).loc main_arg4)

/-- The columns of a matrix from `o`. -/
def from_ (o : ℕ) (h : o + 2048 ≤ 7680) (p : Mat 2048 7680) : Mat 2048 2048 := fun i =>
  p (ix2 ⟨(i 0).val, (i 0).isLt⟩ ⟨o + (i 1).val, by have : (i 1).val < 2048 := (i 1).isLt; omega⟩)

/-- A branch's gradient, entry by entry. -/
def branchArr (g w dx : Mat 2048 2048) : Mat 2048 2048 := fun i => dBranch (Products.input (T := 2048) (K := 2048) (M := 2048) dx w i) (g i)

/-- A logit's gradient, entry by entry. -/
def logitArr (g b w dx : Mat 2048 2048) : Mat 2048 2048 := fun i => dLogit (Products.input (T := 2048) (K := 2048) (M := 2048) dx w i) (b i) (g i)

/-- The output gradient's block at point `t`. -/
def X0 (t : Fin cfg0.N) : Vec Ideal S512x2048 .bf16 := iblk m c 0 t
/-- The weights' block. -/
def X1 (t : Fin cfg0.N) : Vec Ideal S1x512x2048 .bf16 := iblk m c 1 t
/-- The first gate's logits' block. -/
def X2 (t : Fin cfg0.N) : Vec Ideal S512x512 .f32 := iblk m c 2 t
/-- The second gate's logits' block. -/
def X3 (t : Fin cfg0.N) : Vec Ideal S512x512 .f32 := iblk m c 3 t
/-- The first branch's block. -/
def X4 (t : Fin cfg0.N) : Vec Ideal S512x512 .f32 := iblk m c 4 t
/-- The second branch's block. -/
def X5 (t : Fin cfg0.N) : Vec Ideal S512x512 .f32 := iblk m c 5 t

theorem X0_apply (t : Fin cfg0.N) (a : Fin 512) (l : Fin 2048) : (X0 m c t (ix2 a l) : EReal) = DX m c (ix2 ⟨512 * (t.val / 4) + a.val, by have : t.val < 16 := lt_of_lt_of_eq t.isLt N_0; omega⟩ l) := by
  obtain ⟨e0, -, -, -, -, -⟩ := idx t
  unfold X0 DX
  blk_simp [iblk, V, e0]
  entry_read
  pointwise
  blk_ext [iblk, V, e0]

theorem X1_apply (t : Fin cfg0.N) (l : Fin 512) (k : Fin 2048) : (X1 m c t (ix3 0 l k) : EReal) = W m c (ix2 ⟨t.val % 4 * 512 + l.val, by omega⟩ k) := by
  obtain ⟨-, e1, -, -, -, -⟩ := idx t
  unfold X1 W
  blk_simp [iblk, V, e1]
  entry_read
  pointwise
  blk_ext [iblk, V, e1]

theorem X2_apply (t : Fin cfg0.N) (a : Fin 512) (l : Fin 512) : (X2 m c t (ix2 a l) : EReal) = from_ 3584 (by decide) (P m c) (ix2 ⟨512 * (t.val / 4) + a.val, by have : t.val < 16 := lt_of_lt_of_eq t.isLt N_0; omega⟩ ⟨t.val % 4 * 512 + l.val, by omega⟩) := by
  obtain ⟨-, -, e2, -, -, -⟩ := idx t
  unfold X2 from_ P
  blk_simp [iblk, V, e2]
  entry_read
  pointwise
  blk_ext [iblk, V, e2]

theorem X3_apply (t : Fin cfg0.N) (a : Fin 512) (l : Fin 512) : (X3 m c t (ix2 a l) : EReal) = from_ 5632 (by decide) (P m c) (ix2 ⟨512 * (t.val / 4) + a.val, by have : t.val < 16 := lt_of_lt_of_eq t.isLt N_0; omega⟩ ⟨t.val % 4 * 512 + l.val, by omega⟩) := by
  obtain ⟨-, -, -, e3, -, -⟩ := idx t
  unfold X3 from_ P
  blk_simp [iblk, V, e3]
  entry_read
  pointwise
  blk_ext [iblk, V, e3]

theorem X4_apply (t : Fin cfg0.N) (a : Fin 512) (l : Fin 512) : (X4 m c t (ix2 a l) : EReal) = A m c (ix2 ⟨512 * (t.val / 4) + a.val, by have : t.val < 16 := lt_of_lt_of_eq t.isLt N_0; omega⟩ ⟨t.val % 4 * 512 + l.val, by omega⟩) := by
  obtain ⟨-, -, -, -, e4, -⟩ := idx t
  unfold X4 A
  blk_simp [iblk, V, e4]
  entry_read
  pointwise
  blk_ext [iblk, V, e4]

theorem X5_apply (t : Fin cfg0.N) (a : Fin 512) (l : Fin 512) : (X5 m c t (ix2 a l) : EReal) = B m c (ix2 ⟨512 * (t.val / 4) + a.val, by have : t.val < 16 := lt_of_lt_of_eq t.isLt N_0; omega⟩ ⟨t.val % 4 * 512 + l.val, by omega⟩) := by
  obtain ⟨-, -, -, -, -, e5⟩ := idx t
  unfold X5 B
  blk_simp [iblk, V, e5]
  entry_read
  pointwise
  blk_ext [iblk, V, e5]

theorem dot_apply (t : Fin cfg0.N) (a : Fin 512) (l : Fin 512) :
    dotB (X0 m c t) (X1 m c t) a l = Products.input (T := 2048) (K := 2048) (M := 2048) (DX m c) (W m c) (ix2 ⟨512 * (t.val / 4) + a.val, by have : t.val < 16 := lt_of_lt_of_eq t.isLt N_0; omega⟩ ⟨t.val % 4 * 512 + l.val, by omega⟩) :=
  Finset.sum_congr rfl fun k _ => congrArg₂ (· * ·) (X0_apply m c t a k) (X1_apply m c t l k)

theorem arrAt6 : (dats m 0 c).arrAt 6 cfg0.N = branchArr (from_ 3584 (by decide) (P m c)) (W m c) (DX m c) := by
  refine (dats m 0 c).arrAt_eq_of_covers 6 _ (by decide +kernel) fun t hf y => ?_
  obtain ⟨e, -, -, -⟩ := oidx t
  obtain ⟨a, b, rfl⟩ : ∃ (a : Fin 512) (b : Fin 512), y = ix2 a b := ⟨y 0, y 1, eq_ix2 y⟩
  blk_simp [e]
  rw [after0_6]
  refine (o6 (X0 m c t) (X1 m c t) (X2 m c t) (X3 m c t) (X4 m c t) (X5 m c t) a b).trans ?_
  rw [dot_apply, X2_apply]
  refine (show branchArr (from_ 3584 (by decide) (P m c)) (W m c) (DX m c) (ix2 ⟨512 * (t.val / 4) + a.val, by have : t.val < 16 := lt_of_lt_of_eq t.isLt N_0; omega⟩ ⟨t.val % 4 * 512 + b.val, by omega⟩) = _ from ?_)
  blk_ext [e]

theorem arrAt7 : (dats m 0 c).arrAt 7 cfg0.N = branchArr (from_ 5632 (by decide) (P m c)) (W m c) (DX m c) := by
  refine (dats m 0 c).arrAt_eq_of_covers 7 _ (by decide +kernel) fun t hf y => ?_
  obtain ⟨-, e, -, -⟩ := oidx t
  obtain ⟨a, b, rfl⟩ : ∃ (a : Fin 512) (b : Fin 512), y = ix2 a b := ⟨y 0, y 1, eq_ix2 y⟩
  blk_simp [e]
  rw [after0_7]
  refine (o7 (X0 m c t) (X1 m c t) (X2 m c t) (X3 m c t) (X4 m c t) (X5 m c t) a b).trans ?_
  rw [dot_apply, X3_apply]
  refine (show branchArr (from_ 5632 (by decide) (P m c)) (W m c) (DX m c) (ix2 ⟨512 * (t.val / 4) + a.val, by have : t.val < 16 := lt_of_lt_of_eq t.isLt N_0; omega⟩ ⟨t.val % 4 * 512 + b.val, by omega⟩) = _ from ?_)
  blk_ext [e]

theorem arrAt8 : (dats m 0 c).arrAt 8 cfg0.N = logitArr (from_ 3584 (by decide) (P m c)) (A m c) (W m c) (DX m c) := by
  refine (dats m 0 c).arrAt_eq_of_covers 8 _ (by decide +kernel) fun t hf y => ?_
  obtain ⟨-, -, e, -⟩ := oidx t
  obtain ⟨a, b, rfl⟩ : ∃ (a : Fin 512) (b : Fin 512), y = ix2 a b := ⟨y 0, y 1, eq_ix2 y⟩
  blk_simp [e]
  rw [after0_8]
  refine (o8 (X0 m c t) (X1 m c t) (X2 m c t) (X3 m c t) (X4 m c t) (X5 m c t) a b).trans ?_
  rw [dot_apply, X2_apply, X4_apply]
  refine (show logitArr (from_ 3584 (by decide) (P m c)) (A m c) (W m c) (DX m c) (ix2 ⟨512 * (t.val / 4) + a.val, by have : t.val < 16 := lt_of_lt_of_eq t.isLt N_0; omega⟩ ⟨t.val % 4 * 512 + b.val, by omega⟩) = _ from ?_)
  blk_ext [e]

theorem arrAt9 : (dats m 0 c).arrAt 9 cfg0.N = logitArr (from_ 5632 (by decide) (P m c)) (B m c) (W m c) (DX m c) := by
  refine (dats m 0 c).arrAt_eq_of_covers 9 _ (by decide +kernel) fun t hf y => ?_
  obtain ⟨-, -, -, e⟩ := oidx t
  obtain ⟨a, b, rfl⟩ : ∃ (a : Fin 512) (b : Fin 512), y = ix2 a b := ⟨y 0, y 1, eq_ix2 y⟩
  blk_simp [e]
  rw [after0_9]
  refine (o9 (X0 m c t) (X1 m c t) (X2 m c t) (X3 m c t) (X4 m c t) (X5 m c t) a b).trans ?_
  rw [dot_apply, X3_apply, X5_apply]
  refine (show logitArr (from_ 5632 (by decide) (P m c)) (B m c) (W m c) (DX m c) (ix2 ⟨512 * (t.val / 4) + a.val, by have : t.val < 16 := lt_of_lt_of_eq t.isLt N_0; omega⟩ ⟨t.val % 4 * 512 + b.val, by omega⟩) = _ from ?_)
  blk_ext [e]

end Kernel

section Reference

open Cert.OutRefIdeal Cert.OutRefIdeal.Gen Cert.Products Cert.Gates Idealize.ShloMosaic Idealize.ShloMosaic.TcCoe Idealize.SL.Sem

/-- The reference's product is the same sum. -/
theorem ref (w dy : FVec Ideal S2048x2048 .f32) :
    (Host.dotGeneral dot_S2048x2048_S2048x2048_S2048x2048_1_1_0_0_n_n none dy w : FVec Ideal S2048x2048 .f32) =
      Products.input (T := 2048) (K := 2048) (M := 2048) dy w := by
  funext y
  obtain ⟨a, b, rfl⟩ : ∃ (a : Fin 2048) (b : Fin 2048), y = ix2 a b := ⟨y 0, y 1, eq_ix2 y⟩
  unfold Products.input
  pointwise

variable (p : FVec Ideal S2048x7680 .f32) (x y w dx : FVec Ideal S2048x2048 .f32)

/-- The reference's gates. -/
def gates : FVec Ideal S2048x4096 .f32 := Host.divf (broadcastInDim S2048x4096 ![] bcast_S_S2048x4096 (constant S_ .f32 0x3F800000#32)) (addf (broadcastInDim S2048x4096 ![] bcast_S_S2048x4096 (constant S_ .f32 0x3F800000#32)) (Host.exp (Host.negf (extractStridedSlice S2048x4096 ![0, 3584] p slices_S2048x7680_S2048x4096_0_3584))))

/-- The reference's gradient at both gates' logits. -/
def logits : FVec Ideal S2048x4096 .f32 := mulf (addf (pad S2048x4096 ![0, 2048] ![0, 0] ![0, 0] (mulf (Host.dotGeneral dot_S2048x2048_S2048x2048_S2048x2048_1_1_0_0_n_n none dx w) y) (constant S_ .f32 0x00000000#32) pads_S2048x2048_S2048x4096_000_204800 h_S_) (pad S2048x4096 ![0, 0] ![0, 2048] ![0, 0] (mulf (Host.dotGeneral dot_S2048x2048_S2048x2048_S2048x2048_1_1_0_0_n_n none dx w) x) (constant S_ .f32 0x00000000#32) pads_S2048x2048_S2048x4096_000_020480 h_S_)) (mulf (gates p) (subf (broadcastInDim S2048x4096 ![] bcast_S_S2048x4096 (constant S_ .f32 0x3F800000#32)) (gates p)))

theorem gates_apply (a : Fin 2048) (b : Fin 4096) : (gates p (ix2 a b) : EReal) = sg (p (ix2 a ⟨3584 + b.val, by omega⟩)) := by
  unfold gates
  pointwise
  simp only [sg, zero_sub]

theorem logits_low (a : Fin 2048) (b : Fin 2048) : (logits p x y w dx (ix2 a ⟨b.val, by omega⟩) : EReal) =
    dLogit (Products.input (T := 2048) (K := 2048) (M := 2048) dx w (ix2 a b)) (x (ix2 a b)) (p (ix2 a ⟨3584 + b.val, by omega⟩)) := by
  unfold logits
  rw [ref]
  pointwise
  rw [dif_neg (fun h => h.1), zero_add, gates_apply]
  unfold dLogit
  rw [← mul_assoc]

theorem logits_high (a : Fin 2048) (b : Fin 2048) : (logits p x y w dx (ix2 a ⟨2048 + b.val, by omega⟩) : EReal) =
    dLogit (Products.input (T := 2048) (K := 2048) (M := 2048) dx w (ix2 a b)) (y (ix2 a b)) (p (ix2 a ⟨5632 + b.val, by omega⟩)) := by
  unfold logits
  rw [ref]
  pointwise
  rw [gates_apply]
  unfold dLogit
  rw [← mul_assoc]
  rw [show (⟨3584 + (2048 + b.val), by omega⟩ : Fin 7680) = ⟨5632 + b.val, by omega⟩ from Fin.ext (by dsimp only; omega)]

theorem r6 : (truncf .bf16 (mulf (extractStridedSlice S2048x2048 ![0, 0] (gates p) slices_S2048x4096_S2048x2048_0_0) (Host.dotGeneral dot_S2048x2048_S2048x2048_S2048x2048_1_1_0_0_n_n none dx w)) bitsLt_bf16_f32 : FVec Ideal S2048x2048 .bf16)
    = branchArr (from_ 3584 (by decide) p) w dx := by
  rw [ref]
  funext i
  obtain ⟨a, b, rfl⟩ : ∃ (a : Fin 2048) (b : Fin 2048), i = ix2 a b := ⟨i 0, i 1, eq_ix2 i⟩
  pointwise
  rw [gates_apply, mul_comm]
  rfl

theorem r7 : (truncf .bf16 (mulf (extractStridedSlice S2048x2048 ![0, 2048] (gates p) slices_S2048x4096_S2048x2048_0_2048) (Host.dotGeneral dot_S2048x2048_S2048x2048_S2048x2048_1_1_0_0_n_n none dx w)) bitsLt_bf16_f32 : FVec Ideal S2048x2048 .bf16)
    = branchArr (from_ 5632 (by decide) p) w dx := by
  rw [ref]
  funext i
  obtain ⟨a, b, rfl⟩ : ∃ (a : Fin 2048) (b : Fin 2048), i = ix2 a b := ⟨i 0, i 1, eq_ix2 i⟩
  pointwise
  rw [gates_apply, mul_comm]
  rw [show (⟨3584 + (2048 + b.val), by omega⟩ : Fin 7680) = ⟨5632 + b.val, by omega⟩ from Fin.ext (by dsimp only; omega)]
  rfl

theorem r8 : (truncf .bf16 (extractStridedSlice S2048x2048 ![0, 0] (logits p x y w dx) slices_S2048x4096_S2048x2048_0_0) bitsLt_bf16_f32 : FVec Ideal S2048x2048 .bf16)
    = logitArr (from_ 3584 (by decide) p) x w dx := by
  funext i
  obtain ⟨a, b, rfl⟩ : ∃ (a : Fin 2048) (b : Fin 2048), i = ix2 a b := ⟨i 0, i 1, eq_ix2 i⟩
  pointwise
  exact logits_low p x y w dx a b

theorem r9 : (truncf .bf16 (extractStridedSlice S2048x2048 ![0, 2048] (logits p x y w dx) slices_S2048x4096_S2048x2048_0_2048) bitsLt_bf16_f32 : FVec Ideal S2048x2048 .bf16)
    = logitArr (from_ 5632 (by decide) p) y w dx := by
  funext i
  obtain ⟨a, b, rfl⟩ : ∃ (a : Fin 2048) (b : Fin 2048), i = ix2 a b := ⟨i 0, i 1, eq_ix2 i⟩
  pointwise
  exact logits_high p x y w dx a b

end Reference

open Idealize.ShloMosaic Idealize.ShloMosaic.TcCoe Idealize.SL.Sem

/-- The reference's frame: it has no semaphores, and its run keeps its arguments. -/
theorem ref_frame : Cert.quiescent_OutRefIdeal (hOutRefIdeal := Cert.OutRefIdeal.Gen.facts) := fun m ρ _ =>
  (θ_run _ _ _).mono (fun r h => ⟨fun c => (h c).2.2.2.2, sem_eq_zero_of_no_sems (by decide) _⟩) (Cert.OutRefIdeal.Value.run m ρ)

/-- The kernel's four gradients are the reference's. -/
theorem algebraic : Cert.algebraic_OutIdeal_OutRefIdeal (hOutIdeal := Cert.OutIdeal.Gen.facts) (hOutRefIdeal := Cert.OutRefIdeal.Gen.facts) := by
  intro m ρ m' ρ' _ hm
  refine ⟨fun c => branchArr (from_ 3584 (by decide) (P m c)) (W m c) (DX m c), fun c => branchArr (from_ 5632 (by decide) (P m c)) (W m c) (DX m c),
    fun c => logitArr (from_ 3584 (by decide) (P m c)) (A m c) (W m c) (DX m c), fun c => logitArr (from_ 5632 (by decide) (P m c)) (B m c) (W m c) (DX m c), ?_, ?_⟩
  · exact (θ_run _ _ _).mono (fun r h c => ⟨(h c).1.trans (arrAt6 m c), (h c).2.1.trans (arrAt7 m c), (h c).2.2.1.trans (arrAt8 m c),
      (h c).2.2.2.1.trans (arrAt9 m c), (h c).2.2.2.2⟩) (Cert.OutIdeal.Value.run_blocks m ρ)
  · refine (θ_run _ _ _).mono (fun r h c => ?_) (Cert.OutRefIdeal.Value.run m' ρ')
    obtain ⟨e0, e1, e2, e3, e4⟩ := hm c
    have h := h c
    rw [e0, e1, e2, e3, e4] at h
    exact ⟨h.1.trans (r6 _ _ _), h.2.1.trans (r7 _ _ _), h.2.2.1.trans (r8 _ _ _ _ _), h.2.2.2.1.trans (r9 _ _ _ _ _), by rw [e0, e1, e2, e3, e4]; exact h.2.2.2.2⟩

end Cert.OutVal

end
-- ==== Proof.RmsVal.lean ====
/- The gradient of the RMS norm, which each layer's backward pass ends in: the residual's gradient plus the norm's at the
   input, row by row, and the gradient at the scale, carried over the blocks of rows. -/
module

public import proofs.«01_k».proof.Defs
public import proofs.«01_k».proof.Proof.Gen.RmsIdeal.Value
public import proofs.«01_k».proof.Proof.Gen.RmsRefIdeal.Run
public import proofs.«01_k».proof.Proof.Gen.Pre_rms_finite
public import proofs.«01_k».proof.Proof.Products
public import proofs.«01_k».proof.Proof.Gates
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.RmsVal

section Rows

open Cert.Lift

/-- The mean square of a row, with the norm's small constant. -/
def ms (x : Fin 2048 → ℝ) : ℝ := (∑ k, x k * x k) / 2048 + eps
/-- Its reciprocal root. -/
def inv (x : Fin 2048 → ℝ) : ℝ := (Real.sqrt (ms x))⁻¹
/-- The gradient at a row's entry: the residual's `e`, and that of the norm with scale `g` from the gradient `d`. -/
def dRow (x g d e : Fin 2048 → ℝ) (b : Fin 2048) : ℝ := e b + inv x * (d b * g b - x b * inv x * ((∑ k, d k * g k * (x k * inv x)) / 2048))

theorem ms_pos (x : Fin 2048 → ℝ) : 0 < ms x := by
  have h : 0 ≤ ∑ k, x k * x k := Finset.sum_nonneg fun k _ => mul_self_nonneg _
  have := eps_pos
  unfold ms; positivity

/-- The power of the root that differentiating it leaves. -/
theorem inv_div (x : Fin 2048 → ℝ) : inv x / ms x = inv x * (inv x * inv x) := by
  have h : inv x * inv x = (ms x)⁻¹ := by
    unfold inv
    rw [← mul_inv, Real.mul_self_sqrt (ms_pos x).le]
  rw [h, div_eq_mul_inv]

/-- The row's gradient as differentiating the norm's lines writes it. -/
theorem dRow_eq (x g d e : Fin 2048 → ℝ) (b : Fin 2048) :
    e b + (d b * g b * inv x + x b * ((∑ k, x k * (d k * g k)) * (-(1 / 2) * (inv x / ms x)) / 2048) +
      (∑ k, x k * (d k * g k)) * (-(1 / 2) * (inv x / ms x)) / 2048 * x b) = dRow x g d e b := by
  have h : ∑ k, d k * g k * (x k * inv x) = (∑ k, x k * (d k * g k)) * inv x := by
    rw [Finset.sum_mul]; exact Finset.sum_congr rfl fun k _ => by ring
  unfold dRow
  rw [inv_div, h]
  ring

theorem bits_2048 : Idealize.ShloMosaic.Ideal.ofBits .f32 0x45000000#32 = ((2048 : ℝ) : EReal) := by
  simp [Idealize.ShloMosaic.Ideal.ofBits, Idealize.ShloMosaic.Ideal.ieee, -EReal.coe_mul]; norm_num

/-- The reciprocal root as the programs write it. -/
theorem inv_coe (x : Fin 2048 → ℝ) : Idealize.ShloMosaic.Ideal.rsqrt (Idealize.ShloMosaic.Ideal.div ((∑ k, x k * x k : ℝ) : EReal)
    (Idealize.ShloMosaic.Ideal.ofBits .f32 0x45000000#32) + Idealize.ShloMosaic.Ideal.ofBits .f32 0x358637BD#32) = ((inv x : ℝ) : EReal) := by
  rw [bits_2048, bits_eps, div_coe _ _ (by norm_num), ← EReal.coe_add]
  exact rsqrt_coe _ (ms_pos x)

theorem ms_coe (x : Fin 2048 → ℝ) : (((∑ k, x k * x k) / 2048 : ℝ) : EReal) + Idealize.ShloMosaic.Ideal.ofBits .f32 0x358637BD#32 = ((ms x : ℝ) : EReal) := by
  rw [bits_eps, ← EReal.coe_add]
  rfl

theorem rsqrt_ms (x : Fin 2048 → ℝ) : Idealize.ShloMosaic.Ideal.rsqrt ((ms x : ℝ) : EReal) = ((inv x : ℝ) : EReal) := rsqrt_coe _ (ms_pos x)

theorem div_ms (a : ℝ) (x : Fin 2048 → ℝ) : Idealize.ShloMosaic.Ideal.div (a : EReal) ((ms x : ℝ) : EReal) = ((a / ms x : ℝ) : EReal) :=
  div_coe _ _ (ms_pos x).ne'

theorem div_2048 (a : ℝ) : Idealize.ShloMosaic.Ideal.div (a : EReal) (Idealize.ShloMosaic.Ideal.ofBits .f32 0x45000000#32) = ((a / 2048 : ℝ) : EReal) := by
  rw [bits_2048, div_coe _ _ (by norm_num)]

variable (x d : Fin 2048 → Fin 2048 → ℝ) (b : Fin 2048)

/-- What row `r` adds to the scale's gradient. -/
def scaleRow (r : ℕ) : ℝ := if h : r < 2048 then d ⟨r, h⟩ b * (x ⟨r, h⟩ b * inv (x ⟨r, h⟩)) else 0
/-- The scale's gradient over the first `n` blocks of rows. -/
def scaleTo (n : ℕ) : ℝ := ∑ r ∈ Finset.range (256 * n), scaleRow x d b r

theorem scaleTo_succ (n : ℕ) : scaleTo x d b (n + 1) = scaleTo x d b n + ∑ a : Fin 256, scaleRow x d b (256 * n + a.val) := by
  unfold scaleTo
  rw [mul_add, mul_one, Finset.sum_range_add, ← Finset.sum_range (fun a => scaleRow x d b (256 * n + a))]

theorem scaleTo_all : scaleTo x d b 8 = ∑ a : Fin 2048, d a b * (x a b * inv (x a)) := by
  unfold scaleTo
  rw [Finset.sum_range]
  exact Finset.sum_congr rfl fun a _ => dif_pos a.isLt

end Rows

section Kernel

open Cert.RmsIdeal Cert.RmsIdeal.Gen Cert.Products Cert.Lift Idealize.ShloMosaic Idealize.ShloMosaic.TcCoe Idealize.SL.Sem

theorem hz : (![0, 0] : Fin 2 → ℕ) = fun _ => 0 := by decide

section Pays

variable {v0 v11 v16 : Vec Ideal S256x2048 .f32} {v12 : Vec Ideal S1x2048 .f32} {a : Fin 256} {x g d e : Fin 2048 → ℝ}

theorem pay2 (hx : ∀ k, (v0 (ix2 a k) : EReal) = x k) : (k0_pay2 v0 (ix2 a 0) : EReal) = inv x := by
  pointwise [k0_pay2]
  simp only [hx, ← EReal.coe_mul, coe_sum]
  exact inv_coe x

theorem pay3 (hx : ∀ k, (v0 (ix2 a k) : EReal) = x k) (b : Fin 2048) : (k0_pay3 v0 (ix2 a b) : EReal) = ((x b * inv x : ℝ) : EReal) := by
  pointwise [k0_pay3]
  rw [pay2 hx, hx, EReal.coe_mul]

theorem pay4 (hx : ∀ k, (v0 (ix2 a k) : EReal) = x k) (hd : ∀ k, (v11 (ix2 a k) : EReal) = d k) (hg : ∀ k, (v12 (ix2 0 k) : EReal) = g k)
    (he : ∀ k, (v16 (ix2 a k) : EReal) = e k) (b : Fin 2048) : (k0_pay4 v0 v11 v12 v16 (ix2 a b) : EReal) = dRow x g d e b := by
  pointwise [k0_pay4]
  simp only [pay2 hx, pay3 hx, hd, hg, he, ← EReal.coe_mul, coe_sum, bits_2048, div_coe _ _ (show (2048 : ℝ) ≠ 0 by norm_num), ← EReal.coe_sub, ← EReal.coe_add]
  rfl

end Pays

theorem pay1 (v10 v11 : Vec Ideal S256x2048 .f32) (v34 : Vec Ideal S1x2048 .f32) (b : Fin 2048) :
    (k0_pay1 v10 v11 v34 (ix2 0 b) : EReal) = (v34 (ix2 0 b) : EReal) + ∑ a : Fin 256, ((v11 (ix2 a b) : EReal) * v10 (ix2 a b) : EReal) := by
  pointwise [k0_pay1]

theorem pay6 (b : Fin 2048) : (k0_pay6 (F := Ideal) (ix2 0 b) : EReal) = 0 := by
  pointwise [k0_pay6]

/-! What each case of the body leaves in the three outputs. -/

section Blocks

variable (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole)
    (a6 : Memref sig .tc .vmem S256x2048 .f32) (h6 : a6.IsWhole) (a7 : Memref sig .tc .vmem S256x2048 .bf16) (h7 : a7.IsWhole) (a8 : Memref sig .tc .vmem S1x2048 .f32) (h8 : a8.IsWhole)
    (x0 x1 : Vec Ideal S256x2048 .f32) (x2 : Vec Ideal S1x2048 .f32) (x3 : Vec Ideal S256x2048 .f32)

theorem oA4 (hc : cond0_0 i) : out0_A_4 c i a1 h1 a2 h2 a3 h3 a4 h4 a6 h6 a7 h7 a8 h8 hc x0 x1 x2 x3 = k0_pay4 x1 x0 x2 x3 := by
  unfold out0_A_4
  rw [View.read_writes_eq_canon _ _ _ (cover0_A_4 c i a1 h1 a2 h2 a3 h3 a4 h4 a6 h6 a7 h7 a8 h8 hc x0 x1 x2 x3)]
  unfold kernelRun0_A
  dsimp only
  sl_unfold_words
  rw [View.canon_unit_zero (S := S256x2048) hz]
  simp only [View.readAt_eq_ld, h1.read_unread, h2.read_unread, h3.read_unread, h4.read_unread, h8.read_unread,
    View.ld_unit_zero (S := S256x2048) hz, View.ld_unit_zero (S := S1x2048) hz]
  try rfl

theorem oA5 (hc : cond0_0 i) : out0_A_5 c i a1 h1 a2 h2 a3 h3 a4 h4 a6 h6 a7 h7 a8 h8 hc x0 x1 x2 x3 = k0_pay5 x1 x0 x2 x3 := by
  unfold out0_A_5
  rw [View.read_writes_eq_canon _ _ _ (cover0_A_5 c i a1 h1 a2 h2 a3 h3 a4 h4 a6 h6 a7 h7 a8 h8 hc x0 x1 x2 x3)]
  unfold kernelRun0_A
  dsimp only
  sl_unfold_words
  rw [View.canon_unit_zero (S := S256x2048) hz]
  simp only [View.readAt_eq_ld, h1.read_unread, h2.read_unread, h3.read_unread, h4.read_unread, h8.read_unread,
    View.ld_unit_zero (S := S256x2048) hz, View.ld_unit_zero (S := S1x2048) hz]
  try rfl

theorem oA6 (hc : cond0_0 i) : out0_A_6 c i a1 h1 a2 h2 a3 h3 a4 h4 a6 h6 a7 h7 a8 h8 hc x0 x1 x2 x3 = k0_pay1 (k0_pay3 x1) x0 (k0_pay6 (F := Ideal)) := by
  unfold out0_A_6
  rw [View.read_writes_eq_canon _ _ _ (cover0_A_6 c i a1 h1 a2 h2 a3 h3 a4 h4 a6 h6 a7 h7 a8 h8 hc x0 x1 x2 x3)]
  unfold kernelRun0_A
  dsimp only
  sl_unfold_words
  rw [View.canon_cons_unit_zero (S := S1x2048) hz]
  simp only [View.readCov_cons_unit_lit' (S := S1x2048) _ _ _ _ _ (congrFun hz) (congrFun hz), View.readAt_eq_ld, h1.read_unread, h2.read_unread, h3.read_unread, h4.read_unread, h8.read_unread,
    View.ld_unit_zero (S := S256x2048) hz, View.ld_unit_zero (S := S1x2048) hz]
  try rfl

theorem oB4 (hc : ¬cond0_0 i) (xo : Vec Ideal S1x2048 .f32) : out0_B_4 c i a1 h1 a2 h2 a3 h3 a4 h4 a6 h6 a7 h7 a8 h8 hc x0 x1 x2 x3 xo = k0_pay4 x1 x0 x2 x3 := by
  unfold out0_B_4
  rw [View.read_writes_eq_canon _ _ _ (cover0_B_4 c i a1 h1 a2 h2 a3 h3 a4 h4 a6 h6 a7 h7 a8 h8 hc x0 x1 x2 x3 xo)]
  unfold kernelRun0_B
  dsimp only
  sl_unfold_words
  rw [View.canon_unit_zero (S := S256x2048) hz]
  simp only [View.readAt_eq_ld, h1.read_unread, h2.read_unread, h3.read_unread, h4.read_unread, h8.read_unread,
    View.ld_unit_zero (S := S256x2048) hz, View.ld_unit_zero (S := S1x2048) hz]
  try rfl

theorem oB5 (hc : ¬cond0_0 i) (xo : Vec Ideal S1x2048 .f32) : out0_B_5 c i a1 h1 a2 h2 a3 h3 a4 h4 a6 h6 a7 h7 a8 h8 hc x0 x1 x2 x3 xo = k0_pay5 x1 x0 x2 x3 := by
  unfold out0_B_5
  rw [View.read_writes_eq_canon _ _ _ (cover0_B_5 c i a1 h1 a2 h2 a3 h3 a4 h4 a6 h6 a7 h7 a8 h8 hc x0 x1 x2 x3 xo)]
  unfold kernelRun0_B
  dsimp only
  sl_unfold_words
  rw [View.canon_unit_zero (S := S256x2048) hz]
  simp only [View.readAt_eq_ld, h1.read_unread, h2.read_unread, h3.read_unread, h4.read_unread, h8.read_unread,
    View.ld_unit_zero (S := S256x2048) hz, View.ld_unit_zero (S := S1x2048) hz]
  try rfl

theorem oB6 (hc : ¬cond0_0 i) (xo : Vec Ideal S1x2048 .f32) : out0_B_6 c i a1 h1 a2 h2 a3 h3 a4 h4 a6 h6 a7 h7 a8 h8 hc x0 x1 x2 x3 xo = k0_pay1 (k0_pay3 x1) x0 xo := by
  unfold out0_B_6
  rw [View.read_writes_eq_canon _ _ _ (cover0_B_6 c i a1 h1 a2 h2 a3 h3 a4 h4 a6 h6 a7 h7 a8 h8 hc x0 x1 x2 x3 xo)]
  unfold kernelRun0_B
  dsimp only
  sl_unfold_words
  rw [View.canon_unit_zero (S := S1x2048) hz]
  simp only [View.readAt_eq_ld, h1.read_unread, h2.read_unread, h3.read_unread, h4.read_unread, h8.read_unread,
    View.ld_unit_zero (S := S256x2048) hz, View.ld_unit_zero (S := S1x2048) hz]
  try rfl

end Blocks

theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (c : Dev nD)

/-- The layer's input. -/
def X : Mat 2048 2048 := m ((c : Thread nD τ).loc main_arg0)
/-- The norm's scale. -/
def G : Vec Ideal S2048 .f32 := m ((c : Thread nD τ).loc main_arg1)
/-- The gradient at the norm's output. -/
def D : Mat 2048 2048 := m ((c : Thread nD τ).loc main_arg2)
/-- The residual's gradient. -/
def E : Mat 2048 2048 := m ((c : Thread nD τ).loc main_arg3)

/-- The real entries of an argument. -/
def re (M : Mat 2048 2048) (a k : Fin 2048) : ℝ := EReal.toReal (M (ix2 a k))
def reV (v : Vec Ideal S2048 .f32) (k : Fin 2048) : ℝ := EReal.toReal (v (ix1 k))

/-- The output gradient's block at point `t`. -/
def X0 (t : Fin cfg0.N) : Vec Ideal S256x2048 .f32 := iblk m c 0 t
/-- The input's block. -/
def X1 (t : Fin cfg0.N) : Vec Ideal S256x2048 .f32 := iblk m c 1 t
/-- The scale's block. -/
def X2 (t : Fin cfg0.N) : Vec Ideal S1x2048 .f32 := iblk m c 2 t
/-- The residual's block. -/
def X3 (t : Fin cfg0.N) : Vec Ideal S256x2048 .f32 := iblk m c 3 t

/-- The row of the array that row `a` of block `t` is. -/
def row (t : Fin cfg0.N) (a : Fin 256) : Fin 2048 := ⟨256 * t.val + a.val, by have := t.isLt; have : cfg0.N = 8 := N_0; omega⟩

theorem X0_apply (t : Fin cfg0.N) (a : Fin 256) (k : Fin 2048) : (X0 m c t (ix2 a k) : EReal) = D m c (ix2 (row t a) k) := by
  obtain ⟨e, -, -, -, -, -, -⟩ := idx t
  unfold X0 D row
  blk_simp [iblk, V, e]
  entry_read
  blk_ext [iblk, V, e]

theorem X1_apply (t : Fin cfg0.N) (a : Fin 256) (k : Fin 2048) : (X1 m c t (ix2 a k) : EReal) = X m c (ix2 (row t a) k) := by
  obtain ⟨-, e, -, -, -, -, -⟩ := idx t
  unfold X1 X row
  blk_simp [iblk, V, e]
  entry_read
  blk_ext [iblk, V, e]

theorem X3_apply (t : Fin cfg0.N) (a : Fin 256) (k : Fin 2048) : (X3 m c t (ix2 a k) : EReal) = E m c (ix2 (row t a) k) := by
  obtain ⟨-, -, -, e, -, -, -⟩ := idx t
  unfold X3 E row
  blk_simp [iblk, V, e]
  entry_read
  blk_ext [iblk, V, e]

theorem X2_apply (t : Fin cfg0.N) (k : Fin 2048) : (X2 m c t (ix2 0 k) : EReal) = G m c (ix1 k) := by
  obtain ⟨-, -, e, -, -, -, -⟩ := idx t
  unfold X2 G
  blk_simp [iblk, V, e]
  entry_read
  pointwise
  blk_ext [iblk, V, e]

/-- The three gradients, entry by entry. -/
def dxArr (x : Mat 2048 2048) (g : Vec Ideal S2048 .f32) (d e : Mat 2048 2048) : Mat 2048 2048 := fun i =>
  ((dRow (re x ⟨(i 0).val, (i 0).isLt⟩) (reV g) (re d ⟨(i 0).val, (i 0).isLt⟩) (re e ⟨(i 0).val, (i 0).isLt⟩) ⟨(i 1).val, (i 1).isLt⟩ : ℝ) : EReal)
def dgArr (x d : Mat 2048 2048) : Vec Ideal S1x2048 .f32 := fun i =>
  ((∑ a : Fin 2048, re d a ⟨(i 1).val, (i 1).isLt⟩ * (re x a ⟨(i 1).val, (i 1).isLt⟩ * inv (re x a)) : ℝ) : EReal)

theorem block4 (t : Fin cfg0.N) : (outsAt0 m c t.val t.isLt).1 = k0_pay4 (X1 m c t) (X0 m c t) (X2 m c t) (X3 m c t) := by
  by_cases h : t.val % 8 = 0
  · rw [outsAt0_A m c t h, oA4]; rfl
  · rw [outsAt0_B m c t h, oB4]; rfl

theorem block5 (t : Fin cfg0.N) : (outsAt0 m c t.val t.isLt).2.1 = k0_pay5 (X1 m c t) (X0 m c t) (X2 m c t) (X3 m c t) := by
  by_cases h : t.val % 8 = 0
  · rw [outsAt0_A m c t h, oA5]; rfl
  · rw [outsAt0_B m c t h, oB5]; rfl

theorem first6 (t : Fin cfg0.N) (h : t.val % 8 = 0) :
    (outsAt0 m c t.val t.isLt).2.2 = k0_pay1 (k0_pay3 (X1 m c t)) (X0 m c t) (k0_pay6 (F := Ideal)) := by rw [outsAt0_A m c t h, oA6]; rfl

theorem next6 (t : Fin cfg0.N) (h : ¬t.val % 8 = 0) : (outsAt0 m c t.val t.isLt).2.2 = k0_pay1 (k0_pay3 (X1 m c t)) (X0 m c t)
    (outsAt0 m c (t.val - 1) (Nat.lt_of_le_of_lt (Nat.sub_le _ _) t.isLt)).2.2 := by rw [outsAt0_B m c t h, oB6]; rfl

section Real

variable {m c} (hx : Lift.Reals (X m c)) (hg : ∀ k, G m c (ix1 k) = ((reV (G m c) k : ℝ) : EReal)) (hd : Lift.Reals (D m c)) (he : Lift.Reals (E m c))
include hx hg hd he

theorem entry4 (t : Fin cfg0.N) (a : Fin 256) (b : Fin 2048) :
    (k0_pay4 (X1 m c t) (X0 m c t) (X2 m c t) (X3 m c t) (ix2 a b) : EReal) = dxArr (X m c) (G m c) (D m c) (E m c) (ix2 (row t a) b) :=
  pay4 (x := re (X m c) (row t a)) (g := reV (G m c)) (d := re (D m c) (row t a)) (e := re (E m c) (row t a)) (fun k => (X1_apply m c t a k).trans (hx _))
    (fun k => (X0_apply m c t a k).trans (hd _)) (fun k => (X2_apply m c t k).trans (hg k)) (fun k => (X3_apply m c t a k).trans (he _)) b

theorem arrAt4 : (dats m 0 c).arrAt 4 cfg0.N = dxArr (X m c) (G m c) (D m c) (E m c) := by
  refine (dats m 0 c).arrAt_eq_of_covers 4 _ (by decide +kernel) fun t hf y => ?_
  obtain ⟨-, -, -, -, e, -, -⟩ := idx t
  obtain ⟨a, b, rfl⟩ : ∃ (a : Fin 256) (b : Fin 2048), y = ix2 a b := ⟨y 0, y 1, eq_ix2 y⟩
  blk_simp [e]
  rw [after0_4, block4]
  refine (entry4 hx hg hd he t a b).trans ?_
  unfold row
  blk_ext [e]

theorem arrAt5 : (dats m 0 c).arrAt 5 cfg0.N = dxArr (X m c) (G m c) (D m c) (E m c) := by
  refine (dats m 0 c).arrAt_eq_of_covers 5 _ (by decide +kernel) fun t hf y => ?_
  obtain ⟨-, -, -, -, -, e, -⟩ := idx t
  obtain ⟨a, b, rfl⟩ : ∃ (a : Fin 256) (b : Fin 2048), y = ix2 a b := ⟨y 0, y 1, eq_ix2 y⟩
  blk_simp [e]
  rw [after0_5, block5]
  refine Eq.trans (show _ = k0_pay4 (X1 m c t) (X0 m c t) (X2 m c t) (X3 m c t) (ix2 a b) by pointwise [k0_pay5]) ?_
  refine (entry4 hx hg hd he t a b).trans ?_
  unfold row
  blk_ext [e]

omit hg he in
/-- One point's addition to the scale's gradient. -/
theorem step6 (t : Fin cfg0.N) (v : Vec Ideal S1x2048 .f32) (b : Fin 2048) (s : ℝ) (hv : (v (ix2 0 b) : EReal) = s) :
    (k0_pay1 (k0_pay3 (X1 m c t)) (X0 m c t) v (ix2 0 b) : EReal) =
      ((s + ∑ a : Fin 256, scaleRow (re (X m c)) (re (D m c)) b (256 * t.val + a.val) : ℝ) : EReal) := by
  have hr (a : Fin 256) : ((X0 m c t (ix2 a b) : EReal) * k0_pay3 (X1 m c t) (ix2 a b) : EReal) =
      ((scaleRow (re (X m c)) (re (D m c)) b (256 * t.val + a.val) : ℝ) : EReal) := by
    have e3 := pay3 (v0 := X1 m c t) (a := a) (x := re (X m c) (row t a)) (fun k => (X1_apply m c t a k).trans (hx _)) b
    rw [e3, X0_apply, hd, ← EReal.coe_mul]
    unfold scaleRow
    rw [dif_pos (show 256 * t.val + a.val < 2048 from (row t a).isLt)]
    rfl
  rw [pay1, hv]
  simp only [hr, Lift.coe_sum, ← EReal.coe_add]

omit hg he in
theorem upTo6 (n : ℕ) (h : n < cfg0.N) (b : Fin 2048) :
    ((outsAt0 m c n h).2.2 (ix2 0 b) : EReal) = ((scaleTo (re (X m c)) (re (D m c)) b (n + 1) : ℝ) : EReal) := by
  have h8 : cfg0.N = 8 := N_0
  rw [scaleTo_succ]
  induction n with
  | zero =>
    rw [first6 m c ⟨0, h⟩ rfl]
    refine step6 hx hd ⟨0, h⟩ _ b _ ((pay6 b).trans ?_)
    simp [scaleTo]
  | succ n ih =>
    rw [next6 m c ⟨n + 1, h⟩ (by dsimp only; omega)]
    refine step6 hx hd ⟨n + 1, h⟩ _ b _ ((ih (by omega)).trans ?_)
    rw [scaleTo_succ]

omit hg he in
theorem arrAt6 : (dats m 0 c).arrAt 6 cfg0.N = dgArr (X m c) (D m c) := by
  refine (dats m 0 c).arrAt_eq_of_covers 6 _ (by decide +kernel) fun t hf y => ?_
  obtain ⟨-, -, -, -, -, -, e⟩ := idx t
  obtain ⟨a, b, rfl⟩ : ∃ (a : Fin 1) (b : Fin 2048), y = ix2 a b := ⟨y 0, y 1, eq_ix2 y⟩
  obtain rfl := Subsingleton.elim a 0
  have h8 : cfg0.N = 8 := N_0
  have ht : t.val = 7 := by
    revert hf; revert t; decide +kernel
  blk_simp [e]
  rw [after0_6]
  refine (upTo6 hx hd t.val t.isLt b).trans ?_
  rw [ht, scaleTo_all]
  refine (show _ = dgArr (X m c) (D m c) (ix2 0 b) from rfl).trans ?_
  blk_ext [e]

end Real

/-- Under the precondition the four arguments are arrays of real numbers. -/
theorem reals (h : Cert.Pre_RmsIdeal_rms_finite (hPre_rms_finite := Cert.Pre_rms_finite.Gen.facts) m) :
    Lift.Reals (X m c) ∧ (∀ k, G m c (ix1 k) = ((reV (G m c) k : ℝ) : EReal)) ∧ Lift.Reals (D m c) ∧ Lift.Reals (E m c) := by
  obtain ⟨h0, h1, h2, h3⟩ := h c
  exact ⟨fun i => Lift.real_of_test _ _ (fun _ => Lift.bits_inf) h0 i, fun k => Lift.real_of_test _ _ (fun _ => Lift.bits_inf) h1 (ix1 k),
    fun i => Lift.real_of_test _ _ (fun _ => Lift.bits_inf) h2 i, fun i => Lift.real_of_test _ _ (fun _ => Lift.bits_inf) h3 i⟩

end Kernel

section Reference

open Cert.RmsRefIdeal Cert.RmsRefIdeal.Gen Cert.Products Cert.Lift Idealize.ShloMosaic Idealize.ShloMosaic.TcCoe Idealize.SL.Sem

/-- The reference's frame: it has no semaphores, and its run keeps its arguments. -/
theorem ref_frame : Cert.quiescent_RmsRefIdeal (hRmsRefIdeal := Cert.RmsRefIdeal.Gen.facts) := fun m ρ _ =>
  (θ_run _ _ _).mono (fun r h => ⟨fun c => (h c).2.2.2, sem_eq_zero_of_no_sems (by decide) _⟩) (Cert.RmsRefIdeal.Value.run m ρ)

end Reference

open Idealize.ShloMosaic Idealize.ShloMosaic.TcCoe Idealize.SL.Sem Cert.Lift Cert.Products

/-- The kernel's three gradients are the reference's. -/
theorem algebraic : Cert.algebraic_RmsIdeal_RmsRefIdeal_pre_rms_finite (hRmsIdeal := Cert.RmsIdeal.Gen.facts)
    (hRmsRefIdeal := Cert.RmsRefIdeal.Gen.facts) (hPre_rms_finite := Cert.Pre_rms_finite.Gen.facts) := by
  intro m ρ m' ρ' hpre hm
  refine ⟨fun c => dxArr (X m c) (G m c) (D m c) (E m c), fun c => dxArr (X m c) (G m c) (D m c) (E m c), fun c => dgArr (X m c) (D m c), ?_, ?_⟩
  · refine (θ_run _ _ _).mono (fun r h c => ?_) (Cert.RmsIdeal.Value.run_blocks m ρ)
    obtain ⟨r0, r1, r2, r3⟩ := reals m c hpre
    exact ⟨(h c).1.trans (arrAt4 r0 r1 r2 r3), (h c).2.1.trans (arrAt5 r0 r1 r2 r3), (h c).2.2.1.trans (arrAt6 r0 r2), (h c).2.2.2⟩
  · refine (θ_run _ _ _).mono (fun r h c => ?_) (Cert.RmsRefIdeal.Value.run m' ρ')
    obtain ⟨e0, e1, e2, e3, e4⟩ := hm c
    obtain ⟨r0, r1, r2, r3⟩ := reals m c hpre
    have hx (a k : Fin 2048) : (m ((c.tc : Thread Cert.RmsIdeal.nD Cert.RmsIdeal.τ).loc Cert.RmsIdeal.main_arg0) : Mat 2048 2048) (ix2 a k) = ((re (X m c) a k : ℝ) : EReal) := r0 _
    have hg (k : Fin 2048) : (m ((c.tc : Thread Cert.RmsIdeal.nD Cert.RmsIdeal.τ).loc Cert.RmsIdeal.main_arg1) : Vec Ideal Cert.RmsIdeal.S2048 .f32) (ix1 k) = ((reV (G m c) k : ℝ) : EReal) := r1 _
    have hd (a k : Fin 2048) : (m ((c.tc : Thread Cert.RmsIdeal.nD Cert.RmsIdeal.τ).loc Cert.RmsIdeal.main_arg2) : Mat 2048 2048) (ix2 a k) = ((re (D m c) a k : ℝ) : EReal) := r2 _
    have he (a k : Fin 2048) : (m ((c.tc : Thread Cert.RmsIdeal.nD Cert.RmsIdeal.τ).loc Cert.RmsIdeal.main_arg3) : Mat 2048 2048) (ix2 a k) = ((re (E m c) a k : ℝ) : EReal) := r3 _
    have h := h c
    rw [e0, e1, e2, e3] at h
    refine ⟨h.1.trans ?_, h.2.1.trans ?_, h.2.2.1.trans ?_, by rw [e0, e1, e2, e3]; exact h.2.2.2⟩
    · funext y
      obtain ⟨a, b, rfl⟩ : ∃ (a : Fin 2048) (b : Fin 2048), y = ix2 a b := ⟨y 0, y 1, eq_ix2 y⟩
      pointwise
      simp only [hx, hg, hd, he, ← EReal.coe_mul, coe_sum, ms_coe, rsqrt_ms, div_ms, bits_neg_half, div_2048, Finset.univ_unique, Finset.sum_singleton, ← EReal.coe_add]
      exact congrArg (fun r : ℝ => (r : EReal)) (dRow_eq (re (X m c) a) (reV (G m c)) (re (D m c) a) (re (E m c) a) b)
    · funext y
      obtain ⟨a, b, rfl⟩ : ∃ (a : Fin 2048) (b : Fin 2048), y = ix2 a b := ⟨y 0, y 1, eq_ix2 y⟩
      pointwise
      simp only [hx, hg, hd, he, ← EReal.coe_mul, coe_sum, ms_coe, rsqrt_ms, div_ms, bits_neg_half, div_2048, Finset.univ_unique, Finset.sum_singleton, ← EReal.coe_add]
      exact congrArg (fun r : ℝ => (r : EReal)) (dRow_eq (re (X m c) a) (reV (G m c)) (re (D m c) a) (re (E m c) a) b)
    · funext y
      obtain ⟨a, b, rfl⟩ : ∃ (a : Fin 1) (b : Fin 2048), y = ix2 a b := ⟨y 0, y 1, eq_ix2 y⟩
      pointwise
      simp only [hx, hd, ← EReal.coe_mul, coe_sum, div_2048, ms_coe, rsqrt_ms, Finset.univ_unique, Finset.sum_singleton]
      exact congrArg _ (Finset.sum_congr rfl fun r _ => mul_comm _ _)

end Cert.RmsVal

end
-- ==== Proof.AttnMath.lean ====
/- The gradient of an attention row with a sink, over the reals: a row is one query of one head, its scores `s` over the
   256 keys of its window, the sink's score `σ`, the keys it sees `o`, and the gradient `dp` of its probabilities. -/
module

public import proofs.«01_k».proof.Proof.Lift

@[expose] public section

noncomputable section

namespace Cert.AttnVal

/-- The softmax's denominator. -/
def zed (s : ℕ → ℝ) (σ : ℝ) (o : ℕ → Bool) : ℝ := (∑ j : Fin 256, if o j.val then Real.exp (s j.val) else 0) + Real.exp σ
/-- A key's probability. -/
def prob (s : ℕ → ℝ) (σ : ℝ) (o : ℕ → Bool) (i : ℕ) : ℝ := if o i then Real.exp (s i) / zed s σ o else 0
/-- The sink's probability. -/
def probS (s : ℕ → ℝ) (σ : ℝ) (o : ℕ → Bool) : ℝ := Real.exp σ / zed s σ o
/-- The mean of the probabilities' gradient. -/
def del (s : ℕ → ℝ) (σ : ℝ) (o : ℕ → Bool) (dp : ℕ → ℝ) : ℝ := ∑ j : Fin 256, prob s σ o j.val * dp j.val
/-- The gradient of a key's score. -/
def dscore (s : ℕ → ℝ) (σ : ℝ) (o : ℕ → Bool) (dp : ℕ → ℝ) (i : ℕ) : ℝ := prob s σ o i * (dp i - del s σ o dp)
/-- The gradient of the sink's score. -/
def dsinkRow (s : ℕ → ℝ) (σ : ℝ) (o : ℕ → Bool) (dp : ℕ → ℝ) : ℝ := -(probS s σ o * del s σ o dp)

theorem zed_pos (s : ℕ → ℝ) (σ : ℝ) (o : ℕ → Bool) : 0 < zed s σ o :=
  add_pos_of_nonneg_of_pos (Finset.sum_nonneg fun j _ => by split <;> positivity) (Real.exp_pos σ)

/-- The softmax's denominator with every score lowered by `μ`. -/
theorem zed_shift (s : ℕ → ℝ) (σ μ : ℝ) (o : ℕ → Bool) :
    (∑ j : Fin 256, if o j.val then Real.exp (s j.val - μ) else 0) + Real.exp (σ - μ) = zed s σ o * Real.exp (-μ) := by
  unfold zed
  rw [add_mul, Finset.sum_mul, ← Real.exp_add, ← sub_eq_add_neg]
  congr 1
  refine Finset.sum_congr rfl fun j _ => ?_
  split
  · rw [← Real.exp_add, ← sub_eq_add_neg]
  · rw [zero_mul]

theorem exp_shift (s : ℕ → ℝ) (σ μ x : ℝ) (o : ℕ → Bool) : Real.exp (x - μ) / (zed s σ o * Real.exp (-μ)) = Real.exp x / zed s σ o := by
  rw [sub_eq_add_neg, Real.exp_add, mul_div_mul_right _ _ (Real.exp_pos _).ne']

section Congr

variable {s s' : ℕ → ℝ} {σ : ℝ} {o : ℕ → Bool} {dp dp' : ℕ → ℝ}

/-- Only the scores of the keys that the query sees matter, -/
theorem zed_congr (hs : ∀ i, o i = true → s i = s' i) : zed s σ o = zed s' σ o := by
  unfold zed
  congr 1
  refine Finset.sum_congr rfl fun j _ => ?_
  split
  · next h => rw [hs _ h]
  · rfl

theorem prob_congr (hs : ∀ i, o i = true → s i = s' i) (i : ℕ) : prob s σ o i = prob s' σ o i := by
  unfold prob
  rw [zed_congr hs]
  split
  · next h => rw [hs _ h]
  · rfl

theorem probS_congr (hs : ∀ i, o i = true → s i = s' i) : probS s σ o = probS s' σ o := by
  unfold probS
  rw [zed_congr hs]

theorem prob_of_not {i : ℕ} (h : o i = false) : prob s σ o i = 0 := by simp [prob, h]

/-- and only those probabilities' gradients. -/
theorem del_congr (hs : ∀ i, o i = true → s i = s' i) (hd : ∀ i, o i = true → dp i = dp' i) : del s σ o dp = del s' σ o dp' := by
  unfold del
  refine Finset.sum_congr rfl fun j _ => ?_
  cases h : o j.val
  · rw [prob_of_not h, prob_of_not h, zero_mul, zero_mul]
  · rw [prob_congr hs, hd _ h]

theorem dscore_congr (hs : ∀ i, o i = true → s i = s' i) (hd : ∀ i, o i = true → dp i = dp' i) (i : ℕ) : dscore s σ o dp i = dscore s' σ o dp' i := by
  unfold dscore
  cases h : o i
  · rw [prob_of_not h, prob_of_not h, zero_mul, zero_mul]
  · rw [prob_congr hs, hd _ h, del_congr hs hd]

theorem dscore_of_not {i : ℕ} (h : o i = false) : dscore s σ o dp i = 0 := by rw [dscore, prob_of_not h, zero_mul]

theorem dsinkRow_congr (hs : ∀ i, o i = true → s i = s' i) (hd : ∀ i, o i = true → dp i = dp' i) : dsinkRow s σ o dp = dsinkRow s' σ o dp' := by
  unfold dsinkRow
  rw [probS_congr hs, del_congr hs hd]

end Congr

/-- A sum over 128 numbers by halves. -/
theorem sum_halves (f : ℕ → ℝ) : ∑ i : Fin 128, f i.val = (∑ i : Fin 64, f i.val) + ∑ i : Fin 64, f (64 + i.val) := by
  rw [← Finset.sum_range f, ← Finset.sum_range f, ← Finset.sum_range fun i => f (64 + i), ← Finset.sum_range_add]

/-- A sum over 512 numbers by quarters. -/
theorem sum_quarters (f : ℕ → ℝ) : ∑ i : Fin 512, f i.val = ∑ j : Fin 4, ∑ i : Fin 128, f (128 * j.val + i.val) := by
  have h (a : ℕ) : ∑ i : Fin 128, f (a + i.val) = ∑ i ∈ Finset.range 128, f (a + i) := (Finset.sum_range fun i => f (a + i)).symm
  simp only [h]
  rw [← Finset.sum_range f, Fin.sum_univ_four, Finset.sum_range_add f 384 128, Finset.sum_range_add f 256 128, Finset.sum_range_add f 128 128]
  simp only [Fin.val_zero, Nat.mul_zero, Nat.zero_add]
  rfl

/-! The problem's attention: `q`, `k`, `v` the queries, keys and values, `sk` the sinks, `g` the gradient of the result,
    all by row and column. -/

section Whole

variable (q k v : ℕ → ℕ → ℝ) (sk : ℕ → ℝ) (g : ℕ → ℕ → ℝ)

/-- Row `i` of block `n`'s window: the block before, then the block itself; nought before the first. -/
def win1 (k : ℕ → ℕ → ℝ) (n i c : ℕ) : ℝ := if 128 ≤ 128 * n + i then k (128 * n + i - 128) c else 0
/-- Which keys of its window query `a` of block `n` sees. -/
def sees (n a i : ℕ) : Bool := decide (a < i ∧ i ≤ a + 128 ∧ (128 ≤ i ∨ 0 < n))
/-- The scores of query `a` of block `n`, head `h`. -/
def score (n h a i : ℕ) : ℝ := ∑ d : Fin 64, win1 k n i (64 * (h / 4) + d.val) * (q (128 * n + a) (64 * h + d.val) * (1 / 8))
/-- The gradient of its probabilities. -/
def dprob (n h a i : ℕ) : ℝ := ∑ d : Fin 64, win1 v n i (64 * (h / 4) + d.val) * g (128 * n + a) (64 * h + d.val)
/-- Its probabilities, -/
def pW (n h a i : ℕ) : ℝ := prob (score q k n h a) (sk h) (sees n a) i
/-- the gradient of its scores, -/
def dsW (n h a i : ℕ) : ℝ := dscore (score q k n h a) (sk h) (sees n a) (dprob v g n h a) i
/-- and of its sink. -/
def dskW (n h a : ℕ) : ℝ := dsinkRow (score q k n h a) (sk h) (sees n a) (dprob v g n h a)

/-- The gradient of the queries. -/
def dqW (n h a d : ℕ) : ℝ := (∑ i : Fin 256, dsW q k v sk g n h a i.val * win1 k n i.val (64 * (h / 4) + d)) * (1 / 8)
/-- What block `n`'s queries of one head give to the gradient of a key of their window, -/
def dkH (n h i d : ℕ) : ℝ := ∑ a : Fin 128, dsW q k v sk g n h a.val i * (q (128 * n + a.val) (64 * h + d) * (1 / 8))
/-- and of a value. -/
def dvH (n h i d : ℕ) : ℝ := ∑ a : Fin 128, pW q k sk n h a.val i * g (128 * n + a.val) (64 * h + d)
/-- The gradient of key row `b` of block `n`, head `u`: from the block's own queries and from the next block's. -/
def dkW (n u b d : ℕ) : ℝ :=
  (∑ j : Fin 4, dkH q k v sk g n (4 * u + j.val) (128 + b) d) + (if n < 15 then ∑ j : Fin 4, dkH q k v sk g (n + 1) (4 * u + j.val) b d else 0)
/-- The gradient of the values. -/
def dvW (n u b d : ℕ) : ℝ :=
  (∑ j : Fin 4, dvH q k sk g n (4 * u + j.val) (128 + b) d) + (if n < 15 then ∑ j : Fin 4, dvH q k sk g (n + 1) (4 * u + j.val) b d else 0)
/-- The gradient of the sinks. -/
def dskAll (h : ℕ) : ℝ := ∑ n : Fin 16, ∑ a : Fin 128, dskW q k v sk g n.val h a.val

/-! The kernel's layout: four query heads stacked, key heads spread over two halves of a tile, windows whose first half is
    the first block again where there is no block before. -/

/-- Row `i` of the window that the kernel reads. -/
def kw (k : ℕ → ℕ → ℝ) (n i c : ℕ) : ℝ := if i < 128 then k (128 * (n - 1) + i) c else k (128 * n + i - 128) c
/-- A block of query heads, stacked for key head `u`. -/
def stk (Q : ℕ → ℕ → ℝ) (u r d : ℕ) : ℝ := if (d < 64 ↔ (r / 128) % 2 = 0) then Q (r % 128) (256 * u + 128 * (r / 256) + d) else 0
/-- A key head, spread. -/
def spr (K : ℕ → ℕ → ℝ) (u i c : ℕ) : ℝ := K i (64 * u + c % 64)

theorem kw_eq {n a i : ℕ} (h : sees n a i = true) (c : ℕ) : kw k n i c = win1 k n i c := by
  unfold sees at h
  have h := of_decide_eq_true h
  unfold kw win1
  split_ifs <;> first
    | omega
    | (congr 1 <;> omega)

theorem stk_low (Q : ℕ → ℕ → ℝ) {u r d : ℕ} (hd : d < 64) :
    stk Q u r d = if (r / 128) % 2 = 0 then Q (r % 128) (64 * (4 * u + r / 128) + d) else 0 := by
  unfold stk
  simp only [hd, true_iff]
  split
  · congr 1; omega
  · rfl

theorem stk_high (Q : ℕ → ℕ → ℝ) {u r d : ℕ} (hd : d < 64) :
    stk Q u r (64 + d) = if (r / 128) % 2 = 0 then 0 else Q (r % 128) (64 * (4 * u + r / 128) + d) := by
  unfold stk
  simp only [show ¬(64 + d < 64) by omega, false_iff]
  by_cases h : (r / 128) % 2 = 0
  · rw [if_neg (not_not.mpr h), if_pos h]
  · rw [if_pos h, if_neg h]; congr 1; omega

/-- Over 128 lanes, of which one head fills half, a product is that head's. -/
theorem contract (K Q : ℕ → ℕ → ℝ) (u r i : ℕ) :
    ∑ c : Fin 128, spr K u i c.val * stk Q u r c.val = ∑ d : Fin 64, K i (64 * u + d.val) * Q (r % 128) (64 * (4 * u + r / 128) + d.val) := by
  rw [sum_halves fun c => spr K u i c * stk Q u r c, ← Finset.sum_add_distrib]
  refine Finset.sum_congr rfl fun d _ => ?_
  have hd := d.isLt
  simp only [stk_low Q hd, stk_high Q hd]
  unfold spr
  rw [Nat.mod_eq_of_lt hd, show (64 + d.val) % 64 = d.val by omega]
  split <;> ring

/-- The scores of a stack are the heads', where a query sees. -/
theorem score_eq {n u r i : ℕ} (hr : r < 512) (h : sees n (r % 128) i = true) :
    ∑ c : Fin 128, spr (kw k n) u i c.val * stk (fun a b => q (128 * n + a) b * (1 / 8)) u r c.val = score q k n (4 * u + r / 128) (r % 128) i := by
  rw [contract]
  unfold score
  refine Finset.sum_congr rfl fun d _ => ?_
  rw [kw_eq k h, show (4 * u + r / 128) / 4 = u by omega]

theorem dprob_eq {n u r i : ℕ} (hr : r < 512) (h : sees n (r % 128) i = true) :
    ∑ c : Fin 128, spr (kw v n) u i c.val * stk (fun a b => g (128 * n + a) b) u r c.val = dprob v g n (4 * u + r / 128) (r % 128) i := by
  rw [contract]
  unfold dprob
  refine Finset.sum_congr rfl fun d _ => ?_
  rw [kw_eq v h, show (4 * u + r / 128) / 4 = u by omega]

/-- A stack's sum over the rows, by heads: each lane of a tile takes the heads of its half. -/
theorem stack_sum (D : ℕ → ℕ → ℝ) (Q : ℕ → ℕ → ℝ) (u c : ℕ) (hc : c < 128) :
    ∑ r : Fin 512, D (4 * u + r.val / 128) (r.val % 128) * stk Q u r.val c =
      ∑ j : Fin 4, if (c < 64 ↔ j.val % 2 = 0) then ∑ a : Fin 128, D (4 * u + j.val) a.val * Q a.val (64 * (4 * u + j.val) + c % 64) else 0 := by
  rw [sum_quarters fun r => D (4 * u + r / 128) (r % 128) * stk Q u r c]
  refine Finset.sum_congr rfl fun j _ => ?_
  have hj := j.isLt
  have e (a : Fin 128) : D (4 * u + (128 * j.val + a.val) / 128) ((128 * j.val + a.val) % 128) * stk Q u (128 * j.val + a.val) c =
      if (c < 64 ↔ j.val % 2 = 0) then D (4 * u + j.val) a.val * Q a.val (64 * (4 * u + j.val) + c % 64) else 0 := by
    have ha := a.isLt
    rw [show (128 * j.val + a.val) / 128 = j.val by omega, show (128 * j.val + a.val) % 128 = a.val by omega]
    unfold stk
    rw [show (128 * j.val + a.val) / 128 = j.val by omega, show (128 * j.val + a.val) % 128 = a.val by omega]
    split
    · next h => congr 2; omega
    · rw [mul_zero]
  simp only [e]
  split
  · rfl
  · exact Finset.sum_const_zero

end Whole

end Cert.AttnVal

end
-- ==== Proof.AttnGroup.lean ====
/- The attention's backward kernel works on one key head at a time, with the four query heads that share it stacked in
   the rows of one array: this module names the kernel's operations on one such stack, over any float values, and says
   what each is when its operands are real numbers. -/
module

public import proofs.«01_k».proof.Proof.Gen.AttnIdeal.Skeleton
public import proofs.«01_k».proof.Proof.AttnMath
public import Idealize.ShloMosaic.Lib.Pointwise
public import Idealize.ShloMosaic.Lib.IdealHost
public import Idealize.ShloMosaic.Lib.Pipeline.ValueKit
public import Idealize.ShloMosaic.Lib.Pipeline.ValueKit.Tiles

@[expose] public section

set_option maxRecDepth 16384

noncomputable section

namespace Cert.AttnVal

open Cert.AttnIdeal Cert.AttnIdeal.Gen Idealize.ShloMosaic Idealize.ShloMosaic.TcCoe Idealize.SL.Sem

section Terms

variable {F : FTy → Type} [FloatOps F] [Named F]

/-- The lanes of the first of two heads that share a tile, -/
def low : IVec S128x128 1 := cmpi .slt (iota .tc S128x128 32 [1] iota_S128x128_d1_w32) (broadcast S128x128 64#32)
/-- and of the second. -/
def high : IVec S128x128 1 := xori low (constantI S128x128 1 1#1)
/-- Tile `t` of an array of query heads. -/
def tile (t : Fin 8) (x : FVec F S128x1024 .bf16) : FVec F S128x128 .bf16 :=
  extractStridedSlice S128x128 ![0, 128 * t.val] x (by fin_cases t <;> decide)
/-- The tile, with nought outside one head's lanes. -/
def half (l : IVec S128x128 1) (t : Fin 8) (x : FVec F S128x1024 .bf16) : FVec F S128x128 .bf16 :=
  select l (tile t x) (broadcast S128x128 (Scalar.ofBits .bf16 0x0000#16 : F .bf16))
/-- The four query heads of key head `g`, stacked. -/
def stack (g : Fin 4) (x : FVec F S128x1024 .bf16) : FVec F S512x128 .bf16 :=
  concatenate S512x128 0 [⟨S128x128, half low ⟨2 * g.val, by omega⟩ x⟩, ⟨S128x128, half high ⟨2 * g.val, by omega⟩ x⟩,
    ⟨S128x128, half low ⟨2 * g.val + 1, by omega⟩ x⟩, ⟨S128x128, half high ⟨2 * g.val + 1, by omega⟩ x⟩]
    concatenates_S128x128_S128x128_S128x128_S128x128_S512x128_d0
/-- Key head `g` of one block. -/
def head (g : Fin 4) (x : FVec F S128x512 .bf16) : FVec F S128x128 .bf16 :=
  extractStridedSlice S128x128 ![0, 128 * g.val] x (by fin_cases g <;> decide)
/-- Key head `g` of the block before and of this one. -/
def win (g : Fin 4) (p x : FVec F S128x512 .bf16) : FVec F S256x128 .bf16 :=
  concatenate S256x128 0 [⟨S128x128, head g p⟩, ⟨S128x128, head g x⟩] concatenates_S128x128_S128x128_S256x128_d0

/-- The scores, masked. -/
def tX (ok : IVec S256x512 1) (k : FVec F S256x128 .bf16) (q : FVec F S512x128 .bf16) : FVec F S256x512 .f32 :=
  select ok (matmul dot_S256x128_S512x128_S256x512_1_1_0_0_n_n none k q (constant S256x512 .f32 0x00000000#32))
    (broadcast S256x512 (Named.named κ "mask" 0xF149F2CA#32 : F .f32))
/-- The sinks of the four heads, one to a stack row. -/
def tSk (a b c d : Elt F .f32) : FVec F S1x512 .f32 :=
  concatenate S1x512 1 [⟨S1x128, (broadcast S1x128 a : FVec F S1x128 .f32)⟩, ⟨S1x128, (broadcast S1x128 b : FVec F S1x128 .f32)⟩,
    ⟨S1x128, (broadcast S1x128 c : FVec F S1x128 .f32)⟩, ⟨S1x128, (broadcast S1x128 d : FVec F S1x128 .f32)⟩] concatenates_S1x128_S1x128_S1x128_S1x128_S1x512_d1

variable (X : FVec F S256x512 .f32) (sk : FVec F S1x512 .f32)

/-- The greatest score of a row, the sink among them. -/
def tM : FVec F S1x512 .f32 :=
  maximumf (shapeCast S1x512 (multiReduction .maximumf [0] S512 X 0xFF800000#32 reduces_S256x512_S512 (.inl rfl) rfl) shapeCasts_S512_S1x512) sk
/-- The exponentials of the scores less the greatest, -/
def tE : FVec F S256x512 .f32 := exp (subf X (broadcastTo S256x512 (tM X sk) broadcasts_S1x512_S256x512))
/-- and the sink's, -/
def tEs : FVec F S1x512 .f32 := exp (subf sk (tM X sk))
/-- and the reciprocal of their sum. -/
def tR : FVec F S1x512 .f32 :=
  divf (broadcast S1x512 (Scalar.ofBits .f32 0x3F800000#32 : F .f32))
    (addf (shapeCast S1x512 (multiReduction .add [0] S512 (tE X sk) 0x00000000#32 reduces_S256x512_S512 (.inl rfl) rfl) shapeCasts_S512_S1x512) (tEs X sk))
/-- The probabilities, -/
def tP : FVec F S256x512 .f32 := mulf (tE X sk) (broadcastTo S256x512 (tR X sk) broadcasts_S1x512_S256x512)
/-- and the sink's. -/
def tPs : FVec F S1x512 .f32 := mulf (tEs X sk) (tR X sk)
/-- Their gradient. -/
def tDp (v : FVec F S256x128 .bf16) (d : FVec F S512x128 .bf16) : FVec F S256x512 .f32 :=
  matmul dot_S256x128_S512x128_S256x512_1_1_0_0_n_n none v d (constant S256x512 .f32 0x00000000#32)

variable (P Dp : FVec F S256x512 .f32)

/-- The mean of the probabilities' gradient under the probabilities. -/
def tDel : FVec F S1x512 .f32 :=
  shapeCast S1x512 (multiReduction .add [0] S512 (mulf P Dp) 0x00000000#32 reduces_S256x512_S512 (.inl rfl) rfl) shapeCasts_S512_S1x512
/-- The scores' gradient, -/
def tDs : FVec F S256x512 .bf16 := truncf .bf16 (mulf P (subf Dp (broadcastTo S256x512 (tDel P Dp) broadcasts_S1x512_S256x512))) bitsLt_bf16_f32
/-- the sinks', row by row, -/
def tDsk (ps : FVec F S1x512 .f32) : FVec F S1x512 .f32 :=
  mulf (subf (broadcast S1x512 (Scalar.ofBits .f32 0x00000000#32 : F .f32)) ps) (tDel P Dp)
/-- the values', -/
def tDv (d : FVec F S512x128 .bf16) : FVec F S256x128 .f32 :=
  matmul dot_S256x512_S512x128_S256x128_1_0_0_1_n_n none (truncf .bf16 P bitsLt_bf16_f32) d (constant S256x128 .f32 0x00000000#32)
/-- the keys', -/
def tDk (ds : FVec F S256x512 .bf16) (q : FVec F S512x128 .bf16) : FVec F S256x128 .f32 :=
  matmul dot_S256x512_S512x128_S256x128_1_0_0_1_n_n none ds q (constant S256x128 .f32 0x00000000#32)
/-- and the queries', stacked. -/
def tDq (ds : FVec F S256x512 .bf16) (k : FVec F S256x128 .bf16) : FVec F S512x128 .f32 :=
  mulf (matmul dot_S256x512_S256x128_S512x128_0_0_1_1_n_n none ds k (constant S512x128 .f32 0x00000000#32)) (broadcast S512x128 (Scalar.ofBits .f32 0x3E000000#32 : F .f32))
/-- Two heads of a stack in one tile. -/
def pair (t : Fin 2) (y : FVec F S512x128 .f32) : FVec F S128x128 .f32 :=
  select low (extractStridedSlice S128x128 ![256 * t.val, 0] y (by fin_cases t <;> decide))
    (extractStridedSlice S128x128 ![256 * t.val + 128, 0] y (by fin_cases t <;> decide))
/-- The stack's four heads in their tiles. -/
def unstack (y : FVec F S512x128 .f32) : FVec F S128x256 .f32 :=
  concatenate S128x256 1 [⟨S128x128, pair 0 y⟩, ⟨S128x128, pair 1 y⟩] concatenates_S128x128_S128x128_S128x256_d1
/-- One head's sum of the sinks' gradient, in that head's lane. -/
def sinkLane (j : Fin 4) (w : BitVec 32) (ds : FVec F S1x512 .f32) : FVec F S1x128 .f32 :=
  select (cmpi .eq (iota .tc S1x128 32 [1] iota_S1x128_d1_w32) (broadcast S1x128 w))
    (broadcastTo S1x128 (shapeCast S1x1 (shapeCast S1x1 (multiReduction .add [1] S1
      (extractStridedSlice S1x128 ![0, 128 * j.val] ds (by fin_cases j <;> decide)) 0x00000000#32 reduces_S1x128_S1 (.inl rfl) rfl)
      shapeCasts_S1_S1x1) shapeCasts_S1x1_S1x1) broadcasts_S1x1_S1x128)
    (broadcast S1x128 (Scalar.ofBits .f32 0x00000000#32 : F .f32))
/-- The four heads' added to what came before. -/
def sinkAdd (w : ℕ) (ds : FVec F S1x512 .f32) (acc : FVec F S1x128 .f32) : FVec F S1x128 .f32 :=
  addf (addf (addf (addf acc (sinkLane 0 (BitVec.ofNat 32 w) ds)) (sinkLane 1 (BitVec.ofNat 32 (w + 1)) ds)) (sinkLane 2 (BitVec.ofNat 32 (w + 2)) ds))
    (sinkLane 3 (BitVec.ofNat 32 (w + 3)) ds)

end Terms

section Lift

open Cert.Lift

theorem low_apply (a d : Fin 128) : low (ix2 a d) = if d.val < 64 then 1#1 else 0#1 := by
  revert d; unfold low; pointwise; decide +kernel

theorem high_apply (a d : Fin 128) : high (ix2 a d) = if d.val < 64 then 0#1 else 1#1 := by
  revert d; unfold high low; pointwise; decide +kernel

/-- A stack of real entries. -/
theorem stack_apply {x : FVec Ideal S128x1024 .bf16} {r : ℕ → ℕ → ℝ} (hx : ∀ a b, (x (ix2 a b) : EReal) = ((r a.val b.val : ℝ) : EReal)) (g : Fin 4)
    (i : Fin 512) (d : Fin 128) :
    (stack g x (ix2 i d) : EReal) = ((if (d.val < 64 ↔ (i.val / 128) % 2 = 0) then r (i.val % 128) (256 * g.val + 128 * (i.val / 256) + d.val) else 0 : ℝ) : EReal) := by
  unfold stack
  pointwise [half, tile]
  simp only [low_apply, high_apply, hx, ← EReal.coe_zero]
  have hi := i.isLt
  have hd := d.isLt
  by_cases h64 : d.val < 64
  · simp only [h64, if_true, true_iff]
    split_ifs <;> first
      | omega
      | rfl
      | exact congrArg (fun r : ℝ => (r : EReal)) (by congr 1 <;> omega)
  · simp only [h64, if_false, false_iff]
    split_ifs <;> first
      | omega
      | rfl
      | exact congrArg (fun r : ℝ => (r : EReal)) (by congr 1 <;> omega)

/-- A window of real entries. -/
theorem win_apply {p x : FVec Ideal S128x512 .bf16} {r : ℕ → ℕ → ℝ} (g : Fin 4) (hp : ∀ a b, (p (ix2 a b) : EReal) = ((r a.val b.val : ℝ) : EReal))
    (hx : ∀ a b, (x (ix2 a b) : EReal) = ((r (128 + a.val) b.val : ℝ) : EReal)) (i : Fin 256) (d : Fin 128) :
    (win g p x (ix2 i d) : EReal) = ((r i.val (128 * g.val + d.val) : ℝ) : EReal) := by
  pointwise [win, head]
  simp only [hp, hx]
  split_ifs with h
  · rfl
  · exact congrArg (fun r : ℝ => (r : EReal)) (by congr 1; omega)

/-- The mask's name stands for minus infinity. -/
theorem mask_bot : (Named.named κ "mask" 0xF149F2CA#32 : Ideal .f32) = (⊥ : EReal) := rfl

theorem bits_bot : Ideal.ofBits .f32 0xFF800000#32 = (⊥ : EReal) := by
  simp [Ideal.ofBits, Ideal.ieee]

theorem bits_eighth : Ideal.ofBits .f32 0x3E000000#32 = ((1 / 8 : ℝ) : EReal) := by
  simp [Ideal.ofBits, Ideal.ieee, -EReal.coe_mul]; norm_num

/-- The greatest of finitely many entries that are real or minus infinity, and of one real number, is real. -/
theorem fold_max_real {ι : Type} [Fintype ι] (f : ι → EReal) (hf : ∀ i, f i ≠ ⊤) (σ : ℝ) :
    ∃ μ : ℝ, max (Finset.univ.fold max ⊥ f) (σ : EReal) = (μ : EReal) := by
  have h1 : max (Finset.univ.fold max ⊥ f) (σ : EReal) ≠ ⊤ := by
    have h : Finset.univ.fold max ⊥ f < ⊤ := by
      rw [Finset.fold_max_lt]
      exact ⟨bot_lt_top, fun i _ => lt_top_iff_ne_top.mpr (hf i)⟩
    exact (max_lt h (EReal.coe_lt_top σ)).ne
  have h2 : max (Finset.univ.fold max ⊥ f) (σ : EReal) ≠ ⊥ := fun h =>
    absurd (le_of_le_of_eq (le_max_right _ _) h) (not_le.mpr (EReal.bot_lt_coe σ))
  exact ⟨_, (EReal.coe_toReal h1 h2).symm⟩

/-- A masked real entry lowered by a real number, and its exponential. -/
theorem exp_masked (b : Bool) (s μ : ℝ) : Ideal.exp ((if b then (s : EReal) else ⊥) - (μ : EReal)) = ((if b then Real.exp (s - μ) else 0 : ℝ) : EReal) := by
  cases b
  · simp only [Bool.false_eq_true, if_false]
    rfl
  · simp only [if_true, ← EReal.coe_sub]
    rfl

section Stack

variable {ok : IVec S256x512 1} {k v : FVec Ideal S256x128 .bf16} {q d : FVec Ideal S512x128 .bf16} {sk : FVec Ideal S1x512 .f32}
  {o : ℕ → ℕ → Bool} {kr vr qr dr : ℕ → ℕ → ℝ} {σ : ℕ → ℝ}
  (hok : ∀ i r, ok (ix2 i r) = if o r.val i.val then 1#1 else 0#1)
  (hk : ∀ i c, (k (ix2 i c) : EReal) = ((kr i.val c.val : ℝ) : EReal)) (hv : ∀ i c, (v (ix2 i c) : EReal) = ((vr i.val c.val : ℝ) : EReal))
  (hq : ∀ i c, (q (ix2 i c) : EReal) = ((qr i.val c.val : ℝ) : EReal)) (hd : ∀ i c, (d (ix2 i c) : EReal) = ((dr i.val c.val : ℝ) : EReal))
  (hs : ∀ r, (sk (ix2 0 r) : EReal) = ((σ r.val : ℝ) : EReal))

/-- The scores of a stack's row. -/
def sS (kr qr : ℕ → ℕ → ℝ) (r i : ℕ) : ℝ := ∑ c : Fin 128, kr i c.val * qr r c.val

include hok hk hq in
theorem tX_apply (i : Fin 256) (r : Fin 512) : (tX ok k q (ix2 i r) : EReal) = if o r.val i.val then ((sS kr qr r.val i.val : ℝ) : EReal) else ⊥ := by
  pointwise [tX]
  simp only [hk, hq, ← EReal.coe_mul, coe_sum, mask_bot, hok]
  cases o r.val i.val <;> rfl

include hok hk hq hs in
theorem tM_apply (r : Fin 512) : ∃ μ : ℝ, (tM (tX ok k q) sk (ix2 0 r) : EReal) = (μ : EReal) := by
  have h := fold_max_real (fun i : Fin 256 => (tX ok k q (ix2 i r) : EReal))
    (fun i => by simp only [tX_apply hok hk hq]; split <;> simp) (σ r.val)
  obtain ⟨μ, h⟩ := h
  refine ⟨μ, ?_⟩
  pointwise [tM]
  rw [bits_bot, hs]
  exact h

include hok hk hq hs in
/-- A row's exponentials, its sink's and the reciprocal of their sum, all lowered by the same real number. -/
theorem tE_apply (r : Fin 512) : ∃ μ : ℝ, (∀ i, (tE (tX ok k q) sk (ix2 i r) : EReal) = ((if o r.val i.val then Real.exp (sS kr qr r.val i.val - μ) else 0 : ℝ) : EReal))
    ∧ (tEs (tX ok k q) sk (ix2 0 r) : EReal) = ((Real.exp (σ r.val - μ) : ℝ) : EReal)
    ∧ (tR (tX ok k q) sk (ix2 0 r) : EReal) = ((1 / (zed (sS kr qr r.val) (σ r.val) (o r.val) * Real.exp (-μ)) : ℝ) : EReal) := by
  obtain ⟨μ, h⟩ := tM_apply hok hk hq hs r
  have he (i : Fin 256) : (tE (tX ok k q) sk (ix2 i r) : EReal) = ((if o r.val i.val then Real.exp (sS kr qr r.val i.val - μ) else 0 : ℝ) : EReal) := by
    pointwise [tE]
    rw [h, tX_apply hok hk hq, exp_masked]
  have hes : (tEs (tX ok k q) sk (ix2 0 r) : EReal) = ((Real.exp (σ r.val - μ) : ℝ) : EReal) := by
    pointwise [tEs]
    rw [h, hs, ← EReal.coe_sub]
    rfl
  refine ⟨μ, he, hes, ?_⟩
  pointwise [tR]
  simp only [he, hes, coe_sum, ← EReal.coe_add]
  rw [zed_shift, ← EReal.coe_one, div_coe _ _ (mul_pos (zed_pos _ _ _) (Real.exp_pos _)).ne']

include hok hk hq hs in
/-- The probabilities. -/
theorem tP_apply (i : Fin 256) (r : Fin 512) : (tP (tX ok k q) sk (ix2 i r) : EReal) = ((prob (sS kr qr r.val) (σ r.val) (o r.val) i.val : ℝ) : EReal) := by
  obtain ⟨μ, he, -, hr⟩ := tE_apply hok hk hq hs r
  pointwise [tP]
  rw [he, hr, ← EReal.coe_mul]
  refine congrArg (fun r : ℝ => (r : EReal)) ?_
  unfold prob
  split
  · rw [mul_one_div, exp_shift]
  · rw [zero_mul]

include hok hk hq hs in
/-- The sink's probability. -/
theorem tPs_apply (r : Fin 512) : (tPs (tX ok k q) sk (ix2 0 r) : EReal) = ((probS (sS kr qr r.val) (σ r.val) (o r.val) : ℝ) : EReal) := by
  obtain ⟨μ, -, he, hr⟩ := tE_apply hok hk hq hs r
  pointwise [tPs]
  rw [he, hr, ← EReal.coe_mul]
  refine congrArg (fun r : ℝ => (r : EReal)) ?_
  unfold probS
  rw [mul_one_div, exp_shift]

include hv hd in
theorem tDp_apply (i : Fin 256) (r : Fin 512) : (tDp v d (ix2 i r) : EReal) = ((sS vr dr r.val i.val : ℝ) : EReal) := by
  pointwise [tDp]
  simp only [hv, hd, ← EReal.coe_mul, coe_sum]
  rfl

include hok hk hv hq hd hs

theorem tDel_apply (r : Fin 512) : (tDel (tP (tX ok k q) sk) (tDp v d) (ix2 0 r) : EReal) = ((del (sS kr qr r.val) (σ r.val) (o r.val) (sS vr dr r.val) : ℝ) : EReal) := by
  pointwise [tDel]
  simp only [tP_apply hok hk hq hs, tDp_apply hv hd, ← EReal.coe_mul, coe_sum]
  rfl

/-- The scores' gradient. -/
theorem tDs_apply (i : Fin 256) (r : Fin 512) :
    (tDs (tP (tX ok k q) sk) (tDp v d) (ix2 i r) : EReal) = ((dscore (sS kr qr r.val) (σ r.val) (o r.val) (sS vr dr r.val) i.val : ℝ) : EReal) := by
  pointwise [tDs]
  rw [tP_apply hok hk hq hs, tDp_apply hv hd, tDel_apply hok hk hv hq hd hs, ← EReal.coe_sub, ← EReal.coe_mul]
  rfl

/-- The sink's gradient, of one row. -/
theorem tDsk_apply (r : Fin 512) :
    (tDsk (tP (tX ok k q) sk) (tDp v d) (tPs (tX ok k q) sk) (ix2 0 r) : EReal) = ((dsinkRow (sS kr qr r.val) (σ r.val) (o r.val) (sS vr dr r.val) : ℝ) : EReal) := by
  pointwise [tDsk]
  rw [tPs_apply hok hk hq hs, tDel_apply hok hk hv hq hd hs, ← EReal.coe_zero, ← EReal.coe_sub, ← EReal.coe_mul]
  refine congrArg (fun r : ℝ => (r : EReal)) ?_
  unfold dsinkRow
  ring

/-- The values' gradient from one stack. -/
theorem tDv_apply (i : Fin 256) (c : Fin 128) : (tDv (tP (tX ok k q) sk) d (ix2 i c) : EReal) =
    ((∑ r : Fin 512, prob (sS kr qr r.val) (σ r.val) (o r.val) i.val * dr r.val c.val : ℝ) : EReal) := by
  pointwise [tDv]
  simp only [tP_apply hok hk hq hs, hd, ← EReal.coe_mul, coe_sum]

/-- The keys' gradient from one stack. -/
theorem tDk_apply (i : Fin 256) (c : Fin 128) : (tDk (tDs (tP (tX ok k q) sk) (tDp v d)) q (ix2 i c) : EReal) =
    ((∑ r : Fin 512, dscore (sS kr qr r.val) (σ r.val) (o r.val) (sS vr dr r.val) i.val * qr r.val c.val : ℝ) : EReal) := by
  pointwise [tDk]
  simp only [tDs_apply hok hk hv hq hd hs, hq, ← EReal.coe_mul, coe_sum]

/-- The queries' gradient, stacked. -/
theorem tDq_apply (r : Fin 512) (c : Fin 128) : (tDq (tDs (tP (tX ok k q) sk) (tDp v d)) k (ix2 r c) : EReal) =
    (((∑ i : Fin 256, dscore (sS kr qr r.val) (σ r.val) (o r.val) (sS vr dr r.val) i.val * kr i.val c.val) * (1 / 8) : ℝ) : EReal) := by
  pointwise [tDq]
  simp only [tDs_apply hok hk hv hq hd hs, hk, bits_eighth, ← EReal.coe_mul, coe_sum]

end Stack

/-- Two heads in one tile, and the tiles of a stack. -/
theorem unstack_apply {y : FVec Ideal S512x128 .f32} {f : ℕ → ℕ → ℝ} (hy : ∀ r c, (y (ix2 r c) : EReal) = ((f r.val c.val : ℝ) : EReal)) (a : Fin 128) (c : Fin 256) :
    (unstack y (ix2 a c) : EReal) = ((f (128 * (c.val / 64) + a.val) (c.val % 128) : ℝ) : EReal) := by
  have hc := c.isLt
  have ha := a.isLt
  unfold unstack
  pointwise [pair]
  simp only [low_apply, hy]
  by_cases h : c.val < 128
  · rw [dif_pos h]
    by_cases h' : c.val < 64
    · rw [if_pos h']
      exact congrArg (fun r : ℝ => (r : EReal)) (by congr 1 <;> omega)
    · rw [if_neg h']
      exact congrArg (fun r : ℝ => (r : EReal)) (by congr 1 <;> omega)
  · rw [dif_neg h]
    by_cases h' : c.val - 128 < 64
    · rw [if_pos h']
      exact congrArg (fun r : ℝ => (r : EReal)) (by congr 1 <;> omega)
    · rw [if_neg h']
      exact congrArg (fun r : ℝ => (r : EReal)) (by congr 1 <;> omega)

/-- One head's sum of the sinks' gradient, in its own lane. -/
theorem sinkLane_apply {ds : FVec Ideal S1x512 .f32} {f : ℕ → ℝ} (hds : ∀ r, (ds (ix2 0 r) : EReal) = ((f r.val : ℝ) : EReal)) (j : Fin 4) (w : ℕ) (hw : w < 128) (c : Fin 128) :
    (sinkLane j (BitVec.ofNat 32 w) ds (ix2 0 c) : EReal) = ((if c.val = w then ∑ a : Fin 128, f (128 * j.val + a.val) else 0 : ℝ) : EReal) := by
  pointwise [sinkLane]
  simp only [hds, coe_sum]
  have hc := c.isLt
  have e : IntOp.cmpi CmpIPredicate.eq (BitVec.ofNat 32 c.val) (BitVec.ofNat 32 w) = if c.val = w then 1#1 else 0#1 := by
    have hh : (BitVec.ofNat 32 c.val = BitVec.ofNat 32 w) ↔ c.val = w := by
      rw [← BitVec.toNat_inj, BitVec.toNat_ofNat, BitVec.toNat_ofNat]
      omega
    by_cases h : c.val = w
    · simp [IntOp.cmpi, h]
    · rw [if_neg h]
      show BitVec.ofBool (BitVec.ofNat 32 c.val == BitVec.ofNat 32 w) = 0#1
      rw [beq_eq_false_iff_ne.mpr (fun e => h (hh.mp e))]
      rfl
  rw [e]
  split_ifs <;> rfl

/-- The four heads' sums added to a real row. -/
theorem sinkAdd_apply {ds : FVec Ideal S1x512 .f32} {f : ℕ → ℝ} (hds : ∀ r, (ds (ix2 0 r) : EReal) = ((f r.val : ℝ) : EReal)) (w : ℕ) (hw : w < 120)
    {acc : FVec Ideal S1x128 .f32} {t : ℝ} (c : Fin 128) (hacc : (acc (ix2 0 c) : EReal) = (t : EReal)) :
    (sinkAdd w ds acc (ix2 0 c) : EReal) = ((t + ∑ j : Fin 4, (if c.val = w + j.val then ∑ a : Fin 128, f (128 * j.val + a.val) else 0) : ℝ) : EReal) := by
  pointwise [sinkAdd]
  rw [hacc, sinkLane_apply hds 0 w (by omega), sinkLane_apply hds 1 (w + 1) (by omega), sinkLane_apply hds 2 (w + 2) (by omega), sinkLane_apply hds 3 (w + 3) (by omega)]
  simp only [← EReal.coe_add, Fin.sum_univ_four]
  refine congrArg (fun r : ℝ => (r : EReal)) ?_
  simp only [← add_assoc]
  rfl

end Lift

end Cert.AttnVal

end
-- ==== Proof.AttnBlock.lean ====
/- One block of the attention's backward kernel: what each of its six outputs is, in the vocabulary of one key head's
   stack, for the first block (which clears the sinks' accumulator) and for the later ones (which add to it). -/
module

public import proofs.«01_k».proof.Proof.AttnGroup
public import proofs.«01_k».proof.Proof.Gen.AttnIdeal.Frame

@[expose] public section

set_option maxRecDepth 16384

noncomputable section

namespace Cert.AttnVal

open Cert.AttnIdeal Cert.AttnIdeal.Gen Idealize.ShloMosaic Idealize.ShloMosaic.TcCoe Idealize.SL.Sem

section Terms

variable {F : FTy → Type} [FloatOps F] [Named F]

/-- A block of query heads, read whole, -/
def wq (x : Vec F S128x1024 .bf16) : FVec F S128x1024 .bf16 :=
  shapeCast S128x1024 (View.ld x (Rect.unit (s := S128x1024) ![0, 0] S128x1024.size inb_S128x1024_S128x1024_0_0)) shapeCasts_S128x1024_S128x1024
/-- of the result's gradient, -/
def wd (x : Vec F S128x1024 .f32) : FVec F S128x1024 .bf16 :=
  truncf .bf16 (View.ld x (Rect.unit (s := S128x1024) ![0, 0] S128x1024.size inb_S128x1024_S128x1024_0_0)) bitsLt_bf16_f32
/-- of key heads, -/
def wk (x : Vec F S128x512 .bf16) : FVec F S128x512 .bf16 :=
  shapeCast S128x512 (View.ld x (Rect.unit (s := S128x512) ![0, 0] S128x512.size inb_S128x512_S128x512_0_0)) shapeCasts_S128x512_S128x512
/-- and the sinks' gradient so far. -/
def ws (x : Vec F S1x128 .f32) : FVec F S1x128 .f32 :=
  shapeCast S1x128 (View.ld x (Rect.unit (s := S1x128) ![0, 0] S1x128.size inb_S1x128_S1x128_0_0)) shapeCasts_S1x128_S1x128
/-- Head `h`'s sink. -/
def sw (h : Fin 16) (x : Vec F S1x16 .f32) : Elt F .f32 :=
  View.ld x (Rect.unit (s := S1x16) ![0, h.val] S1x1.size (by fin_cases h <;> decide)) (Shape.Idx.first (show 0 < S1x1.numel by decide))

variable (i : grid0.Coords) (x0 : Vec F S1x16 .f32) (x1 : Vec F S128x1024 .bf16) (x2 x3 x4 x5 : Vec F S128x512 .bf16) (x6 : Vec F S128x1024 .f32)

/-- Key head `g`'s sinks, -/
def skG (g : Fin 4) : FVec F S1x512 .f32 :=
  tSk (sw ⟨4 * g.val, by omega⟩ x0) (sw ⟨4 * g.val + 1, by omega⟩ x0) (sw ⟨4 * g.val + 2, by omega⟩ x0) (sw ⟨4 * g.val + 3, by omega⟩ x0)
/-- its masked scores, -/
def xG (g : Fin 4) : FVec F S256x512 .f32 := tX (k0_pay9 i) (win g (wk x2) (wk x3)) (stack g (wq x1))
/-- its probabilities, -/
def pG (g : Fin 4) : FVec F S256x512 .f32 := tP (xG i x1 x2 x3 g) (skG x0 g)
/-- their gradient, -/
def dpG (g : Fin 4) : FVec F S256x512 .f32 := tDp (win g (wk x4) (wk x5)) (stack g (wd x6))
/-- its scores' gradient, -/
def dsG (g : Fin 4) : FVec F S256x512 .bf16 := tDs (pG i x0 x1 x2 x3 g) (dpG x4 x5 x6 g)
/-- its sinks', row by row, -/
def dskG (g : Fin 4) : FVec F S1x512 .f32 := tDsk (pG i x0 x1 x2 x3 g) (dpG x4 x5 x6 g) (tPs (xG i x1 x2 x3 g) (skG x0 g))
/-- its queries', -/
def dqG (g : Fin 4) : FVec F S128x256 .f32 := unstack (tDq (dsG i x0 x1 x2 x3 x4 x5 x6 g) (win g (wk x2) (wk x3)))
/-- its keys', of the window, -/
def dkG (g : Fin 4) : FVec F S256x128 .f32 := tDk (dsG i x0 x1 x2 x3 x4 x5 x6 g) (stack g (wq x1))
/-- and its values'. -/
def dvG (g : Fin 4) : FVec F S256x128 .f32 := tDv (pG i x0 x1 x2 x3 g) (stack g (wd x6))

/-- The first half of a window, -/
def fst1 (y : FVec F S256x128 .f32) : FVec F S128x128 .f32 := extractStridedSlice S128x128 ![0, 0] y slices_S256x128_o0_0_S128x128
/-- and the second. -/
def snd1 (y : FVec F S256x128 .f32) : FVec F S128x128 .f32 := extractStridedSlice S128x128 ![128, 0] y slices_S256x128_o128_0_S128x128
/-- Four key heads side by side. -/
def four (y : Fin 4 → FVec F S128x128 .f32) : FVec F S128x512 .f32 :=
  concatenate S128x512 1 [⟨S128x128, y 0⟩, ⟨S128x128, y 1⟩, ⟨S128x128, y 2⟩, ⟨S128x128, y 3⟩] concatenates_S128x128_S128x128_S128x128_S128x128_S128x512_d1

/-- A block of the queries' gradient, -/
def blk7 : FVec F S128x1024 .f32 :=
  concatenate S128x1024 1 [⟨S128x256, dqG i x0 x1 x2 x3 x4 x5 x6 0⟩, ⟨S128x256, dqG i x0 x1 x2 x3 x4 x5 x6 1⟩, ⟨S128x256, dqG i x0 x1 x2 x3 x4 x5 x6 2⟩,
    ⟨S128x256, dqG i x0 x1 x2 x3 x4 x5 x6 3⟩] concatenates_S128x256_S128x256_S128x256_S128x256_S128x1024_d1
/-- of the keys' of the block before, -/
def blk8 : FVec F S128x512 .f32 := four fun g => fst1 (dkG i x0 x1 x2 x3 x4 x5 x6 g)
/-- of the keys' of this block, -/
def blk9 : FVec F S128x512 .f32 := four fun g => snd1 (dkG i x0 x1 x2 x3 x4 x5 x6 g)
/-- of the values' of the block before, -/
def blk10 : FVec F S128x512 .f32 := four fun g => fst1 (dvG i x0 x1 x2 x3 x6 g)
/-- of the values' of this block, -/
def blk11 : FVec F S128x512 .f32 := four fun g => snd1 (dvG i x0 x1 x2 x3 x6 g)
/-- and of the sinks'. -/
def row12 : FVec F S1x128 .f32 :=
  sinkAdd 12 (dskG i x0 x1 x2 x3 x4 x5 x6 3) (sinkAdd 8 (dskG i x0 x1 x2 x3 x4 x5 x6 2) (sinkAdd 4 (dskG i x0 x1 x2 x3 x4 x5 x6 1)
    (sinkAdd 0 (dskG i x0 x1 x2 x3 x4 x5 x6 0) (broadcast S1x128 (Scalar.ofBits .f32 0x00000000#32 : F .f32)))))

variable (c : Dev nD)
  (a1 : Memref sig .tc .smem S1x16 .f32) (h1 : a1.IsWhole)
  (a2 : Memref sig .tc .vmem S128x1024 .bf16) (h2 : a2.IsWhole)
  (a3 : Memref sig .tc .vmem S128x512 .bf16) (h3 : a3.IsWhole)
  (a4 : Memref sig .tc .vmem S128x512 .bf16) (h4 : a4.IsWhole)
  (a5 : Memref sig .tc .vmem S128x512 .bf16) (h5 : a5.IsWhole)
  (a6 : Memref sig .tc .vmem S128x512 .bf16) (h6 : a6.IsWhole)
  (a7 : Memref sig .tc .vmem S128x1024 .f32) (h7 : a7.IsWhole)
  (a8 : Memref sig .tc .vmem S128x1024 .f32) (h8 : a8.IsWhole)
  (a9 : Memref sig .tc .vmem S128x512 .f32) (h9 : a9.IsWhole)
  (a10 : Memref sig .tc .vmem S128x512 .f32) (h10 : a10.IsWhole)
  (a11 : Memref sig .tc .vmem S128x512 .f32) (h11 : a11.IsWhole)
  (a12 : Memref sig .tc .vmem S128x512 .f32) (h12 : a12.IsWhole)
  (a13 : Memref sig .tc .vmem S1x128 .f32) (h13 : a13.IsWhole)

theorem outA7 (hc0 : cond0_0 i) :
    out0_A_7 c i a1 h1 a2 h2 a3 h3 a4 h4 a5 h5 a6 h6 a7 h7 a8 h8 a9 h9 a10 h10 a11 h11 a12 h12 a13 h13 hc0 x0 x1 x2 x3 x4 x5 x6 = blk7 i x0 x1 x2 x3 x4 x5 x6 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 hc0 x0 x1 x2 x3 x4 x5 x6)]
  unfold kernelRun0_A
  dsimp only
  sl_unfold_words
  refine (View.canon_unit_zero (S := S128x1024) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  rfl

theorem outA8 (hc0 : cond0_0 i) :
    out0_A_8 c i a1 h1 a2 h2 a3 h3 a4 h4 a5 h5 a6 h6 a7 h7 a8 h8 a9 h9 a10 h10 a11 h11 a12 h12 a13 h13 hc0 x0 x1 x2 x3 x4 x5 x6 = blk8 i x0 x1 x2 x3 x4 x5 x6 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc0 x0 x1 x2 x3 x4 x5 x6)]
  unfold kernelRun0_A
  dsimp only
  sl_unfold_words
  refine (View.canon_unit_zero (S := S128x512) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  rfl

theorem outA9 (hc0 : cond0_0 i) :
    out0_A_9 c i a1 h1 a2 h2 a3 h3 a4 h4 a5 h5 a6 h6 a7 h7 a8 h8 a9 h9 a10 h10 a11 h11 a12 h12 a13 h13 hc0 x0 x1 x2 x3 x4 x5 x6 = blk9 i x0 x1 x2 x3 x4 x5 x6 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc0 x0 x1 x2 x3 x4 x5 x6)]
  unfold kernelRun0_A
  dsimp only
  sl_unfold_words
  refine (View.canon_unit_zero (S := S128x512) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  rfl

theorem outA10 (hc0 : cond0_0 i) :
    out0_A_10 c i a1 h1 a2 h2 a3 h3 a4 h4 a5 h5 a6 h6 a7 h7 a8 h8 a9 h9 a10 h10 a11 h11 a12 h12 a13 h13 hc0 x0 x1 x2 x3 x4 x5 x6 = blk10 i x0 x1 x2 x3 x6 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc0 x0 x1 x2 x3 x4 x5 x6)]
  unfold kernelRun0_A
  dsimp only
  sl_unfold_words
  refine (View.canon_unit_zero (S := S128x512) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  rfl

theorem outA11 (hc0 : cond0_0 i) :
    out0_A_11 c i a1 h1 a2 h2 a3 h3 a4 h4 a5 h5 a6 h6 a7 h7 a8 h8 a9 h9 a10 h10 a11 h11 a12 h12 a13 h13 hc0 x0 x1 x2 x3 x4 x5 x6 = blk11 i x0 x1 x2 x3 x6 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc0 x0 x1 x2 x3 x4 x5 x6)]
  unfold kernelRun0_A
  dsimp only
  sl_unfold_words
  refine (View.canon_unit_zero (S := S128x512) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  rfl

theorem outA12 (hc0 : cond0_0 i) :
    out0_A_12 c i a1 h1 a2 h2 a3 h3 a4 h4 a5 h5 a6 h6 a7 h7 a8 h8 a9 h9 a10 h10 a11 h11 a12 h12 a13 h13 hc0 x0 x1 x2 x3 x4 x5 x6 = addf (ws (broadcast S1x128 (Scalar.ofBits .f32 0x00000000#32 : F .f32))) (row12 i x0 x1 x2 x3 x4 x5 x6) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc0 x0 x1 x2 x3 x4 x5 x6)]
  unfold kernelRun0_A
  dsimp only
  sl_unfold_words
  rw [View.canon_cons_unit_zero (S := S1x128) (off := ![0, 0]) (show (![0, 0] : Fin 2 → ℕ) = fun _ => 0 by decide)]
  rw [View.readCov_cons_unit_lit']
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  · rfl
  all_goals decide

theorem outB7 (hc0 : ¬ cond0_0 i) (y12 : Vec F S1x128 .f32) :
    out0_B_7 c i a1 h1 a2 h2 a3 h3 a4 h4 a5 h5 a6 h6 a7 h7 a8 h8 a9 h9 a10 h10 a11 h11 a12 h12 a13 h13 hc0 x0 x1 x2 x3 x4 x5 x6 y12 = blk7 i x0 x1 x2 x3 x4 x5 x6 := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 hc0 x0 x1 x2 x3 x4 x5 x6 y12)]
  unfold kernelRun0_B
  dsimp only
  sl_unfold_words
  refine (View.canon_unit_zero (S := S128x1024) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  rfl

theorem outB8 (hc0 : ¬ cond0_0 i) (y12 : Vec F S1x128 .f32) :
    out0_B_8 c i a1 h1 a2 h2 a3 h3 a4 h4 a5 h5 a6 h6 a7 h7 a8 h8 a9 h9 a10 h10 a11 h11 a12 h12 a13 h13 hc0 x0 x1 x2 x3 x4 x5 x6 y12 = blk8 i x0 x1 x2 x3 x4 x5 x6 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc0 x0 x1 x2 x3 x4 x5 x6 y12)]
  unfold kernelRun0_B
  dsimp only
  sl_unfold_words
  refine (View.canon_unit_zero (S := S128x512) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  rfl

theorem outB9 (hc0 : ¬ cond0_0 i) (y12 : Vec F S1x128 .f32) :
    out0_B_9 c i a1 h1 a2 h2 a3 h3 a4 h4 a5 h5 a6 h6 a7 h7 a8 h8 a9 h9 a10 h10 a11 h11 a12 h12 a13 h13 hc0 x0 x1 x2 x3 x4 x5 x6 y12 = blk9 i x0 x1 x2 x3 x4 x5 x6 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc0 x0 x1 x2 x3 x4 x5 x6 y12)]
  unfold kernelRun0_B
  dsimp only
  sl_unfold_words
  refine (View.canon_unit_zero (S := S128x512) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  rfl

theorem outB10 (hc0 : ¬ cond0_0 i) (y12 : Vec F S1x128 .f32) :
    out0_B_10 c i a1 h1 a2 h2 a3 h3 a4 h4 a5 h5 a6 h6 a7 h7 a8 h8 a9 h9 a10 h10 a11 h11 a12 h12 a13 h13 hc0 x0 x1 x2 x3 x4 x5 x6 y12 = blk10 i x0 x1 x2 x3 x6 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc0 x0 x1 x2 x3 x4 x5 x6 y12)]
  unfold kernelRun0_B
  dsimp only
  sl_unfold_words
  refine (View.canon_unit_zero (S := S128x512) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  rfl

theorem outB11 (hc0 : ¬ cond0_0 i) (y12 : Vec F S1x128 .f32) :
    out0_B_11 c i a1 h1 a2 h2 a3 h3 a4 h4 a5 h5 a6 h6 a7 h7 a8 h8 a9 h9 a10 h10 a11 h11 a12 h12 a13 h13 hc0 x0 x1 x2 x3 x4 x5 x6 y12 = blk11 i x0 x1 x2 x3 x6 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc0 x0 x1 x2 x3 x4 x5 x6 y12)]
  unfold kernelRun0_B
  dsimp only
  sl_unfold_words
  refine (View.canon_unit_zero (S := S128x512) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  rfl

theorem outB12 (hc0 : ¬ cond0_0 i) (y12 : Vec F S1x128 .f32) :
    out0_B_12 c i a1 h1 a2 h2 a3 h3 a4 h4 a5 h5 a6 h6 a7 h7 a8 h8 a9 h9 a10 h10 a11 h11 a12 h12 a13 h13 hc0 x0 x1 x2 x3 x4 x5 x6 y12 = addf (ws y12) (row12 i x0 x1 x2 x3 x4 x5 x6) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc0 x0 x1 x2 x3 x4 x5 x6 y12)]
  unfold kernelRun0_B
  dsimp only
  sl_unfold_words
  refine (View.canon_unit_zero (S := S1x128) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  try rw [h7.read_unread x6]
  try rw [h13.read_unread y12]
  rfl

end Terms

end Cert.AttnVal

end
-- ==== Proof.AttnReal.lean ====
/- What a block of the attention's backward kernel writes when its windows hold real numbers: the derivative's terms, in
   the kernel's layout. -/
module

public import proofs.«01_k».proof.Proof.AttnBlock

@[expose] public section

set_option maxRecDepth 16384

noncomputable section

namespace Cert.AttnVal

open Cert.AttnIdeal Cert.AttnIdeal.Gen Idealize.ShloMosaic Idealize.ShloMosaic.TcCoe Idealize.SL.Sem

theorem zz : (![0, 0] : Fin 2 → ℕ) = fun _ => 0 := by decide

theorem wq_apply (x : Vec Ideal S128x1024 .bf16) (y : S128x1024.Idx) : wq x y = x y := by
  unfold wq
  rw [View.ld_unit_zero (S := S128x1024) zz]
  obtain ⟨a, b, rfl⟩ : ∃ (a : Fin 128) (b : Fin 1024), y = ix2 a b := ⟨y 0, y 1, eq_ix2 y⟩
  pointwise

theorem wd_apply (x : Vec Ideal S128x1024 .f32) (y : S128x1024.Idx) : (wd x y : EReal) = x y := by
  unfold wd
  rw [View.ld_unit_zero (S := S128x1024) zz]
  rfl

theorem wk_apply (x : Vec Ideal S128x512 .bf16) (y : S128x512.Idx) : wk x y = x y := by
  unfold wk
  rw [View.ld_unit_zero (S := S128x512) zz]
  obtain ⟨a, b, rfl⟩ : ∃ (a : Fin 128) (b : Fin 512), y = ix2 a b := ⟨y 0, y 1, eq_ix2 y⟩
  pointwise

theorem ws_apply (x : Vec Ideal S1x128 .f32) (y : S1x128.Idx) : ws x y = x y := by
  unfold ws
  rw [View.ld_unit_zero (S := S1x128) zz]
  obtain ⟨a, b, rfl⟩ : ∃ (a : Fin 1) (b : Fin 128), y = ix2 a b := ⟨y 0, y 1, eq_ix2 y⟩
  pointwise
  rw [Subsingleton.elim a 0]

theorem sw_apply (x : Vec Ideal S1x16 .f32) (h : Fin 16) : sw h x = x (ix2 0 h) := by
  unfold sw
  refine View.ld_unit_apply_of (S := S1x16) x _ _ _ _ (ix2 0 h) fun a => ?_
  fin_cases a <;> rfl

/-- One bit of the mask. -/
theorem mask_bit (n a κ : ℕ) (hn : n < 16) (ha : a < 128) (hκ : κ < 256) :
    IntOp.andi (IntOp.andi (IntOp.cmpi .sgt (BitVec.ofNat 32 κ) (BitVec.ofNat 32 a)) (IntOp.cmpi .sle (BitVec.ofNat 32 κ) (IntOp.addi (BitVec.ofNat 32 a) 128#32)))
      (IntOp.ori (IntOp.cmpi .sge (BitVec.ofNat 32 κ) 128#32) (Scalar.cmpi .sgt (BitVec.ofNat 32 n) 0#32)) = if sees n a κ then 1#1 else 0#1 := by
  have e1 : IntOp.addi (BitVec.ofNat 32 a) 128#32 = BitVec.ofNat 32 (a + 128) := (BitVec.ofNat_add a 128).symm
  have e2 : Scalar.cmpi .sgt (BitVec.ofNat 32 n) 0#32 = IntOp.cmpi .sgt (BitVec.ofNat 32 n) (BitVec.ofNat 32 0) := rfl
  rw [e1, e2, show (128#32) = BitVec.ofNat 32 128 from rfl, WordCmp.cmpi_sgt_ofNat (by omega) (by omega), WordCmp.cmpi_sle_ofNat (by omega) (by omega),
    WordCmp.cmpi_sge_ofNat (by omega) (by omega), WordCmp.cmpi_sgt_ofNat (by omega) (by omega)]
  unfold sees
  by_cases h1 : a < κ <;> by_cases h2 : κ ≤ a + 128 <;> by_cases h3 : 128 ≤ κ <;> by_cases h4 : 0 < n <;> simp [h1, h2, h3, h4] <;> rfl

/-- The mask. -/
theorem ok_apply (i : grid0.Coords) (κ : Fin 256) (r : Fin 512) : k0_pay9 i (ix2 κ r) = if sees (i 0).val (r.val % 128) κ.val then 1#1 else 0#1 := by
  have hi : (i 0).val < 16 := (i 0).isLt
  have hr := r.isLt
  pointwise [k0_pay9]
  by_cases g1 : r.val < 128
  · rw [dif_pos g1, mask_bit _ _ _ hi g1 κ.isLt, Nat.mod_eq_of_lt g1]
  rw [dif_neg g1]
  by_cases g2 : r.val - 128 < 128
  · rw [dif_pos g2, mask_bit _ _ _ hi g2 κ.isLt, show r.val % 128 = r.val - 128 by omega]
  rw [dif_neg g2]
  by_cases g3 : r.val - 128 - 128 < 128
  · rw [dif_pos g3, mask_bit _ _ _ hi g3 κ.isLt, show r.val % 128 = r.val - 128 - 128 by omega]
  rw [dif_neg g3, mask_bit _ _ _ hi (by omega) κ.isLt, show r.val % 128 = r.val - 128 - 128 - 128 by omega]

section Block

variable {i : grid0.Coords} {x0 : Vec Ideal S1x16 .f32} {x1 : Vec Ideal S128x1024 .bf16} {x2 x3 x4 x5 : Vec Ideal S128x512 .bf16} {x6 : Vec Ideal S128x1024 .f32}
  {n : ℕ} {q k v ct : ℕ → ℕ → ℝ} {sk : ℕ → ℝ} (hi : (i 0).val = n)
  (h0 : ∀ h : Fin 16, (x0 (ix2 0 h) : EReal) = ((sk h.val : ℝ) : EReal))
  (h1 : ∀ a b, (x1 (ix2 a b) : EReal) = ((q (128 * n + a.val) b.val * (1 / 8) : ℝ) : EReal))
  (h2 : ∀ a b, (x2 (ix2 a b) : EReal) = ((kw k n a.val (64 * (b.val / 128) + b.val % 64) : ℝ) : EReal))
  (h3 : ∀ a b, (x3 (ix2 a b) : EReal) = ((kw k n (128 + a.val) (64 * (b.val / 128) + b.val % 64) : ℝ) : EReal))
  (h4 : ∀ a b, (x4 (ix2 a b) : EReal) = ((kw v n a.val (64 * (b.val / 128) + b.val % 64) : ℝ) : EReal))
  (h5 : ∀ a b, (x5 (ix2 a b) : EReal) = ((kw v n (128 + a.val) (64 * (b.val / 128) + b.val % 64) : ℝ) : EReal))
  (h6 : ∀ a b, (x6 (ix2 a b) : EReal) = ((ct (128 * n + a.val) b.val : ℝ) : EReal))

include hi in
theorem okG (κ : Fin 256) (r : Fin 512) : k0_pay9 i (ix2 κ r) = if (fun r κ => sees n (r % 128) κ) r.val κ.val then 1#1 else 0#1 := by
  rw [ok_apply, hi]

/-- Key head `u` of a window. -/
theorem winG {K : ℕ → ℕ → ℝ} {y2 y3 : Vec Ideal S128x512 .bf16}
    (h2 : ∀ a b, (y2 (ix2 a b) : EReal) = ((kw K n a.val (64 * (b.val / 128) + b.val % 64) : ℝ) : EReal))
    (h3 : ∀ a b, (y3 (ix2 a b) : EReal) = ((kw K n (128 + a.val) (64 * (b.val / 128) + b.val % 64) : ℝ) : EReal)) (u : Fin 4) (κ : Fin 256) (c : Fin 128) :
    (win u (wk y2) (wk y3) (ix2 κ c) : EReal) = ((spr (kw K n) u.val κ.val c.val : ℝ) : EReal) := by
  have h := win_apply (r := fun a b => kw K n a (64 * (b / 128) + b % 64)) u (fun a b => (wk_apply y2 _).trans (h2 a b)) (fun a b => (wk_apply y3 _).trans (h3 a b)) κ c
  refine h.trans (congrArg (fun r : ℝ => (r : EReal)) ?_)
  have hc := c.isLt
  unfold spr
  congr 1
  omega

include h1 in
/-- The queries of key head `u`, stacked, -/
theorem qG (u : Fin 4) (r : Fin 512) (c : Fin 128) :
    (stack u (wq x1) (ix2 r c) : EReal) = ((stk (fun a b => q (128 * n + a) b * (1 / 8)) u.val r.val c.val : ℝ) : EReal) :=
  stack_apply (r := fun a b => q (128 * n + a) b * (1 / 8)) (fun a b => (wq_apply x1 _).trans (h1 a b)) u r c

include h6 in
/-- and the result's gradients. -/
theorem gG (u : Fin 4) (r : Fin 512) (c : Fin 128) :
    (stack u (wd x6) (ix2 r c) : EReal) = ((stk (fun a b => ct (128 * n + a) b) u.val r.val c.val : ℝ) : EReal) :=
  stack_apply (r := fun a b => ct (128 * n + a) b) (fun a b => (wd_apply x6 _).trans (h6 a b)) u r c

include h0 in
theorem skG_apply (u : Fin 4) (r : Fin 512) : (skG x0 u (ix2 0 r) : EReal) = ((sk (4 * u.val + r.val / 128) : ℝ) : EReal) := by
  have hr := r.isLt
  unfold skG
  pointwise [tSk]
  simp only [sw_apply, h0]
  split_ifs <;> exact congrArg (fun r : ℝ => (r : EReal)) (by congr 1; omega)

include hi h0 h1 h2 h3 in
theorem pG_apply (u : Fin 4) (κ : Fin 256) (r : Fin 512) :
    (pG i x0 x1 x2 x3 u (ix2 κ r) : EReal) = ((pW q k sk n (4 * u.val + r.val / 128) (r.val % 128) κ.val : ℝ) : EReal) := by
  refine (tP_apply (o := fun r κ => sees n (r % 128) κ) (σ := fun r => sk (4 * u.val + r / 128)) (okG hi) (winG h2 h3 u) (qG h1 u) (skG_apply h0 u) κ r).trans (congrArg (fun r : ℝ => (r : EReal)) ?_)
  exact prob_congr (fun κ h => score_eq q k r.isLt h) _

include hi h0 h1 h2 h3 h4 h5 h6 in
theorem dsG_apply (u : Fin 4) (κ : Fin 256) (r : Fin 512) :
    (dsG i x0 x1 x2 x3 x4 x5 x6 u (ix2 κ r) : EReal) = ((dsW q k v sk ct n (4 * u.val + r.val / 128) (r.val % 128) κ.val : ℝ) : EReal) := by
  refine (tDs_apply (o := fun r κ => sees n (r % 128) κ) (σ := fun r => sk (4 * u.val + r / 128)) (okG hi) (winG h2 h3 u) (winG h4 h5 u) (qG h1 u) (gG h6 u) (skG_apply h0 u) κ r).trans (congrArg (fun r : ℝ => (r : EReal)) ?_)
  exact dscore_congr (fun κ h => score_eq q k r.isLt h) (fun κ h => dprob_eq v ct r.isLt h) _

include hi h0 h1 h2 h3 h4 h5 h6 in
theorem dskG_apply (u : Fin 4) (r : Fin 512) :
    (dskG i x0 x1 x2 x3 x4 x5 x6 u (ix2 0 r) : EReal) = ((dskW q k v sk ct n (4 * u.val + r.val / 128) (r.val % 128) : ℝ) : EReal) := by
  refine (tDsk_apply (o := fun r κ => sees n (r % 128) κ) (σ := fun r => sk (4 * u.val + r / 128)) (okG hi) (winG h2 h3 u) (winG h4 h5 u) (qG h1 u) (gG h6 u) (skG_apply h0 u) r).trans (congrArg (fun r : ℝ => (r : EReal)) ?_)
  exact dsinkRow_congr (fun κ h => score_eq q k r.isLt h) (fun κ h => dprob_eq v ct r.isLt h)

include hi h0 h1 h2 h3 h4 h5 h6 in
theorem dqG_apply (u : Fin 4) (a : Fin 128) (c : Fin 256) :
    (dqG i x0 x1 x2 x3 x4 x5 x6 u (ix2 a c) : EReal) = ((dqW q k v sk ct n (4 * u.val + c.val / 64) a.val (c.val % 64) : ℝ) : EReal) := by
  have hc := c.isLt
  have ha := a.isLt
  have h (r : Fin 512) (c : Fin 128) : (tDq (dsG i x0 x1 x2 x3 x4 x5 x6 u) (win u (wk x2) (wk x3)) (ix2 r c) : EReal) =
      (((∑ κ : Fin 256, dsW q k v sk ct n (4 * u.val + r.val / 128) (r.val % 128) κ.val * spr (kw k n) u.val κ.val c.val) * (1 / 8) : ℝ) : EReal) := by
    pointwise [tDq]
    simp only [dsG_apply hi h0 h1 h2 h3 h4 h5 h6, winG h2 h3, bits_eighth, ← EReal.coe_mul, Cert.Lift.coe_sum]
  refine (unstack_apply (f := fun r c => (∑ κ : Fin 256, dsW q k v sk ct n (4 * u.val + r / 128) (r % 128) κ.val * spr (kw k n) u.val κ.val c) * (1 / 8)) h a c).trans
    (congrArg (fun r : ℝ => (r : EReal)) ?_)
  unfold dqW
  rw [show (128 * (c.val / 64) + a.val) / 128 = c.val / 64 by omega, show (128 * (c.val / 64) + a.val) % 128 = a.val by omega,
    show (4 * u.val + c.val / 64) / 4 = u.val by omega]
  congr 1
  refine Finset.sum_congr rfl fun κ _ => ?_
  unfold spr
  rw [show c.val % 128 % 64 = c.val % 64 by omega]
  cases h : sees n a.val κ.val
  · unfold dsW
    rw [dscore_of_not h, zero_mul, zero_mul]
  · rw [kw_eq k h]

/-- One lane of a key head's tile: the query heads of the lane's half. -/
def lanes (D : ℕ → ℝ) (c : ℕ) : ℝ := ∑ j : Fin 4, if (c < 64 ↔ j.val % 2 = 0) then D j.val else 0

theorem lanes_add (D : ℕ → ℝ) (c : ℕ) (hc : c < 64) : lanes D c + lanes D (64 + c) = ∑ j : Fin 4, D j.val := by
  unfold lanes
  rw [← Finset.sum_add_distrib]
  refine Finset.sum_congr rfl fun j _ => ?_
  by_cases h : j.val % 2 = 0
  · simp [h, hc]
  · simp [h, hc]

include hi h0 h1 h2 h3 h4 h5 h6 in
theorem dkG_apply (u : Fin 4) (κ : Fin 256) (c : Fin 128) :
    (dkG i x0 x1 x2 x3 x4 x5 x6 u (ix2 κ c) : EReal) = ((lanes (fun j => dkH q k v sk ct n (4 * u.val + j) κ.val (c.val % 64)) c.val : ℝ) : EReal) := by
  unfold dkG
  pointwise [tDk]
  simp only [dsG_apply hi h0 h1 h2 h3 h4 h5 h6, qG h1, ← EReal.coe_mul, Cert.Lift.coe_sum]
  exact congrArg (fun r : ℝ => (r : EReal)) (stack_sum (fun h a => dsW q k v sk ct n h a κ.val) _ u.val c.val c.isLt)

include hi h0 h1 h2 h3 h6 in
theorem dvG_apply (u : Fin 4) (κ : Fin 256) (c : Fin 128) :
    (dvG i x0 x1 x2 x3 x6 u (ix2 κ c) : EReal) = ((lanes (fun j => dvH q k sk ct n (4 * u.val + j) κ.val (c.val % 64)) c.val : ℝ) : EReal) := by
  unfold dvG
  pointwise [tDv]
  simp only [pG_apply hi h0 h1 h2 h3, gG h6, ← EReal.coe_mul, Cert.Lift.coe_sum]
  exact congrArg (fun r : ℝ => (r : EReal)) (stack_sum (fun h a => pW q k sk n h a κ.val) _ u.val c.val c.isLt)

/-- Four tiles side by side. -/
theorem four_apply {y : Fin 4 → FVec Ideal S128x128 .f32} {f : ℕ → ℕ → ℕ → ℝ} (hy : ∀ u a c, (y u (ix2 a c) : EReal) = ((f u.val a.val c.val : ℝ) : EReal))
    (a : Fin 128) (b : Fin 512) : (four y (ix2 a b) : EReal) = ((f (b.val / 128) a.val (b.val % 128) : ℝ) : EReal) := by
  have hb := b.isLt
  unfold four
  pointwise
  simp only [hy]
  split_ifs <;> exact congrArg (fun r : ℝ => (r : EReal)) (by congr 1 <;> first | omega | (dsimp only [Fin.isValue, Fin.val_zero, Fin.val_one, Fin.val_two]; omega))

include hi h0 h1 h2 h3 h4 h5 h6 in
/-- A block of the queries' gradient. -/
theorem blk7_apply (a : Fin 128) (b : Fin 1024) :
    (blk7 i x0 x1 x2 x3 x4 x5 x6 (ix2 a b) : EReal) = ((dqW q k v sk ct n (b.val / 64) a.val (b.val % 64) : ℝ) : EReal) := by
  have hb := b.isLt
  unfold blk7
  pointwise
  simp only [dqG_apply hi h0 h1 h2 h3 h4 h5 h6]
  split_ifs <;> exact congrArg (fun r : ℝ => (r : EReal)) (by congr 1 <;> first | omega | (simp only [Fin.isValue, Fin.val_zero, Fin.val_one, Fin.val_two, show (3 : Fin 4).val = 3 from rfl]; omega))

include hi h0 h1 h2 h3 h4 h5 h6 in
/-- A block of the keys' gradient, for the block before, -/
theorem blk8_apply (a : Fin 128) (b : Fin 512) : (blk8 i x0 x1 x2 x3 x4 x5 x6 (ix2 a b) : EReal) =
    ((lanes (fun j => dkH q k v sk ct n (4 * (b.val / 128) + j) a.val (b.val % 128 % 64)) (b.val % 128) : ℝ) : EReal) := by
  refine four_apply (f := fun u a c => lanes (fun j => dkH q k v sk ct n (4 * u + j) a (c % 64)) c) (fun u a c => ?_) a b
  pointwise [fst1]
  exact dkG_apply hi h0 h1 h2 h3 h4 h5 h6 u _ c

include hi h0 h1 h2 h3 h4 h5 h6 in
/-- and for this one. -/
theorem blk9_apply (a : Fin 128) (b : Fin 512) : (blk9 i x0 x1 x2 x3 x4 x5 x6 (ix2 a b) : EReal) =
    ((lanes (fun j => dkH q k v sk ct n (4 * (b.val / 128) + j) (128 + a.val) (b.val % 128 % 64)) (b.val % 128) : ℝ) : EReal) := by
  refine four_apply (f := fun u a c => lanes (fun j => dkH q k v sk ct n (4 * u + j) (128 + a) (c % 64)) c) (fun u a c => ?_) a b
  pointwise [snd1]
  exact dkG_apply hi h0 h1 h2 h3 h4 h5 h6 u _ c

include hi h0 h1 h2 h3 h6 in
/-- A block of the values' gradient, for the block before, -/
theorem blk10_apply (a : Fin 128) (b : Fin 512) : (blk10 i x0 x1 x2 x3 x6 (ix2 a b) : EReal) =
    ((lanes (fun j => dvH q k sk ct n (4 * (b.val / 128) + j) a.val (b.val % 128 % 64)) (b.val % 128) : ℝ) : EReal) := by
  refine four_apply (f := fun u a c => lanes (fun j => dvH q k sk ct n (4 * u + j) a (c % 64)) c) (fun u a c => ?_) a b
  pointwise [fst1]
  exact dvG_apply hi h0 h1 h2 h3 h6 u _ c

include hi h0 h1 h2 h3 h6 in
/-- and for this one. -/
theorem blk11_apply (a : Fin 128) (b : Fin 512) : (blk11 i x0 x1 x2 x3 x6 (ix2 a b) : EReal) =
    ((lanes (fun j => dvH q k sk ct n (4 * (b.val / 128) + j) (128 + a.val) (b.val % 128 % 64)) (b.val % 128) : ℝ) : EReal) := by
  refine four_apply (f := fun u a c => lanes (fun j => dvH q k sk ct n (4 * u + j) (128 + a) (c % 64)) c) (fun u a c => ?_) a b
  pointwise [snd1]
  exact dvG_apply hi h0 h1 h2 h3 h6 u _ c

include hi h0 h1 h2 h3 h4 h5 h6 in
/-- A block's part of the sinks' gradient. -/
theorem row12_apply (c : Fin 16) (c' : Fin 128) (hc : c'.val = c.val) :
    (row12 i x0 x1 x2 x3 x4 x5 x6 (ix2 0 c') : EReal) = ((∑ a : Fin 128, dskW q k v sk ct n c.val a.val : ℝ) : EReal) := by
  have hz : (broadcast S1x128 (Scalar.ofBits .f32 0x00000000#32 : Ideal .f32) (ix2 0 c') : EReal) = ((0 : ℝ) : EReal) := by
    pointwise
    rfl
  have hs (u : Fin 4) (r : Fin 512) := dskG_apply hi h0 h1 h2 h3 h4 h5 h6 u r
  have h := sinkAdd_apply (f := fun r => dskW q k v sk ct n (4 * 3 + r / 128) (r % 128)) (hs 3) 12 (by decide) c'
    (sinkAdd_apply (f := fun r => dskW q k v sk ct n (4 * 2 + r / 128) (r % 128)) (hs 2) 8 (by decide) c'
      (sinkAdd_apply (f := fun r => dskW q k v sk ct n (4 * 1 + r / 128) (r % 128)) (hs 1) 4 (by decide) c'
        (sinkAdd_apply (f := fun r => dskW q k v sk ct n (4 * 0 + r / 128) (r % 128)) (hs 0) 0 (by decide) c' hz)))
  refine h.trans (congrArg (fun r : ℝ => (r : EReal)) ?_)
  have e (j : Fin 4) (a : Fin 128) : (128 * j.val + a.val) / 128 = j.val ∧ (128 * j.val + a.val) % 128 = a.val := by omega
  simp only [fun j a => (e j a).1, fun j a => (e j a).2, hc]
  fin_cases c <;> simp [Fin.sum_univ_four]

end Block

end Cert.AttnVal

end
-- ==== Proof.AttnArr.lean ====
/- The arrays that the attention's backward kernel leaves, over its whole grid: the windows of a point, read from the
   arguments, and the six outputs. -/
module

public import proofs.«01_k».proof.Proof.AttnReal
public import proofs.«01_k».proof.Proof.Finite
public import Idealize.ShloMosaic.Lib.Quiescent
public import Idealize.ShloMosaic.Lib.Claim
public import Idealize.ShloMosaic.Lib.Tactic

@[expose] public section

set_option maxRecDepth 16384

noncomputable section

namespace Cert.AttnVal

open Cert.AttnIdeal Cert.AttnIdeal.Gen Idealize.ShloMosaic Idealize.ShloMosaic.TcCoe Idealize.SL.Sem Cert.Lift

/-- The real entries of an array, by numbers. -/
def re2 {a b : ℕ} (M : (⟨2, ![a, b]⟩ : Shape).Idx → EReal) (i j : ℕ) : ℝ := if h : i < a ∧ j < b then EReal.toReal (M (ix2 ⟨i, h.1⟩ ⟨j, h.2⟩)) else 0
/-- The real entries of a vector. -/
def re1 {a : ℕ} (v : (⟨1, ![a]⟩ : Shape).Idx → EReal) (i : ℕ) : ℝ := if h : i < a then EReal.toReal (v (ix1 ⟨i, h⟩)) else 0

theorem re2_eq {a b : ℕ} {M : (⟨2, ![a, b]⟩ : Shape).Idx → EReal} (h : Lift.Reals M) (i : Fin a) (j : Fin b) : M (ix2 i j) = ((re2 M i.val j.val : ℝ) : EReal) := by
  rw [h (ix2 i j)]
  unfold re2
  rw [dif_pos ⟨i.isLt, j.isLt⟩]

theorem re1_eq {a : ℕ} {v : (⟨1, ![a]⟩ : Shape).Idx → EReal} (h : Lift.Reals v) (i : Fin a) : v (ix1 i) = ((re1 v i.val : ℝ) : EReal) := by
  rw [h (ix1 i)]
  unfold re1
  rw [dif_pos i.isLt]

theorem idx : ∀ t : Fin cfg0.N, win0_0.index t = ![0, 0] ∧ win0_1.index t = ![t.val, 0] ∧ win0_2.index t = ![t.val - 1, 0] ∧
    win0_3.index t = ![t.val, 0] ∧ win0_4.index t = ![t.val - 1, 0] ∧ win0_5.index t = ![t.val, 0] ∧ win0_6.index t = ![t.val, 0] ∧
    win0_7.index t = ![t.val, 0] ∧ win0_8.index t = ![t.val, 0] ∧ win0_9.index t = ![t.val, 0] ∧ win0_10.index t = ![t.val, 0] ∧ win0_11.index t = ![t.val, 0] ∧
    win0_12.index t = ![0, 0] :=
  (by decide +kernel : ∀ t : Fin grid0.N, _)

theorem coord : ∀ t : Fin cfg0.N, ((grid0.coords t) 0).val = t.val := (by decide +kernel : ∀ t : Fin grid0.N, _)

variable (m : (ℓ : Loc nD τ sig) → Buf (Elt Ideal) ℓ) (c : Dev nD)

/-- The queries, -/
def Q : S2048x1024.Idx → EReal := m ((c : Thread nD τ).loc main_arg0)
/-- the keys, -/
def K : S2048x256.Idx → EReal := m ((c : Thread nD τ).loc main_arg1)
/-- the values, -/
def W : S2048x256.Idx → EReal := m ((c : Thread nD τ).loc main_arg2)
/-- the sinks -/
def Sk : S16.Idx → EReal := m ((c : Thread nD τ).loc main_arg3)
/-- and the result's gradient. -/
def Ct : S2048x1024.Idx → EReal := m ((c : Thread nD τ).loc main_arg4)

/-- The blocks at point `t`. -/
def X0 (t : Fin cfg0.N) : Vec Ideal S1x16 .f32 := iblk m c 0 t
def X1 (t : Fin cfg0.N) : Vec Ideal S128x1024 .bf16 := iblk m c 1 t
def X2 (t : Fin cfg0.N) : Vec Ideal S128x512 .bf16 := iblk m c 2 t
def X3 (t : Fin cfg0.N) : Vec Ideal S128x512 .bf16 := iblk m c 3 t
def X4 (t : Fin cfg0.N) : Vec Ideal S128x512 .bf16 := iblk m c 4 t
def X5 (t : Fin cfg0.N) : Vec Ideal S128x512 .bf16 := iblk m c 5 t
def X6 (t : Fin cfg0.N) : Vec Ideal S128x1024 .f32 := iblk m c 6 t

/-- The row of the array that row `a` of block `t` is, -/
def row (t : Fin cfg0.N) (a : Fin 128) : Fin 2048 := ⟨128 * t.val + a.val, by have := t.isLt; have : cfg0.N = 16 := N_0; omega⟩
/-- and of the block before it, the first block being its own. -/
def rowP (t : Fin cfg0.N) (a : Fin 128) : Fin 2048 := ⟨128 * (t.val - 1) + a.val, by have := t.isLt; have : cfg0.N = 16 := N_0; omega⟩
/-- The key's lane that a spread lane holds. -/
def lane (b : Fin 512) : Fin 256 := ⟨64 * (b.val / 128) + b.val % 64, by omega⟩

/-- The arrays the region starts from: the host's operations before it. -/
theorem V_eq (b : Ref sig .tc) : V m c b = StableHlo.after hostOps0 (fun b => m (c, b)) b := by
  unfold V V0
  rw [List.flatten_cons, List.flatten_nil, List.append_nil]

theorem X0_apply (t : Fin cfg0.N) (h : Fin 16) : (X0 m c t (ix2 0 h) : EReal) = Sk m c (ix1 h) := by
  obtain ⟨e, -, -, -, -, -, -, -, -, -, -, -, -⟩ := idx t
  unfold X0 Sk
  blk_simp [iblk, e]
  rw [V_eq]
  entry_read
  pointwise
  blk_ext [iblk, e]

/-- The scaled queries, and the spread keys and values, as the host leaves them. -/
theorem scaled_q (r : Fin 2048) (b : Fin 1024) : (V m c main_v2 (ix2 r b) : EReal) = Q m c (ix2 r b) * Ideal.ofBits .f32 0x3E000000#32 := by
  unfold Q
  rw [V_eq]
  entry_read
  pointwise

theorem spread_k (r : Fin 2048) (b : Fin 512) : (V m c main_v6 (ix2 r b) : EReal) = K m c (ix2 r (lane b)) := by
  have h : (⟨b.val / 128 * 64 + b.val % 64, by have := b.isLt; omega⟩ : Fin 256) = lane b := Fin.ext (by unfold lane; dsimp only; omega)
  unfold K
  rw [V_eq]
  entry_read
  pointwise
  split_ifs <;> rw [h]

theorem spread_v (r : Fin 2048) (b : Fin 512) : (V m c main_v10 (ix2 r b) : EReal) = W m c (ix2 r (lane b)) := by
  have h : (⟨b.val / 128 * 64 + b.val % 64, by have := b.isLt; omega⟩ : Fin 256) = lane b := Fin.ext (by unfold lane; dsimp only; omega)
  unfold W
  rw [V_eq]
  entry_read
  pointwise
  split_ifs <;> rw [h]

theorem X1_apply (t : Fin cfg0.N) (a : Fin 128) (b : Fin 1024) :
    (X1 m c t (ix2 a b) : EReal) = Q m c (ix2 (row t a) b) * Ideal.ofBits .f32 0x3E000000#32 := by
  obtain ⟨-, e, -, -, -, -, -, -, -, -, -, -, -⟩ := idx t
  refine Eq.trans ?_ (scaled_q m c (row t a) b)
  unfold X1 row
  blk_simp [iblk, e]
  blk_ext [iblk, e]

theorem X6_apply (t : Fin cfg0.N) (a : Fin 128) (b : Fin 1024) :
    (X6 m c t (ix2 a b) : EReal) = Ct m c (ix2 (row t a) b) := by
  obtain ⟨-, -, -, -, -, -, e, -, -, -, -, -, -⟩ := idx t
  unfold X6 Ct row
  blk_simp [iblk, e]
  rw [V_eq]
  entry_read
  blk_ext [iblk, e]

theorem X2_apply (t : Fin cfg0.N) (a : Fin 128) (b : Fin 512) :
    (X2 m c t (ix2 a b) : EReal) = K m c (ix2 (rowP t a) (lane b)) := by
  obtain ⟨-, -, e, -, -, -, -, -, -, -, -, -, -⟩ := idx t
  refine Eq.trans ?_ (spread_k m c (rowP t a) b)
  unfold X2 rowP
  blk_simp [iblk, e]
  blk_ext [iblk, e]

theorem X3_apply (t : Fin cfg0.N) (a : Fin 128) (b : Fin 512) :
    (X3 m c t (ix2 a b) : EReal) = K m c (ix2 (row t a) (lane b)) := by
  obtain ⟨-, -, -, e, -, -, -, -, -, -, -, -, -⟩ := idx t
  refine Eq.trans ?_ (spread_k m c (row t a) b)
  unfold X3 row
  blk_simp [iblk, e]
  blk_ext [iblk, e]

theorem X4_apply (t : Fin cfg0.N) (a : Fin 128) (b : Fin 512) :
    (X4 m c t (ix2 a b) : EReal) = W m c (ix2 (rowP t a) (lane b)) := by
  obtain ⟨-, -, -, -, e, -, -, -, -, -, -, -, -⟩ := idx t
  refine Eq.trans ?_ (spread_v m c (rowP t a) b)
  unfold X4 rowP
  blk_simp [iblk, e]
  blk_ext [iblk, e]

theorem X5_apply (t : Fin cfg0.N) (a : Fin 128) (b : Fin 512) :
    (X5 m c t (ix2 a b) : EReal) = W m c (ix2 (row t a) (lane b)) := by
  obtain ⟨-, -, -, -, -, e, -, -, -, -, -, -, -⟩ := idx t
  refine Eq.trans ?_ (spread_v m c (row t a) b)
  unfold X5 row
  blk_simp [iblk, e]
  blk_ext [iblk, e]

/-! ### One point's blocks -/

theorem block7 (t : Fin cfg0.N) : (outsAt0 m c t.val t.isLt).1 = blk7 (grid0.coords t) (X0 m c t) (X1 m c t) (X2 m c t) (X3 m c t) (X4 m c t) (X5 m c t) (X6 m c t) := by
  by_cases h : t.val % 16 = 0
  · rw [outsAt0_A m c t h, outA7]; rfl
  · rw [outsAt0_B m c t h, outB7]; rfl

theorem block8 (t : Fin cfg0.N) : (outsAt0 m c t.val t.isLt).2.1 = blk8 (grid0.coords t) (X0 m c t) (X1 m c t) (X2 m c t) (X3 m c t) (X4 m c t) (X5 m c t) (X6 m c t) := by
  by_cases h : t.val % 16 = 0
  · rw [outsAt0_A m c t h, outA8]; rfl
  · rw [outsAt0_B m c t h, outB8]; rfl

theorem block9 (t : Fin cfg0.N) : (outsAt0 m c t.val t.isLt).2.2.1 = blk9 (grid0.coords t) (X0 m c t) (X1 m c t) (X2 m c t) (X3 m c t) (X4 m c t) (X5 m c t) (X6 m c t) := by
  by_cases h : t.val % 16 = 0
  · rw [outsAt0_A m c t h, outA9]; rfl
  · rw [outsAt0_B m c t h, outB9]; rfl

theorem block10 (t : Fin cfg0.N) : (outsAt0 m c t.val t.isLt).2.2.2.1 = blk10 (grid0.coords t) (X0 m c t) (X1 m c t) (X2 m c t) (X3 m c t) (X6 m c t) := by
  by_cases h : t.val % 16 = 0
  · rw [outsAt0_A m c t h, outA10]; rfl
  · rw [outsAt0_B m c t h, outB10]; rfl

theorem block11 (t : Fin cfg0.N) : (outsAt0 m c t.val t.isLt).2.2.2.2.1 = blk11 (grid0.coords t) (X0 m c t) (X1 m c t) (X2 m c t) (X3 m c t) (X6 m c t) := by
  by_cases h : t.val % 16 = 0
  · rw [outsAt0_A m c t h, outA11]; rfl
  · rw [outsAt0_B m c t h, outB11]; rfl

theorem first12 (t : Fin cfg0.N) (h : t.val % 16 = 0) : (outsAt0 m c t.val t.isLt).2.2.2.2.2 =
    addf (ws (broadcast S1x128 (Scalar.ofBits .f32 0x00000000#32 : Ideal .f32))) (row12 (grid0.coords t) (X0 m c t) (X1 m c t) (X2 m c t) (X3 m c t) (X4 m c t) (X5 m c t) (X6 m c t)) := by rw [outsAt0_A m c t h, outA12]; rfl

theorem next12 (t : Fin cfg0.N) (h : ¬t.val % 16 = 0) : (outsAt0 m c t.val t.isLt).2.2.2.2.2 =
    addf (ws (outsAt0 m c (t.val - 1) (Nat.lt_of_le_of_lt (Nat.sub_le _ _) t.isLt)).2.2.2.2.2) (row12 (grid0.coords t) (X0 m c t) (X1 m c t) (X2 m c t) (X3 m c t) (X4 m c t) (X5 m c t) (X6 m c t)) := by rw [outsAt0_B m c t h, outB12]; rfl

/-! ### The arrays -/

variable {m c}

variable (m c) in
/-- The query's gradient, entry by entry. -/
def dqArr : S2048x1024.Idx → EReal := fun i => ((dqW (re2 (Q m c)) (re2 (K m c)) (re2 (W m c)) (re1 (Sk m c)) (re2 (Ct m c)) ((i 0).val / 128) ((i 1).val / 64) ((i 0).val % 128) ((i 1).val % 64) : ℝ) : EReal)
variable (m c) in
/-- The gradients at the window's two halves of keys, two lanes of each head still apart, -/
def dkArr (o : ℕ) : S2048x512.Idx → EReal := fun i => ((lanes (fun j => dkH (re2 (Q m c)) (re2 (K m c)) (re2 (W m c)) (re1 (Sk m c)) (re2 (Ct m c)) ((i 0).val / 128) (4 * ((i 1).val / 128) + j) (o + (i 0).val % 128) ((i 1).val % 128 % 64))
  ((i 1).val % 128) : ℝ) : EReal)
variable (m c) in
/-- and of values. -/
def dvArr (o : ℕ) : S2048x512.Idx → EReal := fun i => ((lanes (fun j => dvH (re2 (Q m c)) (re2 (K m c)) (re1 (Sk m c)) (re2 (Ct m c)) ((i 0).val / 128) (4 * ((i 1).val / 128) + j) (o + (i 0).val % 128) ((i 1).val % 128 % 64))
  ((i 1).val % 128) : ℝ) : EReal)

variable (m c) in
theorem dqArr_at (n a : ℕ) (ha : a < 128) (r : Fin 2048) (hr : r.val = 128 * n + a) (b : Fin 1024) :
    dqArr m c (ix2 r b) = ((dqW (re2 (Q m c)) (re2 (K m c)) (re2 (W m c)) (re1 (Sk m c)) (re2 (Ct m c)) n (b.val / 64) a (b.val % 64) : ℝ) : EReal) := by
  obtain rfl : n = r.val / 128 := by omega
  obtain rfl : a = r.val % 128 := by omega
  rfl

variable (m c) in
theorem dkArr_at (o n a : ℕ) (ha : a < 128) (r : Fin 2048) (hr : r.val = 128 * n + a) (b : Fin 512) : dkArr m c o (ix2 r b) =
    ((lanes (fun j => dkH (re2 (Q m c)) (re2 (K m c)) (re2 (W m c)) (re1 (Sk m c)) (re2 (Ct m c)) n (4 * (b.val / 128) + j) (o + a) (b.val % 128 % 64)) (b.val % 128) : ℝ) : EReal) := by
  obtain rfl : n = r.val / 128 := by omega
  obtain rfl : a = r.val % 128 := by omega
  rfl

variable (m c) in
theorem dvArr_at (o n a : ℕ) (ha : a < 128) (r : Fin 2048) (hr : r.val = 128 * n + a) (b : Fin 512) : dvArr m c o (ix2 r b) =
    ((lanes (fun j => dvH (re2 (Q m c)) (re2 (K m c)) (re1 (Sk m c)) (re2 (Ct m c)) n (4 * (b.val / 128) + j) (o + a) (b.val % 128 % 64)) (b.val % 128) : ℝ) : EReal) := by
  obtain rfl : n = r.val / 128 := by omega
  obtain rfl : a = r.val % 128 := by omega
  rfl

/-- Real entries of the five arguments. -/
structure Real5 (m : (ℓ : Loc nD τ sig) → Buf (Elt Ideal) ℓ) (c : Dev nD) : Prop where
  q : Lift.Reals (Q m c)
  k : Lift.Reals (K m c)
  v : Lift.Reals (W m c)
  s : Lift.Reals (Sk m c)
  g : Lift.Reals (Ct m c)

section Real

variable (H : Real5 m c)
include H

theorem h0 (t : Fin cfg0.N) (h : Fin 16) : (X0 m c t (ix2 0 h) : EReal) = ((re1 (Sk m c) h.val : ℝ) : EReal) :=
  (X0_apply m c t h).trans (re1_eq H.s h)

theorem h1 (t : Fin cfg0.N) (a : Fin 128) (b : Fin 1024) : (X1 m c t (ix2 a b) : EReal) = ((re2 (Q m c) (128 * t.val + a.val) b.val * (1 / 8) : ℝ) : EReal) := by
  rw [X1_apply, re2_eq H.q, bits_eighth, ← EReal.coe_mul]
  rfl

theorem h6 (t : Fin cfg0.N) (a : Fin 128) (b : Fin 1024) : (X6 m c t (ix2 a b) : EReal) = ((re2 (Ct m c) (128 * t.val + a.val) b.val : ℝ) : EReal) :=
  (X6_apply m c t a b).trans (re2_eq H.g _ _)

theorem h2 (t : Fin cfg0.N) (a : Fin 128) (b : Fin 512) :
    (X2 m c t (ix2 a b) : EReal) = ((kw (re2 (K m c)) t.val a.val (64 * (b.val / 128) + b.val % 64) : ℝ) : EReal) := by
  rw [X2_apply, re2_eq H.k]
  unfold kw
  rw [if_pos a.isLt]
  rfl

theorem h3 (t : Fin cfg0.N) (a : Fin 128) (b : Fin 512) :
    (X3 m c t (ix2 a b) : EReal) = ((kw (re2 (K m c)) t.val (128 + a.val) (64 * (b.val / 128) + b.val % 64) : ℝ) : EReal) := by
  rw [X3_apply, re2_eq H.k]
  unfold kw
  rw [if_neg (by omega)]
  exact congrArg (fun r : ℝ => (r : EReal)) (by unfold row lane; dsimp only; congr 1; omega)

theorem h4 (t : Fin cfg0.N) (a : Fin 128) (b : Fin 512) :
    (X4 m c t (ix2 a b) : EReal) = ((kw (re2 (W m c)) t.val a.val (64 * (b.val / 128) + b.val % 64) : ℝ) : EReal) := by
  rw [X4_apply, re2_eq H.v]
  unfold kw
  rw [if_pos a.isLt]
  rfl

theorem h5 (t : Fin cfg0.N) (a : Fin 128) (b : Fin 512) :
    (X5 m c t (ix2 a b) : EReal) = ((kw (re2 (W m c)) t.val (128 + a.val) (64 * (b.val / 128) + b.val % 64) : ℝ) : EReal) := by
  rw [X5_apply, re2_eq H.v]
  unfold kw
  rw [if_neg (by omega)]
  exact congrArg (fun r : ℝ => (r : EReal)) (by unfold row lane; dsimp only; congr 1; omega)

theorem arrAt7 : (dats m 0 c).arrAt 7 cfg0.N = dqArr m c := by
  refine (dats m 0 c).arrAt_eq_of_covers 7 _ (by decide +kernel) fun t hf y => ?_
  obtain ⟨-, -, -, -, -, -, -, e, -, -, -, -, -⟩ := idx t
  obtain ⟨a, b, rfl⟩ : ∃ (a : Fin 128) (b : Fin 1024), y = ix2 a b := ⟨y 0, y 1, eq_ix2 y⟩
  blk_simp [e]
  rw [after0_7, block7]
  refine (blk7_apply (coord t) (h0 H t) (h1 H t) (h2 H t) (h3 H t) (h4 H t) (h5 H t) (h6 H t) a b).trans ?_
  refine Eq.trans (b := dqArr m c (ix2 (row t a) b)) ?_ ?_
  · rw [dqArr_at m c t.val a.val a.isLt (row t a) rfl b]
  · unfold row
    blk_ext [e]

theorem arrAt8 : (dats m 0 c).arrAt 8 cfg0.N = dkArr m c 0 := by
  refine (dats m 0 c).arrAt_eq_of_covers 8 _ (by decide +kernel) fun t hf y => ?_
  obtain ⟨-, -, -, -, -, -, -, -, e, -, -, -, -⟩ := idx t
  obtain ⟨a, b, rfl⟩ : ∃ (a : Fin 128) (b : Fin 512), y = ix2 a b := ⟨y 0, y 1, eq_ix2 y⟩
  blk_simp [e]
  rw [after0_8, block8]
  refine (blk8_apply (coord t) (h0 H t) (h1 H t) (h2 H t) (h3 H t) (h4 H t) (h5 H t) (h6 H t) a b).trans ?_
  refine Eq.trans (b := dkArr m c 0 (ix2 (row t a) b)) ?_ ?_
  · rw [dkArr_at m c 0 t.val a.val a.isLt (row t a) rfl b, zero_add]
  · unfold row
    blk_ext [e]

theorem arrAt9 : (dats m 0 c).arrAt 9 cfg0.N = dkArr m c 128 := by
  refine (dats m 0 c).arrAt_eq_of_covers 9 _ (by decide +kernel) fun t hf y => ?_
  obtain ⟨-, -, -, -, -, -, -, -, -, e, -, -, -⟩ := idx t
  obtain ⟨a, b, rfl⟩ : ∃ (a : Fin 128) (b : Fin 512), y = ix2 a b := ⟨y 0, y 1, eq_ix2 y⟩
  blk_simp [e]
  rw [after0_9, block9]
  refine (blk9_apply (coord t) (h0 H t) (h1 H t) (h2 H t) (h3 H t) (h4 H t) (h5 H t) (h6 H t) a b).trans ?_
  refine Eq.trans (b := dkArr m c 128 (ix2 (row t a) b)) ?_ ?_
  · rw [dkArr_at m c 128 t.val a.val a.isLt (row t a) rfl b]
  · unfold row
    blk_ext [e]

theorem arrAt10 : (dats m 0 c).arrAt 10 cfg0.N = dvArr m c 0 := by
  refine (dats m 0 c).arrAt_eq_of_covers 10 _ (by decide +kernel) fun t hf y => ?_
  obtain ⟨-, -, -, -, -, -, -, -, -, -, e, -, -⟩ := idx t
  obtain ⟨a, b, rfl⟩ : ∃ (a : Fin 128) (b : Fin 512), y = ix2 a b := ⟨y 0, y 1, eq_ix2 y⟩
  blk_simp [e]
  rw [after0_10, block10]
  refine (blk10_apply (coord t) (h0 H t) (h1 H t) (h2 H t) (h3 H t) (h6 H t) a b).trans ?_
  refine Eq.trans (b := dvArr m c 0 (ix2 (row t a) b)) ?_ ?_
  · rw [dvArr_at m c 0 t.val a.val a.isLt (row t a) rfl b, zero_add]
  · unfold row
    blk_ext [e]

theorem arrAt11 : (dats m 0 c).arrAt 11 cfg0.N = dvArr m c 128 := by
  refine (dats m 0 c).arrAt_eq_of_covers 11 _ (by decide +kernel) fun t hf y => ?_
  obtain ⟨-, -, -, -, -, -, -, -, -, -, -, e, -⟩ := idx t
  obtain ⟨a, b, rfl⟩ : ∃ (a : Fin 128) (b : Fin 512), y = ix2 a b := ⟨y 0, y 1, eq_ix2 y⟩
  blk_simp [e]
  rw [after0_11, block11]
  refine (blk11_apply (coord t) (h0 H t) (h1 H t) (h2 H t) (h3 H t) (h6 H t) a b).trans ?_
  refine Eq.trans (b := dvArr m c 128 (ix2 (row t a) b)) ?_ ?_
  · rw [dvArr_at m c 128 t.val a.val a.isLt (row t a) rfl b]
  · unfold row
    blk_ext [e]

theorem step12 (t : Fin cfg0.N) (v : Vec Ideal S1x128 .f32) (b : Fin 16) (b' : Fin 128) (hb : b'.val = b.val) (s : ℝ) (hv : (v (ix2 0 b') : EReal) = s) :
    (addf (ws v) (row12 (grid0.coords t) (X0 m c t) (X1 m c t) (X2 m c t) (X3 m c t) (X4 m c t) (X5 m c t) (X6 m c t)) (ix2 0 b') : EReal) = ((s + ∑ a : Fin 128, dskW (re2 (Q m c)) (re2 (K m c)) (re2 (W m c)) (re1 (Sk m c)) (re2 (Ct m c)) t.val b.val a.val : ℝ) : EReal) := by
  refine (show _ = ((ws v (ix2 0 b') : EReal) + row12 (grid0.coords t) (X0 m c t) (X1 m c t) (X2 m c t) (X3 m c t) (X4 m c t) (X5 m c t) (X6 m c t) (ix2 0 b') : EReal) from rfl).trans ?_
  rw [ws_apply, hv, row12_apply (coord t) (h0 H t) (h1 H t) (h2 H t) (h3 H t) (h4 H t) (h5 H t) (h6 H t) b b' hb, ← EReal.coe_add]

theorem upTo12 (n : ℕ) (h : n < cfg0.N) (b : Fin 16) (b' : Fin 128) (hb : b'.val = b.val) :
    ((outsAt0 m c n h).2.2.2.2.2 (ix2 0 b') : EReal) = ((∑ t ∈ Finset.range (n + 1), ∑ a : Fin 128, dskW (re2 (Q m c)) (re2 (K m c)) (re2 (W m c)) (re1 (Sk m c)) (re2 (Ct m c)) t b.val a.val : ℝ) : EReal) := by
  have h16 : cfg0.N = 16 := N_0
  rw [Finset.sum_range_succ]
  induction n with
  | zero =>
    rw [first12 m c ⟨0, h⟩ rfl]
    refine step12 H ⟨0, h⟩ _ b b' hb _ ?_
    rw [Finset.sum_range_zero]
    exact Ideal.ofBits_zero .f32
  | succ n ih =>
    rw [next12 m c ⟨n + 1, h⟩ (by dsimp only; omega)]
    refine step12 H ⟨n + 1, h⟩ _ b b' hb _ ((ih (by omega)).trans ?_)
    rw [Finset.sum_range_succ]

end Real

variable (m c) in
/-- What the last point leaves of the sinks' gradients. -/
def dsArr : S1x128.Idx → EReal := (outsAt0 m c 15 (lt_of_lt_of_eq (by decide) N_0.symm)).2.2.2.2.2

theorem at_eq {N : ℕ} {α : Sort*} (f : (n : ℕ) → n < N → α) (n k : ℕ) (h : n < N) (h' : k < N) (e : n = k) : f n h = f k h' := by subst e; rfl

/-- They are what the array holds. -/
theorem arrAt12 : (dats m 0 c).arrAt 12 cfg0.N = dsArr m c := by
  refine (dats m 0 c).arrAt_eq_of_covers 12 _ (by decide +kernel) fun t hf y => ?_
  obtain ⟨-, -, -, -, -, -, -, -, -, -, -, -, e⟩ := idx t
  obtain ⟨a, b, rfl⟩ : ∃ (a : Fin 1) (b : Fin 128), y = ix2 a b := ⟨y 0, y 1, eq_ix2 y⟩
  obtain rfl := Subsingleton.elim a 0
  have ht : t.val = 15 := by
    revert hf; revert t; decide +kernel
  blk_simp [e]
  rw [after0_12, at_eq (fun n h => (outsAt0 m c n h).2.2.2.2.2) t.val 15 t.isLt (lt_of_lt_of_eq (by decide) N_0.symm) ht]
  refine Eq.trans (b := dsArr m c (ix2 0 b)) rfl ?_
  blk_ext [e]

theorem dsArr_at (H : Real5 m c) (b : Fin 16) (b' : Fin 128) (hb : b'.val = b.val) :
    dsArr m c (ix2 0 b') = ((dskAll (re2 (Q m c)) (re2 (K m c)) (re2 (W m c)) (re1 (Sk m c)) (re2 (Ct m c)) b.val : ℝ) : EReal) := by
  refine (upTo12 H 15 (lt_of_lt_of_eq (by decide) N_0.symm) b b' hb).trans ?_
  unfold dskAll
  rw [Finset.sum_range]

end Cert.AttnVal

end
-- ==== Proof.AttnTail.lean ====
/- The host's lines after the attention's backward kernel: the window's halves brought together, and the heads' two
   lanes, into the gradients at keys and values. -/
module

public import proofs.«01_k».proof.Proof.AttnArr
public import Idealize.ShloMosaic.Lib.IdealHost

@[expose] public section

set_option maxRecDepth 16384

noncomputable section

namespace Cert.AttnVal

open Cert.AttnIdeal Cert.AttnIdeal.Gen Idealize.ShloMosaic Idealize.ShloMosaic.TcCoe Idealize.SL.Sem Cert.Lift

variable (m : (ℓ : Loc nD τ sig) → Buf (Elt Ideal) ℓ) (c : Dev nD)

/-- The buffers when the kernel ends. -/
def atExit : Valuation τ sig (Elt Ideal) := Pipeline.withArrays cfg0.spec c (V0 m c) fun w => (dats m 0 c).arrAt w cfg0.N

/-- The gradient at the keys, by the head of keys and its lane. -/
def dkOut : S2048x256.Idx → EReal := fun i => ((dkW (re2 (Q m c)) (re2 (K m c)) (re2 (W m c)) (re1 (Sk m c)) (re2 (Ct m c)) ((i 0).val / 128) ((i 1).val / 64)
  ((i 0).val % 128) ((i 1).val % 64) : ℝ) : EReal)
/-- The gradient at the values. -/
def dvOut : S2048x256.Idx → EReal := fun i => ((dvW (re2 (Q m c)) (re2 (K m c)) (re1 (Sk m c)) (re2 (Ct m c)) ((i 0).val / 128) ((i 1).val / 64)
  ((i 0).val % 128) ((i 1).val % 64) : ℝ) : EReal)
/-- The gradient at the sinks. -/
def dsOut : S16.Idx → EReal := fun i => ((dskAll (re2 (Q m c)) (re2 (K m c)) (re2 (W m c)) (re1 (Sk m c)) (re2 (Ct m c)) (i 0).val : ℝ) : EReal)

/-- The two halves of the window and the two lanes of a head, brought together. -/
theorem halves {A B : S2048x512.Idx → EReal} (P R : ℕ → ℕ → ℕ → ℕ → ℝ)
    (hA : ∀ n a, a < 128 → ∀ r : Fin 2048, r.val = 128 * n + a → ∀ b : Fin 512, A (ix2 r b) = ((lanes (fun j => P n (4 * (b.val / 128) + j) a (b.val % 128 % 64)) (b.val % 128) : ℝ) : EReal))
    (hB : ∀ n a, a < 128 → ∀ r : Fin 2048, r.val = 128 * n + a → ∀ b : Fin 512, B (ix2 r b) = ((lanes (fun j => R n (4 * (b.val / 128) + j) a (b.val % 128 % 64)) (b.val % 128) : ℝ) : EReal))
    (r : Fin 2048) (s : Fin 256) (l l' : Fin 512) (hl : l.val = s.val / 64 * 128 + s.val % 64) (hl' : l'.val = s.val / 64 * 128 + 64 + s.val % 64) :
    (A (ix2 r l) + if h : r.val < 1920 ∧ l.val < 512 then B (ix2 ⟨128 + r.val, by omega⟩ l) else (FloatOps.sitofp .f32 0#32 : Ideal .f32)) +
      (A (ix2 r l') + if h : r.val < 1920 ∧ l'.val < 512 then B (ix2 ⟨128 + r.val, by omega⟩ l') else (FloatOps.sitofp .f32 0#32 : Ideal .f32)) =
    (((∑ j : Fin 4, P (r.val / 128) (4 * (s.val / 64) + j.val) (r.val % 128) (s.val % 64)) +
      (if r.val / 128 < 15 then ∑ j : Fin 4, R (r.val / 128 + 1) (4 * (s.val / 64) + j.val) (r.val % 128) (s.val % 64) else 0) : ℝ) : EReal) := by
  have hz : (FloatOps.sitofp .f32 0#32 : Ideal .f32) = ((0 : ℝ) : EReal) := by
    simp [FloatOps.sitofp]
  have q0 : l.val / 128 = s.val / 64 := by omega
  have q1 : l.val % 128 = s.val % 64 := by omega
  have q2 : l'.val / 128 = s.val / 64 := by omega
  have q3 : l'.val % 128 = 64 + s.val % 64 := by omega
  have q4 : (64 + s.val % 64) % 64 = s.val % 64 := by omega
  have q5 : s.val % 64 % 64 = s.val % 64 := by omega
  have ha : r.val % 128 < 128 := by omega
  have hr : r.val = 128 * (r.val / 128) + r.val % 128 := by omega
  have eP := lanes_add (fun j => P (r.val / 128) (4 * (s.val / 64) + j) (r.val % 128) (s.val % 64)) (s.val % 64) (by omega)
  have eR := lanes_add (fun j => R (r.val / 128 + 1) (4 * (s.val / 64) + j) (r.val % 128) (s.val % 64)) (s.val % 64) (by omega)
  rw [hA _ _ ha r hr l, hA _ _ ha r hr l', hz, q0, q1, q2, q3, q4, q5]
  by_cases h : r.val < 1920
  · rw [dif_pos ⟨h, l.isLt⟩, dif_pos ⟨h, l'.isLt⟩, if_pos (by omega)]
    have hr' : 128 + r.val = 128 * (r.val / 128 + 1) + r.val % 128 := by omega
    rw [hB _ _ ha ⟨128 + r.val, by omega⟩ hr' l, hB _ _ ha ⟨128 + r.val, by omega⟩ hr' l', q0, q1, q2, q3, q4, q5]
    simp only [← EReal.coe_add]
    exact congrArg (fun r : ℝ => (r : EReal)) (by rw [← eP, ← eR]; ring)
  · rw [dif_neg (fun h' => h h'.1), dif_neg (fun h' => h h'.1), if_neg (by omega)]
    simp only [← EReal.coe_add]
    exact congrArg (fun r : ℝ => (r : EReal)) (by rw [← eP]; ring)

section Real

variable {m c} (H : Real5 m c)
include H

theorem exit8 : atExit m c (Proc.devRef .tc main_v12_1) = dkArr m c 0 :=
  ((dats m 0 c).withArrays_arrAt sharedIn0 (V0 m c) (A_eq m c) 8).trans (arrAt8 H)
theorem exit9 : atExit m c (Proc.devRef .tc main_v12_2) = dkArr m c 128 :=
  ((dats m 0 c).withArrays_arrAt sharedIn0 (V0 m c) (A_eq m c) 9).trans (arrAt9 H)
theorem exit10 : atExit m c (Proc.devRef .tc main_v12_3) = dvArr m c 0 :=
  ((dats m 0 c).withArrays_arrAt sharedIn0 (V0 m c) (A_eq m c) 10).trans (arrAt10 H)
theorem exit11 : atExit m c (Proc.devRef .tc main_v12_4) = dvArr m c 128 :=
  ((dats m 0 c).withArrays_arrAt sharedIn0 (V0 m c) (A_eq m c) 11).trans (arrAt11 H)
omit H in
theorem exit12 : atExit m c (Proc.devRef .tc main_v12_5) = dsArr m c :=
  ((dats m 0 c).withArrays_arrAt sharedIn0 (V0 m c) (A_eq m c) 12).trans arrAt12

theorem tail34 : Pipeline.afterTail₀ cfgs (dats m) 0 (V0 m) [hostOps1, hostOps1_1, hostOps1_2, hostOps1_3, hostOps1_4] c main_v34 = dsOut m c := by
  refine (show _ = StableHlo.after (hostOps1 ++ (hostOps1_1 ++ (hostOps1_2 ++ (hostOps1_3 ++ (hostOps1_4 ++ []))))) (atExit m c) (Proc.devRef .tc main_v34) from rfl).trans ?_
  simp only [hostOps1, hostOps1_1, hostOps1_2, hostOps1_3, hostOps1_4, List.cons_append, List.nil_append]
  after_results
  rw [exit12]
  funext y
  obtain ⟨b, rfl⟩ : ∃ b : Fin 16, y = ix1 b := ⟨y 0, eq_ix1 y⟩
  pointwise
  exact dsArr_at H b _ rfl

theorem tail22 : Pipeline.afterTail₀ cfgs (dats m) 0 (V0 m) [hostOps1, hostOps1_1, hostOps1_2, hostOps1_3, hostOps1_4] c main_v22 = dkOut m c := by
  refine (show _ = StableHlo.after (hostOps1 ++ (hostOps1_1 ++ (hostOps1_2 ++ (hostOps1_3 ++ (hostOps1_4 ++ []))))) (atExit m c) (Proc.devRef .tc main_v22) from rfl).trans ?_
  simp only [hostOps1, hostOps1_1, hostOps1_2, hostOps1_3, hostOps1_4, List.cons_append, List.nil_append]
  after_results
  rw [exit8 H, exit9 H]
  simp -implicitDefEqProofs only [StableHlo.TRef.toBuf, StableHlo.TRef.ofBuf, cast_cast, cast_eq]
  funext y
  obtain ⟨r, s, rfl⟩ : ∃ (r : Fin 2048) (s : Fin 256), y = ix2 r s := ⟨y 0, y 1, eq_ix2 y⟩
  pointwise
  have h := halves (fun n h a d => dkH (re2 (Q m c)) (re2 (K m c)) (re2 (W m c)) (re1 (Sk m c)) (re2 (Ct m c)) n h (128 + a) d) (fun n h a d => dkH (re2 (Q m c)) (re2 (K m c)) (re2 (W m c)) (re1 (Sk m c)) (re2 (Ct m c)) n h (0 + a) d)
    (fun n a ha r hr b => dkArr_at m c 128 n a ha r hr b) (fun n a ha r hr b => dkArr_at m c 0 n a ha r hr b) r s
    ⟨s.val / 64 * 128 + s.val % 64, by have := s.isLt; omega⟩ ⟨s.val / 64 * 128 + 64 + s.val % 64, by have := s.isLt; omega⟩ rfl rfl
  simp only [zero_add] at h
  exact h

theorem tail32 : Pipeline.afterTail₀ cfgs (dats m) 0 (V0 m) [hostOps1, hostOps1_1, hostOps1_2, hostOps1_3, hostOps1_4] c main_v32 = dvOut m c := by
  refine (show _ = StableHlo.after (hostOps1 ++ (hostOps1_1 ++ (hostOps1_2 ++ (hostOps1_3 ++ (hostOps1_4 ++ []))))) (atExit m c) (Proc.devRef .tc main_v32) from rfl).trans ?_
  simp only [hostOps1, hostOps1_1, hostOps1_2, hostOps1_3, hostOps1_4, List.cons_append, List.nil_append]
  after_results
  rw [exit10 H, exit11 H]
  simp -implicitDefEqProofs only [StableHlo.TRef.toBuf, StableHlo.TRef.ofBuf, cast_cast, cast_eq]
  funext y
  obtain ⟨r, s, rfl⟩ : ∃ (r : Fin 2048) (s : Fin 256), y = ix2 r s := ⟨y 0, y 1, eq_ix2 y⟩
  pointwise
  have h := halves (fun n h a d => dvH (re2 (Q m c)) (re2 (K m c)) (re1 (Sk m c)) (re2 (Ct m c)) n h (128 + a) d) (fun n h a d => dvH (re2 (Q m c)) (re2 (K m c)) (re1 (Sk m c)) (re2 (Ct m c)) n h (0 + a) d)
    (fun n a ha r hr b => dvArr_at m c 128 n a ha r hr b) (fun n a ha r hr b => dvArr_at m c 0 n a ha r hr b) r s
    ⟨s.val / 64 * 128 + s.val % 64, by have := s.isLt; omega⟩ ⟨s.val / 64 * 128 + 64 + s.val % 64, by have := s.isLt; omega⟩ rfl rfl
  simp only [zero_add] at h
  exact h

omit H in
/-- What the kernel leaves on every device: the four gradients, its arguments as they were. -/
theorem kernel_run (H : ∀ c, Real5 m c) (ρ : Dev nD → PrngReg) : θ_run defs (onTc (τ := τ) (main (F := Ideal))) ⟨m, fun _ => 0, ρ⟩ (fun r => ∀ c : Dev nD,
      r.2.mem ((c.tc : Thread nD τ).loc main_v12_0) = dqArr m c
      ∧ r.2.mem ((c.tc : Thread nD τ).loc main_v22) = dkOut m c
      ∧ r.2.mem ((c.tc : Thread nD τ).loc main_v32) = dvOut m c
      ∧ r.2.mem ((c.tc : Thread nD τ).loc main_v34) = dsOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 7).trans (arrAt7 (H c)), ((h.1 c).2 main_v22 (by decide)).trans (tail22 (H c)),
    ((h.1 c).2 main_v32 (by decide)).trans (tail32 (H c)), ((h.1 c).2 main_v34 (by decide)).trans (tail34 (H c)), h.2 c⟩)
    (θ_run_and (run_main m ρ) (unchanged m ρ))

end Real

end Cert.AttnVal

end
-- ==== Proof.AttnRefSteps.lean ====
/- The reference's gradient of the sliding-window attention, in named steps. -/
module

public import proofs.«01_k».proof.Proof.Gen.AttnRefIdeal.Run
public import Idealize.ShloMosaic.Lib.Pointwise
public import Idealize.ShloMosaic.Lib.IdealHost

@[expose] public section

set_option maxRecDepth 16384

noncomputable section

namespace Cert.AttnRefVal

open Cert.AttnRefIdeal Cert.AttnRefIdeal.Gen Idealize.ShloMosaic Idealize.ShloMosaic.TcCoe Idealize.SL.Sem

/-- The queries, by block, row, head of keys and head in its group. -/
def nQ (q : Vec Ideal S2048x1024 .f32) : Vec Ideal S1x16x128x4x4x64 .f32 :=
  shapeCast S1x16x128x4x4x64 (shapeCast S1x2048x16x64 q shapeCasts_S2048x1024_S1x2048x16x64) shapeCasts_S1x2048x16x64_S1x16x128x4x4x64

/-- Keys, or values, by window: the block before, zeros at the first, and the block. -/
def nWin (k : Vec Ideal S2048x256 .f32) : Vec Ideal S1x16x256x4x64 .f32 :=
  concatenate S1x16x256x4x64 2 [⟨S1x16x128x4x64, (concatenate S1x16x128x4x64 1 [⟨S1x1x128x4x64, (broadcastInDim S1x1x128x4x64 ![] bcast_S_S1x1x128x4x64 (constant (F := Ideal) S_ .f32 0x00000000#32))⟩, ⟨S1x15x128x4x64, (extractStridedSlice S1x15x128x4x64 ![0, 0, 0, 0, 0] (shapeCast S1x16x128x4x64 (shapeCast S1x2048x4x64 k shapeCasts_S2048x256_S1x2048x4x64) shapeCasts_S1x2048x4x64_S1x16x128x4x64) slices_S1x16x128x4x64_S1x15x128x4x64_0_0_0_0_0)⟩] concatenates_S1x1x128x4x64_S1x15x128x4x64_S1x16x128x4x64_d1)⟩, ⟨S1x16x128x4x64, (shapeCast S1x16x128x4x64 (shapeCast S1x2048x4x64 k shapeCasts_S2048x256_S1x2048x4x64) shapeCasts_S1x2048x4x64_S1x16x128x4x64)⟩] concatenates_S1x16x128x4x64_S1x16x128x4x64_S1x16x256x4x64_d2

/-- The scaled scores. -/
def nScore (kw : Vec Ideal S1x16x256x4x64 .f32) (q6 : Vec Ideal S1x16x128x4x4x64 .f32) : Vec Ideal S1x16x4x4x128x256 .f32 :=
  mulf (F := Ideal) (φ := .f32) (transpose S1x16x4x4x128x256 [0, 1, 2, 5, 4, 3] (Host.dotGeneral (F := Ideal) (φ₁ := .f32) (φ₂ := .f32) dot_S1x16x256x4x64_S1x16x128x4x4x64_S1x16x4x256x128x4_4_5_2_24_013_013 none kw q6) transposes_S1x16x4x256x128x4_S1x16x4x4x128x256_0_1_2_5_4_3) (broadcastInDim S1x16x4x4x128x256 ![] bcast_S_S1x16x4x4x128x256 (constant (F := Ideal) S_ .f32 0x3E000000#32))

/-- The causal band of 128 that a row sees. -/
def nMask  : IVec S1x16x4x4x128x256 1 :=
  broadcastInDim S1x16x4x4x128x256 ![0, 1, 2, 3, 4, 5] bcast_S1x16x1x1x128x256_S1x16x4x4x128x256_0_1_2_3_4_5 (broadcastInDim S1x16x1x1x128x256 ![1, 4, 5] bcast_S16x128x256_S1x16x1x1x128x256_1_4_5 (andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S16x128x256 ![0, 1, 2] bcast_S16x1x256_S16x128x256_0_1_2 (ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32)))) (broadcastInDim S16x1x256 ![0, 1, 2] bcast_S1x1x256_S16x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))))

/-- The scores, those outside at −∞. -/
def nMasked (mk : IVec S1x16x4x4x128x256 1) (sc : Vec Ideal S1x16x4x4x128x256 .f32) : Vec Ideal S1x16x4x4x128x256 .f32 :=
  select mk sc (broadcastInDim S1x16x4x4x128x256 ![] bcast_S_S1x16x4x4x128x256 (constant (F := Ideal) S_ .f32 0xFF800000#32))

/-- The sink as one more score. -/
def nCat (ms : Vec Ideal S1x16x4x4x128x256 .f32) (s : Vec Ideal S16 .f32) : Vec Ideal S1x16x4x4x128x257 .f32 :=
  concatenate S1x16x4x4x128x257 5 [⟨S1x16x4x4x128x256, ms⟩, ⟨S1x16x4x4x128x1, (broadcastInDim S1x16x4x4x128x1 ![0, 1, 2, 3, 4, 5] bcast_S1x1x4x4x1x1_S1x16x4x4x128x1_0_1_2_3_4_5 (broadcastInDim S1x1x4x4x1x1 ![2, 3] bcast_S4x4_S1x1x4x4x1x1_2_3 (shapeCast S4x4 s shapeCasts_S16_S4x4)))⟩] concatenates_S1x16x4x4x128x256_S1x16x4x4x128x1_S1x16x4x4x128x257_d5

/-- The largest score. -/
def nMax (cat : Vec Ideal S1x16x4x4x128x257 .f32) : Vec Ideal S1x16x4x4x128 .f32 :=
  maximumf (broadcastInDim S1x16x4x4x128 ![] bcast_S_S1x16x4x4x128 (constant (F := Ideal) S_ .f32 0xFF800000#32)) (Host.reduce (FloatOps.maximumf (F := Ideal) (φ := .f32)) cat (constant (F := Ideal) S_ .f32 0xFF800000#32) reducesTo_S1x16x4x4x128x257_S1x16x4x4x128_d5 h_S_)

/-- The exponentials, -/
def nExp (cat : Vec Ideal S1x16x4x4x128x257 .f32) (mx : Vec Ideal S1x16x4x4x128 .f32) : Vec Ideal S1x16x4x4x128x257 .f32 :=
  Host.exp (F := Ideal) (φ := .f32) (subf (F := Ideal) (φ := .f32) cat (broadcastInDim S1x16x4x4x128x257 ![0, 1, 2, 3, 4, 5] bcast_S1x16x4x4x128x1_S1x16x4x4x128x257_0_1_2_3_4_5 (broadcastInDim S1x16x4x4x128x1 ![0, 1, 2, 3, 4] bcast_S1x16x4x4x128_S1x16x4x4x128x1_0_1_2_3_4 mx)))

/-- their sum -/
def nSum (e : Vec Ideal S1x16x4x4x128x257 .f32) : Vec Ideal S1x16x4x4x128x1 .f32 :=
  broadcastInDim S1x16x4x4x128x1 ![0, 1, 2, 3, 4] bcast_S1x16x4x4x128_S1x16x4x4x128x1_0_1_2_3_4 (Host.reduceAdd e (constant (F := Ideal) S_ .f32 0x00000000#32) reducesTo_S1x16x4x4x128x257_S1x16x4x4x128_d5 h_S_)

/-- and the probabilities of the keys. -/
def nProb (e : Vec Ideal S1x16x4x4x128x257 .f32) (z : Vec Ideal S1x16x4x4x128x1 .f32) : Vec Ideal S1x16x4x4x128x256 .f32 :=
  extractStridedSlice S1x16x4x4x128x256 ![0, 0, 0, 0, 0, 0] (Host.divf (F := Ideal) (φ := .f32) e (broadcastInDim S1x16x4x4x128x257 ![0, 1, 2, 3, 4, 5] bcast_S1x16x4x4x128x1_S1x16x4x4x128x257_0_1_2_3_4_5 z)) slices_S1x16x4x4x128x257_S1x16x4x4x128x256_0_0_0_0_0_0

/-- The result's gradient, by block and head. -/
def nG (ct : Vec Ideal S2048x1024 .f32) : Vec Ideal S1x16x4x64x4x128 .f32 :=
  transpose S1x16x4x64x4x128 [0, 1, 3, 5, 4, 2] (shapeCast S1x16x128x4x4x64 (broadcastInDim S1x2048x1024 ![1, 2] bcast_S2048x1024_S1x2048x1024_1_2 ct) shapeCasts_S1x2048x1024_S1x16x128x4x4x64) transposes_S1x16x128x4x4x64_S1x16x4x64x4x128_0_1_3_5_4_2

/-- The gradient of the probabilities, zero at the sink, -/
def nDp (g : Vec Ideal S1x16x4x64x4x128 .f32) (vw : Vec Ideal S1x16x256x4x64 .f32) : Vec Ideal S1x16x4x4x128x257 .f32 :=
  pad S1x16x4x4x128x257 ![0, 0, 0, 0, 0, 0] ![0, 0, 0, 0, 0, 1] ![0, 0, 0, 0, 0, 0] (Host.dotGeneral (F := Ideal) (φ₁ := .f32) (φ₂ := .f32) dot_S1x16x4x64x4x128_S1x16x256x4x64_S1x16x4x4x128x256_3_4_45_2_012_013 none g vw) (constant (F := Ideal) S_ .f32 0x00000000#32) pads_S1x16x4x4x128x256_S1x16x4x4x128x257_000_000_000_000_000_010 h_S_

/-- and of the window of values. -/
def nDv (g : Vec Ideal S1x16x4x64x4x128 .f32) (p : Vec Ideal S1x16x4x4x128x256 .f32) : Vec Ideal S1x16x256x4x64 .f32 :=
  transpose S1x16x256x4x64 [0, 1, 4, 2, 3] (Host.dotGeneral (F := Ideal) (φ₁ := .f32) (φ₂ := .f32) dot_S1x16x4x64x4x128_S1x16x4x4x128x256_S1x16x4x64x256_45_34_3_5_012_012 none g p) transposes_S1x16x4x64x256_S1x16x256x4x64_0_1_4_2_3

/-- The reciprocal of the squared sum. -/
def nInv (z : Vec Ideal S1x16x4x4x128x1 .f32) : Vec Ideal S1x16x4x4x128x1 .f32 :=
  Host.divf (F := Ideal) (φ := .f32) (broadcastInDim S1x16x4x4x128x1 ![] bcast_S_S1x16x4x4x128x1 (constant (F := Ideal) S_ .f32 0x3F800000#32)) (mulf (F := Ideal) (φ := .f32) z z)

/-- What the sum's gradient adds to every exponential's. -/
def nDel (dp : Vec Ideal S1x16x4x4x128x257 .f32) (zz : Vec Ideal S1x16x4x4x128x1 .f32) (e : Vec Ideal S1x16x4x4x128x257 .f32) : Vec Ideal S1x16x4x4x128x257 .f32 :=
  broadcastInDim S1x16x4x4x128x257 ![0, 1, 2, 3, 4] bcast_S1x16x4x4x128_S1x16x4x4x128x257_0_1_2_3_4 (broadcastInDim S1x16x4x4x128 ![1, 2, 3, 4] bcast_S16x4x4x128_S1x16x4x4x128_1_2_3_4 (Host.reduceAdd (Host.negf (F := Ideal) (φ := .f32) (shapeCast S1x16x4x4x128x1 (Host.reduceAdd (mulf (F := Ideal) (φ := .f32) (mulf (F := Ideal) (φ := .f32) dp (broadcastInDim S1x16x4x4x128x257 ![0, 1, 2, 3, 4, 5] bcast_S1x16x4x4x128x1_S1x16x4x4x128x257_0_1_2_3_4_5 zz)) e) (constant (F := Ideal) S_ .f32 0x00000000#32) reducesTo_S1x16x4x4x128x257_S1x16x4x4x128_d5 h_S_) shapeCasts_S1x16x4x4x128_S1x16x4x4x128x1)) (constant (F := Ideal) S_ .f32 0x00000000#32) reducesTo_S1x16x4x4x128x1_S16x4x4x128_d0_5 h_S_))

/-- The gradient of the scores and the sink. -/
def nDs (dp : Vec Ideal S1x16x4x4x128x257 .f32) (z : Vec Ideal S1x16x4x4x128x1 .f32) (dl : Vec Ideal S1x16x4x4x128x257 .f32) (e : Vec Ideal S1x16x4x4x128x257 .f32) : Vec Ideal S1x16x4x4x128x257 .f32 :=
  mulf (F := Ideal) (φ := .f32) (addf (F := Ideal) (φ := .f32) (Host.divf (F := Ideal) (φ := .f32) dp (broadcastInDim S1x16x4x4x128x257 ![0, 1, 2, 3, 4, 5] bcast_S1x16x4x4x128x1_S1x16x4x4x128x257_0_1_2_3_4_5 z)) dl) e

/-- The gradient at the sinks, -/
def nSink (ds : Vec Ideal S1x16x4x4x128x257 .f32) : Vec Ideal S16 .f32 :=
  shapeCast S16 (Host.reduceAdd (broadcastInDim S1x1x4x4x1x1 ![2, 3] bcast_S4x4_S1x1x4x4x1x1_2_3 (Host.reduceAdd (extractStridedSlice S1x16x4x4x128x1 ![0, 0, 0, 0, 0, 256] ds slices_S1x16x4x4x128x257_S1x16x4x4x128x1_0_0_0_0_0_256) (constant (F := Ideal) S_ .f32 0x00000000#32) reducesTo_S1x16x4x4x128x1_S4x4_d0_1_4_5 h_S_)) (constant (F := Ideal) S_ .f32 0x00000000#32) reducesTo_S1x1x4x4x1x1_S4x4_d0_1_4_5 h_S_) shapeCasts_S4x4_S16

/-- of the scaled scores, -/
def nDst (mk : IVec S1x16x4x4x128x256 1) (ds : Vec Ideal S1x16x4x4x128x257 .f32) : Vec Ideal S1x16x4x256x128x4 .f32 :=
  transpose S1x16x4x256x128x4 [0, 1, 2, 5, 4, 3] (mulf (F := Ideal) (φ := .f32) (select mk (extractStridedSlice S1x16x4x4x128x256 ![0, 0, 0, 0, 0, 0] ds slices_S1x16x4x4x128x257_S1x16x4x4x128x256_0_0_0_0_0_0) (broadcastInDim S1x16x4x4x128x256 ![] bcast_S_S1x16x4x4x128x256 (constant (F := Ideal) S_ .f32 0x00000000#32))) (broadcastInDim S1x16x4x4x128x256 ![] bcast_S_S1x16x4x4x128x256 (constant (F := Ideal) S_ .f32 0x3E000000#32))) transposes_S1x16x4x4x128x256_S1x16x4x256x128x4_0_1_2_5_4_3

/-- at the queries, -/
def nOutQ (dst : Vec Ideal S1x16x4x256x128x4 .f32) (kw : Vec Ideal S1x16x256x4x64 .f32) : Vec Ideal S2048x1024 .f32 :=
  shapeCast S2048x1024 (shapeCast S1x2048x16x64 (transpose S1x16x128x4x4x64 [0, 1, 3, 2, 4, 5] (Host.dotGeneral (F := Ideal) (φ₁ := .f32) (φ₂ := .f32) dot_S1x16x4x256x128x4_S1x16x256x4x64_S1x16x4x128x4x64_3_2_45_4_012_013 none dst kw) transposes_S1x16x4x128x4x64_S1x16x128x4x4x64_0_1_3_2_4_5) shapeCasts_S1x16x128x4x4x64_S1x2048x16x64) shapeCasts_S1x2048x16x64_S2048x1024

/-- of the window of keys -/
def nDk (dst : Vec Ideal S1x16x4x256x128x4 .f32) (q6 : Vec Ideal S1x16x128x4x4x64 .f32) : Vec Ideal S1x16x256x4x64 .f32 :=
  transpose S1x16x256x4x64 [0, 1, 3, 2, 4] (Host.dotGeneral (F := Ideal) (φ₁ := .f32) (φ₂ := .f32) dot_S1x16x4x256x128x4_S1x16x128x4x4x64_S1x16x4x256x64_45_24_3_5_012_013 none dst q6) transposes_S1x16x4x256x64_S1x16x256x4x64_0_1_3_2_4

/-- and at the keys, or the values, from that of their window. -/
def nOutK (dkw : Vec Ideal S1x16x256x4x64 .f32) : Vec Ideal S2048x256 .f32 :=
  shapeCast S2048x256 (shapeCast S1x2048x4x64 (addf (F := Ideal) (φ := .f32) (extractStridedSlice S1x16x128x4x64 ![0, 0, 128, 0, 0] dkw slices_S1x16x256x4x64_S1x16x128x4x64_0_0_128_0_0) (pad S1x16x128x4x64 ![0, 0, 0, 0, 0] ![0, 1, 0, 0, 0] ![0, 0, 0, 0, 0] (extractStridedSlice S1x15x128x4x64 ![0, 1, 0, 0, 0] (extractStridedSlice S1x16x128x4x64 ![0, 0, 0, 0, 0] dkw slices_S1x16x256x4x64_S1x16x128x4x64_0_0_0_0_0) slices_S1x16x128x4x64_S1x15x128x4x64_0_1_0_0_0) (constant (F := Ideal) S_ .f32 0x00000000#32) pads_S1x15x128x4x64_S1x16x128x4x64_000_010_000_000_000 h_S_)) shapeCasts_S1x16x128x4x64_S1x2048x4x64) shapeCasts_S1x2048x4x64_S2048x256

variable (m : (ℓ : Loc nD τ sig) → Buf (Elt Ideal) ℓ) (c : Dev nD)

/-- The arguments. -/
abbrev aQ : Vec Ideal S2048x1024 .f32 := m ((c.tc : Thread nD τ).loc main_arg0)
abbrev aK : Vec Ideal S2048x256 .f32 := m ((c.tc : Thread nD τ).loc main_arg1)
abbrev aV : Vec Ideal S2048x256 .f32 := m ((c.tc : Thread nD τ).loc main_arg2)
abbrev aS : Vec Ideal S16 .f32 := m ((c.tc : Thread nD τ).loc main_arg3)
abbrev aG : Vec Ideal S2048x1024 .f32 := m ((c.tc : Thread nD τ).loc main_arg4)

/-- The steps, at the arguments. -/
def rMasked (q : Vec Ideal S2048x1024 .f32) (k : Vec Ideal S2048x256 .f32) : Vec Ideal S1x16x4x4x128x256 .f32 := nMasked nMask (nScore (nWin k) (nQ q))
def rCat (q : Vec Ideal S2048x1024 .f32) (k : Vec Ideal S2048x256 .f32) (s : Vec Ideal S16 .f32) : Vec Ideal S1x16x4x4x128x257 .f32 := nCat (rMasked q k) s
def rExp (q : Vec Ideal S2048x1024 .f32) (k : Vec Ideal S2048x256 .f32) (s : Vec Ideal S16 .f32) : Vec Ideal S1x16x4x4x128x257 .f32 := nExp (rCat q k s) (nMax (rCat q k s))
def rSum (q : Vec Ideal S2048x1024 .f32) (k : Vec Ideal S2048x256 .f32) (s : Vec Ideal S16 .f32) : Vec Ideal S1x16x4x4x128x1 .f32 := nSum (rExp q k s)
def rProb (q : Vec Ideal S2048x1024 .f32) (k : Vec Ideal S2048x256 .f32) (s : Vec Ideal S16 .f32) : Vec Ideal S1x16x4x4x128x256 .f32 := nProb (rExp q k s) (rSum q k s)
def rDp (v : Vec Ideal S2048x256 .f32) (ct : Vec Ideal S2048x1024 .f32) : Vec Ideal S1x16x4x4x128x257 .f32 := nDp (nG ct) (nWin v)
def rDs (q : Vec Ideal S2048x1024 .f32) (k v : Vec Ideal S2048x256 .f32) (s : Vec Ideal S16 .f32) (ct : Vec Ideal S2048x1024 .f32) : Vec Ideal S1x16x4x4x128x257 .f32 :=
  nDs (rDp v ct) (rSum q k s) (nDel (rDp v ct) (nInv (rSum q k s)) (rExp q k s)) (rExp q k s)
def rDst (q : Vec Ideal S2048x1024 .f32) (k v : Vec Ideal S2048x256 .f32) (s : Vec Ideal S16 .f32) (ct : Vec Ideal S2048x1024 .f32) : Vec Ideal S1x16x4x256x128x4 .f32 :=
  nDst nMask (rDs q k v s ct)

/-- The four results, in those steps. -/
theorem res137 : Value.res_main_v137 m c = nOutQ (rDst (aQ m c) (aK m c) (aV m c) (aS m c) (aG m c)) (nWin (aK m c)) := rfl
theorem res138 : Value.res_main_v138 m c = nOutK (nDk (rDst (aQ m c) (aK m c) (aV m c) (aS m c) (aG m c)) (nQ (aQ m c))) := rfl
theorem res139 : Value.res_main_v139 m c = nOutK (nDv (nG (aG m c)) (rProb (aQ m c) (aK m c) (aS m c))) := rfl
theorem res113 : Value.res_main_v113 m c = nSink (rDs (aQ m c) (aK m c) (aV m c) (aS m c) (aG m c)) := rfl

end Cert.AttnRefVal

end
-- ==== Proof.AttnRef.lean ====
/- The steps of the reference's gradient, read at an index, where the arguments are real numbers. -/
module

public import proofs.«01_k».proof.Proof.AttnRefSteps
public import proofs.«01_k».proof.Proof.AttnArr

@[expose] public section

set_option maxRecDepth 16384

noncomputable section

namespace Cert.AttnRefVal

open Cert.AttnRefIdeal Cert.AttnRefIdeal.Gen Idealize.ShloMosaic Idealize.ShloMosaic.TcCoe Idealize.SL.Sem Cert.Lift
open Cert.AttnVal (zed prob probS del dscore dsinkRow zed_pos zed_shift exp_shift win1 sees score dprob pW dsW dskW dqW dkH dvH dkW dvW dskAll
  bits_bot bits_eighth fold_max_real exp_masked)

/-! Reductions of arrays of rank six. -/

section Reduce

/-- The sum over the last axis. -/
theorem sum_last (x : FVec Ideal S1x16x4x4x128x257 .f32) (init : EReal) (n : Fin 16) (u g : Fin 4) (a : Fin 128) :
    Ideal.hostReduceAdd reducesTo_S1x16x4x4x128x257_S1x16x4x4x128_d5 x init (ix5 0 n u g a) = init + ∑ j : Fin 257, x (ix6 0 n u g a j) := by
  have h : S1x16x4x4x128x257.Reduces [5] S1x16x4x4x128 := by decide
  refine (Ideal.hostReduceAdd_single reducesTo_S1x16x4x4x128x257_S1x16x4x4x128_d5 h x init _).trans ?_
  refine congrArg (init + ·) (Finset.sum_congr rfl fun j _ => congrArg x ?_)
  funext b; apply Fin.ext; fin_cases b <;> rfl

/-- The greatest along the last axis. -/
theorem max_last (x : FVec Ideal S1x16x4x4x128x257 .f32) (b : S_.Idx → EReal) (n : Fin 16) (u g : Fin 4) (a : Fin 128) :
    Host.reduce (FloatOps.maximumf (F := Ideal) (φ := .f32)) x b reducesTo_S1x16x4x4x128x257_S1x16x4x4x128_d5 h_S_ (ix5 0 n u g a) =
      (Finset.univ : Finset (Fin 257)).fold max (b (Shape.Idx.first h_S_)) (fun j => x (ix6 0 n u g a j)) := by
  have h : S1x16x4x4x128x257.Reduces [5] S1x16x4x4x128 := by decide
  refine (Host.reduce_eq_fold_single (FloatOps.maximumf (F := Ideal) (φ := .f32)) x b reducesTo_S1x16x4x4x128x257_S1x16x4x4x128_d5 h h_S_ _).trans ?_
  refine congrArg (fun f => (Finset.univ : Finset (Fin 257)).fold max (b (Shape.Idx.first h_S_)) f) (funext fun j => congrArg x ?_)
  funext b; apply Fin.ext; fin_cases b <;> rfl

/-- A sum over two axes of one entry each. -/
theorem sum_unit (x : FVec Ideal S1x16x4x4x128x1 .f32) (init : EReal) (n : Fin 16) (u g : Fin 4) (a : Fin 128) :
    Ideal.hostReduceAdd reducesTo_S1x16x4x4x128x1_S16x4x4x128_d0_5 x init (ix4 n u g a) = init + x (ix6 0 n u g a 0) := by
  refine congrArg (init + ·) ((Finset.sum_filter_eq_sum_of_fiber _ (fun _ : Fin 1 => ix6 0 n u g a 0) (fun _ _ _ => Subsingleton.elim _ _)
    (fun i => ⟨fun e => ⟨0, ?_⟩, ?_⟩) x).trans (Finset.sum_const _) |>.trans (by simp))
  · funext b; apply Fin.ext
    match b with
    | ⟨0, _⟩ => exact (Nat.lt_one_iff.mp (i 0).isLt).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (Nat.lt_one_iff.mp (i 5).isLt).symm
  · rintro ⟨_, rfl⟩
    funext b; apply Fin.ext; fin_cases b <;> rfl

/-- A sum over the blocks and their rows. -/
theorem sum_rows (x : FVec Ideal S1x16x4x4x128x1 .f32) (init : EReal) (u g : Fin 4) :
    Ideal.hostReduceAdd reducesTo_S1x16x4x4x128x1_S4x4_d0_1_4_5 x init (ix2 u g) = init + ∑ n : Fin 16, ∑ a : Fin 128, x (ix6 0 n u g a 0) := by
  refine congrArg (init + ·) ((Finset.sum_filter_eq_sum_of_fiber _ (fun k : Fin 16 × Fin 128 => (ix6 0 k.1 u g k.2 0 : S1x16x4x4x128x1.Idx)) (fun _ _ e => Prod.ext (congrFun e 1) (congrFun e 4))
    (fun i => ⟨fun e => ⟨(i 1, i 4), ?_⟩, ?_⟩) x).trans (by simp only [Fintype.sum_prod_type]))
  · funext b; apply Fin.ext
    match b with
    | ⟨0, _⟩ => exact (Nat.lt_one_iff.mp (i 0).isLt).symm
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => exact (Nat.lt_one_iff.mp (i 5).isLt).symm
  · rintro ⟨_, rfl⟩
    funext b; apply Fin.ext; fin_cases b <;> rfl

/-- A sum over four axes of one entry each. -/
theorem sum_units (x : FVec Ideal S1x1x4x4x1x1 .f32) (init : EReal) (u g : Fin 4) :
    Ideal.hostReduceAdd reducesTo_S1x1x4x4x1x1_S4x4_d0_1_4_5 x init (ix2 u g) = init + x (ix6 0 0 u g 0 0) := by
  refine congrArg (init + ·) ((Finset.sum_filter_eq_sum_of_fiber _ (fun _ : Fin 1 => ix6 0 0 u g 0 0) (fun _ _ _ => Subsingleton.elim _ _)
    (fun i => ⟨fun e => ⟨0, ?_⟩, ?_⟩) x).trans (Finset.sum_const _) |>.trans (by simp))
  · funext b; apply Fin.ext
    match b with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm
    | ⟨3, _⟩ => exact (congrArg Fin.val (congrFun e 1)).symm
    | ⟨4, _⟩ => exact (Nat.lt_one_iff.mp (i 4).isLt).symm
    | ⟨5, _⟩ => exact (Nat.lt_one_iff.mp (i 5).isLt).symm
  · rintro ⟨_, rfl⟩
    funext b; apply Fin.ext; fin_cases b <;> rfl

end Reduce

/-- A sum over 257 entries: 256 and the last. -/
theorem sum_sink (f : Fin 257 → EReal) : ∑ j, f j = (∑ i : Fin 256, f ⟨i.val, by omega⟩) + f 256 := Fin.sum_univ_castSucc f

/-- The greatest of 257 entries likewise. -/
theorem fold_sink (f : Fin 257 → EReal) (b : EReal) :
    (Finset.univ : Finset (Fin 257)).fold max b f = max ((Finset.univ : Finset (Fin 256)).fold max b (fun i => f ⟨i.val, by omega⟩)) (f 256) := by
  apply le_antisymm
  · rw [Finset.fold_max_le]
    refine ⟨le_max_of_le_left (by rw [Finset.le_fold_max]; exact .inl le_rfl), fun j _ => ?_⟩
    by_cases h : j.val < 256
    · refine le_max_of_le_left ?_
      rw [Finset.le_fold_max]
      exact .inr ⟨⟨j.val, h⟩, Finset.mem_univ _, le_rfl⟩
    · refine le_max_of_le_right (le_of_eq (congrArg f (Fin.ext ?_)))
      have := j.isLt
      show j.val = 256
      omega
  · refine max_le ?_ ?_
    · rw [Finset.fold_max_le]
      exact ⟨by rw [Finset.le_fold_max]; exact .inl le_rfl, fun i _ => by rw [Finset.le_fold_max]; exact .inr ⟨⟨i.val, by omega⟩, Finset.mem_univ _, le_rfl⟩⟩
    · rw [Finset.le_fold_max]
      exact .inr ⟨256, Finset.mem_univ _, le_rfl⟩

/-- A lowered exponential is the probability times the lowered sum. -/
theorem exp_prob (s : ℕ → ℝ) (σ μ : ℝ) (o : ℕ → Bool) (i : ℕ) :
    (if o i then Real.exp (s i - μ) else 0) = prob s σ o i * (zed s σ o * Real.exp (-μ)) := by
  unfold prob
  split
  · rw [← exp_shift s σ μ, div_mul_cancel₀ _ (mul_pos (zed_pos s σ o) (Real.exp_pos (-μ))).ne']
  · rw [zero_mul]

theorem exp_probS (s : ℕ → ℝ) (σ μ : ℝ) (o : ℕ → Bool) : Real.exp (σ - μ) = probS s σ o * (zed s σ o * Real.exp (-μ)) := by
  unfold probS
  rw [← exp_shift s σ μ, div_mul_cancel₀ _ (mul_pos (zed_pos s σ o) (Real.exp_pos (-μ))).ne']

/-- The quotient rule's sum is the mean of the probabilities' gradient over the sum. -/
theorem quot_sum (s : ℕ → ℝ) (σ μ : ℝ) (o : ℕ → Bool) (dp : ℕ → ℝ) :
    ∑ i : Fin 256, dp i.val * (1 / (zed s σ o * Real.exp (-μ) * (zed s σ o * Real.exp (-μ)))) * (if o i.val then Real.exp (s i.val - μ) else 0) =
      del s σ o dp / (zed s σ o * Real.exp (-μ)) := by
  have hpos := (mul_pos (zed_pos s σ o) (Real.exp_pos (-μ))).ne'
  unfold del
  rw [Finset.sum_div]
  refine Finset.sum_congr rfl fun i _ => ?_
  rw [exp_prob s σ]
  field_simp

theorem band_word : ∀ t : Fin 512, IntOp.andi (IntOp.cmpi .sge (IntOp.subi (BitVec.ofNat 32 t.val) 256#32) 0#32)
    (IntOp.cmpi .slt (IntOp.subi (BitVec.ofNat 32 t.val) 256#32) 128#32) = if 256 ≤ t.val ∧ t.val < 384 then 1#1 else 0#1 := by
  decide +kernel

/-- One bit of the band. -/
theorem band_bit (a i : ℕ) (ha : a < 128) (hi : i < 256) :
    IntOp.andi (IntOp.cmpi .sge (IntOp.subi (BitVec.ofNat 32 (a + 128)) (BitVec.ofNat 32 i)) 0#32)
      (IntOp.cmpi .slt (IntOp.subi (BitVec.ofNat 32 (a + 128)) (BitVec.ofNat 32 i)) 128#32) = if a < i ∧ i ≤ a + 128 then 1#1 else 0#1 := by
  have e : IntOp.subi (BitVec.ofNat 32 (a + 128)) (BitVec.ofNat 32 i) = IntOp.subi (BitVec.ofNat 32 (a + 384 - i)) 256#32 := by
    apply BitVec.eq_of_toNat_eq
    simp only [IntOp.subi, BitVec.toNat_sub, BitVec.toNat_ofNat]
    omega
  have h := band_word ⟨a + 384 - i, by omega⟩
  rw [e]
  refine h.trans ?_
  refine if_congr ?_ rfl rfl
  show 256 ≤ a + 384 - i ∧ a + 384 - i < 384 ↔ _
  omega

/-- The quotient rule of a row. -/
theorem quot_row (x D p P : ℝ) (h : P ≠ 0) : (x / P + -(D / P)) * (p * P) = p * (x - D) := by
  field_simp
  ring

/-- A greater of two arrays, at an index. -/
theorem max_at {s : Shape} (x y : FVec Ideal s .f32) (i : s.Idx) : (maximumf x y i : EReal) = max (x i : EReal) (y i : EReal) := by
  pointwise

/-- The array that holds −∞. -/
theorem bot_at (i : S1x16x4x4x128.Idx) :
    (broadcastInDim S1x16x4x4x128 ![] bcast_S_S1x16x4x4x128 (constant (F := Ideal) S_ .f32 0xFF800000#32) i : EReal) = ⊥ := by
  pointwise
  exact bits_bot

theorem bot_first : (constant (F := Ideal) S_ .f32 0xFF800000#32 (Shape.Idx.first h_S_) : EReal) = ⊥ := by
  pointwise
  exact bits_bot

/-- The greatest of a row is that of the keys' scores and the sink's. -/
theorem nMax_apply (x : Vec Ideal S1x16x4x4x128x257 .f32) (n : Fin 16) (u g : Fin 4) (a : Fin 128) :
    (nMax x (ix5 0 n u g a) : EReal) = max ((Finset.univ : Finset (Fin 256)).fold max ⊥ (fun i => x (ix6 0 n u g a ⟨i.val, by omega⟩))) (x (ix6 0 n u g a 256)) := by
  unfold nMax
  rw [max_at, bot_at, max_last, bot_first, fold_sink]
  exact max_eq_right bot_le

section Steps

variable (n : Fin 16) (u g : Fin 4) (a : Fin 128) (i : Fin 256) (d : Fin 64)

/-- The mask is the band that the query sees. -/
theorem mask_apply : nMask (ix6 0 n u g a i) = if sees n.val a.val i.val then 1#1 else 0#1 := by
  have hn := n.isLt
  have ha := a.isLt
  have hi := i.isLt
  unfold nMask; pointwise
  have e1 : IntOp.addi (BitVec.ofNat 32 a.val) 128#32 = BitVec.ofNat 32 (a.val + 128) := (BitVec.ofNat_add a.val 128).symm
  rw [e1, band_bit a.val i.val ha hi, show (0#32) = BitVec.ofNat 32 0 from rfl, show (128#32) = BitVec.ofNat 32 128 from rfl,
    WordCmp.cmpi_sgt_ofNat (by omega) (by omega), WordCmp.cmpi_sge_ofNat (by omega) (by omega)]
  unfold sees
  by_cases h1 : a.val < i.val <;> by_cases h2 : i.val ≤ a.val + 128 <;> by_cases h3 : 128 ≤ i.val <;> by_cases h4 : 0 < n.val <;> simp [h1, h2, h3, h4] <;> rfl

variable {Q : Vec Ideal S2048x1024 .f32} {q : ℕ → ℕ → ℝ} (hq : ∀ (r : Fin 2048) (b : Fin 1024), (Q (ix2 r b) : EReal) = ((q r.val b.val : ℝ) : EReal))

include hq in
theorem q_apply : (nQ Q (ix6 0 n a u g d) : EReal) = ((q (128 * n.val + a.val) (64 * (4 * u.val + g.val) + d.val) : ℝ) : EReal) := by
  unfold nQ; pointwise
  rw [hq]
  refine congrArg (fun r : ℝ => (r : EReal)) (congrArg₂ q ?_ ?_)
  · show n.val * 128 + a.val = _; omega
  · show u.val * 256 + g.val * 64 + d.val = _; omega

include hq in
theorem g_apply : (nG Q (ix6 0 n u d g a) : EReal) = ((q (128 * n.val + a.val) (64 * (4 * u.val + g.val) + d.val) : ℝ) : EReal) := by
  unfold nG; pointwise
  rw [hq]
  refine congrArg (fun r : ℝ => (r : EReal)) (congrArg₂ q ?_ ?_)
  · show n.val * 128 + a.val = _; omega
  · show u.val * 256 + g.val * 64 + d.val = _; omega

variable {K : Vec Ideal S2048x256 .f32} {k : ℕ → ℕ → ℝ} (hk : ∀ (r : Fin 2048) (b : Fin 256), (K (ix2 r b) : EReal) = ((k r.val b.val : ℝ) : EReal))

include hk in
theorem win_apply : (nWin K (ix5 0 n i u d) : EReal) = ((win1 k n.val i.val (64 * u.val + d.val) : ℝ) : EReal) := by
  unfold nWin; pointwise
  simp only [hk, ← EReal.coe_zero]
  unfold win1
  split_ifs <;> first
    | omega
    | rfl
    | (refine congrArg (fun r : ℝ => (r : EReal)) (congrArg₂ k ?_ ?_) <;> (try dsimp only) <;> omega)

include hq hk in
theorem score_apply : (nScore (nWin K) (nQ Q) (ix6 0 n u g a i) : EReal) = ((score q k n.val (4 * u.val + g.val) a.val i.val : ℝ) : EReal) := by
  unfold nScore; pointwise
  simp only [q_apply n u g a _ hq, win_apply n u i _ hk, bits_eighth, ← EReal.coe_mul, coe_sum]
  refine congrArg (fun r : ℝ => (r : EReal)) ?_
  unfold score
  rw [Finset.sum_mul]
  refine Finset.sum_congr rfl fun x _ => ?_
  rw [show (4 * u.val + g.val) / 4 = u.val by omega]
  ring

include hq hk in
theorem masked_apply : (rMasked Q K (ix6 0 n u g a i) : EReal) =
    if sees n.val a.val i.val then ((score q k n.val (4 * u.val + g.val) a.val i.val : ℝ) : EReal) else ⊥ := by
  unfold rMasked nMasked; pointwise
  rw [mask_apply, score_apply n u g a i hq hk]
  cases sees n.val a.val i.val
  · exact bits_bot
  · rfl

variable {S : Vec Ideal S16 .f32} {sk : ℕ → ℝ} (hs : ∀ h : Fin 16, (S (ix1 h) : EReal) = ((sk h.val : ℝ) : EReal))

include hq hk in
theorem cat_key : (rCat Q K S (ix6 0 n u g a ⟨i.val, by omega⟩) : EReal) =
    if sees n.val a.val i.val then ((score q k n.val (4 * u.val + g.val) a.val i.val : ℝ) : EReal) else ⊥ := by
  rw [← masked_apply n u g a i hq hk]
  unfold rCat nCat; pointwise

include hs in
theorem cat_sink : (rCat Q K S (ix6 0 n u g a 256) : EReal) = ((sk (4 * u.val + g.val) : ℝ) : EReal) := by
  unfold rCat nCat; pointwise
  rw [hs]
  refine congrArg (fun r : ℝ => (r : EReal)) (congrArg sk ?_)
  show u.val * 4 + g.val = _; omega

include hq hk hs in
/-- The greatest of a row is a real number, on account of the sink. -/
theorem max_apply : ∃ μ : ℝ, (nMax (rCat Q K S) (ix5 0 n u g a) : EReal) = (μ : EReal) := by
  have h := fold_max_real (fun i : Fin 256 => (rCat Q K S (ix6 0 n u g a ⟨i.val, by omega⟩) : EReal))
    (fun i => by rw [cat_key n u g a i hq hk]; split <;> simp) (sk (4 * u.val + g.val))
  obtain ⟨μ, h⟩ := h
  refine ⟨μ, ?_⟩
  rw [nMax_apply, cat_sink n u g a hs]
  exact h

include hq hk hs in
/-- A row's exponentials and their sum, all lowered by the same real number. -/
theorem exp_apply : ∃ μ : ℝ, (∀ i : Fin 256, (rExp Q K S (ix6 0 n u g a ⟨i.val, by omega⟩) : EReal) =
      ((if sees n.val a.val i.val then Real.exp (score q k n.val (4 * u.val + g.val) a.val i.val - μ) else 0 : ℝ) : EReal))
    ∧ (rExp Q K S (ix6 0 n u g a 256) : EReal) = ((Real.exp (sk (4 * u.val + g.val) - μ) : ℝ) : EReal)
    ∧ (rSum Q K S (ix6 0 n u g a 0) : EReal) = ((zed (score q k n.val (4 * u.val + g.val) a.val) (sk (4 * u.val + g.val)) (sees n.val a.val) * Real.exp (-μ) : ℝ) : EReal) := by
  obtain ⟨μ, h⟩ := max_apply n u g a hq hk hs
  have he (i : Fin 256) : (rExp Q K S (ix6 0 n u g a ⟨i.val, by omega⟩) : EReal) =
      ((if sees n.val a.val i.val then Real.exp (score q k n.val (4 * u.val + g.val) a.val i.val - μ) else 0 : ℝ) : EReal) := by
    unfold rExp nExp; pointwise
    rw [h, cat_key n u g a i hq hk, exp_masked]
  have hes : (rExp Q K S (ix6 0 n u g a 256) : EReal) = ((Real.exp (sk (4 * u.val + g.val) - μ) : ℝ) : EReal) := by
    unfold rExp nExp; pointwise
    rw [h, cat_sink n u g a hs, ← EReal.coe_sub]
    rfl
  refine ⟨μ, he, hes, ?_⟩
  unfold rSum nSum; pointwise
  rw [sum_last, sum_sink, hes]
  simp only [he, coe_sum, ← EReal.coe_add, zero_add]
  rw [zed_shift]

include hq hk hs in
/-- The probabilities. -/
theorem prob_apply : (rProb Q K S (ix6 0 n u g a i) : EReal) = ((pW q k sk n.val (4 * u.val + g.val) a.val i.val : ℝ) : EReal) := by
  obtain ⟨μ, he, -, hz⟩ := exp_apply n u g a hq hk hs
  unfold rProb nProb; pointwise
  rw [he, hz, div_coe _ _ (mul_pos (zed_pos _ _ _) (Real.exp_pos _)).ne']
  refine congrArg (fun r : ℝ => (r : EReal)) ?_
  unfold pW prob
  split
  · rw [exp_shift]
  · rw [zero_div]

variable {V : Vec Ideal S2048x256 .f32} {v : ℕ → ℕ → ℝ} (hv : ∀ (r : Fin 2048) (b : Fin 256), (V (ix2 r b) : EReal) = ((v r.val b.val : ℝ) : EReal))
variable {G : Vec Ideal S2048x1024 .f32} {ct : ℕ → ℕ → ℝ} (hg : ∀ (r : Fin 2048) (b : Fin 1024), (G (ix2 r b) : EReal) = ((ct r.val b.val : ℝ) : EReal))

include hv hg in
/-- The probabilities' gradient, at a key -/
theorem dp_key : (rDp V G (ix6 0 n u g a ⟨i.val, by omega⟩) : EReal) = ((dprob v ct n.val (4 * u.val + g.val) a.val i.val : ℝ) : EReal) := by
  unfold rDp nDp; pointwise
  simp only [g_apply n u g a _ hg, win_apply n u i _ hv, ← EReal.coe_mul, coe_sum]
  refine congrArg (fun r : ℝ => (r : EReal)) ?_
  unfold dprob
  refine Finset.sum_congr rfl fun x _ => ?_
  rw [show (4 * u.val + g.val) / 4 = u.val by omega]
  ring

/-- and at the sink. -/
theorem dp_sink : (rDp V G (ix6 0 n u g a 256) : EReal) = ((0 : ℝ) : EReal) := by
  unfold rDp nDp; pointwise
  rfl

include hq hk hs hv hg in
/-- What the sum's gradient adds. -/
theorem del_apply {μ : ℝ} (he : ∀ i : Fin 256, (rExp Q K S (ix6 0 n u g a ⟨i.val, by omega⟩) : EReal) =
      ((if sees n.val a.val i.val then Real.exp (score q k n.val (4 * u.val + g.val) a.val i.val - μ) else 0 : ℝ) : EReal))
    (hes : (rExp Q K S (ix6 0 n u g a 256) : EReal) = ((Real.exp (sk (4 * u.val + g.val) - μ) : ℝ) : EReal))
    (hz : (rSum Q K S (ix6 0 n u g a 0) : EReal) = ((zed (score q k n.val (4 * u.val + g.val) a.val) (sk (4 * u.val + g.val)) (sees n.val a.val) * Real.exp (-μ) : ℝ) : EReal))
    (j : Fin 257) : (nDel (rDp V G) (nInv (rSum Q K S)) (rExp Q K S) (ix6 0 n u g a j) : EReal) =
      ((-(∑ i : Fin 256, dprob v ct n.val (4 * u.val + g.val) a.val i.val *
        (1 / (zed (score q k n.val (4 * u.val + g.val) a.val) (sk (4 * u.val + g.val)) (sees n.val a.val) * Real.exp (-μ) *
          (zed (score q k n.val (4 * u.val + g.val) a.val) (sk (4 * u.val + g.val)) (sees n.val a.val) * Real.exp (-μ)))) *
        (if sees n.val a.val i.val then Real.exp (score q k n.val (4 * u.val + g.val) a.val i.val - μ) else 0)) : ℝ) : EReal) := by
  have hpos := mul_pos (zed_pos (score q k n.val (4 * u.val + g.val) a.val) (sk (4 * u.val + g.val)) (sees n.val a.val)) (Real.exp_pos (-μ))
  have hi : (nInv (rSum Q K S) (ix6 0 n u g a 0) : EReal) = ((1 / (zed (score q k n.val (4 * u.val + g.val) a.val) (sk (4 * u.val + g.val)) (sees n.val a.val) * Real.exp (-μ) *
          (zed (score q k n.val (4 * u.val + g.val) a.val) (sk (4 * u.val + g.val)) (sees n.val a.val) * Real.exp (-μ))) : ℝ) : EReal) := by
    unfold nInv; pointwise
    rw [hz, ← EReal.coe_mul, ← EReal.coe_one, div_coe _ _ (mul_pos hpos hpos).ne']
  unfold nDel; pointwise
  rw [sum_unit]
  pointwise
  rw [sum_last]
  pointwise
  rw [sum_sink, dp_sink n u g a]
  simp only [hi, he, hes, dp_key n u g a _ hv hg, ← EReal.coe_mul, coe_sum, zero_mul, EReal.coe_zero, add_zero, zero_add, ← EReal.coe_neg]

include hq hk hs hv hg in
/-- The gradient of a key's score, -/
theorem ds_key : (rDs Q K V S G (ix6 0 n u g a ⟨i.val, by omega⟩) : EReal) = ((dsW q k v sk ct n.val (4 * u.val + g.val) a.val i.val : ℝ) : EReal) := by
  obtain ⟨μ, he, hes, hz⟩ := exp_apply n u g a hq hk hs
  have hpos := mul_pos (zed_pos (score q k n.val (4 * u.val + g.val) a.val) (sk (4 * u.val + g.val)) (sees n.val a.val)) (Real.exp_pos (-μ))
  unfold rDs nDs; pointwise
  rw [dp_key n u g a i hv hg, hz, del_apply n u g a hq hk hs hv hg he hes hz, he, div_coe _ _ hpos.ne', ← EReal.coe_add, ← EReal.coe_mul]
  refine congrArg (fun r : ℝ => (r : EReal)) ?_
  rw [quot_sum, exp_prob (σ := sk (4 * u.val + g.val))]
  exact quot_row _ _ _ _ hpos.ne'

include hq hk hs hv hg in
/-- and of the sink's. -/
theorem ds_sink : (rDs Q K V S G (ix6 0 n u g a 256) : EReal) = ((dskW q k v sk ct n.val (4 * u.val + g.val) a.val : ℝ) : EReal) := by
  obtain ⟨μ, he, hes, hz⟩ := exp_apply n u g a hq hk hs
  have hpos := mul_pos (zed_pos (score q k n.val (4 * u.val + g.val) a.val) (sk (4 * u.val + g.val)) (sees n.val a.val)) (Real.exp_pos (-μ))
  unfold rDs nDs; pointwise
  rw [dp_sink n u g a, hz, del_apply n u g a hq hk hs hv hg he hes hz, hes, div_coe _ _ hpos.ne', ← EReal.coe_add, ← EReal.coe_mul]
  refine congrArg (fun r : ℝ => (r : EReal)) ?_
  rw [quot_sum, exp_probS (score q k n.val (4 * u.val + g.val) a.val) _ _ (sees n.val a.val)]
  refine (quot_row 0 _ _ _ hpos.ne').trans ?_
  unfold dskW dsinkRow
  ring

end Steps

end Cert.AttnRefVal

end
-- ==== Proof.AttnRefOut.lean ====
/- The four results of the reference's gradient, where the arguments are real numbers. -/
module

public import proofs.«01_k».proof.Proof.AttnRef

@[expose] public section

set_option maxRecDepth 16384

noncomputable section

namespace Cert.AttnRefVal

open Cert.AttnRefIdeal Cert.AttnRefIdeal.Gen Idealize.ShloMosaic Idealize.ShloMosaic.TcCoe Idealize.SL.Sem Cert.Lift
open Cert.AttnVal (win1 sees score dprob pW dsW dskW dqW dkH dvH dkW dvW dskAll bits_eighth dscore_of_not)

variable {Q : Vec Ideal S2048x1024 .f32} {q : ℕ → ℕ → ℝ} (hq : ∀ (r : Fin 2048) (b : Fin 1024), (Q (ix2 r b) : EReal) = ((q r.val b.val : ℝ) : EReal))
variable {K : Vec Ideal S2048x256 .f32} {k : ℕ → ℕ → ℝ} (hk : ∀ (r : Fin 2048) (b : Fin 256), (K (ix2 r b) : EReal) = ((k r.val b.val : ℝ) : EReal))
variable {S : Vec Ideal S16 .f32} {sk : ℕ → ℝ} (hs : ∀ h : Fin 16, (S (ix1 h) : EReal) = ((sk h.val : ℝ) : EReal))
variable {V : Vec Ideal S2048x256 .f32} {v : ℕ → ℕ → ℝ} (hv : ∀ (r : Fin 2048) (b : Fin 256), (V (ix2 r b) : EReal) = ((v r.val b.val : ℝ) : EReal))
variable {G : Vec Ideal S2048x1024 .f32} {ct : ℕ → ℕ → ℝ} (hg : ∀ (r : Fin 2048) (b : Fin 1024), (G (ix2 r b) : EReal) = ((ct r.val b.val : ℝ) : EReal))

include hq hk hs hv hg

/-- The gradient of a scaled score; nought where the query does not see the key. -/
theorem dst_apply (n : Fin 16) (u g : Fin 4) (a : Fin 128) (i : Fin 256) :
    (rDst Q K V S G (ix6 0 n u i a g) : EReal) = ((dsW q k v sk ct n.val (4 * u.val + g.val) a.val i.val * (1 / 8) : ℝ) : EReal) := by
  unfold rDst nDst; pointwise
  rw [mask_apply, ds_key n u g a i hq hk hs hv hg, bits_eighth, ← EReal.coe_mul]
  cases h : sees n.val a.val i.val
  · unfold dsW
    rw [dscore_of_not h, zero_mul]
    rfl
  · rfl

/-- The gradient of the queries. -/
theorem outQ_apply (r : Fin 2048) (b : Fin 1024) :
    (nOutQ (rDst Q K V S G) (nWin K) (ix2 r b) : EReal) = ((dqW q k v sk ct (r.val / 128) (b.val / 64) (r.val % 128) (b.val % 64) : ℝ) : EReal) := by
  have hb := b.isLt
  unfold nOutQ; pointwise
  simp only [dst_apply hq hk hs hv hg, win_apply _ _ _ _ hk, ← EReal.coe_mul, coe_sum]
  refine congrArg (fun r : ℝ => (r : EReal)) ?_
  unfold dqW
  rw [Finset.sum_mul]
  refine Finset.sum_congr rfl fun i _ => ?_
  rw [show 4 * (b.val / 256) + b.val / 64 % 4 = b.val / 64 by omega, show b.val / 64 / 4 = b.val / 256 by omega]
  ring

/-- The gradient of a window's keys. -/
theorem dk_apply (n : Fin 16) (u : Fin 4) (i : Fin 256) (d : Fin 64) : (nDk (rDst Q K V S G) (nQ Q) (ix5 0 n i u d) : EReal) =
    ((∑ j : Fin 4, dkH q k v sk ct n.val (4 * u.val + j.val) i.val d.val : ℝ) : EReal) := by
  unfold nDk; pointwise
  simp only [dst_apply hq hk hs hv hg, q_apply _ _ _ _ _ hq, ← EReal.coe_mul, coe_sum]
  refine congrArg (fun r : ℝ => (r : EReal)) ?_
  unfold dkH
  rw [Finset.sum_comm]
  refine Finset.sum_congr rfl fun j _ => Finset.sum_congr rfl fun a _ => ?_
  ring

/-- The gradient of a window's values. -/
theorem dv_apply (n : Fin 16) (u : Fin 4) (i : Fin 256) (d : Fin 64) : (nDv (nG G) (rProb Q K S) (ix5 0 n i u d) : EReal) =
    ((∑ j : Fin 4, dvH q k sk ct n.val (4 * u.val + j.val) i.val d.val : ℝ) : EReal) := by
  unfold nDv; pointwise
  simp only [prob_apply _ _ _ _ _ hq hk hs, g_apply _ _ _ _ _ hg, ← EReal.coe_mul, coe_sum]
  refine congrArg (fun r : ℝ => (r : EReal)) ?_
  unfold dvH
  refine Finset.sum_congr rfl fun j _ => Finset.sum_congr rfl fun a _ => ?_
  ring

omit hq hk hs hv hg in
/-- A row's gradient: from its own block and, as a row of the block before, from the next. -/
theorem outK_apply {X : Vec Ideal S1x16x256x4x64 .f32} {P : ℕ → ℕ → ℕ → ℕ → ℝ}
    (hX : ∀ (n : Fin 16) (u : Fin 4) (i : Fin 256) (d : Fin 64), (X (ix5 0 n i u d) : EReal) = ((∑ j : Fin 4, P n.val (4 * u.val + j.val) i.val d.val : ℝ) : EReal))
    (r : Fin 2048) (b : Fin 256) : (nOutK X (ix2 r b) : EReal) =
      (((∑ j : Fin 4, P (r.val / 128) (4 * (b.val / 64) + j.val) (128 + r.val % 128) (b.val % 64)) +
        (if r.val / 128 < 15 then ∑ j : Fin 4, P (r.val / 128 + 1) (4 * (b.val / 64) + j.val) (r.val % 128) (b.val % 64) else 0) : ℝ) : EReal) := by
  unfold nOutK; pointwise
  simp only [hX, ← EReal.coe_zero]
  rw [Nat.add_comm 1 (r.val / 128)]
  split_ifs with h1 h2 h2
  · rw [← EReal.coe_add]
  · omega
  · omega
  · rw [← EReal.coe_add]

/-- The gradient of the sinks. -/
theorem sink_apply (h : Fin 16) : (nSink (rDs Q K V S G) (ix1 h) : EReal) = ((dskAll q k v sk ct h.val : ℝ) : EReal) := by
  unfold nSink; pointwise
  rw [sum_units]
  pointwise
  rw [sum_rows]
  pointwise
  simp only [ds_sink _ _ _ _ hq hk hs hv hg, coe_sum, zero_add]
  refine congrArg (fun r : ℝ => (r : EReal)) ?_
  unfold dskAll
  rw [show 4 * (h.val / 4) + h.val % 4 = h.val by omega]

end Cert.AttnRefVal

end
-- ==== Proof.AttnVal.lean ====
/- The attention's backward kernel against the derivative of the problem's attention. -/
module

public import proofs.«01_k».proof.Proof.AttnTail
public import proofs.«01_k».proof.Proof.AttnRefOut
public import proofs.«01_k».proof.Proof.Finite
public import proofs.«01_k».proof.Proof.Gen.Pre_attn_finite
public import proofs.«01_k».proof.Defs

@[expose] public section

set_option maxRecDepth 16384

noncomputable section

namespace Cert.AttnVal

open Idealize.ShloMosaic Idealize.ShloMosaic.TcCoe Idealize.SL.Sem Cert.Lift

section Kernel

open Cert.AttnIdeal Cert.AttnIdeal.Gen

/-- Under the precondition the five arguments are arrays of real numbers. -/
theorem reals (m : (ℓ : Loc nD τ sig) → Buf (Elt Ideal) ℓ) (c : Dev nD)
    (h : Cert.Pre_AttnIdeal_attn_finite (hPre_attn_finite := Cert.Pre_attn_finite.Gen.facts) m) : Real5 m c := by
  obtain ⟨h0, h1, h2, h3, h4⟩ := h c
  exact ⟨fun i => Lift.real_of_test _ _ (fun _ => Lift.bits_inf) h0 i, fun i => Lift.real_of_test _ _ (fun _ => Lift.bits_inf) h1 i,
    fun i => Lift.real_of_test _ _ (fun _ => Lift.bits_inf) h2 i, fun i => Lift.real_of_test _ _ (fun _ => Lift.bits_inf) h3 i,
    fun i => Lift.real_of_test _ _ (fun _ => Lift.bits_inf) h4 i⟩

end Kernel

/-- The reference's frame: it has no semaphores, and its run keeps its arguments. -/
theorem ref_frame : Cert.quiescent_AttnRefIdeal (hAttnRefIdeal := Cert.AttnRefIdeal.Gen.facts) := fun m ρ _ =>
  (θ_run _ _ _).mono (fun r h => ⟨fun c => (h c).2.2.2.2, sem_eq_zero_of_no_sems (by decide) _⟩) (Cert.AttnRefIdeal.Value.run m ρ)

/-- The kernel's four gradients are the reference's. -/
theorem algebraic : Cert.algebraic_AttnIdeal_AttnRefIdeal_pre_attn_finite (hAttnIdeal := Cert.AttnIdeal.Gen.facts)
    (hAttnRefIdeal := Cert.AttnRefIdeal.Gen.facts) (hPre_attn_finite := Cert.Pre_attn_finite.Gen.facts) := by
  intro m ρ m' ρ' hpre hm
  refine ⟨fun c => dqArr m c, fun c => dkOut m c, fun c => dvOut m c, fun c => dsOut m c, kernel_run (fun c => reals m c hpre) ρ, ?_⟩
  refine (θ_run _ _ _).mono (fun r h c => ?_) (Cert.AttnRefIdeal.Value.run m' ρ')
  obtain ⟨e0, e1, e2, e3, e4⟩ := hm c
  have H := reals m c hpre
  have hq := fun (r : Fin 2048) (b : Fin 1024) => re2_eq H.q r b
  have hk := fun (r : Fin 2048) (b : Fin 256) => re2_eq H.k r b
  have hv := fun (r : Fin 2048) (b : Fin 256) => re2_eq H.v r b
  have hs := fun (h : Fin 16) => re1_eq H.s h
  have hg := fun (r : Fin 2048) (b : Fin 1024) => re2_eq H.g r b
  have h := h c
  rw [AttnRefVal.res137, AttnRefVal.res138, AttnRefVal.res139, AttnRefVal.res113] at h
  unfold AttnRefVal.aQ AttnRefVal.aK AttnRefVal.aV AttnRefVal.aS AttnRefVal.aG at h
  rw [e0, e1, e2, e3, e4] at h
  refine ⟨h.1.trans ?_, h.2.1.trans ?_, h.2.2.1.trans ?_, h.2.2.2.1.trans ?_, by rw [e0, e1, e2, e3, e4]; exact h.2.2.2.2⟩
  · funext y
    obtain ⟨a, b, rfl⟩ : ∃ (a : Fin 2048) (b : Fin 1024), y = ix2 a b := ⟨y 0, y 1, eq_ix2 y⟩
    exact AttnRefVal.outQ_apply hq hk hs hv hg a b
  · funext y
    obtain ⟨a, b, rfl⟩ : ∃ (a : Fin 2048) (b : Fin 256), y = ix2 a b := ⟨y 0, y 1, eq_ix2 y⟩
    exact AttnRefVal.outK_apply (AttnRefVal.dk_apply hq hk hs hv hg) a b
  · funext y
    obtain ⟨a, b, rfl⟩ : ∃ (a : Fin 2048) (b : Fin 256), y = ix2 a b := ⟨y 0, y 1, eq_ix2 y⟩
    exact AttnRefVal.outK_apply (AttnRefVal.dv_apply hq hk hs hv hg) a b
  · funext y
    obtain ⟨a, rfl⟩ : ∃ (a : Fin 16), y = ix1 a := ⟨y 0, eq_ix1 y⟩
    exact AttnRefVal.sink_apply hq hk hs hv hg a

end Cert.AttnVal

end
-- ==== Proof.QkLanes.lean ====
/- The lanes of the kernel that differentiates the QK-norm and the rotary embedding: sums over a head's lanes by products with
   a block-diagonal matrix of ones, tiles set side by side, and rotations of the lanes. -/
module

public import proofs.«01_k».proof.Proof.Gen.QkIdeal.Skeleton
public import proofs.«01_k».proof.Proof.Finite
public import proofs.«01_k».proof.Proof.Lift
public import Idealize.ShloMosaic.Lib.Pointwise
public import Idealize.ShloMosaic.Lib.IdealHost
public import Idealize.ShloMosaic.Lib.ValueIdx

@[expose] public section

set_option maxRecDepth 16384

noncomputable section

namespace Cert.QkVal

open Cert.QkIdeal Cert.QkIdeal.Gen Cert.Lift Idealize.ShloMosaic Idealize.ShloMosaic.TcCoe Idealize.SL.Sem

/-- The sum over the lanes of the head that lane `b` lies in. -/
def headSum (v : ℕ → ℝ) (b : ℕ) : ℝ := ∑ j : Fin 64, v (64 * (b / 64) + j.val)

theorem sum_halves (f : ℕ → ℝ) (c : Fin 128) : ∑ k : Fin 128, f k.val * (if k.val / 64 = c.val / 64 then (1 : ℝ) else 0) = headSum f c.val := by
  have h : ∑ k : Fin 128, f k.val * (if k.val / 64 = c.val / 64 then (1 : ℝ) else 0) =
      ∑ k ∈ Finset.range (64 + 64), f k * (if k / 64 = c.val / 64 then (1 : ℝ) else 0) := by rw [Finset.sum_range]
  unfold headSum
  rw [h, Finset.sum_range_add, ← Finset.sum_range fun j => f (64 * (c.val / 64) + j)]
  rcases (by have := c.isLt; omega : c.val / 64 = 0 ∨ c.val / 64 = 1) with e | e <;> rw [e]
  · rw [Finset.sum_congr rfl (g := fun k => f k) fun k hk => by
        have := Finset.mem_range.mp hk
        rw [if_pos (by omega), mul_one],
      Finset.sum_congr rfl (g := fun _ => 0) (s₁ := Finset.range 64) (f := fun k => f (64 + k) * _) fun k hk => by
        have := Finset.mem_range.mp hk
        rw [if_neg (by omega), mul_zero]]
    simp
  · rw [Finset.sum_congr rfl (g := fun k => (0 : ℝ)) fun k hk => by
        have := Finset.mem_range.mp hk
        rw [if_neg (by omega), mul_zero],
      Finset.sum_congr rfl (g := fun k => f (64 + k)) (s₁ := Finset.range 64) (f := fun k => f (64 + k) * _) fun k hk => by
        have := Finset.mem_range.mp hk
        rw [if_pos (by omega), mul_one]]
    simp

theorem headSum_tile (f : ℕ → ℝ) (t c : ℕ) : headSum (fun k => f (128 * t + k)) c = headSum f (128 * t + c) := by
  unfold headSum
  refine Finset.sum_congr rfl fun j _ => congrArg f ?_
  omega

/-! ### The block-diagonal matrix of ones, as the four products' payloads build it -/

/-- The half of a row of 128 lanes that a lane lies in, as a quotient rounded down. -/
theorem half_row (k : Fin 128) : Scalar.select
    (IntOp.andi
      (IntOp.cmpi CmpIPredicate.ne
        (IntOp.subi (BitVec.setWidth 32 (IntOp.cmpi CmpIPredicate.sgt (BitVec.ofNat 32 k.val) 0#32))
          (BitVec.setWidth 32 (IntOp.cmpi CmpIPredicate.slt (BitVec.ofNat 32 k.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 k.val) 64#32) 0#32))
    (IntOp.subi (IntOp.divsi ArithUnit.vector (BitVec.ofNat 32 k.val) 64#32) 1#32)
    (IntOp.divsi ArithUnit.vector (BitVec.ofNat 32 k.val) 64#32) = BitVec.ofNat 32 (k.val / 64) := by
  revert k; decide +kernel

theorem one_of (j k : Fin 128) : (Scalar.select (IntOp.cmpi CmpIPredicate.eq (BitVec.ofNat 32 (j.val / 64)) (BitVec.ofNat 32 (k.val / 64))) (1 : EReal) 0) =
    ((if j.val / 64 = k.val / 64 then (1 : ℝ) else 0 : ℝ) : EReal) := by
  rcases (by have := j.isLt; omega : j.val / 64 = 0 ∨ j.val / 64 = 1) with e | e <;>
    rcases (by have := k.isLt; omega : k.val / 64 = 0 ∨ k.val / 64 = 1) with e' | e' <;> rw [e, e'] <;> simp [Scalar.select, IntOp.cmpi]

/-- The matrix whose entry is one where row and column lie in the same half. -/
def Diag (o : FVec Ideal S128x128 .bf16) : Prop := ∀ j k : Fin 128, (o (ix2 j k) : EReal) = ((if j.val / 64 = k.val / 64 then (1 : ℝ) else 0 : ℝ) : EReal)

theorem diag15 : Diag (k0_pay15 (F := Ideal) k0_pay13 k0_pay14) := fun j k => by
  have h := half_row j
  unfold k0_pay15 k0_pay13 k0_pay14
  pointwise
  rw [h, half_row k]
  exact one_of j k

theorem diag32 : Diag (k0_pay32 (F := Ideal) k0_pay29 k0_pay30 k0_pay31) := fun j k => by
  have h := half_row j
  unfold k0_pay32 k0_pay29 k0_pay30 k0_pay31
  pointwise
  rw [h, half_row k]
  exact one_of j k

section Row

variable (a : Fin 128)

/-- A row of a tile times the block-diagonal matrix: the sums over the lanes of each half. -/
theorem dot_row (u o : FVec Ideal S128x128 .bf16) (ho : Diag o) (x : ℕ → ℝ) (hu : ∀ k : Fin 128, (u (ix2 a k) : EReal) = x k.val) (c : Fin 128) :
    (matmul dot_S128x128_S128x128_S128x128_1_0_0_1_n_n none u o (constant S128x128 .f32 0x00000000#32) (ix2 a c) : EReal) = ((headSum x c.val : ℝ) : EReal) := by
  pointwise
  simp only [hu, ho _ _, ← EReal.coe_mul, coe_sum, sum_halves]

/-- The two products that sum a head's lanes: the first of the entries, the second of what rounding them left. -/
theorem dots_row (u w o : FVec Ideal S128x128 .bf16) (ho : Diag o) (x : ℕ → ℝ) (hu : ∀ k : Fin 128, (u (ix2 a k) : EReal) = x k.val)
    (hw : ∀ k : Fin 128, (w (ix2 a k) : EReal) = ((0 : ℝ) : EReal)) (c : Fin 128) :
    (addf (matmul dot_S128x128_S128x128_S128x128_1_0_0_1_n_n none u o (constant S128x128 .f32 0x00000000#32))
      (matmul dot_S128x128_S128x128_S128x128_1_0_0_1_n_n none w o (constant S128x128 .f32 0x00000000#32)) (ix2 a c) : EReal) = ((headSum x c.val : ℝ) : EReal) := by
  have h1 := dot_row a u o ho x hu c
  have h2 := dot_row a w o ho (fun _ => 0) hw c
  show (_ + _ : EReal) = _
  rw [h1, h2, ← EReal.coe_add]
  simp [headSum]

/-- Eight tiles side by side. -/
theorem cat8 (v0 v1 v2 v3 v4 v5 v6 v7 : FVec Ideal S128x128 .f32) (f : ℕ → ℝ)
    (h0 : ∀ c : Fin 128, (v0 (ix2 a c) : EReal) = f (0 + c.val))
    (h1 : ∀ c : Fin 128, (v1 (ix2 a c) : EReal) = f (128 + c.val))
    (h2 : ∀ c : Fin 128, (v2 (ix2 a c) : EReal) = f (256 + c.val))
    (h3 : ∀ c : Fin 128, (v3 (ix2 a c) : EReal) = f (384 + c.val))
    (h4 : ∀ c : Fin 128, (v4 (ix2 a c) : EReal) = f (512 + c.val))
    (h5 : ∀ c : Fin 128, (v5 (ix2 a c) : EReal) = f (640 + c.val))
    (h6 : ∀ c : Fin 128, (v6 (ix2 a c) : EReal) = f (768 + c.val))
    (h7 : ∀ c : Fin 128, (v7 (ix2 a c) : EReal) = f (896 + c.val)) (b : Fin 1024) :
    (concatenate S128x1024 1 [⟨S128x128, v0⟩, ⟨S128x128, v1⟩, ⟨S128x128, v2⟩, ⟨S128x128, v3⟩, ⟨S128x128, v4⟩, ⟨S128x128, v5⟩, ⟨S128x128, v6⟩, ⟨S128x128, v7⟩]
      concatenates_S128x128_S128x128_S128x128_S128x128_S128x128_S128x128_S128x128_S128x128_S128x1024_d1 (ix2 a b) : EReal) = f b.val := by
  have hb := b.isLt
  pointwise
  split_ifs <;> first | exact absurd rfl ‹¬_› | skip
  all_goals
    simp only [h0, h1, h2, h3, h4, h5, h6, h7]
    refine congrArg (fun n => ((f n : ℝ) : EReal)) ?_
    omega

/-- Two tiles side by side. -/
theorem cat2 (v w : FVec Ideal S128x128 .f32) (f : ℕ → ℝ) (hv : ∀ c : Fin 128, (v (ix2 a c) : EReal) = f c.val) (hw : ∀ c : Fin 128, (w (ix2 a c) : EReal) = f (128 + c.val))
    (b : Fin 256) : (concatenate S128x256 1 [⟨S128x128, v⟩, ⟨S128x128, w⟩] concatenates_S128x128_S128x128_S128x256_d1 (ix2 a b) : EReal) = f b.val := by
  have hb := b.isLt
  pointwise
  split_ifs
  · rw [hv]
  · rw [hw]
    refine congrArg (fun n => ((f n : ℝ) : EReal)) ?_
    dsimp only
    omega
  · exact absurd rfl ‹¬_›

end Row

/-! ### The mathematics of a row -/

/-- The reciprocal root of a head's mean square. -/
def inv (x : ℕ → ℝ) (b : ℕ) : ℝ := (Real.sqrt (headSum (fun k => x k * x k) b * (1 / 64) + eps))⁻¹
/-- The gradient before the rotary embedding: the rotation's transpose. -/
def rot (p s : ℕ → ℝ) (b : ℕ) : ℝ := p b + (if b % 64 < 32 then s (b + 32) else s (b - 32))
/-- The gradient at a row's entry, from that after the norm (`r`), the entries and the gains. -/
def dRow (x g r : ℕ → ℝ) (b : ℕ) : ℝ := inv x b * (r b * g b - x b * inv x b * (headSum (fun k => r k * g k * (x k * inv x k)) b * (1 / 64)))

theorem headSum_nonneg (x : ℕ → ℝ) (b : ℕ) : 0 ≤ headSum (fun k => x k * x k) b := Finset.sum_nonneg fun j _ => mul_self_nonneg _

theorem ms_pos (x : ℕ → ℝ) (b : ℕ) : 0 < headSum (fun k => x k * x k) b * (1 / 64) + eps := by
  have := headSum_nonneg x b
  have := eps_pos
  positivity

theorem bits_64 : Idealize.ShloMosaic.Ideal.ofBits .f32 0x3C800000#32 = ((1 / 64 : ℝ) : EReal) := by
  simp [Idealize.ShloMosaic.Ideal.ofBits, Idealize.ShloMosaic.Ideal.ieee, -EReal.coe_mul]; norm_num

/-- The mask of the lanes in the first half of each head. -/
theorem first_half (b : Fin 1024) : (fun v168 v170 => Scalar.select (IntOp.andi (IntOp.xori (IntOp.cmpi CmpIPredicate.slt (IntOp.remsi ArithUnit.vector v168 v170) 0#32) (Scalar.cmpi CmpIPredicate.slt v170 0#32))
    (IntOp.cmpi CmpIPredicate.ne (IntOp.remsi ArithUnit.vector v168 v170) 0#32)) (IntOp.addi (IntOp.remsi ArithUnit.vector v168 v170) v170) (IntOp.remsi ArithUnit.vector v168 v170)) (BitVec.ofNat 32 b.val) 64#32 = BitVec.ofNat 32 (b.val % 64) := by
  revert b; decide +kernel

theorem lt_half (b : ℕ) (x y : EReal) : Scalar.select (IntOp.cmpi CmpIPredicate.slt (BitVec.ofNat 32 (b % 64)) 32#32) x y = if b % 64 < 32 then x else y := by
  have h : ∀ k : Fin 64, IntOp.cmpi CmpIPredicate.slt (BitVec.ofNat 32 k.val) 32#32 = if k.val < 32 then 1#1 else 0#1 := by decide +kernel
  have := h ⟨b % 64, Nat.mod_lt _ (by norm_num)⟩
  dsimp only at this
  rw [this]
  split_ifs <;> rfl

/-! ### The query heads -/

section Query

def qInv (x0 : Vec Ideal S128x1024 .f32) : FVec Ideal S128x1024 .f32 :=
  k0_pay21 (k0_pay15 k0_pay13 k0_pay14) (k0_pay16 (k0_pay12 x0)) (k0_pay17 (k0_pay12 x0)) (k0_pay18 (k0_pay12 x0) k0_pay13 k0_pay14)
    (k0_pay19 (k0_pay12 x0) k0_pay13 k0_pay14) (k0_pay20 (k0_pay12 x0) k0_pay13 k0_pay14)
def qHat (x0 : Vec Ideal S128x1024 .f32) : FVec Ideal S128x1024 .f32 :=
  k0_pay22 x0 (k0_pay15 k0_pay13 k0_pay14) (k0_pay16 (k0_pay12 x0)) (k0_pay17 (k0_pay12 x0)) (k0_pay18 (k0_pay12 x0) k0_pay13 k0_pay14)
    (k0_pay19 (k0_pay12 x0) k0_pay13 k0_pay14) (k0_pay20 (k0_pay12 x0) k0_pay13 k0_pay14)
def qP (x4 : Vec Ideal S128x128 .f32) (x6 : Vec Ideal S128x1024 .f32) : FVec Ideal S128x1024 .f32 := k0_pay23 x6 (k0_pay10 (k0_pay1 x4))
def qS (x5 : Vec Ideal S128x128 .f32) (x6 : Vec Ideal S128x1024 .f32) : FVec Ideal S128x1024 .f32 := k0_pay24 x6 (k0_pay11 (k0_pay2 x5))
def lanesQ : IVec S128x1024 32 := iota Kind.tc S128x1024 32 [1] iota_S128x1024_d1_w32
def qRot (x4 x5 : Vec Ideal S128x128 .f32) (x6 : Vec Ideal S128x1024 .f32) : FVec Ideal S128x1024 .f32 := k0_pay25 (qP x4 x6) (qS x5 x6) lanesQ 64#32
def qScaled (x2 : Vec Ideal S1x128 .f32) (x4 x5 : Vec Ideal S128x128 .f32) (x6 : Vec Ideal S128x1024 .f32) : FVec Ideal S128x1024 .f32 :=
  k0_pay27 (k0_pay9 x2) (qP x4 x6) (qS x5 x6) lanesQ 64#32
def qProd (x0 : Vec Ideal S128x1024 .f32) (x2 : Vec Ideal S1x128 .f32) (x4 x5 : Vec Ideal S128x128 .f32) (x6 : Vec Ideal S128x1024 .f32) : FVec Ideal S128x1024 .f32 :=
  k0_pay28 (k0_pay9 x2) (qHat x0) (qP x4 x6) (qS x5 x6) lanesQ 64#32
/-- The gradient at a block of queries. -/
def qOut (x0 : Vec Ideal S128x1024 .f32) (x2 : Vec Ideal S1x128 .f32) (x4 x5 : Vec Ideal S128x128 .f32) (x6 : Vec Ideal S128x1024 .f32) : FVec Ideal S128x1024 .f32 :=
  k0_pay38 (qInv x0) (qHat x0) (qScaled x2 x4 x5 x6) (k0_pay32 k0_pay29 k0_pay30 k0_pay31) (k0_pay33 (qProd x0 x2 x4 x5 x6)) (k0_pay34 (qProd x0 x2 x4 x5 x6))
    (k0_pay35 (qProd x0 x2 x4 x5 x6) k0_pay29 k0_pay30 k0_pay31) (k0_pay36 (qProd x0 x2 x4 x5 x6) k0_pay29 k0_pay30 k0_pay31) (k0_pay37 (qProd x0 x2 x4 x5 x6))
    (constant S128x128 FTy.f32 0#32)
/-- What a block of queries adds to the gains' gradients, lane by lane. -/
def qGain (x0 : Vec Ideal S128x1024 .f32) (x4 x5 : Vec Ideal S128x128 .f32) (x6 : Vec Ideal S128x1024 .f32) : FVec Ideal S1x1024 .f32 :=
  k0_pay26 (qHat x0) (qP x4 x6) (qS x5 x6) lanesQ 64#32

variable {a : Fin 128} {x0 x6 : Vec Ideal S128x1024 .f32} {x2 : Vec Ideal S1x128 .f32} {x4 x5 : Vec Ideal S128x128 .f32} {x d g C S : ℕ → ℝ}

/-- A lane of the table set side by side eight times. -/
theorem table8 (v : FVec Ideal S128x128 .f32) (f : ℕ → ℝ) (h : ∀ c : Fin 128, (v (ix2 a c) : EReal) = f c.val) (b : Fin 1024) :
    (concatenate S128x1024 1 [⟨S128x128, v⟩, ⟨S128x128, v⟩, ⟨S128x128, v⟩, ⟨S128x128, v⟩, ⟨S128x128, v⟩, ⟨S128x128, v⟩, ⟨S128x128, v⟩, ⟨S128x128, v⟩]
      concatenates_S128x128_S128x128_S128x128_S128x128_S128x128_S128x128_S128x128_S128x128_S128x1024_d1 (ix2 a b) : EReal) = f (b.val % 128) :=
  have key : ∀ n : ℕ, n % 128 = 0 → ∀ c : Fin 128, (v (ix2 a c) : EReal) = f ((n + c.val) % 128) := fun n hn c => by
    rw [h c]
    have := c.isLt
    refine congrArg (fun n => ((f n : ℝ) : EReal)) ?_
    omega
  cat8 a v v v v v v v v (fun n => f (n % 128)) (key 0 rfl) (key 128 rfl) (key 256 rfl) (key 384 rfl) (key 512 rfl) (key 640 rfl) (key 768 rfl) (key 896 rfl) b

/-- One tile of sums over the heads' lanes. -/
theorem sum8 (u w : FVec Ideal S128x1024 .bf16) (o : FVec Ideal S128x128 .bf16) (ho : Diag o) (y : ℕ → ℝ) (hu : ∀ k : Fin 1024, (u (ix2 a k) : EReal) = y k.val)
    (hw : ∀ k : Fin 1024, (w (ix2 a k) : EReal) = ((0 : ℝ) : EReal)) (n : ℕ) (t : ℕ) (hn : n = 128 * t) (ht : t < 8) (hs : S128x1024.Slices ![0, n] S128x128) (c : Fin 128) :
    (addf (matmul dot_S128x128_S128x128_S128x128_1_0_0_1_n_n none (extractStridedSlice S128x128 ![0, n] u hs) o (constant S128x128 .f32 0x00000000#32))
      (matmul dot_S128x128_S128x128_S128x128_1_0_0_1_n_n none (extractStridedSlice S128x128 ![0, n] w hs) o (constant S128x128 .f32 0x00000000#32)) (ix2 a c) : EReal) =
      ((headSum y (n + c.val) : ℝ) : EReal) := by
  subst hn
  refine (dots_row a _ _ o ho (fun k => y (128 * t + k)) (fun k => ?_) (fun k => ?_) c).trans (by rw [headSum_tile])
  · have hk := k.isLt
    refine Eq.trans ?_ (hu ⟨128 * t + k.val, by omega⟩)
    pointwise
  · have hk := k.isLt
    refine Eq.trans ?_ (hw ⟨128 * t + k.val, by omega⟩)
    pointwise

/-- The eight tiles of sums over the heads' lanes. -/
theorem headSums (u w : FVec Ideal S128x1024 .bf16) (o : FVec Ideal S128x128 .bf16) (ho : Diag o) (y : ℕ → ℝ) (hu : ∀ k : Fin 1024, (u (ix2 a k) : EReal) = y k.val)
    (hw : ∀ k : Fin 1024, (w (ix2 a k) : EReal) = ((0 : ℝ) : EReal)) (b : Fin 1024) :
    (concatenate S128x1024 1 [
      ⟨S128x128, addf (matmul dot_S128x128_S128x128_S128x128_1_0_0_1_n_n none (extractStridedSlice S128x128 ![0, 0] u slices_S128x1024_o0_0_S128x128) o (constant S128x128 .f32 0x00000000#32))
        (matmul dot_S128x128_S128x128_S128x128_1_0_0_1_n_n none (extractStridedSlice S128x128 ![0, 0] w slices_S128x1024_o0_0_S128x128) o (constant S128x128 .f32 0x00000000#32))⟩,
      ⟨S128x128, addf (matmul dot_S128x128_S128x128_S128x128_1_0_0_1_n_n none (extractStridedSlice S128x128 ![0, 128] u slices_S128x1024_o0_128_S128x128) o (constant S128x128 .f32 0x00000000#32))
        (matmul dot_S128x128_S128x128_S128x128_1_0_0_1_n_n none (extractStridedSlice S128x128 ![0, 128] w slices_S128x1024_o0_128_S128x128) o (constant S128x128 .f32 0x00000000#32))⟩,
      ⟨S128x128, addf (matmul dot_S128x128_S128x128_S128x128_1_0_0_1_n_n none (extractStridedSlice S128x128 ![0, 256] u slices_S128x1024_o0_256_S128x128) o (constant S128x128 .f32 0x00000000#32))
        (matmul dot_S128x128_S128x128_S128x128_1_0_0_1_n_n none (extractStridedSlice S128x128 ![0, 256] w slices_S128x1024_o0_256_S128x128) o (constant S128x128 .f32 0x00000000#32))⟩,
      ⟨S128x128, addf (matmul dot_S128x128_S128x128_S128x128_1_0_0_1_n_n none (extractStridedSlice S128x128 ![0, 384] u slices_S128x1024_o0_384_S128x128) o (constant S128x128 .f32 0x00000000#32))
        (matmul dot_S128x128_S128x128_S128x128_1_0_0_1_n_n none (extractStridedSlice S128x128 ![0, 384] w slices_S128x1024_o0_384_S128x128) o (constant S128x128 .f32 0x00000000#32))⟩,
      ⟨S128x128, addf (matmul dot_S128x128_S128x128_S128x128_1_0_0_1_n_n none (extractStridedSlice S128x128 ![0, 512] u slices_S128x1024_o0_512_S128x128) o (constant S128x128 .f32 0x00000000#32))
        (matmul dot_S128x128_S128x128_S128x128_1_0_0_1_n_n none (extractStridedSlice S128x128 ![0, 512] w slices_S128x1024_o0_512_S128x128) o (constant S128x128 .f32 0x00000000#32))⟩,
      ⟨S128x128, addf (matmul dot_S128x128_S128x128_S128x128_1_0_0_1_n_n none (extractStridedSlice S128x128 ![0, 640] u slices_S128x1024_o0_640_S128x128) o (constant S128x128 .f32 0x00000000#32))
        (matmul dot_S128x128_S128x128_S128x128_1_0_0_1_n_n none (extractStridedSlice S128x128 ![0, 640] w slices_S128x1024_o0_640_S128x128) o (constant S128x128 .f32 0x00000000#32))⟩,
      ⟨S128x128, addf (matmul dot_S128x128_S128x128_S128x128_1_0_0_1_n_n none (extractStridedSlice S128x128 ![0, 768] u slices_S128x1024_o0_768_S128x128) o (constant S128x128 .f32 0x00000000#32))
        (matmul dot_S128x128_S128x128_S128x128_1_0_0_1_n_n none (extractStridedSlice S128x128 ![0, 768] w slices_S128x1024_o0_768_S128x128) o (constant S128x128 .f32 0x00000000#32))⟩,
      ⟨S128x128, addf (matmul dot_S128x128_S128x128_S128x128_1_0_0_1_n_n none (extractStridedSlice S128x128 ![0, 896] u slices_S128x1024_o0_896_S128x128) o (constant S128x128 .f32 0x00000000#32))
        (matmul dot_S128x128_S128x128_S128x128_1_0_0_1_n_n none (extractStridedSlice S128x128 ![0, 896] w slices_S128x1024_o0_896_S128x128) o (constant S128x128 .f32 0x00000000#32))⟩]
      concatenates_S128x128_S128x128_S128x128_S128x128_S128x128_S128x128_S128x128_S128x128_S128x1024_d1 (ix2 a b) : EReal) = ((headSum y b.val : ℝ) : EReal) :=
  cat8 a _ _ _ _ _ _ _ _ (headSum y) (sum8 u w o ho y hu hw 0 0 rfl (by norm_num) _) (sum8 u w o ho y hu hw 128 1 rfl (by norm_num) _) (sum8 u w o ho y hu hw 256 2 rfl (by norm_num) _) (sum8 u w o ho y hu hw 384 3 rfl (by norm_num) _) (sum8 u w o ho y hu hw 512 4 rfl (by norm_num) _) (sum8 u w o ho y hu hw 640 5 rfl (by norm_num) _) (sum8 u w o ho y hu hw 768 6 rfl (by norm_num) _) (sum8 u w o ho y hu hw 896 7 rfl (by norm_num) _) b

theorem qInv_apply (hx : ∀ k : Fin 1024, (x0 (ix2 a k) : EReal) = x k.val) (b : Fin 1024) : (qInv x0 (ix2 a b) : EReal) = inv x b.val := by
  have h := headSums (a := a) (k0_pay16 (k0_pay12 x0)) (k0_pay17 (k0_pay12 x0)) (k0_pay15 k0_pay13 k0_pay14) diag15 (fun k => x k * x k)
    (fun k => by pointwise [k0_pay16, k0_pay12]; rw [hx, ← EReal.coe_mul])
    (fun k => by pointwise [k0_pay17, k0_pay16, k0_pay12]; rw [hx, ← EReal.coe_mul, ← EReal.coe_sub, sub_self]) b
  unfold qInv k0_pay21 k0_pay18 k0_pay19 k0_pay20
  refine (show _ = Idealize.ShloMosaic.Ideal.rsqrt (_ * Idealize.ShloMosaic.Ideal.ofBits .f32 0x3C800000#32 + Idealize.ShloMosaic.Ideal.ofBits .f32 0x358637BD#32) from rfl).trans ?_
  rw [h, bits_64, bits_eps, ← EReal.coe_mul, ← EReal.coe_add]
  exact rsqrt_coe _ (ms_pos x b.val)

theorem qHat_apply (hx : ∀ k : Fin 1024, (x0 (ix2 a k) : EReal) = x k.val) (b : Fin 1024) : (qHat x0 (ix2 a b) : EReal) = ((x b.val * inv x b.val : ℝ) : EReal) := by
  have h := qInv_apply hx b
  unfold qHat k0_pay22
  refine (show _ = (x0 (ix2 a b) : EReal) * qInv x0 (ix2 a b) from rfl).trans ?_
  rw [h, hx, EReal.coe_mul]

theorem qP_apply (hd : ∀ k : Fin 1024, (x6 (ix2 a k) : EReal) = d k.val) (hC : ∀ k : Fin 128, (x4 (ix2 a k) : EReal) = C k.val) (b : Fin 1024) :
    (qP x4 x6 (ix2 a b) : EReal) = ((d b.val * C (b.val % 128) : ℝ) : EReal) := by
  have h := table8 (a := a) (k0_pay1 x4) C (fun c => by pointwise [k0_pay1]; exact hC c) b
  refine (show _ = (x6 (ix2 a b) : EReal) * _ from rfl).trans ?_
  unfold k0_pay10
  rw [h, hd, EReal.coe_mul]

theorem qS_apply (hd : ∀ k : Fin 1024, (x6 (ix2 a k) : EReal) = d k.val) (hS : ∀ k : Fin 128, (x5 (ix2 a k) : EReal) = S k.val) (b : Fin 1024) :
    (qS x5 x6 (ix2 a b) : EReal) = ((d b.val * S (b.val % 128) : ℝ) : EReal) := by
  have h := table8 (a := a) (k0_pay2 x5) S (fun c => by pointwise [k0_pay2]; exact hS c) b
  refine (show _ = (x6 (ix2 a b) : EReal) * _ from rfl).trans ?_
  unfold k0_pay11
  rw [h, hd, EReal.coe_mul]

theorem rot25 (p s : FVec Ideal S128x1024 .f32) (f g : ℕ → ℝ) (hp : ∀ k : Fin 1024, (p (ix2 a k) : EReal) = f k.val) (hs : ∀ k : Fin 1024, (s (ix2 a k) : EReal) = g k.val) (b : Fin 1024) :
    (k0_pay25 p s lanesQ 64#32 (ix2 a b) : EReal) = ((rot f g b.val : ℝ) : EReal) := by
  have h := first_half b
  have hb := b.isLt
  unfold k0_pay25 lanesQ
  pointwise
  dsimp only at h
  rw [h, lt_half, hp]
  unfold rot
  rw [EReal.coe_add]
  split_ifs with hc
  · rw [hs]
    refine congrArg (fun n => ((f b.val : ℝ) : EReal) + ((g n : ℝ) : EReal)) ?_
    dsimp only
    omega
  · rw [hs]
    refine congrArg (fun n => ((f b.val : ℝ) : EReal) + ((g n : ℝ) : EReal)) ?_
    dsimp only
    omega

/-- The gradient before the rotary embedding, of a query row. -/
def rotOf (d C S : ℕ → ℝ) : ℕ → ℝ := rot (fun k => d k * C (k % 128)) (fun k => d k * S (k % 128))

theorem qRot_apply (hd : ∀ k : Fin 1024, (x6 (ix2 a k) : EReal) = d k.val) (hC : ∀ k : Fin 128, (x4 (ix2 a k) : EReal) = C k.val)
    (hS : ∀ k : Fin 128, (x5 (ix2 a k) : EReal) = S k.val) (b : Fin 1024) : (qRot x4 x5 x6 (ix2 a b) : EReal) = ((rotOf d C S b.val : ℝ) : EReal) :=
  rot25 _ _ (fun k => d k * C (k % 128)) (fun k => d k * S (k % 128)) (qP_apply hd hC) (qS_apply hd hS) b

theorem qScaled_apply (hd : ∀ k : Fin 1024, (x6 (ix2 a k) : EReal) = d k.val) (hC : ∀ k : Fin 128, (x4 (ix2 a k) : EReal) = C k.val)
    (hS : ∀ k : Fin 128, (x5 (ix2 a k) : EReal) = S k.val) (hg : ∀ k : Fin 128, (x2 (ix2 0 k) : EReal) = g k.val) (b : Fin 1024) :
    (qScaled x2 x4 x5 x6 (ix2 a b) : EReal) = ((rotOf d C S b.val * g (b.val % 128) : ℝ) : EReal) := by
  have hb := b.isLt
  have h : (k0_pay27 (k0_pay9 x2) (qP x4 x6) (qS x5 x6) lanesQ 64#32 (ix2 a b) : EReal) = qRot x4 x5 x6 (ix2 a b) * k0_pay9 x2 (ix2 0 b) := by
    unfold k0_pay27 qRot k0_pay25
    pointwise
  unfold qScaled
  rw [h, qRot_apply hd hC hS, EReal.coe_mul]
  refine congrArg (_ * ·) ?_
  unfold k0_pay9
  pointwise
  split_ifs <;> first | exact absurd rfl ‹¬_› | skip
  all_goals
    rw [hg]
    refine congrArg (fun n => ((g n : ℝ) : EReal)) ?_
    dsimp only
    omega

theorem qProd_apply (hx : ∀ k : Fin 1024, (x0 (ix2 a k) : EReal) = x k.val) (hd : ∀ k : Fin 1024, (x6 (ix2 a k) : EReal) = d k.val) (hC : ∀ k : Fin 128, (x4 (ix2 a k) : EReal) = C k.val)
    (hS : ∀ k : Fin 128, (x5 (ix2 a k) : EReal) = S k.val) (hg : ∀ k : Fin 128, (x2 (ix2 0 k) : EReal) = g k.val) (b : Fin 1024) :
    (qProd x0 x2 x4 x5 x6 (ix2 a b) : EReal) = ((rotOf d C S b.val * g (b.val % 128) * (x b.val * inv x b.val) : ℝ) : EReal) := by
  refine (show _ = (qScaled x2 x4 x5 x6 (ix2 a b) : EReal) * qHat x0 (ix2 a b) from rfl).trans ?_
  rw [qScaled_apply hd hC hS hg, qHat_apply hx, ← EReal.coe_mul]

theorem qOut_apply (hx : ∀ k : Fin 1024, (x0 (ix2 a k) : EReal) = x k.val) (hd : ∀ k : Fin 1024, (x6 (ix2 a k) : EReal) = d k.val) (hC : ∀ k : Fin 128, (x4 (ix2 a k) : EReal) = C k.val)
    (hS : ∀ k : Fin 128, (x5 (ix2 a k) : EReal) = S k.val) (hg : ∀ k : Fin 128, (x2 (ix2 0 k) : EReal) = g k.val) (b : Fin 1024) :
    (qOut x0 x2 x4 x5 x6 (ix2 a b) : EReal) = ((dRow x (fun k => g (k % 128)) (rotOf d C S) b.val : ℝ) : EReal) := by
  have h := headSums (a := a) (k0_pay33 (qProd x0 x2 x4 x5 x6)) (k0_pay34 (qProd x0 x2 x4 x5 x6)) (k0_pay32 k0_pay29 k0_pay30 k0_pay31) diag32
    (fun k => rotOf d C S k * g (k % 128) * (x k * inv x k))
    (fun k => by pointwise [k0_pay33]; rw [qProd_apply hx hd hC hS hg])
    (fun k => by pointwise [k0_pay34, k0_pay33]; rw [qProd_apply hx hd hC hS hg, ← EReal.coe_sub, sub_self]) b
  unfold qOut k0_pay38 k0_pay35 k0_pay36 k0_pay37
  refine (show _ = (qInv x0 (ix2 a b) : EReal) * (qScaled x2 x4 x5 x6 (ix2 a b) - qHat x0 (ix2 a b) * (_ * Idealize.ShloMosaic.Ideal.ofBits .f32 0x3C800000#32)) from rfl).trans ?_
  rw [h, bits_64, qInv_apply hx, qScaled_apply hd hC hS hg, qHat_apply hx, ← EReal.coe_mul, ← EReal.coe_mul, ← EReal.coe_sub, ← EReal.coe_mul]
  rfl

/-- A block's sum over its rows, lane by lane. -/
theorem qGain_apply (X : Fin 128 → ℕ → ℝ) (D : Fin 128 → ℕ → ℝ) (CC SS : Fin 128 → ℕ → ℝ) (hx : ∀ a, ∀ k : Fin 1024, (x0 (ix2 a k) : EReal) = X a k.val)
    (hd : ∀ a, ∀ k : Fin 1024, (x6 (ix2 a k) : EReal) = D a k.val) (hC : ∀ a, ∀ k : Fin 128, (x4 (ix2 a k) : EReal) = CC a k.val)
    (hS : ∀ a, ∀ k : Fin 128, (x5 (ix2 a k) : EReal) = SS a k.val) (b : Fin 1024) :
    (qGain x0 x4 x5 x6 (ix2 0 b) : EReal) = ((∑ a : Fin 128, rotOf (D a) (CC a) (SS a) b.val * (X a b.val * inv (X a) b.val) : ℝ) : EReal) := by
  have h : ∀ a : Fin 128, (qRot x4 x5 x6 (ix2 a b) : EReal) * qHat x0 (ix2 a b) = ((rotOf (D a) (CC a) (SS a) b.val * (X a b.val * inv (X a) b.val) : ℝ) : EReal) := fun a => by
    rw [qRot_apply (hd a) (hC a) (hS a), qHat_apply (hx a), ← EReal.coe_mul]
  rw [← Lift.coe_sum]
  simp only [← h]
  unfold qGain k0_pay26 qRot k0_pay25
  pointwise

end Query

end Cert.QkVal

end
-- ==== Proof.QkKeys.lean ====
/- The gradient of the keys' norm and rotary embedding, lane by lane: the keys' four heads, by the same steps as the queries' in QkLanes,
   from the gradients of the attention summed over the heads that share a key; and the folds of the gains' gradients. -/
module

public import proofs.«01_k».proof.Proof.QkLanes

@[expose] public section

set_option maxRecDepth 16384

noncomputable section

namespace Cert.QkVal

open Cert.QkIdeal Cert.QkIdeal.Gen Cert.Lift Idealize.ShloMosaic Idealize.ShloMosaic.TcCoe Idealize.SL.Sem

/-! ### The sum over the heads that share a key -/

/-- The sum of the two heads of a group. -/
def gather (Y : ℕ → EReal) (b : ℕ) : EReal := Y (128 * (b / 64) + b % 64) + Y (128 * (b / 64) + 64 + b % 64)

theorem low_lane (c : Fin 128) (x y : EReal) : Scalar.select (IntOp.cmpi CmpIPredicate.slt (BitVec.ofNat 32 c.val) 64#32) x y = if c.val < 64 then x else y := by
  have h : ∀ k : Fin 128, IntOp.cmpi CmpIPredicate.slt (BitVec.ofNat 32 k.val) 64#32 = if k.val < 64 then 1#1 else 0#1 := by decide +kernel
  rw [h]
  split_ifs <;> rfl

theorem gather_low (Y : ℕ → EReal) {b m n : ℕ} (hm : m = 128 * (b / 64) + b % 64) (hn : n = 128 * (b / 64) + 64 + b % 64) : Y m + Y n = gather Y b := by
  subst hm hn; rfl

theorem gather_high (Y : ℕ → EReal) {b m n : ℕ} (hm : m = 128 * (b / 64) + 64 + b % 64) (hn : n = 128 * (b / 64) + b % 64) : Y m + Y n = gather Y b := by
  subst hm hn; exact add_comm _ _

variable {a : Fin 128}

theorem gather_apply (v : FVec Ideal S128x512 .f32) (Y : ℕ → EReal) (hY : ∀ k : Fin 512, (v (ix2 a k) : EReal) = Y k.val) (b : Fin 256) :
    (k0_pay8 v k0_pay6 (extractStridedSlice S128x128 ![0, 0] v slices_S128x512_o0_0_S128x128) (ix2 a b) : EReal) = gather Y b.val := by
  have hb := b.isLt
  unfold k0_pay8 k0_pay6
  pointwise
  split_ifs <;> first | exact absurd rfl ‹¬_› | skip
  · refine (low_lane ⟨b.val, ‹_›⟩ _ _).trans ?_
    simp only [hY]
    split_ifs
    · exact gather_low Y (by omega) (by omega)
    · exact gather_high Y (by omega) (by omega)
  · refine (low_lane ⟨b.val - 128, by omega⟩ _ _).trans ?_
    simp only [hY]
    split_ifs
    · exact gather_low Y (by omega) (by omega)
    · exact gather_high Y (by omega) (by omega)

/-- Whether a block of keys has a next block: one or zero. -/
theorem next_eq (i : grid0.Coords) : (k0_pay3 (F := Ideal) i : EReal) = if (i 0).val < 15 then ((1 : ℝ) : EReal) else ((0 : ℝ) : EReal) := by
  have h : ∀ k : Fin 16, Scalar.cmpi .slt (BitVec.ofNat 32 k.val) 15#32 = if k.val < 15 then 1#1 else 0#1 := by decide +kernel
  have h' := h (i 0)
  unfold k0_pay3
  dsimp only
  rw [h']
  split_ifs
  · pointwise
    rfl
  · pointwise
    rfl

/-! ### The keys' rows -/

def kD (i : grid0.Coords) (x7 x8 : Vec Ideal S128x512 .f32) : FVec Ideal S128x256 .f32 := k0_pay4 i x8 x7
def kInv (x1 : Vec Ideal S128x256 .f32) : FVec Ideal S128x256 .f32 := k0_pay48 (k0_pay42 x1) k0_pay43 k0_pay44 k0_pay45 k0_pay46 k0_pay47
def kHat (x1 : Vec Ideal S128x256 .f32) : FVec Ideal S128x256 .f32 := k0_pay49 x1 (k0_pay42 x1) k0_pay43 k0_pay44 k0_pay45 k0_pay46 k0_pay47
def kP (v : FVec Ideal S128x256 .f32) (x4 : Vec Ideal S128x128 .f32) : FVec Ideal S128x256 .f32 := k0_pay50 v (k0_pay40 (k0_pay1 x4))
def kS (v : FVec Ideal S128x256 .f32) (x5 : Vec Ideal S128x128 .f32) : FVec Ideal S128x256 .f32 := k0_pay51 v (k0_pay41 (k0_pay2 x5))
def kRot (v : FVec Ideal S128x256 .f32) (x4 x5 : Vec Ideal S128x128 .f32) : FVec Ideal S128x256 .f32 := k0_pay56 (kP v x4) (kS v x5) 64#32 k0_pay52 k0_pay53 k0_pay54 k0_pay55
def kScaled (v : FVec Ideal S128x256 .f32) (x3 : Vec Ideal S1x128 .f32) (x4 x5 : Vec Ideal S128x128 .f32) : FVec Ideal S128x256 .f32 :=
  k0_pay58 (k0_pay39 x3) (kP v x4) (kS v x5) 64#32 k0_pay52 k0_pay53 k0_pay54 k0_pay55
def kProd (v x1 : FVec Ideal S128x256 .f32) (x3 : Vec Ideal S1x128 .f32) (x4 x5 : Vec Ideal S128x128 .f32) : FVec Ideal S128x256 .f32 :=
  k0_pay59 (k0_pay39 x3) (kHat x1) (kP v x4) (kS v x5) 64#32 k0_pay52 k0_pay53 k0_pay54 k0_pay55
/-- What a block of keys adds to the gains' gradients, lane by lane. -/
def kGain (v x1 : FVec Ideal S128x256 .f32) (x4 x5 : Vec Ideal S128x128 .f32) : FVec Ideal S1x256 .f32 :=
  k0_pay57 (kHat x1) (kP v x4) (kS v x5) 64#32 k0_pay52 k0_pay53 k0_pay54 k0_pay55
/-- The three gradients of a block side by side. -/
def outBlk (u : FVec Ideal S128x256 .f32) (q : FVec Ideal S128x1024 .f32) (v x1 : FVec Ideal S128x256 .f32) (x3 : Vec Ideal S1x128 .f32) (x4 x5 : Vec Ideal S128x128 .f32) : FVec Ideal S128x1536 .bf16 :=
  k0_pay63 u q (kInv x1) (kHat x1) (kScaled v x3 x4 x5) (kProd v x1 x3 x4 x5) k0_pay60 (iota Kind.tc S128x128 32 [1] iota_S128x128_d1_w32) 64#32 k0_pay61 k0_pay62

variable {v x1 : FVec Ideal S128x256 .f32} {x3 : Vec Ideal S1x128 .f32} {x4 x5 : Vec Ideal S128x128 .f32} {x d g C S : ℕ → ℝ}

theorem sum2 (u w : FVec Ideal S128x256 .bf16) (o : FVec Ideal S128x128 .bf16) (ho : Diag o) (y : ℕ → ℝ) (hu : ∀ k : Fin 256, (u (ix2 a k) : EReal) = y k.val)
    (hw : ∀ k : Fin 256, (w (ix2 a k) : EReal) = ((0 : ℝ) : EReal)) (n : ℕ) (t : ℕ) (hn : n = 128 * t) (ht : t < 2) (hs : S128x256.Slices ![0, n] S128x128) (c : Fin 128) :
    (addf (matmul dot_S128x128_S128x128_S128x128_1_0_0_1_n_n none (extractStridedSlice S128x128 ![0, n] u hs) o (constant S128x128 .f32 0x00000000#32))
      (matmul dot_S128x128_S128x128_S128x128_1_0_0_1_n_n none (extractStridedSlice S128x128 ![0, n] w hs) o (constant S128x128 .f32 0x00000000#32)) (ix2 a c) : EReal) =
      ((headSum y (n + c.val) : ℝ) : EReal) := by
  subst hn
  refine (dots_row a _ _ o ho (fun k => y (128 * t + k)) (fun k => ?_) (fun k => ?_) c).trans (by rw [headSum_tile])
  · have hk := k.isLt
    refine Eq.trans ?_ (hu ⟨128 * t + k.val, by omega⟩)
    pointwise
  · have hk := k.isLt
    refine Eq.trans ?_ (hw ⟨128 * t + k.val, by omega⟩)
    pointwise

theorem headSums2 (u w : FVec Ideal S128x256 .bf16) (o : FVec Ideal S128x128 .bf16) (ho : Diag o) (y : ℕ → ℝ) (hu : ∀ k : Fin 256, (u (ix2 a k) : EReal) = y k.val)
    (hw : ∀ k : Fin 256, (w (ix2 a k) : EReal) = ((0 : ℝ) : EReal)) (b : Fin 256) :
    (concatenate S128x256 1 [
      ⟨S128x128, addf (matmul dot_S128x128_S128x128_S128x128_1_0_0_1_n_n none (extractStridedSlice S128x128 ![0, 0] u slices_S128x256_o0_0_S128x128) o (constant S128x128 .f32 0x00000000#32))
        (matmul dot_S128x128_S128x128_S128x128_1_0_0_1_n_n none (extractStridedSlice S128x128 ![0, 0] w slices_S128x256_o0_0_S128x128) o (constant S128x128 .f32 0x00000000#32))⟩,
      ⟨S128x128, addf (matmul dot_S128x128_S128x128_S128x128_1_0_0_1_n_n none (extractStridedSlice S128x128 ![0, 128] u slices_S128x256_o0_128_S128x128) o (constant S128x128 .f32 0x00000000#32))
        (matmul dot_S128x128_S128x128_S128x128_1_0_0_1_n_n none (extractStridedSlice S128x128 ![0, 128] w slices_S128x256_o0_128_S128x128) o (constant S128x128 .f32 0x00000000#32))⟩]
      concatenates_S128x128_S128x128_S128x256_d1 (ix2 a b) : EReal) = ((headSum y b.val : ℝ) : EReal) :=
  cat2 a _ _ (headSum y) (fun c => by rw [sum2 u w o ho y hu hw 0 0 rfl (by norm_num), Nat.zero_add]) (sum2 u w o ho y hu hw 128 1 rfl (by norm_num) _) b

/-- A lane of the table set side by side twice. -/
theorem table2 (v : FVec Ideal S128x128 .f32) (f : ℕ → ℝ) (h : ∀ c : Fin 128, (v (ix2 a c) : EReal) = f c.val) (b : Fin 256) :
    (concatenate S128x256 1 [⟨S128x128, v⟩, ⟨S128x128, v⟩] concatenates_S128x128_S128x128_S128x256_d1 (ix2 a b) : EReal) = f (b.val % 128) :=
  have key : ∀ n : ℕ, n % 128 = 0 → ∀ c : Fin 128, (v (ix2 a c) : EReal) = f ((n + c.val) % 128) := fun n hn c => by
    rw [h c]
    have := c.isLt
    refine congrArg (fun n => ((f n : ℝ) : EReal)) ?_
    omega
  cat2 a v v (fun n => f (n % 128)) (fun c => by rw [h c, Nat.mod_eq_of_lt c.isLt]) (key 128 rfl) b

/-- The matrix of ones on each head's lanes, as the keys' mean squares build it. -/
def ones48 : FVec Ideal S128x128 .bf16 :=
  truncf .bf16 (select (cmpi .eq k0_pay43 (select (andi k0_pay45 (cmpi .ne k0_pay46 k0_pay47)) (subi k0_pay44 (broadcast S128x128 1#32)) k0_pay44))
    (broadcast S128x128 (Scalar.ofBits .f32 0x3F800000#32 : Ideal .f32)) (broadcast S128x128 (Scalar.ofBits .f32 0x00000000#32 : Ideal .f32))) bitsLt_bf16_f32

theorem diag48 : Diag ones48 := fun j k => by
  have h := half_row j
  unfold ones48 k0_pay43 k0_pay44 k0_pay45 k0_pay46 k0_pay47
  pointwise
  rw [h, half_row k]
  exact one_of j k

theorem kInv_apply (hx : ∀ k : Fin 256, (x1 (ix2 a k) : EReal) = x k.val) (b : Fin 256) : (kInv x1 (ix2 a b) : EReal) = inv x b.val := by
  have h := headSums2 (a := a) (truncf .bf16 (k0_pay42 x1) bitsLt_bf16_f32)
    (truncf .bf16 (subf (k0_pay42 x1) (extf .f32 (truncf .bf16 (k0_pay42 x1) bitsLt_bf16_f32) bitsLt_bf16_f32)) bitsLt_bf16_f32) ones48 diag48 (fun k => x k * x k)
    (fun k => by pointwise [k0_pay42]; rw [hx, ← EReal.coe_mul])
    (fun k => by pointwise [k0_pay42]; rw [hx, ← EReal.coe_mul, ← EReal.coe_sub, sub_self]) b
  unfold kInv k0_pay48
  refine (show _ = Idealize.ShloMosaic.Ideal.rsqrt (_ * Idealize.ShloMosaic.Ideal.ofBits .f32 0x3C800000#32 + Idealize.ShloMosaic.Ideal.ofBits .f32 0x358637BD#32) from rfl).trans ?_
  refine (congrArg (fun z => Idealize.ShloMosaic.Ideal.rsqrt (z * Idealize.ShloMosaic.Ideal.ofBits .f32 0x3C800000#32 + Idealize.ShloMosaic.Ideal.ofBits .f32 0x358637BD#32)) h).trans ?_
  rw [bits_64, bits_eps, ← EReal.coe_mul, ← EReal.coe_add]
  exact rsqrt_coe _ (ms_pos x b.val)

theorem kHat_apply (hx : ∀ k : Fin 256, (x1 (ix2 a k) : EReal) = x k.val) (b : Fin 256) : (kHat x1 (ix2 a b) : EReal) = ((x b.val * inv x b.val : ℝ) : EReal) := by
  refine (show _ = (x1 (ix2 a b) : EReal) * kInv x1 (ix2 a b) from rfl).trans ?_
  rw [kInv_apply hx b, hx, EReal.coe_mul]

theorem kP_apply (hd : ∀ k : Fin 256, (v (ix2 a k) : EReal) = d k.val) (hC : ∀ k : Fin 128, (x4 (ix2 a k) : EReal) = C k.val) (b : Fin 256) :
    (kP v x4 (ix2 a b) : EReal) = ((d b.val * C (b.val % 128) : ℝ) : EReal) := by
  have h := table2 (a := a) (k0_pay1 x4) C (fun c => by pointwise [k0_pay1]; exact hC c) b
  refine (show _ = (v (ix2 a b) : EReal) * _ from rfl).trans ?_
  unfold k0_pay40
  rw [h, hd, EReal.coe_mul]

theorem kS_apply (hd : ∀ k : Fin 256, (v (ix2 a k) : EReal) = d k.val) (hS : ∀ k : Fin 128, (x5 (ix2 a k) : EReal) = S k.val) (b : Fin 256) :
    (kS v x5 (ix2 a b) : EReal) = ((d b.val * S (b.val % 128) : ℝ) : EReal) := by
  have h := table2 (a := a) (k0_pay2 x5) S (fun c => by pointwise [k0_pay2]; exact hS c) b
  refine (show _ = (v (ix2 a b) : EReal) * _ from rfl).trans ?_
  unfold k0_pay41
  rw [h, hd, EReal.coe_mul]

theorem kRot_apply (hd : ∀ k : Fin 256, (v (ix2 a k) : EReal) = d k.val) (hC : ∀ k : Fin 128, (x4 (ix2 a k) : EReal) = C k.val)
    (hS : ∀ k : Fin 128, (x5 (ix2 a k) : EReal) = S k.val) (b : Fin 256) : (kRot v x4 x5 (ix2 a b) : EReal) = ((rotOf d C S b.val : ℝ) : EReal) := by
  have h := first_half ⟨b.val, by have := b.isLt; omega⟩
  have hb := b.isLt
  unfold kRot k0_pay56 k0_pay53 k0_pay54 k0_pay55 k0_pay52
  pointwise
  dsimp only at h
  rw [show (Scalar.select (Scalar.cmpi CmpIPredicate.eq 64#32 0#32) 1#32 64#32 : BitVec 32) = 64#32 from by decide, h, lt_half, kP_apply hd hC]
  unfold rotOf rot
  rw [EReal.coe_add]
  split_ifs with hc
  · rw [kS_apply hd hS]
    refine congrArg (fun n => ((d b.val * C (b.val % 128) : ℝ) : EReal) + ((d n * S (n % 128) : ℝ) : EReal)) ?_
    dsimp only
    omega
  · rw [kS_apply hd hS]
    refine congrArg (fun n => ((d b.val * C (b.val % 128) : ℝ) : EReal) + ((d n * S (n % 128) : ℝ) : EReal)) ?_
    dsimp only
    omega

theorem kScaled_apply (hd : ∀ k : Fin 256, (v (ix2 a k) : EReal) = d k.val) (hC : ∀ k : Fin 128, (x4 (ix2 a k) : EReal) = C k.val)
    (hS : ∀ k : Fin 128, (x5 (ix2 a k) : EReal) = S k.val) (hg : ∀ k : Fin 128, (x3 (ix2 0 k) : EReal) = g k.val) (b : Fin 256) :
    (kScaled v x3 x4 x5 (ix2 a b) : EReal) = ((rotOf d C S b.val * g (b.val % 128) : ℝ) : EReal) := by
  have hb := b.isLt
  have h : (kScaled v x3 x4 x5 (ix2 a b) : EReal) = kRot v x4 x5 (ix2 a b) * k0_pay39 x3 (ix2 0 b) := by
    unfold kScaled k0_pay58 kRot
    pointwise
  rw [h, kRot_apply hd hC hS, EReal.coe_mul]
  refine congrArg (_ * ·) ?_
  unfold k0_pay39
  pointwise
  split_ifs <;> first | exact absurd rfl ‹¬_› | skip
  all_goals
    rw [hg]
    refine congrArg (fun n => ((g n : ℝ) : EReal)) ?_
    dsimp only
    omega

theorem kProd_apply (hx : ∀ k : Fin 256, (x1 (ix2 a k) : EReal) = x k.val) (hd : ∀ k : Fin 256, (v (ix2 a k) : EReal) = d k.val) (hC : ∀ k : Fin 128, (x4 (ix2 a k) : EReal) = C k.val)
    (hS : ∀ k : Fin 128, (x5 (ix2 a k) : EReal) = S k.val) (hg : ∀ k : Fin 128, (x3 (ix2 0 k) : EReal) = g k.val) (b : Fin 256) :
    (kProd v x1 x3 x4 x5 (ix2 a b) : EReal) = ((rotOf d C S b.val * g (b.val % 128) * (x b.val * inv x b.val) : ℝ) : EReal) := by
  refine (show _ = (kScaled v x3 x4 x5 (ix2 a b) : EReal) * kHat x1 (ix2 a b) from rfl).trans ?_
  rw [kScaled_apply hd hC hS hg, kHat_apply hx, ← EReal.coe_mul]

/-- A block's sum over its rows, lane by lane. -/
theorem kGain_apply (X : Fin 128 → ℕ → ℝ) (D : Fin 128 → ℕ → ℝ) (CC SS : Fin 128 → ℕ → ℝ) (hx : ∀ a, ∀ k : Fin 256, (x1 (ix2 a k) : EReal) = X a k.val)
    (hd : ∀ a, ∀ k : Fin 256, (v (ix2 a k) : EReal) = D a k.val) (hC : ∀ a, ∀ k : Fin 128, (x4 (ix2 a k) : EReal) = CC a k.val)
    (hS : ∀ a, ∀ k : Fin 128, (x5 (ix2 a k) : EReal) = SS a k.val) (b : Fin 256) :
    (kGain v x1 x4 x5 (ix2 0 b) : EReal) = ((∑ a : Fin 128, rotOf (D a) (CC a) (SS a) b.val * (X a b.val * inv (X a) b.val) : ℝ) : EReal) := by
  have h : ∀ a : Fin 128, (kRot v x4 x5 (ix2 a b) : EReal) * kHat x1 (ix2 a b) = ((rotOf (D a) (CC a) (SS a) b.val * (X a b.val * inv (X a) b.val) : ℝ) : EReal) := fun a => by
    rw [kRot_apply (hd a) (hC a) (hS a), kHat_apply (hx a), ← EReal.coe_mul]
  rw [← Lift.coe_sum]
  simp only [← h]
  unfold kGain k0_pay57 kRot
  pointwise

/-- The matrix of ones, as the keys' second sums build it. -/
def ones63 : FVec Ideal S128x128 .bf16 :=
  truncf .bf16 (select (cmpi .eq k0_pay60 (select (andi (cmpi .ne (subi (extui 32 k0_pay62 natLt_1_32)
        (extui 32 (cmpi .slt (iota Kind.tc S128x128 32 [1] iota_S128x128_d1_w32) (broadcast S128x128 0#32)) natLt_1_32))
        (broadcast S128x128 (Scalar.subi (Scalar.extui (Scalar.cmpi .sgt 64#32 0#32) : BitVec 32) (Scalar.extui (Scalar.cmpi .slt 64#32 0#32)))))
        (cmpi .ne (remsi (iota Kind.tc S128x128 32 [1] iota_S128x128_d1_w32) (broadcast S128x128 64#32)) (broadcast S128x128 0#32)))
      (subi k0_pay61 (broadcast S128x128 1#32)) k0_pay61))
    (broadcast S128x128 (Scalar.ofBits .f32 0x3F800000#32 : Ideal .f32)) (broadcast S128x128 (Scalar.ofBits .f32 0x00000000#32 : Ideal .f32))) bitsLt_bf16_f32

theorem diag63 : Diag ones63 := fun j k => by
  have h := half_row j
  unfold ones63 k0_pay60 k0_pay61 k0_pay62
  pointwise
  rw [h, half_row k]
  exact one_of j k

/-- The gradient at the keys. -/
def kOut (v x1 : FVec Ideal S128x256 .f32) (x3 : Vec Ideal S1x128 .f32) (x4 x5 : Vec Ideal S128x128 .f32) : FVec Ideal S128x256 .f32 :=
  have w := kProd v x1 x3 x4 x5
  have hi : FVec Ideal S128x256 .bf16 := truncf .bf16 w bitsLt_bf16_f32
  have lo : FVec Ideal S128x256 .bf16 := truncf .bf16 (subf w (extf .f32 hi bitsLt_bf16_f32)) bitsLt_bf16_f32
  mulf (kInv x1) (subf (kScaled v x3 x4 x5) (mulf (kHat x1) (mulf (concatenate S128x256 1 [
      ⟨S128x128, addf (matmul dot_S128x128_S128x128_S128x128_1_0_0_1_n_n none (extractStridedSlice S128x128 ![0, 0] hi slices_S128x256_o0_0_S128x128) ones63 (constant S128x128 .f32 0x00000000#32))
        (matmul dot_S128x128_S128x128_S128x128_1_0_0_1_n_n none (extractStridedSlice S128x128 ![0, 0] lo slices_S128x256_o0_0_S128x128) ones63 (constant S128x128 .f32 0x00000000#32))⟩,
      ⟨S128x128, addf (matmul dot_S128x128_S128x128_S128x128_1_0_0_1_n_n none (extractStridedSlice S128x128 ![0, 128] hi slices_S128x256_o0_128_S128x128) ones63 (constant S128x128 .f32 0x00000000#32))
        (matmul dot_S128x128_S128x128_S128x128_1_0_0_1_n_n none (extractStridedSlice S128x128 ![0, 128] lo slices_S128x256_o0_128_S128x128) ones63 (constant S128x128 .f32 0x00000000#32))⟩]
      concatenates_S128x128_S128x128_S128x256_d1) (broadcast S128x256 (Scalar.ofBits .f32 0x3C800000#32 : Ideal .f32)))))

theorem kOut_apply (hx : ∀ k : Fin 256, (x1 (ix2 a k) : EReal) = x k.val) (hd : ∀ k : Fin 256, (v (ix2 a k) : EReal) = d k.val) (hC : ∀ k : Fin 128, (x4 (ix2 a k) : EReal) = C k.val)
    (hS : ∀ k : Fin 128, (x5 (ix2 a k) : EReal) = S k.val) (hg : ∀ k : Fin 128, (x3 (ix2 0 k) : EReal) = g k.val) (b : Fin 256) :
    (kOut v x1 x3 x4 x5 (ix2 a b) : EReal) = ((dRow x (fun k => g (k % 128)) (rotOf d C S) b.val : ℝ) : EReal) := by
  have h := headSums2 (a := a) (truncf .bf16 (kProd v x1 x3 x4 x5) bitsLt_bf16_f32)
    (truncf .bf16 (subf (kProd v x1 x3 x4 x5) (extf .f32 (truncf .bf16 (kProd v x1 x3 x4 x5) bitsLt_bf16_f32) bitsLt_bf16_f32)) bitsLt_bf16_f32) ones63 diag63
    (fun k => rotOf d C S k * g (k % 128) * (x k * inv x k))
    (fun k => by pointwise; rw [kProd_apply hx hd hC hS hg])
    (fun k => by pointwise; rw [kProd_apply hx hd hC hS hg, ← EReal.coe_sub, sub_self]) b
  refine (show _ = (kInv x1 (ix2 a b) : EReal) * (kScaled v x3 x4 x5 (ix2 a b) - kHat x1 (ix2 a b) * (_ * Idealize.ShloMosaic.Ideal.ofBits .f32 0x3C800000#32)) from rfl).trans ?_
  refine (congrArg (fun z => (kInv x1 (ix2 a b) : EReal) * (kScaled v x3 x4 x5 (ix2 a b) - kHat x1 (ix2 a b) * (z * Idealize.ShloMosaic.Ideal.ofBits .f32 0x3C800000#32))) h).trans ?_
  rw [bits_64, kInv_apply hx, kScaled_apply hd hC hS hg, kHat_apply hx, ← EReal.coe_mul, ← EReal.coe_mul, ← EReal.coe_sub, ← EReal.coe_mul]
  rfl

/-- A block of the gradient of queries, keys and values: the three side by side. -/
theorem outBlk_apply (u : FVec Ideal S128x256 .f32) (q : FVec Ideal S128x1024 .f32) (b : Fin 1536) :
    (outBlk u q v x1 x3 x4 x5 (ix2 a b) : EReal) = if h : b.val < 1024 then (q (ix2 a ⟨b.val, h⟩) : EReal)
      else if h' : b.val < 1280 then kOut v x1 x3 x4 x5 (ix2 a ⟨b.val - 1024, by omega⟩) else u (ix2 a ⟨b.val - 1280, by have := b.isLt; omega⟩) := by
  have e : outBlk u q v x1 x3 x4 x5 = truncf .bf16 (concatenate S128x1536 1 [⟨S128x1024, q⟩, ⟨S128x256, kOut v x1 x3 x4 x5⟩, ⟨S128x256, u⟩] concatenates_S128x1024_S128x256_S128x256_S128x1536_d1) bitsLt_bf16_f32 := rfl
  have hb := b.isLt
  rw [e]
  generalize kOut v x1 x3 x4 x5 = w
  pointwise
  by_cases h1 : b.val < 1024
  · simp only [dif_pos h1]
  · by_cases h2 : b.val < 1280
    · simp only [dif_neg h1, dif_pos h2, dif_pos (show b.val - 1024 < 256 by omega)]
    · simp only [dif_neg h1, dif_neg h2, dif_neg (show ¬b.val - 1024 < 256 by omega)]
      rfl

/-! ### The folds of the gains' gradients -/

theorem fold_sum (f : ℕ → ℝ) (c n : ℕ) (hc : c < 128) : ∑ t ∈ Finset.range n, (f (128 * t + c) + f (128 * t + (c + 64) % 128)) = ∑ h ∈ Finset.range (2 * n), f (64 * h + c % 64) := by
  induction n with
  | zero => simp
  | succ n ih =>
    rw [Finset.sum_range_succ, ih, show 2 * (n + 1) = 2 * n + 1 + 1 from rfl, Finset.sum_range_succ, Finset.sum_range_succ, add_assoc]
    refine congrArg (_ + ·) ?_
    rcases lt_or_ge c 64 with h | h
    · rw [show 128 * n + c = 64 * (2 * n) + c % 64 by omega, show 128 * n + (c + 64) % 128 = 64 * (2 * n + 1) + c % 64 by omega]
    · rw [show 128 * n + (c + 64) % 128 = 64 * (2 * n) + c % 64 by omega, show 128 * n + c = 64 * (2 * n + 1) + c % 64 by omega, add_comm]

theorem qFold_apply (w : FVec Ideal S1x1024 .f32) (acc : Vec Ideal S1x128 .f32) (f : ℕ → ℝ) (A : ℝ) (c : Fin 128) (hw : ∀ k : Fin 1024, (w (ix2 0 k) : EReal) = f k.val)
    (hA : (acc (ix2 0 c) : EReal) = A) : (k0_pay66 w acc (ix2 0 c) : EReal) = ((A + ∑ h ∈ Finset.range 16, f (64 * h + c.val % 64) : ℝ) : EReal) := by
  have hc := c.isLt
  have hs := fold_sum f c.val 8 hc
  unfold k0_pay66
  pointwise
  simp only [hw, hA, ← EReal.coe_add]
  rw [← hs]
  simp only [Finset.sum_range_succ, Finset.sum_range_zero]
  rw [show c.val + 128 - 64 = c.val + 64 from by omega]
  generalize (c.val + 64) % 128 = n
  simp only [Nat.reduceMul, Nat.zero_add]
  refine congrArg (fun z : ℝ => (z : EReal)) ?_
  ring

theorem kFold_apply (w : FVec Ideal S1x256 .f32) (acc : Vec Ideal S1x128 .f32) (f : ℕ → ℝ) (A : ℝ) (c : Fin 128) (hw : ∀ k : Fin 256, (w (ix2 0 k) : EReal) = f k.val)
    (hA : (acc (ix2 0 c) : EReal) = A) : (k0_pay67 w acc (ix2 0 c) : EReal) = ((A + ∑ h ∈ Finset.range 4, f (64 * h + c.val % 64) : ℝ) : EReal) := by
  have hc := c.isLt
  have hs := fold_sum f c.val 2 hc
  unfold k0_pay67
  pointwise
  simp only [hw, hA, ← EReal.coe_add]
  rw [← hs]
  simp only [Finset.sum_range_succ, Finset.sum_range_zero]
  rw [show c.val + 128 - 64 = c.val + 64 from by omega]
  generalize (c.val + 64) % 128 = n
  simp only [Nat.reduceMul, Nat.zero_add]
  refine congrArg (fun z : ℝ => (z : EReal)) ?_
  ring

end Cert.QkVal

end
-- ==== Proof.QkBlock.lean ====
/- What one point of the kernel that differentiates the QK-norm and the rotary embedding leaves in its three outputs. -/
module

public import proofs.«01_k».proof.Proof.Gen.QkIdeal.Value
public import proofs.«01_k».proof.Proof.QkKeys
public import Idealize.ShloMosaic.Lib.Pipeline.ValueKit
public import Idealize.ShloMosaic.Lib.Pipeline.ValueKit.Tiles
public import Idealize.ShloMosaic.Lib.Tactic

@[expose] public section

set_option maxRecDepth 16384

noncomputable section

namespace Cert.QkVal

open Cert.QkIdeal Cert.QkIdeal.Gen Idealize.ShloMosaic Idealize.ShloMosaic.TcCoe Idealize.SL.Sem

theorem hz : (![0, 0] : Fin 2 → ℕ) = fun _ => 0 := by decide

/-- The gradient of the values: the two passes' gradients summed over the heads that share a value. -/
def vOut (i : grid0.Coords) (x9 x10 : Vec Ideal S128x512 .f32) : FVec Ideal S128x256 .f32 := k0_pay8 (k0_pay5 i x10 x9) k0_pay6 (k0_pay7 i x10 x9)

/-- The block of the three gradients. -/
def out11 (i : grid0.Coords) (x0 : Vec Ideal S128x1024 .f32) (x1 : Vec Ideal S128x256 .f32) (x2 x3 : Vec Ideal S1x128 .f32) (x4 x5 : Vec Ideal S128x128 .f32) (x6 : Vec Ideal S128x1024 .f32)
    (x7 x8 x9 x10 : Vec Ideal S128x512 .f32) : FVec Ideal S128x1536 .bf16 :=
  outBlk (vOut i x9 x10) (qOut x0 x2 x4 x5 x6) (kD i x7 x8) x1 x3 x4 x5

variable (c : Dev nD) (i : grid0.Coords) (a1 : Memref sig .tc .vmem S128x1024 .f32) (h1 : a1.IsWhole) (a2 : Memref sig .tc .vmem S128x256 .f32) (h2 : a2.IsWhole)
    (a3 : Memref sig .tc .vmem S1x128 .f32) (h3 : a3.IsWhole) (a4 : Memref sig .tc .vmem S1x128 .f32) (h4 : a4.IsWhole)
    (a5 : Memref sig .tc .vmem S128x128 .f32) (h5 : a5.IsWhole) (a6 : Memref sig .tc .vmem S128x128 .f32) (h6 : a6.IsWhole)
    (a7 : Memref sig .tc .vmem S128x1024 .f32) (h7 : a7.IsWhole) (a8 : Memref sig .tc .vmem S128x512 .f32) (h8 : a8.IsWhole)
    (a9 : Memref sig .tc .vmem S128x512 .f32) (h9 : a9.IsWhole) (a10 : Memref sig .tc .vmem S128x512 .f32) (h10 : a10.IsWhole)
    (a11 : Memref sig .tc .vmem S128x512 .f32) (h11 : a11.IsWhole) (a12 : Memref sig .tc .vmem S128x1536 .bf16) (h12 : a12.IsWhole)
    (a13 : Memref sig .tc .vmem S1x128 .f32) (h13 : a13.IsWhole) (a14 : Memref sig .tc .vmem S1x128 .f32) (h14 : a14.IsWhole)
    (x0 : Vec Ideal S128x1024 .f32) (x1 : Vec Ideal S128x256 .f32) (x2 x3 : Vec Ideal S1x128 .f32) (x4 x5 : Vec Ideal S128x128 .f32) (x6 : Vec Ideal S128x1024 .f32)
    (x7 x8 x9 x10 : Vec Ideal S128x512 .f32)

theorem oA11 (hc : cond0_0 i) :
    out0_A_11 c i a1 h1 a2 h2 a3 h3 a4 h4 a5 h5 a6 h6 a7 h7 a8 h8 a9 h9 a10 h10 a11 h11 a12 h12 a13 h13 a14 h14 hc x0 x1 x2 x3 x4 x5 x6 x7 x8 x9 x10 = out11 i x0 x1 x2 x3 x4 x5 x6 x7 x8 x9 x10 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc x0 x1 x2 x3 x4 x5 x6 x7 x8 x9 x10)]
  unfold kernelRun0_A
  dsimp only
  sl_unfold_words
  rw [View.canon_unit_zero (S := S128x1536) hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S128x1024) hz, View.ld_unit_zero (S := S128x256) hz, View.ld_unit_zero (S := S128x512) hz, View.ld_unit_zero (S := S128x128) hz, View.ld_unit_zero (S := S1x128) hz]
  rfl

theorem oA12 (hc : cond0_0 i) :
    out0_A_12 c i a1 h1 a2 h2 a3 h3 a4 h4 a5 h5 a6 h6 a7 h7 a8 h8 a9 h9 a10 h10 a11 h11 a12 h12 a13 h13 a14 h14 hc x0 x1 x2 x3 x4 x5 x6 x7 x8 x9 x10 = k0_pay66 (qGain x0 x4 x5 x6) (k0_pay64 (F := Ideal)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc x0 x1 x2 x3 x4 x5 x6 x7 x8 x9 x10)]
  unfold kernelRun0_A
  dsimp only
  sl_unfold_words
  rw [View.canon_cons_unit_zero (S := S1x128) hz]
  simp only [View.readCov_cons_unit_lit' (S := S1x128) _ _ _ _ _ (congrFun hz) (congrFun hz), View.readAt_eq_ld, h1.read_unread, h2.read_unread, h3.read_unread, h4.read_unread, h5.read_unread, h6.read_unread, h7.read_unread, h8.read_unread, h9.read_unread, h10.read_unread, h11.read_unread,
    View.ld_unit_zero (S := S128x1024) hz, View.ld_unit_zero (S := S128x256) hz, View.ld_unit_zero (S := S128x512) hz, View.ld_unit_zero (S := S128x128) hz, View.ld_unit_zero (S := S1x128) hz]
  rfl

theorem oA13 (hc : cond0_0 i) :
    out0_A_13 c i a1 h1 a2 h2 a3 h3 a4 h4 a5 h5 a6 h6 a7 h7 a8 h8 a9 h9 a10 h10 a11 h11 a12 h12 a13 h13 a14 h14 hc x0 x1 x2 x3 x4 x5 x6 x7 x8 x9 x10 = k0_pay67 (kGain (kD i x7 x8) x1 x4 x5) (k0_pay65 (F := Ideal)) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc x0 x1 x2 x3 x4 x5 x6 x7 x8 x9 x10)]
  unfold kernelRun0_A
  dsimp only
  sl_unfold_words
  rw [View.canon_cons_unit_zero (S := S1x128) hz]
  simp only [View.readCov_cons_unit_lit' (S := S1x128) _ _ _ _ _ (congrFun hz) (congrFun hz), View.readAt_eq_ld, h1.read_unread, h2.read_unread, h3.read_unread, h4.read_unread, h5.read_unread, h6.read_unread, h7.read_unread, h8.read_unread, h9.read_unread, h10.read_unread, h11.read_unread,
    View.ld_unit_zero (S := S128x1024) hz, View.ld_unit_zero (S := S128x256) hz, View.ld_unit_zero (S := S128x512) hz, View.ld_unit_zero (S := S128x128) hz, View.ld_unit_zero (S := S1x128) hz]
  rfl

theorem oB11 (hc : ¬cond0_0 i) (y12 y13 : Vec Ideal S1x128 .f32) :
    out0_B_11 c i a1 h1 a2 h2 a3 h3 a4 h4 a5 h5 a6 h6 a7 h7 a8 h8 a9 h9 a10 h10 a11 h11 a12 h12 a13 h13 a14 h14 hc x0 x1 x2 x3 x4 x5 x6 x7 x8 x9 x10 y12 y13 = out11 i x0 x1 x2 x3 x4 x5 x6 x7 x8 x9 x10 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc x0 x1 x2 x3 x4 x5 x6 x7 x8 x9 x10 y12 y13)]
  unfold kernelRun0_B
  dsimp only
  sl_unfold_words
  rw [View.canon_unit_zero (S := S128x1536) hz]
  simp only [View.readAt_eq_ld, h1.read_unread, h2.read_unread, h3.read_unread, h4.read_unread, h5.read_unread, h6.read_unread, h7.read_unread, h8.read_unread, h9.read_unread, h10.read_unread, h11.read_unread, h13.read_unread, h14.read_unread,
    View.ld_unit_zero (S := S128x1024) hz, View.ld_unit_zero (S := S128x256) hz, View.ld_unit_zero (S := S128x512) hz, View.ld_unit_zero (S := S128x128) hz, View.ld_unit_zero (S := S1x128) hz]
  rfl

theorem oB12 (hc : ¬cond0_0 i) (y12 y13 : Vec Ideal S1x128 .f32) :
    out0_B_12 c i a1 h1 a2 h2 a3 h3 a4 h4 a5 h5 a6 h6 a7 h7 a8 h8 a9 h9 a10 h10 a11 h11 a12 h12 a13 h13 a14 h14 hc x0 x1 x2 x3 x4 x5 x6 x7 x8 x9 x10 y12 y13 = k0_pay66 (qGain x0 x4 x5 x6) y12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc x0 x1 x2 x3 x4 x5 x6 x7 x8 x9 x10 y12 y13)]
  unfold kernelRun0_B
  dsimp only
  sl_unfold_words
  rw [View.canon_unit_zero (S := S1x128) hz]
  simp only [View.readAt_eq_ld, h1.read_unread, h2.read_unread, h3.read_unread, h4.read_unread, h5.read_unread, h6.read_unread, h7.read_unread, h8.read_unread, h9.read_unread, h10.read_unread, h11.read_unread, h13.read_unread, h14.read_unread,
    View.ld_unit_zero (S := S128x1024) hz, View.ld_unit_zero (S := S128x256) hz, View.ld_unit_zero (S := S128x512) hz, View.ld_unit_zero (S := S128x128) hz, View.ld_unit_zero (S := S1x128) hz]
  rfl

theorem oB13 (hc : ¬cond0_0 i) (y12 y13 : Vec Ideal S1x128 .f32) :
    out0_B_13 c i a1 h1 a2 h2 a3 h3 a4 h4 a5 h5 a6 h6 a7 h7 a8 h8 a9 h9 a10 h10 a11 h11 a12 h12 a13 h13 a14 h14 hc x0 x1 x2 x3 x4 x5 x6 x7 x8 x9 x10 y12 y13 = k0_pay67 (kGain (kD i x7 x8) x1 x4 x5) y13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc x0 x1 x2 x3 x4 x5 x6 x7 x8 x9 x10 y12 y13)]
  unfold kernelRun0_B
  dsimp only
  sl_unfold_words
  rw [View.canon_unit_zero (S := S1x128) hz]
  simp only [View.readAt_eq_ld, h1.read_unread, h2.read_unread, h3.read_unread, h4.read_unread, h5.read_unread, h6.read_unread, h7.read_unread, h8.read_unread, h9.read_unread, h10.read_unread, h11.read_unread, h13.read_unread, h14.read_unread,
    View.ld_unit_zero (S := S128x1024) hz, View.ld_unit_zero (S := S128x256) hz, View.ld_unit_zero (S := S128x512) hz, View.ld_unit_zero (S := S128x128) hz, View.ld_unit_zero (S := S1x128) hz]
  rfl

end Cert.QkVal

end
-- ==== Proof.QkRef.lean ====
/- What differentiating the QK-norm and the rotary embedding computes, entry by entry. -/
module

public import proofs.«01_k».proof.Proof.Gen.QkRefIdeal.Run
public import proofs.«01_k».proof.Proof.QkKeys
public import Idealize.ShloMosaic.Lib.Pointwise
public import Idealize.ShloMosaic.Lib.IdealHost
public import Idealize.ShloMosaic.Lib.ValueIdx
public import Idealize.ShloMosaic.Lib.Tactic

@[expose] public section

set_option maxRecDepth 16384

noncomputable section

namespace Cert.QkVal

open Cert.Lift

/-! ### The row's mathematics, as differentiating the reference's lines writes it -/

/-- A head's mean square, with the norm's small constant. -/
def ms (x : ℕ → ℝ) (b : ℕ) : ℝ := headSum (fun k => x k * x k) b * (1 / 64) + eps

theorem inv_div (x : ℕ → ℝ) (b : ℕ) : inv x b / ms x b = inv x b * (inv x b * inv x b) := by
  have h : inv x b * inv x b = (ms x b)⁻¹ := by
    unfold inv ms
    rw [← mul_inv, Real.mul_self_sqrt (ms_pos x b).le]
  rw [h, div_eq_mul_inv]

theorem headSum_head (f : ℕ → ℝ) {h j : ℕ} (hj : j < 64) : headSum f (64 * h + j) = ∑ k : Fin 64, f (64 * h + k.val) := by
  unfold headSum
  rw [show (64 * h + j) / 64 = h by omega]

theorem headSum_self (f : ℕ → ℝ) (h : ℕ) : ∑ k : Fin 64, f (64 * h + k.val) = headSum f (64 * h) := (headSum_head f (j := 0) (by norm_num)).symm

theorem inv_head (x : ℕ → ℝ) {h j : ℕ} (hj : j < 64) : inv x (64 * h + j) = inv x (64 * h) := by
  unfold inv
  rw [headSum_head _ hj, ← headSum_self]

/-- The gradient of the mean square. -/
def dMs (x w : ℕ → ℝ) (b : ℕ) : ℝ := headSum (fun k => x k * w k) b * (-(1 / 2) * (inv x b / ms x b)) / 64

theorem dRow_eq (x g r : ℕ → ℝ) (h j : ℕ) (hj : j < 64) :
    r (64 * h + j) * g (64 * h + j) * inv x (64 * h) + x (64 * h + j) * dMs x (fun k => r k * g k) (64 * h) + dMs x (fun k => r k * g k) (64 * h) * x (64 * h + j) =
      dRow x g r (64 * h + j) := by
  have e : headSum (fun k => r k * g k * (x k * inv x k)) (64 * h + j) = headSum (fun k => x k * (r k * g k)) (64 * h) * inv x (64 * h) := by
    rw [headSum_head _ hj, ← headSum_self, Finset.sum_mul]
    exact Finset.sum_congr rfl fun k _ => by rw [inv_head x k.isLt]; ring
  unfold dRow dMs
  rw [e, inv_div, inv_head x hj]
  ring

/-- The tables of the rotation as the kernel lays them out: the cosines, and the sines with the first half of each head's lanes negated. -/
def tabC (c : ℕ → ℝ) (k : ℕ) : ℝ := c (k % 32)
def tabS (s : ℕ → ℝ) (k : ℕ) : ℝ := if k % 64 < 32 then -s (k % 32) else s (k % 32)

theorem rot_low (d c s : ℕ → ℝ) {h j : ℕ} (hj : j < 32) : rotOf d (tabC c) (tabS s) (64 * h + j) = d (64 * h + j) * c j + d (64 * h + (32 + j)) * s j := by
  unfold rotOf rot tabC tabS
  dsimp only
  rw [if_pos (by omega), if_neg (by omega), show (64 * h + j) % 128 % 32 = j by omega, show (64 * h + j + 32) % 128 % 32 = j by omega, show 64 * h + j + 32 = 64 * h + (32 + j) by omega]

theorem rot_high (d c s : ℕ → ℝ) {h j : ℕ} (hj : 32 ≤ j) (hj' : j < 64) :
    rotOf d (tabC c) (tabS s) (64 * h + j) = d (64 * h + j) * c (j - 32) + -d (64 * h + (j - 32)) * s (j - 32) := by
  unfold rotOf rot tabC tabS
  dsimp only
  rw [if_neg (by omega), if_pos (by omega), show (64 * h + j) % 128 % 32 = j - 32 by omega, show (64 * h + j - 32) % 128 % 32 = j - 32 by omega, show 64 * h + j - 32 = 64 * h + (j - 32) by omega]
  ring

theorem bits_64r : Idealize.ShloMosaic.Ideal.ofBits .f32 0x42800000#32 = ((64 : ℝ) : EReal) := by
  simp [Idealize.ShloMosaic.Ideal.ofBits, Idealize.ShloMosaic.Ideal.ieee, -EReal.coe_mul]; norm_num

theorem div_64 (a : ℝ) : Idealize.ShloMosaic.Ideal.div (a : EReal) (Idealize.ShloMosaic.Ideal.ofBits .f32 0x42800000#32) = ((a / 64 : ℝ) : EReal) := by
  rw [bits_64r, Lift.div_coe _ _ (by norm_num)]

theorem rsqrt_ms (x : ℕ → ℝ) (b : ℕ) : Idealize.ShloMosaic.Ideal.rsqrt ((ms x b : ℝ) : EReal) = ((inv x b : ℝ) : EReal) := Lift.rsqrt_coe _ (ms_pos x b)

theorem div_ms (a : ℝ) (x : ℕ → ℝ) (b : ℕ) : Idealize.ShloMosaic.Ideal.div (a : EReal) ((ms x b : ℝ) : EReal) = ((a / ms x b : ℝ) : EReal) :=
  Lift.div_coe _ _ (ms_pos x b).ne'

namespace Ref

open Cert.QkRefIdeal Cert.QkRefIdeal.Gen Cert.QkRefIdeal.Value Cert.Lift Idealize.ShloMosaic Idealize.ShloMosaic.TcCoe Idealize.SL.Sem

/-! ### Sums over several axes -/

/-- A reduction over the axes 0 and 3, both of one element. -/
theorem reduce_03 {n : ℕ} (h : Shape.ReducesTo ⟨4, ![1, 2048, n, 1]⟩ [0, 3] ⟨2, ![2048, n]⟩)
    (x : Shape.Idx ⟨4, ![1, 2048, n, 1]⟩ → EReal) (b : EReal) (r : Fin 2048) (q : Fin n) :
    Ideal.hostReduceAdd h x b (ix2 r q) = b + x (ix4 0 r q 0) := by
  refine congrArg (b + ·) ((Finset.sum_filter_eq_sum_of_fiber _ (fun _ : Unit => (ix4 0 r q 0 : Shape.Idx ⟨4, ![1, 2048, n, 1]⟩)) (fun _ _ _ => rfl) ?_ x).trans (by simp))
  intro i
  have e0 := h.drop_apply_val_of_eq i 0 1 (show 0 < 2 by decide) rfl
  have e1 := h.drop_apply_val_of_eq i 1 2 (show 1 < 2 by decide) rfl
  constructor
  · intro hi
    rw [hi] at e0 e1
    refine ⟨(), funext fun a => Fin.ext ?_⟩
    fin_cases a
    · exact (Nat.lt_one_iff.mp (i 0).isLt).symm
    · exact e0
    · exact e1
    · exact (Nat.lt_one_iff.mp (i 3).isLt).symm
  · rintro ⟨-, rfl⟩
    refine funext fun a => Fin.ext ?_
    fin_cases a
    · exact e0
    · exact e1

/-- A reduction over the rows and the heads. -/
theorem reduce_12 {n : ℕ} (h : Shape.ReducesTo ⟨4, ![1, 2048, n, 64]⟩ [1, 2] ⟨2, ![1, 64]⟩)
    (x : Shape.Idx ⟨4, ![1, 2048, n, 64]⟩ → EReal) (b : EReal) (j : Fin 64) :
    Ideal.hostReduceAdd h x b (ix2 0 j) = b + ∑ r : Fin 2048, ∑ q : Fin n, x (ix4 0 r q j) := by
  refine congrArg (b + ·) ((Finset.sum_filter_eq_sum_of_fiber _ (fun k : Fin 2048 × Fin n => (ix4 0 k.1 k.2 j : Shape.Idx ⟨4, ![1, 2048, n, 64]⟩))
    (fun _ _ e => Prod.ext (congrFun e 1) (congrFun e 2)) ?_ x).trans (Fintype.sum_prod_type _))
  intro y
  have e1 := h.drop_apply_val_of_eq y 1 3 (show 1 < 2 by decide) rfl
  constructor
  · intro hi
    rw [hi] at e1
    refine ⟨(y 1, y 2), funext fun a => Fin.ext ?_⟩
    fin_cases a
    · exact (Nat.lt_one_iff.mp (y 0).isLt).symm
    · rfl
    · rfl
    · exact e1
  · rintro ⟨k, rfl⟩
    refine funext fun a => Fin.ext ?_
    fin_cases a
    · exact Nat.lt_one_iff.mp (h.drop _ 0).isLt
    · exact e1

/-- A reduction over the axes 0, 1 and 2, each of one element. -/
theorem reduce_012 (h : Shape.ReducesTo S1x1x1x64 [0, 1, 2] S64) (x : S1x1x1x64.Idx → EReal) (b : EReal) (j : Fin 64) :
    Ideal.hostReduceAdd h x b (ix1 j) = b + x (ix4 0 0 0 j) := by
  refine congrArg (b + ·) ((Finset.sum_filter_eq_sum_of_fiber _ (fun _ : Unit => (ix4 0 0 0 j : S1x1x1x64.Idx)) (fun _ _ _ => rfl) ?_ x).trans (by simp))
  intro i
  have e0 := h.drop_apply_val_of_eq i 0 3 (by decide)
  constructor
  · intro hi
    rw [hi] at e0
    refine ⟨(), funext fun a => Fin.ext ?_⟩
    fin_cases a
    · exact (Nat.lt_one_iff.mp (i 0).isLt).symm
    · exact (Nat.lt_one_iff.mp (i 1).isLt).symm
    · exact (Nat.lt_one_iff.mp (i 2).isLt).symm
    · exact e0
  · rintro ⟨-, rfl⟩
    refine funext fun a => Fin.ext ?_
    fin_cases a
    exact e0

variable (V0 : Valuation τ sig (Elt Ideal))

/-- The arguments as arrays of real numbers. -/
structure Reals (X : ℕ → ℕ → ℝ) (gq gk : ℕ → ℝ) (C S D Dp Dc : ℕ → ℕ → ℝ) : Prop where
  hX : ∀ (r : Fin 2048) (k : Fin 7680), ((V0 (Proc.devRef .tc main_arg0) : Vec Ideal S2048x7680 .f32) (ix2 r k) : EReal) = ((X r.val k.val : ℝ) : EReal)
  hC : ∀ (r : Fin 2048) (k : Fin 32), ((V0 (Proc.devRef .tc main_arg3) : Vec Ideal S2048x32 .f32) (ix2 r k) : EReal) = ((C r.val k.val : ℝ) : EReal)
  hS : ∀ (r : Fin 2048) (k : Fin 32), ((V0 (Proc.devRef .tc main_arg4) : Vec Ideal S2048x32 .f32) (ix2 r k) : EReal) = ((S r.val k.val : ℝ) : EReal)
  hD : ∀ (r : Fin 2048) (k : Fin 1024), ((V0 (Proc.devRef .tc main_arg5) : Vec Ideal S2048x1024 .f32) (ix2 r k) : EReal) = ((D r.val k.val : ℝ) : EReal)
  hDp : ∀ (r : Fin 2048) (k : Fin 512), ((V0 (Proc.devRef .tc main_arg6) : Vec Ideal S2048x512 .f32) (ix2 r k) : EReal) = ((Dp r.val k.val : ℝ) : EReal)
  hDc : ∀ (r : Fin 2048) (k : Fin 512), ((V0 (Proc.devRef .tc main_arg7) : Vec Ideal S2048x512 .f32) (ix2 r k) : EReal) = ((Dc r.val k.val : ℝ) : EReal)
  hq : ∀ k : Fin 64, ((V0 (Proc.devRef .tc main_arg1) : Vec Ideal S64 .f32) (ix1 k) : EReal) = ((gq k.val : ℝ) : EReal)
  hk : ∀ k : Fin 64, ((V0 (Proc.devRef .tc main_arg2) : Vec Ideal S64 .f32) (ix1 k) : EReal) = ((gk k.val : ℝ) : EReal)

variable {V0} {X : ℕ → ℕ → ℝ} {gq gk : ℕ → ℝ} {C S D Dp Dc : ℕ → ℕ → ℝ} (H : Reals V0 X gq gk C S D Dp Dc)
include H

/-! ### The queries -/

section Query

variable (r : Fin 2048) (h : Fin 16) (j : Fin 64)

theorem v1 : (res_main_v1 V0 (ix4 0 r h j) : EReal) = ((X r.val (64 * h.val + j.val) : ℝ) : EReal) := by
  pointwise [res_main_v1]
  refine (H.hX r _).trans (congrArg (fun n => ((X r.val n : ℝ) : EReal)) ?_)
  dsimp only
  omega

theorem v8 : (res_main_v8 V0 (ix4 0 r h 0) : EReal) = ((ms (X r.val) (64 * h.val) : ℝ) : EReal) := by
  pointwise [res_main_v8]
  simp only [v1 H, ← EReal.coe_mul, coe_sum, headSum_self (fun k => X r.val k * X r.val k), div_64, bits_eps, ← EReal.coe_add]
  unfold ms
  rw [div_eq_mul_inv, ← one_div]

theorem v9 : (res_main_v9 V0 (ix4 0 r h 0) : EReal) = ((inv (X r.val) (64 * h.val) : ℝ) : EReal) := by
  pointwise [res_main_v9]
  rw [v8 H, rsqrt_ms]

theorem v14 : (res_main_v14 V0 (ix4 0 r h j) : EReal) = ((X r.val (64 * h.val + j.val) * inv (X r.val) (64 * h.val + j.val) : ℝ) : EReal) := by
  pointwise [res_main_v14]
  rw [v1 H, v9 H, inv_head _ j.isLt, EReal.coe_mul]

theorem v49 : (res_main_v49 V0 (ix4 0 r h j) : EReal) = ((rotOf (D r.val) (tabC (C r.val)) (tabS (S r.val)) (64 * h.val + j.val) : ℝ) : EReal) := by
  have hj := j.isLt
  pointwise [res_main_v49, res_main_v35, res_main_v34, res_main_v33, res_main_v20, res_main_v21]
  by_cases h32 : 32 ≤ j.val
  · rw [rot_high _ _ _ h32 hj]
    refine (congrArg₂ (· + ·) (dif_pos fun a => ?_) (dif_neg fun hh => ?_)).trans ?_
    · fin_cases a
      · exact ⟨Nat.zero_le _, Nat.mod_one _, (by decide : (0 - 0) / (0 + 1) < 1)⟩
      · exact ⟨Nat.zero_le _, Nat.mod_one _, (show (r.val - 0) / (0 + 1) < 2048 by have := r.isLt; omega)⟩
      · exact ⟨Nat.zero_le _, Nat.mod_one _, (show (h.val - 0) / (0 + 1) < 16 by have := h.isLt; omega)⟩
      · exact ⟨h32, Nat.mod_one _, (show (j.val - 32) / (0 + 1) < 32 by omega)⟩
    · have h3 : (j.val - 0) / (0 + 1) < 32 := (hh 3).2.2
      omega
    · refine (add_zero (M := EReal) _).trans ?_
      rw [H.hD, H.hD, H.hC, H.hS, ← EReal.coe_neg, ← EReal.coe_mul, ← EReal.coe_mul, ← EReal.coe_add]
      dsimp only
      rw [show h.val * 64 + (32 + (j.val - 32)) = 64 * h.val + j.val by omega, show h.val * 64 + (j.val - 32) = 64 * h.val + (j.val - 32) by omega]
  · rw [rot_low _ _ _ (by omega)]
    refine (congrArg₂ (· + ·) (dif_neg fun hh => ?_) (dif_pos fun a => ?_)).trans ?_
    · have h3 : 32 ≤ j.val := (hh 3).1
      omega
    · fin_cases a
      · exact ⟨Nat.zero_le _, Nat.mod_one _, (by decide : (0 - 0) / (0 + 1) < 1)⟩
      · exact ⟨Nat.zero_le _, Nat.mod_one _, (show (r.val - 0) / (0 + 1) < 2048 by have := r.isLt; omega)⟩
      · exact ⟨Nat.zero_le _, Nat.mod_one _, (show (h.val - 0) / (0 + 1) < 16 by have := h.isLt; omega)⟩
      · exact ⟨Nat.zero_le _, Nat.mod_one _, (show (j.val - 0) / (0 + 1) < 32 by omega)⟩
    · refine (zero_add (M := EReal) _).trans ?_
      rw [H.hD, H.hD, H.hC, H.hS, ← EReal.coe_mul, ← EReal.coe_mul, ← EReal.coe_add]
      dsimp only
      rw [show h.val * 64 + (32 + j.val) = 64 * h.val + (32 + j.val) by omega, show h.val * 64 + j.val = 64 * h.val + j.val by omega, add_comm]

theorem v54 : (res_main_v54 V0 (ix4 0 r h j) : EReal) =
    ((rotOf (D r.val) (tabC (C r.val)) (tabS (S r.val)) (64 * h.val + j.val) * gq ((64 * h.val + j.val) % 64) : ℝ) : EReal) := by
  have hj := j.isLt
  pointwise [res_main_v54, res_main_v15]
  rw [v49 H, H.hq, show (64 * h.val + j.val) % 64 = j.val by omega, EReal.coe_mul]

theorem v55 : (res_main_v55 V0 (ix1 j) : EReal) = ((∑ r : Fin 2048, ∑ h : Fin 16, X r.val (64 * h.val + j.val) * inv (X r.val) (64 * h.val + j.val) *
    rotOf (D r.val) (tabC (C r.val)) (tabS (S r.val)) (64 * h.val + j.val) : ℝ) : EReal) := by
  unfold res_main_v55
  refine (show _ = Ideal.hostReduceAdd reducesTo_S1x1x1x64_S64_d0_1_2 _ _ (ix1 j) from rfl).trans ?_
  rw [reduce_012]
  pointwise
  refine (reduce_12 (n := 16) reducesTo_S1x2048x16x64_S1x64_d1_2 _ _ j).trans ?_
  refine (zero_add (M := EReal) _).trans ?_
  simp only [← coe_sum]
  refine Finset.sum_congr rfl fun r _ => Finset.sum_congr rfl fun h _ => ?_
  exact (congrArg₂ (fun x y : EReal => x * y) (v14 H r h j) (v49 H r h j)).trans (EReal.coe_mul _ _).symm

theorem v66 : (res_main_v66 V0 (ix4 0 r h j) : EReal) =
    ((dMs (X r.val) (fun k => rotOf (D r.val) (tabC (C r.val)) (tabS (S r.val)) k * gq (k % 64)) (64 * h.val) : ℝ) : EReal) := by
  unfold res_main_v66
  pointwise
  refine (reduce_03 (n := 16) reducesTo_S1x2048x16x1_S2048x16_d0_3 _ _ r h).trans ?_
  pointwise
  simp only [v1 H, v54 H, v9 H, v8 H, div_ms, bits_neg_half, ← EReal.coe_mul, coe_sum, div_64]
  unfold dMs
  rw [headSum_self (fun k => X r.val k * (rotOf (D r.val) (tabC (C r.val)) (tabS (S r.val)) k * gq (k % 64)))]

end Query

/-! ### The keys and the values -/

/-- The keys' columns of a row of the projection. -/
def keyRow (X : ℕ → ℕ → ℝ) (r k : ℕ) : ℝ := X r (1024 + k)
/-- The four parts of a key row's gradient: the block's own, the next block's, and the two heads of each group. -/
def sumRow (Dp Dc : ℕ → ℕ → ℝ) (r k : ℕ) : ℝ := Dc r k + if r < 1920 then Dp (r + 128) k else 0
def wholeRow (Dp Dc : ℕ → ℕ → ℝ) (r b : ℕ) : ℝ := sumRow Dp Dc r (128 * (b / 64) + b % 64) + sumRow Dp Dc r (128 * (b / 64) + 64 + b % 64)

/-- The same of the arrays' entries. -/
def sumRowE (P Cu : Vec Ideal S2048x512 .f32) (r : Fin 2048) (k : ℕ) : EReal :=
  if hk : k < 512 then (Cu (ix2 r ⟨k, hk⟩) : EReal) + (if hr : r.val < 1920 then (P (ix2 ⟨r.val + 128, by omega⟩ ⟨k, hk⟩) : EReal) else 0) else 0

omit H in
theorem whole_sum (P Cu : Vec Ideal S2048x512 .f32) (r : Fin 2048) (h : Fin 4) (j : Fin 64) (hk : ∀ x : Fin 2, h.val * 128 + x.val * 64 + j.val < 512)
    (hr' : r.val < 1920 → 128 + r.val < 2048) :
    (∑ x : Fin 2, ((Cu (ix2 r ⟨h.val * 128 + x.val * 64 + j.val, hk x⟩) : EReal) +
      if hc : r.val < 1920 then (P (ix2 ⟨128 + r.val, hr' hc⟩ ⟨h.val * 128 + x.val * 64 + j.val, hk x⟩) : EReal) else 0)) =
      gather (sumRowE P Cu r) (64 * h.val + j.val) := by
  have hr := r.isLt
  have hh := h.isLt
  have hj := j.isLt
  refine (Fin.sum_univ_two _).trans ?_
  unfold gather
  have e1 : ∀ x : Fin 2, ∀ n, n = h.val * 128 + x.val * 64 + j.val →
      ((Cu (ix2 r ⟨h.val * 128 + x.val * 64 + j.val, hk x⟩) : EReal) +
        if hc : r.val < 1920 then (P (ix2 ⟨128 + r.val, hr' hc⟩ ⟨h.val * 128 + x.val * 64 + j.val, hk x⟩) : EReal) else 0) = sumRowE P Cu r n := by
    rintro x n rfl
    unfold sumRowE
    rw [dif_pos (hk x)]
    by_cases hc : r.val < 1920
    · rw [dif_pos hc, dif_pos hc]
      simp only [Nat.add_comm 128 r.val]
    · rw [dif_neg hc, dif_neg hc]
  refine congrArg₂ (· + ·) (e1 0 _ ?_) (e1 1 _ ?_)
  · show _ = h.val * 128 + 0 * 64 + j.val
    omega
  · show _ = h.val * 128 + 1 * 64 + j.val
    omega

section Key

variable (r : Fin 2048) (h : Fin 4) (j : Fin 64)

omit H in
/-- Of arrays of real numbers the four parts are a real number. -/
theorem gather_coe (P Cu : Vec Ideal S2048x512 .f32) (hP : ∀ (r : Fin 2048) (k : Fin 512), (P (ix2 r k) : EReal) = ((Dp r.val k.val : ℝ) : EReal))
    (hC : ∀ (r : Fin 2048) (k : Fin 512), (Cu (ix2 r k) : EReal) = ((Dc r.val k.val : ℝ) : EReal)) (r : Fin 2048) (b : ℕ) (hb : b < 256) :
    gather (sumRowE P Cu r) b = ((wholeRow Dp Dc r.val b : ℝ) : EReal) := by
  have e : ∀ k, k < 512 → sumRowE P Cu r k = ((sumRow Dp Dc r.val k : ℝ) : EReal) := by
    intro k hk
    unfold sumRowE sumRow
    rw [dif_pos hk, hC]
    by_cases hc : r.val < 1920
    · rw [dif_pos hc, if_pos hc, hP]
      exact (EReal.coe_add _ _).symm
    · rw [dif_neg hc, if_neg hc, add_zero, add_zero]
  unfold gather wholeRow
  rw [e _ (by omega), e _ (by omega)]
  exact (EReal.coe_add _ _).symm

theorem v111 : (res_main_v111 V0 (ix4 0 r h j) : EReal) = ((wholeRow Dp Dc r.val (64 * h.val + j.val) : ℝ) : EReal) := by
  unfold res_main_v111
  pointwise
  have hh := h.isLt
  have hj := j.isLt
  refine Eq.trans (show _ = _ from whole_sum (V0 (Proc.tc.devRef main_arg6)) (V0 (Proc.tc.devRef main_arg7)) r h j (fun x => by have := x.isLt; omega) (fun _ => by omega)) ?_
  exact gather_coe _ _ H.hDp H.hDc r _ (by omega)

theorem v73 : (res_main_v73 V0 (ix4 0 r h j) : EReal) = ((keyRow X r.val (64 * h.val + j.val) : ℝ) : EReal) := by
  pointwise [res_main_v73]
  refine (H.hX r _).trans (congrArg (fun n => ((X r.val n : ℝ) : EReal)) ?_)
  dsimp only
  omega

theorem v80 : (res_main_v80 V0 (ix4 0 r h 0) : EReal) = ((ms (keyRow X r.val) (64 * h.val) : ℝ) : EReal) := by
  pointwise [res_main_v80]
  simp only [v73 H, ← EReal.coe_mul, coe_sum, headSum_self (fun k => keyRow X r.val k * keyRow X r.val k), div_64, bits_eps, ← EReal.coe_add]
  unfold ms
  rw [div_eq_mul_inv, ← one_div]

theorem v81 : (res_main_v81 V0 (ix4 0 r h 0) : EReal) = ((inv (keyRow X r.val) (64 * h.val) : ℝ) : EReal) := by
  pointwise [res_main_v81]
  rw [v80 H, rsqrt_ms]

theorem v86 : (res_main_v86 V0 (ix4 0 r h j) : EReal) = ((keyRow X r.val (64 * h.val + j.val) * inv (keyRow X r.val) (64 * h.val + j.val) : ℝ) : EReal) := by
  pointwise [res_main_v86]
  rw [v73 H, v81 H, inv_head _ j.isLt, EReal.coe_mul]

theorem v127 : (res_main_v127 V0 (ix4 0 r h j) : EReal) = ((rotOf (wholeRow Dp Dc r.val) (tabC (C r.val)) (tabS (S r.val)) (64 * h.val + j.val) : ℝ) : EReal) := by
  have hj := j.isLt
  pointwise [res_main_v127, res_main_v113, res_main_v112, res_main_v92, res_main_v93]
  by_cases h32 : 32 ≤ j.val
  · rw [rot_high _ _ _ h32 hj]
    refine (congrArg₂ (· + ·) (dif_pos fun a => ?_) (dif_neg fun hh => ?_)).trans ?_
    · fin_cases a
      · exact ⟨Nat.zero_le _, Nat.mod_one _, (by decide : (0 - 0) / (0 + 1) < 1)⟩
      · exact ⟨Nat.zero_le _, Nat.mod_one _, (show (r.val - 0) / (0 + 1) < 2048 by have := r.isLt; omega)⟩
      · exact ⟨Nat.zero_le _, Nat.mod_one _, (show (h.val - 0) / (0 + 1) < 4 by have := h.isLt; omega)⟩
      · exact ⟨h32, Nat.mod_one _, (show (j.val - 32) / (0 + 1) < 32 by omega)⟩
    · have h3 : (j.val - 0) / (0 + 1) < 32 := (hh 3).2.2
      omega
    · refine (add_zero (M := EReal) _).trans ?_
      rw [v111 H, v111 H, H.hC, H.hS, ← EReal.coe_neg, ← EReal.coe_mul, ← EReal.coe_mul, ← EReal.coe_add]
      dsimp only
      rw [show 32 + (j.val - 32) = j.val by omega]
  · rw [rot_low _ _ _ (by omega)]
    refine (congrArg₂ (· + ·) (dif_neg fun hh => ?_) (dif_pos fun a => ?_)).trans ?_
    · have h3 : 32 ≤ j.val := (hh 3).1
      omega
    · fin_cases a
      · exact ⟨Nat.zero_le _, Nat.mod_one _, (by decide : (0 - 0) / (0 + 1) < 1)⟩
      · exact ⟨Nat.zero_le _, Nat.mod_one _, (show (r.val - 0) / (0 + 1) < 2048 by have := r.isLt; omega)⟩
      · exact ⟨Nat.zero_le _, Nat.mod_one _, (show (h.val - 0) / (0 + 1) < 4 by have := h.isLt; omega)⟩
      · exact ⟨Nat.zero_le _, Nat.mod_one _, (show (j.val - 0) / (0 + 1) < 32 by omega)⟩
    · refine (zero_add (M := EReal) _).trans ?_
      rw [v111 H, v111 H, H.hC, H.hS, ← EReal.coe_mul, ← EReal.coe_mul, ← EReal.coe_add]
      dsimp only
      rw [add_comm]

theorem v132 : (res_main_v132 V0 (ix4 0 r h j) : EReal) =
    ((rotOf (wholeRow Dp Dc r.val) (tabC (C r.val)) (tabS (S r.val)) (64 * h.val + j.val) * gk ((64 * h.val + j.val) % 64) : ℝ) : EReal) := by
  have hj := j.isLt
  pointwise [res_main_v132, res_main_v87]
  rw [v127 H, H.hk, show (64 * h.val + j.val) % 64 = j.val by omega, EReal.coe_mul]

theorem v133 : (res_main_v133 V0 (ix1 j) : EReal) = ((∑ r : Fin 2048, ∑ h : Fin 4, keyRow X r.val (64 * h.val + j.val) * inv (keyRow X r.val) (64 * h.val + j.val) *
    rotOf (wholeRow Dp Dc r.val) (tabC (C r.val)) (tabS (S r.val)) (64 * h.val + j.val) : ℝ) : EReal) := by
  unfold res_main_v133
  refine (show _ = Ideal.hostReduceAdd reducesTo_S1x1x1x64_S64_d0_1_2 _ _ (ix1 j) from rfl).trans ?_
  rw [reduce_012]
  pointwise
  refine (reduce_12 (n := 4) reducesTo_S1x2048x4x64_S1x64_d1_2 _ _ j).trans ?_
  refine (zero_add (M := EReal) _).trans ?_
  simp only [← coe_sum]
  refine Finset.sum_congr rfl fun r _ => Finset.sum_congr rfl fun h _ => ?_
  exact (congrArg₂ (fun x y : EReal => x * y) (v86 H r h j) (v127 H r h j)).trans (EReal.coe_mul _ _).symm

theorem v144 : (res_main_v144 V0 (ix4 0 r h j) : EReal) =
    ((dMs (keyRow X r.val) (fun k => rotOf (wholeRow Dp Dc r.val) (tabC (C r.val)) (tabS (S r.val)) k * gk (k % 64)) (64 * h.val) : ℝ) : EReal) := by
  unfold res_main_v144
  pointwise
  refine (reduce_03 (n := 4) reducesTo_S1x2048x4x1_S2048x4_d0_3 _ _ r h).trans ?_
  pointwise
  simp only [v73 H, v132 H, v81 H, v80 H, div_ms, bits_neg_half, ← EReal.coe_mul, coe_sum, div_64]
  unfold dMs
  rw [headSum_self (fun k => keyRow X r.val k * (rotOf (wholeRow Dp Dc r.val) (tabC (C r.val)) (tabS (S r.val)) k * gk (k % 64)))]

/-- The gradient at the queries. -/
theorem q_entry (h : Fin 16) : ((addf (addf (mulf (res_main_v54 V0) (broadcastInDim S1x2048x16x64 ![0, 1, 2, 3] bcast_S1x2048x16x1_S1x2048x16x64_0_1_2_3 (res_main_v9 V0)))
      (mulf (res_main_v1 V0) (res_main_v66 V0))) (mulf (res_main_v66 V0) (res_main_v1 V0)) : FVec Ideal S1x2048x16x64 .f32) (ix4 0 r h j) : EReal) =
    ((dRow (X r.val) (fun k => gq (k % 64)) (rotOf (D r.val) (tabC (C r.val)) (tabS (S r.val))) (64 * h.val + j.val) : ℝ) : EReal) := by
  pointwise
  rw [v54 H, v9 H, v1 H, v66 H]
  simp only [← EReal.coe_mul, ← EReal.coe_add]
  exact congrArg _ (dRow_eq _ (fun k => gq (k % 64)) _ h.val j.val j.isLt)

/-- The gradient at the keys. -/
theorem k_entry : ((addf (addf (mulf (res_main_v132 V0) (broadcastInDim S1x2048x4x64 ![0, 1, 2, 3] bcast_S1x2048x4x1_S1x2048x4x64_0_1_2_3 (res_main_v81 V0)))
      (mulf (res_main_v73 V0) (res_main_v144 V0))) (mulf (res_main_v144 V0) (res_main_v73 V0)) : FVec Ideal S1x2048x4x64 .f32) (ix4 0 r h j) : EReal) =
    ((dRow (keyRow X r.val) (fun k => gk (k % 64)) (rotOf (wholeRow Dp Dc r.val) (tabC (C r.val)) (tabS (S r.val))) (64 * h.val + j.val) : ℝ) : EReal) := by
  pointwise
  rw [v132 H, v81 H, v73 H, v144 H]
  simp only [← EReal.coe_mul, ← EReal.coe_add]
  exact congrArg _ (dRow_eq _ (fun k => gk (k % 64)) _ h.val j.val j.isLt)

end Key

/-! ### The three results -/

/-- The gradient at the queries', the keys' and the values' columns. -/
def outArr (X : ℕ → ℕ → ℝ) (gq gk : ℕ → ℝ) (C S D Dp Dc : ℕ → ℕ → ℝ) (P Cu : Vec Ideal S2048x512 .f32) : Vec Ideal S2048x1536 .bf16 := fun i =>
  if (i 1).val < 1024 then
    ((dRow (X (i 0).val) (fun k => gq (k % 64)) (rotOf (D (i 0).val) (tabC (C (i 0).val)) (tabS (S (i 0).val))) (i 1).val : ℝ) : EReal)
  else if (i 1).val < 1280 then
    ((dRow (keyRow X (i 0).val) (fun k => gk (k % 64)) (rotOf (wholeRow Dp Dc (i 0).val) (tabC (C (i 0).val)) (tabS (S (i 0).val))) ((i 1).val - 1024) : ℝ) : EReal)
  else gather (sumRowE P Cu (i 0)) ((i 1).val - 1280)

/-- The gradient at a gain, for each of the two copies of its lanes. -/
def gainArr (n : ℕ) (X D C S : ℕ → ℕ → ℝ) : Vec Ideal S1x128 .f32 := fun i =>
  ((∑ r : Fin 2048, ∑ h : Fin n, X r.val (64 * h.val + (i 1).val % 64) * inv (X r.val) (64 * h.val + (i 1).val % 64) *
    rotOf (D r.val) (tabC (C r.val)) (tabS (S r.val)) (64 * h.val + (i 1).val % 64) : ℝ) : EReal)

include H in
theorem out_eq : truncf .bf16 ((concatenate S2048x1536 1 [⟨S2048x1024, ((shapeCast _ (addf (addf (mulf (res_main_v54 V0) (broadcastInDim S1x2048x16x64 ![0, 1, 2, 3] bcast_S1x2048x16x1_S1x2048x16x64_0_1_2_3 (res_main_v9 V0))) (mulf (res_main_v1 V0) (res_main_v66 V0))) (mulf (res_main_v66 V0) (res_main_v1 V0))) shapeCasts_S1x2048x16x64_S2048x1024) : FVec Ideal S2048x1024 .f32)⟩,
      ⟨S2048x256, ((shapeCast _ (addf (addf (mulf (res_main_v132 V0) (broadcastInDim S1x2048x4x64 ![0, 1, 2, 3] bcast_S1x2048x4x1_S1x2048x4x64_0_1_2_3 (res_main_v81 V0))) (mulf (res_main_v73 V0) (res_main_v144 V0))) (mulf (res_main_v144 V0) (res_main_v73 V0))) shapeCasts_S1x2048x4x64_S2048x256) : FVec Ideal S2048x256 .f32)⟩,
      ⟨S2048x256, ((shapeCast _ (Host.reduceAdd (shapeCast _ (addf (V0 (Proc.devRef .tc main_arg9)) (concatenate S2048x512 0 [⟨S1920x512, (extractStridedSlice S1920x512 ![128, 0] (V0 (Proc.devRef .tc main_arg8)) slices_S2048x512_S1920x512_128_0)⟩, ⟨S128x512, (broadcastInDim S128x512 ![] bcast_S_S128x512 (constant S_ .f32 0x00000000#32))⟩] concatenates_S1920x512_S128x512_S2048x512_d0)) shapeCasts_S2048x512_S2048x4x2x64) (constant S_ .f32 0x00000000#32) reducesTo_S2048x4x2x64_S2048x4x64_d2 h_S_) shapeCasts_S2048x4x64_S2048x256) : FVec Ideal S2048x256 .f32)⟩] concatenates_S2048x1024_S2048x256_S2048x256_S2048x1536_d1 : FVec Ideal S2048x1536 .f32)) bitsLt_bf16_f32 =
    outArr X gq gk C S D Dp Dc (V0 (Proc.devRef .tc main_arg8)) (V0 (Proc.devRef .tc main_arg9)) := by
  have hq := fun r j h => q_entry H r j h
  have hk := fun r h j => k_entry H r h j
  generalize addf (addf (mulf (res_main_v54 V0) _) _) _ = yq at hq ⊢
  generalize addf (addf (mulf (res_main_v132 V0) _) _) _ = yk at hk ⊢
  funext y
  obtain ⟨a, b, rfl⟩ : ∃ (a : Fin 2048) (b : Fin 1536), y = ix2 a b := ⟨y 0, y 1, eq_ix2 y⟩
  pointwise
  have hb := b.isLt
  have ha := a.isLt
  by_cases h1 : b.val < 1024
  · rw [dif_pos h1]
    refine (hq a ⟨b.val % 64, by omega⟩ ⟨b.val / 64, by omega⟩).trans ?_
    refine Eq.trans ?_ (if_pos h1).symm
    dsimp only
    rw [Nat.div_add_mod]
    rfl
  rw [dif_neg h1]
  by_cases h2 : b.val - 1024 < 256
  · rw [dif_pos h2]
    refine (hk a ⟨(b.val - 1024) / 64, by omega⟩ ⟨(b.val - 1024) % 64, by omega⟩).trans ?_
    refine Eq.trans ?_ ((if_neg h1).trans (if_pos (show b.val < 1280 by omega))).symm
    dsimp only
    rw [Nat.div_add_mod]
    rfl
  · rw [dif_neg h2]
    refine Eq.trans (show _ = _ from whole_sum (V0 (Proc.tc.devRef main_arg8)) (V0 (Proc.tc.devRef main_arg9)) a ⟨(b.val - 1024 - 256) / 64, by omega⟩ ⟨(b.val - 1024 - 256) % 64, by omega⟩
      (fun x => by have := x.isLt; dsimp only; omega) (fun _ => by omega)) ?_
    refine Eq.trans ?_ ((if_neg h1).trans (if_neg (show ¬b.val < 1280 by omega))).symm
    dsimp only
    rw [Nat.div_add_mod, Nat.sub_sub]
    rfl

include H in
theorem gq_eq : broadcastInDim S1x128 ![1] bcast_S128_S1x128_1 (concatenate S128 0 [⟨S64, (res_main_v55 V0)⟩, ⟨S64, (res_main_v55 V0)⟩] concatenates_S64_S64_S128_d0) =
    gainArr 16 X D C S := by
  have h55 := fun j => v55 H j
  generalize res_main_v55 V0 = y at h55 ⊢
  funext z
  obtain ⟨a, b, rfl⟩ : ∃ (a : Fin 1) (b : Fin 128), z = ix2 a b := ⟨z 0, z 1, eq_ix2 z⟩
  pointwise
  have hb := b.isLt
  by_cases h1 : b.val < 64
  · rw [dif_pos h1]
    refine (h55 ⟨b.val, h1⟩).trans ?_
    dsimp only
    rw [show b.val = b.val % 64 by omega]
    rfl
  · rw [dif_neg h1]
    refine (h55 ⟨b.val - 64, by omega⟩).trans ?_
    dsimp only
    rw [show b.val - 64 = b.val % 64 by omega]
    rfl

include H in
theorem gk_eq : broadcastInDim S1x128 ![1] bcast_S128_S1x128_1 (concatenate S128 0 [⟨S64, (res_main_v133 V0)⟩, ⟨S64, (res_main_v133 V0)⟩] concatenates_S64_S64_S128_d0) =
    gainArr 4 (keyRow X) (wholeRow Dp Dc) C S := by
  have h55 := fun j => v133 H j
  generalize res_main_v133 V0 = y at h55 ⊢
  funext z
  obtain ⟨a, b, rfl⟩ : ∃ (a : Fin 1) (b : Fin 128), z = ix2 a b := ⟨z 0, z 1, eq_ix2 z⟩
  pointwise
  have hb := b.isLt
  by_cases h1 : b.val < 64
  · rw [dif_pos h1]
    refine (h55 ⟨b.val, h1⟩).trans ?_
    dsimp only
    rw [show b.val = b.val % 64 by omega]
    rfl
  · rw [dif_neg h1]
    refine (h55 ⟨b.val - 64, by omega⟩).trans ?_
    dsimp only
    rw [show b.val - 64 = b.val % 64 by omega]
    rfl

end Ref

end Cert.QkVal

end
-- ==== Proof.QkArr.lean ====
/- What the kernel that differentiates the QK-norm and the rotary embedding leaves in its three arrays. -/
module

public import proofs.«01_k».proof.Defs
public import proofs.«01_k».proof.Proof.QkBlock
public import proofs.«01_k».proof.Proof.QkRef
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Tactic

@[expose] public section

set_option maxRecDepth 16384

noncomputable section

namespace Cert.QkVal

open Cert.QkIdeal Cert.QkIdeal.Gen Cert.Lift Idealize.ShloMosaic Idealize.ShloMosaic.TcCoe Idealize.SL.Sem

theorem idx : ∀ t : Fin cfg0.N, win0_0.index t = ![t.val, 0] ∧ win0_1.index t = ![t.val, 4] ∧ win0_2.index t = ![0, 0] ∧ win0_3.index t = ![0, 0] ∧
    win0_4.index t = ![t.val, 0] ∧ win0_5.index t = ![t.val, 0] ∧ win0_6.index t = ![t.val, 0] ∧ win0_7.index t = ![min (t.val + 1) 15, 0] ∧
    win0_8.index t = ![t.val, 0] ∧ win0_9.index t = ![min (t.val + 1) 15, 0] ∧ win0_10.index t = ![t.val, 0] ∧ win0_11.index t = ![t.val, 0] ∧
    win0_12.index t = ![0, 0] ∧ win0_13.index t = ![0, 0] :=
  (by decide +kernel : ∀ t : Fin grid0.N, _)

theorem coord : ∀ t : Fin cfg0.N, (grid0.coords t 0).val = t.val := (by decide +kernel : ∀ t : Fin grid0.N, _)

variable (m : (ℓ : Loc nD τ sig) → Buf (Elt Ideal) ℓ) (c : Dev nD)

/-- The projection. -/
def aX : Vec Ideal S2048x7680 .f32 := m ((c : Thread nD τ).loc main_arg0)
/-- The gains of the queries' and the keys' norms. -/
def aGq : Vec Ideal S64 .f32 := m ((c : Thread nD τ).loc main_arg1)
def aGk : Vec Ideal S64 .f32 := m ((c : Thread nD τ).loc main_arg2)
/-- The tables of the rotary embedding. -/
def aC : Vec Ideal S2048x32 .f32 := m ((c : Thread nD τ).loc main_arg3)
def aS : Vec Ideal S2048x32 .f32 := m ((c : Thread nD τ).loc main_arg4)
/-- The gradients at the queries, and at the keys and the values as the next block's and the own block's queries see them. -/
def aD : Vec Ideal S2048x1024 .f32 := m ((c : Thread nD τ).loc main_arg5)
def aDkp : Vec Ideal S2048x512 .f32 := m ((c : Thread nD τ).loc main_arg6)
def aDkc : Vec Ideal S2048x512 .f32 := m ((c : Thread nD τ).loc main_arg7)
def aDvp : Vec Ideal S2048x512 .f32 := m ((c : Thread nD τ).loc main_arg8)
def aDvc : Vec Ideal S2048x512 .f32 := m ((c : Thread nD τ).loc main_arg9)

/-- The kernel's input blocks at a point. -/
def B0 (t : Fin cfg0.N) : Vec Ideal S128x1024 .f32 := X0_0 m c t
def B1 (t : Fin cfg0.N) : Vec Ideal S128x256 .f32 := iblk m c 1 t
def B2 (t : Fin cfg0.N) : Vec Ideal S1x128 .f32 := iblk m c 2 t
def B3 (t : Fin cfg0.N) : Vec Ideal S1x128 .f32 := iblk m c 3 t
def B4 (t : Fin cfg0.N) : Vec Ideal S128x128 .f32 := iblk m c 4 t
def B5 (t : Fin cfg0.N) : Vec Ideal S128x128 .f32 := iblk m c 5 t
def B6 (t : Fin cfg0.N) : Vec Ideal S128x1024 .f32 := iblk m c 6 t
def B7 (t : Fin cfg0.N) : Vec Ideal S128x512 .f32 := iblk m c 7 t
def B8 (t : Fin cfg0.N) : Vec Ideal S128x512 .f32 := iblk m c 8 t
def B9 (t : Fin cfg0.N) : Vec Ideal S128x512 .f32 := iblk m c 9 t
def B10 (t : Fin cfg0.N) : Vec Ideal S128x512 .f32 := iblk m c 10 t

/-- The row of the array that row `a` of block `t` is, and that row of the next block where there is one. -/
def row (t : Fin cfg0.N) (a : Fin 128) : Fin 2048 := ⟨128 * t.val + a.val, by have := t.isLt; have : cfg0.N = 16 := N_0; omega⟩
def rowNext (t : Fin cfg0.N) (a : Fin 128) : Fin 2048 := ⟨128 * min (t.val + 1) 15 + a.val, by omega⟩

theorem B0_apply (t : Fin cfg0.N) (a : Fin 128) (k : Fin 1024) : (B0 m c t (ix2 a k) : EReal) = aX m c (ix2 (row t a) ⟨k.val, by omega⟩) := by
  obtain ⟨e, -⟩ := idx t
  unfold B0 aX row X0_0 Pipeline.Window.fill
  rw [dif_pos (moved0_0 t _)]
  blk_simp [iblk, V, e]
  entry_read
  blk_ext [iblk, V, e]

theorem B1_apply (t : Fin cfg0.N) (a : Fin 128) (k : Fin 256) : (B1 m c t (ix2 a k) : EReal) = aX m c (ix2 (row t a) ⟨1024 + k.val, by omega⟩) := by
  obtain ⟨-, e, -⟩ := idx t
  unfold B1 aX row
  blk_simp [iblk, V, e]
  entry_read
  blk_ext [iblk, V, e]

theorem B2_apply (t : Fin cfg0.N) (k : Fin 128) : (B2 m c t (ix2 0 k) : EReal) = aGq m c (ix1 ⟨k.val % 64, by omega⟩) := by
  obtain ⟨-, -, e, -⟩ := idx t
  unfold B2 aGq
  blk_simp [iblk, V, e]
  entry_read
  pointwise
  blk_ext [iblk, V, e]

theorem B3_apply (t : Fin cfg0.N) (k : Fin 128) : (B3 m c t (ix2 0 k) : EReal) = aGk m c (ix1 ⟨k.val % 64, by omega⟩) := by
  obtain ⟨-, -, -, e, -⟩ := idx t
  unfold B3 aGk
  blk_simp [iblk, V, e]
  entry_read
  pointwise
  blk_ext [iblk, V, e]

theorem B4_apply (t : Fin cfg0.N) (a : Fin 128) (k : Fin 128) : (B4 m c t (ix2 a k) : EReal) = aC m c (ix2 (row t a) ⟨k.val % 32, by omega⟩) := by
  obtain ⟨-, -, -, -, e, -⟩ := idx t
  unfold B4 aC row
  blk_simp [iblk, V, e]
  entry_read
  pointwise
  have h0 : (((View.whole main_v3).slice (win0_4.rect t)).emb (ix2 a k) 0).val = 128 * t.val + a.val := by
    blk_simp [e]
    omega
  have h1 : (((View.whole main_v3).slice (win0_4.rect t)).emb (ix2 a k) 1).val = k.val := by
    blk_ext [e]
  by_cases hc : k.val % 64 < 32
  · refine (dif_pos (by omega)).trans ?_
    exact congrArg _ (congrArg₂ ix2 (Fin.ext h0) (Fin.ext (by dsimp only; omega)))
  · refine (dif_neg (by omega)).trans ?_
    exact congrArg _ (congrArg₂ ix2 (Fin.ext h0) (Fin.ext (by dsimp only; omega)))

theorem B5_apply (t : Fin cfg0.N) (a : Fin 128) (k : Fin 128) : (B5 m c t (ix2 a k) : EReal) =
    if k.val % 64 < 32 then -(aS m c (ix2 (row t a) ⟨k.val % 32, by omega⟩) : EReal) else (aS m c (ix2 (row t a) ⟨k.val % 32, by omega⟩) : EReal) := by
  obtain ⟨-, -, -, -, -, e, -⟩ := idx t
  unfold B5 aS row
  blk_simp [iblk, V, e]
  entry_read
  pointwise
  have h0 : (((View.whole main_v8).slice (win0_5.rect t)).emb (ix2 a k) 0).val = 128 * t.val + a.val := by
    blk_simp [e]
    omega
  have h1 : (((View.whole main_v8).slice (win0_5.rect t)).emb (ix2 a k) 1).val = k.val := by
    blk_ext [e]
  by_cases hc : k.val % 64 < 32
  · refine (dif_pos (by omega)).trans (Eq.trans ?_ (if_pos hc).symm)
    exact congrArg (fun x : EReal => -x) (congrArg _ (congrArg₂ ix2 (Fin.ext h0) (Fin.ext (by dsimp only; omega))))
  · refine (dif_neg (by omega)).trans (Eq.trans ?_ (if_neg hc).symm)
    exact congrArg _ (congrArg₂ ix2 (Fin.ext h0) (Fin.ext (by dsimp only; omega)))

theorem B6_apply (t : Fin cfg0.N) (a : Fin 128) (k : Fin 1024) : (B6 m c t (ix2 a k) : EReal) = aD m c (ix2 (row t a) k) := by
  obtain ⟨-, -, -, -, -, -, e, -⟩ := idx t
  unfold B6 aD row
  blk_simp [iblk, V, e]
  entry_read
  blk_ext [iblk, V, e]

theorem B7_apply (t : Fin cfg0.N) (a : Fin 128) (k : Fin 512) : (B7 m c t (ix2 a k) : EReal) = aDkp m c (ix2 (rowNext t a) k) := by
  obtain ⟨-, -, -, -, -, -, -, e, -⟩ := idx t
  unfold B7 aDkp rowNext
  blk_simp [iblk, V, e]
  entry_read
  blk_ext [iblk, V, e]

theorem B8_apply (t : Fin cfg0.N) (a : Fin 128) (k : Fin 512) : (B8 m c t (ix2 a k) : EReal) = aDkc m c (ix2 (row t a) k) := by
  obtain ⟨-, -, -, -, -, -, -, -, e, -⟩ := idx t
  unfold B8 aDkc row
  blk_simp [iblk, V, e]
  entry_read
  blk_ext [iblk, V, e]

theorem B9_apply (t : Fin cfg0.N) (a : Fin 128) (k : Fin 512) : (B9 m c t (ix2 a k) : EReal) = aDvp m c (ix2 (rowNext t a) k) := by
  obtain ⟨-, -, -, -, -, -, -, -, -, e, -⟩ := idx t
  unfold B9 aDvp rowNext
  blk_simp [iblk, V, e]
  entry_read
  blk_ext [iblk, V, e]

theorem B10_apply (t : Fin cfg0.N) (a : Fin 128) (k : Fin 512) : (B10 m c t (ix2 a k) : EReal) = aDvc m c (ix2 (row t a) k) := by
  obtain ⟨-, -, -, -, -, -, -, -, -, -, e, -⟩ := idx t
  unfold B10 aDvc row
  blk_simp [iblk, V, e]
  entry_read
  blk_ext [iblk, V, e]

theorem block11 (t : Fin cfg0.N) : (outsAt0 m c t.val t.isLt).1 =
    out11 (grid0.coords t) (B0 m c t) (B1 m c t) (B2 m c t) (B3 m c t) (B4 m c t) (B5 m c t) (B6 m c t) (B7 m c t) (B8 m c t) (B9 m c t) (B10 m c t) := by
  by_cases h : t.val % 16 = 0
  · rw [outsAt0_A m c t h, oA11]; rfl
  · rw [outsAt0_B m c t h, oB11]; rfl

theorem first12 (t : Fin cfg0.N) (h : t.val % 16 = 0) : (outsAt0 m c t.val t.isLt).2.1 =
    k0_pay66 (qGain (B0 m c t) (B4 m c t) (B5 m c t) (B6 m c t)) (k0_pay64 (F := Ideal)) := by
  rw [outsAt0_A m c t h, oA12]; rfl

theorem next12 (t : Fin cfg0.N) (h : ¬t.val % 16 = 0) : (outsAt0 m c t.val t.isLt).2.1 =
    k0_pay66 (qGain (B0 m c t) (B4 m c t) (B5 m c t) (B6 m c t)) (outsAt0 m c (t.val - 1) (Nat.lt_of_le_of_lt (Nat.sub_le _ _) t.isLt)).2.1 := by
  rw [outsAt0_B m c t h, oB12]; rfl

theorem first13 (t : Fin cfg0.N) (h : t.val % 16 = 0) : (outsAt0 m c t.val t.isLt).2.2 =
    k0_pay67 (kGain (kD (grid0.coords t) (B7 m c t) (B8 m c t)) (B1 m c t) (B4 m c t) (B5 m c t)) (k0_pay65 (F := Ideal)) := by
  rw [outsAt0_A m c t h, oA13]; rfl

theorem next13 (t : Fin cfg0.N) (h : ¬t.val % 16 = 0) : (outsAt0 m c t.val t.isLt).2.2 =
    k0_pay67 (kGain (kD (grid0.coords t) (B7 m c t) (B8 m c t)) (B1 m c t) (B4 m c t) (B5 m c t))
      (outsAt0 m c (t.val - 1) (Nat.lt_of_le_of_lt (Nat.sub_le _ _) t.isLt)).2.2 := by
  rw [outsAt0_B m c t h, oB13]; rfl

/-- The arguments as arrays of real numbers. -/
structure KReals (X : ℕ → ℕ → ℝ) (gq gk : ℕ → ℝ) (C S D Dp Dc : ℕ → ℕ → ℝ) : Prop where
  hX : ∀ (r : Fin 2048) (k : Fin 7680), (aX m c (ix2 r k) : EReal) = ((X r.val k.val : ℝ) : EReal)
  hC : ∀ (r : Fin 2048) (k : Fin 32), (aC m c (ix2 r k) : EReal) = ((C r.val k.val : ℝ) : EReal)
  hS : ∀ (r : Fin 2048) (k : Fin 32), (aS m c (ix2 r k) : EReal) = ((S r.val k.val : ℝ) : EReal)
  hD : ∀ (r : Fin 2048) (k : Fin 1024), (aD m c (ix2 r k) : EReal) = ((D r.val k.val : ℝ) : EReal)
  hDp : ∀ (r : Fin 2048) (k : Fin 512), (aDkp m c (ix2 r k) : EReal) = ((Dp r.val k.val : ℝ) : EReal)
  hDc : ∀ (r : Fin 2048) (k : Fin 512), (aDkc m c (ix2 r k) : EReal) = ((Dc r.val k.val : ℝ) : EReal)
  hq : ∀ k : Fin 64, (aGq m c (ix1 k) : EReal) = ((gq k.val : ℝ) : EReal)
  hk : ∀ k : Fin 64, (aGk m c (ix1 k) : EReal) = ((gk k.val : ℝ) : EReal)

/-- The own block's part of a key's or value's gradient plus the next block's, where there is one. -/
theorem sum_apply (P Cu : Vec Ideal S2048x512 .f32) (u w : Vec Ideal S128x512 .f32) (t : Fin cfg0.N) (a : Fin 128)
    (hu : ∀ k, (u (ix2 a k) : EReal) = Cu (ix2 (row t a) k)) (hw : ∀ k, (w (ix2 a k) : EReal) = P (ix2 (rowNext t a) k)) (k : Fin 512) :
    (k0_pay5 (grid0.coords t) u w (ix2 a k) : EReal) = Ref.sumRowE P Cu (row t a) k.val := by
  have ht : t.val < 16 := by have := t.isLt; have : cfg0.N = 16 := N_0; omega
  have ha := a.isLt
  pointwise [k0_pay5]
  unfold Ref.sumRowE
  rw [dif_pos k.isLt, hu, hw]
  refine congrArg (_ + ·) ?_
  refine (congrArg (fun x : EReal => x * _) (next_eq (grid0.coords t))).trans ?_
  rw [coord]
  by_cases h : t.val < 15
  · rw [if_pos h, EReal.coe_one]
    refine (one_mul (M := EReal) _).trans (Eq.trans ?_ (dif_pos (show (row t a).val < 1920 by unfold row; dsimp only; omega)).symm)
    exact congrArg P (congrArg₂ ix2 (Fin.ext (by unfold rowNext row; dsimp only; omega)) rfl)
  · rw [if_neg h, EReal.coe_zero]
    have h' : ¬(row t a).val < 1920 := by unfold row; dsimp only; omega
    refine (zero_mul (M₀ := EReal) _).trans (Eq.trans ?_ (dif_neg h').symm)
    rfl

theorem vOut_apply (t : Fin cfg0.N) (a : Fin 128) (b : Fin 256) :
    (vOut (grid0.coords t) (B9 m c t) (B10 m c t) (ix2 a b) : EReal) = gather (Ref.sumRowE (aDvp m c) (aDvc m c) (row t a)) b.val :=
  gather_apply (k0_pay5 (grid0.coords t) (B10 m c t) (B9 m c t)) _ (sum_apply (aDvp m c) (aDvc m c) _ _ t a (B10_apply m c t a) (B9_apply m c t a)) b

section Real

variable {m c} {X : ℕ → ℕ → ℝ} {gq gk : ℕ → ℝ} {C S D Dp Dc : ℕ → ℕ → ℝ} (K : KReals m c X gq gk C S D Dp Dc)
include K

theorem kD_apply (t : Fin cfg0.N) (a : Fin 128) (b : Fin 256) :
    (kD (grid0.coords t) (B7 m c t) (B8 m c t) (ix2 a b) : EReal) = ((Ref.wholeRow Dp Dc (row t a).val b.val : ℝ) : EReal) :=
  (gather_apply (k0_pay5 (grid0.coords t) (B8 m c t) (B7 m c t)) _ (sum_apply (aDkp m c) (aDkc m c) _ _ t a (B8_apply m c t a) (B7_apply m c t a)) b).trans
    (Ref.gather_coe _ _ K.hDp K.hDc (row t a) b.val b.isLt)

theorem q_row (t : Fin cfg0.N) (a : Fin 128) (k : Fin 1024) : (B0 m c t (ix2 a k) : EReal) = ((X (row t a).val k.val : ℝ) : EReal) :=
  (B0_apply m c t a k).trans (K.hX _ _)
theorem k_row (t : Fin cfg0.N) (a : Fin 128) (k : Fin 256) : (B1 m c t (ix2 a k) : EReal) = ((Ref.keyRow X (row t a).val k.val : ℝ) : EReal) :=
  (B1_apply m c t a k).trans (K.hX _ _)
theorem d_row (t : Fin cfg0.N) (a : Fin 128) (k : Fin 1024) : (B6 m c t (ix2 a k) : EReal) = ((D (row t a).val k.val : ℝ) : EReal) :=
  (B6_apply m c t a k).trans (K.hD _ _)
theorem cos_row (t : Fin cfg0.N) (a : Fin 128) (k : Fin 128) : (B4 m c t (ix2 a k) : EReal) = ((tabC (C (row t a).val) k.val : ℝ) : EReal) :=
  (B4_apply m c t a k).trans (K.hC _ _)
theorem sin_row (t : Fin cfg0.N) (a : Fin 128) (k : Fin 128) : (B5 m c t (ix2 a k) : EReal) = ((tabS (S (row t a).val) k.val : ℝ) : EReal) := by
  rw [B5_apply, K.hS]
  unfold tabS
  split_ifs
  · exact (EReal.coe_neg _).symm
  · rfl
theorem gq_row (t : Fin cfg0.N) (k : Fin 128) : (B2 m c t (ix2 0 k) : EReal) = ((gq (k.val % 64) : ℝ) : EReal) := (B2_apply m c t k).trans (K.hq _)
theorem gk_row (t : Fin cfg0.N) (k : Fin 128) : (B3 m c t (ix2 0 k) : EReal) = ((gk (k.val % 64) : ℝ) : EReal) := (B3_apply m c t k).trans (K.hk _)

omit K in
theorem lane_mod (g : ℕ → ℝ) : (fun k => g (k % 128 % 64)) = fun k => g (k % 64) := funext fun k => congrArg g (by omega)

theorem entry11 (t : Fin cfg0.N) (a : Fin 128) (b : Fin 1536) :
    (out11 (grid0.coords t) (B0 m c t) (B1 m c t) (B2 m c t) (B3 m c t) (B4 m c t) (B5 m c t) (B6 m c t) (B7 m c t) (B8 m c t) (B9 m c t) (B10 m c t) (ix2 a b) : EReal) =
      Ref.outArr X gq gk C S D Dp Dc (aDvp m c) (aDvc m c) (ix2 (row t a) b) := by
  unfold out11
  rw [outBlk_apply]
  unfold Ref.outArr
  by_cases h1 : b.val < 1024
  · refine (dif_pos h1).trans (Eq.trans ?_ (if_pos h1).symm)
    refine (qOut_apply (g := fun k => gq (k % 64)) (q_row K t a) (d_row K t a) (cos_row K t a) (sin_row K t a) (gq_row K t) ⟨b.val, h1⟩).trans ?_
    rw [lane_mod gq]
    rfl
  refine (dif_neg h1).trans (Eq.trans ?_ (if_neg h1).symm)
  by_cases h2 : b.val < 1280
  · refine (dif_pos h2).trans (Eq.trans ?_ (if_pos h2).symm)
    refine (kOut_apply (g := fun k => gk (k % 64)) (k_row K t a) (kD_apply K t a) (cos_row K t a) (sin_row K t a) (gk_row K t) ⟨b.val - 1024, by omega⟩).trans ?_
    rw [lane_mod gk]
    rfl
  · refine (dif_neg h2).trans (Eq.trans ?_ (if_neg h2).symm)
    exact vOut_apply m c t a ⟨b.val - 1280, by omega⟩

theorem arrAt11 : (dats m 0 c).arrAt 11 cfg0.N = Ref.outArr X gq gk C S D Dp Dc (aDvp m c) (aDvc m c) := by
  refine (dats m 0 c).arrAt_eq_of_covers 11 _ (by decide +kernel) fun t hf y => ?_
  obtain ⟨-, -, -, -, -, -, -, -, -, -, -, e, -, -⟩ := idx t
  obtain ⟨a, b, rfl⟩ : ∃ (a : Fin 128) (b : Fin 1536), y = ix2 a b := ⟨y 0, y 1, eq_ix2 y⟩
  blk_simp [e]
  rw [after0_11, block11]
  refine (entry11 K t a b).trans ?_
  unfold row
  blk_ext [e]

end Real

/-! ### The gains' gradients -/

/-- What row `r` adds to a gain's gradient at lane `l`, the sum over the `n` heads. -/
def gainRow (n : ℕ) (X D C S : ℕ → ℕ → ℝ) (l r : ℕ) : ℝ := ∑ h : Fin n, X r (64 * h.val + l % 64) * inv (X r) (64 * h.val + l % 64) *
  rotOf (D r) (tabC (C r)) (tabS (S r)) (64 * h.val + l % 64)
/-- A gain's gradient over the first `N` blocks of rows. -/
def gainTo (n : ℕ) (X D C S : ℕ → ℕ → ℝ) (l N : ℕ) : ℝ := ∑ r ∈ Finset.range (128 * N), gainRow n X D C S l r

theorem gainTo_succ (n : ℕ) (X D C S : ℕ → ℕ → ℝ) (l N : ℕ) : gainTo n X D C S l (N + 1) = gainTo n X D C S l N + ∑ a : Fin 128, gainRow n X D C S l (128 * N + a.val) := by
  unfold gainTo
  rw [mul_add, mul_one, Finset.sum_range_add, ← Finset.sum_range (fun a => gainRow n X D C S l (128 * N + a))]

theorem gainTo_all (n : ℕ) (X D C S : ℕ → ℕ → ℝ) (l : Fin 128) : ((gainTo n X D C S l.val 16 : ℝ) : EReal) = Ref.gainArr n X D C S (ix2 0 l) := by
  unfold gainTo
  rw [Finset.sum_range]
  rfl

/-- A block's addition, summed over the heads first or over the rows first. -/
theorem gain_comm (n : ℕ) (X D C S : ℕ → ℕ → ℝ) (l N : ℕ) : ∑ h ∈ Finset.range n, ∑ a : Fin 128, rotOf (D (128 * N + a.val)) (tabC (C (128 * N + a.val))) (tabS (S (128 * N + a.val))) (64 * h + l % 64) *
      (X (128 * N + a.val) (64 * h + l % 64) * inv (X (128 * N + a.val)) (64 * h + l % 64)) = ∑ a : Fin 128, gainRow n X D C S l (128 * N + a.val) := by
  rw [Finset.sum_comm]
  refine Finset.sum_congr rfl fun a _ => ?_
  unfold gainRow
  rw [Finset.sum_range]
  exact Finset.sum_congr rfl fun h _ => mul_comm _ _

section Real

variable {m c} {X : ℕ → ℕ → ℝ} {gq gk : ℕ → ℝ} {C S D Dp Dc : ℕ → ℕ → ℝ} (K : KReals m c X gq gk C S D Dp Dc)
include K

theorem step12 (t : Fin cfg0.N) (v : Vec Ideal S1x128 .f32) (l : Fin 128) (s : ℝ) (hv : (v (ix2 0 l) : EReal) = s) :
    (k0_pay66 (qGain (B0 m c t) (B4 m c t) (B5 m c t) (B6 m c t)) v (ix2 0 l) : EReal) =
      ((s + ∑ a : Fin 128, gainRow 16 X D C S l.val (128 * t.val + a.val) : ℝ) : EReal) := by
  rw [← gain_comm]
  exact qFold_apply _ v (fun k => ∑ a : Fin 128, rotOf (D (row t a).val) (tabC (C (row t a).val)) (tabS (S (row t a).val)) k * (X (row t a).val k * inv (X (row t a).val) k)) s l (qGain_apply (fun a => X (row t a).val) (fun a => D (row t a).val) (fun a => tabC (C (row t a).val)) (fun a => tabS (S (row t a).val))
    (q_row K t) (d_row K t) (cos_row K t) (sin_row K t)) hv

theorem step13 (t : Fin cfg0.N) (v : Vec Ideal S1x128 .f32) (l : Fin 128) (s : ℝ) (hv : (v (ix2 0 l) : EReal) = s) :
    (k0_pay67 (kGain (kD (grid0.coords t) (B7 m c t) (B8 m c t)) (B1 m c t) (B4 m c t) (B5 m c t)) v (ix2 0 l) : EReal) =
      ((s + ∑ a : Fin 128, gainRow 4 (Ref.keyRow X) (Ref.wholeRow Dp Dc) C S l.val (128 * t.val + a.val) : ℝ) : EReal) := by
  rw [← gain_comm]
  exact kFold_apply _ v (fun k => ∑ a : Fin 128, rotOf (Ref.wholeRow Dp Dc (row t a).val) (tabC (C (row t a).val)) (tabS (S (row t a).val)) k *
    (Ref.keyRow X (row t a).val k * inv (Ref.keyRow X (row t a).val) k)) s l (kGain_apply (fun a => Ref.keyRow X (row t a).val) (fun a => Ref.wholeRow Dp Dc (row t a).val) (fun a => tabC (C (row t a).val))
    (fun a => tabS (S (row t a).val)) (k_row K t) (kD_apply K t) (cos_row K t) (sin_row K t)) hv

theorem upTo12 (n : ℕ) (h : n < cfg0.N) (l : Fin 128) : ((outsAt0 m c n h).2.1 (ix2 0 l) : EReal) = ((gainTo 16 X D C S l.val (n + 1) : ℝ) : EReal) := by
  have h16 : cfg0.N = 16 := N_0
  rw [gainTo_succ]
  induction n with
  | zero =>
    rw [first12 m c ⟨0, h⟩ rfl]
    refine step12 K ⟨0, h⟩ _ l _ (Eq.trans (show _ = (0 : EReal) by pointwise [k0_pay64]) ?_)
    simp [gainTo]
  | succ n ih =>
    rw [next12 m c ⟨n + 1, h⟩ (by dsimp only; omega)]
    refine step12 K ⟨n + 1, h⟩ _ l _ ((ih (by omega)).trans ?_)
    rw [gainTo_succ]

theorem upTo13 (n : ℕ) (h : n < cfg0.N) (l : Fin 128) :
    ((outsAt0 m c n h).2.2 (ix2 0 l) : EReal) = ((gainTo 4 (Ref.keyRow X) (Ref.wholeRow Dp Dc) C S l.val (n + 1) : ℝ) : EReal) := by
  have h16 : cfg0.N = 16 := N_0
  rw [gainTo_succ]
  induction n with
  | zero =>
    rw [first13 m c ⟨0, h⟩ rfl]
    refine step13 K ⟨0, h⟩ _ l _ (Eq.trans (show _ = (0 : EReal) by pointwise [k0_pay65]) ?_)
    simp [gainTo]
  | succ n ih =>
    rw [next13 m c ⟨n + 1, h⟩ (by dsimp only; omega)]
    refine step13 K ⟨n + 1, h⟩ _ l _ ((ih (by omega)).trans ?_)
    rw [gainTo_succ]

theorem arrAt12 : (dats m 0 c).arrAt 12 cfg0.N = Ref.gainArr 16 X D C S := by
  refine (dats m 0 c).arrAt_eq_of_covers 12 _ (by decide +kernel) fun t hf y => ?_
  obtain ⟨-, -, -, -, -, -, -, -, -, -, -, -, e, -⟩ := idx t
  obtain ⟨a, l, rfl⟩ : ∃ (a : Fin 1) (l : Fin 128), y = ix2 a l := ⟨y 0, y 1, eq_ix2 y⟩
  obtain rfl := Subsingleton.elim a 0
  have ht : t.val = 15 := by
    revert hf; revert t; decide +kernel
  blk_simp [e]
  rw [after0_12]
  refine (upTo12 K t.val t.isLt l).trans ?_
  rw [ht, gainTo_all]
  blk_ext [e]

theorem arrAt13 : (dats m 0 c).arrAt 13 cfg0.N = Ref.gainArr 4 (Ref.keyRow X) (Ref.wholeRow Dp Dc) C S := by
  refine (dats m 0 c).arrAt_eq_of_covers 13 _ (by decide +kernel) fun t hf y => ?_
  obtain ⟨-, -, -, -, -, -, -, -, -, -, -, -, -, e⟩ := idx t
  obtain ⟨a, l, rfl⟩ : ∃ (a : Fin 1) (l : Fin 128), y = ix2 a l := ⟨y 0, y 1, eq_ix2 y⟩
  obtain rfl := Subsingleton.elim a 0
  have ht : t.val = 15 := by
    revert hf; revert t; decide +kernel
  blk_simp [e]
  rw [after0_13]
  refine (upTo13 K t.val t.isLt l).trans ?_
  rw [ht, gainTo_all]
  blk_ext [e]

end Real

end Cert.QkVal

end
-- ==== Proof.QkVal.lean ====
/- The gradient of the QK-norm and the rotary embedding: what the kernel leaves in its three arrays is what differentiating
   the reference's lines gives. -/
module

public import proofs.«01_k».proof.Defs
public import proofs.«01_k».proof.Proof.QkArr
public import proofs.«01_k».proof.Proof.Gen.Pre_qk_finite
public import Idealize.ShloMosaic.Lib.Claim
public import Idealize.ShloMosaic.Lib.Quiescent

@[expose] public section

set_option maxRecDepth 16384

noncomputable section

namespace Cert.QkVal

open Idealize.ShloMosaic Idealize.ShloMosaic.TcCoe Idealize.SL.Sem Idealize.ShloMosaic.StableHlo

/-- The real entries of a table, by numbers. -/
def nat2 {R N : ℕ} (f : Fin R → Fin N → EReal) (r k : ℕ) : ℝ := if h : r < R ∧ k < N then (f ⟨r, h.1⟩ ⟨k, h.2⟩).toReal else 0
def nat1 {N : ℕ} (f : Fin N → EReal) (k : ℕ) : ℝ := if h : k < N then (f ⟨k, h⟩).toReal else 0

theorem nat2_eq {R N : ℕ} (f : Fin R → Fin N → EReal) (r : Fin R) (k : Fin N) (h : f r k = ((f r k).toReal : EReal)) : f r k = ((nat2 f r.val k.val : ℝ) : EReal) := by
  unfold nat2
  rw [dif_pos ⟨r.isLt, k.isLt⟩]
  exact h

theorem nat1_eq {N : ℕ} (f : Fin N → EReal) (k : Fin N) (h : f k = ((f k).toReal : EReal)) : f k = ((nat1 f k.val : ℝ) : EReal) := by
  unfold nat1
  rw [dif_pos k.isLt]
  exact h

section Kernel

open Cert.QkIdeal Cert.QkIdeal.Gen

variable (m : (ℓ : Loc nD τ sig) → Buf (Elt Ideal) ℓ) (c : Dev nD)

/-- The arguments' real entries. -/
def rX : ℕ → ℕ → ℝ := nat2 fun r k => aX m c (ix2 r k)
def rC : ℕ → ℕ → ℝ := nat2 fun r k => aC m c (ix2 r k)
def rS : ℕ → ℕ → ℝ := nat2 fun r k => aS m c (ix2 r k)
def rD : ℕ → ℕ → ℝ := nat2 fun r k => aD m c (ix2 r k)
def rDkp : ℕ → ℕ → ℝ := nat2 fun r k => aDkp m c (ix2 r k)
def rDkc : ℕ → ℕ → ℝ := nat2 fun r k => aDkc m c (ix2 r k)
def rGq : ℕ → ℝ := nat1 fun k => aGq m c (ix1 k)
def rGk : ℕ → ℝ := nat1 fun k => aGk m c (ix1 k)

/-- Under the precondition the arguments that the norms' and the embedding's gradients read are arrays of real numbers. -/
theorem reals (h : Cert.Pre_QkIdeal_qk_finite (hPre_qk_finite := Cert.Pre_qk_finite.Gen.facts) m) :
    KReals m c (rX m c) (rGq m c) (rGk m c) (rC m c) (rS m c) (rD m c) (rDkp m c) (rDkc m c) := by
  obtain ⟨h0, h1, h2, h3, h4, h5, h6, h7⟩ := h c
  exact ⟨fun r k => nat2_eq (fun r k => aX m c (ix2 r k)) r k (Lift.real_of_test _ _ (fun _ => Lift.bits_inf) h0 (ix2 r k)), fun r k => nat2_eq (fun r k => aC m c (ix2 r k)) r k (Lift.real_of_test _ _ (fun _ => Lift.bits_inf) h3 (ix2 r k)),
    fun r k => nat2_eq (fun r k => aS m c (ix2 r k)) r k (Lift.real_of_test _ _ (fun _ => Lift.bits_inf) h4 (ix2 r k)), fun r k => nat2_eq (fun r k => aD m c (ix2 r k)) r k (Lift.real_of_test _ _ (fun _ => Lift.bits_inf) h5 (ix2 r k)),
    fun r k => nat2_eq (fun r k => aDkp m c (ix2 r k)) r k (Lift.real_of_test _ _ (fun _ => Lift.bits_inf) h6 (ix2 r k)), fun r k => nat2_eq (fun r k => aDkc m c (ix2 r k)) r k (Lift.real_of_test _ _ (fun _ => Lift.bits_inf) h7 (ix2 r k)),
    fun k => nat1_eq (fun k => aGq m c (ix1 k)) k (Lift.real_of_test _ _ (fun _ => Lift.bits_inf) h1 (ix1 k)), fun k => nat1_eq (fun k => aGk m c (ix1 k)) k (Lift.real_of_test _ _ (fun _ => Lift.bits_inf) h2 (ix1 k))⟩

end Kernel

section Reference

open Cert.QkRefIdeal Cert.QkRefIdeal.Gen

/-- The reference's frame: it has no semaphores, and its run keeps its arguments. -/
theorem ref_frame : Cert.quiescent_QkRefIdeal (hQkRefIdeal := Cert.QkRefIdeal.Gen.facts) := fun m ρ _ =>
  (θ_run _ _ _).mono (fun r h => ⟨fun c => (h c).2.2.2, sem_eq_zero_of_no_sems (by decide) _⟩) (Cert.QkRefIdeal.Value.run m ρ)

end Reference

/-- The kernel's three gradients are the reference's. -/
theorem algebraic : Cert.algebraic_QkIdeal_QkRefIdeal_pre_qk_finite (hQkIdeal := Cert.QkIdeal.Gen.facts)
    (hQkRefIdeal := Cert.QkRefIdeal.Gen.facts) (hPre_qk_finite := Cert.Pre_qk_finite.Gen.facts) := by
  intro m ρ m' ρ' hpre hm
  refine ⟨fun c => Ref.outArr (rX m c) (rGq m c) (rGk m c) (rC m c) (rS m c) (rD m c) (rDkp m c) (rDkc m c) (aDvp m c) (aDvc m c),
    fun c => Ref.gainArr 16 (rX m c) (rD m c) (rC m c) (rS m c), fun c => Ref.gainArr 4 (Ref.keyRow (rX m c)) (Ref.wholeRow (rDkp m c) (rDkc m c)) (rC m c) (rS m c), ?_, ?_⟩
  · refine (θ_run _ _ _).mono (fun r h c => ?_) (Cert.QkIdeal.Value.run_blocks m ρ)
    have K := reals m c hpre
    exact ⟨(h c).1.trans (arrAt11 K), (h c).2.1.trans (arrAt12 K), (h c).2.2.1.trans (arrAt13 K), (h c).2.2.2⟩
  · refine (θ_run _ _ _).mono (fun r h c => ?_) (Cert.QkRefIdeal.Value.run m' ρ')
    obtain ⟨e0, e1, e2, e3, e4, e5, e6, e7, e8, e9⟩ := hm c
    have K := reals m c hpre
    have h := h c
    have H : Ref.Reals (launchContents m' c) (rX m c) (rGq m c) (rGk m c) (rC m c) (rS m c) (rD m c) (rDkp m c) (rDkc m c) :=
      ⟨fun r k => (congrFun e0 _).trans (K.hX r k), fun r k => (congrFun e3 _).trans (K.hC r k), fun r k => (congrFun e4 _).trans (K.hS r k),
        fun r k => (congrFun e5 _).trans (K.hD r k), fun r k => (congrFun e6 _).trans (K.hDp r k), fun r k => (congrFun e7 _).trans (K.hDc r k),
        fun k => (congrFun e1 _).trans (K.hq k), fun k => (congrFun e2 _).trans (K.hk k)⟩
    refine ⟨(h.1.trans (Ref.out_eq H)).trans ?_, h.2.1.trans (Ref.gq_eq H), h.2.2.1.trans (Ref.gk_eq H), ?_⟩
    · exact congrArg₂ (Ref.outArr (rX m c) (rGq m c) (rGk m c) (rC m c) (rS m c) (rD m c) (rDkp m c) (rDkc m c)) e8 e9
    · exact h.2.2.2

end Cert.QkVal

end
-- ==== Proof.Forward.lean ====
/- The forward pass's product `x w`, entry by entry. -/
module

public import proofs.«01_k».proof.Proof.Products

@[expose] public section

set_option maxRecDepth 16384

noncomputable section

namespace Cert.Products

open Idealize.ShloMosaic Idealize.ShloMosaic.TcCoe

/-- The product of two matrices: an entry is the sum over the inner index. -/
def product {T K N : ℕ} (x : Mat T K) (w : Mat K N) : Mat T N := fun i =>
  ∑ k : Fin K, x (ix2 ⟨(i 0).val, (i 0).isLt⟩ k) * w (ix2 k ⟨(i 1).val, (i 1).isLt⟩)

end Cert.Products

end
-- ==== Proof.ProjInVal.lean ====
/- The input projection: the kernel's blocks against the reference's product, both the sums of `Products.product`. -/
module

public import proofs.«01_k».proof.Defs
public import proofs.«01_k».proof.Proof.Gen.ProjInIdeal.Value
public import proofs.«01_k».proof.Proof.Gen.ProjInRefIdeal.Run
public import proofs.«01_k».proof.Proof.Forward
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.ProjInVal

section Kernel

open Cert.ProjInIdeal Cert.ProjInIdeal.Gen Cert.Products Idealize.ShloMosaic Idealize.ShloMosaic.TcCoe Idealize.SL.Sem

theorem idx : ∀ t : Fin cfg0.N, win0_0.index t = ![t.val / 12, 0] ∧ win0_1.index t = ![t.val % 12 / 3, 0, t.val % 3] ∧ win0_2.index t = ![t.val / 12, t.val % 12] :=
  (by decide +kernel : ∀ t : Fin grid0.N, _)

/-- One block: the product of the loaded rows and columns. -/
theorem block (x0 : Vec Ideal S1024x2048 .bf16) (x1 : Vec Ideal S1x2048x640 .bf16) (a : Fin 1024) (b : Fin 640) :
    out0_2 x0 x1 (ix2 a b) = ∑ k : Fin 2048, ((x0 (ix2 a k) : EReal) * x1 (ix3 0 k b) : EReal) := by
  unfold out0_2
  have hz : (![0, 0] : Fin 2 → ℕ) = fun _ => 0 := by decide
  have hz3 : (![0, 0, 0] : Fin 3 → ℕ) = fun _ => 0 := by decide
  refine (congrFun (View.canon_unit_zero (S := S1024x640) (off := ![0, 0]) hz _ _) _).trans ?_
  unfold k0_pay1
  pointwise

variable (m : (ℓ : Loc nD τ sig) → Buf (Elt Ideal) ℓ) (c : Dev nD)

/-- The input. -/
def H : Mat 2048 2048 := m ((c : Thread nD τ).loc main_arg0)
/-- The weights. -/
def W : Mat 2048 7680 := m ((c : Thread nD τ).loc main_arg1)

/-- The input's block at point `t`. -/
def X0 (t : Fin cfg0.N) : Vec Ideal S1024x2048 .bf16 := iblk m c 0 t
/-- The weights' block. -/
def X1 (t : Fin cfg0.N) : Vec Ideal S1x2048x640 .bf16 := iblk m c 1 t

theorem X0_apply (t : Fin cfg0.N) (a : Fin 1024) (k : Fin 2048) :
    (X0 m c t (ix2 a k) : EReal) = H m c (ix2 ⟨1024 * (t.val / 12) + a.val, by have := t.isLt; have : cfg0.N = 24 := N_0; omega⟩ k) := by
  obtain ⟨e0, -, -⟩ := idx t
  unfold X0 H
  blk_simp [iblk, V, e0]
  entry_read
  pointwise
  blk_ext [iblk, V, e0]

theorem X1_apply (t : Fin cfg0.N) (l : Fin 640) (k : Fin 2048) :
    (X1 m c t (ix3 0 k l) : EReal) = W m c (ix2 k ⟨t.val % 12 / 3 * 1920 + (640 * (t.val % 3) + l.val), by omega⟩) := by
  obtain ⟨-, e1, -⟩ := idx t
  unfold X1 W
  blk_simp [iblk, V, e1]
  entry_read
  pointwise
  blk_ext [iblk, V, e1]

/-- One block of the kernel's array. -/
theorem block2 (t : Fin cfg0.N) (a : Fin 1024) (l : Fin 640) : out0_2 (X0 m c t) (X1 m c t) (ix2 a l) = Products.product (H m c) (W m c)
    (ix2 ⟨1024 * (t.val / 12) + a.val, by have := t.isLt; have : cfg0.N = 24 := N_0; omega⟩ ⟨640 * (t.val % 12) + l.val, by omega⟩) :=
  (block _ _ a l).trans (Finset.sum_congr rfl fun k _ => congrArg₂ (· * ·) (X0_apply m c t a k)
    ((X1_apply m c t l k).trans (Products.entry _ rfl (show t.val % 12 / 3 * 1920 + (640 * (t.val % 3) + l.val) = 640 * (t.val % 12) + l.val by omega))))

/-- The kernel's array, block by block, is the product. -/
theorem arrAt2 : (dats m 0 c).arrAt 2 cfg0.N = Products.product (H m c) (W m c) := by
  refine (dats m 0 c).arrAt_eq_of_covers 2 _ (by decide +kernel) fun t hf y => ?_
  obtain ⟨-, -, e2⟩ := idx t
  obtain ⟨a, b, rfl⟩ : ∃ (a : Fin 1024) (b : Fin 640), y = ix2 a b := ⟨y 0, y 1, eq_ix2 y⟩
  blk_simp [e2]
  rw [after0_2]
  refine (block2 m c t a b).trans ?_
  blk_ext [e2]

end Kernel

section Reference

open Cert.ProjInRefIdeal Cert.ProjInRefIdeal.Gen Cert.Products Idealize.ShloMosaic Idealize.ShloMosaic.TcCoe Idealize.SL.Sem

/-- The reference's product is the same sum. -/
theorem ref (x : FVec Ideal S2048x2048 .f32) (w : FVec Ideal S2048x7680 .f32) :
    (Host.dotGeneral dot_S2048x2048_S2048x7680_S2048x7680_1_0_0_1_n_n none x w : FVec Ideal S2048x7680 .f32) =
      Products.product (T := 2048) (K := 2048) (N := 7680) x w := by
  funext y
  obtain ⟨a, b, rfl⟩ : ∃ (a : Fin 2048) (b : Fin 7680), y = ix2 a b := ⟨y 0, y 1, eq_ix2 y⟩
  unfold Products.product
  pointwise

end Reference

open Idealize.ShloMosaic Idealize.ShloMosaic.TcCoe Idealize.SL.Sem

/-- The reference's frame: it has no semaphores, and its run keeps its arguments. -/
theorem ref_frame : Cert.quiescent_ProjInRefIdeal (hProjInRefIdeal := Cert.ProjInRefIdeal.Gen.facts) := fun m ρ _ =>
  (θ_run _ _ _).mono (fun r h => ⟨fun c => (h c).2, sem_eq_zero_of_no_sems (by decide) _⟩) (Cert.ProjInRefIdeal.Value.run m ρ)

/-- The kernel's array is the reference's. -/
theorem algebraic : Cert.algebraic_ProjInIdeal_ProjInRefIdeal (hProjInIdeal := Cert.ProjInIdeal.Gen.facts) (hProjInRefIdeal := Cert.ProjInRefIdeal.Gen.facts) := by
  intro m ρ m' ρ' _ hm
  refine ⟨fun c => Products.product (H m c) (W m c), ?_, ?_⟩
  · exact (θ_run _ _ _).mono (fun r h c => ⟨(h c).1.trans (arrAt2 m c), (h c).2⟩) (Cert.ProjInIdeal.Value.run_blocks m ρ)
  · refine (θ_run _ _ _).mono (fun r h c => ⟨?_, (h c).2⟩) (Cert.ProjInRefIdeal.Value.run m' ρ')
    obtain ⟨e0, e1⟩ := hm c
    exact (h c).1.trans ((ref _ _).trans (congrArg₂ (Products.product (T := 2048) (K := 2048) (N := 7680)) e0 e1))

end Cert.ProjInVal

end
-- ==== Proof.GateVal.lean ====
/- The feed-forward half's gate: each block of the product is stored in six chunks of columns, the last half as wide. -/
module

public import proofs.«01_k».proof.Defs
public import proofs.«01_k».proof.Proof.Gen.GateIdeal.Value
public import proofs.«01_k».proof.Proof.Gen.GateRefIdeal.Run
public import proofs.«01_k».proof.Proof.Forward
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.GateVal

section Kernel

open Cert.GateIdeal Cert.GateIdeal.Gen Cert.Products Idealize.ShloMosaic Idealize.ShloMosaic.TcCoe Idealize.SL.Sem

theorem hz : (![0, 0] : Fin 2 → ℕ) = fun _ => 0 := by decide

/-- One chunk of the product. -/
theorem chunk (v0 : Vec Ideal S256x2048 .bf16) (v2 : Vec Ideal S1x2048x256 .bf16) (a : Fin 256) (l : Fin 256) :
    k0_pay3 v0 v2 (ix2 a l) = ∑ k : Fin 2048, ((v0 (ix2 a k) : EReal) * v2 (ix3 0 k l) : EReal) := by
  pointwise [k0_pay3]

/-- The last chunk is half as wide. -/
theorem chunk_half (v0 : Vec Ideal S256x2048 .bf16) (v2 : Vec Ideal S1x2048x128 .bf16) (a : Fin 256) (l : Fin 128) :
    k0_pay2 v0 v2 (ix2 a l) = ∑ k : Fin 2048, ((v0 (ix2 a k) : EReal) * v2 (ix3 0 k l) : EReal) := by
  pointwise [k0_pay2]

section Chunks

variable (x0 : Vec Ideal S256x2048 .bf16) (x1 : Vec Ideal S1x2048x1408 .bf16) (a : Fin 256) (l : Fin 1408)

/-- The product's entry in a block. -/
def dotB : EReal := ∑ k : Fin 2048, ((x0 (ix2 a k) : EReal) * x1 (ix3 0 k l) : EReal)

theorem ld_cols {W off : ℕ} (inb) (x : Vec Ideal S1x2048x1408 .bf16) (j : Fin W) (n : Fin 2048) (h : l.val = off + j.val) :
    View.ld x (Rect.unit (s := S1x2048x1408) ![0, 0, off] ![1, 2048, W] inb) (ix3 0 n j) = x (ix3 0 n l) :=
  View.ld_unit_apply_of _ _ _ _ _ _ fun k => by
    fin_cases k
    · rfl
    · show n.val = 0 + n.val; omega
    · exact h

/-- A payload whose entries in row `a` are known wherever the chunk meets column `l`. -/
theorem tile (W off : ℕ) (w : Vec Ideal ⟨2, ![256, W]⟩ .f32) (v : EReal) (h : ∀ j : Fin W, l.val = off + j.val → w (ix2 a j) = v) :
    View.TileAt (Val := Elt Ideal) (S := S256x1408) (e := .f32) (ix2 a l) ![0, off] ![256, W] w v := by
  intro x hx
  obtain ⟨b, j, rfl⟩ : ∃ (b : Fin 256) (j : Fin W), x = ix2 b j := ⟨x 0, x 1, eq_ix2 x⟩
  obtain rfl : a = b := Fin.ext ((hx 0).trans (Nat.zero_add _))
  exact h j (hx 1)

/-- A chunk, wherever it lies. -/
theorem tile_full (off : ℕ) (i1) :
    View.TileAt (Val := Elt Ideal) (S := S256x1408) (e := .f32) (ix2 a l) ![0, off] ![256, 256]
      (k0_pay3 x0 (View.ld x1 (Rect.unit (s := S1x2048x1408) ![0, 0, off] ![1, 2048, 256] i1))) (dotB x0 x1 a l) :=
  tile a l 256 off _ _ fun j hl => (chunk _ _ a j).trans (Finset.sum_congr rfl fun n _ => congrArg (_ * ·) (ld_cols l _ x1 j n hl))

/-- The last chunk. -/
theorem tile_last (i1) :
    View.TileAt (Val := Elt Ideal) (S := S256x1408) (e := .f32) (ix2 a l) ![0, 1280] ![256, 128]
      (k0_pay2 x0 (View.ld x1 (Rect.unit (s := S1x2048x1408) ![0, 0, 1280] ![1, 2048, 128] i1))) (dotB x0 x1 a l) :=
  tile a l 128 1280 _ _ fun j hl => (chunk_half _ _ a j).trans (Finset.sum_congr rfl fun n _ => congrArg (_ * ·) (ld_cols l _ x1 j n hl))

end Chunks

/-- The output's block. -/
theorem o2 (c : Dev nD) (i : grid0.Coords) (a2 : Memref sig .tc .vmem S256x2048 .bf16) (h2 : a2.IsWhole) (a3 : Memref sig .tc .vmem S1x2048x1408 .bf16) (h3 : a3.IsWhole)
    (a4 : Memref sig .tc .vmem S256x1408 .f32) (h4 : a4.IsWhole)
    (x0 : Vec Ideal S256x2048 .bf16) (x1 : Vec Ideal S1x2048x1408 .bf16) (a : Fin 256) (l : Fin 1408) :
    out0_A_2 c i a2 h2 a3 h3 a4 h4 x0 x1 (ix2 a l) = dotB x0 x1 a l := by
  unfold out0_A_2
  rw [View.read_writes_eq_canon _ _ _ (cover0_A_2 c i a2 h2 a3 h3 a4 h4 x0 x1)]
  refine View.canon_eq_of_allAt _ _ _ (cover0_A_2 c i a2 h2 a3 h3 a4 h4 x0 x1 _) ?_
  unfold kernelRun0_A
  dsimp only
  sl_unfold_words
  simp only [View.readAt_eq_ld, h2.read_unread, h3.read_unread, View.ld_unit_zero (S := S256x2048) hz]
  have g := tile_full x0 x1 a l
  exact View.allAt_cons_unit _ _ _ _ _ (tile_last x0 x1 a l _) (View.allAt_cons_unit _ _ _ _ _ (g 1024 _) (View.allAt_cons_unit _ _ _ _ _ (g 768 _)
    (View.allAt_cons_unit _ _ _ _ _ (g 512 _) (View.allAt_cons_unit _ _ _ _ _ (g 256 _) (View.allAt_cons_unit _ _ _ _ _ (g 0 _) (View.allAt_nil _ _))))))

theorem idx : ∀ t : Fin cfg0.N, win0_0.index t = ![t.val % 8, 0] ∧ win0_1.index t = ![t.val / 8, 0, 0] ∧ win0_2.index t = ![t.val % 8, t.val / 8] :=
  (by decide +kernel : ∀ t : Fin grid0.N, _)

variable (m : (ℓ : Loc nD τ sig) → Buf (Elt Ideal) ℓ) (c : Dev nD)

/-- The input. -/
def H : Mat 2048 2048 := m ((c : Thread nD τ).loc main_arg0)
/-- The weights. -/
def W : Mat 2048 5632 := m ((c : Thread nD τ).loc main_arg1)

/-- The input's block at point `t`. -/
def X0 (t : Fin cfg0.N) : Vec Ideal S256x2048 .bf16 := iblk m c 0 t
/-- The weights' block. -/
def X1 (t : Fin cfg0.N) : Vec Ideal S1x2048x1408 .bf16 := iblk m c 1 t

theorem X0_apply (t : Fin cfg0.N) (a : Fin 256) (k : Fin 2048) :
    (X0 m c t (ix2 a k) : EReal) = H m c (ix2 ⟨256 * (t.val % 8) + a.val, by omega⟩ k) := by
  obtain ⟨e0, -, -⟩ := idx t
  unfold X0 H
  blk_simp [iblk, V, e0]
  entry_read
  pointwise
  blk_ext [iblk, V, e0]

theorem X1_apply (t : Fin cfg0.N) (l : Fin 1408) (k : Fin 2048) :
    (X1 m c t (ix3 0 k l) : EReal) = W m c (ix2 k ⟨t.val / 8 * 1408 + l.val, by have := t.isLt; have : cfg0.N = 32 := N_0; omega⟩) := by
  obtain ⟨-, e1, -⟩ := idx t
  unfold X1 W
  blk_simp [iblk, V, e1]
  entry_read
  pointwise
  blk_ext [iblk, V, e1]

theorem dot_apply (t : Fin cfg0.N) (a : Fin 256) (l : Fin 1408) :
    dotB (X0 m c t) (X1 m c t) a l = Products.product (H m c) (W m c)
      (ix2 ⟨256 * (t.val % 8) + a.val, by omega⟩ ⟨t.val / 8 * 1408 + l.val, by have := t.isLt; have : cfg0.N = 32 := N_0; omega⟩) :=
  Finset.sum_congr rfl fun k _ => congrArg₂ (· * ·) (X0_apply m c t a k) (X1_apply m c t l k)

theorem block2 (t : Fin cfg0.N) (a : Fin 256) (l : Fin 1408) : (outsAt0 m c t (ix2 a l) : EReal) = Products.product (H m c) (W m c)
    (ix2 ⟨256 * (t.val % 8) + a.val, by omega⟩ ⟨t.val / 8 * 1408 + l.val, by have := t.isLt; have : cfg0.N = 32 := N_0; omega⟩) := by
  unfold outsAt0
  rw [o2]
  exact dot_apply m c t a l

/-- The kernel's array, block by block, is the product. -/
theorem arrAt2 : (dats m 0 c).arrAt 2 cfg0.N = Products.product (H m c) (W m c) := by
  refine (dats m 0 c).arrAt_eq_of_covers 2 _ (by decide +kernel) fun t hf y => ?_
  obtain ⟨-, -, e2⟩ := idx t
  obtain ⟨a, b, rfl⟩ : ∃ (a : Fin 256) (b : Fin 1408), y = ix2 a b := ⟨y 0, y 1, eq_ix2 y⟩
  blk_simp [e2]
  rw [after0_2]
  refine (block2 m c t a b).trans ?_
  blk_ext [e2]

end Kernel

section Reference

open Cert.GateRefIdeal Cert.GateRefIdeal.Gen Cert.Products Idealize.ShloMosaic Idealize.ShloMosaic.TcCoe Idealize.SL.Sem

/-- The reference's product is the same sum. -/
theorem ref (x : FVec Ideal S2048x2048 .f32) (w : FVec Ideal S2048x5632 .f32) :
    (Host.dotGeneral dot_S2048x2048_S2048x5632_S2048x5632_1_0_0_1_n_n none x w : FVec Ideal S2048x5632 .f32) =
      Products.product (T := 2048) (K := 2048) (N := 5632) x w := by
  funext y
  obtain ⟨a, b, rfl⟩ : ∃ (a : Fin 2048) (b : Fin 5632), y = ix2 a b := ⟨y 0, y 1, eq_ix2 y⟩
  unfold Products.product
  pointwise

end Reference

open Idealize.ShloMosaic Idealize.ShloMosaic.TcCoe Idealize.SL.Sem

/-- The reference's frame: it has no semaphores, and its run keeps its arguments. -/
theorem ref_frame : Cert.quiescent_GateRefIdeal (hGateRefIdeal := Cert.GateRefIdeal.Gen.facts) := fun m ρ _ =>
  (θ_run _ _ _).mono (fun r h => ⟨fun c => (h c).2, sem_eq_zero_of_no_sems (by decide) _⟩) (Cert.GateRefIdeal.Value.run m ρ)

/-- The kernel's array is the reference's. -/
theorem algebraic : Cert.algebraic_GateIdeal_GateRefIdeal (hGateIdeal := Cert.GateIdeal.Gen.facts) (hGateRefIdeal := Cert.GateRefIdeal.Gen.facts) := by
  intro m ρ m' ρ' _ hm
  refine ⟨fun c => Products.product (H m c) (W m c), ?_, ?_⟩
  · exact (θ_run _ _ _).mono (fun r h c => ⟨(h c).1.trans (arrAt2 m c), (h c).2⟩) (Cert.GateIdeal.Value.run_blocks m ρ)
  · refine (θ_run _ _ _).mono (fun r h c => ⟨?_, (h c).2⟩) (Cert.GateRefIdeal.Value.run m' ρ')
    obtain ⟨e0, e1⟩ := hm c
    exact (h c).1.trans ((ref _ _).trans (congrArg₂ (Products.product (T := 2048) (K := 2048) (N := 5632)) e0 e1))

end Cert.GateVal

end
-- ==== Proof.UpActVal.lean ====
/- The feed-forward half's activation: each block of the product by the up weights is stored in six chunks of columns, the last
   half as wide, and beside it the block times the gate's `x σ(x)`. -/
module

public import proofs.«01_k».proof.Defs
public import proofs.«01_k».proof.Proof.Gen.UpActIdeal.Value
public import proofs.«01_k».proof.Proof.Gen.UpActRefIdeal.Run
public import proofs.«01_k».proof.Proof.Forward
public import proofs.«01_k».proof.Proof.Gates
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.UpActVal

section Kernel

open Cert.UpActIdeal Cert.UpActIdeal.Gen Cert.Products Cert.Gates Idealize.ShloMosaic Idealize.ShloMosaic.TcCoe Idealize.SL.Sem

theorem hz : (![0, 0] : Fin 2 → ℕ) = fun _ => 0 := by decide

/-- One chunk of the product. -/
theorem chunk (v0 : Vec Ideal S256x2048 .bf16) (v2 : Vec Ideal S1x2048x256 .bf16) (a : Fin 256) (l : Fin 256) :
    k0_pay3 v0 v2 (ix2 a l) = ∑ k : Fin 2048, ((v0 (ix2 a k) : EReal) * v2 (ix3 0 k l) : EReal) := by
  pointwise [k0_pay3]

/-- The last chunk is half as wide. -/
theorem chunk_half (v0 : Vec Ideal S256x2048 .bf16) (v2 : Vec Ideal S1x2048x128 .bf16) (a : Fin 256) (l : Fin 128) :
    k0_pay1 v0 v2 (ix2 a l) = ∑ k : Fin 2048, ((v0 (ix2 a k) : EReal) * v2 (ix3 0 k l) : EReal) := by
  pointwise [k0_pay1]

/-- The activation: the gate's logit `g` times its logistic, times the other factor `u`. -/
def act (g u : EReal) : EReal := g * sg g * u

/-- One chunk of the activation. -/
theorem act_chunk (v0 : Vec Ideal S256x2048 .bf16) (v2 : Vec Ideal S1x2048x256 .bf16) (v5 : Vec Ideal S256x256 .f32) (a : Fin 256) (l : Fin 256) :
    k0_pay4 v0 v2 v5 (ix2 a l) = act (v5 (ix2 a l)) (∑ k : Fin 2048, ((v0 (ix2 a k) : EReal) * v2 (ix3 0 k l) : EReal)) := by
  pointwise [k0_pay4, k0_pay3]
  rfl

/-- The activation's last chunk. -/
theorem act_half (v0 : Vec Ideal S256x2048 .bf16) (v2 : Vec Ideal S1x2048x128 .bf16) (v5 : Vec Ideal S256x128 .f32) (a : Fin 256) (l : Fin 128) :
    k0_pay2 v0 v2 v5 (ix2 a l) = act (v5 (ix2 a l)) (∑ k : Fin 2048, ((v0 (ix2 a k) : EReal) * v2 (ix3 0 k l) : EReal)) := by
  pointwise [k0_pay2, k0_pay1]
  rfl

section Chunks

variable (x0 : Vec Ideal S256x2048 .bf16) (x1 : Vec Ideal S1x2048x1408 .bf16) (a : Fin 256) (l : Fin 1408)

/-- The product's entry in a block. -/
def dotB : EReal := ∑ k : Fin 2048, ((x0 (ix2 a k) : EReal) * x1 (ix3 0 k l) : EReal)

theorem ld_cols {W off : ℕ} (inb) (x : Vec Ideal S1x2048x1408 .bf16) (j : Fin W) (n : Fin 2048) (h : l.val = off + j.val) :
    View.ld x (Rect.unit (s := S1x2048x1408) ![0, 0, off] ![1, 2048, W] inb) (ix3 0 n j) = x (ix3 0 n l) :=
  View.ld_unit_apply_of _ _ _ _ _ _ fun k => by
    fin_cases k
    · rfl
    · show n.val = 0 + n.val; omega
    · exact h

/-- A payload whose entries in row `a` are known wherever the chunk meets column `l`. -/
theorem tile (W off : ℕ) (w : Vec Ideal ⟨2, ![256, W]⟩ .f32) (v : EReal) (h : ∀ j : Fin W, l.val = off + j.val → w (ix2 a j) = v) :
    View.TileAt (Val := Elt Ideal) (S := S256x1408) (e := .f32) (ix2 a l) ![0, off] ![256, W] w v := by
  intro x hx
  obtain ⟨b, j, rfl⟩ : ∃ (b : Fin 256) (j : Fin W), x = ix2 b j := ⟨x 0, x 1, eq_ix2 x⟩
  obtain rfl : a = b := Fin.ext ((hx 0).trans (Nat.zero_add _))
  exact h j (hx 1)

/-- A chunk, wherever it lies. -/
theorem tile_full (off : ℕ) (i1) :
    View.TileAt (Val := Elt Ideal) (S := S256x1408) (e := .f32) (ix2 a l) ![0, off] ![256, 256]
      (k0_pay3 x0 (View.ld x1 (Rect.unit (s := S1x2048x1408) ![0, 0, off] ![1, 2048, 256] i1))) (dotB x0 x1 a l) :=
  tile a l 256 off _ _ fun j hl => (chunk _ _ a j).trans (Finset.sum_congr rfl fun n _ => congrArg (_ * ·) (ld_cols l _ x1 j n hl))

/-- The last chunk. -/
theorem tile_last (i1) :
    View.TileAt (Val := Elt Ideal) (S := S256x1408) (e := .f32) (ix2 a l) ![0, 1280] ![256, 128]
      (k0_pay1 x0 (View.ld x1 (Rect.unit (s := S1x2048x1408) ![0, 0, 1280] ![1, 2048, 128] i1))) (dotB x0 x1 a l) :=
  tile a l 128 1280 _ _ fun j hl => (chunk_half _ _ a j).trans (Finset.sum_congr rfl fun n _ => congrArg (_ * ·) (ld_cols l _ x1 j n hl))

/-- The activation's payload, likewise. -/
theorem act_at (W off : ℕ) (w : Vec Ideal ⟨2, ![256, W]⟩ .bf16) (v : EReal) (h : ∀ j : Fin W, l.val = off + j.val → w (ix2 a j) = v) :
    View.TileAt (Val := Elt Ideal) (S := S256x1408) (e := .bf16) (ix2 a l) ![0, off] ![256, W] w v := by
  intro x hx
  obtain ⟨b, j, rfl⟩ : ∃ (b : Fin 256) (j : Fin W), x = ix2 b j := ⟨x 0, x 1, eq_ix2 x⟩
  obtain rfl : a = b := Fin.ext ((hx 0).trans (Nat.zero_add _))
  exact h j (hx 1)

theorem ld_gate {W off : ℕ} (inb) (x : Vec Ideal S256x1408 .f32) (j : Fin W) (h : l.val = off + j.val) :
    View.ld x (Rect.unit (s := S256x1408) ![0, off] ![256, W] inb) (ix2 a j) = x (ix2 a l) :=
  View.ld_unit_apply_of _ _ _ _ _ _ fun k => by
    fin_cases k
    · show a.val = 0 + a.val; omega
    · exact h

variable (x2 : Vec Ideal S256x1408 .f32)

/-- A chunk of the activation, wherever it lies. -/
theorem act_full (off : ℕ) (i1) (i2) :
    View.TileAt (Val := Elt Ideal) (S := S256x1408) (e := .bf16) (ix2 a l) ![0, off] ![256, 256]
      (k0_pay4 x0 (View.ld x1 (Rect.unit (s := S1x2048x1408) ![0, 0, off] ![1, 2048, 256] i1)) (View.ld x2 (Rect.unit (s := S256x1408) ![0, off] ![256, 256] i2)))
      (act (x2 (ix2 a l)) (dotB x0 x1 a l)) :=
  act_at a l 256 off _ _ fun j hl => by
    refine (act_chunk _ _ _ a j).trans ?_
    rw [ld_gate a l _ x2 j hl]
    exact congrArg (act _) (Finset.sum_congr rfl fun n _ => congrArg (_ * ·) (ld_cols l _ x1 j n hl))

/-- The last chunk of the activation. -/
theorem act_last (i1) (i2) :
    View.TileAt (Val := Elt Ideal) (S := S256x1408) (e := .bf16) (ix2 a l) ![0, 1280] ![256, 128]
      (k0_pay2 x0 (View.ld x1 (Rect.unit (s := S1x2048x1408) ![0, 0, 1280] ![1, 2048, 128] i1)) (View.ld x2 (Rect.unit (s := S256x1408) ![0, 1280] ![256, 128] i2)))
      (act (x2 (ix2 a l)) (dotB x0 x1 a l)) :=
  act_at a l 128 1280 _ _ fun j hl => by
    refine (act_half _ _ _ a j).trans ?_
    rw [ld_gate a l _ x2 j hl]
    exact congrArg (act _) (Finset.sum_congr rfl fun n _ => congrArg (_ * ·) (ld_cols l _ x1 j n hl))

end Chunks

/-- The product's block. -/
theorem o3 (c : Dev nD) (i : grid0.Coords) (a2 : Memref sig .tc .vmem S256x2048 .bf16) (h2 : a2.IsWhole) (a3 : Memref sig .tc .vmem S1x2048x1408 .bf16) (h3 : a3.IsWhole)
    (a4 : Memref sig .tc .vmem S256x1408 .f32) (h4 : a4.IsWhole) (a5 : Memref sig .tc .vmem S256x1408 .f32) (h5 : a5.IsWhole)
    (a6 : Memref sig .tc .vmem S256x1408 .bf16) (h6 : a6.IsWhole)
    (x0 : Vec Ideal S256x2048 .bf16) (x1 : Vec Ideal S1x2048x1408 .bf16) (x2 : Vec Ideal S256x1408 .f32) (a : Fin 256) (l : Fin 1408) :
    out0_A_3 c i a2 h2 a3 h3 a4 h4 a5 h5 a6 h6 x0 x1 x2 (ix2 a l) = dotB x0 x1 a l := by
  unfold out0_A_3
  rw [View.read_writes_eq_canon _ _ _ (cover0_A_3 c i a2 h2 a3 h3 a4 h4 a5 h5 a6 h6 x0 x1 x2)]
  refine View.canon_eq_of_allAt _ _ _ (cover0_A_3 c i a2 h2 a3 h3 a4 h4 a5 h5 a6 h6 x0 x1 x2 _) ?_
  unfold kernelRun0_A
  dsimp only
  sl_unfold_words
  simp only [View.readAt_eq_ld, h2.read_unread, h3.read_unread, h4.read_unread, View.ld_unit_zero (S := S256x2048) hz]
  have g := tile_full x0 x1 a l
  exact View.allAt_cons_unit _ _ _ _ _ (tile_last x0 x1 a l _) (View.allAt_cons_unit _ _ _ _ _ (g 1024 _) (View.allAt_cons_unit _ _ _ _ _ (g 768 _)
    (View.allAt_cons_unit _ _ _ _ _ (g 512 _) (View.allAt_cons_unit _ _ _ _ _ (g 256 _) (View.allAt_cons_unit _ _ _ _ _ (g 0 _) (View.allAt_nil _ _))))))

/-- The activation's block. -/
theorem o4 (c : Dev nD) (i : grid0.Coords) (a2 : Memref sig .tc .vmem S256x2048 .bf16) (h2 : a2.IsWhole) (a3 : Memref sig .tc .vmem S1x2048x1408 .bf16) (h3 : a3.IsWhole)
    (a4 : Memref sig .tc .vmem S256x1408 .f32) (h4 : a4.IsWhole) (a5 : Memref sig .tc .vmem S256x1408 .f32) (h5 : a5.IsWhole)
    (a6 : Memref sig .tc .vmem S256x1408 .bf16) (h6 : a6.IsWhole)
    (x0 : Vec Ideal S256x2048 .bf16) (x1 : Vec Ideal S1x2048x1408 .bf16) (x2 : Vec Ideal S256x1408 .f32) (a : Fin 256) (l : Fin 1408) :
    out0_A_4 c i a2 h2 a3 h3 a4 h4 a5 h5 a6 h6 x0 x1 x2 (ix2 a l) = act (x2 (ix2 a l)) (dotB x0 x1 a l) := by
  unfold out0_A_4
  rw [View.read_writes_eq_canon _ _ _ (cover0_A_4 c i a2 h2 a3 h3 a4 h4 a5 h5 a6 h6 x0 x1 x2)]
  refine View.canon_eq_of_allAt _ _ _ (cover0_A_4 c i a2 h2 a3 h3 a4 h4 a5 h5 a6 h6 x0 x1 x2 _) ?_
  unfold kernelRun0_A
  dsimp only
  sl_unfold_words
  simp only [View.readAt_eq_ld, h2.read_unread, h3.read_unread, h4.read_unread, View.ld_unit_zero (S := S256x2048) hz]
  have g := act_full x0 x1 a l x2
  exact View.allAt_cons_unit _ _ _ _ _ (act_last x0 x1 a l x2 _ _) (View.allAt_cons_unit _ _ _ _ _ (g 1024 _ _) (View.allAt_cons_unit _ _ _ _ _ (g 768 _ _)
    (View.allAt_cons_unit _ _ _ _ _ (g 512 _ _) (View.allAt_cons_unit _ _ _ _ _ (g 256 _ _) (View.allAt_cons_unit _ _ _ _ _ (g 0 _ _) (View.allAt_nil _ _))))))

theorem idx : ∀ t : Fin cfg0.N, win0_0.index t = ![t.val % 8, 0] ∧ win0_1.index t = ![t.val / 8, 0, 0] ∧ win0_2.index t = ![t.val % 8, t.val / 8] ∧
    win0_3.index t = ![t.val % 8, t.val / 8] ∧ win0_4.index t = ![t.val % 8, t.val / 8] :=
  (by decide +kernel : ∀ t : Fin grid0.N, _)

variable (m : (ℓ : Loc nD τ sig) → Buf (Elt Ideal) ℓ) (c : Dev nD)

/-- The input. -/
def H : Mat 2048 2048 := m ((c : Thread nD τ).loc main_arg0)
/-- The weights. -/
def W : Mat 2048 5632 := m ((c : Thread nD τ).loc main_arg1)

/-- The gate's logits. -/
def G : Mat 2048 5632 := m ((c : Thread nD τ).loc main_arg2)

/-- The input's block at point `t`. -/
def X0 (t : Fin cfg0.N) : Vec Ideal S256x2048 .bf16 := iblk m c 0 t
/-- The weights' block. -/
def X1 (t : Fin cfg0.N) : Vec Ideal S1x2048x1408 .bf16 := iblk m c 1 t

/-- The logits' block. -/
def X2 (t : Fin cfg0.N) : Vec Ideal S256x1408 .f32 := iblk m c 2 t

theorem X0_apply (t : Fin cfg0.N) (a : Fin 256) (k : Fin 2048) :
    (X0 m c t (ix2 a k) : EReal) = H m c (ix2 ⟨256 * (t.val % 8) + a.val, by omega⟩ k) := by
  obtain ⟨e0, -, -, -, -⟩ := idx t
  unfold X0 H
  blk_simp [iblk, V, e0]
  entry_read
  pointwise
  blk_ext [iblk, V, e0]

theorem X1_apply (t : Fin cfg0.N) (l : Fin 1408) (k : Fin 2048) :
    (X1 m c t (ix3 0 k l) : EReal) = W m c (ix2 k ⟨t.val / 8 * 1408 + l.val, by have := t.isLt; have : cfg0.N = 32 := N_0; omega⟩) := by
  obtain ⟨-, e1, -, -, -⟩ := idx t
  unfold X1 W
  blk_simp [iblk, V, e1]
  entry_read
  pointwise
  blk_ext [iblk, V, e1]

theorem X2_apply (t : Fin cfg0.N) (a : Fin 256) (l : Fin 1408) :
    (X2 m c t (ix2 a l) : EReal) = G m c (ix2 ⟨256 * (t.val % 8) + a.val, by omega⟩ ⟨t.val / 8 * 1408 + l.val, by have := t.isLt; have : cfg0.N = 32 := N_0; omega⟩) := by
  obtain ⟨-, -, e2, -, -⟩ := idx t
  unfold X2 G
  blk_simp [iblk, V, e2]
  entry_read
  pointwise
  blk_ext [iblk, V, e2]

theorem dot_apply (t : Fin cfg0.N) (a : Fin 256) (l : Fin 1408) :
    dotB (X0 m c t) (X1 m c t) a l = Products.product (H m c) (W m c)
      (ix2 ⟨256 * (t.val % 8) + a.val, by omega⟩ ⟨t.val / 8 * 1408 + l.val, by have := t.isLt; have : cfg0.N = 32 := N_0; omega⟩) :=
  Finset.sum_congr rfl fun k _ => congrArg₂ (· * ·) (X0_apply m c t a k) (X1_apply m c t l k)

/-- The activation, entry by entry. -/
def actArr (h : Mat 2048 2048) (w : Mat 2048 5632) (g : Mat 2048 5632) : Mat 2048 5632 := fun i => act (g i) (Products.product h w i)

theorem block3 (t : Fin cfg0.N) (a : Fin 256) (l : Fin 1408) : ((outsAt0 m c t).1 (ix2 a l) : EReal) = Products.product (H m c) (W m c)
    (ix2 ⟨256 * (t.val % 8) + a.val, by omega⟩ ⟨t.val / 8 * 1408 + l.val, by have := t.isLt; have : cfg0.N = 32 := N_0; omega⟩) := by
  unfold outsAt0
  dsimp only
  rw [o3]
  exact dot_apply m c t a l

theorem block4 (t : Fin cfg0.N) (a : Fin 256) (l : Fin 1408) : ((outsAt0 m c t).2 (ix2 a l) : EReal) = actArr (H m c) (W m c) (G m c)
    (ix2 ⟨256 * (t.val % 8) + a.val, by omega⟩ ⟨t.val / 8 * 1408 + l.val, by have := t.isLt; have : cfg0.N = 32 := N_0; omega⟩) := by
  unfold outsAt0
  dsimp only
  rw [o4]
  exact congrArg₂ act (X2_apply m c t a l) (dot_apply m c t a l)

/-- The kernel's first array, block by block, is the product. -/
theorem arrAt3 : (dats m 0 c).arrAt 3 cfg0.N = Products.product (H m c) (W m c) := by
  refine (dats m 0 c).arrAt_eq_of_covers 3 _ (by decide +kernel) fun t hf y => ?_
  obtain ⟨-, -, -, e3, -⟩ := idx t
  obtain ⟨a, b, rfl⟩ : ∃ (a : Fin 256) (b : Fin 1408), y = ix2 a b := ⟨y 0, y 1, eq_ix2 y⟩
  blk_simp [e3]
  rw [after0_3]
  refine (block3 m c t a b).trans ?_
  blk_ext [e3]

/-- The second is the activation. -/
theorem arrAt4 : (dats m 0 c).arrAt 4 cfg0.N = actArr (H m c) (W m c) (G m c) := by
  refine (dats m 0 c).arrAt_eq_of_covers 4 _ (by decide +kernel) fun t hf y => ?_
  obtain ⟨-, -, -, -, e4⟩ := idx t
  obtain ⟨a, b, rfl⟩ : ∃ (a : Fin 256) (b : Fin 1408), y = ix2 a b := ⟨y 0, y 1, eq_ix2 y⟩
  blk_simp [e4]
  rw [after0_4]
  refine (block4 m c t a b).trans ?_
  blk_ext [e4]

end Kernel

section Reference

open Cert.UpActRefIdeal Cert.UpActRefIdeal.Gen Cert.Products Cert.Gates Idealize.ShloMosaic Idealize.ShloMosaic.TcCoe Idealize.SL.Sem

/-- The reference's product is the same sum. -/
theorem ref (x : FVec Ideal S2048x2048 .f32) (w : FVec Ideal S2048x5632 .f32) :
    (Host.dotGeneral dot_S2048x2048_S2048x5632_S2048x5632_1_0_0_1_n_n none x w : FVec Ideal S2048x5632 .f32) =
      Products.product (T := 2048) (K := 2048) (N := 5632) x w := by
  funext y
  obtain ⟨a, b, rfl⟩ : ∃ (a : Fin 2048) (b : Fin 5632), y = ix2 a b := ⟨y 0, y 1, eq_ix2 y⟩
  unfold Products.product
  pointwise

variable {x : FVec Ideal S2048x2048 .f32} {w : FVec Ideal S2048x5632 .f32} {g : FVec Ideal S2048x5632 .f32}

/-- The reference's activation, entry by entry. -/
theorem ref_act :
    (truncf .bf16 (mulf (mulf g (Host.divf (broadcastInDim S2048x5632 ![] bcast_S_S2048x5632 (constant S_ .f32 0x3F800000#32)) (addf (broadcastInDim S2048x5632 ![] bcast_S_S2048x5632 (constant S_ .f32 0x3F800000#32)) (Host.exp (Host.negf g))))) (Host.dotGeneral dot_S2048x2048_S2048x5632_S2048x5632_1_0_0_1_n_n none x w)) bitsLt_bf16_f32 : FVec Ideal S2048x5632 .bf16)
      = actArr x w g := by
  rw [ref]
  funext y
  obtain ⟨a, b, rfl⟩ : ∃ (a : Fin 2048) (b : Fin 5632), y = ix2 a b := ⟨y 0, y 1, eq_ix2 y⟩
  unfold actArr act
  pointwise
  simp only [sg, zero_sub]

end Reference

open Idealize.ShloMosaic Idealize.ShloMosaic.TcCoe Idealize.SL.Sem

/-- The reference's frame: it has no semaphores, and its run keeps its arguments. -/
theorem ref_frame : Cert.quiescent_UpActRefIdeal (hUpActRefIdeal := Cert.UpActRefIdeal.Gen.facts) := fun m ρ _ =>
  (θ_run _ _ _).mono (fun r h => ⟨fun c => (h c).2.2, sem_eq_zero_of_no_sems (by decide) _⟩) (Cert.UpActRefIdeal.Value.run m ρ)

/-- The kernel's two arrays are the reference's. -/
theorem algebraic : Cert.algebraic_UpActIdeal_UpActRefIdeal (hUpActIdeal := Cert.UpActIdeal.Gen.facts) (hUpActRefIdeal := Cert.UpActRefIdeal.Gen.facts) := by
  intro m ρ m' ρ' _ hm
  refine ⟨fun c => Products.product (H m c) (W m c), fun c => actArr (H m c) (W m c) (G m c), ?_, ?_⟩
  · exact (θ_run _ _ _).mono (fun r h c => ⟨(h c).1.trans (arrAt3 m c), (h c).2.1.trans (arrAt4 m c), (h c).2.2⟩) (Cert.UpActIdeal.Value.run_blocks m ρ)
  · refine (θ_run _ _ _).mono (fun r h c => ?_) (Cert.UpActRefIdeal.Value.run m' ρ')
    obtain ⟨e0, e1, e2⟩ := hm c
    have h := h c
    rw [e0, e1, e2] at h
    exact ⟨h.1.trans (ref _ _), h.2.1.trans ref_act, by rw [e0, e1, e2]; exact h.2.2⟩

end Cert.UpActVal

end
-- ==== Proof.DownProjVal.lean ====
/- The down projection: the kernel adds the four chips' products into a scratch and the scratch to the residual, the
   reference adds one product. -/
module

public import proofs.«01_k».proof.Defs
public import proofs.«01_k».proof.Proof.Gen.DownProjIdeal.Value
public import proofs.«01_k».proof.Proof.Gen.DownProjRefIdeal.Run
public import proofs.«01_k».proof.Proof.Forward
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.DownProjVal

section Kernel

open Cert.DownProjIdeal Cert.DownProjIdeal.Gen Cert.Products Idealize.ShloMosaic Idealize.ShloMosaic.TcCoe Idealize.SL.Sem

theorem hz : (![0, 0] : Fin 2 → ℕ) = fun _ => 0 := by decide
theorem hz3 : (![0, 0, 0] : Fin 3 → ℕ) = fun _ => 0 := by decide

section Cases

variable (c : Dev nD) (i : grid0.Coords) (a3 : Memref sig .tc .vmem S1024x1408 .bf16) (h3 : a3.IsWhole)
  (a4 : Memref sig .tc .vmem S1x1408x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec Ideal S1024x1408 .bf16) (x1 : Vec Ideal S1x1408x1024 .bf16) (x2 xs : Vec Ideal S1024x1024 .f32)

/-! What each case of the body leaves: the product of its blocks, added to the scratch; the last adds the scratch to the residual. -/

theorem sA (hc0 : cond0_0 i) (hc1 : ¬cond0_1 i) : sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1408) hz, View.ld_unit_zero (S := S1x1408x1024) hz3]

theorem sB (hc0 : ¬cond0_0 i) (hc1 : ¬cond0_1 i) : sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_cons_unit_zero (S := S1024x1024) hz]
  simp only [View.readAt_eq_ld, h3.read_unread, h4.read_unread, h7.read_unread, View.ld_unit_zero (S := S1024x1408) hz, View.ld_unit_zero (S := S1x1408x1024) hz3,
    View.ld_unit_zero (S := S1024x1024) hz]

theorem sC (hc0 : ¬cond0_0 i) (hc1 : cond0_1 i) : sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_cons_unit_zero (S := S1024x1024) hz]
  simp only [View.readAt_eq_ld, h3.read_unread, h4.read_unread, h7.read_unread, View.ld_unit_zero (S := S1024x1408) hz, View.ld_unit_zero (S := S1x1408x1024) hz3,
    View.ld_unit_zero (S := S1024x1024) hz]

theorem oC (hc0 : ¬cond0_0 i) (hc1 : cond0_1 i) : out0_C_3 c i a3 h3 a4 h4 a5 h5 a6 h6 a7 h7 hc0 hc1 x0 x1 x2 xs = k0_pay3 (k0_pay2 xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_cons_unit_zero (S := S1024x1024) hz, View.readCov_unit_zero (S := S1024x1024) _ hz]
  simp only [View.readAt_eq_ld, h3.read_unread, h4.read_unread, h5.read_unread, h7.read_unread, View.ld_unit_zero (S := S1024x1408) hz, View.ld_unit_zero (S := S1x1408x1024) hz3,
    View.ld_unit_zero (S := S1024x1024) hz]

/-- One step: the block's product, added. -/
theorem step (a b : Fin 1024) :
    k0_pay2 xs x0 x1 (ix2 a b) = (xs (ix2 a b) : EReal) + ∑ n : Fin 1408, ((x0 (ix2 a n) : EReal) * x1 (ix3 0 n b) : EReal) := by
  unfold k0_pay2
  pointwise

theorem finish (a b : Fin 1024) : k0_pay3 xs x2 (ix2 a b) = (x2 (ix2 a b) : EReal) + (xs (ix2 a b) : EReal) := by
  unfold k0_pay3
  pointwise

theorem start (a b : Fin 1024) : (k0_pay1 (F := Ideal) (ix2 a b) : EReal) = 0 := by
  unfold k0_pay1
  pointwise

end Cases

theorem idx : ∀ t : Fin cfg0.N, win0_0.index t = ![t.val / 8, t.val % 4] ∧ win0_1.index t = ![t.val % 4, 0, t.val % 8 / 4] ∧
    win0_2.index t = ![t.val / 8, t.val % 8 / 4] ∧ win0_3.index t = ![t.val / 8, t.val % 8 / 4] :=
  (by decide +kernel : ∀ t : Fin grid0.N, _)

variable (m : (ℓ : Loc nD τ sig) → Buf (Elt Ideal) ℓ) (c : Dev nD)

/-- The input. -/
def A : Mat 2048 5632 := m ((c : Thread nD τ).loc main_arg0)
/-- The weights. -/
def W : Mat 5632 2048 := m ((c : Thread nD τ).loc main_arg1)
/-- The residual. -/
def R : Mat 2048 2048 := m ((c : Thread nD τ).loc main_arg2)

/-- The input's block at point `t`. -/
def X0 (t : Fin cfg0.N) : Vec Ideal S1024x1408 .bf16 := iblk m c 0 t
/-- The weights' block at point `t`. -/
def X1 (t : Fin cfg0.N) : Vec Ideal S1x1408x1024 .bf16 := iblk m c 1 t
/-- The residual's block at point `t`. -/
def X2 (t : Fin cfg0.N) : Vec Ideal S1024x1024 .f32 := iblk m c 2 t
/-- The scratch after point `n`. -/
def scr (n : ℕ) (h : n < cfg0.N) : Vec Ideal S1024x1024 .f32 := (outsAt0 m c n h).2

theorem scrA (t : Fin cfg0.N) (h0 : t.val % 4 = 0) : scr m c t.val t.isLt = k0_pay2 k0_pay1 (X0 m c t) (X1 m c t) := by
  unfold scr X0 X1
  rw [outsAt0_A m c t h0 (by omega), sA]

theorem scrB (t : Fin cfg0.N) (h0 : ¬t.val % 4 = 0) :
    scr m c t.val t.isLt = k0_pay2 (scr m c (t.val - 1) (Nat.lt_of_le_of_lt (Nat.sub_le _ _) t.isLt)) (X0 m c t) (X1 m c t) := by
  unfold scr X0 X1
  by_cases h1 : t.val % 4 = 3
  · rw [outsAt0_C m c t h0 h1, sC]
  · rw [outsAt0_B m c t h0 h1, sB]

/-- What the last of four points writes back. -/
theorem outC (t : Fin cfg0.N) (h1 : t.val % 4 = 3) : (outsAt0 m c t.val t.isLt).1 = k0_pay3 (scr m c t.val t.isLt) (X2 m c t) := by
  rw [scrB m c t (by omega)]
  unfold scr X0 X1 X2
  rw [outsAt0_C m c t (by omega) h1, oC]

/-- The product that point `n` adds. -/
def add (n : ℕ) (a b : Fin 1024) : EReal :=
  if h : n < cfg0.N then ∑ k : Fin 1408, ((X0 m c ⟨n, h⟩ (ix2 a k) : EReal) * X1 m c ⟨n, h⟩ (ix3 0 k b) : EReal) else 0

/-- What point `n` leaves in the scratch. -/
def left (n : ℕ) (a b : Fin 1024) : EReal := if h : n < cfg0.N then scr m c n h (ix2 a b) else 0

theorem left_zero (n : ℕ) (h : n < cfg0.N) (h0 : n % 4 = 0) (a b : Fin 1024) : left m c n a b = 0 + add m c n a b := by
  have e := congrFun (scrA m c ⟨n, h⟩ h0) (ix2 a b)
  unfold left add
  rw [dif_pos h, dif_pos h]
  refine (e.trans (step _ _ _ a b)).trans ?_
  rw [start]

theorem left_succ (n : ℕ) (h : n + 1 < cfg0.N) (h0 : ¬(n + 1) % 4 = 0) (a b : Fin 1024) :
    left m c (n + 1) a b = left m c n a b + add m c (n + 1) a b := by
  unfold left add
  rw [dif_pos h, dif_pos h, dif_pos (Nat.lt_of_succ_lt h)]
  exact (congrFun (scrB m c ⟨n + 1, h⟩ h0) (ix2 a b)).trans (step _ _ _ a b)

/-- At a point that writes back, the scratch is the sum of the four points' products. -/
theorem last (n : ℕ) (hn : 4 * n + 3 < cfg0.N) (a b : Fin 1024) :
    (scr m c (4 * n + 3) hn (ix2 a b) : EReal) = ∑ s : Fin 4, add m c (4 * n + s.val) a b := by
  have e := Products.four_steps (fun k => add m c (4 * n + k) a b) (fun k => left m c (4 * n + k) a b)
    (left_zero m c (4 * n) (lt_of_le_of_lt (by omega) hn) (by omega) a b)
    (fun k hk => left_succ m c (4 * n + k) (lt_of_le_of_lt (by omega) hn) (by omega) a b)
  refine Eq.trans ?_ e
  unfold left
  rw [dif_pos hn]

theorem X0_apply (t : Fin cfg0.N) (a : Fin 1024) (k : Fin 1408) :
    (X0 m c t (ix2 a k) : EReal) = A m c (ix2 ⟨1024 * (t.val / 8) + a.val, by
      have := t.isLt; have : cfg0.N = 16 := N_0; omega⟩ ⟨t.val % 4 * 1408 + k.val, by omega⟩) := by
  obtain ⟨e0, -, -, -⟩ := idx t
  unfold X0 A
  blk_simp [iblk, V, e0]
  entry_read
  pointwise
  blk_ext [iblk, V, e0]

theorem X1_apply (t : Fin cfg0.N) (k : Fin 1408) (b : Fin 1024) :
    (X1 m c t (ix3 0 k b) : EReal) = W m c (ix2 ⟨t.val % 4 * 1408 + k.val, by omega⟩ ⟨1024 * (t.val % 8 / 4) + b.val, by omega⟩) := by
  obtain ⟨-, e1, -, -⟩ := idx t
  unfold X1 W
  blk_simp [iblk, V, e1]
  entry_read
  pointwise
  blk_ext [iblk, V, e1]

theorem X2_apply (t : Fin cfg0.N) (a b : Fin 1024) :
    (X2 m c t (ix2 a b) : EReal) = R m c (ix2 ⟨1024 * (t.val / 8) + a.val, by
      have := t.isLt; have : cfg0.N = 16 := N_0; omega⟩ ⟨1024 * (t.val % 8 / 4) + b.val, by omega⟩) := by
  obtain ⟨-, -, e2, -⟩ := idx t
  unfold X2 R
  blk_simp [iblk, V, e2]
  entry_read
  blk_ext [iblk, V, e2]

/-- The residual and the product, entry by entry. -/
def sumArr (x : Mat 2048 5632) (w : Mat 5632 2048) (r : Mat 2048 2048) : Mat 2048 2048 := fun i => r i + Products.product x w i

/-- The block written back. -/
theorem block3 (n : ℕ) (hn : 4 * n + 3 < cfg0.N) (a b : Fin 1024) : ((outsAt0 m c (4 * n + 3) hn).1 (ix2 a b) : EReal) =
    sumArr (A m c) (W m c) (R m c) (ix2 ⟨1024 * ((4 * n + 3) / 8) + a.val, by have : cfg0.N = 16 := N_0; omega⟩
      ⟨1024 * ((4 * n + 3) % 8 / 4) + b.val, by omega⟩) := by
  refine (congrFun (outC m c ⟨4 * n + 3, hn⟩ (by dsimp only; omega)) (ix2 a b)).trans ((finish _ _ a b).trans ?_)
  refine congrArg₂ (· + ·) (X2_apply m c ⟨4 * n + 3, hn⟩ a b) ((last m c n hn a b).trans ?_)
  unfold Products.product
  rw [Products.sum_four (n := 1408) rfl]
  refine Finset.sum_congr rfl fun s _ => ?_
  have hs := s.isLt
  unfold add
  rw [dif_pos (lt_of_le_of_lt (by omega) hn)]
  refine Finset.sum_congr rfl fun k _ => ?_
  rw [X0_apply, X1_apply]
  exact congrArg₂ (· * ·) (Products.entry _ (show 1024 * ((4 * n + s.val) / 8) + a.val = 1024 * ((4 * n + 3) / 8) + a.val by omega) (by dsimp only; omega))
    (Products.entry _ (by dsimp only; omega) (show 1024 * ((4 * n + s.val) % 8 / 4) + b.val = 1024 * ((4 * n + 3) % 8 / 4) + b.val by omega))

/-- The kernel's array, block by block, is the residual and the product. -/
theorem arrAt3 : (dats m 0 c).arrAt 3 cfg0.N = sumArr (A m c) (W m c) (R m c) := by
  refine (dats m 0 c).arrAt_eq_of_covers 3 _ (by decide +kernel) fun t hf y => ?_
  obtain ⟨-, -, -, e3⟩ := idx t
  obtain ⟨a, b, rfl⟩ : ∃ (a : Fin 1024) (b : Fin 1024), y = ix2 a b := ⟨y 0, y 1, eq_ix2 y⟩
  have h3 : t.val % 4 = 3 := (flush0_3 t).mp hf
  obtain ⟨n, hn⟩ : ∃ n, t.val = 4 * n + 3 := ⟨t.val / 4, by omega⟩
  obtain ⟨t, ht⟩ := t
  obtain rfl : t = 4 * n + 3 := hn
  blk_simp [e3]
  rw [after0_3]
  refine (block3 m c n ht a b).trans ?_
  blk_ext [e3]

end Kernel

section Reference

open Cert.DownProjRefIdeal Cert.DownProjRefIdeal.Gen Cert.Products Idealize.ShloMosaic Idealize.ShloMosaic.TcCoe Idealize.SL.Sem

/-- The reference's product, added to the residual, is the same array. -/
theorem ref (x : FVec Ideal S2048x5632 .f32) (w : FVec Ideal S5632x2048 .f32) (r : FVec Ideal S2048x2048 .f32) :
    (addf r (Host.dotGeneral dot_S2048x5632_S5632x2048_S2048x2048_1_0_0_1_n_n none x w) : FVec Ideal S2048x2048 .f32) = sumArr x w r := by
  funext y
  obtain ⟨a, b, rfl⟩ : ∃ (a : Fin 2048) (b : Fin 2048), y = ix2 a b := ⟨y 0, y 1, eq_ix2 y⟩
  unfold sumArr Products.product
  pointwise

end Reference

open Idealize.ShloMosaic Idealize.ShloMosaic.TcCoe Idealize.SL.Sem

/-- The reference's frame: it has no semaphores, and its run keeps its arguments. -/
theorem ref_frame : Cert.quiescent_DownProjRefIdeal (hDownProjRefIdeal := Cert.DownProjRefIdeal.Gen.facts) := fun m ρ _ =>
  (θ_run _ _ _).mono (fun r h => ⟨fun c => (h c).2, sem_eq_zero_of_no_sems (by decide) _⟩) (Cert.DownProjRefIdeal.Value.run m ρ)

/-- The kernel's array is the reference's. -/
theorem algebraic : Cert.algebraic_DownProjIdeal_DownProjRefIdeal (hDownProjIdeal := Cert.DownProjIdeal.Gen.facts) (hDownProjRefIdeal := Cert.DownProjRefIdeal.Gen.facts) := by
  intro m ρ m' ρ' _ hm
  refine ⟨fun c => sumArr (A m c) (W m c) (R m c), ?_, ?_⟩
  · exact (θ_run _ _ _).mono (fun r h c => ⟨(h c).1.trans (arrAt3 m c), (h c).2⟩) (Cert.DownProjIdeal.Value.run_blocks m ρ)
  · refine (θ_run _ _ _).mono (fun r h c => ⟨?_, (h c).2⟩) (Cert.DownProjRefIdeal.Value.run m' ρ')
    obtain ⟨e0, e1, e2⟩ := hm c
    have h := (h c).1
    rw [e0, e1, e2] at h
    exact h.trans (ref _ _ _)

end Cert.DownProjVal

end
-- ==== Proof.OutProjVal.lean ====
/- The output projection: the kernel adds the four chips' products into a scratch and the scratch to the residual, the
   reference adds one product. -/
module

public import proofs.«01_k».proof.Defs
public import proofs.«01_k».proof.Proof.Gen.OutProjIdeal.Value
public import proofs.«01_k».proof.Proof.Gen.OutProjRefIdeal.Run
public import proofs.«01_k».proof.Proof.Forward
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.OutProjVal

section Kernel

open Cert.OutProjIdeal Cert.OutProjIdeal.Gen Cert.Products Idealize.ShloMosaic Idealize.ShloMosaic.TcCoe Idealize.SL.Sem

theorem hz : (![0, 0] : Fin 2 → ℕ) = fun _ => 0 := by decide
theorem hz3 : (![0, 0, 0] : Fin 3 → ℕ) = fun _ => 0 := by decide

section Cases

variable (c : Dev nD) (i : grid0.Coords) (a3 : Memref sig .tc .vmem S1024x512 .bf16) (h3 : a3.IsWhole)
  (a4 : Memref sig .tc .vmem S1x512x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec Ideal S1024x512 .bf16) (x1 : Vec Ideal S1x512x1024 .bf16) (x2 xs : Vec Ideal S1024x1024 .f32)

/-! What each case of the body leaves: the product of its blocks, added to the scratch; the last adds the scratch to the residual. -/

theorem sA (hc0 : cond0_0 i) (hc1 : ¬cond0_1 i) : sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x512) hz, View.ld_unit_zero (S := S1x512x1024) hz3]

theorem sB (hc0 : ¬cond0_0 i) (hc1 : ¬cond0_1 i) : sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_cons_unit_zero (S := S1024x1024) hz]
  simp only [View.readAt_eq_ld, h3.read_unread, h4.read_unread, h7.read_unread, View.ld_unit_zero (S := S1024x512) hz, View.ld_unit_zero (S := S1x512x1024) hz3,
    View.ld_unit_zero (S := S1024x1024) hz]

theorem sC (hc0 : ¬cond0_0 i) (hc1 : cond0_1 i) : sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_cons_unit_zero (S := S1024x1024) hz]
  simp only [View.readAt_eq_ld, h3.read_unread, h4.read_unread, h7.read_unread, View.ld_unit_zero (S := S1024x512) hz, View.ld_unit_zero (S := S1x512x1024) hz3,
    View.ld_unit_zero (S := S1024x1024) hz]

theorem oC (hc0 : ¬cond0_0 i) (hc1 : cond0_1 i) : out0_C_3 c i a3 h3 a4 h4 a5 h5 a6 h6 a7 h7 hc0 hc1 x0 x1 x2 xs = k0_pay3 (k0_pay2 xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_cons_unit_zero (S := S1024x1024) hz, View.readCov_unit_zero (S := S1024x1024) _ hz]
  simp only [View.readAt_eq_ld, h3.read_unread, h4.read_unread, h5.read_unread, h7.read_unread, View.ld_unit_zero (S := S1024x512) hz, View.ld_unit_zero (S := S1x512x1024) hz3,
    View.ld_unit_zero (S := S1024x1024) hz]

/-- One step: the block's product, added. -/
theorem step (a b : Fin 1024) :
    k0_pay2 xs x0 x1 (ix2 a b) = (xs (ix2 a b) : EReal) + ∑ n : Fin 512, ((x0 (ix2 a n) : EReal) * x1 (ix3 0 n b) : EReal) := by
  unfold k0_pay2
  pointwise

theorem finish (a b : Fin 1024) : k0_pay3 xs x2 (ix2 a b) = (x2 (ix2 a b) : EReal) + (xs (ix2 a b) : EReal) := by
  unfold k0_pay3
  pointwise

theorem start (a b : Fin 1024) : (k0_pay1 (F := Ideal) (ix2 a b) : EReal) = 0 := by
  unfold k0_pay1
  pointwise

end Cases

theorem idx : ∀ t : Fin cfg0.N, win0_0.index t = ![t.val / 8, t.val % 4] ∧ win0_1.index t = ![t.val % 4, 0, t.val % 8 / 4] ∧
    win0_2.index t = ![t.val / 8, t.val % 8 / 4] ∧ win0_3.index t = ![t.val / 8, t.val % 8 / 4] :=
  (by decide +kernel : ∀ t : Fin grid0.N, _)

variable (m : (ℓ : Loc nD τ sig) → Buf (Elt Ideal) ℓ) (c : Dev nD)

/-- The input. -/
def A : Mat 2048 2048 := m ((c : Thread nD τ).loc main_arg0)
/-- The weights. -/
def W : Mat 2048 2048 := m ((c : Thread nD τ).loc main_arg1)
/-- The residual. -/
def R : Mat 2048 2048 := m ((c : Thread nD τ).loc main_arg2)

/-- The input's block at point `t`. -/
def X0 (t : Fin cfg0.N) : Vec Ideal S1024x512 .bf16 := iblk m c 0 t
/-- The weights' block at point `t`. -/
def X1 (t : Fin cfg0.N) : Vec Ideal S1x512x1024 .bf16 := iblk m c 1 t
/-- The residual's block at point `t`. -/
def X2 (t : Fin cfg0.N) : Vec Ideal S1024x1024 .f32 := iblk m c 2 t
/-- The scratch after point `n`. -/
def scr (n : ℕ) (h : n < cfg0.N) : Vec Ideal S1024x1024 .f32 := (outsAt0 m c n h).2

theorem scrA (t : Fin cfg0.N) (h0 : t.val % 4 = 0) : scr m c t.val t.isLt = k0_pay2 k0_pay1 (X0 m c t) (X1 m c t) := by
  unfold scr X0 X1
  rw [outsAt0_A m c t h0 (by omega), sA]

theorem scrB (t : Fin cfg0.N) (h0 : ¬t.val % 4 = 0) :
    scr m c t.val t.isLt = k0_pay2 (scr m c (t.val - 1) (Nat.lt_of_le_of_lt (Nat.sub_le _ _) t.isLt)) (X0 m c t) (X1 m c t) := by
  unfold scr X0 X1
  by_cases h1 : t.val % 4 = 3
  · rw [outsAt0_C m c t h0 h1, sC]
  · rw [outsAt0_B m c t h0 h1, sB]

/-- What the last of four points writes back. -/
theorem outC (t : Fin cfg0.N) (h1 : t.val % 4 = 3) : (outsAt0 m c t.val t.isLt).1 = k0_pay3 (scr m c t.val t.isLt) (X2 m c t) := by
  rw [scrB m c t (by omega)]
  unfold scr X0 X1 X2
  rw [outsAt0_C m c t (by omega) h1, oC]

/-- The product that point `n` adds. -/
def add (n : ℕ) (a b : Fin 1024) : EReal :=
  if h : n < cfg0.N then ∑ k : Fin 512, ((X0 m c ⟨n, h⟩ (ix2 a k) : EReal) * X1 m c ⟨n, h⟩ (ix3 0 k b) : EReal) else 0

/-- What point `n` leaves in the scratch. -/
def left (n : ℕ) (a b : Fin 1024) : EReal := if h : n < cfg0.N then scr m c n h (ix2 a b) else 0

theorem left_zero (n : ℕ) (h : n < cfg0.N) (h0 : n % 4 = 0) (a b : Fin 1024) : left m c n a b = 0 + add m c n a b := by
  have e := congrFun (scrA m c ⟨n, h⟩ h0) (ix2 a b)
  unfold left add
  rw [dif_pos h, dif_pos h]
  refine (e.trans (step _ _ _ a b)).trans ?_
  rw [start]

theorem left_succ (n : ℕ) (h : n + 1 < cfg0.N) (h0 : ¬(n + 1) % 4 = 0) (a b : Fin 1024) :
    left m c (n + 1) a b = left m c n a b + add m c (n + 1) a b := by
  unfold left add
  rw [dif_pos h, dif_pos h, dif_pos (Nat.lt_of_succ_lt h)]
  exact (congrFun (scrB m c ⟨n + 1, h⟩ h0) (ix2 a b)).trans (step _ _ _ a b)

/-- At a point that writes back, the scratch is the sum of the four points' products. -/
theorem last (n : ℕ) (hn : 4 * n + 3 < cfg0.N) (a b : Fin 1024) :
    (scr m c (4 * n + 3) hn (ix2 a b) : EReal) = ∑ s : Fin 4, add m c (4 * n + s.val) a b := by
  have e := Products.four_steps (fun k => add m c (4 * n + k) a b) (fun k => left m c (4 * n + k) a b)
    (left_zero m c (4 * n) (lt_of_le_of_lt (by omega) hn) (by omega) a b)
    (fun k hk => left_succ m c (4 * n + k) (lt_of_le_of_lt (by omega) hn) (by omega) a b)
  refine Eq.trans ?_ e
  unfold left
  rw [dif_pos hn]

theorem X0_apply (t : Fin cfg0.N) (a : Fin 1024) (k : Fin 512) :
    (X0 m c t (ix2 a k) : EReal) = A m c (ix2 ⟨1024 * (t.val / 8) + a.val, by
      have := t.isLt; have : cfg0.N = 16 := N_0; omega⟩ ⟨t.val % 4 * 512 + k.val, by omega⟩) := by
  obtain ⟨e0, -, -, -⟩ := idx t
  unfold X0 A
  blk_simp [iblk, V, e0]
  entry_read
  pointwise
  blk_ext [iblk, V, e0]

theorem X1_apply (t : Fin cfg0.N) (k : Fin 512) (b : Fin 1024) :
    (X1 m c t (ix3 0 k b) : EReal) = W m c (ix2 ⟨t.val % 4 * 512 + k.val, by omega⟩ ⟨1024 * (t.val % 8 / 4) + b.val, by omega⟩) := by
  obtain ⟨-, e1, -, -⟩ := idx t
  unfold X1 W
  blk_simp [iblk, V, e1]
  entry_read
  pointwise
  blk_ext [iblk, V, e1]

theorem X2_apply (t : Fin cfg0.N) (a b : Fin 1024) :
    (X2 m c t (ix2 a b) : EReal) = R m c (ix2 ⟨1024 * (t.val / 8) + a.val, by
      have := t.isLt; have : cfg0.N = 16 := N_0; omega⟩ ⟨1024 * (t.val % 8 / 4) + b.val, by omega⟩) := by
  obtain ⟨-, -, e2, -⟩ := idx t
  unfold X2 R
  blk_simp [iblk, V, e2]
  entry_read
  blk_ext [iblk, V, e2]

/-- The residual and the product, entry by entry. -/
def sumArr (x : Mat 2048 2048) (w : Mat 2048 2048) (r : Mat 2048 2048) : Mat 2048 2048 := fun i => r i + Products.product x w i

/-- The block written back. -/
theorem block3 (n : ℕ) (hn : 4 * n + 3 < cfg0.N) (a b : Fin 1024) : ((outsAt0 m c (4 * n + 3) hn).1 (ix2 a b) : EReal) =
    sumArr (A m c) (W m c) (R m c) (ix2 ⟨1024 * ((4 * n + 3) / 8) + a.val, by have : cfg0.N = 16 := N_0; omega⟩
      ⟨1024 * ((4 * n + 3) % 8 / 4) + b.val, by omega⟩) := by
  refine (congrFun (outC m c ⟨4 * n + 3, hn⟩ (by dsimp only; omega)) (ix2 a b)).trans ((finish _ _ a b).trans ?_)
  refine congrArg₂ (· + ·) (X2_apply m c ⟨4 * n + 3, hn⟩ a b) ((last m c n hn a b).trans ?_)
  unfold Products.product
  rw [Products.sum_four (n := 512) rfl]
  refine Finset.sum_congr rfl fun s _ => ?_
  have hs := s.isLt
  unfold add
  rw [dif_pos (lt_of_le_of_lt (by omega) hn)]
  refine Finset.sum_congr rfl fun k _ => ?_
  rw [X0_apply, X1_apply]
  exact congrArg₂ (· * ·) (Products.entry _ (show 1024 * ((4 * n + s.val) / 8) + a.val = 1024 * ((4 * n + 3) / 8) + a.val by omega) (by dsimp only; omega))
    (Products.entry _ (by dsimp only; omega) (show 1024 * ((4 * n + s.val) % 8 / 4) + b.val = 1024 * ((4 * n + 3) % 8 / 4) + b.val by omega))

/-- The kernel's array, block by block, is the residual and the product. -/
theorem arrAt3 : (dats m 0 c).arrAt 3 cfg0.N = sumArr (A m c) (W m c) (R m c) := by
  refine (dats m 0 c).arrAt_eq_of_covers 3 _ (by decide +kernel) fun t hf y => ?_
  obtain ⟨-, -, -, e3⟩ := idx t
  obtain ⟨a, b, rfl⟩ : ∃ (a : Fin 1024) (b : Fin 1024), y = ix2 a b := ⟨y 0, y 1, eq_ix2 y⟩
  have h3 : t.val % 4 = 3 := (flush0_3 t).mp hf
  obtain ⟨n, hn⟩ : ∃ n, t.val = 4 * n + 3 := ⟨t.val / 4, by omega⟩
  obtain ⟨t, ht⟩ := t
  obtain rfl : t = 4 * n + 3 := hn
  blk_simp [e3]
  rw [after0_3]
  refine (block3 m c n ht a b).trans ?_
  blk_ext [e3]

end Kernel

section Reference

open Cert.OutProjRefIdeal Cert.OutProjRefIdeal.Gen Cert.Products Idealize.ShloMosaic Idealize.ShloMosaic.TcCoe Idealize.SL.Sem

/-- The reference's product, added to the residual, is the same array. -/
theorem ref (x : FVec Ideal S2048x2048 .f32) (w : FVec Ideal S2048x2048 .f32) (r : FVec Ideal S2048x2048 .f32) :
    (addf r (Host.dotGeneral dot_S2048x2048_S2048x2048_S2048x2048_1_0_0_1_n_n none x w) : FVec Ideal S2048x2048 .f32) = sumArr x w r := by
  funext y
  obtain ⟨a, b, rfl⟩ : ∃ (a : Fin 2048) (b : Fin 2048), y = ix2 a b := ⟨y 0, y 1, eq_ix2 y⟩
  unfold sumArr Products.product
  pointwise

end Reference

open Idealize.ShloMosaic Idealize.ShloMosaic.TcCoe Idealize.SL.Sem

/-- The reference's frame: it has no semaphores, and its run keeps its arguments. -/
theorem ref_frame : Cert.quiescent_OutProjRefIdeal (hOutProjRefIdeal := Cert.OutProjRefIdeal.Gen.facts) := fun m ρ _ =>
  (θ_run _ _ _).mono (fun r h => ⟨fun c => (h c).2, sem_eq_zero_of_no_sems (by decide) _⟩) (Cert.OutProjRefIdeal.Value.run m ρ)

/-- The kernel's array is the reference's. -/
theorem algebraic : Cert.algebraic_OutProjIdeal_OutProjRefIdeal (hOutProjIdeal := Cert.OutProjIdeal.Gen.facts) (hOutProjRefIdeal := Cert.OutProjRefIdeal.Gen.facts) := by
  intro m ρ m' ρ' _ hm
  refine ⟨fun c => sumArr (A m c) (W m c) (R m c), ?_, ?_⟩
  · exact (θ_run _ _ _).mono (fun r h c => ⟨(h c).1.trans (arrAt3 m c), (h c).2⟩) (Cert.OutProjIdeal.Value.run_blocks m ρ)
  · refine (θ_run _ _ _).mono (fun r h c => ⟨?_, (h c).2⟩) (Cert.OutProjRefIdeal.Value.run m' ρ')
    obtain ⟨e0, e1, e2⟩ := hm c
    have h := (h c).1
    rw [e0, e1, e2] at h
    exact h.trans (ref _ _ _)

end Cert.OutProjVal

end
-- ==== Proof.MergeVal.lean ====
/- The gated merge of the two branches: each block of both products is stored in two chunks of columns, and beside them the sum
   of the two, each times its own gate. -/
module

public import proofs.«01_k».proof.Defs
public import proofs.«01_k».proof.Proof.Gen.MergeIdeal.Value
public import proofs.«01_k».proof.Proof.Gen.MergeRefIdeal.Run
public import proofs.«01_k».proof.Proof.Forward
public import proofs.«01_k».proof.Proof.Gates
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.MergeVal

section Kernel

open Cert.MergeIdeal Cert.MergeIdeal.Gen Cert.Products Cert.Gates Idealize.ShloMosaic Idealize.ShloMosaic.TcCoe Idealize.SL.Sem

theorem hz : (![0, 0] : Fin 2 → ℕ) = fun _ => 0 := by decide

/-- The merge of the branches `x` and `y` by the logits `g` and `h`. -/
def merge (g x h y : EReal) : EReal := sg g * x + sg h * y

/-- One chunk of a branch. -/
theorem br_chunk (v0 : Vec Ideal S512x1024 .bf16) (v2 : Vec Ideal S1x1024x256 .bf16) (a : Fin 512) (l : Fin 256) :
    k0_pay1 v0 v2 (ix2 a l) = ∑ k : Fin 1024, ((v0 (ix2 a k) : EReal) * v2 (ix3 0 k l) : EReal) := by
  pointwise [k0_pay1]

/-- One chunk of the merge. -/
theorem mg_chunk (v0 v5 : Vec Ideal S512x1024 .bf16) (v2 v7 : Vec Ideal S1x1024x256 .bf16) (v10 v19 : Vec Ideal S512x256 .f32) (a : Fin 512) (l : Fin 256) :
    k0_pay3 v0 v2 v5 v7 v10 v19 (ix2 a l) = merge (v10 (ix2 a l)) (∑ k : Fin 1024, ((v0 (ix2 a k) : EReal) * v2 (ix3 0 k l) : EReal))
      (v19 (ix2 a l)) (∑ k : Fin 1024, ((v5 (ix2 a k) : EReal) * v7 (ix3 0 k l) : EReal)) := by
  pointwise [k0_pay3, k0_pay2, k0_pay1]
  rfl

section Chunks

variable (x0 x1 : Vec Ideal S512x1024 .bf16) (x2 x3 : Vec Ideal S1x1024x512 .bf16) (x4 x5 : Vec Ideal S512x512 .f32) (a : Fin 512) (l : Fin 512)

/-- A product's entry in a block. -/
def dotB (x : Vec Ideal S512x1024 .bf16) (w : Vec Ideal S1x1024x512 .bf16) : EReal := ∑ k : Fin 1024, ((x (ix2 a k) : EReal) * w (ix3 0 k l) : EReal)

theorem ld_cols {off : ℕ} (inb) (x : Vec Ideal S512x512 .f32) (j : Fin 256) (h : l.val = off + j.val) :
    View.ld x (Rect.unit (s := S512x512) ![0, off] ![512, 256] inb) (ix2 a j) = x (ix2 a l) :=
  View.ld_unit_apply_of _ _ _ _ _ _ fun k => by
    fin_cases k
    · show a.val = 0 + a.val; omega
    · exact h

theorem ld_weights {off : ℕ} (inb) (x : Vec Ideal S1x1024x512 .bf16) (j : Fin 256) (n : Fin 1024) (h : l.val = off + j.val) :
    View.ld x (Rect.unit (s := S1x1024x512) ![0, 0, off] ![1, 1024, 256] inb) (ix3 0 n j) = x (ix3 0 n l) :=
  View.ld_unit_apply_of _ _ _ _ _ _ fun k => by
    fin_cases k
    · rfl
    · show n.val = 0 + n.val; omega
    · exact h

/-- A product over a chunk of the weights' columns is the block's product. -/
theorem dot_chunk {off : ℕ} (inb) (x : Vec Ideal S512x1024 .bf16) (w : Vec Ideal S1x1024x512 .bf16) (j : Fin 256) (h : l.val = off + j.val) :
    ∑ k : Fin 1024, ((x (ix2 a k) : EReal) * View.ld w (Rect.unit (s := S1x1024x512) ![0, 0, off] ![1, 1024, 256] inb) (ix3 0 k j) : EReal) = dotB a l x w :=
  Finset.sum_congr rfl fun n _ => congrArg (_ * ·) (ld_weights l _ w j n h)

/-- A payload whose entries in row `a` are known wherever the chunk meets column `l`. -/
theorem tile_f32 (off : ℕ) (w : Vec Ideal S512x256 .f32) (v : EReal) (h : ∀ j : Fin 256, l.val = off + j.val → w (ix2 a j) = v) :
    View.TileAt (Val := Elt Ideal) (S := S512x512) (e := .f32) (ix2 a l) ![0, off] ![512, 256] w v := by
  intro x hx
  obtain ⟨b, j, rfl⟩ : ∃ (b : Fin 512) (j : Fin 256), x = ix2 b j := ⟨x 0, x 1, eq_ix2 x⟩
  obtain rfl : a = b := Fin.ext ((hx 0).trans (Nat.zero_add _))
  exact h j (hx 1)

theorem tile_bf16 (off : ℕ) (w : Vec Ideal S512x256 .bf16) (v : EReal) (h : ∀ j : Fin 256, l.val = off + j.val → w (ix2 a j) = v) :
    View.TileAt (Val := Elt Ideal) (S := S512x512) (e := .bf16) (ix2 a l) ![0, off] ![512, 256] w v := by
  intro x hx
  obtain ⟨b, j, rfl⟩ : ∃ (b : Fin 512) (j : Fin 256), x = ix2 b j := ⟨x 0, x 1, eq_ix2 x⟩
  obtain rfl : a = b := Fin.ext ((hx 0).trans (Nat.zero_add _))
  exact h j (hx 1)

/-- A chunk of a branch, wherever it lies. -/
theorem br_tile (off : ℕ) (i1) :
    View.TileAt (Val := Elt Ideal) (S := S512x512) (e := .f32) (ix2 a l) ![0, off] ![512, 256]
      (k0_pay1 x0 (View.ld x2 (Rect.unit (s := S1x1024x512) ![0, 0, off] ![1, 1024, 256] i1))) (dotB a l x0 x2) :=
  tile_f32 a l off _ _ fun j hl => (br_chunk _ _ a j).trans (dot_chunk a l _ x0 x2 j hl)

/-- A chunk of the merge, wherever it lies. -/
theorem mg_tile (off : ℕ) (i1) (i2) :
    View.TileAt (Val := Elt Ideal) (S := S512x512) (e := .bf16) (ix2 a l) ![0, off] ![512, 256]
      (k0_pay3 x0 (View.ld x2 (Rect.unit (s := S1x1024x512) ![0, 0, off] ![1, 1024, 256] i1)) x1 (View.ld x3 (Rect.unit (s := S1x1024x512) ![0, 0, off] ![1, 1024, 256] i1))
        (View.ld x4 (Rect.unit (s := S512x512) ![0, off] ![512, 256] i2)) (View.ld x5 (Rect.unit (s := S512x512) ![0, off] ![512, 256] i2)))
      (merge (x4 (ix2 a l)) (dotB a l x0 x2) (x5 (ix2 a l)) (dotB a l x1 x3)) :=
  tile_bf16 a l off _ _ fun j hl => by
    refine (mg_chunk _ _ _ _ _ _ a j).trans ?_
    rw [ld_cols a l _ x4 j hl, ld_cols a l _ x5 j hl, dot_chunk a l _ x0 x2 j hl, dot_chunk a l _ x1 x3 j hl]

theorem o6 : out0_6 x0 x1 x2 x3 x4 x5 (ix2 a l) = merge (x4 (ix2 a l)) (dotB a l x0 x2) (x5 (ix2 a l)) (dotB a l x1 x3) := by
  have g := mg_tile x0 x1 x2 x3 x4 x5 a l
  unfold out0_6
  unfold r0_0 r0_1 r0_2 r0_3 r0_4
  simp only [View.ld_unit_zero (S := S512x1024) hz]
  exact View.canon_eq_of_allAt _ _ _ (cover0_6 _ _ _) (View.allAt_cons_unit _ _ _ _ _ (g 256 _ _) (View.allAt_cons_unit _ _ _ _ _ (g 0 _ _) (View.allAt_nil _ _)))

theorem o7 : out0_7 x0 x1 x2 x3 x4 x5 (ix2 a l) = dotB a l x0 x2 := by
  have g := br_tile x0 x2 a l
  unfold out0_7
  unfold r0_0 r0_1 r0_2 r0_3 r0_4
  simp only [View.ld_unit_zero (S := S512x1024) hz]
  exact View.canon_eq_of_allAt _ _ _ (cover0_7 _ _ _) (View.allAt_cons_unit _ _ _ _ _ (g 256 _) (View.allAt_cons_unit _ _ _ _ _ (g 0 _) (View.allAt_nil _ _)))

theorem o8 : out0_8 x0 x1 x2 x3 x4 x5 (ix2 a l) = dotB a l x1 x3 := by
  have g := br_tile x1 x3 a l
  unfold out0_8
  unfold r0_0 r0_1 r0_2 r0_3 r0_4
  simp only [View.ld_unit_zero (S := S512x1024) hz]
  exact View.canon_eq_of_allAt _ _ _ (cover0_8 _ _ _) (View.allAt_cons_unit _ _ _ _ _ (g 256 _) (View.allAt_cons_unit _ _ _ _ _ (g 0 _) (View.allAt_nil _ _)))

end Chunks

theorem idx : ∀ t : Fin cfg0.N, win0_0.index t = ![t.val / 4, 0] ∧ win0_1.index t = ![t.val / 4, 0] ∧
    win0_2.index t = ![t.val % 4, 0, 0] ∧ win0_3.index t = ![t.val % 4, 0, 0] ∧
    win0_4.index t = ![t.val / 4, 7 + t.val % 4] ∧ win0_5.index t = ![t.val / 4, 11 + t.val % 4] :=
  (by decide +kernel : ∀ t : Fin grid0.N, _)

theorem oidx : ∀ t : Fin cfg0.N, win0_6.index t = ![t.val / 4, t.val % 4] ∧ win0_7.index t = ![t.val / 4, t.val % 4] ∧
    win0_8.index t = ![t.val / 4, t.val % 4] :=
  (by decide +kernel : ∀ t : Fin grid0.N, _)

variable (m : (ℓ : Loc nD τ sig) → Buf (Elt Ideal) ℓ) (c : Dev nD)

/-- The attention's output. -/
def A : Mat 2048 1024 := m ((c : Thread nD τ).loc main_arg0)
/-- The gating unit's output. -/
def B : Mat 2048 1024 := m ((c : Thread nD τ).loc main_arg1)
/-- The attention branch's weights. -/
def WA : Mat 1024 2048 := m ((c : Thread nD τ).loc main_arg2)
/-- The gating branch's weights. -/
def WB : Mat 1024 2048 := m ((c : Thread nD τ).loc main_arg3)
/-- The projection, whose columns from 3584 hold the gates' logits. -/
def P : Mat 2048 7680 := m ((c : Thread nD τ).loc main_arg4)

/-- The columns of a matrix from `o`. -/
def from_ (o : ℕ) (h : o + 2048 ≤ 7680) (p : Mat 2048 7680) : Mat 2048 2048 := fun i =>
  p (ix2 ⟨(i 0).val, (i 0).isLt⟩ ⟨o + (i 1).val, by have : (i 1).val < 2048 := (i 1).isLt; omega⟩)

/-- The merge, entry by entry. -/
def mergeArr (p : Mat 2048 7680) (x y : Mat 2048 1024) (v w : Mat 1024 2048) : Mat 2048 2048 := fun i =>
  merge (from_ 3584 (by decide) p i) (Products.product x v i) (from_ 5632 (by decide) p i) (Products.product y w i)

/-- The attention's block at point `t`. -/
def X0 (t : Fin cfg0.N) : Vec Ideal S512x1024 .bf16 := iblk m c 0 t
/-- The gating unit's block. -/
def X1 (t : Fin cfg0.N) : Vec Ideal S512x1024 .bf16 := iblk m c 1 t
/-- The attention branch's weights' block. -/
def X2 (t : Fin cfg0.N) : Vec Ideal S1x1024x512 .bf16 := iblk m c 2 t
/-- The gating branch's weights' block. -/
def X3 (t : Fin cfg0.N) : Vec Ideal S1x1024x512 .bf16 := iblk m c 3 t
/-- The first gate's logits' block. -/
def X4 (t : Fin cfg0.N) : Vec Ideal S512x512 .f32 := iblk m c 4 t
/-- The second gate's logits' block. -/
def X5 (t : Fin cfg0.N) : Vec Ideal S512x512 .f32 := iblk m c 5 t

/-- The row that entry `a` of point `t`'s blocks has in the whole array. -/
def row (t : Fin cfg0.N) (a : Fin 512) : Fin 2048 := ⟨512 * (t.val / 4) + a.val, by have : t.val < 16 := lt_of_lt_of_eq t.isLt N_0; omega⟩
/-- The column likewise. -/
def col (t : Fin cfg0.N) (l : Fin 512) : Fin 2048 := ⟨t.val % 4 * 512 + l.val, by omega⟩

theorem X0_apply (t : Fin cfg0.N) (a : Fin 512) (k : Fin 1024) : (X0 m c t (ix2 a k) : EReal) = A m c (ix2 (row t a) k) := by
  obtain ⟨e0, -, -, -, -, -⟩ := idx t
  unfold X0 A row
  blk_simp [iblk, V, e0]
  entry_read
  pointwise
  blk_ext [iblk, V, e0]

theorem X1_apply (t : Fin cfg0.N) (a : Fin 512) (k : Fin 1024) : (X1 m c t (ix2 a k) : EReal) = B m c (ix2 (row t a) k) := by
  obtain ⟨-, e1, -, -, -, -⟩ := idx t
  unfold X1 B row
  blk_simp [iblk, V, e1]
  entry_read
  pointwise
  blk_ext [iblk, V, e1]

theorem X2_apply (t : Fin cfg0.N) (l : Fin 512) (k : Fin 1024) : (X2 m c t (ix3 0 k l) : EReal) = WA m c (ix2 k (col t l)) := by
  obtain ⟨-, -, e2, -, -, -⟩ := idx t
  unfold X2 WA col
  blk_simp [iblk, V, e2]
  entry_read
  pointwise
  blk_ext [iblk, V, e2]

theorem X3_apply (t : Fin cfg0.N) (l : Fin 512) (k : Fin 1024) : (X3 m c t (ix3 0 k l) : EReal) = WB m c (ix2 k (col t l)) := by
  obtain ⟨-, -, -, e3, -, -⟩ := idx t
  unfold X3 WB col
  blk_simp [iblk, V, e3]
  entry_read
  pointwise
  blk_ext [iblk, V, e3]

theorem X4_apply (t : Fin cfg0.N) (a l : Fin 512) : (X4 m c t (ix2 a l) : EReal) = from_ 3584 (by decide) (P m c) (ix2 (row t a) (col t l)) := by
  obtain ⟨-, -, -, -, e4, -⟩ := idx t
  unfold X4 from_ P row col
  blk_simp [iblk, V, e4]
  entry_read
  pointwise
  blk_ext [iblk, V, e4]

theorem X5_apply (t : Fin cfg0.N) (a l : Fin 512) : (X5 m c t (ix2 a l) : EReal) = from_ 5632 (by decide) (P m c) (ix2 (row t a) (col t l)) := by
  obtain ⟨-, -, -, -, -, e5⟩ := idx t
  unfold X5 from_ P row col
  blk_simp [iblk, V, e5]
  entry_read
  pointwise
  blk_ext [iblk, V, e5]

theorem dot_first (t : Fin cfg0.N) (a l : Fin 512) : dotB a l (X0 m c t) (X2 m c t) = Products.product (A m c) (WA m c) (ix2 (row t a) (col t l)) :=
  Finset.sum_congr rfl fun k _ => congrArg₂ (· * ·) (X0_apply m c t a k) (X2_apply m c t l k)

theorem dot_second (t : Fin cfg0.N) (a l : Fin 512) : dotB a l (X1 m c t) (X3 m c t) = Products.product (B m c) (WB m c) (ix2 (row t a) (col t l)) :=
  Finset.sum_congr rfl fun k _ => congrArg₂ (· * ·) (X1_apply m c t a k) (X3_apply m c t l k)

theorem arrAt6 : (dats m 0 c).arrAt 6 cfg0.N = mergeArr (P m c) (A m c) (B m c) (WA m c) (WB m c) := by
  refine (dats m 0 c).arrAt_eq_of_covers 6 _ (by decide +kernel) fun t hf y => ?_
  obtain ⟨e, -, -⟩ := oidx t
  obtain ⟨a, b, rfl⟩ : ∃ (a : Fin 512) (b : Fin 512), y = ix2 a b := ⟨y 0, y 1, eq_ix2 y⟩
  blk_simp [e]
  rw [after0_6]
  refine (o6 (X0 m c t) (X1 m c t) (X2 m c t) (X3 m c t) (X4 m c t) (X5 m c t) a b).trans ?_
  rw [dot_first, dot_second, X4_apply, X5_apply]
  refine (show mergeArr (P m c) (A m c) (B m c) (WA m c) (WB m c) (ix2 (row t a) (col t b)) = _ from ?_)
  unfold row col
  blk_ext [e]

theorem arrAt7 : (dats m 0 c).arrAt 7 cfg0.N = Products.product (A m c) (WA m c) := by
  refine (dats m 0 c).arrAt_eq_of_covers 7 _ (by decide +kernel) fun t hf y => ?_
  obtain ⟨-, e, -⟩ := oidx t
  obtain ⟨a, b, rfl⟩ : ∃ (a : Fin 512) (b : Fin 512), y = ix2 a b := ⟨y 0, y 1, eq_ix2 y⟩
  blk_simp [e]
  rw [after0_7]
  refine (o7 (X0 m c t) (X1 m c t) (X2 m c t) (X3 m c t) (X4 m c t) (X5 m c t) a b).trans ?_
  rw [dot_first]
  unfold row col
  blk_ext [e]

theorem arrAt8 : (dats m 0 c).arrAt 8 cfg0.N = Products.product (B m c) (WB m c) := by
  refine (dats m 0 c).arrAt_eq_of_covers 8 _ (by decide +kernel) fun t hf y => ?_
  obtain ⟨-, -, e⟩ := oidx t
  obtain ⟨a, b, rfl⟩ : ∃ (a : Fin 512) (b : Fin 512), y = ix2 a b := ⟨y 0, y 1, eq_ix2 y⟩
  blk_simp [e]
  rw [after0_8]
  refine (o8 (X0 m c t) (X1 m c t) (X2 m c t) (X3 m c t) (X4 m c t) (X5 m c t) a b).trans ?_
  rw [dot_second]
  unfold row col
  blk_ext [e]

end Kernel

section Reference

open Cert.MergeRefIdeal Cert.MergeRefIdeal.Gen Cert.Products Cert.Gates Idealize.ShloMosaic Idealize.ShloMosaic.TcCoe Idealize.SL.Sem

/-- The reference's products are the same sums. -/
theorem ref (x : FVec Ideal S2048x1024 .f32) (w : FVec Ideal S1024x2048 .f32) :
    (Host.dotGeneral dot_S2048x1024_S1024x2048_S2048x2048_1_0_0_1_n_n none x w : FVec Ideal S2048x2048 .f32) = Products.product (T := 2048) (K := 1024) (N := 2048) x w := by
  funext y
  obtain ⟨a, b, rfl⟩ : ∃ (a : Fin 2048) (b : Fin 2048), y = ix2 a b := ⟨y 0, y 1, eq_ix2 y⟩
  unfold Products.product
  pointwise

variable (p : FVec Ideal S2048x7680 .f32) (x y : FVec Ideal S2048x1024 .f32) (v w : FVec Ideal S1024x2048 .f32)

/-- The reference's gates. -/
def gates : FVec Ideal S2048x4096 .f32 := Host.divf (broadcastInDim S2048x4096 ![] bcast_S_S2048x4096 (constant S_ .f32 0x3F800000#32)) (addf (broadcastInDim S2048x4096 ![] bcast_S_S2048x4096 (constant S_ .f32 0x3F800000#32)) (Host.exp (Host.negf (extractStridedSlice S2048x4096 ![0, 3584] p slices_S2048x7680_S2048x4096_0_3584))))

theorem gates_apply (a : Fin 2048) (b : Fin 4096) : (gates p (ix2 a b) : EReal) = sg (p (ix2 a ⟨3584 + b.val, by omega⟩)) := by
  unfold gates
  pointwise
  simp only [sg, zero_sub]

theorem ref_merge : (truncf .bf16 (addf (mulf (extractStridedSlice S2048x2048 ![0, 0] (gates p) slices_S2048x4096_S2048x2048_0_0) (Host.dotGeneral dot_S2048x1024_S1024x2048_S2048x2048_1_0_0_1_n_n none x v))
      (mulf (extractStridedSlice S2048x2048 ![0, 2048] (gates p) slices_S2048x4096_S2048x2048_0_2048) (Host.dotGeneral dot_S2048x1024_S1024x2048_S2048x2048_1_0_0_1_n_n none y w))) bitsLt_bf16_f32 : FVec Ideal S2048x2048 .bf16)
    = mergeArr p x y v w := by
  rw [ref, ref]
  funext i
  obtain ⟨a, b, rfl⟩ : ∃ (a : Fin 2048) (b : Fin 2048), i = ix2 a b := ⟨i 0, i 1, eq_ix2 i⟩
  pointwise
  rw [gates_apply, gates_apply]
  rw [show (⟨3584 + (2048 + b.val), by omega⟩ : Fin 7680) = ⟨5632 + b.val, by omega⟩ from Fin.ext (by dsimp only; omega)]
  rfl

end Reference

open Idealize.ShloMosaic Idealize.ShloMosaic.TcCoe Idealize.SL.Sem

/-- The reference's frame: it has no semaphores, and its run keeps its arguments. -/
theorem ref_frame : Cert.quiescent_MergeRefIdeal (hMergeRefIdeal := Cert.MergeRefIdeal.Gen.facts) := fun m ρ _ =>
  (θ_run _ _ _).mono (fun r h => ⟨fun c => (h c).2.2.2, sem_eq_zero_of_no_sems (by decide) _⟩) (Cert.MergeRefIdeal.Value.run m ρ)

/-- The kernel's three arrays are the reference's. -/
theorem algebraic : Cert.algebraic_MergeIdeal_MergeRefIdeal (hMergeIdeal := Cert.MergeIdeal.Gen.facts) (hMergeRefIdeal := Cert.MergeRefIdeal.Gen.facts) := by
  intro m ρ m' ρ' _ hm
  refine ⟨fun c => mergeArr (P m c) (A m c) (B m c) (WA m c) (WB m c), fun c => Products.product (A m c) (WA m c), fun c => Products.product (B m c) (WB m c), ?_, ?_⟩
  · exact (θ_run _ _ _).mono (fun r h c => ⟨(h c).1.trans (arrAt6 m c), (h c).2.1.trans (arrAt7 m c), (h c).2.2.1.trans (arrAt8 m c),
      (h c).2.2.2⟩) (Cert.MergeIdeal.Value.run_blocks m ρ)
  · refine (θ_run _ _ _).mono (fun r h c => ?_) (Cert.MergeRefIdeal.Value.run m' ρ')
    obtain ⟨e0, e1, e2, e3, e4⟩ := hm c
    have h := h c
    rw [e0, e1, e2, e3, e4] at h
    exact ⟨h.1.trans (ref_merge _ _ _ _ _), h.2.1.trans (ref _ _), h.2.2.1.trans (ref _ _), by rw [e0, e1, e2, e3, e4]; exact h.2.2.2⟩

end Cert.MergeVal

end
-- ==== Proof.NormVal.lean ====
/- The RMS norm that each half of a layer begins with, row by row. -/
module

public import proofs.«01_k».proof.Defs
public import proofs.«01_k».proof.Proof.Gen.NormIdeal.Value
public import proofs.«01_k».proof.Proof.Gen.NormRefIdeal.Run
public import proofs.«01_k».proof.Proof.Forward
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Claim
public import Idealize.ShloMosaic.Lib.Quiescent
public import Idealize.ShloMosaic.Lib.Tactic

@[expose] public section

set_option maxRecDepth 16384

noncomputable section

namespace Cert.NormVal

section Kernel

open Cert.NormIdeal Cert.NormIdeal.Gen Cert.Products Idealize.ShloMosaic Idealize.ShloMosaic.TcCoe Idealize.SL.Sem

theorem hz : (![0, 0] : Fin 2 → ℕ) = fun _ => 0 := by decide

/-- The norm's entry `b` of a row `x` with the scale `g`. -/
def norm (x : Fin 2048 → EReal) (g : EReal) (b : Fin 2048) : EReal :=
  x b * Ideal.rsqrt (Ideal.div (∑ k, x k * x k) (Ideal.ofBits .f32 0x45000000#32) + Ideal.ofBits .f32 0x358637BD#32) * g

theorem pay (v0 : Vec Ideal S256x2048 .f32) (v11 : Vec Ideal S1x2048 .f32) (a : Fin 256) (b : Fin 2048) :
    (k0_pay1 v0 v11 (ix2 a b) : EReal) = norm (fun k => v0 (ix2 a k)) (v11 (ix2 0 b)) b := by
  pointwise [k0_pay1]
  rfl

/-- The output's block. -/
theorem o2 (c : Dev nD) (i : grid0.Coords) (a1 : Memref sig .tc .vmem S256x2048 .f32) (h1 : a1.IsWhole) (a2 : Memref sig .tc .vmem S1x2048 .f32) (h2 : a2.IsWhole)
    (a4 : Memref sig .tc .vmem S256x2048 .bf16) (h4 : a4.IsWhole) (x0 : Vec Ideal S256x2048 .f32) (x1 : Vec Ideal S1x2048 .f32) :
    out0_A_2 c i a1 h1 a2 h2 a4 h4 x0 x1 = k0_pay1 x0 x1 := by
  unfold out0_A_2
  rw [View.read_writes_eq_canon _ _ _ (cover0_A_2 c i a1 h1 a2 h2 a4 h4 x0 x1)]
  unfold kernelRun0_A
  dsimp only
  sl_unfold_words
  rw [View.canon_cons_unit_zero (S := S256x2048) hz]
  simp only [View.readAt_eq_ld, h1.read_unread, h2.read_unread, View.ld_unit_zero (S := S256x2048) hz, View.ld_unit_zero (S := S1x2048) hz]

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The input. -/
def X : Mat 2048 2048 := m ((c : Thread nD τ).loc main_arg0)
/-- The scale. -/
def G : Vec Ideal S2048 .f32 := m ((c : Thread nD τ).loc main_arg1)

/-- The input's block at point `t`. -/
def X0 (t : Fin cfg0.N) : Vec Ideal S256x2048 .f32 := iblk m c 0 t
/-- The scale, as a row. -/
def X1 (t : Fin cfg0.N) : Vec Ideal S1x2048 .f32 := iblk m c 1 t

/-- The norm, entry by entry. -/
def normArr (x : Mat 2048 2048) (g : Vec Ideal S2048 .f32) : Mat 2048 2048 := fun i =>
  norm (fun k => x (ix2 ⟨(i 0).val, (i 0).isLt⟩ k)) (g (ix1 ⟨(i 1).val, (i 1).isLt⟩)) ⟨(i 1).val, (i 1).isLt⟩

theorem X0_apply (t : Fin cfg0.N) (a : Fin 256) (k : Fin 2048) :
    (X0 m c t (ix2 a k) : EReal) = X m c (ix2 ⟨256 * t.val + a.val, by have := t.isLt; have : cfg0.N = 8 := N_0; omega⟩ k) := by
  obtain ⟨e0, -, -⟩ := idx t
  unfold X0 X
  blk_simp [iblk, V, e0]
  entry_read
  pointwise
  blk_ext [iblk, V, e0]

theorem X1_apply (t : Fin cfg0.N) (b : Fin 2048) : (X1 m c t (ix2 0 b) : EReal) = G m c (ix1 b) := by
  obtain ⟨-, e1, -⟩ := idx t
  unfold X1 G
  blk_simp [iblk, V, e1]
  entry_read
  pointwise
  blk_ext [iblk, V, e1]

theorem block2 (t : Fin cfg0.N) (a : Fin 256) (b : Fin 2048) : (outsAt0 m c t (ix2 a b) : EReal) = normArr (X m c) (G m c)
    (ix2 ⟨256 * t.val + a.val, by have := t.isLt; have : cfg0.N = 8 := N_0; omega⟩ b) := by
  unfold outsAt0
  rw [o2]
  refine (pay (X0 m c t) (X1 m c t) a b).trans ?_
  rw [X1_apply]
  simp only [X0_apply]
  rfl

/-- The kernel's array, block by block, is the norm. -/
theorem arrAt2 : (dats m 0 c).arrAt 2 cfg0.N = normArr (X m c) (G m c) := by
  refine (dats m 0 c).arrAt_eq_of_covers 2 _ (by decide +kernel) fun t hf y => ?_
  obtain ⟨-, -, e2⟩ := idx t
  obtain ⟨a, b, rfl⟩ : ∃ (a : Fin 256) (b : Fin 2048), y = ix2 a b := ⟨y 0, y 1, eq_ix2 y⟩
  blk_simp [e2]
  rw [after0_2]
  refine (block2 m c t a b).trans ?_
  blk_ext [e2]

end Kernel

section Reference

open Cert.NormRefIdeal Cert.NormRefIdeal.Gen Cert.Products Idealize.ShloMosaic Idealize.ShloMosaic.TcCoe Idealize.SL.Sem

/-- The reference's norm is the same, entry by entry. -/
theorem ref (x : FVec Ideal S2048x2048 .f32) (g : FVec Ideal S2048 .f32) :
    (truncf .bf16 (mulf (mulf x (broadcastInDim S2048x2048 ![0, 1] bcast_S2048x1_S2048x2048_0_1 (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 g))) bitsLt_bf16_f32 : FVec Ideal S2048x2048 .bf16)
      = normArr x g := by
  funext y
  obtain ⟨a, b, rfl⟩ : ∃ (a : Fin 2048) (b : Fin 2048), y = ix2 a b := ⟨y 0, y 1, eq_ix2 y⟩
  unfold normArr norm
  pointwise

end Reference

open Idealize.ShloMosaic Idealize.ShloMosaic.TcCoe Idealize.SL.Sem

/-- The reference's frame: it has no semaphores, and its run keeps its arguments. -/
theorem ref_frame : Cert.quiescent_NormRefIdeal (hNormRefIdeal := Cert.NormRefIdeal.Gen.facts) := fun m ρ _ =>
  (θ_run _ _ _).mono (fun r h => ⟨fun c => (h c).2, sem_eq_zero_of_no_sems (by decide) _⟩) (Cert.NormRefIdeal.Value.run m ρ)

/-- The kernel's array is the reference's. -/
theorem algebraic : Cert.algebraic_NormIdeal_NormRefIdeal (hNormIdeal := Cert.NormIdeal.Gen.facts) (hNormRefIdeal := Cert.NormRefIdeal.Gen.facts) := by
  intro m ρ m' ρ' _ hm
  refine ⟨fun c => normArr (X m c) (G m c), ?_, ?_⟩
  · exact (θ_run _ _ _).mono (fun r h c => ⟨(h c).1.trans (arrAt2 m c), (h c).2⟩) (Cert.NormIdeal.Value.run_blocks m ρ)
  · refine (θ_run _ _ _).mono (fun r h c => ⟨?_, (h c).2⟩) (Cert.NormRefIdeal.Value.run m' ρ')
    obtain ⟨e0, e1, e2⟩ := hm c
    have h := (h c).1
    rw [e0, e1] at h
    exact h.trans (ref _ _)

end Cert.NormVal

end
-- ==== Proof.SguFwdBlock.lean ====
/- The forward gating unit: one block of the kernel, entry by entry over the extended reals, with no assumption on the
   entries. -/
module

public import proofs.«01_k».proof.Proof.SguBlockVal
public import proofs.«01_k».proof.Proof.Gen.SguFwdIdeal.Value
public import Idealize.ShloMosaic.Lib.Pipeline.ValueKit
public import Idealize.ShloMosaic.Lib.Claim

@[expose] public section

set_option maxRecDepth 16384

noncomputable section

namespace Cert.SguFwdVal

open Cert.Lift Idealize.ShloMosaic Idealize.ShloMosaic.TcCoe Idealize.SL.Sem

/-! The mathematics, over the extended reals. -/

/-- GELU in its tanh form. -/
def gl (x : EReal) : EReal :=
  ((1 / 2 : ℝ) : EReal) * x * (1 + Ideal.tanh ((geluC : EReal) * (x + ((8943 / 200000 : ℝ) : EReal) * x * x * x)))

/-- The mean of a group's 128 lanes. -/
def mean (v : Fin 128 → EReal) : EReal := Ideal.div (∑ l, v l) ((128 : ℝ) : EReal)

/-- The centred values. -/
def vc (v : Fin 128 → EReal) (l : Fin 128) : EReal := v l - mean v

/-- The normalized values with gain and bias. -/
def vn (v : Fin 128 → EReal) (lg lb : EReal) (l : Fin 128) : EReal :=
  vc v l * Ideal.rsqrt (mean (fun l => vc v l * vc v l) + (eps : EReal)) * lg + lb

/-- The gate in row `i` of a chunk, at lane `l`: the mixing matrix's row `w`, causal, times the chunk's normalized values. -/
def gate (w : Fin 128 → EReal) (b : EReal) (v : Fin 128 → Fin 128 → EReal) (lg lb : EReal) (i l : Fin 128) : EReal :=
  (∑ j : Fin 128, (if j.val ≤ i.val then w j else 0) * vn (v j) lg lb l) + b

section Kernel

open Cert.Sgu

section Group

open Cert.SguBwdIdeal Cert.SguBwdIdeal.Gen

variable (v : FVec Ideal S256x128 .f32) (lg lb : Vec Ideal S1x128 .f32) (w : Vec Ideal S1x128x128 .f32) (b : Vec Ideal S1x128x1 .f32)

/-- One row of a group. -/
abbrev row (a : Fin 256) : Fin 128 → EReal := fun l => v (ix2 a l)

theorem vc_apply (a : Fin 256) (l : Fin 128) : k0_pay11 (F := Ideal) v (ix2 a l) = vc (row v a) l := by
  pointwise [k0_pay11]
  rw [bits_128]
  rfl

theorem rho_apply (a : Fin 256) :
    k0_pay12 (F := Ideal) v (ix2 a 0) = Ideal.rsqrt (mean (fun l => vc (row v a) l * vc (row v a) l) + (eps : EReal)) := by
  pointwise [k0_pay12]
  simp only [vc_apply, bits_128, bits_eps]
  rfl

theorem vn_apply (a : Fin 256) (l : Fin 128) : tVn v lg lb (ix2 a l) = vn (row v a) (lg (ix2 0 l)) (lb (ix2 0 l)) l := by
  pointwise [tVn, k0_pay14, k0_pay9, k0_pay10, k0_pay13]
  simp only [vc_apply, rho_apply]
  rfl

theorem w_apply (i j : Fin 128) : k0_pay16 (F := Ideal) w (ix2 i j) = (if j.val ≤ i.val then w (ix3 0 i j) else 0 : EReal) := by
  pointwise [k0_pay16, k0_pay15]
  rw [mask_val]

/-- A group's gate. -/
theorem s_apply (a : Fin 256) (l : Fin 128) :
    tS v lg lb w b (ix2 a l) = gate (fun j => w (ix3 0 ⟨a.val % 128, by omega⟩ j)) (b (ix3 0 ⟨a.val % 128, by omega⟩ 0))
      (fun j => row v ⟨128 * (a.val / 128) + j.val, by omega⟩) (lg (ix2 0 l)) (lb (ix2 0 l)) ⟨a.val % 128, by omega⟩ l := by
  unfold gate
  pointwise [tS, k0_pay17]
  split
  · rename_i h
    simp only [w_apply, vn_apply, show a.val % 128 = a.val by omega, show a.val / 128 = 0 by omega, mul_zero, zero_add]
  · rename_i h
    simp only [w_apply, vn_apply, show a.val % 128 = a.val - 128 by omega, show a.val / 128 = 1 by omega, mul_one]

end Group

open Cert.SguFwdIdeal Cert.SguFwdIdeal.Gen

theorem named_a : Named.named (F := Ideal) (φ := .f32) κ "gelu_a" 0x3D372713#32 = ((8943 / 200000 : ℝ) : EReal) := rfl

theorem gl_apply (x : Vec Ideal S256x512 .f32) (a : Fin 256) (l : Fin 512) : k0_pay2 (F := Ideal) x (ix2 a l) = gl (x (ix2 a l)) := by
  pointwise [k0_pay2]
  simp only [named_a, bits_half, bits_geluC]
  rfl

variable (x0 x1 : Vec Ideal S256x512 .f32) (x2 x3 : Vec Ideal S1x512 .f32) (x4 : Vec Ideal S4x128x128 .f32) (x5 : Vec Ideal S4x128x1 .f32)

/-- Group `g`'s part of a block of the result. -/
def part (g : Fin 4) : FVec Ideal S256x128 .f32 :=
  mulf (sl g (k0_pay2 (wh x0))) (tS (sl g (k0_pay2 (wh x1))) (lane g x2) (lane g x3) (sq g x4) (cl g x5))

/-- The block that the body stores. -/
def blk : FVec Ideal S256x512 .bf16 :=
  truncf .bf16 (concatenate S256x512 1 [⟨S256x128, part x0 x1 x2 x3 x4 x5 0⟩, ⟨S256x128, part x0 x1 x2 x3 x4 x5 1⟩,
    ⟨S256x128, part x0 x1 x2 x3 x4 x5 2⟩, ⟨S256x128, part x0 x1 x2 x3 x4 x5 3⟩]
    concatenates_S256x128_S256x128_S256x128_S256x128_S256x512_d1) bitsLt_bf16_f32

theorem out_eq : out0_6 x0 x1 x2 x3 x4 x5 = blk x0 x1 x2 x3 x4 x5 := by
  unfold_out out0_6
  refine (View.canon_unit_zero (S := S256x512) (off := ![0, 0]) (show (![0, 0] : Fin 2 → ℕ) = fun _ => 0 by decide) _ _).trans ?_
  rfl

/-- A block's entry, over the block's windows. -/
def ent (a : Fin 256) (l : Fin 512) : EReal :=
  gl (x0 (ix2 a l)) * gate (fun j => x4 (ix3 ⟨l.val / 128, by omega⟩ ⟨a.val % 128, by omega⟩ j))
    (x5 (ix3 ⟨l.val / 128, by omega⟩ ⟨a.val % 128, by omega⟩ 0))
    (fun j k => gl (x1 (ix2 ⟨128 * (a.val / 128) + j.val, by omega⟩ ⟨128 * (l.val / 128) + k.val, by omega⟩)))
    (x2 (ix2 0 l)) (x3 (ix2 0 l)) ⟨a.val % 128, by omega⟩ ⟨l.val % 128, by omega⟩

theorem part_apply (g : Fin 4) (a : Fin 256) (l : Fin 128) :
    part x0 x1 x2 x3 x4 x5 g (ix2 a l) = ent x0 x1 x2 x3 x4 x5 a ⟨128 * g.val + l.val, by omega⟩ := by
  unfold part ent
  have hr (a' : Fin 256) : row (sl g (k0_pay2 x1)) a' = fun k => gl (x1 (ix2 a' ⟨128 * g.val + k.val, by omega⟩)) :=
    funext fun k => by rw [row, sl_apply, gl_apply]
  pointwise
  simp only [s_apply, hr, sl_apply, lane_apply, sq_apply, cl_apply, gl_apply, wh_eq]
  have h1 : (⟨(128 * g.val + l.val) / 128, by omega⟩ : Fin 4) = g := Fin.ext (by dsimp only; omega)
  have h2 : (⟨(128 * g.val + l.val) % 128, by omega⟩ : Fin 128) = l := Fin.ext (by dsimp only; omega)
  have h3 : (128 * g.val + l.val) / 128 = g.val := by omega
  simp only [h1, h2, h3]

theorem blk_apply (a : Fin 256) (l : Fin 512) : blk x0 x1 x2 x3 x4 x5 (ix2 a l) = ent x0 x1 x2 x3 x4 x5 a l := by
  pointwise [blk]
  simp only [part_apply]
  split_ifs <;> congr 1 <;> exact Fin.ext (by dsimp only; omega)

/-! The array. -/

theorem idx : ∀ t : Fin cfg0.N, win0_0.index t = ![t.val % 8, 3 + t.val / 8] ∧ win0_1.index t = ![t.val % 8, 5 + t.val / 8] ∧
    win0_2.index t = ![0, t.val / 8] ∧ win0_3.index t = ![0, t.val / 8] ∧ win0_4.index t = ![t.val / 8, 0, 0] ∧
    win0_5.index t = ![t.val / 8, 0, 0] ∧ win0_6.index t = ![t.val % 8, t.val / 8] :=
  (by decide +kernel : ∀ t : Fin grid0.N, _)

end Kernel

/-- The forward gating unit: the gate half after GELU times the gate that its chunk of the value half gives. -/
def arr (p : FVec Ideal ⟨2, ![2048, 7680]⟩ .f32) (lg lb : FVec Ideal ⟨1, ![1024]⟩ .f32) (w : FVec Ideal ⟨3, ![8, 128, 128]⟩ .f32)
    (b : FVec Ideal ⟨2, ![8, 128]⟩ .f32) (r : Fin 2048) (k : Fin 1024) : EReal :=
  gl (p (ix2 r ⟨1536 + k.val, by omega⟩)) * gate (fun j => w (ix3 ⟨k.val / 128, by omega⟩ ⟨r.val % 128, by omega⟩ j))
    (b (ix2 ⟨k.val / 128, by omega⟩ ⟨r.val % 128, by omega⟩))
    (fun j l => gl (p (ix2 ⟨128 * (r.val / 128) + j.val, by omega⟩ ⟨2560 + (128 * (k.val / 128) + l.val), by omega⟩)))
    (lg (ix1 k)) (lb (ix1 k)) ⟨r.val % 128, by omega⟩ ⟨k.val % 128, by omega⟩

section Kernel

open Cert.Sgu Cert.SguFwdIdeal Cert.SguFwdIdeal.Gen

variable (m : (ℓ : Loc nD τ sig) → Buf (Elt Ideal) ℓ) (c : Dev nD)

/-- The array of device `c`'s arguments. -/
abbrev arrOf : FVec Ideal S2048x1024 .bf16 := fun i =>
  arr (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem block (t : Fin cfg0.N) (a : Fin 256) (l : Fin 512) :
    ent (iblk m c 0 t) (iblk m c 1 t) (iblk m c 2 t) (iblk m c 3 t) (iblk m c 4 t) (iblk m c 5 t) a l =
      arrOf m c (ix2 ⟨256 * (t.val % 8) + a.val, by omega⟩ ⟨512 * (t.val / 8) + l.val, by have : t.val < 16 := t.isLt; omega⟩) := by
  have ht : t.val < 16 := t.isLt
  obtain ⟨e0, e1, e2, e3, e4, e5, -⟩ := idx t
  have b0 (a : Fin 256) (l : Fin 512) : iblk m c 0 t (ix2 a l) = m ((c : Thread nD τ).loc main_arg0)
      (ix2 ⟨256 * (t.val % 8) + a.val, by omega⟩ ⟨1536 + (512 * (t.val / 8) + l.val), by omega⟩) := by
    blk_ext [iblk, V, e0]
  have b1 (a : Fin 256) (l : Fin 512) : iblk m c 1 t (ix2 a l) = m ((c : Thread nD τ).loc main_arg0)
      (ix2 ⟨256 * (t.val % 8) + a.val, by omega⟩ ⟨2560 + (512 * (t.val / 8) + l.val), by omega⟩) := by
    blk_ext [iblk, V, e1]
  have b2 (l : Fin 512) : iblk m c 2 t (ix2 0 l) = m ((c : Thread nD τ).loc main_arg1) (ix1 ⟨512 * (t.val / 8) + l.val, by omega⟩) := by
    blk_simp [iblk, V, e2]
    entry_read
    pointwise
    blk_ext [iblk, V, e2]
  have b3 (l : Fin 512) : iblk m c 3 t (ix2 0 l) = m ((c : Thread nD τ).loc main_arg2) (ix1 ⟨512 * (t.val / 8) + l.val, by omega⟩) := by
    blk_simp [iblk, V, e3]
    entry_read
    pointwise
    blk_ext [iblk, V, e3]
  have b4 (g : Fin 4) (i j : Fin 128) : iblk m c 4 t (ix3 g i j) = m ((c : Thread nD τ).loc main_arg3) (ix3 ⟨4 * (t.val / 8) + g.val, by omega⟩ i j) := by
    blk_ext [iblk, V, e4]
  have b5 (g : Fin 4) (i : Fin 128) : iblk m c 5 t (ix3 g i 0) = m ((c : Thread nD τ).loc main_arg4) (ix2 ⟨4 * (t.val / 8) + g.val, by omega⟩ i) := by
    blk_simp [iblk, V, e5]
    entry_read
    pointwise
    blk_ext [iblk, V, e5]
  unfold ent arrOf arr
  rw [b0, b2, b3, b5]
  simp only [b1, b4]
  have h1 : (512 * (t.val / 8) + l.val) / 128 = 4 * (t.val / 8) + l.val / 128 := by omega
  have h2 : (256 * (t.val % 8) + a.val) % 128 = a.val % 128 := by omega
  have h3 : (512 * (t.val / 8) + l.val) % 128 = l.val % 128 := by omega
  have h4 (j : ℕ) : 128 * ((256 * (t.val % 8) + a.val) / 128) + j = 256 * (t.val % 8) + (128 * (a.val / 128) + j) := by omega
  have h5 (k : ℕ) : 2560 + (128 * (4 * (t.val / 8) + l.val / 128) + k) = 2560 + (512 * (t.val / 8) + (128 * (l.val / 128) + k)) := by omega
  show _ = gl (m ((c : Thread nD τ).loc main_arg0) (ix2 ⟨256 * (t.val % 8) + a.val, _⟩ ⟨1536 + (512 * (t.val / 8) + l.val), _⟩)) * gate _ _ _ _ _ _ _
  simp only [ix2, h1, h2, h3, h4, h5]

/-- The kernel's result. -/
theorem arrAt : (dats m 0 c).arrAt 6 cfg0.N = arrOf m c := by
  refine (dats m 0 c).arrAt_eq_of_covers 6 _ (by decide +kernel) fun t hf y => ?_
  obtain ⟨-, -, -, -, -, -, e6⟩ := idx t
  obtain ⟨a, b, rfl⟩ : ∃ (a : Fin 256) (b : Fin 512), y = ix2 a b := ⟨y 0, y 1, eq_ix2 y⟩
  blk_simp [e6]
  rw [after0_6, out_eq]
  refine (blk_apply _ _ _ _ _ _ a b).trans ((block m c t a b).trans ?_)
  blk_ext [e6]

end Kernel

end Cert.SguFwdVal

end
-- ==== Proof.SguFwdVal.lean ====
/- The claims about the forward gating unit: the reference's array is the kernel's, over all extended reals. -/
module

public import proofs.«01_k».proof.Defs
public import proofs.«01_k».proof.Proof.SguFwdBlock
public import proofs.«01_k».proof.Proof.Gen.SguFwdRefIdeal.Run
public import Idealize.ShloMosaic.Lib.IdealHost
public import Idealize.ShloMosaic.Lib.Quiescent
public import Idealize.ShloMosaic.Lib.Tactic

@[expose] public section

set_option maxRecDepth 16384

noncomputable section

namespace Cert.SguFwdVal

section Reference

open Cert.SguFwdRefIdeal Cert.SguFwdRefIdeal.Gen Cert.SguFwdRefIdeal.Value Cert.Lift Idealize.ShloMosaic Idealize.ShloMosaic.TcCoe Idealize.SL.Sem

/-! The reference's arrays, each from the one before. -/

variable (p : FVec Ideal S2048x7680 .f32) (lg lb : FVec Ideal S1024 .f32) (w : FVec Ideal S8x128x128 .f32) (b : FVec Ideal S8x128 .f32)

/-- The two halves' pre-activations. -/
def rX : FVec Ideal S1x2048x2048 .f32 :=
  broadcastInDim S1x2048x2048 ![1, 2] bcast_S2048x2048_S1x2048x2048_1_2 (extractStridedSlice S2048x2048 ![0, 1536] p slices_S2048x7680_S2048x2048_0_1536)
/-- After GELU. -/
def rG (x : FVec Ideal S1x2048x2048 .f32) : FVec Ideal S1x2048x2048 .f32 :=
  mulf x (mulf (broadcastInDim S1x2048x2048 ![] bcast_S_S1x2048x2048 (constant S_ .f32 0x3F000000#32)) (addf (broadcastInDim S1x2048x2048 ![] bcast_S_S1x2048x2048 (constant S_ .f32 0x3F800000#32)) (Host.tanh (mulf (broadcastInDim S1x2048x2048 ![] bcast_S_S1x2048x2048 (constant S_ .f32 0x3F4C422A#32)) (addf x (Host.divf (mulf (broadcastInDim S1x2048x2048 ![] bcast_S_S1x2048x2048 (constant S_ .f32 0x460BBC00#32)) (mulf (mulf x x) x)) (broadcastInDim S1x2048x2048 ![] bcast_S_S1x2048x2048 (constant S_ .f32 0x48435000#32))))))))
/-- The value half by groups. -/
def rV (g : FVec Ideal S1x2048x2048 .f32) : FVec Ideal S1x2048x8x128 .f32 :=
  shapeCast _ (extractStridedSlice S1x2048x1024 ![0, 0, 1024] g slices_S1x2048x2048_S1x2048x1024_0_0_1024) shapeCasts_S1x2048x1024_S1x2048x8x128
/-- The mean of each group. -/
def rMean (v : FVec Ideal S1x2048x8x128 .f32) : FVec Ideal S1x2048x8x1 .f32 :=
  Host.divf (broadcastInDim S1x2048x8x1 ![0, 1, 2] bcast_S1x2048x8_S1x2048x8x1_0_1_2 (Host.reduceAdd v (constant S_ .f32 0x00000000#32) reducesTo_S1x2048x8x128_S1x2048x8_d3 h_S_)) (broadcastInDim S1x2048x8x1 ![] bcast_S_S1x2048x8x1 (constant S_ .f32 0x43000000#32))
/-- The centred values. -/
def rC (v : FVec Ideal S1x2048x8x128 .f32) : FVec Ideal S1x2048x8x128 .f32 :=
  subf v (broadcastInDim S1x2048x8x128 ![0, 1, 2, 3] bcast_S1x2048x8x1_S1x2048x8x128_0_1_2_3 (rMean v))
/-- The normalized values with gain and bias. -/
def rN (v : FVec Ideal S1x2048x8x128 .f32) : FVec Ideal S1x2048x8x128 .f32 :=
  addf (mulf (mulf (rC v) (broadcastInDim S1x2048x8x128 ![0, 1, 2, 3] bcast_S1x2048x8x1_S1x2048x8x128_0_1_2_3 (Host.rsqrt (addf (rMean (mulf (rC v) (rC v))) (broadcastInDim S1x2048x8x1 ![] bcast_S_S1x2048x8x1 (constant S_ .f32 0x358637BD#32)))))) (broadcastInDim S1x2048x8x128 ![0, 1, 2, 3] bcast_S1x1x8x128_S1x2048x8x128_0_1_2_3 (broadcastInDim S1x1x8x128 ![2, 3] bcast_S8x128_S1x1x8x128_2_3 (shapeCast _ lg shapeCasts_S1024_S8x128)))) (broadcastInDim S1x2048x8x128 ![0, 1, 2, 3] bcast_S1x1x8x128_S1x2048x8x128_0_1_2_3 (broadcastInDim S1x1x8x128 ![2, 3] bcast_S8x128_S1x1x8x128_2_3 (shapeCast _ lb shapeCasts_S1024_S8x128)))
/-- The causal mixing matrices. -/
def rW : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S8x128x128 ![] bcast_S_S8x128x128 (constant S_ .f32 0x00000000#32))
/-- The gate. -/
def rS (n : FVec Ideal S1x2048x8x128 .f32) : FVec Ideal S1x16x128x8x128 .f32 :=
  addf (transpose S1x16x128x8x128 [1, 2, 4, 0, 3] (Host.dotGeneral dot_S1x16x128x8x128_S8x128x128_S8x1x16x128x128_2_2_014_1_3_0 none (shapeCast _ n shapeCasts_S1x2048x8x128_S1x16x128x8x128) (rW w)) transposes_S8x1x16x128x128_S1x16x128x8x128_1_2_4_0_3) (broadcastInDim S1x16x128x8x128 ![0, 1, 2, 3, 4] bcast_S1x1x128x8x1_S1x16x128x8x128_0_1_2_3_4 (broadcastInDim S1x1x128x8x1 ![2, 3] bcast_S128x8_S1x1x128x8x1_2_3 (transpose S128x8 [1, 0] b transposes_S8x128_S128x8_1_0)))
/-- The result. -/
def rOut (g : FVec Ideal S1x2048x2048 .f32) (s : FVec Ideal S1x16x128x8x128 .f32) : FVec Ideal S2048x1024 .bf16 :=
  truncf .bf16 (shapeCast _ (mulf (extractStridedSlice S1x2048x1024 ![0, 0, 0] g slices_S1x2048x2048_S1x2048x1024_0_0_0) (shapeCast _ s shapeCasts_S1x16x128x8x128_S1x2048x1024)) shapeCasts_S1x2048x1024_S2048x1024) bitsLt_bf16_f32

theorem term_eq (m : (ℓ : Loc nD τ sig) → Buf (Elt Ideal) ℓ) (c : Dev nD) :
    res_main_v61 m c = rOut (rG (rX (m ((c : Thread nD τ).loc main_arg0))))
      (rS (m ((c : Thread nD τ).loc main_arg3)) (m ((c : Thread nD τ).loc main_arg4))
        (rN (m ((c : Thread nD τ).loc main_arg1)) (m ((c : Thread nD τ).loc main_arg2)) (rV (rG (rX (m ((c : Thread nD τ).loc main_arg0))))))) := rfl

theorem rX_apply (r k : Fin 2048) : rX p (ix3 0 r k) = p (ix2 r ⟨1536 + k.val, by omega⟩) := by
  pointwise [rX]

theorem rG_apply (x : FVec Ideal S1x2048x2048 .f32) (r k : Fin 2048) : rG x (ix3 0 r k) = gl (x (ix3 0 r k)) := by
  pointwise [rG]
  simp only [bits_half, bits_geluC, bits_8943, bits_200000, Ideal.div_coe (show (200000 : ℝ) ≠ 0 by norm_num)]
  unfold gl
  rw [show (8943 / 200000 : ℝ) = 8943 * (1 / 200000) by norm_num, EReal.coe_mul]
  rw [show ((8943 : ℝ) : EReal) * (x (ix3 0 r k) * x (ix3 0 r k) * x (ix3 0 r k)) * ((1 / 200000 : ℝ) : EReal) =
    ((8943 : ℝ) : EReal) * ((1 / 200000 : ℝ) : EReal) * x (ix3 0 r k) * x (ix3 0 r k) * x (ix3 0 r k) by ac_rfl]
  ac_rfl

theorem rV_apply (g : FVec Ideal S1x2048x2048 .f32) (r : Fin 2048) (q : Fin 8) (l : Fin 128) :
    rV g (ix4 0 r q l) = g (ix3 0 r ⟨1024 + (128 * q.val + l.val), by omega⟩) := by
  pointwise [rV]
  simp only [show q.val * 128 + l.val = 128 * q.val + l.val by omega]

variable (v : FVec Ideal S1x2048x8x128 .f32)

theorem rMean_apply (r : Fin 2048) (q : Fin 8) : rMean v (ix4 0 r q 0) = mean fun l => v (ix4 0 r q l) := by
  pointwise [rMean]
  rw [bits_128]
  rfl

theorem rC_apply (r : Fin 2048) (q : Fin 8) (l : Fin 128) : rC v (ix4 0 r q l) = vc (fun l => v (ix4 0 r q l)) l := by
  pointwise [rC]
  rw [rMean_apply]
  rfl

theorem rN_apply (r : Fin 2048) (q : Fin 8) (l : Fin 128) :
    rN lg lb v (ix4 0 r q l) = vn (fun l => v (ix4 0 r q l)) (lg (ix1 ⟨128 * q.val + l.val, by omega⟩)) (lb (ix1 ⟨128 * q.val + l.val, by omega⟩)) l := by
  have e : (fun l => mulf (rC v) (rC v) (ix4 0 r q l)) = fun l => vc (fun l => v (ix4 0 r q l)) l * vc (fun l => v (ix4 0 r q l)) l := by
    funext l
    pointwise
    rw [rC_apply]
  pointwise [rN]
  rw [rMean_apply, rC_apply]
  simp only [bits_eps, show q.val * 128 + l.val = 128 * q.val + l.val by omega]
  rw [e]
  rfl

theorem rW_apply (q : Fin 8) (i j : Fin 128) : rW w (ix3 q i j) = (if j.val ≤ i.val then w (ix3 q i j) else 0 : EReal) := by
  pointwise [rW]
  rw [show IntOp.addi (BitVec.ofNat 32 i.val) 0#32 = BitVec.ofNat 32 i.val from BitVec.add_zero _, Sgu.mask_val]
  by_cases h : j.val ≤ i.val <;> simp [Scalar.select, h]

theorem rS_apply (n : FVec Ideal S1x2048x8x128 .f32) (k : Fin 16) (i : Fin 128) (q : Fin 8) (l : Fin 128) :
    rS w b n (ix5 0 k i q l) = (∑ j : Fin 128, (if j.val ≤ i.val then w (ix3 q i j) else 0 : EReal) * n (ix4 0 ⟨128 * k.val + j.val, by omega⟩ q l)) + b (ix2 q i) := by
  pointwise [rS]
  simp only [rW_apply, mul_comm (n _), show ∀ j : ℕ, k.val * 128 + j = 128 * k.val + j from fun j => by omega]

theorem rOut_apply (g : FVec Ideal S1x2048x2048 .f32) (s : FVec Ideal S1x16x128x8x128 .f32) (r : Fin 2048) (k : Fin 1024) :
    rOut g s (ix2 r k) = g (ix3 0 r ⟨k.val, by omega⟩) * s (ix5 0 ⟨r.val / 128, by omega⟩ ⟨r.val % 128, by omega⟩ ⟨k.val / 128, by omega⟩ ⟨k.val % 128, by omega⟩) := by
  pointwise [rOut]

/-- The reference's array is the kernel's function of the arguments. -/
theorem ref_arr (r : Fin 2048) (k : Fin 1024) :
    rOut (rG (rX p)) (rS w b (rN lg lb (rV (rG (rX p))))) (ix2 r k) = arr p lg lb w b r k := by
  unfold arr gate
  rw [rOut_apply, rS_apply]
  simp only [rN_apply, rV_apply, rG_apply, rX_apply, show 128 * (k.val / 128) + k.val % 128 = k.val by omega,
    show ∀ l : ℕ, 1536 + (1024 + l) = 2560 + l from fun l => by omega]

end Reference

open Idealize.ShloMosaic Idealize.ShloMosaic.TcCoe Idealize.SL.Sem

/-- The reference's frame: it has no semaphores, and its run keeps its arguments. -/
theorem ref_frame : Cert.quiescent_SguFwdRefIdeal (hSguFwdRefIdeal := Cert.SguFwdRefIdeal.Gen.facts) := fun m ρ _ =>
  (θ_run _ _ _).mono (fun r h => ⟨fun c => (h c).2, sem_eq_zero_of_no_sems (by decide) _⟩) (Cert.SguFwdRefIdeal.Value.run m ρ)

/-- The kernel's array is the reference's. -/
theorem algebraic : Cert.algebraic_SguFwdIdeal_SguFwdRefIdeal (hSguFwdIdeal := Cert.SguFwdIdeal.Gen.facts)
    (hSguFwdRefIdeal := Cert.SguFwdRefIdeal.Gen.facts) := by
  intro m ρ m' ρ' _ hm
  refine ⟨fun c => arrOf m c, ?_, ?_⟩
  · exact (θ_run _ _ _).mono (fun r h c => ⟨(h c).1.trans (arrAt m c), (h c).2⟩) (Cert.SguFwdIdeal.Value.run_blocks m ρ)
  · refine (θ_run _ _ _).mono (fun r h c => ?_) (Cert.SguFwdRefIdeal.Value.run m' ρ')
    obtain ⟨e0, e1, e2, e3, e4⟩ := hm c
    refine ⟨(h c).1.trans ((term_eq m' c).trans (funext fun y => ?_)), (h c).2⟩
    obtain ⟨r, k, rfl⟩ : ∃ (r : Fin 2048) (k : Fin 1024), y = ix2 r k := ⟨y 0, y 1, eq_ix2 y⟩
    refine (ref_arr _ _ _ _ _ r k).trans ?_
    rw [e0, e1, e2, e3, e4]
    rfl

end Cert.SguFwdVal

end
-- ==== Proof.AttnFwdTerms.lean ====
/- One block of the forward attention: its terms, built of the backward kernel's probabilities, and their values where the
   windows hold real numbers. -/
module

public import proofs.«01_k».proof.Proof.AttnReal

@[expose] public section

set_option maxRecDepth 16384

noncomputable section

namespace Cert.AttnFwdVal

open Cert.AttnVal Cert.AttnIdeal Cert.AttnIdeal.Gen Idealize.ShloMosaic Idealize.ShloMosaic.TcCoe Idealize.SL.Sem

section Terms

variable {F : FTy → Type} [FloatOps F] [Named F]
variable (i : grid0.Coords) (x0 : Vec F S1x16 .f32) (x1 : Vec F S128x1024 .bf16) (x2 x3 x4 x5 : Vec F S128x512 .bf16)

/-- A stack's probabilities against its window of values. -/
def tO (P : FVec F S256x512 .f32) (v : FVec F S256x128 .bf16) : FVec F S512x128 .f32 :=
  matmul dot_S256x512_S256x128_S512x128_0_0_1_1_n_n none (truncf .bf16 P bitsLt_bf16_f32) v (constant S512x128 .f32 0x00000000#32)

/-- Key head `g`'s four query heads' results, -/
def oG (g : Fin 4) : FVec F S128x256 .f32 := unstack (tO (pG i x0 x1 x2 x3 g) (win g (wk x4) (wk x5)))

/-- and the block of all sixteen. -/
def oBlk : FVec F S128x1024 .bf16 :=
  truncf .bf16 (concatenate S128x1024 1 [⟨S128x256, oG i x0 x1 x2 x3 x4 x5 0⟩, ⟨S128x256, oG i x0 x1 x2 x3 x4 x5 1⟩, ⟨S128x256, oG i x0 x1 x2 x3 x4 x5 2⟩,
    ⟨S128x256, oG i x0 x1 x2 x3 x4 x5 3⟩] concatenates_S128x256_S128x256_S128x256_S128x256_S128x1024_d1) bitsLt_bf16_f32

end Terms

/-- A window's row of values, the first block's earlier half being its own, -/
def kwE (v : ℕ → ℕ → EReal) (n i c : ℕ) : EReal := if i < 128 then v (128 * (n - 1) + i) c else v (128 * n + i - 128) c
/-- and being zero. -/
def winE (v : ℕ → ℕ → EReal) (n i c : ℕ) : EReal := if 128 ≤ 128 * n + i then v (128 * n + i - 128) c else 0

/-- The two agree at a key that a query sees. -/
theorem kwE_eq (v : ℕ → ℕ → EReal) {n a i : ℕ} (h : sees n a i = true) (c : ℕ) : kwE v n i c = winE v n i c := by
  unfold sees at h
  have h := of_decide_eq_true h
  unfold kwE winE
  split_ifs <;> first
    | omega
    | (congr 1 <;> omega)

/-- Row `a` of block `n` of head `h`'s result, lane `d`: the window's values, of any size, weighted by the probabilities. -/
def oW (q k : ℕ → ℕ → ℝ) (v : ℕ → ℕ → EReal) (sk : ℕ → ℝ) (n h a d : ℕ) : EReal :=
  ∑ κ : Fin 256, ((pW q k sk n h a κ.val : ℝ) : EReal) * winE v n κ.val (64 * (h / 4) + d)

/-- A tile of a stack is one of its heads' rows. -/
theorem unstack_at (y : FVec Ideal S512x128 .f32) (f : ℕ → ℕ → EReal) (hy : ∀ r c, (y (ix2 r c) : EReal) = f r.val c.val) (a : Fin 128) (c : Fin 256) :
    (unstack y (ix2 a c) : EReal) = f (128 * (c.val / 64) + a.val) (c.val % 128) := by
  have hc := c.isLt
  have ha := a.isLt
  unfold unstack
  pointwise [pair]
  simp only [low_apply, hy]
  split_ifs
  all_goals refine congrArg₂ f ?_ ?_
  all_goals (first | omega | (simp only [Fin.isValue, Fin.val_zero, Fin.val_one]; omega))

/-- A window of values, for key head `u`. -/
theorem win_at {y2 y3 : Vec Ideal S128x512 .bf16} {v : ℕ → ℕ → EReal} {n : ℕ}
    (h2 : ∀ a b, (y2 (ix2 a b) : EReal) = kwE v n a.val (64 * (b.val / 128) + b.val % 64))
    (h3 : ∀ a b, (y3 (ix2 a b) : EReal) = kwE v n (128 + a.val) (64 * (b.val / 128) + b.val % 64)) (u : Fin 4) (κ : Fin 256) (c : Fin 128) :
    (win u (wk y2) (wk y3) (ix2 κ c) : EReal) = kwE v n κ.val (64 * u.val + c.val % 64) := by
  have hc := c.isLt
  pointwise [win, head]
  simp only [wk_apply, h2, h3]
  split_ifs <;> (congr 1 <;> omega)

section Block

variable {i : grid0.Coords} {x0 : Vec Ideal S1x16 .f32} {x1 : Vec Ideal S128x1024 .bf16} {x2 x3 x4 x5 : Vec Ideal S128x512 .bf16}
  {n : ℕ} {q k : ℕ → ℕ → ℝ} {v : ℕ → ℕ → EReal} {sk : ℕ → ℝ} (hi : (i 0).val = n)
  (h0 : ∀ h : Fin 16, (x0 (ix2 0 h) : EReal) = ((sk h.val : ℝ) : EReal))
  (h1 : ∀ a b, (x1 (ix2 a b) : EReal) = ((q (128 * n + a.val) b.val * (1 / 8) : ℝ) : EReal))
  (h2 : ∀ a b, (x2 (ix2 a b) : EReal) = ((kw k n a.val (64 * (b.val / 128) + b.val % 64) : ℝ) : EReal))
  (h3 : ∀ a b, (x3 (ix2 a b) : EReal) = ((kw k n (128 + a.val) (64 * (b.val / 128) + b.val % 64) : ℝ) : EReal))
  (h4 : ∀ a b, (x4 (ix2 a b) : EReal) = kwE v n a.val (64 * (b.val / 128) + b.val % 64))
  (h5 : ∀ a b, (x5 (ix2 a b) : EReal) = kwE v n (128 + a.val) (64 * (b.val / 128) + b.val % 64))

include hi h0 h1 h2 h3 h4 h5

theorem oG_apply (u : Fin 4) (a : Fin 128) (c : Fin 256) :
    (oG i x0 x1 x2 x3 x4 x5 u (ix2 a c) : EReal) = oW q k v sk n (4 * u.val + c.val / 64) a.val (c.val % 64) := by
  have hc := c.isLt
  have ha := a.isLt
  have h (r : Fin 512) (c : Fin 128) : (tO (pG i x0 x1 x2 x3 u) (win u (wk x4) (wk x5)) (ix2 r c) : EReal) =
      ∑ κ : Fin 256, ((pW q k sk n (4 * u.val + r.val / 128) (r.val % 128) κ.val : ℝ) : EReal) * kwE v n κ.val (64 * u.val + c.val % 64) := by
    pointwise [tO]
    simp only [pG_apply hi h0 h1 h2 h3, win_at h4 h5]
  refine (unstack_at _ (fun r c => ∑ κ : Fin 256, ((pW q k sk n (4 * u.val + r / 128) (r % 128) κ.val : ℝ) : EReal) * kwE v n κ.val (64 * u.val + c % 64)) h a c).trans ?_
  unfold oW
  rw [show (128 * (c.val / 64) + a.val) / 128 = c.val / 64 by omega, show (128 * (c.val / 64) + a.val) % 128 = a.val by omega,
    show (4 * u.val + c.val / 64) / 4 = u.val by omega]
  refine Finset.sum_congr rfl fun κ _ => ?_
  rw [show c.val % 128 % 64 = c.val % 64 by omega]
  cases h : sees n a.val κ.val
  · unfold pW
    rw [prob_of_not h, EReal.coe_zero, zero_mul, zero_mul]
  · rw [kwE_eq v h]

/-- A block of the result. -/
theorem oBlk_apply (a : Fin 128) (b : Fin 1024) :
    (oBlk i x0 x1 x2 x3 x4 x5 (ix2 a b) : EReal) = oW q k v sk n (b.val / 64) a.val (b.val % 64) := by
  have hb := b.isLt
  unfold oBlk
  pointwise
  simp only [oG_apply hi h0 h1 h2 h3 h4 h5]
  split_ifs <;> (congr 1 <;> first | omega | (simp only [Fin.isValue, Fin.val_zero, Fin.val_one, Fin.val_two, show (3 : Fin 4).val = 3 from rfl]; omega))

end Block

end Cert.AttnFwdVal

end
-- ==== Proof.AttnFwdBlock.lean ====
/- The array that the forward attention leaves, over its whole grid. -/
module

public import proofs.«01_k».proof.Proof.AttnFwdTerms
public import proofs.«01_k».proof.Proof.AttnArr
public import proofs.«01_k».proof.Proof.Gen.AttnFwdIdeal.Value
public import Idealize.ShloMosaic.Lib.Pipeline.ValueKit
public import Idealize.ShloMosaic.Lib.Claim
public import Idealize.ShloMosaic.Lib.Tactic

@[expose] public section

set_option maxRecDepth 16384

noncomputable section

namespace Cert.AttnFwdVal

open Cert.AttnFwdIdeal Cert.AttnFwdIdeal.Gen Idealize.ShloMosaic Idealize.ShloMosaic.TcCoe Idealize.SL.Sem
open Cert.AttnVal (re1 re2 re1_eq re2_eq kw lane)

/-- The entries of an array, by numbers. -/
def ex2 {a b : ℕ} (M : (⟨2, ![a, b]⟩ : Shape).Idx → EReal) (i j : ℕ) : EReal := if h : i < a ∧ j < b then M (ix2 ⟨i, h.1⟩ ⟨j, h.2⟩) else 0

theorem ex2_eq {a b : ℕ} (M : (⟨2, ![a, b]⟩ : Shape).Idx → EReal) (i : Fin a) (j : Fin b) : M (ix2 i j) = ex2 M i.val j.val := by
  unfold ex2
  rw [dif_pos ⟨i.isLt, j.isLt⟩]

/-- What one point writes. -/
theorem out6 (c : Dev nD) (i : grid0.Coords)
    (a1 : Memref sig .tc .smem S1x16 .f32) (h1 : a1.IsWhole) (a2 : Memref sig .tc .vmem S128x1024 .bf16) (h2 : a2.IsWhole)
    (a3 : Memref sig .tc .vmem S128x512 .bf16) (h3 : a3.IsWhole) (a4 : Memref sig .tc .vmem S128x512 .bf16) (h4 : a4.IsWhole)
    (a5 : Memref sig .tc .vmem S128x512 .bf16) (h5 : a5.IsWhole) (a6 : Memref sig .tc .vmem S128x512 .bf16) (h6 : a6.IsWhole)
    (a7 : Memref sig .tc .vmem S128x1024 .bf16) (h7 : a7.IsWhole)
    (x0 : Vec Ideal S1x16 .f32) (x1 : Vec Ideal S128x1024 .bf16) (x2 x3 x4 x5 : Vec Ideal S128x512 .bf16) :
    out0_A_6 c i a1 h1 a2 h2 a3 h3 a4 h4 a5 h5 a6 h6 a7 h7 x0 x1 x2 x3 x4 x5 = oBlk i x0 x1 x2 x3 x4 x5 := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  sl_unfold_words
  refine (View.canon_unit_zero (S := S128x1024) (off := ![0, 0]) (show (![0, 0] : Fin 2 → ℕ) = fun _ => 0 by decide) _ _).trans ?_
  simp only [View.readAt_eq_ld]
  try rw [h1.read_unread x0]
  try rw [h2.read_unread x1]
  try rw [h3.read_unread x2]
  try rw [h4.read_unread x3]
  try rw [h5.read_unread x4]
  try rw [h6.read_unread x5]
  rfl

theorem idx : ∀ t : Fin cfg0.N, win0_0.index t = ![0, 0] ∧ win0_1.index t = ![t.val, 0] ∧ win0_2.index t = ![t.val - 1, 0] ∧
    win0_3.index t = ![t.val, 0] ∧ win0_4.index t = ![t.val - 1, 0] ∧ win0_5.index t = ![t.val, 0] ∧ win0_6.index t = ![t.val, 0] :=
  (by decide +kernel : ∀ t : Fin grid0.N, _)

theorem coord : ∀ t : Fin cfg0.N, ((grid0.coords t) 0).val = t.val := (by decide +kernel : ∀ t : Fin grid0.N, _)

variable (m : (ℓ : Loc nD τ sig) → Buf (Elt Ideal) ℓ) (c : Dev nD)

/-- The queries, -/
def Q : S2048x1024.Idx → EReal := m ((c : Thread nD τ).loc main_arg0)
/-- the keys, -/
def K : S2048x256.Idx → EReal := m ((c : Thread nD τ).loc main_arg1)
/-- the values -/
def W : S2048x256.Idx → EReal := m ((c : Thread nD τ).loc main_arg2)
/-- and the sinks. -/
def Sk : S16.Idx → EReal := m ((c : Thread nD τ).loc main_arg3)

/-- The blocks at point `t`. -/
def X0 (t : Fin cfg0.N) : Vec Ideal S1x16 .f32 := iblk m c 0 t
def X1 (t : Fin cfg0.N) : Vec Ideal S128x1024 .bf16 := iblk m c 1 t
def X2 (t : Fin cfg0.N) : Vec Ideal S128x512 .bf16 := iblk m c 2 t
def X3 (t : Fin cfg0.N) : Vec Ideal S128x512 .bf16 := iblk m c 3 t
def X4 (t : Fin cfg0.N) : Vec Ideal S128x512 .bf16 := iblk m c 4 t
def X5 (t : Fin cfg0.N) : Vec Ideal S128x512 .bf16 := iblk m c 5 t

/-- The row of the array that row `a` of block `t` is, -/
def row (t : Fin cfg0.N) (a : Fin 128) : Fin 2048 := ⟨128 * t.val + a.val, by have := t.isLt; have : cfg0.N = 16 := N_0; omega⟩
/-- and of the block before it, the first block being its own. -/
def rowP (t : Fin cfg0.N) (a : Fin 128) : Fin 2048 := ⟨128 * (t.val - 1) + a.val, by have := t.isLt; have : cfg0.N = 16 := N_0; omega⟩

/-- The arrays the region starts from. -/
theorem V_eq (b : Ref sig .tc) : V m c b = StableHlo.after hostOps0 (fun b => m (c, b)) b := by
  rfl

theorem X0_apply (t : Fin cfg0.N) (h : Fin 16) : (X0 m c t (ix2 0 h) : EReal) = Sk m c (ix1 h) := by
  obtain ⟨e, -, -, -, -, -, -⟩ := idx t
  unfold X0 Sk
  blk_simp [iblk, e]
  rw [V_eq]
  entry_read
  pointwise
  blk_ext [iblk, e]

/-- The scaled queries and the spread keys and values. -/
theorem scaled_q (r : Fin 2048) (b : Fin 1024) : (V m c main_v2 (ix2 r b) : EReal) = Q m c (ix2 r b) * Ideal.ofBits .f32 0x3E000000#32 := by
  unfold Q
  rw [V_eq]
  entry_read
  pointwise

theorem spread_k (r : Fin 2048) (b : Fin 512) : (V m c main_v6 (ix2 r b) : EReal) = K m c (ix2 r (lane b)) := by
  have h : (⟨b.val / 128 * 64 + b.val % 64, by have := b.isLt; omega⟩ : Fin 256) = lane b := Fin.ext (by unfold lane; dsimp only; omega)
  unfold K
  rw [V_eq]
  entry_read
  pointwise
  split_ifs <;> rw [h]

theorem spread_v (r : Fin 2048) (b : Fin 512) : (V m c main_v10 (ix2 r b) : EReal) = W m c (ix2 r (lane b)) := by
  have h : (⟨b.val / 128 * 64 + b.val % 64, by have := b.isLt; omega⟩ : Fin 256) = lane b := Fin.ext (by unfold lane; dsimp only; omega)
  unfold W
  rw [V_eq]
  entry_read
  pointwise
  split_ifs <;> rw [h]

theorem X1_apply (t : Fin cfg0.N) (a : Fin 128) (b : Fin 1024) :
    (X1 m c t (ix2 a b) : EReal) = Q m c (ix2 (row t a) b) * Ideal.ofBits .f32 0x3E000000#32 := by
  obtain ⟨-, e, -, -, -, -, -⟩ := idx t
  refine Eq.trans ?_ (scaled_q m c (row t a) b)
  unfold X1 row
  blk_simp [iblk, e]
  blk_ext [iblk, e]

theorem X2_apply (t : Fin cfg0.N) (a : Fin 128) (b : Fin 512) : (X2 m c t (ix2 a b) : EReal) = K m c (ix2 (rowP t a) (lane b)) := by
  obtain ⟨-, -, e, -, -, -, -⟩ := idx t
  refine Eq.trans ?_ (spread_k m c (rowP t a) b)
  unfold X2 rowP
  blk_simp [iblk, e]
  blk_ext [iblk, e]

theorem X3_apply (t : Fin cfg0.N) (a : Fin 128) (b : Fin 512) : (X3 m c t (ix2 a b) : EReal) = K m c (ix2 (row t a) (lane b)) := by
  obtain ⟨-, -, -, e, -, -, -⟩ := idx t
  refine Eq.trans ?_ (spread_k m c (row t a) b)
  unfold X3 row
  blk_simp [iblk, e]
  blk_ext [iblk, e]

theorem X4_apply (t : Fin cfg0.N) (a : Fin 128) (b : Fin 512) : (X4 m c t (ix2 a b) : EReal) = W m c (ix2 (rowP t a) (lane b)) := by
  obtain ⟨-, -, -, -, e, -, -⟩ := idx t
  refine Eq.trans ?_ (spread_v m c (rowP t a) b)
  unfold X4 rowP
  blk_simp [iblk, e]
  blk_ext [iblk, e]

theorem X5_apply (t : Fin cfg0.N) (a : Fin 128) (b : Fin 512) : (X5 m c t (ix2 a b) : EReal) = W m c (ix2 (row t a) (lane b)) := by
  obtain ⟨-, -, -, -, -, e, -⟩ := idx t
  refine Eq.trans ?_ (spread_v m c (row t a) b)
  unfold X5 row
  blk_simp [iblk, e]
  blk_ext [iblk, e]

theorem block6 (t : Fin cfg0.N) : outsAt0 m c t = oBlk (grid0.coords t) (X0 m c t) (X1 m c t) (X2 m c t) (X3 m c t) (X4 m c t) (X5 m c t) := by
  unfold outsAt0
  rw [out6]
  rfl

/-- The result's array, entry by entry. -/
def arrOf : S2048x1024.Idx → EReal := fun i =>
  oW (re2 (Q m c)) (re2 (K m c)) (ex2 (W m c)) (re1 (Sk m c)) ((i 0).val / 128) ((i 1).val / 64) ((i 0).val % 128) ((i 1).val % 64)

theorem arrOf_at (n a : ℕ) (ha : a < 128) (r : Fin 2048) (hr : r.val = 128 * n + a) (b : Fin 1024) :
    arrOf m c (ix2 r b) = oW (re2 (Q m c)) (re2 (K m c)) (ex2 (W m c)) (re1 (Sk m c)) n (b.val / 64) a (b.val % 64) := by
  obtain rfl : n = r.val / 128 := by omega
  obtain rfl : a = r.val % 128 := by omega
  rfl

/-- Real entries of the queries, the keys and the sinks. -/
structure Real3 : Prop where
  q : Lift.Reals (Q m c)
  k : Lift.Reals (K m c)
  s : Lift.Reals (Sk m c)

section Real

variable {m c} (H : Real3 m c)
include H

theorem h0 (t : Fin cfg0.N) (h : Fin 16) : (X0 m c t (ix2 0 h) : EReal) = ((re1 (Sk m c) h.val : ℝ) : EReal) :=
  (X0_apply m c t h).trans (re1_eq H.s h)

theorem h1 (t : Fin cfg0.N) (a : Fin 128) (b : Fin 1024) : (X1 m c t (ix2 a b) : EReal) = ((re2 (Q m c) (128 * t.val + a.val) b.val * (1 / 8) : ℝ) : EReal) := by
  rw [X1_apply, re2_eq H.q, Cert.AttnVal.bits_eighth, ← EReal.coe_mul]
  rfl

/-- The window's keys, the block before's -/
theorem h2 (t : Fin cfg0.N) (a : Fin 128) (b : Fin 512) :
    (X2 m c t (ix2 a b) : EReal) = ((kw (re2 (K m c)) t.val a.val (64 * (b.val / 128) + b.val % 64) : ℝ) : EReal) := by
  rw [X2_apply, re2_eq H.k]
  unfold kw
  rw [if_pos a.isLt]
  rfl

/-- and this one's, -/
theorem h3 (t : Fin cfg0.N) (a : Fin 128) (b : Fin 512) :
    (X3 m c t (ix2 a b) : EReal) = ((kw (re2 (K m c)) t.val (128 + a.val) (64 * (b.val / 128) + b.val % 64) : ℝ) : EReal) := by
  rw [X3_apply, re2_eq H.k]
  unfold kw
  rw [if_neg (by omega)]
  exact congrArg (fun r : ℝ => (r : EReal)) (by unfold row lane; dsimp only; congr 1; omega)

/-- and the window's values, likewise. -/
theorem h4 (t : Fin cfg0.N) (a : Fin 128) (b : Fin 512) :
    (X4 m c t (ix2 a b) : EReal) = kwE (ex2 (W m c)) t.val a.val (64 * (b.val / 128) + b.val % 64) := by
  rw [X4_apply, ex2_eq (W m c)]
  unfold kwE
  rw [if_pos a.isLt]
  rfl

theorem h5 (t : Fin cfg0.N) (a : Fin 128) (b : Fin 512) :
    (X5 m c t (ix2 a b) : EReal) = kwE (ex2 (W m c)) t.val (128 + a.val) (64 * (b.val / 128) + b.val % 64) := by
  rw [X5_apply, ex2_eq (W m c)]
  unfold kwE
  rw [if_neg (by omega)]
  unfold row lane; dsimp only; congr 1; omega

/-- The kernel's array is the attention of real arguments. -/
theorem arrAt : (dats m 0 c).arrAt 6 cfg0.N = arrOf m c := by
  refine (dats m 0 c).arrAt_eq_of_covers 6 _ (by decide +kernel) fun t hf y => ?_
  obtain ⟨-, -, -, -, -, -, e⟩ := idx t
  obtain ⟨a, b, rfl⟩ : ∃ (a : Fin 128) (b : Fin 1024), y = ix2 a b := ⟨y 0, y 1, eq_ix2 y⟩
  blk_simp [e]
  rw [after0_6, block6]
  refine (oBlk_apply (coord t) (h0 H t) (h1 H t) (h2 H t) (h3 H t) (h4 H t) (h5 H t) a b).trans ?_
  refine Eq.trans (b := arrOf m c (ix2 (row t a) b)) ?_ ?_
  · rw [arrOf_at m c t.val a.val a.isLt (row t a) rfl b]
  · unfold row
    blk_ext [e]

end Real

end Cert.AttnFwdVal

end
-- ==== Proof.AttnFwdVal.lean ====
/- The forward attention against the problem's attention. -/
module

public import proofs.«01_k».proof.Proof.AttnFwdBlock
public import proofs.«01_k».proof.Proof.AttnRef
public import proofs.«01_k».proof.Proof.Finite
public import proofs.«01_k».proof.Proof.Gen.AttnFwdRefIdeal.Run
public import proofs.«01_k».proof.Proof.Gen.Pre_attn_fwd_finite
public import proofs.«01_k».proof.Defs
public import Idealize.ShloMosaic.Lib.IdealHost
public import Idealize.ShloMosaic.Lib.Quiescent

@[expose] public section

set_option maxRecDepth 16384

noncomputable section

namespace Cert.AttnFwdVal

section Reference

open Cert.AttnFwdRefIdeal Cert.AttnFwdRefIdeal.Gen Idealize.ShloMosaic Idealize.ShloMosaic.TcCoe Idealize.SL.Sem
open Cert.AttnRefVal (rProb nWin prob_apply)
open Cert.AttnVal (pW)

/-- The reference's result from its probabilities and windows of values. -/
def rO (vw : Vec Ideal S1x16x256x4x64 .f32) (p : Vec Ideal S1x16x4x4x128x256 .f32) : Vec Ideal S2048x1024 .bf16 :=
  truncf (F := Ideal) (φ := .f32) .bf16 (shapeCast S2048x1024 (shapeCast S1x2048x1024 (transpose S1x16x128x4x4x64 [0, 1, 5, 2, 4, 3] (Host.dotGeneral (F := Ideal) (φ₁ := .f32) (φ₂ := .f32) dot_S1x16x256x4x64_S1x16x4x4x128x256_S1x16x4x64x4x128_2_5_4_34_013_012 none vw p)
    transposes_S1x16x4x64x4x128_S1x16x128x4x4x64_0_1_5_2_4_3) shapeCasts_S1x16x128x4x4x64_S1x2048x1024) shapeCasts_S1x2048x1024_S2048x1024) bitsLt_bf16_f32

theorem term_eq (m : (ℓ : Loc nD τ sig) → Buf (Elt Ideal) ℓ) (c : Dev nD) : Value.res_main_v70 m c =
    rO (nWin (m ((c.tc : Thread nD τ).loc main_arg2))) (rProb (m ((c.tc : Thread nD τ).loc main_arg0)) (m ((c.tc : Thread nD τ).loc main_arg1)) (m ((c.tc : Thread nD τ).loc main_arg3))) := rfl

variable {Qr : Vec Ideal S2048x1024 .f32} {Kr Vr : Vec Ideal S2048x256 .f32} {S : Vec Ideal S16 .f32} {q k : ℕ → ℕ → ℝ} {v : ℕ → ℕ → EReal} {sk : ℕ → ℝ}
  (hq : ∀ (r : Fin 2048) (b : Fin 1024), (Qr (ix2 r b) : EReal) = ((q r.val b.val : ℝ) : EReal))
  (hk : ∀ (r : Fin 2048) (b : Fin 256), (Kr (ix2 r b) : EReal) = ((k r.val b.val : ℝ) : EReal))
  (hv : ∀ (r : Fin 2048) (b : Fin 256), (Vr (ix2 r b) : EReal) = v r.val b.val)
  (hs : ∀ h : Fin 16, (S (ix1 h) : EReal) = ((sk h.val : ℝ) : EReal))

include hv in
/-- A window of values, of any size. -/
theorem winE_apply (n : Fin 16) (u : Fin 4) (i : Fin 256) (d : Fin 64) : (nWin Vr (ix5 0 n i u d) : EReal) = winE v n.val i.val (64 * u.val + d.val) := by
  unfold nWin; pointwise
  simp only [hv]
  unfold winE
  split_ifs <;> first
    | omega
    | rfl
    | exact congrArg₂ v (by (try dsimp only); omega) (by (try dsimp only); omega)

include hq hk hv hs in
/-- An entry of the reference's result. -/
theorem ref_apply (r : Fin 2048) (b : Fin 1024) :
    (rO (nWin Vr) (rProb Qr Kr S) (ix2 r b) : EReal) = oW q k v sk (r.val / 128) (b.val / 64) (r.val % 128) (b.val % 64) := by
  have hb := b.isLt
  unfold rO; pointwise
  simp only [prob_apply _ _ _ _ _ hq hk hs, winE_apply hv]
  unfold oW
  refine Finset.sum_congr rfl fun i _ => ?_
  rw [show 4 * (b.val / 256) + b.val / 64 % 4 = b.val / 64 by omega, show b.val / 64 / 4 = b.val / 256 by omega]
  exact mul_comm _ _

end Reference

open Idealize.ShloMosaic Idealize.ShloMosaic.TcCoe Idealize.SL.Sem

section Kernel

open Cert.AttnFwdIdeal Cert.AttnFwdIdeal.Gen

/-- Under the precondition the queries, the keys and the sinks are arrays of real numbers. -/
theorem reals (m : (ℓ : Loc nD τ sig) → Buf (Elt Ideal) ℓ) (c : Dev nD)
    (h : Cert.Pre_AttnFwdIdeal_attn_fwd_finite (hPre_attn_fwd_finite := Cert.Pre_attn_fwd_finite.Gen.facts) m) : Real3 m c := by
  obtain ⟨h0, h1, h2⟩ := h c
  exact ⟨fun i => Lift.real_of_test _ _ (fun _ => Lift.bits_inf) h0 i, fun i => Lift.real_of_test _ _ (fun _ => Lift.bits_inf) h1 i,
    fun i => Lift.real_of_test _ _ (fun _ => Lift.bits_inf) h2 i⟩

end Kernel

/-- The reference's frame: it has no semaphores, and its run keeps its arguments. -/
theorem ref_frame : Cert.quiescent_AttnFwdRefIdeal (hAttnFwdRefIdeal := Cert.AttnFwdRefIdeal.Gen.facts) := fun m ρ _ =>
  (θ_run _ _ _).mono (fun r h => ⟨fun c => (h c).2, sem_eq_zero_of_no_sems (by decide) _⟩) (Cert.AttnFwdRefIdeal.Value.run m ρ)

/-- The kernel's array is the reference's. -/
theorem algebraic : Cert.algebraic_AttnFwdIdeal_AttnFwdRefIdeal_pre_attn_fwd_finite (hAttnFwdIdeal := Cert.AttnFwdIdeal.Gen.facts)
    (hAttnFwdRefIdeal := Cert.AttnFwdRefIdeal.Gen.facts) (hPre_attn_fwd_finite := Cert.Pre_attn_fwd_finite.Gen.facts) := by
  intro m ρ m' ρ' hpre hm
  refine ⟨fun c => arrOf m c, ?_, ?_⟩
  · exact (θ_run _ _ _).mono (fun r h c => ⟨(h c).1.trans (arrAt (reals m c hpre)), (h c).2⟩) (Cert.AttnFwdIdeal.Value.run_blocks m ρ)
  · refine (θ_run _ _ _).mono (fun r h c => ?_) (Cert.AttnFwdRefIdeal.Value.run m' ρ')
    obtain ⟨e0, e1, e2, e3⟩ := hm c
    have H := reals m c hpre
    refine ⟨(h c).1.trans ((term_eq m' c).trans (funext fun y => ?_)), (h c).2⟩
    obtain ⟨a, b, rfl⟩ : ∃ (a : Fin 2048) (b : Fin 1024), y = ix2 a b := ⟨y 0, y 1, eq_ix2 y⟩
    rw [e0, e1, e2, e3]
    exact ref_apply (fun r b => Cert.AttnVal.re2_eq H.q r b) (fun r b => Cert.AttnVal.re2_eq H.k r b) (fun r b => ex2_eq _ r b)
      (fun h => Cert.AttnVal.re1_eq H.s h) a b

end Cert.AttnFwdVal

end
-- ==== Proof.QkPrepLanes.lean ====
/- A row of the kernel of the QK-norm and the rotary embedding: the mean squares by products with a block-diagonal matrix of
   ones, the norm, the rotation of each head's lanes, and each head of keys and values written twice. -/
module

public import proofs.«01_k».proof.Proof.Gen.QkPrepIdeal.Skeleton
public import proofs.«01_k».proof.Proof.QkLanes

@[expose] public section

set_option maxRecDepth 16384

noncomputable section

namespace Cert.QkPrepVal

open Cert.QkPrepIdeal Cert.QkPrepIdeal.Gen Cert.Lift Idealize.ShloMosaic Idealize.ShloMosaic.TcCoe Idealize.SL.Sem
open Cert.QkVal (headSum headSum_tile sum_halves half_row one_of Diag inv ms_pos bits_64 lt_half)

/-! ### The mathematics of a row -/

/-- A lane after the norm: entries `x`, gains `g`. -/
def normed (x : ℕ → ℝ) (g : ℕ → EReal) (b : ℕ) : EReal := ((x b * inv x b : ℝ) : EReal) * g b
/-- A lane after the rotary embedding, with the tables `C` and `S` over all lanes. -/
def roped (y : ℕ → EReal) (C S : ℕ → EReal) (b : ℕ) : EReal := y b * C b + y (if b % 64 < 32 then b + 32 else b - 32) * S b
/-- The lane that a lane of the doubled heads repeats. -/
def lane (b : ℕ) : ℕ := 64 * (b / 128) + b % 64

/-! ### The block-diagonal matrix -/

theorem diagQ : Diag (k0_pay12 (F := Ideal) k0_pay9 (iota .tc S128x128 32 [1] iota_S128x128_d1_w32) 64#32 k0_pay10 k0_pay11) := fun j k => by
  have h := half_row j
  unfold k0_pay12 k0_pay9 k0_pay10 k0_pay11
  pointwise
  rw [h, half_row k]
  exact one_of j k

section Row

variable {a : Fin 256}

theorem dot_row (u : FVec Ideal S256x128 .bf16) (o : FVec Ideal S128x128 .bf16) (ho : Diag o) (x : ℕ → ℝ) (hu : ∀ k : Fin 128, (u (ix2 a k) : EReal) = x k.val) (c : Fin 128) :
    (matmul dot_S256x128_S128x128_S256x128_1_0_0_1_n_n none u o (constant S256x128 .f32 0x00000000#32) (ix2 a c) : EReal) = ((headSum x c.val : ℝ) : EReal) := by
  pointwise
  simp only [hu, ho _ _, ← EReal.coe_mul, coe_sum, sum_halves]

/-- One tile of sums over the heads' lanes: the products with the rounded entries and with what rounding left. -/
theorem tile_sum (u v : FVec Ideal S256x128 .bf16) (o : FVec Ideal S128x128 .bf16) (ho : Diag o) (y : ℕ → ℝ) (n t : ℕ) (hn : n = 128 * t)
    (hu : ∀ k : Fin 128, (u (ix2 a k) : EReal) = y (n + k.val)) (hv : ∀ k : Fin 128, (v (ix2 a k) : EReal) = ((0 : ℝ) : EReal)) (c : Fin 128) :
    (addf (matmul dot_S256x128_S128x128_S256x128_1_0_0_1_n_n none u o (constant S256x128 .f32 0x00000000#32))
      (matmul dot_S256x128_S128x128_S256x128_1_0_0_1_n_n none v o (constant S256x128 .f32 0x00000000#32)) (ix2 a c) : EReal) = ((headSum y (n + c.val) : ℝ) : EReal) := by
  subst hn
  have h1 := dot_row (a := a) u o ho (fun k => y (128 * t + k)) hu c
  have h2 := dot_row (a := a) v o ho (fun _ => 0) hv c
  show (_ + _ : EReal) = _
  rw [h1, h2, ← EReal.coe_add, headSum_tile]
  simp [headSum]

/-- A tile of an array of 1024 lanes. -/
theorem cut8 (u : FVec Ideal S256x1024 .bf16) (f : ℕ → ℝ) (hu : ∀ k : Fin 1024, (u (ix2 a k) : EReal) = f k.val) (n : ℕ) (hw : n + 128 ≤ 1024) (hs : S256x1024.Slices ![0, n] S256x128)
    (k : Fin 128) : (extractStridedSlice S256x128 ![0, n] u hs (ix2 a k) : EReal) = f (n + k.val) := by
  refine Eq.trans ?_ (hu ⟨n + k.val, by omega⟩)
  pointwise

/-- A tile of an array of 256 lanes. -/
theorem cut2 {φ : FTy} (u : FVec Ideal S256x256 φ) (f : ℕ → EReal) (hu : ∀ k : Fin 256, (u (ix2 a k) : EReal) = f k.val) (n : ℕ) (hw : n + 128 ≤ 256) (hs : S256x256.Slices ![0, n] S256x128)
    (k : Fin 128) : (extractStridedSlice S256x128 ![0, n] u hs (ix2 a k) : EReal) = f (n + k.val) := by
  refine Eq.trans ?_ (hu ⟨n + k.val, by omega⟩)
  pointwise

/-- Eight tiles side by side. -/
theorem cat8 (v0 v1 v2 v3 v4 v5 v6 v7 : FVec Ideal S256x128 .f32) (f : ℕ → EReal)
    (h0 : ∀ c : Fin 128, (v0 (ix2 a c) : EReal) = f (0 + c.val))
    (h1 : ∀ c : Fin 128, (v1 (ix2 a c) : EReal) = f (128 + c.val))
    (h2 : ∀ c : Fin 128, (v2 (ix2 a c) : EReal) = f (256 + c.val))
    (h3 : ∀ c : Fin 128, (v3 (ix2 a c) : EReal) = f (384 + c.val))
    (h4 : ∀ c : Fin 128, (v4 (ix2 a c) : EReal) = f (512 + c.val))
    (h5 : ∀ c : Fin 128, (v5 (ix2 a c) : EReal) = f (640 + c.val))
    (h6 : ∀ c : Fin 128, (v6 (ix2 a c) : EReal) = f (768 + c.val))
    (h7 : ∀ c : Fin 128, (v7 (ix2 a c) : EReal) = f (896 + c.val)) (b : Fin 1024) :
    (concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩]
      concatenates_S256x128_S256x128_S256x128_S256x128_S256x128_S256x128_S256x128_S256x128_S256x1024_d1 (ix2 a b) : EReal) = f b.val := by
  have hb := b.isLt
  pointwise
  split_ifs <;> first | exact absurd rfl ‹¬_› | skip
  all_goals
    simp only [h0, h1, h2, h3, h4, h5, h6, h7]
    refine congrArg f ?_
    omega

/-- Two tiles side by side. -/
theorem cat2 (v w : FVec Ideal S256x128 .f32) (f : ℕ → EReal) (hv : ∀ c : Fin 128, (v (ix2 a c) : EReal) = f (0 + c.val)) (hw : ∀ c : Fin 128, (w (ix2 a c) : EReal) = f (128 + c.val))
    (b : Fin 256) : (concatenate S256x256 1 [⟨S256x128, v⟩, ⟨S256x128, w⟩] concatenates_S256x128_S256x128_S256x256_d1 (ix2 a b) : EReal) = f b.val := by
  have hb := b.isLt
  pointwise
  split_ifs <;> first | exact absurd rfl ‹¬_› | skip
  all_goals
    simp only [hv, hw]
    refine congrArg f ?_
    omega

theorem rsq (x : ℕ → ℝ) (b : ℕ) : Idealize.ShloMosaic.Ideal.rsqrt (((headSum (fun k => x k * x k) b : ℝ) : EReal) * Idealize.ShloMosaic.Ideal.ofBits .f32 0x3C800000#32 +
    Idealize.ShloMosaic.Ideal.ofBits .f32 0x358637BD#32) = ((inv x b : ℝ) : EReal) := by
  rw [bits_64, bits_eps, ← EReal.coe_mul, ← EReal.coe_add]
  exact rsqrt_coe _ (ms_pos x b)

theorem bits_eighth : Idealize.ShloMosaic.Ideal.ofBits .f32 0x3E000000#32 = ((1 / 8 : ℝ) : EReal) := by
  simp [Idealize.ShloMosaic.Ideal.ofBits, Idealize.ShloMosaic.Ideal.ieee, -EReal.coe_mul]; norm_num

/-! ### The queries -/

/-- The queries after the norm. -/
def qNorm (x0 : Vec Ideal S256x1024 .f32) (x3 : Vec Ideal S1x128 .f32) : FVec Ideal S256x1024 .f32 :=
  let o : IVec S128x128 32 := iota .tc S128x128 32 [1] iota_S128x128_d1_w32
  k0_pay20 x0 (k0_pay5 x3) (k0_pay12 k0_pay9 o 64#32 k0_pay10 k0_pay11) (k0_pay13 (k0_pay8 x0)) (k0_pay14 (k0_pay8 x0))
    (k0_pay15 (k0_pay8 x0) k0_pay9 o 64#32 k0_pay10 k0_pay11) (k0_pay16 (k0_pay8 x0) k0_pay9 o 64#32 k0_pay10 k0_pay11)
    (k0_pay17 (k0_pay8 x0) k0_pay9 o 64#32 k0_pay10 k0_pay11) (k0_pay18 (k0_pay8 x0) k0_pay9 o 64#32 k0_pay10 k0_pay11) (k0_pay19 (k0_pay8 x0))

/-- A block of the queries' result. -/
def qBlk (x0 : Vec Ideal S256x1024 .f32) (x3 : Vec Ideal S1x128 .f32) (x5 x6 : Vec Ideal S256x128 .f32) : FVec Ideal S256x1024 .bf16 :=
  k0_pay34 (k0_pay26 (k0_pay7 x6) (qNorm x0 x3) (mulf (qNorm x0 x3) (k0_pay6 x5)) (Scalar.select (Scalar.cmpi .eq 64#32 0#32) 1#32 64#32) k0_pay22 k0_pay23 k0_pay24 k0_pay25)

variable {x0 : Vec Ideal S256x1024 .f32} {x1 x2 : Vec Ideal S256x256 .f32} {x3 x4 : Vec Ideal S1x128 .f32} {x5 x6 : Vec Ideal S256x128 .f32} {x : ℕ → ℝ} {g C S : ℕ → EReal}

theorem gain8 (hg : ∀ k : Fin 128, (x3 (ix2 0 k) : EReal) = g (k.val % 64)) (b : Fin 1024) : (k0_pay5 x3 (ix2 0 b) : EReal) = g (b.val % 64) := by
  have hb := b.isLt
  unfold k0_pay5
  pointwise
  split_ifs <;> first | exact absurd rfl ‹¬_› | skip
  all_goals
    exact (hg _).trans (congrArg g (by first | omega | (dsimp only; done) | (dsimp only; omega)))

theorem table8 (v : FVec Ideal S256x128 .f32) (f : ℕ → EReal) (h : ∀ c : Fin 128, (v (ix2 a c) : EReal) = f (c.val % 64)) (b : Fin 1024) :
    (concatenate S256x1024 1 [⟨S256x128, v⟩, ⟨S256x128, v⟩, ⟨S256x128, v⟩, ⟨S256x128, v⟩, ⟨S256x128, v⟩, ⟨S256x128, v⟩, ⟨S256x128, v⟩, ⟨S256x128, v⟩]
      concatenates_S256x128_S256x128_S256x128_S256x128_S256x128_S256x128_S256x128_S256x128_S256x1024_d1 (ix2 a b) : EReal) = f (b.val % 64) :=
  have key : ∀ n : ℕ, n % 64 = 0 → ∀ c : Fin 128, (v (ix2 a c) : EReal) = f ((n + c.val) % 64) := fun n hn c => by
    rw [h c]
    refine congrArg f ?_
    omega
  cat8 v v v v v v v v (fun n => f (n % 64)) (key 0 rfl) (key 128 rfl) (key 256 rfl) (key 384 rfl) (key 512 rfl) (key 640 rfl) (key 768 rfl) (key 896 rfl) b

theorem qNorm_apply (hx : ∀ k : Fin 1024, (x0 (ix2 a k) : EReal) = x k.val) (hg : ∀ k : Fin 128, (x3 (ix2 0 k) : EReal) = g (k.val % 64)) (b : Fin 1024) :
    (qNorm x0 x3 (ix2 a b) : EReal) = normed x (fun k => g (k % 64)) b.val := by
  have hu : ∀ k : Fin 1024, (k0_pay13 (k0_pay8 x0) (ix2 a k) : EReal) = ((x k.val * x k.val : ℝ) : EReal) := fun k => by
    pointwise [k0_pay13, k0_pay8]; rw [hx, ← EReal.coe_mul]
  have hv : ∀ k : Fin 1024, (k0_pay14 (k0_pay8 x0) (ix2 a k) : EReal) = ((0 : ℝ) : EReal) := fun k => by
    pointwise [k0_pay14, k0_pay13, k0_pay8]; rw [hx, ← EReal.coe_mul, ← EReal.coe_sub, sub_self]
  have T := fun n t hn hw hs c => tile_sum (a := a) (extractStridedSlice S256x128 ![0, n] (k0_pay13 (k0_pay8 x0)) hs) (extractStridedSlice S256x128 ![0, n] (k0_pay14 (k0_pay8 x0)) hs) _ diagQ
    (fun k => x k * x k) n t hn (cut8 _ (fun k => x k * x k) hu n hw hs) (cut8 _ (fun _ => 0) hv n hw hs) c
  have h := cat8 (a := a) _ _ _ _ _ _ _ _ (fun n => ((headSum (fun k => x k * x k) n : ℝ) : EReal)) (T 0 0 rfl (by norm_num) slices_S256x1024_o0_0_S256x128)
    (T 128 1 rfl (by norm_num) slices_S256x1024_o0_128_S256x128) (T 256 2 rfl (by norm_num) slices_S256x1024_o0_256_S256x128) (T 384 3 rfl (by norm_num) slices_S256x1024_o0_384_S256x128)
    (T 512 4 rfl (by norm_num) slices_S256x1024_o0_512_S256x128) (T 640 5 rfl (by norm_num) slices_S256x1024_o0_640_S256x128) (T 768 6 rfl (by norm_num) slices_S256x1024_o0_768_S256x128)
    (T 896 7 rfl (by norm_num) slices_S256x1024_o0_896_S256x128) b
  have hg8 := gain8 hg b
  unfold qNorm k0_pay20 k0_pay15 k0_pay16 k0_pay17 k0_pay18 k0_pay19
  refine (show _ = (x0 (ix2 a b) : EReal) * Idealize.ShloMosaic.Ideal.rsqrt (_ * Idealize.ShloMosaic.Ideal.ofBits .f32 0x3C800000#32 + Idealize.ShloMosaic.Ideal.ofBits .f32 0x358637BD#32) *
    broadcastTo S256x1024 (k0_pay5 x3) broadcasts_S1x1024_S256x1024 (ix2 a b) from rfl).trans ?_
  rw [h, rsq, hx, ← EReal.coe_mul]
  unfold normed
  refine congrArg (_ * ·) ?_
  refine Eq.trans ?_ hg8
  pointwise

theorem qBlk_apply (hx : ∀ k : Fin 1024, (x0 (ix2 a k) : EReal) = x k.val) (hg : ∀ k : Fin 128, (x3 (ix2 0 k) : EReal) = g (k.val % 64))
    (hC : ∀ k : Fin 128, (x5 (ix2 a k) : EReal) = C (k.val % 64)) (hS : ∀ k : Fin 128, (x6 (ix2 a k) : EReal) = S (k.val % 64)) (b : Fin 1024) :
    (qBlk x0 x3 x5 x6 (ix2 a b) : EReal) = roped (normed x fun k => g (k % 64)) (fun k => C (k % 64)) (fun k => S (k % 64)) b.val * ((1 / 8 : ℝ) : EReal) := by
  have hb := b.isLt
  have h := Cert.QkVal.first_half b
  have hc := table8 (a := a) (k0_pay3 x5) C (fun c => by pointwise [k0_pay3]; exact hC c) b
  have hs := table8 (a := a) (k0_pay4 x6) S (fun c => by pointwise [k0_pay4]; exact hS c) b
  have hy := fun b => qNorm_apply (x3 := x3) hx hg b
  unfold qBlk
  generalize qNorm x0 x3 = y at hy ⊢
  unfold k0_pay6 k0_pay7
  generalize concatenate S256x1024 1 [⟨S256x128, k0_pay3 x5⟩, ⟨S256x128, k0_pay3 x5⟩, ⟨S256x128, k0_pay3 x5⟩, ⟨S256x128, k0_pay3 x5⟩, ⟨S256x128, k0_pay3 x5⟩, ⟨S256x128, k0_pay3 x5⟩, ⟨S256x128, k0_pay3 x5⟩, ⟨S256x128, k0_pay3 x5⟩] _ = cc at hc ⊢
  generalize concatenate S256x1024 1 [⟨S256x128, k0_pay4 x6⟩, ⟨S256x128, k0_pay4 x6⟩, ⟨S256x128, k0_pay4 x6⟩, ⟨S256x128, k0_pay4 x6⟩, ⟨S256x128, k0_pay4 x6⟩, ⟨S256x128, k0_pay4 x6⟩, ⟨S256x128, k0_pay4 x6⟩, ⟨S256x128, k0_pay4 x6⟩] _ = cs at hs ⊢
  unfold k0_pay34 k0_pay26 k0_pay22 k0_pay23 k0_pay24 k0_pay25
  pointwise
  have h22 : (k0_pay22 (ix2 a b) : BitVec 32) = IntOp.remsi ArithUnit.vector (BitVec.ofNat 32 b.val) 64#32 := by
    unfold k0_pay22
    pointwise
    rfl
  rw [h22, show Scalar.select (Scalar.cmpi CmpIPredicate.eq 64#32 0#32) 1#32 64#32 = 64#32 from rfl]
  dsimp only at h
  rw [h, lt_half, hc, hs, bits_eighth, hy, hy, hy]
  unfold roped
  dsimp only
  split_ifs with hm
  · rw [show (b.val + 1024 - 992) % 1024 = b.val + 32 by omega]
  · rw [show (b.val + 1024 - 32) % 1024 = b.val - 32 by omega]

/-! ### The keys and the values -/

/-- The squares of the keys, rounded, -/
def kHi (x1 : Vec Ideal S256x256 .f32) : FVec Ideal S256x256 .bf16 := truncf .bf16 (mulf x1 x1 : FVec Ideal S256x256 .f32) bitsLt_bf16_f32
/-- and what rounding them leaves. -/
def kLo (x1 : Vec Ideal S256x256 .f32) : FVec Ideal S256x256 .bf16 :=
  truncf .bf16 (subf (mulf x1 x1 : FVec Ideal S256x256 .f32) (extf .f32 (kHi x1) bitsLt_bf16_f32)) bitsLt_bf16_f32

/-- The mean squares of the keys. -/
def kMs (x1 : Vec Ideal S256x256 .f32) : FVec Ideal S256x256 .f32 := k0_pay32 (k0_pay30 x1) k0_pay31 (iota .tc S128x128 32 [1] iota_S128x128_d1_w32)
/-- The keys after the norm and the rotary embedding. -/
def kRope (x1 : Vec Ideal S256x256 .f32) (x4 : Vec Ideal S1x128 .f32) (x5 x6 : Vec Ideal S256x128 .f32) : FVec Ideal S256x256 .f32 :=
  k0_pay33 x1 (k0_pay27 x4) (k0_pay28 (k0_pay3 x5)) (k0_pay29 (k0_pay4 x6)) (kMs x1)
/-- A block of the keys' result. -/
def kBlk (x1 : Vec Ideal S256x256 .f32) (x4 : Vec Ideal S1x128 .f32) (x5 x6 : Vec Ideal S256x128 .f32) : FVec Ideal S256x512 .bf16 :=
  k0_pay1 k0_pay35 (k0_pay38 x1 (k0_pay27 x4) (k0_pay28 (k0_pay3 x5)) (k0_pay29 (k0_pay4 x6)) (kMs x1)) (k0_pay39 x1 (k0_pay27 x4) (k0_pay28 (k0_pay3 x5)) (k0_pay29 (k0_pay4 x6)) (kMs x1))
    (k0_pay40 x1 (k0_pay27 x4) (k0_pay28 (k0_pay3 x5)) (k0_pay29 (k0_pay4 x6)) (kMs x1)) 64#32

theorem kBlk_eq : kBlk x1 x4 x5 x6 = k0_pay2 (kRope x1 x4 x5 x6) := rfl

theorem lt_64 (b : ℕ) (hb : b < 128) (u v : EReal) : Scalar.select (IntOp.cmpi CmpIPredicate.slt (BitVec.ofNat 32 b) 64#32) u v = if b < 64 then u else v := by
  have h : ∀ b : Fin 128, IntOp.cmpi CmpIPredicate.slt (BitVec.ofNat 32 b.val) 64#32 = if b.val < 64 then 1#1 else 0#1 := by decide +kernel
  rw [h ⟨b, hb⟩]
  split_ifs <;> rfl

/-- Each head written twice. -/
theorem spread_apply (y : FVec Ideal S256x256 .f32) (f : ℕ → EReal) (hy : ∀ k : Fin 256, (y (ix2 a k) : EReal) = f k.val) (b : Fin 512) :
    (k0_pay2 (F := Ideal) y (ix2 a b) : EReal) = f (lane b.val) := by
  have hb := b.isLt
  unfold k0_pay2
  pointwise
  split_ifs <;> refine (lt_64 _ (by omega) _ _).trans ?_ <;> split_ifs <;> refine (hy _).trans (congrArg f ?_) <;> unfold lane <;> dsimp only <;> omega

theorem kMs_apply (hx : ∀ k : Fin 256, (x1 (ix2 a k) : EReal) = x k.val) (b : Fin 256) :
    (kMs x1 (ix2 a b) : EReal) = ((headSum (fun k => x k * x k) b.val : ℝ) : EReal) * Idealize.ShloMosaic.Ideal.ofBits .f32 0x3C800000#32 := by
  have hu : ∀ k : Fin 256, (kHi x1 (ix2 a k) : EReal) = ((x k.val * x k.val : ℝ) : EReal) := fun k => by
    unfold kHi; pointwise; rw [hx, ← EReal.coe_mul]
  have hv : ∀ k : Fin 256, (kLo x1 (ix2 a k) : EReal) = ((0 : ℝ) : EReal) := fun k => by
    unfold kLo kHi; pointwise; rw [hx, ← EReal.coe_mul, ← EReal.coe_sub, sub_self]
  have T := fun n t hn hw hs c => tile_sum (a := a) (extractStridedSlice S256x128 ![0, n] (kHi x1) hs) (extractStridedSlice S256x128 ![0, n] (kLo x1) hs) _ diagQ
    (fun k => x k * x k) n t hn (cut2 _ (fun k => ((x k * x k : ℝ) : EReal)) hu n hw hs) (cut2 _ (fun _ => ((0 : ℝ) : EReal)) hv n hw hs) c
  have h := cat2 (a := a) _ _ (fun n => ((headSum (fun k => x k * x k) n : ℝ) : EReal)) (T 0 0 rfl (by norm_num) slices_S256x256_o0_0_S256x128)
    (T 128 1 rfl (by norm_num) slices_S256x256_o0_128_S256x128) b
  exact congrArg (fun z : EReal => z * Idealize.ShloMosaic.Ideal.ofBits .f32 0x3C800000#32) h

theorem gain2 (hg : ∀ k : Fin 128, (x4 (ix2 0 k) : EReal) = g (k.val % 64)) (b : Fin 256) : (k0_pay27 x4 (ix2 0 b) : EReal) = g (b.val % 64) := by
  have hb := b.isLt
  unfold k0_pay27
  pointwise
  split_ifs <;> first | exact absurd rfl ‹¬_› | skip
  all_goals
    exact (hg _).trans (congrArg g (by first | omega | (dsimp only; done) | (dsimp only; omega)))

theorem table2 (v : FVec Ideal S256x128 .f32) (f : ℕ → EReal) (h : ∀ c : Fin 128, (v (ix2 a c) : EReal) = f (c.val % 64)) (b : Fin 256) :
    (concatenate S256x256 1 [⟨S256x128, v⟩, ⟨S256x128, v⟩] concatenates_S256x128_S256x128_S256x256_d1 (ix2 a b) : EReal) = f (b.val % 64) :=
  cat2 v v (fun n => f (n % 64)) (fun c => by rw [h c]; exact congrArg f (by omega)) (fun c => by rw [h c]; exact congrArg f (by omega)) b

theorem kRope_apply (hx : ∀ k : Fin 256, (x1 (ix2 a k) : EReal) = x k.val) (hg : ∀ k : Fin 128, (x4 (ix2 0 k) : EReal) = g (k.val % 64))
    (hC : ∀ k : Fin 128, (x5 (ix2 a k) : EReal) = C (k.val % 64)) (hS : ∀ k : Fin 128, (x6 (ix2 a k) : EReal) = S (k.val % 64)) (b : Fin 256) :
    (kRope x1 x4 x5 x6 (ix2 a b) : EReal) = roped (normed x fun k => g (k % 64)) (fun k => C (k % 64)) (fun k => S (k % 64)) b.val := by
  have hb := b.isLt
  have h := Cert.QkVal.first_half ⟨b.val, by omega⟩
  have hc := table2 (a := a) (k0_pay3 x5) C (fun c => by pointwise [k0_pay3]; exact hC c) b
  have hs := table2 (a := a) (k0_pay4 x6) S (fun c => by pointwise [k0_pay4]; exact hS c) b
  have hm := kMs_apply hx
  have hgain := gain2 hg
  unfold kRope k0_pay28 k0_pay29
  generalize concatenate S256x256 1 [⟨S256x128, k0_pay3 x5⟩, ⟨S256x128, k0_pay3 x5⟩] _ = cc at hc ⊢
  generalize concatenate S256x256 1 [⟨S256x128, k0_pay4 x6⟩, ⟨S256x128, k0_pay4 x6⟩] _ = cs at hs ⊢
  generalize kMs x1 = ms at hm ⊢
  generalize k0_pay27 x4 = gg at hgain ⊢
  unfold k0_pay33
  pointwise
  rw [show Scalar.select (Scalar.cmpi CmpIPredicate.eq 64#32 0#32) 1#32 64#32 = 64#32 from rfl]
  dsimp only at h
  have hn : ∀ b : Fin 256, (x1 (ix2 a b) : EReal) * Idealize.ShloMosaic.Ideal.rsqrt (ms (ix2 a b) + Idealize.ShloMosaic.Ideal.ofBits .f32 0x358637BD#32) * gg (ix2 0 b) =
      normed x (fun k => g (k % 64)) b.val := fun b => by
    rw [hm, rsq, hx, ← EReal.coe_mul, hgain]
    rfl
  rw [h, lt_half, hc, hs]
  simp only [hn]
  unfold roped
  dsimp only
  split_ifs with hm
  · rw [show (b.val + 256 - 224) % 256 = b.val + 32 by omega]
  · rw [show (b.val + 256 - 32) % 256 = b.val - 32 by omega]

end Row

end Cert.QkPrepVal

end
-- ==== Proof.QkPrepArr.lean ====
/- The three arrays that the kernel of the QK-norm and the rotary embedding leaves, over its whole grid. -/
module

public import proofs.«01_k».proof.Proof.Gen.QkPrepIdeal.Value
public import proofs.«01_k».proof.Proof.QkPrepLanes
public import proofs.«01_k».proof.Proof.AttnFwdBlock
public import Idealize.ShloMosaic.Lib.Pipeline.ValueKit
public import Idealize.ShloMosaic.Lib.Pipeline.ValueKit.Tiles
public import Idealize.ShloMosaic.Lib.Claim
public import Idealize.ShloMosaic.Lib.Tactic

@[expose] public section

set_option maxRecDepth 16384

noncomputable section

namespace Cert.QkPrepVal

open Cert.QkPrepIdeal Cert.QkPrepIdeal.Gen Idealize.ShloMosaic Idealize.ShloMosaic.TcCoe Idealize.SL.Sem
open Cert.AttnFwdVal (ex2 ex2_eq)

theorem zeros : (![0, 0] : Fin 2 → ℕ) = fun _ => 0 := by decide

/-! ### What one point writes -/

section Point

variable (c : Dev nD) (i : grid0.Coords) (a1 : Memref sig .tc .vmem S256x1024 .f32) (h1 : a1.IsWhole) (a2 : Memref sig .tc .vmem S256x256 .f32) (h2 : a2.IsWhole)
    (a3 : Memref sig .tc .vmem S256x256 .f32) (h3 : a3.IsWhole) (a4 : Memref sig .tc .vmem S1x128 .f32) (h4 : a4.IsWhole)
    (a5 : Memref sig .tc .vmem S1x128 .f32) (h5 : a5.IsWhole) (a6 : Memref sig .tc .vmem S256x128 .f32) (h6 : a6.IsWhole)
    (a7 : Memref sig .tc .vmem S256x128 .f32) (h7 : a7.IsWhole) (a8 : Memref sig .tc .vmem S256x1024 .bf16) (h8 : a8.IsWhole)
    (a9 : Memref sig .tc .vmem S256x512 .bf16) (h9 : a9.IsWhole) (a10 : Memref sig .tc .vmem S256x512 .bf16) (h10 : a10.IsWhole)
    (x0 : Vec Ideal S256x1024 .f32) (x1 x2 : Vec Ideal S256x256 .f32) (x3 x4 : Vec Ideal S1x128 .f32) (x5 x6 : Vec Ideal S256x128 .f32)

theorem out7 : out0_A_7 c i a1 h1 a2 h2 a3 h3 a4 h4 a5 h5 a6 h6 a7 h7 a8 h8 a9 h9 a10 h10 x0 x1 x2 x3 x4 x5 x6 = qBlk x0 x3 x5 x6 := by
  unfold out0_A_7
  rw [View.read_writes_eq_canon _ _ _ (cover0_A_7 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero (S := S256x1024) zeros]
  simp only [View.readAt_eq_ld, h1.read_unread, h2.read_unread, h3.read_unread, h4.read_unread, h5.read_unread, h6.read_unread, h7.read_unread,
    View.ld_unit_zero (S := S256x1024) zeros, View.ld_unit_zero (S := S256x256) zeros, View.ld_unit_zero (S := S256x128) zeros, View.ld_unit_zero (S := S1x128) zeros]
  rfl

theorem out8 : out0_A_8 c i a1 h1 a2 h2 a3 h3 a4 h4 a5 h5 a6 h6 a7 h7 a8 h8 a9 h9 a10 h10 x0 x1 x2 x3 x4 x5 x6 = kBlk x1 x4 x5 x6 := by
  unfold out0_A_8
  rw [View.read_writes_eq_canon _ _ _ (cover0_A_8 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero (S := S256x512) zeros]
  simp only [View.readAt_eq_ld, h1.read_unread, h2.read_unread, h3.read_unread, h4.read_unread, h5.read_unread, h6.read_unread, h7.read_unread,
    View.ld_unit_zero (S := S256x1024) zeros, View.ld_unit_zero (S := S256x256) zeros, View.ld_unit_zero (S := S256x128) zeros, View.ld_unit_zero (S := S1x128) zeros]
  rfl

theorem out9 : out0_A_9 c i a1 h1 a2 h2 a3 h3 a4 h4 a5 h5 a6 h6 a7 h7 a8 h8 a9 h9 a10 h10 x0 x1 x2 x3 x4 x5 x6 = k0_pay2 x2 := by
  unfold out0_A_9
  rw [View.read_writes_eq_canon _ _ _ (cover0_A_9 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero (S := S256x512) zeros]
  simp only [View.readAt_eq_ld, h1.read_unread, h2.read_unread, h3.read_unread, h4.read_unread, h5.read_unread, h6.read_unread, h7.read_unread,
    View.ld_unit_zero (S := S256x1024) zeros, View.ld_unit_zero (S := S256x256) zeros, View.ld_unit_zero (S := S256x128) zeros, View.ld_unit_zero (S := S1x128) zeros]

end Point

/-! ### The blocks -/

theorem idx : ∀ t : Fin cfg0.N, win0_0.index t = ![t.val, 0] ∧ win0_1.index t = ![t.val, 4] ∧ win0_2.index t = ![t.val, 5] ∧ win0_3.index t = ![0, 0] ∧
    win0_4.index t = ![0, 0] ∧ win0_5.index t = ![t.val, 0] ∧ win0_6.index t = ![t.val, 0] ∧ win0_7.index t = ![t.val, 0] ∧ win0_8.index t = ![t.val, 0] ∧
    win0_9.index t = ![t.val, 0] :=
  (by decide +kernel : ∀ t : Fin grid0.N, _)

variable (m : (ℓ : Loc nD τ sig) → Buf (Elt Ideal) ℓ) (c : Dev nD)

/-- The projection, -/
def aX : Vec Ideal S2048x7680 .f32 := m ((c : Thread nD τ).loc main_arg0)
/-- the gains of the queries' and the keys' norms, -/
def aGq : Vec Ideal S64 .f32 := m ((c : Thread nD τ).loc main_arg1)
def aGk : Vec Ideal S64 .f32 := m ((c : Thread nD τ).loc main_arg2)
/-- and the tables of the rotary embedding. -/
def aC : Vec Ideal S2048x32 .f32 := m ((c : Thread nD τ).loc main_arg3)
def aS : Vec Ideal S2048x32 .f32 := m ((c : Thread nD τ).loc main_arg4)

/-- The kernel's input blocks at a point. -/
def B0 (t : Fin cfg0.N) : Vec Ideal S256x1024 .f32 := X0_0 m c t
def B1 (t : Fin cfg0.N) : Vec Ideal S256x256 .f32 := iblk m c 1 t
def B2 (t : Fin cfg0.N) : Vec Ideal S256x256 .f32 := iblk m c 2 t
def B3 (t : Fin cfg0.N) : Vec Ideal S1x128 .f32 := iblk m c 3 t
def B4 (t : Fin cfg0.N) : Vec Ideal S1x128 .f32 := iblk m c 4 t
def B5 (t : Fin cfg0.N) : Vec Ideal S256x128 .f32 := iblk m c 5 t
def B6 (t : Fin cfg0.N) : Vec Ideal S256x128 .f32 := iblk m c 6 t

/-- The row of the array that row `a` of block `t` is. -/
def row (t : Fin cfg0.N) (a : Fin 256) : Fin 2048 := ⟨256 * t.val + a.val, by have := t.isLt; have : cfg0.N = 8 := N_0; omega⟩

theorem B0_apply (t : Fin cfg0.N) (a : Fin 256) (k : Fin 1024) : (B0 m c t (ix2 a k) : EReal) = aX m c (ix2 (row t a) ⟨k.val, by omega⟩) := by
  obtain ⟨e, -⟩ := idx t
  unfold B0 aX row X0_0 Pipeline.Window.fill
  rw [dif_pos (moved0_0 t _)]
  blk_simp [iblk, V, e]
  entry_read
  blk_ext [iblk, V, e]

theorem B1_apply (t : Fin cfg0.N) (a k : Fin 256) : (B1 m c t (ix2 a k) : EReal) = aX m c (ix2 (row t a) ⟨1024 + k.val, by omega⟩) := by
  obtain ⟨-, e, -⟩ := idx t
  unfold B1 aX row
  blk_simp [iblk, V, e]
  entry_read
  blk_ext [iblk, V, e]

theorem B2_apply (t : Fin cfg0.N) (a k : Fin 256) : (B2 m c t (ix2 a k) : EReal) = aX m c (ix2 (row t a) ⟨1280 + k.val, by omega⟩) := by
  obtain ⟨-, -, e, -⟩ := idx t
  unfold B2 aX row
  blk_simp [iblk, V, e]
  entry_read
  blk_ext [iblk, V, e]

theorem B3_apply (t : Fin cfg0.N) (k : Fin 128) : (B3 m c t (ix2 0 k) : EReal) = aGq m c (ix1 ⟨k.val % 64, by omega⟩) := by
  obtain ⟨-, -, -, e, -⟩ := idx t
  unfold B3 aGq
  blk_simp [iblk, V, e]
  entry_read
  pointwise
  blk_ext [iblk, V, e]

theorem B4_apply (t : Fin cfg0.N) (k : Fin 128) : (B4 m c t (ix2 0 k) : EReal) = aGk m c (ix1 ⟨k.val % 64, by omega⟩) := by
  obtain ⟨-, -, -, -, e, -⟩ := idx t
  unfold B4 aGk
  blk_simp [iblk, V, e]
  entry_read
  pointwise
  blk_ext [iblk, V, e]

theorem B5_apply (t : Fin cfg0.N) (a : Fin 256) (k : Fin 128) : (B5 m c t (ix2 a k) : EReal) = aC m c (ix2 (row t a) ⟨k.val % 32, by omega⟩) := by
  obtain ⟨-, -, -, -, -, e, -⟩ := idx t
  unfold B5 aC row
  blk_simp [iblk, V, e]
  entry_read
  pointwise
  have h0 : (((View.whole main_v3).slice (win0_5.rect t)).emb (ix2 a k) 0).val = 256 * t.val + a.val := by
    blk_simp [e]
    omega
  have h1 : (((View.whole main_v3).slice (win0_5.rect t)).emb (ix2 a k) 1).val = k.val := by
    blk_ext [e]
  by_cases hc : k.val % 64 < 32
  · refine (dif_pos (by omega)).trans ?_
    exact congrArg _ (congrArg₂ ix2 (Fin.ext h0) (Fin.ext (by dsimp only; omega)))
  · refine (dif_neg (by omega)).trans ?_
    exact congrArg _ (congrArg₂ ix2 (Fin.ext h0) (Fin.ext (by dsimp only; omega)))

theorem B6_apply (t : Fin cfg0.N) (a : Fin 256) (k : Fin 128) : (B6 m c t (ix2 a k) : EReal) =
    if k.val % 64 < 32 then -(aS m c (ix2 (row t a) ⟨k.val % 32, by omega⟩) : EReal) else (aS m c (ix2 (row t a) ⟨k.val % 32, by omega⟩) : EReal) := by
  obtain ⟨-, -, -, -, -, -, e, -⟩ := idx t
  unfold B6 aS row
  blk_simp [iblk, V, e]
  entry_read
  pointwise
  have h0 : (((View.whole main_v8).slice (win0_6.rect t)).emb (ix2 a k) 0).val = 256 * t.val + a.val := by
    blk_simp [e]
    omega
  have h1 : (((View.whole main_v8).slice (win0_6.rect t)).emb (ix2 a k) 1).val = k.val := by
    blk_ext [e]
  by_cases hc : k.val % 64 < 32
  · refine (dif_pos (by omega)).trans (Eq.trans ?_ (if_pos hc).symm)
    exact congrArg (fun x : EReal => -x) (congrArg _ (congrArg₂ ix2 (Fin.ext h0) (Fin.ext (by dsimp only; omega))))
  · refine (dif_neg (by omega)).trans (Eq.trans ?_ (if_neg hc).symm)
    exact congrArg _ (congrArg₂ ix2 (Fin.ext h0) (Fin.ext (by dsimp only; omega)))

theorem block7 (t : Fin cfg0.N) : (outsAt0 m c t).1 = qBlk (B0 m c t) (B3 m c t) (B5 m c t) (B6 m c t) := by
  unfold outsAt0
  rw [out7]
  rfl

theorem block8 (t : Fin cfg0.N) : (outsAt0 m c t).2.1 = kBlk (B1 m c t) (B4 m c t) (B5 m c t) (B6 m c t) := by
  unfold outsAt0
  rw [out8]
  rfl

theorem block9 (t : Fin cfg0.N) : (outsAt0 m c t).2.2 = k0_pay2 (B2 m c t) := by
  unfold outsAt0
  rw [out9]
  rfl

/-! ### The rows, as functions of the arguments -/

section Rows

variable (X : Vec Ideal S2048x7680 .f32) (G : Vec Ideal S64 .f32) (Ct St : Vec Ideal S2048x32 .f32)

/-- The entries of a row's heads as real numbers, from column `o`. -/
def xr (o r k : ℕ) : ℝ := (ex2 X r (o + k)).toReal
/-- A gain, by its number. -/
def gn (k : ℕ) : EReal := if h : k < 64 then G (ix1 ⟨k, h⟩) else 0
/-- The tables over a head's lanes: the cosines twice, and the sines negated in the first half. -/
def cs (r k : ℕ) : EReal := ex2 Ct r (k % 32)
def sn (r k : ℕ) : EReal := if k % 64 < 32 then -ex2 St r (k % 32) else ex2 St r (k % 32)
/-- A row's heads from column `o` after the norm and the rotary embedding. -/
def hrow (o r b : ℕ) : EReal := roped (normed (xr X o r) fun k => gn G (k % 64)) (fun k => cs Ct r (k % 64)) (fun k => sn St r (k % 64)) b

/-- The queries times the scale of the scores, -/
def qArr : S2048x1024.Idx → EReal := fun i => hrow X G Ct St 0 (i 0).val (i 1).val * ((1 / 8 : ℝ) : EReal)
/-- the keys, each head twice, -/
def kArr : S2048x512.Idx → EReal := fun i => hrow X G Ct St 1024 (i 0).val (lane (i 1).val)
/-- and the values, each head twice. -/
def vArr : S2048x512.Idx → EReal := fun i => ex2 X (i 0).val (1280 + lane (i 1).val)

/-- The queries' and the keys' columns hold real numbers. -/
def RealQK : Prop := ∀ (r : Fin 2048) (k : Fin 1280), (X (ix2 r ⟨k.val, by omega⟩) : EReal) = ((ex2 X r.val k.val).toReal : EReal)

end Rows

section Real

variable {m c}

theorem hg (G : Vec Ideal S64 .f32) (k : Fin 128) : (G (ix1 ⟨k.val % 64, by omega⟩) : EReal) = gn G (k.val % 64) := by
  unfold gn
  rw [dif_pos (by omega)]

theorem hC (t : Fin cfg0.N) (a : Fin 256) (k : Fin 128) : (B5 m c t (ix2 a k) : EReal) = cs (aC m c) (row t a).val (k.val % 64) := by
  rw [B5_apply, ex2_eq (aC m c)]
  unfold cs
  exact congrArg (ex2 _ _) (by dsimp only; omega)

theorem hS (t : Fin cfg0.N) (a : Fin 256) (k : Fin 128) : (B6 m c t (ix2 a k) : EReal) = sn (aS m c) (row t a).val (k.val % 64) := by
  rw [B6_apply, ex2_eq (aS m c)]
  unfold sn
  rw [show k.val % 64 % 64 = k.val % 64 by omega, show k.val % 64 % 32 = k.val % 32 by omega]

variable (H : RealQK (aX m c))
include H

theorem hq (t : Fin cfg0.N) (a : Fin 256) (k : Fin 1024) : (B0 m c t (ix2 a k) : EReal) = ((xr (aX m c) 0 (row t a).val k.val : ℝ) : EReal) := by
  rw [B0_apply]
  unfold xr
  rw [zero_add]
  exact H (row t a) ⟨k.val, by omega⟩

theorem hk (t : Fin cfg0.N) (a : Fin 256) (k : Fin 256) : (B1 m c t (ix2 a k) : EReal) = ((xr (aX m c) 1024 (row t a).val k.val : ℝ) : EReal) := by
  rw [B1_apply]
  exact H (row t a) ⟨1024 + k.val, by omega⟩

theorem arr7 : (dats m 0 c).arrAt 7 cfg0.N = qArr (aX m c) (aGq m c) (aC m c) (aS m c) := by
  refine (dats m 0 c).arrAt_eq_of_covers 7 _ (by decide +kernel) fun t hf y => ?_
  obtain ⟨-, -, -, -, -, -, -, e, -⟩ := idx t
  obtain ⟨a, b, rfl⟩ : ∃ (a : Fin 256) (b : Fin 1024), y = ix2 a b := ⟨y 0, y 1, eq_ix2 y⟩
  blk_simp [e]
  rw [after0_7, block7]
  refine (qBlk_apply (hq H t a) (fun k => (B3_apply m c t k).trans (hg _ k)) (hC t a) (hS t a) b).trans ?_
  refine Eq.trans (b := qArr (aX m c) (aGq m c) (aC m c) (aS m c) (ix2 (row t a) b)) rfl ?_
  unfold row
  blk_ext [e]

theorem arr8 : (dats m 0 c).arrAt 8 cfg0.N = kArr (aX m c) (aGk m c) (aC m c) (aS m c) := by
  refine (dats m 0 c).arrAt_eq_of_covers 8 _ (by decide +kernel) fun t hf y => ?_
  obtain ⟨-, -, -, -, -, -, -, -, e, -⟩ := idx t
  obtain ⟨a, b, rfl⟩ : ∃ (a : Fin 256) (b : Fin 512), y = ix2 a b := ⟨y 0, y 1, eq_ix2 y⟩
  blk_simp [e]
  rw [after0_8, block8, kBlk_eq]
  refine (spread_apply _ (hrow (aX m c) (aGk m c) (aC m c) (aS m c) 1024 (row t a).val)
    (kRope_apply (hk H t a) (fun k => (B4_apply m c t k).trans (hg _ k)) (hC t a) (hS t a)) b).trans ?_
  refine Eq.trans (b := kArr (aX m c) (aGk m c) (aC m c) (aS m c) (ix2 (row t a) b)) rfl ?_
  unfold row
  blk_ext [e]

omit H in
theorem arr9 : (dats m 0 c).arrAt 9 cfg0.N = vArr (aX m c) := by
  refine (dats m 0 c).arrAt_eq_of_covers 9 _ (by decide +kernel) fun t hf y => ?_
  obtain ⟨-, -, -, -, -, -, -, -, -, e⟩ := idx t
  obtain ⟨a, b, rfl⟩ : ∃ (a : Fin 256) (b : Fin 512), y = ix2 a b := ⟨y 0, y 1, eq_ix2 y⟩
  blk_simp [e]
  rw [after0_9, block9]
  refine (spread_apply _ (fun k => ex2 (aX m c) (row t a).val (1280 + k)) (fun k => (B2_apply m c t a k).trans (ex2_eq (aX m c) _ _)) b).trans ?_
  refine Eq.trans (b := vArr (aX m c) (ix2 (row t a) b)) rfl ?_
  unfold row
  blk_ext [e]

end Real

end Cert.QkPrepVal

end
-- ==== Proof.QkPrepRef.lean ====
/- The QK-norm and the rotary embedding of the reference, entry by entry. -/
module

public import proofs.«01_k».proof.Proof.Gen.QkPrepRefIdeal.Run
public import proofs.«01_k».proof.Proof.QkPrepArr
public import proofs.«01_k».proof.Proof.QkRef
public import Idealize.ShloMosaic.Lib.Pointwise
public import Idealize.ShloMosaic.Lib.IdealHost
public import Idealize.ShloMosaic.Lib.ValueIdx
public import Idealize.ShloMosaic.Lib.Tactic

@[expose] public section

set_option maxRecDepth 16384

noncomputable section

namespace Cert.QkPrepVal

open Cert.QkPrepRefIdeal Cert.QkPrepRefIdeal.Gen Cert.Lift Idealize.ShloMosaic Idealize.ShloMosaic.TcCoe Idealize.SL.Sem
open Cert.AttnFwdVal (ex2 ex2_eq)
open Cert.QkVal (headSum headSum_self inv inv_head ms_pos)

/-! ### The row's mathematics, as the reference's lines write it -/

theorem bits_64f : Ideal.ofBits .f32 0x42800000#32 = ((64 : ℝ) : EReal) := by
  simp [Ideal.ofBits, Ideal.ieee, -EReal.coe_mul]; norm_num

theorem mean_rsqrt (x : ℕ → ℝ) (b : ℕ) : Ideal.rsqrt (Ideal.div ((headSum (fun k => x k * x k) b : ℝ) : EReal) ((64 : ℝ) : EReal) + ((eps : ℝ) : EReal)) = ((inv x b : ℝ) : EReal) := by
  rw [div_coe _ _ (by norm_num), ← EReal.coe_add, div_eq_mul_inv, ← one_div]
  exact rsqrt_coe _ (ms_pos x b)

section Rope

variable (X : Vec Ideal S2048x7680 .f32) (G : Vec Ideal S64 .f32) (Ct St : Vec Ideal S2048x32 .f32) (o r : ℕ) {h j : ℕ}

theorem hrow_low (hj : j < 32) : hrow X G Ct St o r (64 * h + j) =
    normed (xr X o r) (fun k => gn G (k % 64)) (64 * h + j) * ex2 Ct r j - normed (xr X o r) (fun k => gn G (k % 64)) (64 * h + (32 + j)) * ex2 St r j := by
  unfold hrow roped cs sn
  dsimp only
  rw [show (64 * h + j) % 64 = j by omega, show j % 64 = j by omega, show j % 32 = j by omega, if_pos hj, if_pos hj, show 64 * h + j + 32 = 64 * h + (32 + j) by omega, sub_eq_add_neg]
  exact congrArg (_ + ·) (mul_neg _ _)

theorem hrow_high (hj : ¬j < 32) (hj' : j < 64) : hrow X G Ct St o r (64 * h + j) =
    normed (xr X o r) (fun k => gn G (k % 64)) (64 * h + (32 + (j - 32))) * ex2 Ct r (j - 32) + normed (xr X o r) (fun k => gn G (k % 64)) (64 * h + (j - 32)) * ex2 St r (j - 32) := by
  unfold hrow roped cs sn
  dsimp only
  rw [show (64 * h + j) % 64 = j by omega, show j % 64 = j by omega, show j % 32 = j - 32 by omega, if_neg hj, if_neg hj, show 64 * h + j - 32 = 64 * h + (j - 32) by omega,
    show 64 * h + (32 + (j - 32)) = 64 * h + j by omega]

end Rope

/-! ### The queries -/

section Queries

variable (X : Vec Ideal S2048x7680 .f32) (G : Vec Ideal S64 .f32) (Ct St : Vec Ideal S2048x32 .f32)

/-- The heads, -/
def qX : FVec Ideal S1x2048x16x64 .f32 := shapeCast _ (extractStridedSlice S2048x1024 ![0, 0] X slices_S2048x7680_S2048x1024_0_0) shapeCasts_S2048x1024_S1x2048x16x64
/-- after the norm -/
def qN (x : FVec Ideal S1x2048x16x64 .f32) : FVec Ideal S1x2048x16x64 .f32 :=
  mulf (mulf x (broadcastInDim S1x2048x16x64 ![0, 1, 2, 3] bcast_S1x2048x16x1_S1x2048x16x64_0_1_2_3 (Host.rsqrt (addf (Host.divf
    (broadcastInDim S1x2048x16x1 ![0, 1, 2] bcast_S1x2048x16_S1x2048x16x1_0_1_2 (Host.reduceAdd (mulf x x) (constant S_ .f32 0x00000000#32) reducesTo_S1x2048x16x64_S1x2048x16_d3 h_S_))
    (broadcastInDim S1x2048x16x1 ![] bcast_S_S1x2048x16x1 (constant S_ .f32 0x42800000#32))) (broadcastInDim S1x2048x16x1 ![] bcast_S_S1x2048x16x1 (constant S_ .f32 0x358637BD#32))))))
    (broadcastInDim S1x2048x16x64 ![0, 1, 2, 3] bcast_S1x1x1x64_S1x2048x16x64_0_1_2_3 (broadcastInDim S1x1x1x64 ![3] bcast_S64_S1x1x1x64_3 G))
/-- and the rotary embedding. -/
def qR (y : FVec Ideal S1x2048x16x64 .f32) : FVec Ideal S1x2048x16x64 .f32 :=
  let t (A : Vec Ideal S2048x32 .f32) : FVec Ideal S1x2048x16x32 .f32 := broadcastInDim S1x2048x16x32 ![0, 1, 2, 3] bcast_S1x2048x1x32_S1x2048x16x32_0_1_2_3 (broadcastInDim S1x2048x1x32 ![1, 3] bcast_S2048x32_S1x2048x1x32_1_3 A)
  let l : FVec Ideal S1x2048x16x32 .f32 := extractStridedSlice S1x2048x16x32 ![0, 0, 0, 0] y slices_S1x2048x16x64_S1x2048x16x32_0_0_0_0
  let u : FVec Ideal S1x2048x16x32 .f32 := extractStridedSlice S1x2048x16x32 ![0, 0, 0, 32] y slices_S1x2048x16x64_S1x2048x16x32_0_0_0_32
  concatenate S1x2048x16x64 3 [⟨S1x2048x16x32, subf (mulf l (t Ct)) (mulf u (t St))⟩, ⟨S1x2048x16x32, addf (mulf u (t Ct)) (mulf l (t St))⟩]
    concatenates_S1x2048x16x32_S1x2048x16x32_S1x2048x16x64_d3

variable {X} (H : RealQK X) (r : Fin 2048) (h : Fin 16) (j : Fin 64)
include H

theorem qX_apply : (qX X (ix4 0 r h j) : EReal) = ((xr X 0 r.val (64 * h.val + j.val) : ℝ) : EReal) := by
  refine Eq.trans ?_ (H r ⟨0 + (64 * h.val + j.val), by omega⟩)
  unfold qX
  pointwise
  exact congrArg X (congrArg₂ ix2 rfl (Fin.ext (by dsimp only; omega)))

theorem qN_apply : (qN G (qX X) (ix4 0 r h j) : EReal) = normed (xr X 0 r.val) (fun k => gn G (k % 64)) (64 * h.val + j.val) := by
  unfold qN
  pointwise
  simp only [qX_apply H, ← EReal.coe_mul, coe_sum, headSum_self (fun k => xr X 0 r.val k * xr X 0 r.val k), bits_64f, bits_eps]
  rw [mean_rsqrt, ← EReal.coe_mul]
  unfold normed
  dsimp only
  rw [inv_head _ j.isLt, show (64 * h.val + j.val) % 64 = j.val by omega]
  exact congrArg (_ * ·) (show gn G j.val = G (ix1 j) from dif_pos j.isLt).symm

theorem qR_apply : (qR Ct St (qN G (qX X)) (ix4 0 r h j) : EReal) = hrow X G Ct St 0 r.val (64 * h.val + j.val) := by
  have hj := j.isLt
  unfold qR
  dsimp only
  pointwise
  by_cases hc : j.val < 32
  · refine (dif_pos hc).trans ?_
    rw [hrow_low _ _ _ _ _ _ hc, qN_apply G H, qN_apply G H, ex2_eq Ct, ex2_eq St]
  · refine (dif_neg hc).trans ?_
    rw [hrow_high _ _ _ _ _ _ hc hj, qN_apply G H, qN_apply G H, ex2_eq Ct, ex2_eq St]

end Queries

/-! ### The keys -/

section Keys

variable (X : Vec Ideal S2048x7680 .f32) (G : Vec Ideal S64 .f32) (Ct St : Vec Ideal S2048x32 .f32)

/-- The heads, -/
def kX : FVec Ideal S1x2048x4x64 .f32 := shapeCast _ (extractStridedSlice S2048x256 ![0, 1024] X slices_S2048x7680_S2048x256_0_1024) shapeCasts_S2048x256_S1x2048x4x64
/-- after the norm -/
def kN (x : FVec Ideal S1x2048x4x64 .f32) : FVec Ideal S1x2048x4x64 .f32 :=
  mulf (mulf x (broadcastInDim S1x2048x4x64 ![0, 1, 2, 3] bcast_S1x2048x4x1_S1x2048x4x64_0_1_2_3 (Host.rsqrt (addf (Host.divf
    (broadcastInDim S1x2048x4x1 ![0, 1, 2] bcast_S1x2048x4_S1x2048x4x1_0_1_2 (Host.reduceAdd (mulf x x) (constant S_ .f32 0x00000000#32) reducesTo_S1x2048x4x64_S1x2048x4_d3 h_S_))
    (broadcastInDim S1x2048x4x1 ![] bcast_S_S1x2048x4x1 (constant S_ .f32 0x42800000#32))) (broadcastInDim S1x2048x4x1 ![] bcast_S_S1x2048x4x1 (constant S_ .f32 0x358637BD#32))))))
    (broadcastInDim S1x2048x4x64 ![0, 1, 2, 3] bcast_S1x1x1x64_S1x2048x4x64_0_1_2_3 (broadcastInDim S1x1x1x64 ![3] bcast_S64_S1x1x1x64_3 G))
/-- and the rotary embedding. -/
def kR (y : FVec Ideal S1x2048x4x64 .f32) : FVec Ideal S1x2048x4x64 .f32 :=
  let t (A : Vec Ideal S2048x32 .f32) : FVec Ideal S1x2048x4x32 .f32 := broadcastInDim S1x2048x4x32 ![0, 1, 2, 3] bcast_S1x2048x1x32_S1x2048x4x32_0_1_2_3 (broadcastInDim S1x2048x1x32 ![1, 3] bcast_S2048x32_S1x2048x1x32_1_3 A)
  let l : FVec Ideal S1x2048x4x32 .f32 := extractStridedSlice S1x2048x4x32 ![0, 0, 0, 0] y slices_S1x2048x4x64_S1x2048x4x32_0_0_0_0
  let u : FVec Ideal S1x2048x4x32 .f32 := extractStridedSlice S1x2048x4x32 ![0, 0, 0, 32] y slices_S1x2048x4x64_S1x2048x4x32_0_0_0_32
  concatenate S1x2048x4x64 3 [⟨S1x2048x4x32, subf (mulf l (t Ct)) (mulf u (t St))⟩, ⟨S1x2048x4x32, addf (mulf u (t Ct)) (mulf l (t St))⟩]
    concatenates_S1x2048x4x32_S1x2048x4x32_S1x2048x4x64_d3

variable {X} (H : RealQK X) (r : Fin 2048) (h : Fin 4) (j : Fin 64)
include H

theorem kX_apply : (kX X (ix4 0 r h j) : EReal) = ((xr X 1024 r.val (64 * h.val + j.val) : ℝ) : EReal) := by
  refine Eq.trans ?_ (H r ⟨1024 + (64 * h.val + j.val), by omega⟩)
  unfold kX
  pointwise
  exact congrArg X (congrArg₂ ix2 rfl (Fin.ext (by dsimp only; omega)))

theorem kN_apply : (kN G (kX X) (ix4 0 r h j) : EReal) = normed (xr X 1024 r.val) (fun k => gn G (k % 64)) (64 * h.val + j.val) := by
  unfold kN
  pointwise
  simp only [kX_apply H, ← EReal.coe_mul, coe_sum, headSum_self (fun k => xr X 1024 r.val k * xr X 1024 r.val k), bits_64f, bits_eps]
  rw [mean_rsqrt, ← EReal.coe_mul]
  unfold normed
  dsimp only
  rw [inv_head _ j.isLt, show (64 * h.val + j.val) % 64 = j.val by omega]
  exact congrArg (_ * ·) (show gn G j.val = G (ix1 j) from dif_pos j.isLt).symm

theorem kR_apply : (kR Ct St (kN G (kX X)) (ix4 0 r h j) : EReal) = hrow X G Ct St 1024 r.val (64 * h.val + j.val) := by
  have hj := j.isLt
  unfold kR
  dsimp only
  pointwise
  by_cases hc : j.val < 32
  · refine (dif_pos hc).trans ?_
    rw [hrow_low _ _ _ _ _ _ hc, kN_apply G H, kN_apply G H, ex2_eq Ct, ex2_eq St]
  · refine (dif_neg hc).trans ?_
    rw [hrow_high _ _ _ _ _ _ hc hj, kN_apply G H, kN_apply G H, ex2_eq Ct, ex2_eq St]

end Keys

/-! ### The three results -/

/-- Each head of keys or values twice, as the reference lays it out. -/
def rTwice (y : FVec Ideal S2048x4x64 .f32) : FVec Ideal S2048x512 .bf16 :=
  truncf .bf16 (shapeCast _ (concatenate S2048x4x128 2 [⟨S2048x4x64, y⟩, ⟨S2048x4x64, y⟩] concatenates_S2048x4x64_S2048x4x64_S2048x4x128_d2) shapeCasts_S2048x4x128_S2048x512 : FVec Ideal S2048x512 .f32) bitsLt_bf16_f32

theorem rTwice_apply (y : FVec Ideal S2048x4x64 .f32) (f : ℕ → ℕ → EReal) (hy : ∀ (r : Fin 2048) (h : Fin 4) (j : Fin 64), (y (ix3 r h j) : EReal) = f r.val (64 * h.val + j.val))
    (r : Fin 2048) (b : Fin 512) : (rTwice y (ix2 r b) : EReal) = f r.val (lane b.val) := by
  have hb := b.isLt
  unfold rTwice
  pointwise
  split_ifs <;> refine (hy _ _ _).trans (congrArg (f r.val) ?_) <;> unfold lane <;> dsimp only <;> omega

/-- The queries' result from the heads after the rotary embedding. -/
def rQ (y : FVec Ideal S1x2048x16x64 .f32) : FVec Ideal S2048x1024 .bf16 :=
  truncf .bf16 (shapeCast _ (mulf (shapeCast _ y shapeCasts_S1x2048x16x64_S2048x16x64 : FVec Ideal S2048x16x64 .f32)
    (broadcastInDim S2048x16x64 ![] bcast_S_S2048x16x64 (constant S_ .f32 0x3E000000#32))) shapeCasts_S2048x16x64_S2048x1024 : FVec Ideal S2048x1024 .f32) bitsLt_bf16_f32

variable (m : (ℓ : Loc nD τ sig) → Buf (Elt Ideal) ℓ) (c : Dev nD)

theorem term_q : Value.res_main_v34 m c = rQ (qR (m ((c.tc : Thread nD τ).loc main_arg3)) (m ((c.tc : Thread nD τ).loc main_arg4)) (qN (m ((c.tc : Thread nD τ).loc main_arg1)) (qX (m ((c.tc : Thread nD τ).loc main_arg0))))) := rfl

theorem term_k : Value.res_main_v68 m c = rTwice (shapeCast _ (kR (m ((c.tc : Thread nD τ).loc main_arg3)) (m ((c.tc : Thread nD τ).loc main_arg4)) (kN (m ((c.tc : Thread nD τ).loc main_arg2)) (kX (m ((c.tc : Thread nD τ).loc main_arg0))))) shapeCasts_S1x2048x4x64_S2048x4x64) := rfl

section Results

variable (X : Vec Ideal S2048x7680 .f32) (G : Vec Ideal S64 .f32) (Ct St : Vec Ideal S2048x32 .f32)

theorem ref_q (H : RealQK X) : rQ (qR Ct St (qN G (qX X))) = qArr X G Ct St := by
  refine funext fun y => ?_
  obtain ⟨r, b, rfl⟩ : ∃ (r : Fin 2048) (b : Fin 1024), y = ix2 r b := ⟨y 0, y 1, eq_ix2 y⟩
  have hb := b.isLt
  unfold rQ
  pointwise
  rw [qR_apply G Ct St H, bits_eighth]
  refine congrArg (· * _) (congrArg (hrow X G Ct St 0 r.val) ?_)
  show _ = b.val
  dsimp only
  omega

theorem ref_k (H : RealQK X) : rTwice (shapeCast _ (kR Ct St (kN G (kX X))) shapeCasts_S1x2048x4x64_S2048x4x64) = kArr X G Ct St := by
  refine funext fun y => ?_
  obtain ⟨r, b, rfl⟩ : ∃ (r : Fin 2048) (b : Fin 512), y = ix2 r b := ⟨y 0, y 1, eq_ix2 y⟩
  refine rTwice_apply _ (hrow X G Ct St 1024) (fun r h j => Eq.trans ?_ (kR_apply G Ct St H r h j)) r b
  pointwise

theorem ref_v : rTwice (shapeCast _ (extractStridedSlice S2048x256 ![0, 1280] X slices_S2048x7680_S2048x256_0_1280) shapeCasts_S2048x256_S2048x4x64) = vArr X := by
  refine funext fun y => ?_
  obtain ⟨r, b, rfl⟩ : ∃ (r : Fin 2048) (b : Fin 512), y = ix2 r b := ⟨y 0, y 1, eq_ix2 y⟩
  refine rTwice_apply _ (fun r k => ex2 X r (1280 + k)) (fun r h j => ?_) r b
  pointwise
  refine (ex2_eq X _ _).trans (congrArg (ex2 X r.val) ?_)
  dsimp only
  omega

end Results

end Cert.QkPrepVal

end
-- ==== Proof.QkPrepVal.lean ====
/- The kernel of the QK-norm and the rotary embedding against the reference's lines. -/
module

public import proofs.«01_k».proof.Proof.QkPrepRef
public import proofs.«01_k».proof.Proof.Finite
public import proofs.«01_k».proof.Proof.Gen.Pre_qk_prep_finite
public import proofs.«01_k».proof.Defs
public import Idealize.ShloMosaic.Lib.Quiescent

@[expose] public section

set_option maxRecDepth 16384

noncomputable section

namespace Cert.QkPrepVal

open Idealize.ShloMosaic Idealize.ShloMosaic.TcCoe Idealize.SL.Sem
open Cert.AttnFwdVal (ex2 ex2_eq)

section Kernel

open Cert.QkPrepIdeal Cert.QkPrepIdeal.Gen

/-- Under the precondition the queries' and the keys' columns hold real numbers. -/
theorem reals (m : (ℓ : Loc nD τ sig) → Buf (Elt Ideal) ℓ) (c : Dev nD)
    (h : Cert.Pre_QkPrepIdeal_qk_prep_finite (hPre_qk_prep_finite := Cert.Pre_qk_prep_finite.Gen.facts) m) : RealQK (aX m c) := fun r k => by
  have e := Lift.real_of_test _ _ (fun _ => Lift.bits_inf) (h c) (ix2 r k)
  rw [← ex2_eq (aX m c) r ⟨k.val, by omega⟩]
  refine Eq.trans (b := (extractStridedSlice Cert.Pre_qk_prep_finite.S2048x1280 ![0, 0] (aX m c) Cert.Pre_qk_prep_finite.Gen.facts.slices_S2048x7680_S2048x1280_0_0 (ix2 r k) : EReal)) ?_ (e.trans ?_)
  · pointwise
  · refine congrArg (fun z : EReal => (z.toReal : EReal)) ?_
    show (extractStridedSlice Cert.Pre_qk_prep_finite.S2048x1280 ![0, 0] (aX m c) Cert.Pre_qk_prep_finite.Gen.facts.slices_S2048x7680_S2048x1280_0_0 (ix2 r k) : EReal) = _
    pointwise

end Kernel

/-- The reference's frame: it has no semaphores, and its run keeps its arguments. -/
theorem ref_frame : Cert.quiescent_QkPrepRefIdeal (hQkPrepRefIdeal := Cert.QkPrepRefIdeal.Gen.facts) := fun m ρ _ =>
  (θ_run _ _ _).mono (fun r h => ⟨fun c => (h c).2.2.2, sem_eq_zero_of_no_sems (by decide) _⟩) (Cert.QkPrepRefIdeal.Value.run m ρ)

/-- The kernel's three arrays are the reference's. -/
theorem algebraic : Cert.algebraic_QkPrepIdeal_QkPrepRefIdeal_pre_qk_prep_finite (hQkPrepIdeal := Cert.QkPrepIdeal.Gen.facts)
    (hQkPrepRefIdeal := Cert.QkPrepRefIdeal.Gen.facts) (hPre_qk_prep_finite := Cert.Pre_qk_prep_finite.Gen.facts) := by
  intro m ρ m' ρ' hpre hm
  refine ⟨fun c => qArr (aX m c) (aGq m c) (aC m c) (aS m c), fun c => kArr (aX m c) (aGk m c) (aC m c) (aS m c), fun c => vArr (aX m c), ?_, ?_⟩
  · exact (θ_run _ _ _).mono (fun r h c => ⟨(h c).1.trans (arr7 (reals m c hpre)), (h c).2.1.trans (arr8 (reals m c hpre)), (h c).2.2.1.trans arr9, (h c).2.2.2⟩)
      (Cert.QkPrepIdeal.Value.run_blocks m ρ)
  · refine (θ_run _ _ _).mono (fun r h c => ?_) (Cert.QkPrepRefIdeal.Value.run m' ρ')
    obtain ⟨e0, e1, e2, e3, e4⟩ := hm c
    have H := reals m c hpre
    refine ⟨(h c).1.trans ((term_q m' c).trans ?_), (h c).2.1.trans ((term_k m' c).trans ?_), (h c).2.2.1.trans ?_, (h c).2.2.2⟩
    · rw [e0, e1, e3, e4]
      exact ref_q _ _ _ _ H
    · rw [e0, e2, e3, e4]
      exact ref_k _ _ _ _ H
    · rw [e0]
      exact ref_v _

end Cert.QkPrepVal

end
-- ==== Proof.lean ====
/- The proof of the certificate: every conjunct from the module that proves it. -/
module

public import proofs.«01_k».proof.Proof.Gen.Attn
public import proofs.«01_k».proof.Proof.Gen.SguFwdIdeal.Value
public import proofs.«01_k».proof.Proof.Gen.SguFwdRefIdeal.Run
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Pre_attn_finite
public import proofs.«01_k».proof.Defs
public import proofs.«01_k».proof.Proof.Gen.SguBwd
public import proofs.«01_k».proof.Proof.Gen.SguBwd.Skeleton
public import proofs.«01_k».proof.Proof.Gen.SguBwd.Launch
public import proofs.«01_k».proof.Proof.Gen.SguBwd.Points
public import proofs.«01_k».proof.Proof.Gen.SguBwd.Frame
public import proofs.«01_k».proof.Proof.Gen.SguBwdIdeal
public import proofs.«01_k».proof.Proof.Gen.SguBwdIdeal.Skeleton
public import proofs.«01_k».proof.Proof.Gen.SguBwdIdeal.Launch
public import proofs.«01_k».proof.Proof.Gen.SguBwdIdeal.Points
public import proofs.«01_k».proof.Proof.Gen.SguBwdIdeal.Frame
public import proofs.«01_k».proof.Proof.Gen.SguRefIdeal
public import proofs.«01_k».proof.Proof.Gen.SguRefIdeal.Run
public import proofs.«01_k».proof.Proof.Gen.SguBwdIdeal.Value
public import proofs.«01_k».proof.Proof.Gen.Pre_sgu_finite
public import proofs.«01_k».proof.Proof.Gen.Pre_down_finite
public import proofs.«01_k».proof.Proof.Gen.Pre_rms_finite
public import proofs.«01_k».proof.Proof.SguClaim
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal.Run
public import proofs.«01_k».proof.Proof.Gen.Dhh
public import proofs.«01_k».proof.Proof.Gen.Dhh.Skeleton
public import proofs.«01_k».proof.Proof.Gen.Dhh.Launch
public import proofs.«01_k».proof.Proof.Gen.Dhh.Points
public import proofs.«01_k».proof.Proof.Gen.Dhh.Frame
public import proofs.«01_k».proof.Proof.Gen.DhhIdeal
public import proofs.«01_k».proof.Proof.Gen.DhhIdeal.Skeleton
public import proofs.«01_k».proof.Proof.Gen.DhhIdeal.Launch
public import proofs.«01_k».proof.Proof.Gen.DhhIdeal.Points
public import proofs.«01_k».proof.Proof.Gen.DhhIdeal.Frame
public import proofs.«01_k».proof.Proof.Gen.DhhIdeal.Value
public import proofs.«01_k».proof.Proof.Gen.DhhRefIdeal.Run
public import proofs.«01_k».proof.Proof.Gen.DwFfn
public import proofs.«01_k».proof.Proof.Gen.DwFfn.Skeleton
public import proofs.«01_k».proof.Proof.Gen.DwFfn.Launch
public import proofs.«01_k».proof.Proof.Gen.DwFfn.Points
public import proofs.«01_k».proof.Proof.Gen.DwFfn.Frame
public import proofs.«01_k».proof.Proof.Gen.DwFfnIdeal
public import proofs.«01_k».proof.Proof.Gen.DwFfnIdeal.Skeleton
public import proofs.«01_k».proof.Proof.Gen.DwFfnIdeal.Launch
public import proofs.«01_k».proof.Proof.Gen.DwFfnIdeal.Points
public import proofs.«01_k».proof.Proof.Gen.DwFfnIdeal.Frame
public import proofs.«01_k».proof.Proof.Gen.DwFfnIdeal.Value
public import proofs.«01_k».proof.Proof.Gen.DwFfnRefIdeal.Run
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal.Run
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal.Run
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhIdeal.Value
public import proofs.«01_k».proof.Proof.Gen.DhRefIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal.Run
public import proofs.«01_k».proof.Proof.Gen.DwBranch
public import proofs.«01_k».proof.Proof.Gen.DwBranch.Skeleton
public import proofs.«01_k».proof.Proof.Gen.DwBranch.Launch
public import proofs.«01_k».proof.Proof.Gen.DwBranch.Points
public import proofs.«01_k».proof.Proof.Gen.DwBranch.Frame
public import proofs.«01_k».proof.Proof.Gen.DwBranchIdeal
public import proofs.«01_k».proof.Proof.Gen.DwBranchIdeal.Skeleton
public import proofs.«01_k».proof.Proof.Gen.DwBranchIdeal.Launch
public import proofs.«01_k».proof.Proof.Gen.DwBranchIdeal.Points
public import proofs.«01_k».proof.Proof.Gen.DwBranchIdeal.Frame
public import proofs.«01_k».proof.Proof.Gen.DwBranchIdeal.Value
public import proofs.«01_k».proof.Proof.Gen.DwBranchRefIdeal.Run
public import proofs.«01_k».proof.Proof.Gen.Branch
public import proofs.«01_k».proof.Proof.Gen.Branch.Skeleton
public import proofs.«01_k».proof.Proof.Gen.Branch.Launch
public import proofs.«01_k».proof.Proof.Gen.Branch.Points
public import proofs.«01_k».proof.Proof.Gen.Branch.Frame
public import proofs.«01_k».proof.Proof.Gen.BranchIdeal
public import proofs.«01_k».proof.Proof.Gen.BranchIdeal.Skeleton
public import proofs.«01_k».proof.Proof.Gen.BranchIdeal.Launch
public import proofs.«01_k».proof.Proof.Gen.BranchIdeal.Points
public import proofs.«01_k».proof.Proof.Gen.BranchIdeal.Frame
public import proofs.«01_k».proof.Proof.Gen.BranchIdeal.Value
public import proofs.«01_k».proof.Proof.Gen.BranchRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal.Run
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsIdeal.Value
public import proofs.«01_k».proof.Proof.Gen.RmsRefIdeal.Run
public import proofs.«01_k».proof.Proof.Gen.Qk
public import proofs.«01_k».proof.Proof.Gen.Qk.Skeleton
public import proofs.«01_k».proof.Proof.Gen.Qk.Launch
public import proofs.«01_k».proof.Proof.Gen.Qk.Points
public import proofs.«01_k».proof.Proof.Gen.Qk.Frame
public import proofs.«01_k».proof.Proof.Gen.QkIdeal
public import proofs.«01_k».proof.Proof.Gen.QkIdeal.Skeleton
public import proofs.«01_k».proof.Proof.Gen.QkIdeal.Launch
public import proofs.«01_k».proof.Proof.Gen.QkIdeal.Points
public import proofs.«01_k».proof.Proof.Gen.QkIdeal.Frame
public import proofs.«01_k».proof.Proof.Gen.QkIdeal.Value
public import proofs.«01_k».proof.Proof.Gen.QkRefIdeal.Run
public import proofs.«01_k».proof.Proof.Gen.Pre_qk_finite
public import Idealize.ShloMosaic.Adequacy
public import Idealize.ShloMosaic.Init
public import proofs.«01_k».proof.Proof.DownVal
public import proofs.«01_k».proof.Proof.DhhVal
public import proofs.«01_k».proof.Proof.DwFfn
public import proofs.«01_k».proof.Proof.DwDown
public import proofs.«01_k».proof.Proof.DwIn
public import proofs.«01_k».proof.Proof.DhVal
public import proofs.«01_k».proof.Proof.DwOut
public import proofs.«01_k».proof.Proof.DwBranch
public import proofs.«01_k».proof.Proof.BranchVal
public import proofs.«01_k».proof.Proof.OutVal
public import proofs.«01_k».proof.Proof.RmsVal
public import proofs.«01_k».proof.Proof.AttnVal
public import proofs.«01_k».proof.Proof.QkVal
public import proofs.«01_k».proof.Proof.Gen.ProjIn.Frame
public import proofs.«01_k».proof.Proof.Gen.ProjInIdeal.Frame
public import proofs.«01_k».proof.Proof.Gen.ProjInIdeal.Value
public import proofs.«01_k».proof.Proof.Gen.ProjInRefIdeal.Run
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.UpAct.Frame
public import proofs.«01_k».proof.Proof.Gen.UpActIdeal.Frame
public import proofs.«01_k».proof.Proof.Gen.UpActIdeal.Value
public import proofs.«01_k».proof.Proof.Gen.UpActRefIdeal.Run
public import proofs.«01_k».proof.Proof.Gen.DownProj.Frame
public import proofs.«01_k».proof.Proof.Gen.DownProjIdeal.Frame
public import proofs.«01_k».proof.Proof.Gen.DownProjIdeal.Value
public import proofs.«01_k».proof.Proof.Gen.DownProjRefIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.ProjInVal
public import proofs.«01_k».proof.Proof.GateVal
public import proofs.«01_k».proof.Proof.UpActVal
public import proofs.«01_k».proof.Proof.DownProjVal
public import proofs.«01_k».proof.Proof.OutProjVal
public import proofs.«01_k».proof.Proof.MergeVal
public import proofs.«01_k».proof.Proof.NormVal
public import proofs.«01_k».proof.Proof.Gen.SguFwd.Frame
public import proofs.«01_k».proof.Proof.Gen.SguFwdIdeal.Frame
public import proofs.«01_k».proof.Proof.SguFwdVal
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.Pre_attn_fwd_finite
public import proofs.«01_k».proof.Proof.AttnFwdVal
public import proofs.«01_k».proof.Proof.QkPrepVal
public import proofs.«01_k».proof.Proof.Gen.AttnFwdRefIdeal.Run
public import proofs.«01_k».proof.Proof.Gen.QkPrep.Frame
public import proofs.«01_k».proof.Proof.Gen.QkPrepIdeal.Frame
public import proofs.«01_k».proof.Proof.Gen.QkPrepIdeal.Value
public import proofs.«01_k».proof.Proof.Gen.QkPrepRefIdeal.Run
public import proofs.«01_k».proof.Proof.Gen.Pre_qk_prep_finite

@[expose] public section

noncomputable section

namespace Cert.Proof

open Idealize.ShloMosaic Idealize.SL.Sem Cert.SguBwd
theorem claim : Cert.Claim := ⟨Cert.SguBwd.Gen.facts, Cert.SguBwdIdeal.Gen.facts, Cert.SguRefIdeal.Gen.facts, Cert.Down.Gen.facts, Cert.DownIdeal.Gen.facts, Cert.DownRefIdeal.Gen.facts, Cert.Dhh.Gen.facts, Cert.DhhIdeal.Gen.facts, Cert.DhhRefIdeal.Gen.facts, Cert.DwFfn.Gen.facts, Cert.DwFfnIdeal.Gen.facts, Cert.DwFfnRefIdeal.Gen.facts, Cert.DwDown.Gen.facts, Cert.DwDownIdeal.Gen.facts, Cert.DwDownRefIdeal.Gen.facts, Cert.DwIn.Gen.facts, Cert.DwInIdeal.Gen.facts, Cert.DwInRefIdeal.Gen.facts, Cert.Dh.Gen.facts, Cert.DhIdeal.Gen.facts, Cert.DhRefIdeal.Gen.facts, Cert.DwOut.Gen.facts, Cert.DwOutIdeal.Gen.facts, Cert.DwOutRefIdeal.Gen.facts, Cert.DwBranch.Gen.facts, Cert.DwBranchIdeal.Gen.facts, Cert.DwBranchRefIdeal.Gen.facts, Cert.Branch.Gen.facts, Cert.BranchIdeal.Gen.facts, Cert.BranchRefIdeal.Gen.facts, Cert.Out.Gen.facts, Cert.OutIdeal.Gen.facts, Cert.OutRefIdeal.Gen.facts, Cert.Rms.Gen.facts, Cert.RmsIdeal.Gen.facts, Cert.RmsRefIdeal.Gen.facts, Cert.Attn.Gen.facts, Cert.AttnIdeal.Gen.facts, Cert.AttnRefIdeal.Gen.facts, Cert.Qk.Gen.facts, Cert.QkIdeal.Gen.facts, Cert.QkRefIdeal.Gen.facts, Cert.ProjIn.Gen.facts, Cert.ProjInIdeal.Gen.facts, Cert.ProjInRefIdeal.Gen.facts, Cert.Gate.Gen.facts, Cert.GateIdeal.Gen.facts, Cert.GateRefIdeal.Gen.facts, Cert.UpAct.Gen.facts, Cert.UpActIdeal.Gen.facts, Cert.UpActRefIdeal.Gen.facts, Cert.DownProj.Gen.facts, Cert.DownProjIdeal.Gen.facts, Cert.DownProjRefIdeal.Gen.facts, Cert.OutProj.Gen.facts, Cert.OutProjIdeal.Gen.facts, Cert.OutProjRefIdeal.Gen.facts, Cert.Merge.Gen.facts, Cert.MergeIdeal.Gen.facts, Cert.MergeRefIdeal.Gen.facts, Cert.Norm.Gen.facts, Cert.NormIdeal.Gen.facts, Cert.NormRefIdeal.Gen.facts, Cert.SguFwd.Gen.facts, Cert.SguFwdIdeal.Gen.facts, Cert.SguFwdRefIdeal.Gen.facts, Cert.AttnFwd.Gen.facts, Cert.AttnFwdIdeal.Gen.facts, Cert.AttnFwdRefIdeal.Gen.facts, Cert.QkPrep.Gen.facts, Cert.QkPrepIdeal.Gen.facts, Cert.QkPrepRefIdeal.Gen.facts, Cert.Pre_sgu_finite.Gen.facts, Cert.Pre_down_finite.Gen.facts, Cert.Pre_rms_finite.Gen.facts, Cert.Pre_attn_finite.Gen.facts, Cert.Pre_qk_finite.Gen.facts, Cert.Pre_attn_fwd_finite.Gen.facts, Cert.Pre_qk_prep_finite.Gen.facts, by
  refine ⟨fun m ρ _ => Cert.SguBwd.Gen.frame m ρ, fun m ρ _ => Cert.SguBwdIdeal.Gen.frame m ρ, fun m ρ _ => Cert.SguBwdIdeal.Gen.frame m ρ,
    Cert.Sgu.ref_frame, fun m ρ _ => Cert.Sgu.ref_frame m ρ trivial,
    fun m ρ _ => Cert.Down.Gen.frame m ρ, fun m ρ _ => Cert.DownIdeal.Gen.frame m ρ, fun m ρ _ => Cert.DownIdeal.Gen.frame m ρ, Cert.DownVal.ref_frame, fun m ρ _ => Cert.DownVal.ref_frame m ρ trivial,
    fun m ρ _ => Cert.Dhh.Gen.frame m ρ, fun m ρ _ => Cert.DhhIdeal.Gen.frame m ρ, Cert.DhhVal.ref_frame,
    fun m ρ _ => Cert.DwFfn.Gen.frame m ρ, fun m ρ _ => Cert.DwFfnIdeal.Gen.frame m ρ, Cert.DwFfnVal.ref_frame,
    fun m ρ _ => Cert.DwDown.Gen.frame m ρ, fun m ρ _ => Cert.DwDownIdeal.Gen.frame m ρ, Cert.DwDownVal.ref_frame,
    fun m ρ _ => Cert.DwIn.Gen.frame m ρ, fun m ρ _ => Cert.DwInIdeal.Gen.frame m ρ, Cert.DwInVal.ref_frame,
    fun m ρ _ => Cert.Dh.Gen.frame m ρ, fun m ρ _ => Cert.DhIdeal.Gen.frame m ρ, Cert.DhVal.ref_frame,
    fun m ρ _ => Cert.DwOut.Gen.frame m ρ, fun m ρ _ => Cert.DwOutIdeal.Gen.frame m ρ, Cert.DwOutVal.ref_frame,
    fun m ρ _ => Cert.DwBranch.Gen.frame m ρ, fun m ρ _ => Cert.DwBranchIdeal.Gen.frame m ρ, Cert.DwBranchVal.ref_frame,
    fun m ρ _ => Cert.Branch.Gen.frame m ρ, fun m ρ _ => Cert.BranchIdeal.Gen.frame m ρ, Cert.BranchVal.ref_frame,
    fun m ρ _ => Cert.Out.Gen.frame m ρ, fun m ρ _ => Cert.OutIdeal.Gen.frame m ρ, Cert.OutVal.ref_frame,
    fun m ρ _ => Cert.Rms.Gen.frame m ρ, fun m ρ _ => Cert.RmsIdeal.Gen.frame m ρ, fun m ρ _ => Cert.RmsIdeal.Gen.frame m ρ, Cert.RmsVal.ref_frame, fun m ρ _ => Cert.RmsVal.ref_frame m ρ trivial,
    fun m ρ _ => Cert.Attn.Gen.frame m ρ, fun m ρ _ => Cert.AttnIdeal.Gen.frame m ρ, fun m ρ _ => Cert.AttnIdeal.Gen.frame m ρ, Cert.AttnVal.ref_frame, fun m ρ _ => Cert.AttnVal.ref_frame m ρ trivial,
    fun m ρ _ => Cert.Qk.Gen.frame m ρ, fun m ρ _ => Cert.QkIdeal.Gen.frame m ρ, fun m ρ _ => Cert.QkIdeal.Gen.frame m ρ, Cert.QkVal.ref_frame, fun m ρ _ => Cert.QkVal.ref_frame m ρ trivial,
    fun m ρ _ => Cert.ProjIn.Gen.frame m ρ, fun m ρ _ => Cert.ProjInIdeal.Gen.frame m ρ, Cert.ProjInVal.ref_frame,
    fun m ρ _ => Cert.Gate.Gen.frame m ρ, fun m ρ _ => Cert.GateIdeal.Gen.frame m ρ, Cert.GateVal.ref_frame,
    fun m ρ _ => Cert.UpAct.Gen.frame m ρ, fun m ρ _ => Cert.UpActIdeal.Gen.frame m ρ, Cert.UpActVal.ref_frame,
    fun m ρ _ => Cert.DownProj.Gen.frame m ρ, fun m ρ _ => Cert.DownProjIdeal.Gen.frame m ρ, Cert.DownProjVal.ref_frame,
    fun m ρ _ => Cert.OutProj.Gen.frame m ρ, fun m ρ _ => Cert.OutProjIdeal.Gen.frame m ρ, Cert.OutProjVal.ref_frame,
    fun m ρ _ => Cert.Merge.Gen.frame m ρ, fun m ρ _ => Cert.MergeIdeal.Gen.frame m ρ, Cert.MergeVal.ref_frame,
    fun m ρ _ => Cert.Norm.Gen.frame m ρ, fun m ρ _ => Cert.NormIdeal.Gen.frame m ρ, Cert.NormVal.ref_frame,
    fun m ρ _ => Cert.SguFwd.Gen.frame m ρ, fun m ρ _ => Cert.SguFwdIdeal.Gen.frame m ρ, Cert.SguFwdVal.ref_frame,
    fun m ρ _ => Cert.AttnFwd.Gen.frame m ρ, fun m ρ _ => Cert.AttnFwdIdeal.Gen.frame m ρ, fun m ρ _ => Cert.AttnFwdIdeal.Gen.frame m ρ, Cert.AttnFwdVal.ref_frame, fun m ρ _ => Cert.AttnFwdVal.ref_frame m ρ trivial,
    fun m ρ _ => Cert.QkPrep.Gen.frame m ρ, fun m ρ _ => Cert.QkPrepIdeal.Gen.frame m ρ, fun m ρ _ => Cert.QkPrepIdeal.Gen.frame m ρ, Cert.QkPrepVal.ref_frame, fun m ρ _ => Cert.QkPrepVal.ref_frame m ρ trivial,
    ?_, Cert.Sgu.algebraic, trivial, Cert.DownVal.algebraic, trivial, Cert.DhhVal.algebraic, trivial, Cert.DwFfnVal.algebraic, trivial, Cert.DwDownVal.algebraic, trivial, Cert.DwInVal.algebraic, trivial, Cert.DhVal.algebraic, trivial, Cert.DwOutVal.algebraic, trivial, Cert.DwBranchVal.algebraic, trivial, Cert.BranchVal.algebraic, trivial, Cert.OutVal.algebraic, trivial, Cert.RmsVal.algebraic, ?_, Cert.AttnVal.algebraic, trivial, Cert.QkVal.algebraic, trivial, Cert.ProjInVal.algebraic, trivial, Cert.GateVal.algebraic, trivial, Cert.UpActVal.algebraic, trivial, Cert.DownProjVal.algebraic, trivial, Cert.OutProjVal.algebraic, trivial, Cert.MergeVal.algebraic, trivial, Cert.NormVal.algebraic, ?_, Cert.SguFwdVal.algebraic, ?_, Cert.AttnFwdVal.algebraic, trivial, Cert.QkPrepVal.algebraic⟩
  · exact ⟨IdealRules.named_const.statement _ _ _ _ _ rfl, IdealRules.named_const.statement _ _ _ _ _ rfl⟩
  · exact IdealRules.named_const.statement _ _ _ _ _ rfl
  · exact IdealRules.named_const.statement _ _ _ _ _ rfl
  · exact IdealRules.named_const.statement _ _ _ _ _ rfl⟩

end Cert.Proof

end
